-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2 = (fun _ => 1#1)

def Pre_KernelMem (m : (ℓ : Loc Cert.KernelMem.nD Cert.KernelMem.τ Cert.KernelMem.sig) → Buf (Elt Bits) ℓ) : Prop :=
  True

def Pre_KernelMemIdeal (m : (ℓ : Loc Cert.KernelMemIdeal.nD Cert.KernelMemIdeal.τ Cert.KernelMemIdeal.sig) → Buf (Elt Ideal) ℓ) : Prop :=
  True

def Pre_ReferenceMemIdeal (m : (ℓ : Loc Cert.ReferenceMemIdeal.nD Cert.ReferenceMemIdeal.τ Cert.ReferenceMemIdeal.sig) → Buf (Elt Ideal) ℓ) : Prop :=
  True

def Pre_KernelFfn (m : (ℓ : Loc Cert.KernelFfn.nD Cert.KernelFfn.τ Cert.KernelFfn.sig) → Buf (Elt Bits) ℓ) : Prop :=
  True

def Pre_KernelFfnIdeal (m : (ℓ : Loc Cert.KernelFfnIdeal.nD Cert.KernelFfnIdeal.τ Cert.KernelFfnIdeal.sig) → Buf (Elt Ideal) ℓ) : Prop :=
  True

def Pre_ReferenceFfnIdeal (m : (ℓ : Loc Cert.ReferenceFfnIdeal.nD Cert.ReferenceFfnIdeal.τ Cert.ReferenceFfnIdeal.sig) → Buf (Elt Ideal) ℓ) : Prop :=
  True

def Pre_KernelIn (m : (ℓ : Loc Cert.KernelIn.nD Cert.KernelIn.τ Cert.KernelIn.sig) → Buf (Elt Bits) ℓ) : Prop :=
  True

def Pre_KernelInIdeal (m : (ℓ : Loc Cert.KernelInIdeal.nD Cert.KernelInIdeal.τ Cert.KernelInIdeal.sig) → Buf (Elt Ideal) ℓ) : Prop :=
  True

def Pre_ReferenceInIdeal (m : (ℓ : Loc Cert.ReferenceInIdeal.nD Cert.ReferenceInIdeal.τ Cert.ReferenceInIdeal.sig) → Buf (Elt Ideal) ℓ) : Prop :=
  True

def Pre_KernelInSample (m : (ℓ : Loc Cert.KernelInSample.nD Cert.KernelInSample.τ Cert.KernelInSample.sig) → Buf (Elt Bits) ℓ) : Prop :=
  True

def Pre_KernelInSampleIdeal (m : (ℓ : Loc Cert.KernelInSampleIdeal.nD Cert.KernelInSampleIdeal.τ Cert.KernelInSampleIdeal.sig) → Buf (Elt Ideal) ℓ) : Prop :=
  True

def Pre_ReferenceInSampleIdeal (m : (ℓ : Loc Cert.ReferenceInSampleIdeal.nD Cert.ReferenceInSampleIdeal.τ Cert.ReferenceInSampleIdeal.sig) → Buf (Elt Ideal) ℓ) : Prop :=
  True

def Pre_KernelPrep (m : (ℓ : Loc Cert.KernelPrep.nD Cert.KernelPrep.τ Cert.KernelPrep.sig) → Buf (Elt Bits) ℓ) : Prop :=
  True

def Pre_KernelPrepIdeal (m : (ℓ : Loc Cert.KernelPrepIdeal.nD Cert.KernelPrepIdeal.τ Cert.KernelPrepIdeal.sig) → Buf (Elt Ideal) ℓ) : Prop :=
  True

def Pre_ReferencePrepIdeal (m : (ℓ : Loc Cert.ReferencePrepIdeal.nD Cert.ReferencePrepIdeal.τ Cert.ReferencePrepIdeal.sig) → Buf (Elt Ideal) ℓ) : Prop :=
  True

def Pre_KernelOut (m : (ℓ : Loc Cert.KernelOut.nD Cert.KernelOut.τ Cert.KernelOut.sig) → Buf (Elt Bits) ℓ) : Prop :=
  True

def Pre_KernelOutIdeal (m : (ℓ : Loc Cert.KernelOutIdeal.nD Cert.KernelOutIdeal.τ Cert.KernelOutIdeal.sig) → Buf (Elt Ideal) ℓ) : Prop :=
  True

def Pre_ReferenceOutIdeal (m : (ℓ : Loc Cert.ReferenceOutIdeal.nD Cert.ReferenceOutIdeal.τ Cert.ReferenceOutIdeal.sig) → Buf (Elt Ideal) ℓ) : Prop :=
  True

def Pre_KernelCross (m : (ℓ : Loc Cert.KernelCross.nD Cert.KernelCross.τ Cert.KernelCross.sig) → Buf (Elt Bits) ℓ) : Prop :=
  True

def Pre_KernelCrossIdeal (m : (ℓ : Loc Cert.KernelCrossIdeal.nD Cert.KernelCrossIdeal.τ Cert.KernelCrossIdeal.sig) → Buf (Elt Ideal) ℓ) : Prop :=
  True

def Pre_ReferenceCrossIdeal (m : (ℓ : Loc Cert.ReferenceCrossIdeal.nD Cert.ReferenceCrossIdeal.τ Cert.ReferenceCrossIdeal.sig) → Buf (Elt Ideal) ℓ) : Prop :=
  True

def Pre_KernelSample (m : (ℓ : Loc Cert.KernelSample.nD Cert.KernelSample.τ Cert.KernelSample.sig) → Buf (Elt Bits) ℓ) : Prop :=
  True

def Pre_KernelSampleIdeal (m : (ℓ : Loc Cert.KernelSampleIdeal.nD Cert.KernelSampleIdeal.τ Cert.KernelSampleIdeal.sig) → Buf (Elt Ideal) ℓ) : Prop :=
  True

def Pre_KernelSampleIdeal_finite_sample [hPre_finite_sample : Cert.Pre_finite_sample.Facts] (m : (ℓ : Loc Cert.KernelSampleIdeal.nD Cert.KernelSampleIdeal.τ Cert.KernelSampleIdeal.sig) → Buf (Elt Ideal) ℓ) : Prop :=
  ∀ c : Dev Cert.KernelSampleIdeal.nD,
    (Cert.Pre_finite_sample.fn (F := Ideal) (m ((c.tc : Thread Cert.KernelSampleIdeal.nD Cert.KernelSampleIdeal.τ).loc Cert.KernelSampleIdeal.main_arg0)) (m ((c.tc : Thread Cert.KernelSampleIdeal.nD Cert.KernelSampleIdeal.τ).loc Cert.KernelSampleIdeal.main_arg1)) (m ((c.tc : Thread Cert.KernelSampleIdeal.nD Cert.KernelSampleIdeal.τ).loc Cert.KernelSampleIdeal.main_arg2)) (m ((c.tc : Thread Cert.KernelSampleIdeal.nD Cert.KernelSampleIdeal.τ).loc Cert.KernelSampleIdeal.main_arg3)) (m ((c.tc : Thread Cert.KernelSampleIdeal.nD Cert.KernelSampleIdeal.τ).loc Cert.KernelSampleIdeal.main_arg4)) (m ((c.tc : Thread Cert.KernelSampleIdeal.nD Cert.KernelSampleIdeal.τ).loc Cert.KernelSampleIdeal.main_arg5)) (m ((c.tc : Thread Cert.KernelSampleIdeal.nD Cert.KernelSampleIdeal.τ).loc Cert.KernelSampleIdeal.main_arg6))).1 = (fun _ => 1#1)
    ∧ (Cert.Pre_finite_sample.fn (F := Ideal) (m ((c.tc : Thread Cert.KernelSampleIdeal.nD Cert.KernelSampleIdeal.τ).loc Cert.KernelSampleIdeal.main_arg0)) (m ((c.tc : Thread Cert.KernelSampleIdeal.nD Cert.KernelSampleIdeal.τ).loc Cert.KernelSampleIdeal.main_arg1)) (m ((c.tc : Thread Cert.KernelSampleIdeal.nD Cert.KernelSampleIdeal.τ).loc Cert.KernelSampleIdeal.main_arg2)) (m ((c.tc : Thread Cert.KernelSampleIdeal.nD Cert.KernelSampleIdeal.τ).loc Cert.KernelSampleIdeal.main_arg3)) (m ((c.tc : Thread Cert.KernelSampleIdeal.nD Cert.KernelSampleIdeal.τ).loc Cert.KernelSampleIdeal.main_arg4)) (m ((c.tc : Thread Cert.KernelSampleIdeal.nD Cert.KernelSampleIdeal.τ).loc Cert.KernelSampleIdeal.main_arg5)) (m ((c.tc : Thread Cert.KernelSampleIdeal.nD Cert.KernelSampleIdeal.τ).loc Cert.KernelSampleIdeal.main_arg6))).2.1 = (fun _ => 1#1)
    ∧ (Cert.Pre_finite_sample.fn (F := Ideal) (m ((c.tc : Thread Cert.KernelSampleIdeal.nD Cert.KernelSampleIdeal.τ).loc Cert.KernelSampleIdeal.main_arg0)) (m ((c.tc : Thread Cert.KernelSampleIdeal.nD Cert.KernelSampleIdeal.τ).loc Cert.KernelSampleIdeal.main_arg1)) (m ((c.tc : Thread Cert.KernelSampleIdeal.nD Cert.KernelSampleIdeal.τ).loc Cert.KernelSampleIdeal.main_arg2)) (m ((c.tc : Thread Cert.KernelSampleIdeal.nD Cert.KernelSampleIdeal.τ).loc Cert.KernelSampleIdeal.main_arg3)) (m ((c.tc : Thread Cert.KernelSampleIdeal.nD Cert.KernelSampleIdeal.τ).loc Cert.KernelSampleIdeal.main_arg4)) (m ((c.tc : Thread Cert.KernelSampleIdeal.nD Cert.KernelSampleIdeal.τ).loc Cert.KernelSampleIdeal.main_arg5)) (m ((c.tc : Thread Cert.KernelSampleIdeal.nD Cert.KernelSampleIdeal.τ).loc Cert.KernelSampleIdeal.main_arg6))).2.2 = (fun _ => 1#1)

def Pre_ReferenceSampleIdeal (m : (ℓ : Loc Cert.ReferenceSampleIdeal.nD Cert.ReferenceSampleIdeal.τ Cert.ReferenceSampleIdeal.sig) → Buf (Elt Ideal) ℓ) : Prop :=
  True

def Pre_ReferenceSampleIdeal_finite_sample [hPre_finite_sample : Cert.Pre_finite_sample.Facts] (m : (ℓ : Loc Cert.ReferenceSampleIdeal.nD Cert.ReferenceSampleIdeal.τ Cert.ReferenceSampleIdeal.sig) → Buf (Elt Ideal) ℓ) : Prop :=
  ∀ c : Dev Cert.ReferenceSampleIdeal.nD,
    (Cert.Pre_finite_sample.fn (F := Ideal) (m ((c.tc : Thread Cert.ReferenceSampleIdeal.nD Cert.ReferenceSampleIdeal.τ).loc Cert.ReferenceSampleIdeal.main_arg0)) (m ((c.tc : Thread Cert.ReferenceSampleIdeal.nD Cert.ReferenceSampleIdeal.τ).loc Cert.ReferenceSampleIdeal.main_arg1)) (m ((c.tc : Thread Cert.ReferenceSampleIdeal.nD Cert.ReferenceSampleIdeal.τ).loc Cert.ReferenceSampleIdeal.main_arg2)) (m ((c.tc : Thread Cert.ReferenceSampleIdeal.nD Cert.ReferenceSampleIdeal.τ).loc Cert.ReferenceSampleIdeal.main_arg3)) (m ((c.tc : Thread Cert.ReferenceSampleIdeal.nD Cert.ReferenceSampleIdeal.τ).loc Cert.ReferenceSampleIdeal.main_arg4)) (m ((c.tc : Thread Cert.ReferenceSampleIdeal.nD Cert.ReferenceSampleIdeal.τ).loc Cert.ReferenceSampleIdeal.main_arg5)) (m ((c.tc : Thread Cert.ReferenceSampleIdeal.nD Cert.ReferenceSampleIdeal.τ).loc Cert.ReferenceSampleIdeal.main_arg6))).1 = (fun _ => 1#1)
    ∧ (Cert.Pre_finite_sample.fn (F := Ideal) (m ((c.tc : Thread Cert.ReferenceSampleIdeal.nD Cert.ReferenceSampleIdeal.τ).loc Cert.ReferenceSampleIdeal.main_arg0)) (m ((c.tc : Thread Cert.ReferenceSampleIdeal.nD Cert.ReferenceSampleIdeal.τ).loc Cert.ReferenceSampleIdeal.main_arg1)) (m ((c.tc : Thread Cert.ReferenceSampleIdeal.nD Cert.ReferenceSampleIdeal.τ).loc Cert.ReferenceSampleIdeal.main_arg2)) (m ((c.tc : Thread Cert.ReferenceSampleIdeal.nD Cert.ReferenceSampleIdeal.τ).loc Cert.ReferenceSampleIdeal.main_arg3)) (m ((c.tc : Thread Cert.ReferenceSampleIdeal.nD Cert.ReferenceSampleIdeal.τ).loc Cert.ReferenceSampleIdeal.main_arg4)) (m ((c.tc : Thread Cert.ReferenceSampleIdeal.nD Cert.ReferenceSampleIdeal.τ).loc Cert.ReferenceSampleIdeal.main_arg5)) (m ((c.tc : Thread Cert.ReferenceSampleIdeal.nD Cert.ReferenceSampleIdeal.τ).loc Cert.ReferenceSampleIdeal.main_arg6))).2.1 = (fun _ => 1#1)
    ∧ (Cert.Pre_finite_sample.fn (F := Ideal) (m ((c.tc : Thread Cert.ReferenceSampleIdeal.nD Cert.ReferenceSampleIdeal.τ).loc Cert.ReferenceSampleIdeal.main_arg0)) (m ((c.tc : Thread Cert.ReferenceSampleIdeal.nD Cert.ReferenceSampleIdeal.τ).loc Cert.ReferenceSampleIdeal.main_arg1)) (m ((c.tc : Thread Cert.ReferenceSampleIdeal.nD Cert.ReferenceSampleIdeal.τ).loc Cert.ReferenceSampleIdeal.main_arg2)) (m ((c.tc : Thread Cert.ReferenceSampleIdeal.nD Cert.ReferenceSampleIdeal.τ).loc Cert.ReferenceSampleIdeal.main_arg3)) (m ((c.tc : Thread Cert.ReferenceSampleIdeal.nD Cert.ReferenceSampleIdeal.τ).loc Cert.ReferenceSampleIdeal.main_arg4)) (m ((c.tc : Thread Cert.ReferenceSampleIdeal.nD Cert.ReferenceSampleIdeal.τ).loc Cert.ReferenceSampleIdeal.main_arg5)) (m ((c.tc : Thread Cert.ReferenceSampleIdeal.nD Cert.ReferenceSampleIdeal.τ).loc Cert.ReferenceSampleIdeal.main_arg6))).2.2 = (fun _ => 1#1)

def Pre_KernelConfIn (m : (ℓ : Loc Cert.KernelConfIn.nD Cert.KernelConfIn.τ Cert.KernelConfIn.sig) → Buf (Elt Bits) ℓ) : Prop :=
  True

def Pre_KernelConfInIdeal (m : (ℓ : Loc Cert.KernelConfInIdeal.nD Cert.KernelConfInIdeal.τ Cert.KernelConfInIdeal.sig) → Buf (Elt Ideal) ℓ) : Prop :=
  True

def Pre_ReferenceConfInIdeal (m : (ℓ : Loc Cert.ReferenceConfInIdeal.nD Cert.ReferenceConfInIdeal.τ Cert.ReferenceConfInIdeal.sig) → Buf (Elt Ideal) ℓ) : Prop :=
  True

def Pre_KernelQuery (m : (ℓ : Loc Cert.KernelQuery.nD Cert.KernelQuery.τ Cert.KernelQuery.sig) → Buf (Elt Bits) ℓ) : Prop :=
  True

def Pre_KernelQueryIdeal (m : (ℓ : Loc Cert.KernelQueryIdeal.nD Cert.KernelQueryIdeal.τ Cert.KernelQueryIdeal.sig) → Buf (Elt Ideal) ℓ) : Prop :=
  True

def Pre_ReferenceQueryIdeal (m : (ℓ : Loc Cert.ReferenceQueryIdeal.nD Cert.ReferenceQueryIdeal.τ Cert.ReferenceQueryIdeal.sig) → Buf (Elt Ideal) ℓ) : Prop :=
  True

def Pre_KernelCrossOut (m : (ℓ : Loc Cert.KernelCrossOut.nD Cert.KernelCrossOut.τ Cert.KernelCrossOut.sig) → Buf (Elt Bits) ℓ) : Prop :=
  True

def Pre_KernelCrossOutIdeal (m : (ℓ : Loc Cert.KernelCrossOutIdeal.nD Cert.KernelCrossOutIdeal.τ Cert.KernelCrossOutIdeal.sig) → Buf (Elt Ideal) ℓ) : Prop :=
  True

def Pre_ReferenceCrossOutIdeal (m : (ℓ : Loc Cert.ReferenceCrossOutIdeal.nD Cert.ReferenceCrossOutIdeal.τ Cert.ReferenceCrossOutIdeal.sig) → Buf (Elt Ideal) ℓ) : Prop :=
  True

def Pre_KernelConf (m : (ℓ : Loc Cert.KernelConf.nD Cert.KernelConf.τ Cert.KernelConf.sig) → Buf (Elt Bits) ℓ) : Prop :=
  True

def Pre_KernelConfIdeal (m : (ℓ : Loc Cert.KernelConfIdeal.nD Cert.KernelConfIdeal.τ Cert.KernelConfIdeal.sig) → Buf (Elt Ideal) ℓ) : Prop :=
  True

def Pre_ReferenceConfIdeal (m : (ℓ : Loc Cert.ReferenceConfIdeal.nD Cert.ReferenceConfIdeal.τ Cert.ReferenceConfIdeal.sig) → Buf (Elt Ideal) ℓ) : Prop :=
  True

def Pre_KernelConfSample (m : (ℓ : Loc Cert.KernelConfSample.nD Cert.KernelConfSample.τ Cert.KernelConfSample.sig) → Buf (Elt Bits) ℓ) : Prop :=
  True

def Pre_KernelConfSampleIdeal (m : (ℓ : Loc Cert.KernelConfSampleIdeal.nD Cert.KernelConfSampleIdeal.τ Cert.KernelConfSampleIdeal.sig) → Buf (Elt Ideal) ℓ) : Prop :=
  True

def Pre_ReferenceConfSampleIdeal (m : (ℓ : Loc Cert.ReferenceConfSampleIdeal.nD Cert.ReferenceConfSampleIdeal.τ Cert.ReferenceConfSampleIdeal.sig) → Buf (Elt Ideal) ℓ) : Prop :=
  True

def Pre_KernelSsdSample (m : (ℓ : Loc Cert.KernelSsdSample.nD Cert.KernelSsdSample.τ Cert.KernelSsdSample.sig) → Buf (Elt Bits) ℓ) : Prop :=
  True

def Pre_KernelSsdSampleIdeal (m : (ℓ : Loc Cert.KernelSsdSampleIdeal.nD Cert.KernelSsdSampleIdeal.τ Cert.KernelSsdSampleIdeal.sig) → Buf (Elt Ideal) ℓ) : Prop :=
  True

def Pre_ReferenceSsdSampleIdeal (m : (ℓ : Loc Cert.ReferenceSsdSampleIdeal.nD Cert.ReferenceSsdSampleIdeal.τ Cert.ReferenceSsdSampleIdeal.sig) → Buf (Elt Ideal) ℓ) : Prop :=
  True

def Pre_KernelSsd (m : (ℓ : Loc Cert.KernelSsd.nD Cert.KernelSsd.τ Cert.KernelSsd.sig) → Buf (Elt Bits) ℓ) : Prop :=
  True

def Pre_KernelSsdIdeal (m : (ℓ : Loc Cert.KernelSsdIdeal.nD Cert.KernelSsdIdeal.τ Cert.KernelSsdIdeal.sig) → Buf (Elt Ideal) ℓ) : Prop :=
  True

def Pre_ReferenceSsdIdeal (m : (ℓ : Loc Cert.ReferenceSsdIdeal.nD Cert.ReferenceSsdIdeal.τ Cert.ReferenceSsdIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_KernelMem [hKernelMem : Cert.KernelMem.Facts] : Prop :=
  ∀ (m : (ℓ : Loc Cert.KernelMem.nD Cert.KernelMem.τ Cert.KernelMem.sig) → Buf (Elt Bits) ℓ) (g : Dev Cert.KernelMem.nD → PrngReg), Pre_KernelMem m →
    θ_run (Cert.KernelMem.defs (F := Bits)) (onTc (τ := Cert.KernelMem.τ) (Cert.KernelMem.main (F := Bits))) ⟨m, fun _ => 0, g⟩ (fun r => (∀ c : Dev Cert.KernelMem.nD,
      r.2.mem ((c.tc : Thread Cert.KernelMem.nD Cert.KernelMem.τ).loc Cert.KernelMem.main_arg0) = m ((c.tc : Thread Cert.KernelMem.nD Cert.KernelMem.τ).loc Cert.KernelMem.main_arg0)
      ∧ r.2.mem ((c.tc : Thread Cert.KernelMem.nD Cert.KernelMem.τ).loc Cert.KernelMem.main_arg1) = m ((c.tc : Thread Cert.KernelMem.nD Cert.KernelMem.τ).loc Cert.KernelMem.main_arg1)
      ∧ r.2.mem ((c.tc : Thread Cert.KernelMem.nD Cert.KernelMem.τ).loc Cert.KernelMem.main_arg2) = m ((c.tc : Thread Cert.KernelMem.nD Cert.KernelMem.τ).loc Cert.KernelMem.main_arg2))
      ∧ r.2.sem = fun _ => 0)

def quiescent_KernelMemIdeal [hKernelMemIdeal : Cert.KernelMemIdeal.Facts] : Prop :=
  ∀ (m : (ℓ : Loc Cert.KernelMemIdeal.nD Cert.KernelMemIdeal.τ Cert.KernelMemIdeal.sig) → Buf (Elt Ideal) ℓ) (g : Dev Cert.KernelMemIdeal.nD → PrngReg), Pre_KernelMemIdeal m →
    θ_run (Cert.KernelMemIdeal.defs (F := Ideal)) (onTc (τ := Cert.KernelMemIdeal.τ) (Cert.KernelMemIdeal.main (F := Ideal))) ⟨m, fun _ => 0, g⟩ (fun r => (∀ c : Dev Cert.KernelMemIdeal.nD,
      r.2.mem ((c.tc : Thread Cert.KernelMemIdeal.nD Cert.KernelMemIdeal.τ).loc Cert.KernelMemIdeal.main_arg0) = m ((c.tc : Thread Cert.KernelMemIdeal.nD Cert.KernelMemIdeal.τ).loc Cert.KernelMemIdeal.main_arg0)
      ∧ r.2.mem ((c.tc : Thread Cert.KernelMemIdeal.nD Cert.KernelMemIdeal.τ).loc Cert.KernelMemIdeal.main_arg1) = m ((c.tc : Thread Cert.KernelMemIdeal.nD Cert.KernelMemIdeal.τ).loc Cert.KernelMemIdeal.main_arg1)
      ∧ r.2.mem ((c.tc : Thread Cert.KernelMemIdeal.nD Cert.KernelMemIdeal.τ).loc Cert.KernelMemIdeal.main_arg2) = m ((c.tc : Thread Cert.KernelMemIdeal.nD Cert.KernelMemIdeal.τ).loc Cert.KernelMemIdeal.main_arg2))
      ∧ r.2.sem = fun _ => 0)

def quiescent_ReferenceMemIdeal [hReferenceMemIdeal : Cert.ReferenceMemIdeal.Facts] : Prop :=
  ∀ (m : (ℓ : Loc Cert.ReferenceMemIdeal.nD Cert.ReferenceMemIdeal.τ Cert.ReferenceMemIdeal.sig) → Buf (Elt Ideal) ℓ) (g : Dev Cert.ReferenceMemIdeal.nD → PrngReg), Pre_ReferenceMemIdeal m →
    θ_run (Cert.ReferenceMemIdeal.defs (F := Ideal)) (onTc (τ := Cert.ReferenceMemIdeal.τ) (Cert.ReferenceMemIdeal.main (F := Ideal))) ⟨m, fun _ => 0, g⟩ (fun r => (∀ c : Dev Cert.ReferenceMemIdeal.nD,
      r.2.mem ((c.tc : Thread Cert.ReferenceMemIdeal.nD Cert.ReferenceMemIdeal.τ).loc Cert.ReferenceMemIdeal.main_arg0) = m ((c.tc : Thread Cert.ReferenceMemIdeal.nD Cert.ReferenceMemIdeal.τ).loc Cert.ReferenceMemIdeal.main_arg0)
      ∧ r.2.mem ((c.tc : Thread Cert.ReferenceMemIdeal.nD Cert.ReferenceMemIdeal.τ).loc Cert.ReferenceMemIdeal.main_arg1) = m ((c.tc : Thread Cert.ReferenceMemIdeal.nD Cert.ReferenceMemIdeal.τ).loc Cert.ReferenceMemIdeal.main_arg1)
      ∧ r.2.mem ((c.tc : Thread Cert.ReferenceMemIdeal.nD Cert.ReferenceMemIdeal.τ).loc Cert.ReferenceMemIdeal.main_arg2) = m ((c.tc : Thread Cert.ReferenceMemIdeal.nD Cert.ReferenceMemIdeal.τ).loc Cert.ReferenceMemIdeal.main_arg2))
      ∧ r.2.sem = fun _ => 0)

def quiescent_KernelFfn [hKernelFfn : Cert.KernelFfn.Facts] : Prop :=
  ∀ (m : (ℓ : Loc Cert.KernelFfn.nD Cert.KernelFfn.τ Cert.KernelFfn.sig) → Buf (Elt Bits) ℓ) (g : Dev Cert.KernelFfn.nD → PrngReg), Pre_KernelFfn m →
    θ_run (Cert.KernelFfn.defs (F := Bits)) (onTc (τ := Cert.KernelFfn.τ) (Cert.KernelFfn.main (F := Bits))) ⟨m, fun _ => 0, g⟩ (fun r => (∀ c : Dev Cert.KernelFfn.nD,
      r.2.mem ((c.tc : Thread Cert.KernelFfn.nD Cert.KernelFfn.τ).loc Cert.KernelFfn.main_arg0) = m ((c.tc : Thread Cert.KernelFfn.nD Cert.KernelFfn.τ).loc Cert.KernelFfn.main_arg0)
      ∧ r.2.mem ((c.tc : Thread Cert.KernelFfn.nD Cert.KernelFfn.τ).loc Cert.KernelFfn.main_arg1) = m ((c.tc : Thread Cert.KernelFfn.nD Cert.KernelFfn.τ).loc Cert.KernelFfn.main_arg1)
      ∧ r.2.mem ((c.tc : Thread Cert.KernelFfn.nD Cert.KernelFfn.τ).loc Cert.KernelFfn.main_arg2) = m ((c.tc : Thread Cert.KernelFfn.nD Cert.KernelFfn.τ).loc Cert.KernelFfn.main_arg2)
      ∧ r.2.mem ((c.tc : Thread Cert.KernelFfn.nD Cert.KernelFfn.τ).loc Cert.KernelFfn.main_arg3) = m ((c.tc : Thread Cert.KernelFfn.nD Cert.KernelFfn.τ).loc Cert.KernelFfn.main_arg3)
      ∧ r.2.mem ((c.tc : Thread Cert.KernelFfn.nD Cert.KernelFfn.τ).loc Cert.KernelFfn.main_arg4) = m ((c.tc : Thread Cert.KernelFfn.nD Cert.KernelFfn.τ).loc Cert.KernelFfn.main_arg4))
      ∧ r.2.sem = fun _ => 0)

def quiescent_KernelFfnIdeal [hKernelFfnIdeal : Cert.KernelFfnIdeal.Facts] : Prop :=
  ∀ (m : (ℓ : Loc Cert.KernelFfnIdeal.nD Cert.KernelFfnIdeal.τ Cert.KernelFfnIdeal.sig) → Buf (Elt Ideal) ℓ) (g : Dev Cert.KernelFfnIdeal.nD → PrngReg), Pre_KernelFfnIdeal m →
    θ_run (Cert.KernelFfnIdeal.defs (F := Ideal)) (onTc (τ := Cert.KernelFfnIdeal.τ) (Cert.KernelFfnIdeal.main (F := Ideal))) ⟨m, fun _ => 0, g⟩ (fun r => (∀ c : Dev Cert.KernelFfnIdeal.nD,
      r.2.mem ((c.tc : Thread Cert.KernelFfnIdeal.nD Cert.KernelFfnIdeal.τ).loc Cert.KernelFfnIdeal.main_arg0) = m ((c.tc : Thread Cert.KernelFfnIdeal.nD Cert.KernelFfnIdeal.τ).loc Cert.KernelFfnIdeal.main_arg0)
      ∧ r.2.mem ((c.tc : Thread Cert.KernelFfnIdeal.nD Cert.KernelFfnIdeal.τ).loc Cert.KernelFfnIdeal.main_arg1) = m ((c.tc : Thread Cert.KernelFfnIdeal.nD Cert.KernelFfnIdeal.τ).loc Cert.KernelFfnIdeal.main_arg1)
      ∧ r.2.mem ((c.tc : Thread Cert.KernelFfnIdeal.nD Cert.KernelFfnIdeal.τ).loc Cert.KernelFfnIdeal.main_arg2) = m ((c.tc : Thread Cert.KernelFfnIdeal.nD Cert.KernelFfnIdeal.τ).loc Cert.KernelFfnIdeal.main_arg2)
      ∧ r.2.mem ((c.tc : Thread Cert.KernelFfnIdeal.nD Cert.KernelFfnIdeal.τ).loc Cert.KernelFfnIdeal.main_arg3) = m ((c.tc : Thread Cert.KernelFfnIdeal.nD Cert.KernelFfnIdeal.τ).loc Cert.KernelFfnIdeal.main_arg3)
      ∧ r.2.mem ((c.tc : Thread Cert.KernelFfnIdeal.nD Cert.KernelFfnIdeal.τ).loc Cert.KernelFfnIdeal.main_arg4) = m ((c.tc : Thread Cert.KernelFfnIdeal.nD Cert.KernelFfnIdeal.τ).loc Cert.KernelFfnIdeal.main_arg4))
      ∧ r.2.sem = fun _ => 0)

def quiescent_ReferenceFfnIdeal [hReferenceFfnIdeal : Cert.ReferenceFfnIdeal.Facts] : Prop :=
  ∀ (m : (ℓ : Loc Cert.ReferenceFfnIdeal.nD Cert.ReferenceFfnIdeal.τ Cert.ReferenceFfnIdeal.sig) → Buf (Elt Ideal) ℓ) (g : Dev Cert.ReferenceFfnIdeal.nD → PrngReg), Pre_ReferenceFfnIdeal m →
    θ_run (Cert.ReferenceFfnIdeal.defs (F := Ideal)) (onTc (τ := Cert.ReferenceFfnIdeal.τ) (Cert.ReferenceFfnIdeal.main (F := Ideal))) ⟨m, fun _ => 0, g⟩ (fun r => (∀ c : Dev Cert.ReferenceFfnIdeal.nD,
      r.2.mem ((c.tc : Thread Cert.ReferenceFfnIdeal.nD Cert.ReferenceFfnIdeal.τ).loc Cert.ReferenceFfnIdeal.main_arg0) = m ((c.tc : Thread Cert.ReferenceFfnIdeal.nD Cert.ReferenceFfnIdeal.τ).loc Cert.ReferenceFfnIdeal.main_arg0)
      ∧ r.2.mem ((c.tc : Thread Cert.ReferenceFfnIdeal.nD Cert.ReferenceFfnIdeal.τ).loc Cert.ReferenceFfnIdeal.main_arg1) = m ((c.tc : Thread Cert.ReferenceFfnIdeal.nD Cert.ReferenceFfnIdeal.τ).loc Cert.ReferenceFfnIdeal.main_arg1)
      ∧ r.2.mem ((c.tc : Thread Cert.ReferenceFfnIdeal.nD Cert.ReferenceFfnIdeal.τ).loc Cert.ReferenceFfnIdeal.main_arg2) = m ((c.tc : Thread Cert.ReferenceFfnIdeal.nD Cert.ReferenceFfnIdeal.τ).loc Cert.ReferenceFfnIdeal.main_arg2)
      ∧ r.2.mem ((c.tc : Thread Cert.ReferenceFfnIdeal.nD Cert.ReferenceFfnIdeal.τ).loc Cert.ReferenceFfnIdeal.main_arg3) = m ((c.tc : Thread Cert.ReferenceFfnIdeal.nD Cert.ReferenceFfnIdeal.τ).loc Cert.ReferenceFfnIdeal.main_arg3)
      ∧ r.2.mem ((c.tc : Thread Cert.ReferenceFfnIdeal.nD Cert.ReferenceFfnIdeal.τ).loc Cert.ReferenceFfnIdeal.main_arg4) = m ((c.tc : Thread Cert.ReferenceFfnIdeal.nD Cert.ReferenceFfnIdeal.τ).loc Cert.ReferenceFfnIdeal.main_arg4))
      ∧ r.2.sem = fun _ => 0)

def quiescent_KernelIn [hKernelIn : Cert.KernelIn.Facts] : Prop :=
  ∀ (m : (ℓ : Loc Cert.KernelIn.nD Cert.KernelIn.τ Cert.KernelIn.sig) → Buf (Elt Bits) ℓ) (g : Dev Cert.KernelIn.nD → PrngReg), Pre_KernelIn m →
    θ_run (Cert.KernelIn.defs (F := Bits)) (onTc (τ := Cert.KernelIn.τ) (Cert.KernelIn.main (F := Bits))) ⟨m, fun _ => 0, g⟩ (fun r => (∀ c : Dev Cert.KernelIn.nD,
      r.2.mem ((c.tc : Thread Cert.KernelIn.nD Cert.KernelIn.τ).loc Cert.KernelIn.main_arg0) = m ((c.tc : Thread Cert.KernelIn.nD Cert.KernelIn.τ).loc Cert.KernelIn.main_arg0)
      ∧ r.2.mem ((c.tc : Thread Cert.KernelIn.nD Cert.KernelIn.τ).loc Cert.KernelIn.main_arg1) = m ((c.tc : Thread Cert.KernelIn.nD Cert.KernelIn.τ).loc Cert.KernelIn.main_arg1)
      ∧ r.2.mem ((c.tc : Thread Cert.KernelIn.nD Cert.KernelIn.τ).loc Cert.KernelIn.main_arg2) = m ((c.tc : Thread Cert.KernelIn.nD Cert.KernelIn.τ).loc Cert.KernelIn.main_arg2))
      ∧ r.2.sem = fun _ => 0)

def quiescent_KernelInIdeal [hKernelInIdeal : Cert.KernelInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg), Pre_KernelInIdeal m →
    θ_run (Cert.KernelInIdeal.defs (F := Ideal)) (onTc (τ := Cert.KernelInIdeal.τ) (Cert.KernelInIdeal.main (F := Ideal))) ⟨m, fun _ => 0, g⟩ (fun r => (∀ c : Dev Cert.KernelInIdeal.nD,
      r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
      ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1)
      ∧ r.2.mem ((c.tc : Thread Cert.KernelInIdeal.nD Cert.KernelInIdeal.τ).loc Cert.KernelInIdeal.main_arg2) = m ((c.tc : Thread Cert.KernelInIdeal.nD Cert.KernelInIdeal.τ).loc Cert.KernelInIdeal.main_arg2))
      ∧ r.2.sem = fun _ => 0)

def quiescent_ReferenceInIdeal [hReferenceInIdeal : Cert.ReferenceInIdeal.Facts] : Prop :=
  ∀ (m : (ℓ : Loc Cert.ReferenceInIdeal.nD Cert.ReferenceInIdeal.τ Cert.ReferenceInIdeal.sig) → Buf (Elt Ideal) ℓ) (g : Dev Cert.ReferenceInIdeal.nD → PrngReg), Pre_ReferenceInIdeal m →
    θ_run (Cert.ReferenceInIdeal.defs (F := Ideal)) (onTc (τ := Cert.ReferenceInIdeal.τ) (Cert.ReferenceInIdeal.main (F := Ideal))) ⟨m, fun _ => 0, g⟩ (fun r => (∀ c : Dev Cert.ReferenceInIdeal.nD,
      r.2.mem ((c.tc : Thread Cert.ReferenceInIdeal.nD Cert.ReferenceInIdeal.τ).loc Cert.ReferenceInIdeal.main_arg0) = m ((c.tc : Thread Cert.ReferenceInIdeal.nD Cert.ReferenceInIdeal.τ).loc Cert.ReferenceInIdeal.main_arg0)
      ∧ r.2.mem ((c.tc : Thread Cert.ReferenceInIdeal.nD Cert.ReferenceInIdeal.τ).loc Cert.ReferenceInIdeal.main_arg1) = m ((c.tc : Thread Cert.ReferenceInIdeal.nD Cert.ReferenceInIdeal.τ).loc Cert.ReferenceInIdeal.main_arg1)
      ∧ r.2.mem ((c.tc : Thread Cert.ReferenceInIdeal.nD Cert.ReferenceInIdeal.τ).loc Cert.ReferenceInIdeal.main_arg2) = m ((c.tc : Thread Cert.ReferenceInIdeal.nD Cert.ReferenceInIdeal.τ).loc Cert.ReferenceInIdeal.main_arg2))
      ∧ r.2.sem = fun _ => 0)

def quiescent_KernelInSample [hKernelInSample : Cert.KernelInSample.Facts] : Prop :=
  ∀ (m : (ℓ : Loc Cert.KernelInSample.nD Cert.KernelInSample.τ Cert.KernelInSample.sig) → Buf (Elt Bits) ℓ) (g : Dev Cert.KernelInSample.nD → PrngReg), Pre_KernelInSample m →
    θ_run (Cert.KernelInSample.defs (F := Bits)) (onTc (τ := Cert.KernelInSample.τ) (Cert.KernelInSample.main (F := Bits))) ⟨m, fun _ => 0, g⟩ (fun r => (∀ c : Dev Cert.KernelInSample.nD,
      r.2.mem ((c.tc : Thread Cert.KernelInSample.nD Cert.KernelInSample.τ).loc Cert.KernelInSample.main_arg0) = m ((c.tc : Thread Cert.KernelInSample.nD Cert.KernelInSample.τ).loc Cert.KernelInSample.main_arg0)
      ∧ r.2.mem ((c.tc : Thread Cert.KernelInSample.nD Cert.KernelInSample.τ).loc Cert.KernelInSample.main_arg1) = m ((c.tc : Thread Cert.KernelInSample.nD Cert.KernelInSample.τ).loc Cert.KernelInSample.main_arg1)
      ∧ r.2.mem ((c.tc : Thread Cert.KernelInSample.nD Cert.KernelInSample.τ).loc Cert.KernelInSample.main_arg2) = m ((c.tc : Thread Cert.KernelInSample.nD Cert.KernelInSample.τ).loc Cert.KernelInSample.main_arg2))
      ∧ r.2.sem = fun _ => 0)

def quiescent_KernelInSampleIdeal [hKernelInSampleIdeal : Cert.KernelInSampleIdeal.Facts] : Prop :=
  ∀ (m : (ℓ : Loc Cert.KernelInSampleIdeal.nD Cert.KernelInSampleIdeal.τ Cert.KernelInSampleIdeal.sig) → Buf (Elt Ideal) ℓ) (g : Dev Cert.KernelInSampleIdeal.nD → PrngReg), Pre_KernelInSampleIdeal m →
    θ_run (Cert.KernelInSampleIdeal.defs (F := Ideal)) (onTc (τ := Cert.KernelInSampleIdeal.τ) (Cert.KernelInSampleIdeal.main (F := Ideal))) ⟨m, fun _ => 0, g⟩ (fun r => (∀ c : Dev Cert.KernelInSampleIdeal.nD,
      r.2.mem ((c.tc : Thread Cert.KernelInSampleIdeal.nD Cert.KernelInSampleIdeal.τ).loc Cert.KernelInSampleIdeal.main_arg0) = m ((c.tc : Thread Cert.KernelInSampleIdeal.nD Cert.KernelInSampleIdeal.τ).loc Cert.KernelInSampleIdeal.main_arg0)
      ∧ r.2.mem ((c.tc : Thread Cert.KernelInSampleIdeal.nD Cert.KernelInSampleIdeal.τ).loc Cert.KernelInSampleIdeal.main_arg1) = m ((c.tc : Thread Cert.KernelInSampleIdeal.nD Cert.KernelInSampleIdeal.τ).loc Cert.KernelInSampleIdeal.main_arg1)
      ∧ r.2.mem ((c.tc : Thread Cert.KernelInSampleIdeal.nD Cert.KernelInSampleIdeal.τ).loc Cert.KernelInSampleIdeal.main_arg2) = m ((c.tc : Thread Cert.KernelInSampleIdeal.nD Cert.KernelInSampleIdeal.τ).loc Cert.KernelInSampleIdeal.main_arg2))
      ∧ r.2.sem = fun _ => 0)

def quiescent_ReferenceInSampleIdeal [hReferenceInSampleIdeal : Cert.ReferenceInSampleIdeal.Facts] : Prop :=
  ∀ (m : (ℓ : Loc Cert.ReferenceInSampleIdeal.nD Cert.ReferenceInSampleIdeal.τ Cert.ReferenceInSampleIdeal.sig) → Buf (Elt Ideal) ℓ) (g : Dev Cert.ReferenceInSampleIdeal.nD → PrngReg), Pre_ReferenceInSampleIdeal m →
    θ_run (Cert.ReferenceInSampleIdeal.defs (F := Ideal)) (onTc (τ := Cert.ReferenceInSampleIdeal.τ) (Cert.ReferenceInSampleIdeal.main (F := Ideal))) ⟨m, fun _ => 0, g⟩ (fun r => (∀ c : Dev Cert.ReferenceInSampleIdeal.nD,
      r.2.mem ((c.tc : Thread Cert.ReferenceInSampleIdeal.nD Cert.ReferenceInSampleIdeal.τ).loc Cert.ReferenceInSampleIdeal.main_arg0) = m ((c.tc : Thread Cert.ReferenceInSampleIdeal.nD Cert.ReferenceInSampleIdeal.τ).loc Cert.ReferenceInSampleIdeal.main_arg0)
      ∧ r.2.mem ((c.tc : Thread Cert.ReferenceInSampleIdeal.nD Cert.ReferenceInSampleIdeal.τ).loc Cert.ReferenceInSampleIdeal.main_arg1) = m ((c.tc : Thread Cert.ReferenceInSampleIdeal.nD Cert.ReferenceInSampleIdeal.τ).loc Cert.ReferenceInSampleIdeal.main_arg1)
      ∧ r.2.mem ((c.tc : Thread Cert.ReferenceInSampleIdeal.nD Cert.ReferenceInSampleIdeal.τ).loc Cert.ReferenceInSampleIdeal.main_arg2) = m ((c.tc : Thread Cert.ReferenceInSampleIdeal.nD Cert.ReferenceInSampleIdeal.τ).loc Cert.ReferenceInSampleIdeal.main_arg2))
      ∧ r.2.sem = fun _ => 0)

def quiescent_KernelPrep [hKernelPrep : Cert.KernelPrep.Facts] : Prop :=
  ∀ (m : (ℓ : Loc Cert.KernelPrep.nD Cert.KernelPrep.τ Cert.KernelPrep.sig) → Buf (Elt Bits) ℓ) (g : Dev Cert.KernelPrep.nD → PrngReg), Pre_KernelPrep m →
    θ_run (Cert.KernelPrep.defs (F := Bits)) (onTc (τ := Cert.KernelPrep.τ) (Cert.KernelPrep.main (F := Bits))) ⟨m, fun _ => 0, g⟩ (fun r => (∀ c : Dev Cert.KernelPrep.nD,
      r.2.mem ((c.tc : Thread Cert.KernelPrep.nD Cert.KernelPrep.τ).loc Cert.KernelPrep.main_arg0) = m ((c.tc : Thread Cert.KernelPrep.nD Cert.KernelPrep.τ).loc Cert.KernelPrep.main_arg0))
      ∧ r.2.sem = fun _ => 0)

def quiescent_KernelPrepIdeal [hKernelPrepIdeal : Cert.KernelPrepIdeal.Facts] : Prop :=
  ∀ (m : (ℓ : Loc Cert.KernelPrepIdeal.nD Cert.KernelPrepIdeal.τ Cert.KernelPrepIdeal.sig) → Buf (Elt Ideal) ℓ) (g : Dev Cert.KernelPrepIdeal.nD → PrngReg), Pre_KernelPrepIdeal m →
    θ_run (Cert.KernelPrepIdeal.defs (F := Ideal)) (onTc (τ := Cert.KernelPrepIdeal.τ) (Cert.KernelPrepIdeal.main (F := Ideal))) ⟨m, fun _ => 0, g⟩ (fun r => (∀ c : Dev Cert.KernelPrepIdeal.nD,
      r.2.mem ((c.tc : Thread Cert.KernelPrepIdeal.nD Cert.KernelPrepIdeal.τ).loc Cert.KernelPrepIdeal.main_arg0) = m ((c.tc : Thread Cert.KernelPrepIdeal.nD Cert.KernelPrepIdeal.τ).loc Cert.KernelPrepIdeal.main_arg0))
      ∧ r.2.sem = fun _ => 0)

def quiescent_ReferencePrepIdeal [hReferencePrepIdeal : Cert.ReferencePrepIdeal.Facts] : Prop :=
  ∀ (m : (ℓ : Loc Cert.ReferencePrepIdeal.nD Cert.ReferencePrepIdeal.τ Cert.ReferencePrepIdeal.sig) → Buf (Elt Ideal) ℓ) (g : Dev Cert.ReferencePrepIdeal.nD → PrngReg), Pre_ReferencePrepIdeal m →
    θ_run (Cert.ReferencePrepIdeal.defs (F := Ideal)) (onTc (τ := Cert.ReferencePrepIdeal.τ) (Cert.ReferencePrepIdeal.main (F := Ideal))) ⟨m, fun _ => 0, g⟩ (fun r => (∀ c : Dev Cert.ReferencePrepIdeal.nD,
      r.2.mem ((c.tc : Thread Cert.ReferencePrepIdeal.nD Cert.ReferencePrepIdeal.τ).loc Cert.ReferencePrepIdeal.main_arg0) = m ((c.tc : Thread Cert.ReferencePrepIdeal.nD Cert.ReferencePrepIdeal.τ).loc Cert.ReferencePrepIdeal.main_arg0))
      ∧ r.2.sem = fun _ => 0)

def quiescent_KernelOut [hKernelOut : Cert.KernelOut.Facts] : Prop :=
  ∀ (m : (ℓ : Loc Cert.KernelOut.nD Cert.KernelOut.τ Cert.KernelOut.sig) → Buf (Elt Bits) ℓ) (g : Dev Cert.KernelOut.nD → PrngReg), Pre_KernelOut m →
    θ_run (Cert.KernelOut.defs (F := Bits)) (onTc (τ := Cert.KernelOut.τ) (Cert.KernelOut.main (F := Bits))) ⟨m, fun _ => 0, g⟩ (fun r => (∀ c : Dev Cert.KernelOut.nD,
      r.2.mem ((c.tc : Thread Cert.KernelOut.nD Cert.KernelOut.τ).loc Cert.KernelOut.main_arg0) = m ((c.tc : Thread Cert.KernelOut.nD Cert.KernelOut.τ).loc Cert.KernelOut.main_arg0)
      ∧ r.2.mem ((c.tc : Thread Cert.KernelOut.nD Cert.KernelOut.τ).loc Cert.KernelOut.main_arg1) = m ((c.tc : Thread Cert.KernelOut.nD Cert.KernelOut.τ).loc Cert.KernelOut.main_arg1)
      ∧ r.2.mem ((c.tc : Thread Cert.KernelOut.nD Cert.KernelOut.τ).loc Cert.KernelOut.main_arg2) = m ((c.tc : Thread Cert.KernelOut.nD Cert.KernelOut.τ).loc Cert.KernelOut.main_arg2)
      ∧ r.2.mem ((c.tc : Thread Cert.KernelOut.nD Cert.KernelOut.τ).loc Cert.KernelOut.main_arg3) = m ((c.tc : Thread Cert.KernelOut.nD Cert.KernelOut.τ).loc Cert.KernelOut.main_arg3))
      ∧ r.2.sem = fun _ => 0)

def quiescent_KernelOutIdeal [hKernelOutIdeal : Cert.KernelOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg), Pre_KernelOutIdeal m →
    θ_run (Cert.KernelOutIdeal.defs (F := Ideal)) (onTc (τ := Cert.KernelOutIdeal.τ) (Cert.KernelOutIdeal.main (F := Ideal))) ⟨m, fun _ => 0, g⟩ (fun r => (∀ c : Dev Cert.KernelOutIdeal.nD,
      r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
      ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
      ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2)
      ∧ r.2.mem ((c.tc : Thread Cert.KernelOutIdeal.nD Cert.KernelOutIdeal.τ).loc Cert.KernelOutIdeal.main_arg3) = m ((c.tc : Thread Cert.KernelOutIdeal.nD Cert.KernelOutIdeal.τ).loc Cert.KernelOutIdeal.main_arg3))
      ∧ r.2.sem = fun _ => 0)

def quiescent_ReferenceOutIdeal [hReferenceOutIdeal : Cert.ReferenceOutIdeal.Facts] : Prop :=
  ∀ (m : (ℓ : Loc Cert.ReferenceOutIdeal.nD Cert.ReferenceOutIdeal.τ Cert.ReferenceOutIdeal.sig) → Buf (Elt Ideal) ℓ) (g : Dev Cert.ReferenceOutIdeal.nD → PrngReg), Pre_ReferenceOutIdeal m →
    θ_run (Cert.ReferenceOutIdeal.defs (F := Ideal)) (onTc (τ := Cert.ReferenceOutIdeal.τ) (Cert.ReferenceOutIdeal.main (F := Ideal))) ⟨m, fun _ => 0, g⟩ (fun r => (∀ c : Dev Cert.ReferenceOutIdeal.nD,
      r.2.mem ((c.tc : Thread Cert.ReferenceOutIdeal.nD Cert.ReferenceOutIdeal.τ).loc Cert.ReferenceOutIdeal.main_arg0) = m ((c.tc : Thread Cert.ReferenceOutIdeal.nD Cert.ReferenceOutIdeal.τ).loc Cert.ReferenceOutIdeal.main_arg0)
      ∧ r.2.mem ((c.tc : Thread Cert.ReferenceOutIdeal.nD Cert.ReferenceOutIdeal.τ).loc Cert.ReferenceOutIdeal.main_arg1) = m ((c.tc : Thread Cert.ReferenceOutIdeal.nD Cert.ReferenceOutIdeal.τ).loc Cert.ReferenceOutIdeal.main_arg1)
      ∧ r.2.mem ((c.tc : Thread Cert.ReferenceOutIdeal.nD Cert.ReferenceOutIdeal.τ).loc Cert.ReferenceOutIdeal.main_arg2) = m ((c.tc : Thread Cert.ReferenceOutIdeal.nD Cert.ReferenceOutIdeal.τ).loc Cert.ReferenceOutIdeal.main_arg2)
      ∧ r.2.mem ((c.tc : Thread Cert.ReferenceOutIdeal.nD Cert.ReferenceOutIdeal.τ).loc Cert.ReferenceOutIdeal.main_arg3) = m ((c.tc : Thread Cert.ReferenceOutIdeal.nD Cert.ReferenceOutIdeal.τ).loc Cert.ReferenceOutIdeal.main_arg3))
      ∧ r.2.sem = fun _ => 0)

def quiescent_KernelCross [hKernelCross : Cert.KernelCross.Facts] : Prop :=
  ∀ (m : (ℓ : Loc Cert.KernelCross.nD Cert.KernelCross.τ Cert.KernelCross.sig) → Buf (Elt Bits) ℓ) (g : Dev Cert.KernelCross.nD → PrngReg), Pre_KernelCross m →
    θ_run (Cert.KernelCross.defs (F := Bits)) (onTc (τ := Cert.KernelCross.τ) (Cert.KernelCross.main (F := Bits))) ⟨m, fun _ => 0, g⟩ (fun r => (∀ c : Dev Cert.KernelCross.nD,
      r.2.mem ((c.tc : Thread Cert.KernelCross.nD Cert.KernelCross.τ).loc Cert.KernelCross.main_arg0) = m ((c.tc : Thread Cert.KernelCross.nD Cert.KernelCross.τ).loc Cert.KernelCross.main_arg0)
      ∧ r.2.mem ((c.tc : Thread Cert.KernelCross.nD Cert.KernelCross.τ).loc Cert.KernelCross.main_arg1) = m ((c.tc : Thread Cert.KernelCross.nD Cert.KernelCross.τ).loc Cert.KernelCross.main_arg1)
      ∧ r.2.mem ((c.tc : Thread Cert.KernelCross.nD Cert.KernelCross.τ).loc Cert.KernelCross.main_arg2) = m ((c.tc : Thread Cert.KernelCross.nD Cert.KernelCross.τ).loc Cert.KernelCross.main_arg2))
      ∧ r.2.sem = fun _ => 0)

def quiescent_KernelCrossIdeal [hKernelCrossIdeal : Cert.KernelCrossIdeal.Facts] : Prop :=
  ∀ (m : (ℓ : Loc Cert.KernelCrossIdeal.nD Cert.KernelCrossIdeal.τ Cert.KernelCrossIdeal.sig) → Buf (Elt Ideal) ℓ) (g : Dev Cert.KernelCrossIdeal.nD → PrngReg), Pre_KernelCrossIdeal m →
    θ_run (Cert.KernelCrossIdeal.defs (F := Ideal)) (onTc (τ := Cert.KernelCrossIdeal.τ) (Cert.KernelCrossIdeal.main (F := Ideal))) ⟨m, fun _ => 0, g⟩ (fun r => (∀ c : Dev Cert.KernelCrossIdeal.nD,
      r.2.mem ((c.tc : Thread Cert.KernelCrossIdeal.nD Cert.KernelCrossIdeal.τ).loc Cert.KernelCrossIdeal.main_arg0) = m ((c.tc : Thread Cert.KernelCrossIdeal.nD Cert.KernelCrossIdeal.τ).loc Cert.KernelCrossIdeal.main_arg0)
      ∧ r.2.mem ((c.tc : Thread Cert.KernelCrossIdeal.nD Cert.KernelCrossIdeal.τ).loc Cert.KernelCrossIdeal.main_arg1) = m ((c.tc : Thread Cert.KernelCrossIdeal.nD Cert.KernelCrossIdeal.τ).loc Cert.KernelCrossIdeal.main_arg1)
      ∧ r.2.mem ((c.tc : Thread Cert.KernelCrossIdeal.nD Cert.KernelCrossIdeal.τ).loc Cert.KernelCrossIdeal.main_arg2) = m ((c.tc : Thread Cert.KernelCrossIdeal.nD Cert.KernelCrossIdeal.τ).loc Cert.KernelCrossIdeal.main_arg2))
      ∧ r.2.sem = fun _ => 0)

def quiescent_ReferenceCrossIdeal [hReferenceCrossIdeal : Cert.ReferenceCrossIdeal.Facts] : Prop :=
  ∀ (m : (ℓ : Loc Cert.ReferenceCrossIdeal.nD Cert.ReferenceCrossIdeal.τ Cert.ReferenceCrossIdeal.sig) → Buf (Elt Ideal) ℓ) (g : Dev Cert.ReferenceCrossIdeal.nD → PrngReg), Pre_ReferenceCrossIdeal m →
    θ_run (Cert.ReferenceCrossIdeal.defs (F := Ideal)) (onTc (τ := Cert.ReferenceCrossIdeal.τ) (Cert.ReferenceCrossIdeal.main (F := Ideal))) ⟨m, fun _ => 0, g⟩ (fun r => (∀ c : Dev Cert.ReferenceCrossIdeal.nD,
      r.2.mem ((c.tc : Thread Cert.ReferenceCrossIdeal.nD Cert.ReferenceCrossIdeal.τ).loc Cert.ReferenceCrossIdeal.main_arg0) = m ((c.tc : Thread Cert.ReferenceCrossIdeal.nD Cert.ReferenceCrossIdeal.τ).loc Cert.ReferenceCrossIdeal.main_arg0)
      ∧ r.2.mem ((c.tc : Thread Cert.ReferenceCrossIdeal.nD Cert.ReferenceCrossIdeal.τ).loc Cert.ReferenceCrossIdeal.main_arg1) = m ((c.tc : Thread Cert.ReferenceCrossIdeal.nD Cert.ReferenceCrossIdeal.τ).loc Cert.ReferenceCrossIdeal.main_arg1)
      ∧ r.2.mem ((c.tc : Thread Cert.ReferenceCrossIdeal.nD Cert.ReferenceCrossIdeal.τ).loc Cert.ReferenceCrossIdeal.main_arg2) = m ((c.tc : Thread Cert.ReferenceCrossIdeal.nD Cert.ReferenceCrossIdeal.τ).loc Cert.ReferenceCrossIdeal.main_arg2))
      ∧ r.2.sem = fun _ => 0)

def quiescent_KernelSample [hKernelSample : Cert.KernelSample.Facts] : Prop :=
  ∀ (m : (ℓ : Loc Cert.KernelSample.nD Cert.KernelSample.τ Cert.KernelSample.sig) → Buf (Elt Bits) ℓ) (g : Dev Cert.KernelSample.nD → PrngReg), Pre_KernelSample m →
    θ_run (Cert.KernelSample.defs (F := Bits)) (onTc (τ := Cert.KernelSample.τ) (Cert.KernelSample.main (F := Bits))) ⟨m, fun _ => 0, g⟩ (fun r => (∀ c : Dev Cert.KernelSample.nD,
      r.2.mem ((c.tc : Thread Cert.KernelSample.nD Cert.KernelSample.τ).loc Cert.KernelSample.main_arg0) = m ((c.tc : Thread Cert.KernelSample.nD Cert.KernelSample.τ).loc Cert.KernelSample.main_arg0)
      ∧ r.2.mem ((c.tc : Thread Cert.KernelSample.nD Cert.KernelSample.τ).loc Cert.KernelSample.main_arg1) = m ((c.tc : Thread Cert.KernelSample.nD Cert.KernelSample.τ).loc Cert.KernelSample.main_arg1)
      ∧ r.2.mem ((c.tc : Thread Cert.KernelSample.nD Cert.KernelSample.τ).loc Cert.KernelSample.main_arg2) = m ((c.tc : Thread Cert.KernelSample.nD Cert.KernelSample.τ).loc Cert.KernelSample.main_arg2)
      ∧ r.2.mem ((c.tc : Thread Cert.KernelSample.nD Cert.KernelSample.τ).loc Cert.KernelSample.main_arg3) = m ((c.tc : Thread Cert.KernelSample.nD Cert.KernelSample.τ).loc Cert.KernelSample.main_arg3)
      ∧ r.2.mem ((c.tc : Thread Cert.KernelSample.nD Cert.KernelSample.τ).loc Cert.KernelSample.main_arg4) = m ((c.tc : Thread Cert.KernelSample.nD Cert.KernelSample.τ).loc Cert.KernelSample.main_arg4)
      ∧ r.2.mem ((c.tc : Thread Cert.KernelSample.nD Cert.KernelSample.τ).loc Cert.KernelSample.main_arg5) = m ((c.tc : Thread Cert.KernelSample.nD Cert.KernelSample.τ).loc Cert.KernelSample.main_arg5)
      ∧ r.2.mem ((c.tc : Thread Cert.KernelSample.nD Cert.KernelSample.τ).loc Cert.KernelSample.main_arg6) = m ((c.tc : Thread Cert.KernelSample.nD Cert.KernelSample.τ).loc Cert.KernelSample.main_arg6))
      ∧ r.2.sem = fun _ => 0)

def quiescent_KernelSampleIdeal [hKernelSampleIdeal : Cert.KernelSampleIdeal.Facts] : Prop :=
  ∀ (m : (ℓ : Loc Cert.KernelSampleIdeal.nD Cert.KernelSampleIdeal.τ Cert.KernelSampleIdeal.sig) → Buf (Elt Ideal) ℓ) (g : Dev Cert.KernelSampleIdeal.nD → PrngReg), Pre_KernelSampleIdeal m →
    θ_run (Cert.KernelSampleIdeal.defs (F := Ideal)) (onTc (τ := Cert.KernelSampleIdeal.τ) (Cert.KernelSampleIdeal.main (F := Ideal))) ⟨m, fun _ => 0, g⟩ (fun r => (∀ c : Dev Cert.KernelSampleIdeal.nD,
      r.2.mem ((c.tc : Thread Cert.KernelSampleIdeal.nD Cert.KernelSampleIdeal.τ).loc Cert.KernelSampleIdeal.main_arg0) = m ((c.tc : Thread Cert.KernelSampleIdeal.nD Cert.KernelSampleIdeal.τ).loc Cert.KernelSampleIdeal.main_arg0)
      ∧ r.2.mem ((c.tc : Thread Cert.KernelSampleIdeal.nD Cert.KernelSampleIdeal.τ).loc Cert.KernelSampleIdeal.main_arg1) = m ((c.tc : Thread Cert.KernelSampleIdeal.nD Cert.KernelSampleIdeal.τ).loc Cert.KernelSampleIdeal.main_arg1)
      ∧ r.2.mem ((c.tc : Thread Cert.KernelSampleIdeal.nD Cert.KernelSampleIdeal.τ).loc Cert.KernelSampleIdeal.main_arg2) = m ((c.tc : Thread Cert.KernelSampleIdeal.nD Cert.KernelSampleIdeal.τ).loc Cert.KernelSampleIdeal.main_arg2)
      ∧ r.2.mem ((c.tc : Thread Cert.KernelSampleIdeal.nD Cert.KernelSampleIdeal.τ).loc Cert.KernelSampleIdeal.main_arg3) = m ((c.tc : Thread Cert.KernelSampleIdeal.nD Cert.KernelSampleIdeal.τ).loc Cert.KernelSampleIdeal.main_arg3)
      ∧ r.2.mem ((c.tc : Thread Cert.KernelSampleIdeal.nD Cert.KernelSampleIdeal.τ).loc Cert.KernelSampleIdeal.main_arg4) = m ((c.tc : Thread Cert.KernelSampleIdeal.nD Cert.KernelSampleIdeal.τ).loc Cert.KernelSampleIdeal.main_arg4)
      ∧ r.2.mem ((c.tc : Thread Cert.KernelSampleIdeal.nD Cert.KernelSampleIdeal.τ).loc Cert.KernelSampleIdeal.main_arg5) = m ((c.tc : Thread Cert.KernelSampleIdeal.nD Cert.KernelSampleIdeal.τ).loc Cert.KernelSampleIdeal.main_arg5)
      ∧ r.2.mem ((c.tc : Thread Cert.KernelSampleIdeal.nD Cert.KernelSampleIdeal.τ).loc Cert.KernelSampleIdeal.main_arg6) = m ((c.tc : Thread Cert.KernelSampleIdeal.nD Cert.KernelSampleIdeal.τ).loc Cert.KernelSampleIdeal.main_arg6))
      ∧ r.2.sem = fun _ => 0)

def quiescent_KernelSampleIdeal_pre_finite_sample [hKernelSampleIdeal : Cert.KernelSampleIdeal.Facts] [hPre_finite_sample : Cert.Pre_finite_sample.Facts] : Prop :=
  ∀ (m : (ℓ : Loc Cert.KernelSampleIdeal.nD Cert.KernelSampleIdeal.τ Cert.KernelSampleIdeal.sig) → Buf (Elt Ideal) ℓ) (g : Dev Cert.KernelSampleIdeal.nD → PrngReg), Pre_KernelSampleIdeal_finite_sample m →
    θ_run (Cert.KernelSampleIdeal.defs (F := Ideal)) (onTc (τ := Cert.KernelSampleIdeal.τ) (Cert.KernelSampleIdeal.main (F := Ideal))) ⟨m, fun _ => 0, g⟩ (fun r => (∀ c : Dev Cert.KernelSampleIdeal.nD,
      r.2.mem ((c.tc : Thread Cert.KernelSampleIdeal.nD Cert.KernelSampleIdeal.τ).loc Cert.KernelSampleIdeal.main_arg0) = m ((c.tc : Thread Cert.KernelSampleIdeal.nD Cert.KernelSampleIdeal.τ).loc Cert.KernelSampleIdeal.main_arg0)
      ∧ r.2.mem ((c.tc : Thread Cert.KernelSampleIdeal.nD Cert.KernelSampleIdeal.τ).loc Cert.KernelSampleIdeal.main_arg1) = m ((c.tc : Thread Cert.KernelSampleIdeal.nD Cert.KernelSampleIdeal.τ).loc Cert.KernelSampleIdeal.main_arg1)
      ∧ r.2.mem ((c.tc : Thread Cert.KernelSampleIdeal.nD Cert.KernelSampleIdeal.τ).loc Cert.KernelSampleIdeal.main_arg2) = m ((c.tc : Thread Cert.KernelSampleIdeal.nD Cert.KernelSampleIdeal.τ).loc Cert.KernelSampleIdeal.main_arg2)
      ∧ r.2.mem ((c.tc : Thread Cert.KernelSampleIdeal.nD Cert.KernelSampleIdeal.τ).loc Cert.KernelSampleIdeal.main_arg3) = m ((c.tc : Thread Cert.KernelSampleIdeal.nD Cert.KernelSampleIdeal.τ).loc Cert.KernelSampleIdeal.main_arg3)
      ∧ r.2.mem ((c.tc : Thread Cert.KernelSampleIdeal.nD Cert.KernelSampleIdeal.τ).loc Cert.KernelSampleIdeal.main_arg4) = m ((c.tc : Thread Cert.KernelSampleIdeal.nD Cert.KernelSampleIdeal.τ).loc Cert.KernelSampleIdeal.main_arg4)
      ∧ r.2.mem ((c.tc : Thread Cert.KernelSampleIdeal.nD Cert.KernelSampleIdeal.τ).loc Cert.KernelSampleIdeal.main_arg5) = m ((c.tc : Thread Cert.KernelSampleIdeal.nD Cert.KernelSampleIdeal.τ).loc Cert.KernelSampleIdeal.main_arg5)
      ∧ r.2.mem ((c.tc : Thread Cert.KernelSampleIdeal.nD Cert.KernelSampleIdeal.τ).loc Cert.KernelSampleIdeal.main_arg6) = m ((c.tc : Thread Cert.KernelSampleIdeal.nD Cert.KernelSampleIdeal.τ).loc Cert.KernelSampleIdeal.main_arg6))
      ∧ r.2.sem = fun _ => 0)

def quiescent_ReferenceSampleIdeal [hReferenceSampleIdeal : Cert.ReferenceSampleIdeal.Facts] : Prop :=
  ∀ (m : (ℓ : Loc Cert.ReferenceSampleIdeal.nD Cert.ReferenceSampleIdeal.τ Cert.ReferenceSampleIdeal.sig) → Buf (Elt Ideal) ℓ) (g : Dev Cert.ReferenceSampleIdeal.nD → PrngReg), Pre_ReferenceSampleIdeal m →
    θ_run (Cert.ReferenceSampleIdeal.defs (F := Ideal)) (onTc (τ := Cert.ReferenceSampleIdeal.τ) (Cert.ReferenceSampleIdeal.main (F := Ideal))) ⟨m, fun _ => 0, g⟩ (fun r => (∀ c : Dev Cert.ReferenceSampleIdeal.nD,
      r.2.mem ((c.tc : Thread Cert.ReferenceSampleIdeal.nD Cert.ReferenceSampleIdeal.τ).loc Cert.ReferenceSampleIdeal.main_arg0) = m ((c.tc : Thread Cert.ReferenceSampleIdeal.nD Cert.ReferenceSampleIdeal.τ).loc Cert.ReferenceSampleIdeal.main_arg0)
      ∧ r.2.mem ((c.tc : Thread Cert.ReferenceSampleIdeal.nD Cert.ReferenceSampleIdeal.τ).loc Cert.ReferenceSampleIdeal.main_arg1) = m ((c.tc : Thread Cert.ReferenceSampleIdeal.nD Cert.ReferenceSampleIdeal.τ).loc Cert.ReferenceSampleIdeal.main_arg1)
      ∧ r.2.mem ((c.tc : Thread Cert.ReferenceSampleIdeal.nD Cert.ReferenceSampleIdeal.τ).loc Cert.ReferenceSampleIdeal.main_arg2) = m ((c.tc : Thread Cert.ReferenceSampleIdeal.nD Cert.ReferenceSampleIdeal.τ).loc Cert.ReferenceSampleIdeal.main_arg2)
      ∧ r.2.mem ((c.tc : Thread Cert.ReferenceSampleIdeal.nD Cert.ReferenceSampleIdeal.τ).loc Cert.ReferenceSampleIdeal.main_arg3) = m ((c.tc : Thread Cert.ReferenceSampleIdeal.nD Cert.ReferenceSampleIdeal.τ).loc Cert.ReferenceSampleIdeal.main_arg3)
      ∧ r.2.mem ((c.tc : Thread Cert.ReferenceSampleIdeal.nD Cert.ReferenceSampleIdeal.τ).loc Cert.ReferenceSampleIdeal.main_arg4) = m ((c.tc : Thread Cert.ReferenceSampleIdeal.nD Cert.ReferenceSampleIdeal.τ).loc Cert.ReferenceSampleIdeal.main_arg4)
      ∧ r.2.mem ((c.tc : Thread Cert.ReferenceSampleIdeal.nD Cert.ReferenceSampleIdeal.τ).loc Cert.ReferenceSampleIdeal.main_arg5) = m ((c.tc : Thread Cert.ReferenceSampleIdeal.nD Cert.ReferenceSampleIdeal.τ).loc Cert.ReferenceSampleIdeal.main_arg5)
      ∧ r.2.mem ((c.tc : Thread Cert.ReferenceSampleIdeal.nD Cert.ReferenceSampleIdeal.τ).loc Cert.ReferenceSampleIdeal.main_arg6) = m ((c.tc : Thread Cert.ReferenceSampleIdeal.nD Cert.ReferenceSampleIdeal.τ).loc Cert.ReferenceSampleIdeal.main_arg6))
      ∧ r.2.sem = fun _ => 0)

def quiescent_ReferenceSampleIdeal_pre_finite_sample [hReferenceSampleIdeal : Cert.ReferenceSampleIdeal.Facts] [hPre_finite_sample : Cert.Pre_finite_sample.Facts] : Prop :=
  ∀ (m : (ℓ : Loc Cert.ReferenceSampleIdeal.nD Cert.ReferenceSampleIdeal.τ Cert.ReferenceSampleIdeal.sig) → Buf (Elt Ideal) ℓ) (g : Dev Cert.ReferenceSampleIdeal.nD → PrngReg), Pre_ReferenceSampleIdeal_finite_sample m →
    θ_run (Cert.ReferenceSampleIdeal.defs (F := Ideal)) (onTc (τ := Cert.ReferenceSampleIdeal.τ) (Cert.ReferenceSampleIdeal.main (F := Ideal))) ⟨m, fun _ => 0, g⟩ (fun r => (∀ c : Dev Cert.ReferenceSampleIdeal.nD,
      r.2.mem ((c.tc : Thread Cert.ReferenceSampleIdeal.nD Cert.ReferenceSampleIdeal.τ).loc Cert.ReferenceSampleIdeal.main_arg0) = m ((c.tc : Thread Cert.ReferenceSampleIdeal.nD Cert.ReferenceSampleIdeal.τ).loc Cert.ReferenceSampleIdeal.main_arg0)
      ∧ r.2.mem ((c.tc : Thread Cert.ReferenceSampleIdeal.nD Cert.ReferenceSampleIdeal.τ).loc Cert.ReferenceSampleIdeal.main_arg1) = m ((c.tc : Thread Cert.ReferenceSampleIdeal.nD Cert.ReferenceSampleIdeal.τ).loc Cert.ReferenceSampleIdeal.main_arg1)
      ∧ r.2.mem ((c.tc : Thread Cert.ReferenceSampleIdeal.nD Cert.ReferenceSampleIdeal.τ).loc Cert.ReferenceSampleIdeal.main_arg2) = m ((c.tc : Thread Cert.ReferenceSampleIdeal.nD Cert.ReferenceSampleIdeal.τ).loc Cert.ReferenceSampleIdeal.main_arg2)
      ∧ r.2.mem ((c.tc : Thread Cert.ReferenceSampleIdeal.nD Cert.ReferenceSampleIdeal.τ).loc Cert.ReferenceSampleIdeal.main_arg3) = m ((c.tc : Thread Cert.ReferenceSampleIdeal.nD Cert.ReferenceSampleIdeal.τ).loc Cert.ReferenceSampleIdeal.main_arg3)
      ∧ r.2.mem ((c.tc : Thread Cert.ReferenceSampleIdeal.nD Cert.ReferenceSampleIdeal.τ).loc Cert.ReferenceSampleIdeal.main_arg4) = m ((c.tc : Thread Cert.ReferenceSampleIdeal.nD Cert.ReferenceSampleIdeal.τ).loc Cert.ReferenceSampleIdeal.main_arg4)
      ∧ r.2.mem ((c.tc : Thread Cert.ReferenceSampleIdeal.nD Cert.ReferenceSampleIdeal.τ).loc Cert.ReferenceSampleIdeal.main_arg5) = m ((c.tc : Thread Cert.ReferenceSampleIdeal.nD Cert.ReferenceSampleIdeal.τ).loc Cert.ReferenceSampleIdeal.main_arg5)
      ∧ r.2.mem ((c.tc : Thread Cert.ReferenceSampleIdeal.nD Cert.ReferenceSampleIdeal.τ).loc Cert.ReferenceSampleIdeal.main_arg6) = m ((c.tc : Thread Cert.ReferenceSampleIdeal.nD Cert.ReferenceSampleIdeal.τ).loc Cert.ReferenceSampleIdeal.main_arg6))
      ∧ r.2.sem = fun _ => 0)

def quiescent_KernelConfIn [hKernelConfIn : Cert.KernelConfIn.Facts] : Prop :=
  ∀ (m : (ℓ : Loc Cert.KernelConfIn.nD Cert.KernelConfIn.τ Cert.KernelConfIn.sig) → Buf (Elt Bits) ℓ) (g : Dev Cert.KernelConfIn.nD → PrngReg), Pre_KernelConfIn m →
    θ_run (Cert.KernelConfIn.defs (F := Bits)) (onTc (τ := Cert.KernelConfIn.τ) (Cert.KernelConfIn.main (F := Bits))) ⟨m, fun _ => 0, g⟩ (fun r => (∀ c : Dev Cert.KernelConfIn.nD,
      r.2.mem ((c.tc : Thread Cert.KernelConfIn.nD Cert.KernelConfIn.τ).loc Cert.KernelConfIn.main_arg0) = m ((c.tc : Thread Cert.KernelConfIn.nD Cert.KernelConfIn.τ).loc Cert.KernelConfIn.main_arg0)
      ∧ r.2.mem ((c.tc : Thread Cert.KernelConfIn.nD Cert.KernelConfIn.τ).loc Cert.KernelConfIn.main_arg1) = m ((c.tc : Thread Cert.KernelConfIn.nD Cert.KernelConfIn.τ).loc Cert.KernelConfIn.main_arg1)
      ∧ r.2.mem ((c.tc : Thread Cert.KernelConfIn.nD Cert.KernelConfIn.τ).loc Cert.KernelConfIn.main_arg2) = m ((c.tc : Thread Cert.KernelConfIn.nD Cert.KernelConfIn.τ).loc Cert.KernelConfIn.main_arg2))
      ∧ r.2.sem = fun _ => 0)

def quiescent_KernelConfInIdeal [hKernelConfInIdeal : Cert.KernelConfInIdeal.Facts] : Prop :=
  ∀ (m : (ℓ : Loc Cert.KernelConfInIdeal.nD Cert.KernelConfInIdeal.τ Cert.KernelConfInIdeal.sig) → Buf (Elt Ideal) ℓ) (g : Dev Cert.KernelConfInIdeal.nD → PrngReg), Pre_KernelConfInIdeal m →
    θ_run (Cert.KernelConfInIdeal.defs (F := Ideal)) (onTc (τ := Cert.KernelConfInIdeal.τ) (Cert.KernelConfInIdeal.main (F := Ideal))) ⟨m, fun _ => 0, g⟩ (fun r => (∀ c : Dev Cert.KernelConfInIdeal.nD,
      r.2.mem ((c.tc : Thread Cert.KernelConfInIdeal.nD Cert.KernelConfInIdeal.τ).loc Cert.KernelConfInIdeal.main_arg0) = m ((c.tc : Thread Cert.KernelConfInIdeal.nD Cert.KernelConfInIdeal.τ).loc Cert.KernelConfInIdeal.main_arg0)
      ∧ r.2.mem ((c.tc : Thread Cert.KernelConfInIdeal.nD Cert.KernelConfInIdeal.τ).loc Cert.KernelConfInIdeal.main_arg1) = m ((c.tc : Thread Cert.KernelConfInIdeal.nD Cert.KernelConfInIdeal.τ).loc Cert.KernelConfInIdeal.main_arg1)
      ∧ r.2.mem ((c.tc : Thread Cert.KernelConfInIdeal.nD Cert.KernelConfInIdeal.τ).loc Cert.KernelConfInIdeal.main_arg2) = m ((c.tc : Thread Cert.KernelConfInIdeal.nD Cert.KernelConfInIdeal.τ).loc Cert.KernelConfInIdeal.main_arg2))
      ∧ r.2.sem = fun _ => 0)

def quiescent_ReferenceConfInIdeal [hReferenceConfInIdeal : Cert.ReferenceConfInIdeal.Facts] : Prop :=
  ∀ (m : (ℓ : Loc Cert.ReferenceConfInIdeal.nD Cert.ReferenceConfInIdeal.τ Cert.ReferenceConfInIdeal.sig) → Buf (Elt Ideal) ℓ) (g : Dev Cert.ReferenceConfInIdeal.nD → PrngReg), Pre_ReferenceConfInIdeal m →
    θ_run (Cert.ReferenceConfInIdeal.defs (F := Ideal)) (onTc (τ := Cert.ReferenceConfInIdeal.τ) (Cert.ReferenceConfInIdeal.main (F := Ideal))) ⟨m, fun _ => 0, g⟩ (fun r => (∀ c : Dev Cert.ReferenceConfInIdeal.nD,
      r.2.mem ((c.tc : Thread Cert.ReferenceConfInIdeal.nD Cert.ReferenceConfInIdeal.τ).loc Cert.ReferenceConfInIdeal.main_arg0) = m ((c.tc : Thread Cert.ReferenceConfInIdeal.nD Cert.ReferenceConfInIdeal.τ).loc Cert.ReferenceConfInIdeal.main_arg0)
      ∧ r.2.mem ((c.tc : Thread Cert.ReferenceConfInIdeal.nD Cert.ReferenceConfInIdeal.τ).loc Cert.ReferenceConfInIdeal.main_arg1) = m ((c.tc : Thread Cert.ReferenceConfInIdeal.nD Cert.ReferenceConfInIdeal.τ).loc Cert.ReferenceConfInIdeal.main_arg1)
      ∧ r.2.mem ((c.tc : Thread Cert.ReferenceConfInIdeal.nD Cert.ReferenceConfInIdeal.τ).loc Cert.ReferenceConfInIdeal.main_arg2) = m ((c.tc : Thread Cert.ReferenceConfInIdeal.nD Cert.ReferenceConfInIdeal.τ).loc Cert.ReferenceConfInIdeal.main_arg2))
      ∧ r.2.sem = fun _ => 0)

def quiescent_KernelQuery [hKernelQuery : Cert.KernelQuery.Facts] : Prop :=
  ∀ (m : (ℓ : Loc Cert.KernelQuery.nD Cert.KernelQuery.τ Cert.KernelQuery.sig) → Buf (Elt Bits) ℓ) (g : Dev Cert.KernelQuery.nD → PrngReg), Pre_KernelQuery m →
    θ_run (Cert.KernelQuery.defs (F := Bits)) (onTc (τ := Cert.KernelQuery.τ) (Cert.KernelQuery.main (F := Bits))) ⟨m, fun _ => 0, g⟩ (fun r => (∀ c : Dev Cert.KernelQuery.nD,
      r.2.mem ((c.tc : Thread Cert.KernelQuery.nD Cert.KernelQuery.τ).loc Cert.KernelQuery.main_arg0) = m ((c.tc : Thread Cert.KernelQuery.nD Cert.KernelQuery.τ).loc Cert.KernelQuery.main_arg0)
      ∧ r.2.mem ((c.tc : Thread Cert.KernelQuery.nD Cert.KernelQuery.τ).loc Cert.KernelQuery.main_arg1) = m ((c.tc : Thread Cert.KernelQuery.nD Cert.KernelQuery.τ).loc Cert.KernelQuery.main_arg1)
      ∧ r.2.mem ((c.tc : Thread Cert.KernelQuery.nD Cert.KernelQuery.τ).loc Cert.KernelQuery.main_arg2) = m ((c.tc : Thread Cert.KernelQuery.nD Cert.KernelQuery.τ).loc Cert.KernelQuery.main_arg2))
      ∧ r.2.sem = fun _ => 0)

def quiescent_KernelQueryIdeal [hKernelQueryIdeal : Cert.KernelQueryIdeal.Facts] : Prop :=
  ∀ (m : (ℓ : Loc Cert.KernelQueryIdeal.nD Cert.KernelQueryIdeal.τ Cert.KernelQueryIdeal.sig) → Buf (Elt Ideal) ℓ) (g : Dev Cert.KernelQueryIdeal.nD → PrngReg), Pre_KernelQueryIdeal m →
    θ_run (Cert.KernelQueryIdeal.defs (F := Ideal)) (onTc (τ := Cert.KernelQueryIdeal.τ) (Cert.KernelQueryIdeal.main (F := Ideal))) ⟨m, fun _ => 0, g⟩ (fun r => (∀ c : Dev Cert.KernelQueryIdeal.nD,
      r.2.mem ((c.tc : Thread Cert.KernelQueryIdeal.nD Cert.KernelQueryIdeal.τ).loc Cert.KernelQueryIdeal.main_arg0) = m ((c.tc : Thread Cert.KernelQueryIdeal.nD Cert.KernelQueryIdeal.τ).loc Cert.KernelQueryIdeal.main_arg0)
      ∧ r.2.mem ((c.tc : Thread Cert.KernelQueryIdeal.nD Cert.KernelQueryIdeal.τ).loc Cert.KernelQueryIdeal.main_arg1) = m ((c.tc : Thread Cert.KernelQueryIdeal.nD Cert.KernelQueryIdeal.τ).loc Cert.KernelQueryIdeal.main_arg1)
      ∧ r.2.mem ((c.tc : Thread Cert.KernelQueryIdeal.nD Cert.KernelQueryIdeal.τ).loc Cert.KernelQueryIdeal.main_arg2) = m ((c.tc : Thread Cert.KernelQueryIdeal.nD Cert.KernelQueryIdeal.τ).loc Cert.KernelQueryIdeal.main_arg2))
      ∧ r.2.sem = fun _ => 0)

def quiescent_ReferenceQueryIdeal [hReferenceQueryIdeal : Cert.ReferenceQueryIdeal.Facts] : Prop :=
  ∀ (m : (ℓ : Loc Cert.ReferenceQueryIdeal.nD Cert.ReferenceQueryIdeal.τ Cert.ReferenceQueryIdeal.sig) → Buf (Elt Ideal) ℓ) (g : Dev Cert.ReferenceQueryIdeal.nD → PrngReg), Pre_ReferenceQueryIdeal m →
    θ_run (Cert.ReferenceQueryIdeal.defs (F := Ideal)) (onTc (τ := Cert.ReferenceQueryIdeal.τ) (Cert.ReferenceQueryIdeal.main (F := Ideal))) ⟨m, fun _ => 0, g⟩ (fun r => (∀ c : Dev Cert.ReferenceQueryIdeal.nD,
      r.2.mem ((c.tc : Thread Cert.ReferenceQueryIdeal.nD Cert.ReferenceQueryIdeal.τ).loc Cert.ReferenceQueryIdeal.main_arg0) = m ((c.tc : Thread Cert.ReferenceQueryIdeal.nD Cert.ReferenceQueryIdeal.τ).loc Cert.ReferenceQueryIdeal.main_arg0)
      ∧ r.2.mem ((c.tc : Thread Cert.ReferenceQueryIdeal.nD Cert.ReferenceQueryIdeal.τ).loc Cert.ReferenceQueryIdeal.main_arg1) = m ((c.tc : Thread Cert.ReferenceQueryIdeal.nD Cert.ReferenceQueryIdeal.τ).loc Cert.ReferenceQueryIdeal.main_arg1)
      ∧ r.2.mem ((c.tc : Thread Cert.ReferenceQueryIdeal.nD Cert.ReferenceQueryIdeal.τ).loc Cert.ReferenceQueryIdeal.main_arg2) = m ((c.tc : Thread Cert.ReferenceQueryIdeal.nD Cert.ReferenceQueryIdeal.τ).loc Cert.ReferenceQueryIdeal.main_arg2))
      ∧ r.2.sem = fun _ => 0)

def quiescent_KernelCrossOut [hKernelCrossOut : Cert.KernelCrossOut.Facts] : Prop :=
  ∀ (m : (ℓ : Loc Cert.KernelCrossOut.nD Cert.KernelCrossOut.τ Cert.KernelCrossOut.sig) → Buf (Elt Bits) ℓ) (g : Dev Cert.KernelCrossOut.nD → PrngReg), Pre_KernelCrossOut m →
    θ_run (Cert.KernelCrossOut.defs (F := Bits)) (onTc (τ := Cert.KernelCrossOut.τ) (Cert.KernelCrossOut.main (F := Bits))) ⟨m, fun _ => 0, g⟩ (fun r => (∀ c : Dev Cert.KernelCrossOut.nD,
      r.2.mem ((c.tc : Thread Cert.KernelCrossOut.nD Cert.KernelCrossOut.τ).loc Cert.KernelCrossOut.main_arg0) = m ((c.tc : Thread Cert.KernelCrossOut.nD Cert.KernelCrossOut.τ).loc Cert.KernelCrossOut.main_arg0)
      ∧ r.2.mem ((c.tc : Thread Cert.KernelCrossOut.nD Cert.KernelCrossOut.τ).loc Cert.KernelCrossOut.main_arg1) = m ((c.tc : Thread Cert.KernelCrossOut.nD Cert.KernelCrossOut.τ).loc Cert.KernelCrossOut.main_arg1)
      ∧ r.2.mem ((c.tc : Thread Cert.KernelCrossOut.nD Cert.KernelCrossOut.τ).loc Cert.KernelCrossOut.main_arg2) = m ((c.tc : Thread Cert.KernelCrossOut.nD Cert.KernelCrossOut.τ).loc Cert.KernelCrossOut.main_arg2))
      ∧ r.2.sem = fun _ => 0)

def quiescent_KernelCrossOutIdeal [hKernelCrossOutIdeal : Cert.KernelCrossOutIdeal.Facts] : Prop :=
  ∀ (m : (ℓ : Loc Cert.KernelCrossOutIdeal.nD Cert.KernelCrossOutIdeal.τ Cert.KernelCrossOutIdeal.sig) → Buf (Elt Ideal) ℓ) (g : Dev Cert.KernelCrossOutIdeal.nD → PrngReg), Pre_KernelCrossOutIdeal m →
    θ_run (Cert.KernelCrossOutIdeal.defs (F := Ideal)) (onTc (τ := Cert.KernelCrossOutIdeal.τ) (Cert.KernelCrossOutIdeal.main (F := Ideal))) ⟨m, fun _ => 0, g⟩ (fun r => (∀ c : Dev Cert.KernelCrossOutIdeal.nD,
      r.2.mem ((c.tc : Thread Cert.KernelCrossOutIdeal.nD Cert.KernelCrossOutIdeal.τ).loc Cert.KernelCrossOutIdeal.main_arg0) = m ((c.tc : Thread Cert.KernelCrossOutIdeal.nD Cert.KernelCrossOutIdeal.τ).loc Cert.KernelCrossOutIdeal.main_arg0)
      ∧ r.2.mem ((c.tc : Thread Cert.KernelCrossOutIdeal.nD Cert.KernelCrossOutIdeal.τ).loc Cert.KernelCrossOutIdeal.main_arg1) = m ((c.tc : Thread Cert.KernelCrossOutIdeal.nD Cert.KernelCrossOutIdeal.τ).loc Cert.KernelCrossOutIdeal.main_arg1)
      ∧ r.2.mem ((c.tc : Thread Cert.KernelCrossOutIdeal.nD Cert.KernelCrossOutIdeal.τ).loc Cert.KernelCrossOutIdeal.main_arg2) = m ((c.tc : Thread Cert.KernelCrossOutIdeal.nD Cert.KernelCrossOutIdeal.τ).loc Cert.KernelCrossOutIdeal.main_arg2))
      ∧ r.2.sem = fun _ => 0)

def quiescent_ReferenceCrossOutIdeal [hReferenceCrossOutIdeal : Cert.ReferenceCrossOutIdeal.Facts] : Prop :=
  ∀ (m : (ℓ : Loc Cert.ReferenceCrossOutIdeal.nD Cert.ReferenceCrossOutIdeal.τ Cert.ReferenceCrossOutIdeal.sig) → Buf (Elt Ideal) ℓ) (g : Dev Cert.ReferenceCrossOutIdeal.nD → PrngReg), Pre_ReferenceCrossOutIdeal m →
    θ_run (Cert.ReferenceCrossOutIdeal.defs (F := Ideal)) (onTc (τ := Cert.ReferenceCrossOutIdeal.τ) (Cert.ReferenceCrossOutIdeal.main (F := Ideal))) ⟨m, fun _ => 0, g⟩ (fun r => (∀ c : Dev Cert.ReferenceCrossOutIdeal.nD,
      r.2.mem ((c.tc : Thread Cert.ReferenceCrossOutIdeal.nD Cert.ReferenceCrossOutIdeal.τ).loc Cert.ReferenceCrossOutIdeal.main_arg0) = m ((c.tc : Thread Cert.ReferenceCrossOutIdeal.nD Cert.ReferenceCrossOutIdeal.τ).loc Cert.ReferenceCrossOutIdeal.main_arg0)
      ∧ r.2.mem ((c.tc : Thread Cert.ReferenceCrossOutIdeal.nD Cert.ReferenceCrossOutIdeal.τ).loc Cert.ReferenceCrossOutIdeal.main_arg1) = m ((c.tc : Thread Cert.ReferenceCrossOutIdeal.nD Cert.ReferenceCrossOutIdeal.τ).loc Cert.ReferenceCrossOutIdeal.main_arg1)
      ∧ r.2.mem ((c.tc : Thread Cert.ReferenceCrossOutIdeal.nD Cert.ReferenceCrossOutIdeal.τ).loc Cert.ReferenceCrossOutIdeal.main_arg2) = m ((c.tc : Thread Cert.ReferenceCrossOutIdeal.nD Cert.ReferenceCrossOutIdeal.τ).loc Cert.ReferenceCrossOutIdeal.main_arg2))
      ∧ r.2.sem = fun _ => 0)

def quiescent_KernelConf [hKernelConf : Cert.KernelConf.Facts] : Prop :=
  ∀ (m : (ℓ : Loc Cert.KernelConf.nD Cert.KernelConf.τ Cert.KernelConf.sig) → Buf (Elt Bits) ℓ) (g : Dev Cert.KernelConf.nD → PrngReg), Pre_KernelConf m →
    θ_run (Cert.KernelConf.defs (F := Bits)) (onTc (τ := Cert.KernelConf.τ) (Cert.KernelConf.main (F := Bits))) ⟨m, fun _ => 0, g⟩ (fun r => (∀ c : Dev Cert.KernelConf.nD,
      r.2.mem ((c.tc : Thread Cert.KernelConf.nD Cert.KernelConf.τ).loc Cert.KernelConf.main_arg0) = m ((c.tc : Thread Cert.KernelConf.nD Cert.KernelConf.τ).loc Cert.KernelConf.main_arg0)
      ∧ r.2.mem ((c.tc : Thread Cert.KernelConf.nD Cert.KernelConf.τ).loc Cert.KernelConf.main_arg1) = m ((c.tc : Thread Cert.KernelConf.nD Cert.KernelConf.τ).loc Cert.KernelConf.main_arg1)
      ∧ r.2.mem ((c.tc : Thread Cert.KernelConf.nD Cert.KernelConf.τ).loc Cert.KernelConf.main_arg2) = m ((c.tc : Thread Cert.KernelConf.nD Cert.KernelConf.τ).loc Cert.KernelConf.main_arg2)
      ∧ r.2.mem ((c.tc : Thread Cert.KernelConf.nD Cert.KernelConf.τ).loc Cert.KernelConf.main_arg3) = m ((c.tc : Thread Cert.KernelConf.nD Cert.KernelConf.τ).loc Cert.KernelConf.main_arg3)
      ∧ r.2.mem ((c.tc : Thread Cert.KernelConf.nD Cert.KernelConf.τ).loc Cert.KernelConf.main_arg4) = m ((c.tc : Thread Cert.KernelConf.nD Cert.KernelConf.τ).loc Cert.KernelConf.main_arg4)
      ∧ r.2.mem ((c.tc : Thread Cert.KernelConf.nD Cert.KernelConf.τ).loc Cert.KernelConf.main_arg5) = m ((c.tc : Thread Cert.KernelConf.nD Cert.KernelConf.τ).loc Cert.KernelConf.main_arg5)
      ∧ r.2.mem ((c.tc : Thread Cert.KernelConf.nD Cert.KernelConf.τ).loc Cert.KernelConf.main_arg6) = m ((c.tc : Thread Cert.KernelConf.nD Cert.KernelConf.τ).loc Cert.KernelConf.main_arg6))
      ∧ r.2.sem = fun _ => 0)

def quiescent_KernelConfIdeal [hKernelConfIdeal : Cert.KernelConfIdeal.Facts] : Prop :=
  ∀ (m : (ℓ : Loc Cert.KernelConfIdeal.nD Cert.KernelConfIdeal.τ Cert.KernelConfIdeal.sig) → Buf (Elt Ideal) ℓ) (g : Dev Cert.KernelConfIdeal.nD → PrngReg), Pre_KernelConfIdeal m →
    θ_run (Cert.KernelConfIdeal.defs (F := Ideal)) (onTc (τ := Cert.KernelConfIdeal.τ) (Cert.KernelConfIdeal.main (F := Ideal))) ⟨m, fun _ => 0, g⟩ (fun r => (∀ c : Dev Cert.KernelConfIdeal.nD,
      r.2.mem ((c.tc : Thread Cert.KernelConfIdeal.nD Cert.KernelConfIdeal.τ).loc Cert.KernelConfIdeal.main_arg0) = m ((c.tc : Thread Cert.KernelConfIdeal.nD Cert.KernelConfIdeal.τ).loc Cert.KernelConfIdeal.main_arg0)
      ∧ r.2.mem ((c.tc : Thread Cert.KernelConfIdeal.nD Cert.KernelConfIdeal.τ).loc Cert.KernelConfIdeal.main_arg1) = m ((c.tc : Thread Cert.KernelConfIdeal.nD Cert.KernelConfIdeal.τ).loc Cert.KernelConfIdeal.main_arg1)
      ∧ r.2.mem ((c.tc : Thread Cert.KernelConfIdeal.nD Cert.KernelConfIdeal.τ).loc Cert.KernelConfIdeal.main_arg2) = m ((c.tc : Thread Cert.KernelConfIdeal.nD Cert.KernelConfIdeal.τ).loc Cert.KernelConfIdeal.main_arg2)
      ∧ r.2.mem ((c.tc : Thread Cert.KernelConfIdeal.nD Cert.KernelConfIdeal.τ).loc Cert.KernelConfIdeal.main_arg3) = m ((c.tc : Thread Cert.KernelConfIdeal.nD Cert.KernelConfIdeal.τ).loc Cert.KernelConfIdeal.main_arg3)
      ∧ r.2.mem ((c.tc : Thread Cert.KernelConfIdeal.nD Cert.KernelConfIdeal.τ).loc Cert.KernelConfIdeal.main_arg4) = m ((c.tc : Thread Cert.KernelConfIdeal.nD Cert.KernelConfIdeal.τ).loc Cert.KernelConfIdeal.main_arg4)
      ∧ r.2.mem ((c.tc : Thread Cert.KernelConfIdeal.nD Cert.KernelConfIdeal.τ).loc Cert.KernelConfIdeal.main_arg5) = m ((c.tc : Thread Cert.KernelConfIdeal.nD Cert.KernelConfIdeal.τ).loc Cert.KernelConfIdeal.main_arg5)
      ∧ r.2.mem ((c.tc : Thread Cert.KernelConfIdeal.nD Cert.KernelConfIdeal.τ).loc Cert.KernelConfIdeal.main_arg6) = m ((c.tc : Thread Cert.KernelConfIdeal.nD Cert.KernelConfIdeal.τ).loc Cert.KernelConfIdeal.main_arg6))
      ∧ r.2.sem = fun _ => 0)

def quiescent_ReferenceConfIdeal [hReferenceConfIdeal : Cert.ReferenceConfIdeal.Facts] : Prop :=
  ∀ (m : (ℓ : Loc Cert.ReferenceConfIdeal.nD Cert.ReferenceConfIdeal.τ Cert.ReferenceConfIdeal.sig) → Buf (Elt Ideal) ℓ) (g : Dev Cert.ReferenceConfIdeal.nD → PrngReg), Pre_ReferenceConfIdeal m →
    θ_run (Cert.ReferenceConfIdeal.defs (F := Ideal)) (onTc (τ := Cert.ReferenceConfIdeal.τ) (Cert.ReferenceConfIdeal.main (F := Ideal))) ⟨m, fun _ => 0, g⟩ (fun r => (∀ c : Dev Cert.ReferenceConfIdeal.nD,
      r.2.mem ((c.tc : Thread Cert.ReferenceConfIdeal.nD Cert.ReferenceConfIdeal.τ).loc Cert.ReferenceConfIdeal.main_arg0) = m ((c.tc : Thread Cert.ReferenceConfIdeal.nD Cert.ReferenceConfIdeal.τ).loc Cert.ReferenceConfIdeal.main_arg0)
      ∧ r.2.mem ((c.tc : Thread Cert.ReferenceConfIdeal.nD Cert.ReferenceConfIdeal.τ).loc Cert.ReferenceConfIdeal.main_arg1) = m ((c.tc : Thread Cert.ReferenceConfIdeal.nD Cert.ReferenceConfIdeal.τ).loc Cert.ReferenceConfIdeal.main_arg1)
      ∧ r.2.mem ((c.tc : Thread Cert.ReferenceConfIdeal.nD Cert.ReferenceConfIdeal.τ).loc Cert.ReferenceConfIdeal.main_arg2) = m ((c.tc : Thread Cert.ReferenceConfIdeal.nD Cert.ReferenceConfIdeal.τ).loc Cert.ReferenceConfIdeal.main_arg2)
      ∧ r.2.mem ((c.tc : Thread Cert.ReferenceConfIdeal.nD Cert.ReferenceConfIdeal.τ).loc Cert.ReferenceConfIdeal.main_arg3) = m ((c.tc : Thread Cert.ReferenceConfIdeal.nD Cert.ReferenceConfIdeal.τ).loc Cert.ReferenceConfIdeal.main_arg3)
      ∧ r.2.mem ((c.tc : Thread Cert.ReferenceConfIdeal.nD Cert.ReferenceConfIdeal.τ).loc Cert.ReferenceConfIdeal.main_arg4) = m ((c.tc : Thread Cert.ReferenceConfIdeal.nD Cert.ReferenceConfIdeal.τ).loc Cert.ReferenceConfIdeal.main_arg4)
      ∧ r.2.mem ((c.tc : Thread Cert.ReferenceConfIdeal.nD Cert.ReferenceConfIdeal.τ).loc Cert.ReferenceConfIdeal.main_arg5) = m ((c.tc : Thread Cert.ReferenceConfIdeal.nD Cert.ReferenceConfIdeal.τ).loc Cert.ReferenceConfIdeal.main_arg5)
      ∧ r.2.mem ((c.tc : Thread Cert.ReferenceConfIdeal.nD Cert.ReferenceConfIdeal.τ).loc Cert.ReferenceConfIdeal.main_arg6) = m ((c.tc : Thread Cert.ReferenceConfIdeal.nD Cert.ReferenceConfIdeal.τ).loc Cert.ReferenceConfIdeal.main_arg6))
      ∧ r.2.sem = fun _ => 0)

def quiescent_KernelConfSample [hKernelConfSample : Cert.KernelConfSample.Facts] : Prop :=
  ∀ (m : (ℓ : Loc Cert.KernelConfSample.nD Cert.KernelConfSample.τ Cert.KernelConfSample.sig) → Buf (Elt Bits) ℓ) (g : Dev Cert.KernelConfSample.nD → PrngReg), Pre_KernelConfSample m →
    θ_run (Cert.KernelConfSample.defs (F := Bits)) (onTc (τ := Cert.KernelConfSample.τ) (Cert.KernelConfSample.main (F := Bits))) ⟨m, fun _ => 0, g⟩ (fun r => (∀ c : Dev Cert.KernelConfSample.nD,
      r.2.mem ((c.tc : Thread Cert.KernelConfSample.nD Cert.KernelConfSample.τ).loc Cert.KernelConfSample.main_arg0) = m ((c.tc : Thread Cert.KernelConfSample.nD Cert.KernelConfSample.τ).loc Cert.KernelConfSample.main_arg0)
      ∧ r.2.mem ((c.tc : Thread Cert.KernelConfSample.nD Cert.KernelConfSample.τ).loc Cert.KernelConfSample.main_arg1) = m ((c.tc : Thread Cert.KernelConfSample.nD Cert.KernelConfSample.τ).loc Cert.KernelConfSample.main_arg1)
      ∧ r.2.mem ((c.tc : Thread Cert.KernelConfSample.nD Cert.KernelConfSample.τ).loc Cert.KernelConfSample.main_arg2) = m ((c.tc : Thread Cert.KernelConfSample.nD Cert.KernelConfSample.τ).loc Cert.KernelConfSample.main_arg2)
      ∧ r.2.mem ((c.tc : Thread Cert.KernelConfSample.nD Cert.KernelConfSample.τ).loc Cert.KernelConfSample.main_arg3) = m ((c.tc : Thread Cert.KernelConfSample.nD Cert.KernelConfSample.τ).loc Cert.KernelConfSample.main_arg3)
      ∧ r.2.mem ((c.tc : Thread Cert.KernelConfSample.nD Cert.KernelConfSample.τ).loc Cert.KernelConfSample.main_arg4) = m ((c.tc : Thread Cert.KernelConfSample.nD Cert.KernelConfSample.τ).loc Cert.KernelConfSample.main_arg4)
      ∧ r.2.mem ((c.tc : Thread Cert.KernelConfSample.nD Cert.KernelConfSample.τ).loc Cert.KernelConfSample.main_arg5) = m ((c.tc : Thread Cert.KernelConfSample.nD Cert.KernelConfSample.τ).loc Cert.KernelConfSample.main_arg5)
      ∧ r.2.mem ((c.tc : Thread Cert.KernelConfSample.nD Cert.KernelConfSample.τ).loc Cert.KernelConfSample.main_arg6) = m ((c.tc : Thread Cert.KernelConfSample.nD Cert.KernelConfSample.τ).loc Cert.KernelConfSample.main_arg6)
      ∧ r.2.mem ((c.tc : Thread Cert.KernelConfSample.nD Cert.KernelConfSample.τ).loc Cert.KernelConfSample.main_arg7) = m ((c.tc : Thread Cert.KernelConfSample.nD Cert.KernelConfSample.τ).loc Cert.KernelConfSample.main_arg7))
      ∧ r.2.sem = fun _ => 0)

def quiescent_KernelConfSampleIdeal [hKernelConfSampleIdeal : Cert.KernelConfSampleIdeal.Facts] : Prop :=
  ∀ (m : (ℓ : Loc Cert.KernelConfSampleIdeal.nD Cert.KernelConfSampleIdeal.τ Cert.KernelConfSampleIdeal.sig) → Buf (Elt Ideal) ℓ) (g : Dev Cert.KernelConfSampleIdeal.nD → PrngReg), Pre_KernelConfSampleIdeal m →
    θ_run (Cert.KernelConfSampleIdeal.defs (F := Ideal)) (onTc (τ := Cert.KernelConfSampleIdeal.τ) (Cert.KernelConfSampleIdeal.main (F := Ideal))) ⟨m, fun _ => 0, g⟩ (fun r => (∀ c : Dev Cert.KernelConfSampleIdeal.nD,
      r.2.mem ((c.tc : Thread Cert.KernelConfSampleIdeal.nD Cert.KernelConfSampleIdeal.τ).loc Cert.KernelConfSampleIdeal.main_arg0) = m ((c.tc : Thread Cert.KernelConfSampleIdeal.nD Cert.KernelConfSampleIdeal.τ).loc Cert.KernelConfSampleIdeal.main_arg0)
      ∧ r.2.mem ((c.tc : Thread Cert.KernelConfSampleIdeal.nD Cert.KernelConfSampleIdeal.τ).loc Cert.KernelConfSampleIdeal.main_arg1) = m ((c.tc : Thread Cert.KernelConfSampleIdeal.nD Cert.KernelConfSampleIdeal.τ).loc Cert.KernelConfSampleIdeal.main_arg1)
      ∧ r.2.mem ((c.tc : Thread Cert.KernelConfSampleIdeal.nD Cert.KernelConfSampleIdeal.τ).loc Cert.KernelConfSampleIdeal.main_arg2) = m ((c.tc : Thread Cert.KernelConfSampleIdeal.nD Cert.KernelConfSampleIdeal.τ).loc Cert.KernelConfSampleIdeal.main_arg2)
      ∧ r.2.mem ((c.tc : Thread Cert.KernelConfSampleIdeal.nD Cert.KernelConfSampleIdeal.τ).loc Cert.KernelConfSampleIdeal.main_arg3) = m ((c.tc : Thread Cert.KernelConfSampleIdeal.nD Cert.KernelConfSampleIdeal.τ).loc Cert.KernelConfSampleIdeal.main_arg3)
      ∧ r.2.mem ((c.tc : Thread Cert.KernelConfSampleIdeal.nD Cert.KernelConfSampleIdeal.τ).loc Cert.KernelConfSampleIdeal.main_arg4) = m ((c.tc : Thread Cert.KernelConfSampleIdeal.nD Cert.KernelConfSampleIdeal.τ).loc Cert.KernelConfSampleIdeal.main_arg4)
      ∧ r.2.mem ((c.tc : Thread Cert.KernelConfSampleIdeal.nD Cert.KernelConfSampleIdeal.τ).loc Cert.KernelConfSampleIdeal.main_arg5) = m ((c.tc : Thread Cert.KernelConfSampleIdeal.nD Cert.KernelConfSampleIdeal.τ).loc Cert.KernelConfSampleIdeal.main_arg5)
      ∧ r.2.mem ((c.tc : Thread Cert.KernelConfSampleIdeal.nD Cert.KernelConfSampleIdeal.τ).loc Cert.KernelConfSampleIdeal.main_arg6) = m ((c.tc : Thread Cert.KernelConfSampleIdeal.nD Cert.KernelConfSampleIdeal.τ).loc Cert.KernelConfSampleIdeal.main_arg6)
      ∧ r.2.mem ((c.tc : Thread Cert.KernelConfSampleIdeal.nD Cert.KernelConfSampleIdeal.τ).loc Cert.KernelConfSampleIdeal.main_arg7) = m ((c.tc : Thread Cert.KernelConfSampleIdeal.nD Cert.KernelConfSampleIdeal.τ).loc Cert.KernelConfSampleIdeal.main_arg7))
      ∧ r.2.sem = fun _ => 0)

def quiescent_ReferenceConfSampleIdeal [hReferenceConfSampleIdeal : Cert.ReferenceConfSampleIdeal.Facts] : Prop :=
  ∀ (m : (ℓ : Loc Cert.ReferenceConfSampleIdeal.nD Cert.ReferenceConfSampleIdeal.τ Cert.ReferenceConfSampleIdeal.sig) → Buf (Elt Ideal) ℓ) (g : Dev Cert.ReferenceConfSampleIdeal.nD → PrngReg), Pre_ReferenceConfSampleIdeal m →
    θ_run (Cert.ReferenceConfSampleIdeal.defs (F := Ideal)) (onTc (τ := Cert.ReferenceConfSampleIdeal.τ) (Cert.ReferenceConfSampleIdeal.main (F := Ideal))) ⟨m, fun _ => 0, g⟩ (fun r => (∀ c : Dev Cert.ReferenceConfSampleIdeal.nD,
      r.2.mem ((c.tc : Thread Cert.ReferenceConfSampleIdeal.nD Cert.ReferenceConfSampleIdeal.τ).loc Cert.ReferenceConfSampleIdeal.main_arg0) = m ((c.tc : Thread Cert.ReferenceConfSampleIdeal.nD Cert.ReferenceConfSampleIdeal.τ).loc Cert.ReferenceConfSampleIdeal.main_arg0)
      ∧ r.2.mem ((c.tc : Thread Cert.ReferenceConfSampleIdeal.nD Cert.ReferenceConfSampleIdeal.τ).loc Cert.ReferenceConfSampleIdeal.main_arg1) = m ((c.tc : Thread Cert.ReferenceConfSampleIdeal.nD Cert.ReferenceConfSampleIdeal.τ).loc Cert.ReferenceConfSampleIdeal.main_arg1)
      ∧ r.2.mem ((c.tc : Thread Cert.ReferenceConfSampleIdeal.nD Cert.ReferenceConfSampleIdeal.τ).loc Cert.ReferenceConfSampleIdeal.main_arg2) = m ((c.tc : Thread Cert.ReferenceConfSampleIdeal.nD Cert.ReferenceConfSampleIdeal.τ).loc Cert.ReferenceConfSampleIdeal.main_arg2)
      ∧ r.2.mem ((c.tc : Thread Cert.ReferenceConfSampleIdeal.nD Cert.ReferenceConfSampleIdeal.τ).loc Cert.ReferenceConfSampleIdeal.main_arg3) = m ((c.tc : Thread Cert.ReferenceConfSampleIdeal.nD Cert.ReferenceConfSampleIdeal.τ).loc Cert.ReferenceConfSampleIdeal.main_arg3)
      ∧ r.2.mem ((c.tc : Thread Cert.ReferenceConfSampleIdeal.nD Cert.ReferenceConfSampleIdeal.τ).loc Cert.ReferenceConfSampleIdeal.main_arg4) = m ((c.tc : Thread Cert.ReferenceConfSampleIdeal.nD Cert.ReferenceConfSampleIdeal.τ).loc Cert.ReferenceConfSampleIdeal.main_arg4)
      ∧ r.2.mem ((c.tc : Thread Cert.ReferenceConfSampleIdeal.nD Cert.ReferenceConfSampleIdeal.τ).loc Cert.ReferenceConfSampleIdeal.main_arg5) = m ((c.tc : Thread Cert.ReferenceConfSampleIdeal.nD Cert.ReferenceConfSampleIdeal.τ).loc Cert.ReferenceConfSampleIdeal.main_arg5)
      ∧ r.2.mem ((c.tc : Thread Cert.ReferenceConfSampleIdeal.nD Cert.ReferenceConfSampleIdeal.τ).loc Cert.ReferenceConfSampleIdeal.main_arg6) = m ((c.tc : Thread Cert.ReferenceConfSampleIdeal.nD Cert.ReferenceConfSampleIdeal.τ).loc Cert.ReferenceConfSampleIdeal.main_arg6)
      ∧ r.2.mem ((c.tc : Thread Cert.ReferenceConfSampleIdeal.nD Cert.ReferenceConfSampleIdeal.τ).loc Cert.ReferenceConfSampleIdeal.main_arg7) = m ((c.tc : Thread Cert.ReferenceConfSampleIdeal.nD Cert.ReferenceConfSampleIdeal.τ).loc Cert.ReferenceConfSampleIdeal.main_arg7))
      ∧ r.2.sem = fun _ => 0)

def quiescent_KernelSsdSample [hKernelSsdSample : Cert.KernelSsdSample.Facts] : Prop :=
  ∀ (m : (ℓ : Loc Cert.KernelSsdSample.nD Cert.KernelSsdSample.τ Cert.KernelSsdSample.sig) → Buf (Elt Bits) ℓ) (g : Dev Cert.KernelSsdSample.nD → PrngReg), Pre_KernelSsdSample m →
    θ_run (Cert.KernelSsdSample.defs (F := Bits)) (onTc (τ := Cert.KernelSsdSample.τ) (Cert.KernelSsdSample.main (F := Bits))) ⟨m, fun _ => 0, g⟩ (fun r => (∀ c : Dev Cert.KernelSsdSample.nD,
      r.2.mem ((c.tc : Thread Cert.KernelSsdSample.nD Cert.KernelSsdSample.τ).loc Cert.KernelSsdSample.main_arg0) = m ((c.tc : Thread Cert.KernelSsdSample.nD Cert.KernelSsdSample.τ).loc Cert.KernelSsdSample.main_arg0)
      ∧ r.2.mem ((c.tc : Thread Cert.KernelSsdSample.nD Cert.KernelSsdSample.τ).loc Cert.KernelSsdSample.main_arg1) = m ((c.tc : Thread Cert.KernelSsdSample.nD Cert.KernelSsdSample.τ).loc Cert.KernelSsdSample.main_arg1)
      ∧ r.2.mem ((c.tc : Thread Cert.KernelSsdSample.nD Cert.KernelSsdSample.τ).loc Cert.KernelSsdSample.main_arg2) = m ((c.tc : Thread Cert.KernelSsdSample.nD Cert.KernelSsdSample.τ).loc Cert.KernelSsdSample.main_arg2)
      ∧ r.2.mem ((c.tc : Thread Cert.KernelSsdSample.nD Cert.KernelSsdSample.τ).loc Cert.KernelSsdSample.main_arg3) = m ((c.tc : Thread Cert.KernelSsdSample.nD Cert.KernelSsdSample.τ).loc Cert.KernelSsdSample.main_arg3)
      ∧ r.2.mem ((c.tc : Thread Cert.KernelSsdSample.nD Cert.KernelSsdSample.τ).loc Cert.KernelSsdSample.main_arg4) = m ((c.tc : Thread Cert.KernelSsdSample.nD Cert.KernelSsdSample.τ).loc Cert.KernelSsdSample.main_arg4)
      ∧ r.2.mem ((c.tc : Thread Cert.KernelSsdSample.nD Cert.KernelSsdSample.τ).loc Cert.KernelSsdSample.main_arg5) = m ((c.tc : Thread Cert.KernelSsdSample.nD Cert.KernelSsdSample.τ).loc Cert.KernelSsdSample.main_arg5)
      ∧ r.2.mem ((c.tc : Thread Cert.KernelSsdSample.nD Cert.KernelSsdSample.τ).loc Cert.KernelSsdSample.main_arg6) = m ((c.tc : Thread Cert.KernelSsdSample.nD Cert.KernelSsdSample.τ).loc Cert.KernelSsdSample.main_arg6)
      ∧ r.2.mem ((c.tc : Thread Cert.KernelSsdSample.nD Cert.KernelSsdSample.τ).loc Cert.KernelSsdSample.main_arg7) = m ((c.tc : Thread Cert.KernelSsdSample.nD Cert.KernelSsdSample.τ).loc Cert.KernelSsdSample.main_arg7)
      ∧ r.2.mem ((c.tc : Thread Cert.KernelSsdSample.nD Cert.KernelSsdSample.τ).loc Cert.KernelSsdSample.main_arg8) = m ((c.tc : Thread Cert.KernelSsdSample.nD Cert.KernelSsdSample.τ).loc Cert.KernelSsdSample.main_arg8))
      ∧ r.2.sem = fun _ => 0)

def quiescent_KernelSsdSampleIdeal [hKernelSsdSampleIdeal : Cert.KernelSsdSampleIdeal.Facts] : Prop :=
  ∀ (m : (ℓ : Loc Cert.KernelSsdSampleIdeal.nD Cert.KernelSsdSampleIdeal.τ Cert.KernelSsdSampleIdeal.sig) → Buf (Elt Ideal) ℓ) (g : Dev Cert.KernelSsdSampleIdeal.nD → PrngReg), Pre_KernelSsdSampleIdeal m →
    θ_run (Cert.KernelSsdSampleIdeal.defs (F := Ideal)) (onTc (τ := Cert.KernelSsdSampleIdeal.τ) (Cert.KernelSsdSampleIdeal.main (F := Ideal))) ⟨m, fun _ => 0, g⟩ (fun r => (∀ c : Dev Cert.KernelSsdSampleIdeal.nD,
      r.2.mem ((c.tc : Thread Cert.KernelSsdSampleIdeal.nD Cert.KernelSsdSampleIdeal.τ).loc Cert.KernelSsdSampleIdeal.main_arg0) = m ((c.tc : Thread Cert.KernelSsdSampleIdeal.nD Cert.KernelSsdSampleIdeal.τ).loc Cert.KernelSsdSampleIdeal.main_arg0)
      ∧ r.2.mem ((c.tc : Thread Cert.KernelSsdSampleIdeal.nD Cert.KernelSsdSampleIdeal.τ).loc Cert.KernelSsdSampleIdeal.main_arg1) = m ((c.tc : Thread Cert.KernelSsdSampleIdeal.nD Cert.KernelSsdSampleIdeal.τ).loc Cert.KernelSsdSampleIdeal.main_arg1)
      ∧ r.2.mem ((c.tc : Thread Cert.KernelSsdSampleIdeal.nD Cert.KernelSsdSampleIdeal.τ).loc Cert.KernelSsdSampleIdeal.main_arg2) = m ((c.tc : Thread Cert.KernelSsdSampleIdeal.nD Cert.KernelSsdSampleIdeal.τ).loc Cert.KernelSsdSampleIdeal.main_arg2)
      ∧ r.2.mem ((c.tc : Thread Cert.KernelSsdSampleIdeal.nD Cert.KernelSsdSampleIdeal.τ).loc Cert.KernelSsdSampleIdeal.main_arg3) = m ((c.tc : Thread Cert.KernelSsdSampleIdeal.nD Cert.KernelSsdSampleIdeal.τ).loc Cert.KernelSsdSampleIdeal.main_arg3)
      ∧ r.2.mem ((c.tc : Thread Cert.KernelSsdSampleIdeal.nD Cert.KernelSsdSampleIdeal.τ).loc Cert.KernelSsdSampleIdeal.main_arg4) = m ((c.tc : Thread Cert.KernelSsdSampleIdeal.nD Cert.KernelSsdSampleIdeal.τ).loc Cert.KernelSsdSampleIdeal.main_arg4)
      ∧ r.2.mem ((c.tc : Thread Cert.KernelSsdSampleIdeal.nD Cert.KernelSsdSampleIdeal.τ).loc Cert.KernelSsdSampleIdeal.main_arg5) = m ((c.tc : Thread Cert.KernelSsdSampleIdeal.nD Cert.KernelSsdSampleIdeal.τ).loc Cert.KernelSsdSampleIdeal.main_arg5)
      ∧ r.2.mem ((c.tc : Thread Cert.KernelSsdSampleIdeal.nD Cert.KernelSsdSampleIdeal.τ).loc Cert.KernelSsdSampleIdeal.main_arg6) = m ((c.tc : Thread Cert.KernelSsdSampleIdeal.nD Cert.KernelSsdSampleIdeal.τ).loc Cert.KernelSsdSampleIdeal.main_arg6)
      ∧ r.2.mem ((c.tc : Thread Cert.KernelSsdSampleIdeal.nD Cert.KernelSsdSampleIdeal.τ).loc Cert.KernelSsdSampleIdeal.main_arg7) = m ((c.tc : Thread Cert.KernelSsdSampleIdeal.nD Cert.KernelSsdSampleIdeal.τ).loc Cert.KernelSsdSampleIdeal.main_arg7)
      ∧ r.2.mem ((c.tc : Thread Cert.KernelSsdSampleIdeal.nD Cert.KernelSsdSampleIdeal.τ).loc Cert.KernelSsdSampleIdeal.main_arg8) = m ((c.tc : Thread Cert.KernelSsdSampleIdeal.nD Cert.KernelSsdSampleIdeal.τ).loc Cert.KernelSsdSampleIdeal.main_arg8))
      ∧ r.2.sem = fun _ => 0)

def quiescent_ReferenceSsdSampleIdeal [hReferenceSsdSampleIdeal : Cert.ReferenceSsdSampleIdeal.Facts] : Prop :=
  ∀ (m : (ℓ : Loc Cert.ReferenceSsdSampleIdeal.nD Cert.ReferenceSsdSampleIdeal.τ Cert.ReferenceSsdSampleIdeal.sig) → Buf (Elt Ideal) ℓ) (g : Dev Cert.ReferenceSsdSampleIdeal.nD → PrngReg), Pre_ReferenceSsdSampleIdeal m →
    θ_run (Cert.ReferenceSsdSampleIdeal.defs (F := Ideal)) (onTc (τ := Cert.ReferenceSsdSampleIdeal.τ) (Cert.ReferenceSsdSampleIdeal.main (F := Ideal))) ⟨m, fun _ => 0, g⟩ (fun r => (∀ c : Dev Cert.ReferenceSsdSampleIdeal.nD,
      r.2.mem ((c.tc : Thread Cert.ReferenceSsdSampleIdeal.nD Cert.ReferenceSsdSampleIdeal.τ).loc Cert.ReferenceSsdSampleIdeal.main_arg0) = m ((c.tc : Thread Cert.ReferenceSsdSampleIdeal.nD Cert.ReferenceSsdSampleIdeal.τ).loc Cert.ReferenceSsdSampleIdeal.main_arg0)
      ∧ r.2.mem ((c.tc : Thread Cert.ReferenceSsdSampleIdeal.nD Cert.ReferenceSsdSampleIdeal.τ).loc Cert.ReferenceSsdSampleIdeal.main_arg1) = m ((c.tc : Thread Cert.ReferenceSsdSampleIdeal.nD Cert.ReferenceSsdSampleIdeal.τ).loc Cert.ReferenceSsdSampleIdeal.main_arg1)
      ∧ r.2.mem ((c.tc : Thread Cert.ReferenceSsdSampleIdeal.nD Cert.ReferenceSsdSampleIdeal.τ).loc Cert.ReferenceSsdSampleIdeal.main_arg2) = m ((c.tc : Thread Cert.ReferenceSsdSampleIdeal.nD Cert.ReferenceSsdSampleIdeal.τ).loc Cert.ReferenceSsdSampleIdeal.main_arg2)
      ∧ r.2.mem ((c.tc : Thread Cert.ReferenceSsdSampleIdeal.nD Cert.ReferenceSsdSampleIdeal.τ).loc Cert.ReferenceSsdSampleIdeal.main_arg3) = m ((c.tc : Thread Cert.ReferenceSsdSampleIdeal.nD Cert.ReferenceSsdSampleIdeal.τ).loc Cert.ReferenceSsdSampleIdeal.main_arg3)
      ∧ r.2.mem ((c.tc : Thread Cert.ReferenceSsdSampleIdeal.nD Cert.ReferenceSsdSampleIdeal.τ).loc Cert.ReferenceSsdSampleIdeal.main_arg4) = m ((c.tc : Thread Cert.ReferenceSsdSampleIdeal.nD Cert.ReferenceSsdSampleIdeal.τ).loc Cert.ReferenceSsdSampleIdeal.main_arg4)
      ∧ r.2.mem ((c.tc : Thread Cert.ReferenceSsdSampleIdeal.nD Cert.ReferenceSsdSampleIdeal.τ).loc Cert.ReferenceSsdSampleIdeal.main_arg5) = m ((c.tc : Thread Cert.ReferenceSsdSampleIdeal.nD Cert.ReferenceSsdSampleIdeal.τ).loc Cert.ReferenceSsdSampleIdeal.main_arg5)
      ∧ r.2.mem ((c.tc : Thread Cert.ReferenceSsdSampleIdeal.nD Cert.ReferenceSsdSampleIdeal.τ).loc Cert.ReferenceSsdSampleIdeal.main_arg6) = m ((c.tc : Thread Cert.ReferenceSsdSampleIdeal.nD Cert.ReferenceSsdSampleIdeal.τ).loc Cert.ReferenceSsdSampleIdeal.main_arg6)
      ∧ r.2.mem ((c.tc : Thread Cert.ReferenceSsdSampleIdeal.nD Cert.ReferenceSsdSampleIdeal.τ).loc Cert.ReferenceSsdSampleIdeal.main_arg7) = m ((c.tc : Thread Cert.ReferenceSsdSampleIdeal.nD Cert.ReferenceSsdSampleIdeal.τ).loc Cert.ReferenceSsdSampleIdeal.main_arg7)
      ∧ r.2.mem ((c.tc : Thread Cert.ReferenceSsdSampleIdeal.nD Cert.ReferenceSsdSampleIdeal.τ).loc Cert.ReferenceSsdSampleIdeal.main_arg8) = m ((c.tc : Thread Cert.ReferenceSsdSampleIdeal.nD Cert.ReferenceSsdSampleIdeal.τ).loc Cert.ReferenceSsdSampleIdeal.main_arg8))
      ∧ r.2.sem = fun _ => 0)

def quiescent_KernelSsd [hKernelSsd : Cert.KernelSsd.Facts] : Prop :=
  ∀ (m : (ℓ : Loc Cert.KernelSsd.nD Cert.KernelSsd.τ Cert.KernelSsd.sig) → Buf (Elt Bits) ℓ) (g : Dev Cert.KernelSsd.nD → PrngReg), Pre_KernelSsd m →
    θ_run (Cert.KernelSsd.defs (F := Bits)) (onTc (τ := Cert.KernelSsd.τ) (Cert.KernelSsd.main (F := Bits))) ⟨m, fun _ => 0, g⟩ (fun r => (∀ c : Dev Cert.KernelSsd.nD,
      r.2.mem ((c.tc : Thread Cert.KernelSsd.nD Cert.KernelSsd.τ).loc Cert.KernelSsd.main_arg0) = m ((c.tc : Thread Cert.KernelSsd.nD Cert.KernelSsd.τ).loc Cert.KernelSsd.main_arg0)
      ∧ r.2.mem ((c.tc : Thread Cert.KernelSsd.nD Cert.KernelSsd.τ).loc Cert.KernelSsd.main_arg1) = m ((c.tc : Thread Cert.KernelSsd.nD Cert.KernelSsd.τ).loc Cert.KernelSsd.main_arg1)
      ∧ r.2.mem ((c.tc : Thread Cert.KernelSsd.nD Cert.KernelSsd.τ).loc Cert.KernelSsd.main_arg2) = m ((c.tc : Thread Cert.KernelSsd.nD Cert.KernelSsd.τ).loc Cert.KernelSsd.main_arg2)
      ∧ r.2.mem ((c.tc : Thread Cert.KernelSsd.nD Cert.KernelSsd.τ).loc Cert.KernelSsd.main_arg3) = m ((c.tc : Thread Cert.KernelSsd.nD Cert.KernelSsd.τ).loc Cert.KernelSsd.main_arg3)
      ∧ r.2.mem ((c.tc : Thread Cert.KernelSsd.nD Cert.KernelSsd.τ).loc Cert.KernelSsd.main_arg4) = m ((c.tc : Thread Cert.KernelSsd.nD Cert.KernelSsd.τ).loc Cert.KernelSsd.main_arg4)
      ∧ r.2.mem ((c.tc : Thread Cert.KernelSsd.nD Cert.KernelSsd.τ).loc Cert.KernelSsd.main_arg5) = m ((c.tc : Thread Cert.KernelSsd.nD Cert.KernelSsd.τ).loc Cert.KernelSsd.main_arg5)
      ∧ r.2.mem ((c.tc : Thread Cert.KernelSsd.nD Cert.KernelSsd.τ).loc Cert.KernelSsd.main_arg6) = m ((c.tc : Thread Cert.KernelSsd.nD Cert.KernelSsd.τ).loc Cert.KernelSsd.main_arg6))
      ∧ r.2.sem = fun _ => 0)

def quiescent_KernelSsdIdeal [hKernelSsdIdeal : Cert.KernelSsdIdeal.Facts] : Prop :=
  ∀ (m : (ℓ : Loc Cert.KernelSsdIdeal.nD Cert.KernelSsdIdeal.τ Cert.KernelSsdIdeal.sig) → Buf (Elt Ideal) ℓ) (g : Dev Cert.KernelSsdIdeal.nD → PrngReg), Pre_KernelSsdIdeal m →
    θ_run (Cert.KernelSsdIdeal.defs (F := Ideal)) (onTc (τ := Cert.KernelSsdIdeal.τ) (Cert.KernelSsdIdeal.main (F := Ideal))) ⟨m, fun _ => 0, g⟩ (fun r => (∀ c : Dev Cert.KernelSsdIdeal.nD,
      r.2.mem ((c.tc : Thread Cert.KernelSsdIdeal.nD Cert.KernelSsdIdeal.τ).loc Cert.KernelSsdIdeal.main_arg0) = m ((c.tc : Thread Cert.KernelSsdIdeal.nD Cert.KernelSsdIdeal.τ).loc Cert.KernelSsdIdeal.main_arg0)
      ∧ r.2.mem ((c.tc : Thread Cert.KernelSsdIdeal.nD Cert.KernelSsdIdeal.τ).loc Cert.KernelSsdIdeal.main_arg1) = m ((c.tc : Thread Cert.KernelSsdIdeal.nD Cert.KernelSsdIdeal.τ).loc Cert.KernelSsdIdeal.main_arg1)
      ∧ r.2.mem ((c.tc : Thread Cert.KernelSsdIdeal.nD Cert.KernelSsdIdeal.τ).loc Cert.KernelSsdIdeal.main_arg2) = m ((c.tc : Thread Cert.KernelSsdIdeal.nD Cert.KernelSsdIdeal.τ).loc Cert.KernelSsdIdeal.main_arg2)
      ∧ r.2.mem ((c.tc : Thread Cert.KernelSsdIdeal.nD Cert.KernelSsdIdeal.τ).loc Cert.KernelSsdIdeal.main_arg3) = m ((c.tc : Thread Cert.KernelSsdIdeal.nD Cert.KernelSsdIdeal.τ).loc Cert.KernelSsdIdeal.main_arg3)
      ∧ r.2.mem ((c.tc : Thread Cert.KernelSsdIdeal.nD Cert.KernelSsdIdeal.τ).loc Cert.KernelSsdIdeal.main_arg4) = m ((c.tc : Thread Cert.KernelSsdIdeal.nD Cert.KernelSsdIdeal.τ).loc Cert.KernelSsdIdeal.main_arg4)
      ∧ r.2.mem ((c.tc : Thread Cert.KernelSsdIdeal.nD Cert.KernelSsdIdeal.τ).loc Cert.KernelSsdIdeal.main_arg5) = m ((c.tc : Thread Cert.KernelSsdIdeal.nD Cert.KernelSsdIdeal.τ).loc Cert.KernelSsdIdeal.main_arg5)
      ∧ r.2.mem ((c.tc : Thread Cert.KernelSsdIdeal.nD Cert.KernelSsdIdeal.τ).loc Cert.KernelSsdIdeal.main_arg6) = m ((c.tc : Thread Cert.KernelSsdIdeal.nD Cert.KernelSsdIdeal.τ).loc Cert.KernelSsdIdeal.main_arg6))
      ∧ r.2.sem = fun _ => 0)

def quiescent_ReferenceSsdIdeal [hReferenceSsdIdeal : Cert.ReferenceSsdIdeal.Facts] : Prop :=
  ∀ (m : (ℓ : Loc Cert.ReferenceSsdIdeal.nD Cert.ReferenceSsdIdeal.τ Cert.ReferenceSsdIdeal.sig) → Buf (Elt Ideal) ℓ) (g : Dev Cert.ReferenceSsdIdeal.nD → PrngReg), Pre_ReferenceSsdIdeal m →
    θ_run (Cert.ReferenceSsdIdeal.defs (F := Ideal)) (onTc (τ := Cert.ReferenceSsdIdeal.τ) (Cert.ReferenceSsdIdeal.main (F := Ideal))) ⟨m, fun _ => 0, g⟩ (fun r => (∀ c : Dev Cert.ReferenceSsdIdeal.nD,
      r.2.mem ((c.tc : Thread Cert.ReferenceSsdIdeal.nD Cert.ReferenceSsdIdeal.τ).loc Cert.ReferenceSsdIdeal.main_arg0) = m ((c.tc : Thread Cert.ReferenceSsdIdeal.nD Cert.ReferenceSsdIdeal.τ).loc Cert.ReferenceSsdIdeal.main_arg0)
      ∧ r.2.mem ((c.tc : Thread Cert.ReferenceSsdIdeal.nD Cert.ReferenceSsdIdeal.τ).loc Cert.ReferenceSsdIdeal.main_arg1) = m ((c.tc : Thread Cert.ReferenceSsdIdeal.nD Cert.ReferenceSsdIdeal.τ).loc Cert.ReferenceSsdIdeal.main_arg1)
      ∧ r.2.mem ((c.tc : Thread Cert.ReferenceSsdIdeal.nD Cert.ReferenceSsdIdeal.τ).loc Cert.ReferenceSsdIdeal.main_arg2) = m ((c.tc : Thread Cert.ReferenceSsdIdeal.nD Cert.ReferenceSsdIdeal.τ).loc Cert.ReferenceSsdIdeal.main_arg2)
      ∧ r.2.mem ((c.tc : Thread Cert.ReferenceSsdIdeal.nD Cert.ReferenceSsdIdeal.τ).loc Cert.ReferenceSsdIdeal.main_arg3) = m ((c.tc : Thread Cert.ReferenceSsdIdeal.nD Cert.ReferenceSsdIdeal.τ).loc Cert.ReferenceSsdIdeal.main_arg3)
      ∧ r.2.mem ((c.tc : Thread Cert.ReferenceSsdIdeal.nD Cert.ReferenceSsdIdeal.τ).loc Cert.ReferenceSsdIdeal.main_arg4) = m ((c.tc : Thread Cert.ReferenceSsdIdeal.nD Cert.ReferenceSsdIdeal.τ).loc Cert.ReferenceSsdIdeal.main_arg4)
      ∧ r.2.mem ((c.tc : Thread Cert.ReferenceSsdIdeal.nD Cert.ReferenceSsdIdeal.τ).loc Cert.ReferenceSsdIdeal.main_arg5) = m ((c.tc : Thread Cert.ReferenceSsdIdeal.nD Cert.ReferenceSsdIdeal.τ).loc Cert.ReferenceSsdIdeal.main_arg5)
      ∧ r.2.mem ((c.tc : Thread Cert.ReferenceSsdIdeal.nD Cert.ReferenceSsdIdeal.τ).loc Cert.ReferenceSsdIdeal.main_arg6) = m ((c.tc : Thread Cert.ReferenceSsdIdeal.nD Cert.ReferenceSsdIdeal.τ).loc Cert.ReferenceSsdIdeal.main_arg6))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v161) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_KernelMem_KernelMemIdeal : Prop :=
  True

def algebraic_KernelMemIdeal_ReferenceMemIdeal [hKernelMemIdeal : Cert.KernelMemIdeal.Facts] [hReferenceMemIdeal : Cert.ReferenceMemIdeal.Facts] : Prop :=
  ∀ (m : (ℓ : Loc Cert.KernelMemIdeal.nD Cert.KernelMemIdeal.τ Cert.KernelMemIdeal.sig) → Buf (Elt Ideal) ℓ) (g : Dev Cert.KernelMemIdeal.nD → PrngReg)
    (m' : (ℓ : Loc Cert.ReferenceMemIdeal.nD Cert.ReferenceMemIdeal.τ Cert.ReferenceMemIdeal.sig) → Buf (Elt Ideal) ℓ) (g' : Dev Cert.ReferenceMemIdeal.nD → PrngReg), Pre_KernelMemIdeal m →
    (∀ c : Dev Cert.KernelMemIdeal.nD,
      m' ((c.tc : Thread Cert.ReferenceMemIdeal.nD Cert.ReferenceMemIdeal.τ).loc Cert.ReferenceMemIdeal.main_arg0) = m ((c.tc : Thread Cert.KernelMemIdeal.nD Cert.KernelMemIdeal.τ).loc Cert.KernelMemIdeal.main_arg0)
      ∧ m' ((c.tc : Thread Cert.ReferenceMemIdeal.nD Cert.ReferenceMemIdeal.τ).loc Cert.ReferenceMemIdeal.main_arg1) = m ((c.tc : Thread Cert.KernelMemIdeal.nD Cert.KernelMemIdeal.τ).loc Cert.KernelMemIdeal.main_arg1)
      ∧ m' ((c.tc : Thread Cert.ReferenceMemIdeal.nD Cert.ReferenceMemIdeal.τ).loc Cert.ReferenceMemIdeal.main_arg2) = m ((c.tc : Thread Cert.KernelMemIdeal.nD Cert.KernelMemIdeal.τ).loc Cert.KernelMemIdeal.main_arg2)) →
    ∃ (v0 : (c : Dev Cert.KernelMemIdeal.nD) → Buf (Elt Ideal) ((c.tc : Thread Cert.KernelMemIdeal.nD Cert.KernelMemIdeal.τ).loc Cert.KernelMemIdeal.main_v2_0)) (v1 : (c : Dev Cert.KernelMemIdeal.nD) → Buf (Elt Ideal) ((c.tc : Thread Cert.KernelMemIdeal.nD Cert.KernelMemIdeal.τ).loc Cert.KernelMemIdeal.main_v2_1)),
      θ_run (Cert.KernelMemIdeal.defs (F := Ideal)) (onTc (τ := Cert.KernelMemIdeal.τ) (Cert.KernelMemIdeal.main (F := Ideal))) ⟨m, fun _ => 0, g⟩ (fun r => ∀ c : Dev Cert.KernelMemIdeal.nD,
          r.2.mem ((c.tc : Thread Cert.KernelMemIdeal.nD Cert.KernelMemIdeal.τ).loc Cert.KernelMemIdeal.main_v2_0) = v0 c
          ∧ r.2.mem ((c.tc : Thread Cert.KernelMemIdeal.nD Cert.KernelMemIdeal.τ).loc Cert.KernelMemIdeal.main_v2_1) = v1 c
          ∧ r.2.mem ((c.tc : Thread Cert.KernelMemIdeal.nD Cert.KernelMemIdeal.τ).loc Cert.KernelMemIdeal.main_arg0) = m ((c.tc : Thread Cert.KernelMemIdeal.nD Cert.KernelMemIdeal.τ).loc Cert.KernelMemIdeal.main_arg0)
          ∧ r.2.mem ((c.tc : Thread Cert.KernelMemIdeal.nD Cert.KernelMemIdeal.τ).loc Cert.KernelMemIdeal.main_arg1) = m ((c.tc : Thread Cert.KernelMemIdeal.nD Cert.KernelMemIdeal.τ).loc Cert.KernelMemIdeal.main_arg1)
          ∧ r.2.mem ((c.tc : Thread Cert.KernelMemIdeal.nD Cert.KernelMemIdeal.τ).loc Cert.KernelMemIdeal.main_arg2) = m ((c.tc : Thread Cert.KernelMemIdeal.nD Cert.KernelMemIdeal.τ).loc Cert.KernelMemIdeal.main_arg2))
      ∧ θ_run (Cert.ReferenceMemIdeal.defs (F := Ideal)) (onTc (τ := Cert.ReferenceMemIdeal.τ) (Cert.ReferenceMemIdeal.main (F := Ideal))) ⟨m', fun _ => 0, g'⟩ (fun r => ∀ c : Dev Cert.ReferenceMemIdeal.nD,
          r.2.mem ((c.tc : Thread Cert.ReferenceMemIdeal.nD Cert.ReferenceMemIdeal.τ).loc Cert.ReferenceMemIdeal.main_v1) = v0 c
          ∧ r.2.mem ((c.tc : Thread Cert.ReferenceMemIdeal.nD Cert.ReferenceMemIdeal.τ).loc Cert.ReferenceMemIdeal.main_v3) = v1 c
          ∧ r.2.mem ((c.tc : Thread Cert.ReferenceMemIdeal.nD Cert.ReferenceMemIdeal.τ).loc Cert.ReferenceMemIdeal.main_arg0) = m' ((c.tc : Thread Cert.ReferenceMemIdeal.nD Cert.ReferenceMemIdeal.τ).loc Cert.ReferenceMemIdeal.main_arg0)
          ∧ r.2.mem ((c.tc : Thread Cert.ReferenceMemIdeal.nD Cert.ReferenceMemIdeal.τ).loc Cert.ReferenceMemIdeal.main_arg1) = m' ((c.tc : Thread Cert.ReferenceMemIdeal.nD Cert.ReferenceMemIdeal.τ).loc Cert.ReferenceMemIdeal.main_arg1)
          ∧ r.2.mem ((c.tc : Thread Cert.ReferenceMemIdeal.nD Cert.ReferenceMemIdeal.τ).loc Cert.ReferenceMemIdeal.main_arg2) = m' ((c.tc : Thread Cert.ReferenceMemIdeal.nD Cert.ReferenceMemIdeal.τ).loc Cert.ReferenceMemIdeal.main_arg2))

def preserves_KernelFfn_KernelFfnIdeal : Prop :=
  True

def algebraic_KernelFfnIdeal_ReferenceFfnIdeal [hKernelFfnIdeal : Cert.KernelFfnIdeal.Facts] [hReferenceFfnIdeal : Cert.ReferenceFfnIdeal.Facts] : Prop :=
  ∀ (m : (ℓ : Loc Cert.KernelFfnIdeal.nD Cert.KernelFfnIdeal.τ Cert.KernelFfnIdeal.sig) → Buf (Elt Ideal) ℓ) (g : Dev Cert.KernelFfnIdeal.nD → PrngReg)
    (m' : (ℓ : Loc Cert.ReferenceFfnIdeal.nD Cert.ReferenceFfnIdeal.τ Cert.ReferenceFfnIdeal.sig) → Buf (Elt Ideal) ℓ) (g' : Dev Cert.ReferenceFfnIdeal.nD → PrngReg), Pre_KernelFfnIdeal m →
    (∀ c : Dev Cert.KernelFfnIdeal.nD,
      m' ((c.tc : Thread Cert.ReferenceFfnIdeal.nD Cert.ReferenceFfnIdeal.τ).loc Cert.ReferenceFfnIdeal.main_arg0) = m ((c.tc : Thread Cert.KernelFfnIdeal.nD Cert.KernelFfnIdeal.τ).loc Cert.KernelFfnIdeal.main_arg0)
      ∧ m' ((c.tc : Thread Cert.ReferenceFfnIdeal.nD Cert.ReferenceFfnIdeal.τ).loc Cert.ReferenceFfnIdeal.main_arg1) = m ((c.tc : Thread Cert.KernelFfnIdeal.nD Cert.KernelFfnIdeal.τ).loc Cert.KernelFfnIdeal.main_arg1)
      ∧ m' ((c.tc : Thread Cert.ReferenceFfnIdeal.nD Cert.ReferenceFfnIdeal.τ).loc Cert.ReferenceFfnIdeal.main_arg2) = m ((c.tc : Thread Cert.KernelFfnIdeal.nD Cert.KernelFfnIdeal.τ).loc Cert.KernelFfnIdeal.main_arg2)
      ∧ m' ((c.tc : Thread Cert.ReferenceFfnIdeal.nD Cert.ReferenceFfnIdeal.τ).loc Cert.ReferenceFfnIdeal.main_arg3) = m ((c.tc : Thread Cert.KernelFfnIdeal.nD Cert.KernelFfnIdeal.τ).loc Cert.KernelFfnIdeal.main_arg3)
      ∧ m' ((c.tc : Thread Cert.ReferenceFfnIdeal.nD Cert.ReferenceFfnIdeal.τ).loc Cert.ReferenceFfnIdeal.main_arg4) = m ((c.tc : Thread Cert.KernelFfnIdeal.nD Cert.KernelFfnIdeal.τ).loc Cert.KernelFfnIdeal.main_arg4)) →
    ∃ (v0 : (c : Dev Cert.KernelFfnIdeal.nD) → Buf (Elt Ideal) ((c.tc : Thread Cert.KernelFfnIdeal.nD Cert.KernelFfnIdeal.τ).loc Cert.KernelFfnIdeal.main_v4)),
      θ_run (Cert.KernelFfnIdeal.defs (F := Ideal)) (onTc (τ := Cert.KernelFfnIdeal.τ) (Cert.KernelFfnIdeal.main (F := Ideal))) ⟨m, fun _ => 0, g⟩ (fun r => ∀ c : Dev Cert.KernelFfnIdeal.nD,
          r.2.mem ((c.tc : Thread Cert.KernelFfnIdeal.nD Cert.KernelFfnIdeal.τ).loc Cert.KernelFfnIdeal.main_v4) = v0 c
          ∧ r.2.mem ((c.tc : Thread Cert.KernelFfnIdeal.nD Cert.KernelFfnIdeal.τ).loc Cert.KernelFfnIdeal.main_arg0) = m ((c.tc : Thread Cert.KernelFfnIdeal.nD Cert.KernelFfnIdeal.τ).loc Cert.KernelFfnIdeal.main_arg0)
          ∧ r.2.mem ((c.tc : Thread Cert.KernelFfnIdeal.nD Cert.KernelFfnIdeal.τ).loc Cert.KernelFfnIdeal.main_arg1) = m ((c.tc : Thread Cert.KernelFfnIdeal.nD Cert.KernelFfnIdeal.τ).loc Cert.KernelFfnIdeal.main_arg1)
          ∧ r.2.mem ((c.tc : Thread Cert.KernelFfnIdeal.nD Cert.KernelFfnIdeal.τ).loc Cert.KernelFfnIdeal.main_arg2) = m ((c.tc : Thread Cert.KernelFfnIdeal.nD Cert.KernelFfnIdeal.τ).loc Cert.KernelFfnIdeal.main_arg2)
          ∧ r.2.mem ((c.tc : Thread Cert.KernelFfnIdeal.nD Cert.KernelFfnIdeal.τ).loc Cert.KernelFfnIdeal.main_arg3) = m ((c.tc : Thread Cert.KernelFfnIdeal.nD Cert.KernelFfnIdeal.τ).loc Cert.KernelFfnIdeal.main_arg3)
          ∧ r.2.mem ((c.tc : Thread Cert.KernelFfnIdeal.nD Cert.KernelFfnIdeal.τ).loc Cert.KernelFfnIdeal.main_arg4) = m ((c.tc : Thread Cert.KernelFfnIdeal.nD Cert.KernelFfnIdeal.τ).loc Cert.KernelFfnIdeal.main_arg4))
      ∧ θ_run (Cert.ReferenceFfnIdeal.defs (F := Ideal)) (onTc (τ := Cert.ReferenceFfnIdeal.τ) (Cert.ReferenceFfnIdeal.main (F := Ideal))) ⟨m', fun _ => 0, g'⟩ (fun r => ∀ c : Dev Cert.ReferenceFfnIdeal.nD,
          r.2.mem ((c.tc : Thread Cert.ReferenceFfnIdeal.nD Cert.ReferenceFfnIdeal.τ).loc Cert.ReferenceFfnIdeal.main_v18) = v0 c
          ∧ r.2.mem ((c.tc : Thread Cert.ReferenceFfnIdeal.nD Cert.ReferenceFfnIdeal.τ).loc Cert.ReferenceFfnIdeal.main_arg0) = m' ((c.tc : Thread Cert.ReferenceFfnIdeal.nD Cert.ReferenceFfnIdeal.τ).loc Cert.ReferenceFfnIdeal.main_arg0)
          ∧ r.2.mem ((c.tc : Thread Cert.ReferenceFfnIdeal.nD Cert.ReferenceFfnIdeal.τ).loc Cert.ReferenceFfnIdeal.main_arg1) = m' ((c.tc : Thread Cert.ReferenceFfnIdeal.nD Cert.ReferenceFfnIdeal.τ).loc Cert.ReferenceFfnIdeal.main_arg1)
          ∧ r.2.mem ((c.tc : Thread Cert.ReferenceFfnIdeal.nD Cert.ReferenceFfnIdeal.τ).loc Cert.ReferenceFfnIdeal.main_arg2) = m' ((c.tc : Thread Cert.ReferenceFfnIdeal.nD Cert.ReferenceFfnIdeal.τ).loc Cert.ReferenceFfnIdeal.main_arg2)
          ∧ r.2.mem ((c.tc : Thread Cert.ReferenceFfnIdeal.nD Cert.ReferenceFfnIdeal.τ).loc Cert.ReferenceFfnIdeal.main_arg3) = m' ((c.tc : Thread Cert.ReferenceFfnIdeal.nD Cert.ReferenceFfnIdeal.τ).loc Cert.ReferenceFfnIdeal.main_arg3)
          ∧ r.2.mem ((c.tc : Thread Cert.ReferenceFfnIdeal.nD Cert.ReferenceFfnIdeal.τ).loc Cert.ReferenceFfnIdeal.main_arg4) = m' ((c.tc : Thread Cert.ReferenceFfnIdeal.nD Cert.ReferenceFfnIdeal.τ).loc Cert.ReferenceFfnIdeal.main_arg4))

def preserves_KernelIn_KernelInIdeal : Prop :=
  True

def algebraic_KernelInIdeal_ReferenceInIdeal [hKernelInIdeal : Cert.KernelInIdeal.Facts] [hReferenceInIdeal : Cert.ReferenceInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg)
    (m' : (ℓ : Loc Cert.ReferenceInIdeal.nD Cert.ReferenceInIdeal.τ Cert.ReferenceInIdeal.sig) → Buf (Elt Ideal) ℓ) (g' : Dev Cert.ReferenceInIdeal.nD → PrngReg), Pre_KernelInIdeal m →
    (∀ c : Dev Cert.KernelInIdeal.nD,
      m' ((c.tc : Thread Cert.ReferenceInIdeal.nD Cert.ReferenceInIdeal.τ).loc Cert.ReferenceInIdeal.main_arg0) = m ((c.tc : Thread Cert.KernelInIdeal.nD Cert.KernelInIdeal.τ).loc Cert.KernelInIdeal.main_arg0)
      ∧ m' ((c.tc : Thread Cert.ReferenceInIdeal.nD Cert.ReferenceInIdeal.τ).loc Cert.ReferenceInIdeal.main_arg1) = m ((c.tc : Thread Cert.KernelInIdeal.nD Cert.KernelInIdeal.τ).loc Cert.KernelInIdeal.main_arg1)
      ∧ m' ((c.tc : Thread Cert.ReferenceInIdeal.nD Cert.ReferenceInIdeal.τ).loc Cert.ReferenceInIdeal.main_arg2) = m ((c.tc : Thread Cert.KernelInIdeal.nD Cert.KernelInIdeal.τ).loc Cert.KernelInIdeal.main_arg2)) →
    ∃ (v0 : (c : Dev Cert.KernelInIdeal.nD) → Buf (Elt Ideal) ((c.tc : Thread Cert.KernelInIdeal.nD Cert.KernelInIdeal.τ).loc Cert.KernelInIdeal.main_v9)),
      θ_run (Cert.KernelInIdeal.defs (F := Ideal)) (onTc (τ := Cert.KernelInIdeal.τ) (Cert.KernelInIdeal.main (F := Ideal))) ⟨m, fun _ => 0, g⟩ (fun r => ∀ c : Dev Cert.KernelInIdeal.nD,
          r.2.mem ((c.tc : Thread Cert.KernelInIdeal.nD Cert.KernelInIdeal.τ).loc Cert.KernelInIdeal.main_v9) = v0 c
          ∧ r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
          ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1)
          ∧ r.2.mem ((c.tc : Thread Cert.KernelInIdeal.nD Cert.KernelInIdeal.τ).loc Cert.KernelInIdeal.main_arg2) = m ((c.tc : Thread Cert.KernelInIdeal.nD Cert.KernelInIdeal.τ).loc Cert.KernelInIdeal.main_arg2))
      ∧ θ_run (Cert.ReferenceInIdeal.defs (F := Ideal)) (onTc (τ := Cert.ReferenceInIdeal.τ) (Cert.ReferenceInIdeal.main (F := Ideal))) ⟨m', fun _ => 0, g'⟩ (fun r => ∀ c : Dev Cert.ReferenceInIdeal.nD,
          r.2.mem ((c.tc : Thread Cert.ReferenceInIdeal.nD Cert.ReferenceInIdeal.τ).loc Cert.ReferenceInIdeal.main_v27) = v0 c
          ∧ r.2.mem ((c.tc : Thread Cert.ReferenceInIdeal.nD Cert.ReferenceInIdeal.τ).loc Cert.ReferenceInIdeal.main_arg0) = m' ((c.tc : Thread Cert.ReferenceInIdeal.nD Cert.ReferenceInIdeal.τ).loc Cert.ReferenceInIdeal.main_arg0)
          ∧ r.2.mem ((c.tc : Thread Cert.ReferenceInIdeal.nD Cert.ReferenceInIdeal.τ).loc Cert.ReferenceInIdeal.main_arg1) = m' ((c.tc : Thread Cert.ReferenceInIdeal.nD Cert.ReferenceInIdeal.τ).loc Cert.ReferenceInIdeal.main_arg1)
          ∧ r.2.mem ((c.tc : Thread Cert.ReferenceInIdeal.nD Cert.ReferenceInIdeal.τ).loc Cert.ReferenceInIdeal.main_arg2) = m' ((c.tc : Thread Cert.ReferenceInIdeal.nD Cert.ReferenceInIdeal.τ).loc Cert.ReferenceInIdeal.main_arg2))

def preserves_KernelInSample_KernelInSampleIdeal : Prop :=
  True

def algebraic_KernelInSampleIdeal_ReferenceInSampleIdeal [hKernelInSampleIdeal : Cert.KernelInSampleIdeal.Facts] [hReferenceInSampleIdeal : Cert.ReferenceInSampleIdeal.Facts] : Prop :=
  ∀ (m : (ℓ : Loc Cert.KernelInSampleIdeal.nD Cert.KernelInSampleIdeal.τ Cert.KernelInSampleIdeal.sig) → Buf (Elt Ideal) ℓ) (g : Dev Cert.KernelInSampleIdeal.nD → PrngReg)
    (m' : (ℓ : Loc Cert.ReferenceInSampleIdeal.nD Cert.ReferenceInSampleIdeal.τ Cert.ReferenceInSampleIdeal.sig) → Buf (Elt Ideal) ℓ) (g' : Dev Cert.ReferenceInSampleIdeal.nD → PrngReg), Pre_KernelInSampleIdeal m →
    (∀ c : Dev Cert.KernelInSampleIdeal.nD,
      m' ((c.tc : Thread Cert.ReferenceInSampleIdeal.nD Cert.ReferenceInSampleIdeal.τ).loc Cert.ReferenceInSampleIdeal.main_arg0) = m ((c.tc : Thread Cert.KernelInSampleIdeal.nD Cert.KernelInSampleIdeal.τ).loc Cert.KernelInSampleIdeal.main_arg0)
      ∧ m' ((c.tc : Thread Cert.ReferenceInSampleIdeal.nD Cert.ReferenceInSampleIdeal.τ).loc Cert.ReferenceInSampleIdeal.main_arg1) = m ((c.tc : Thread Cert.KernelInSampleIdeal.nD Cert.KernelInSampleIdeal.τ).loc Cert.KernelInSampleIdeal.main_arg1)
      ∧ m' ((c.tc : Thread Cert.ReferenceInSampleIdeal.nD Cert.ReferenceInSampleIdeal.τ).loc Cert.ReferenceInSampleIdeal.main_arg2) = m ((c.tc : Thread Cert.KernelInSampleIdeal.nD Cert.KernelInSampleIdeal.τ).loc Cert.KernelInSampleIdeal.main_arg2)) →
    ∃ (v0 : (c : Dev Cert.KernelInSampleIdeal.nD) → Buf (Elt Ideal) ((c.tc : Thread Cert.KernelInSampleIdeal.nD Cert.KernelInSampleIdeal.τ).loc Cert.KernelInSampleIdeal.main_v9)),
      θ_run (Cert.KernelInSampleIdeal.defs (F := Ideal)) (onTc (τ := Cert.KernelInSampleIdeal.τ) (Cert.KernelInSampleIdeal.main (F := Ideal))) ⟨m, fun _ => 0, g⟩ (fun r => ∀ c : Dev Cert.KernelInSampleIdeal.nD,
          r.2.mem ((c.tc : Thread Cert.KernelInSampleIdeal.nD Cert.KernelInSampleIdeal.τ).loc Cert.KernelInSampleIdeal.main_v9) = v0 c
          ∧ r.2.mem ((c.tc : Thread Cert.KernelInSampleIdeal.nD Cert.KernelInSampleIdeal.τ).loc Cert.KernelInSampleIdeal.main_arg0) = m ((c.tc : Thread Cert.KernelInSampleIdeal.nD Cert.KernelInSampleIdeal.τ).loc Cert.KernelInSampleIdeal.main_arg0)
          ∧ r.2.mem ((c.tc : Thread Cert.KernelInSampleIdeal.nD Cert.KernelInSampleIdeal.τ).loc Cert.KernelInSampleIdeal.main_arg1) = m ((c.tc : Thread Cert.KernelInSampleIdeal.nD Cert.KernelInSampleIdeal.τ).loc Cert.KernelInSampleIdeal.main_arg1)
          ∧ r.2.mem ((c.tc : Thread Cert.KernelInSampleIdeal.nD Cert.KernelInSampleIdeal.τ).loc Cert.KernelInSampleIdeal.main_arg2) = m ((c.tc : Thread Cert.KernelInSampleIdeal.nD Cert.KernelInSampleIdeal.τ).loc Cert.KernelInSampleIdeal.main_arg2))
      ∧ θ_run (Cert.ReferenceInSampleIdeal.defs (F := Ideal)) (onTc (τ := Cert.ReferenceInSampleIdeal.τ) (Cert.ReferenceInSampleIdeal.main (F := Ideal))) ⟨m', fun _ => 0, g'⟩ (fun r => ∀ c : Dev Cert.ReferenceInSampleIdeal.nD,
          r.2.mem ((c.tc : Thread Cert.ReferenceInSampleIdeal.nD Cert.ReferenceInSampleIdeal.τ).loc Cert.ReferenceInSampleIdeal.main_v27) = v0 c
          ∧ r.2.mem ((c.tc : Thread Cert.ReferenceInSampleIdeal.nD Cert.ReferenceInSampleIdeal.τ).loc Cert.ReferenceInSampleIdeal.main_arg0) = m' ((c.tc : Thread Cert.ReferenceInSampleIdeal.nD Cert.ReferenceInSampleIdeal.τ).loc Cert.ReferenceInSampleIdeal.main_arg0)
          ∧ r.2.mem ((c.tc : Thread Cert.ReferenceInSampleIdeal.nD Cert.ReferenceInSampleIdeal.τ).loc Cert.ReferenceInSampleIdeal.main_arg1) = m' ((c.tc : Thread Cert.ReferenceInSampleIdeal.nD Cert.ReferenceInSampleIdeal.τ).loc Cert.ReferenceInSampleIdeal.main_arg1)
          ∧ r.2.mem ((c.tc : Thread Cert.ReferenceInSampleIdeal.nD Cert.ReferenceInSampleIdeal.τ).loc Cert.ReferenceInSampleIdeal.main_arg2) = m' ((c.tc : Thread Cert.ReferenceInSampleIdeal.nD Cert.ReferenceInSampleIdeal.τ).loc Cert.ReferenceInSampleIdeal.main_arg2))

def preserves_KernelPrep_KernelPrepIdeal : Prop :=
  True

def algebraic_KernelPrepIdeal_ReferencePrepIdeal [hKernelPrepIdeal : Cert.KernelPrepIdeal.Facts] [hReferencePrepIdeal : Cert.ReferencePrepIdeal.Facts] : Prop :=
  ∀ (m : (ℓ : Loc Cert.KernelPrepIdeal.nD Cert.KernelPrepIdeal.τ Cert.KernelPrepIdeal.sig) → Buf (Elt Ideal) ℓ) (g : Dev Cert.KernelPrepIdeal.nD → PrngReg)
    (m' : (ℓ : Loc Cert.ReferencePrepIdeal.nD Cert.ReferencePrepIdeal.τ Cert.ReferencePrepIdeal.sig) → Buf (Elt Ideal) ℓ) (g' : Dev Cert.ReferencePrepIdeal.nD → PrngReg), Pre_KernelPrepIdeal m →
    (∀ c : Dev Cert.KernelPrepIdeal.nD,
      m' ((c.tc : Thread Cert.ReferencePrepIdeal.nD Cert.ReferencePrepIdeal.τ).loc Cert.ReferencePrepIdeal.main_arg0) = m ((c.tc : Thread Cert.KernelPrepIdeal.nD Cert.KernelPrepIdeal.τ).loc Cert.KernelPrepIdeal.main_arg0)) →
    ∃ (v0 : (c : Dev Cert.KernelPrepIdeal.nD) → Buf (Elt Ideal) ((c.tc : Thread Cert.KernelPrepIdeal.nD Cert.KernelPrepIdeal.τ).loc Cert.KernelPrepIdeal.main_v1_0)) (v1 : (c : Dev Cert.KernelPrepIdeal.nD) → Buf (Elt Ideal) ((c.tc : Thread Cert.KernelPrepIdeal.nD Cert.KernelPrepIdeal.τ).loc Cert.KernelPrepIdeal.main_v1_1)) (v2 : (c : Dev Cert.KernelPrepIdeal.nD) → Buf (Elt Ideal) ((c.tc : Thread Cert.KernelPrepIdeal.nD Cert.KernelPrepIdeal.τ).loc Cert.KernelPrepIdeal.main_v1_2)) (v3 : (c : Dev Cert.KernelPrepIdeal.nD) → Buf (Elt Ideal) ((c.tc : Thread Cert.KernelPrepIdeal.nD Cert.KernelPrepIdeal.τ).loc Cert.KernelPrepIdeal.main_v1_3)) (v4 : (c : Dev Cert.KernelPrepIdeal.nD) → Buf (Elt Ideal) ((c.tc : Thread Cert.KernelPrepIdeal.nD Cert.KernelPrepIdeal.τ).loc Cert.KernelPrepIdeal.main_v1_4)) (v5 : (c : Dev Cert.KernelPrepIdeal.nD) → Buf (Elt Ideal) ((c.tc : Thread Cert.KernelPrepIdeal.nD Cert.KernelPrepIdeal.τ).loc Cert.KernelPrepIdeal.main_v1_5)) (v6 : (c : Dev Cert.KernelPrepIdeal.nD) → Buf (Elt Ideal) ((c.tc : Thread Cert.KernelPrepIdeal.nD Cert.KernelPrepIdeal.τ).loc Cert.KernelPrepIdeal.main_v1_6)) (v7 : (c : Dev Cert.KernelPrepIdeal.nD) → Buf (Elt Ideal) ((c.tc : Thread Cert.KernelPrepIdeal.nD Cert.KernelPrepIdeal.τ).loc Cert.KernelPrepIdeal.main_v1_7)),
      θ_run (Cert.KernelPrepIdeal.defs (F := Ideal)) (onTc (τ := Cert.KernelPrepIdeal.τ) (Cert.KernelPrepIdeal.main (F := Ideal))) ⟨m, fun _ => 0, g⟩ (fun r => ∀ c : Dev Cert.KernelPrepIdeal.nD,
          r.2.mem ((c.tc : Thread Cert.KernelPrepIdeal.nD Cert.KernelPrepIdeal.τ).loc Cert.KernelPrepIdeal.main_v1_0) = v0 c
          ∧ r.2.mem ((c.tc : Thread Cert.KernelPrepIdeal.nD Cert.KernelPrepIdeal.τ).loc Cert.KernelPrepIdeal.main_v1_1) = v1 c
          ∧ r.2.mem ((c.tc : Thread Cert.KernelPrepIdeal.nD Cert.KernelPrepIdeal.τ).loc Cert.KernelPrepIdeal.main_v1_2) = v2 c
          ∧ r.2.mem ((c.tc : Thread Cert.KernelPrepIdeal.nD Cert.KernelPrepIdeal.τ).loc Cert.KernelPrepIdeal.main_v1_3) = v3 c
          ∧ r.2.mem ((c.tc : Thread Cert.KernelPrepIdeal.nD Cert.KernelPrepIdeal.τ).loc Cert.KernelPrepIdeal.main_v1_4) = v4 c
          ∧ r.2.mem ((c.tc : Thread Cert.KernelPrepIdeal.nD Cert.KernelPrepIdeal.τ).loc Cert.KernelPrepIdeal.main_v1_5) = v5 c
          ∧ r.2.mem ((c.tc : Thread Cert.KernelPrepIdeal.nD Cert.KernelPrepIdeal.τ).loc Cert.KernelPrepIdeal.main_v1_6) = v6 c
          ∧ r.2.mem ((c.tc : Thread Cert.KernelPrepIdeal.nD Cert.KernelPrepIdeal.τ).loc Cert.KernelPrepIdeal.main_v1_7) = v7 c
          ∧ r.2.mem ((c.tc : Thread Cert.KernelPrepIdeal.nD Cert.KernelPrepIdeal.τ).loc Cert.KernelPrepIdeal.main_arg0) = m ((c.tc : Thread Cert.KernelPrepIdeal.nD Cert.KernelPrepIdeal.τ).loc Cert.KernelPrepIdeal.main_arg0))
      ∧ θ_run (Cert.ReferencePrepIdeal.defs (F := Ideal)) (onTc (τ := Cert.ReferencePrepIdeal.τ) (Cert.ReferencePrepIdeal.main (F := Ideal))) ⟨m', fun _ => 0, g'⟩ (fun r => ∀ c : Dev Cert.ReferencePrepIdeal.nD,
          r.2.mem ((c.tc : Thread Cert.ReferencePrepIdeal.nD Cert.ReferencePrepIdeal.τ).loc Cert.ReferencePrepIdeal.main_v30) = v0 c
          ∧ r.2.mem ((c.tc : Thread Cert.ReferencePrepIdeal.nD Cert.ReferencePrepIdeal.τ).loc Cert.ReferencePrepIdeal.main_v36) = v1 c
          ∧ r.2.mem ((c.tc : Thread Cert.ReferencePrepIdeal.nD Cert.ReferencePrepIdeal.τ).loc Cert.ReferencePrepIdeal.main_v42) = v2 c
          ∧ r.2.mem ((c.tc : Thread Cert.ReferencePrepIdeal.nD Cert.ReferencePrepIdeal.τ).loc Cert.ReferencePrepIdeal.main_v44) = v3 c
          ∧ r.2.mem ((c.tc : Thread Cert.ReferencePrepIdeal.nD Cert.ReferencePrepIdeal.τ).loc Cert.ReferencePrepIdeal.main_v46) = v4 c
          ∧ r.2.mem ((c.tc : Thread Cert.ReferencePrepIdeal.nD Cert.ReferencePrepIdeal.τ).loc Cert.ReferencePrepIdeal.main_v48) = v5 c
          ∧ r.2.mem ((c.tc : Thread Cert.ReferencePrepIdeal.nD Cert.ReferencePrepIdeal.τ).loc Cert.ReferencePrepIdeal.main_v50) = v6 c
          ∧ r.2.mem ((c.tc : Thread Cert.ReferencePrepIdeal.nD Cert.ReferencePrepIdeal.τ).loc Cert.ReferencePrepIdeal.main_v28) = v7 c
          ∧ r.2.mem ((c.tc : Thread Cert.ReferencePrepIdeal.nD Cert.ReferencePrepIdeal.τ).loc Cert.ReferencePrepIdeal.main_arg0) = m' ((c.tc : Thread Cert.ReferencePrepIdeal.nD Cert.ReferencePrepIdeal.τ).loc Cert.ReferencePrepIdeal.main_arg0))

def preserves_KernelOut_KernelOutIdeal : Prop :=
  True

def algebraic_KernelOutIdeal_ReferenceOutIdeal [hKernelOutIdeal : Cert.KernelOutIdeal.Facts] [hReferenceOutIdeal : Cert.ReferenceOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg)
    (m' : (ℓ : Loc Cert.ReferenceOutIdeal.nD Cert.ReferenceOutIdeal.τ Cert.ReferenceOutIdeal.sig) → Buf (Elt Ideal) ℓ) (g' : Dev Cert.ReferenceOutIdeal.nD → PrngReg), Pre_KernelOutIdeal m →
    (∀ c : Dev Cert.KernelOutIdeal.nD,
      m' ((c.tc : Thread Cert.ReferenceOutIdeal.nD Cert.ReferenceOutIdeal.τ).loc Cert.ReferenceOutIdeal.main_arg0) = m ((c.tc : Thread Cert.KernelOutIdeal.nD Cert.KernelOutIdeal.τ).loc Cert.KernelOutIdeal.main_arg0)
      ∧ m' ((c.tc : Thread Cert.ReferenceOutIdeal.nD Cert.ReferenceOutIdeal.τ).loc Cert.ReferenceOutIdeal.main_arg1) = m ((c.tc : Thread Cert.KernelOutIdeal.nD Cert.KernelOutIdeal.τ).loc Cert.KernelOutIdeal.main_arg1)
      ∧ m' ((c.tc : Thread Cert.ReferenceOutIdeal.nD Cert.ReferenceOutIdeal.τ).loc Cert.ReferenceOutIdeal.main_arg2) = m ((c.tc : Thread Cert.KernelOutIdeal.nD Cert.KernelOutIdeal.τ).loc Cert.KernelOutIdeal.main_arg2)
      ∧ m' ((c.tc : Thread Cert.ReferenceOutIdeal.nD Cert.ReferenceOutIdeal.τ).loc Cert.ReferenceOutIdeal.main_arg3) = m ((c.tc : Thread Cert.KernelOutIdeal.nD Cert.KernelOutIdeal.τ).loc Cert.KernelOutIdeal.main_arg3)) →
    ∃ (v0 : (c : Dev Cert.KernelOutIdeal.nD) → Buf (Elt Ideal) ((c.tc : Thread Cert.KernelOutIdeal.nD Cert.KernelOutIdeal.τ).loc Cert.KernelOutIdeal.main_v4)),
      θ_run (Cert.KernelOutIdeal.defs (F := Ideal)) (onTc (τ := Cert.KernelOutIdeal.τ) (Cert.KernelOutIdeal.main (F := Ideal))) ⟨m, fun _ => 0, g⟩ (fun r => ∀ c : Dev Cert.KernelOutIdeal.nD,
          r.2.mem ((c.tc : Thread Cert.KernelOutIdeal.nD Cert.KernelOutIdeal.τ).loc Cert.KernelOutIdeal.main_v4) = v0 c
          ∧ r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
          ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
          ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2)
          ∧ r.2.mem ((c.tc : Thread Cert.KernelOutIdeal.nD Cert.KernelOutIdeal.τ).loc Cert.KernelOutIdeal.main_arg3) = m ((c.tc : Thread Cert.KernelOutIdeal.nD Cert.KernelOutIdeal.τ).loc Cert.KernelOutIdeal.main_arg3))
      ∧ θ_run (Cert.ReferenceOutIdeal.defs (F := Ideal)) (onTc (τ := Cert.ReferenceOutIdeal.τ) (Cert.ReferenceOutIdeal.main (F := Ideal))) ⟨m', fun _ => 0, g'⟩ (fun r => ∀ c : Dev Cert.ReferenceOutIdeal.nD,
          r.2.mem ((c.tc : Thread Cert.ReferenceOutIdeal.nD Cert.ReferenceOutIdeal.τ).loc Cert.ReferenceOutIdeal.main_v2) = v0 c
          ∧ r.2.mem ((c.tc : Thread Cert.ReferenceOutIdeal.nD Cert.ReferenceOutIdeal.τ).loc Cert.ReferenceOutIdeal.main_arg0) = m' ((c.tc : Thread Cert.ReferenceOutIdeal.nD Cert.ReferenceOutIdeal.τ).loc Cert.ReferenceOutIdeal.main_arg0)
          ∧ r.2.mem ((c.tc : Thread Cert.ReferenceOutIdeal.nD Cert.ReferenceOutIdeal.τ).loc Cert.ReferenceOutIdeal.main_arg1) = m' ((c.tc : Thread Cert.ReferenceOutIdeal.nD Cert.ReferenceOutIdeal.τ).loc Cert.ReferenceOutIdeal.main_arg1)
          ∧ r.2.mem ((c.tc : Thread Cert.ReferenceOutIdeal.nD Cert.ReferenceOutIdeal.τ).loc Cert.ReferenceOutIdeal.main_arg2) = m' ((c.tc : Thread Cert.ReferenceOutIdeal.nD Cert.ReferenceOutIdeal.τ).loc Cert.ReferenceOutIdeal.main_arg2)
          ∧ r.2.mem ((c.tc : Thread Cert.ReferenceOutIdeal.nD Cert.ReferenceOutIdeal.τ).loc Cert.ReferenceOutIdeal.main_arg3) = m' ((c.tc : Thread Cert.ReferenceOutIdeal.nD Cert.ReferenceOutIdeal.τ).loc Cert.ReferenceOutIdeal.main_arg3))

def preserves_KernelCross_KernelCrossIdeal : Prop :=
  True

def algebraic_KernelCrossIdeal_ReferenceCrossIdeal [hKernelCrossIdeal : Cert.KernelCrossIdeal.Facts] [hReferenceCrossIdeal : Cert.ReferenceCrossIdeal.Facts] : Prop :=
  ∀ (m : (ℓ : Loc Cert.KernelCrossIdeal.nD Cert.KernelCrossIdeal.τ Cert.KernelCrossIdeal.sig) → Buf (Elt Ideal) ℓ) (g : Dev Cert.KernelCrossIdeal.nD → PrngReg)
    (m' : (ℓ : Loc Cert.ReferenceCrossIdeal.nD Cert.ReferenceCrossIdeal.τ Cert.ReferenceCrossIdeal.sig) → Buf (Elt Ideal) ℓ) (g' : Dev Cert.ReferenceCrossIdeal.nD → PrngReg), Pre_KernelCrossIdeal m →
    (∀ c : Dev Cert.KernelCrossIdeal.nD,
      m' ((c.tc : Thread Cert.ReferenceCrossIdeal.nD Cert.ReferenceCrossIdeal.τ).loc Cert.ReferenceCrossIdeal.main_arg0) = m ((c.tc : Thread Cert.KernelCrossIdeal.nD Cert.KernelCrossIdeal.τ).loc Cert.KernelCrossIdeal.main_arg0)
      ∧ m' ((c.tc : Thread Cert.ReferenceCrossIdeal.nD Cert.ReferenceCrossIdeal.τ).loc Cert.ReferenceCrossIdeal.main_arg1) = m ((c.tc : Thread Cert.KernelCrossIdeal.nD Cert.KernelCrossIdeal.τ).loc Cert.KernelCrossIdeal.main_arg1)
      ∧ m' ((c.tc : Thread Cert.ReferenceCrossIdeal.nD Cert.ReferenceCrossIdeal.τ).loc Cert.ReferenceCrossIdeal.main_arg2) = m ((c.tc : Thread Cert.KernelCrossIdeal.nD Cert.KernelCrossIdeal.τ).loc Cert.KernelCrossIdeal.main_arg2)) →
    ∃ (v0 : (c : Dev Cert.KernelCrossIdeal.nD) → Buf (Elt Ideal) ((c.tc : Thread Cert.KernelCrossIdeal.nD Cert.KernelCrossIdeal.τ).loc Cert.KernelCrossIdeal.main_v2)),
      θ_run (Cert.KernelCrossIdeal.defs (F := Ideal)) (onTc (τ := Cert.KernelCrossIdeal.τ) (Cert.KernelCrossIdeal.main (F := Ideal))) ⟨m, fun _ => 0, g⟩ (fun r => ∀ c : Dev Cert.KernelCrossIdeal.nD,
          r.2.mem ((c.tc : Thread Cert.KernelCrossIdeal.nD Cert.KernelCrossIdeal.τ).loc Cert.KernelCrossIdeal.main_v2) = v0 c
          ∧ r.2.mem ((c.tc : Thread Cert.KernelCrossIdeal.nD Cert.KernelCrossIdeal.τ).loc Cert.KernelCrossIdeal.main_arg0) = m ((c.tc : Thread Cert.KernelCrossIdeal.nD Cert.KernelCrossIdeal.τ).loc Cert.KernelCrossIdeal.main_arg0)
          ∧ r.2.mem ((c.tc : Thread Cert.KernelCrossIdeal.nD Cert.KernelCrossIdeal.τ).loc Cert.KernelCrossIdeal.main_arg1) = m ((c.tc : Thread Cert.KernelCrossIdeal.nD Cert.KernelCrossIdeal.τ).loc Cert.KernelCrossIdeal.main_arg1)
          ∧ r.2.mem ((c.tc : Thread Cert.KernelCrossIdeal.nD Cert.KernelCrossIdeal.τ).loc Cert.KernelCrossIdeal.main_arg2) = m ((c.tc : Thread Cert.KernelCrossIdeal.nD Cert.KernelCrossIdeal.τ).loc Cert.KernelCrossIdeal.main_arg2))
      ∧ θ_run (Cert.ReferenceCrossIdeal.defs (F := Ideal)) (onTc (τ := Cert.ReferenceCrossIdeal.τ) (Cert.ReferenceCrossIdeal.main (F := Ideal))) ⟨m', fun _ => 0, g'⟩ (fun r => ∀ c : Dev Cert.ReferenceCrossIdeal.nD,
          r.2.mem ((c.tc : Thread Cert.ReferenceCrossIdeal.nD Cert.ReferenceCrossIdeal.τ).loc Cert.ReferenceCrossIdeal.main_v21) = v0 c
          ∧ r.2.mem ((c.tc : Thread Cert.ReferenceCrossIdeal.nD Cert.ReferenceCrossIdeal.τ).loc Cert.ReferenceCrossIdeal.main_arg0) = m' ((c.tc : Thread Cert.ReferenceCrossIdeal.nD Cert.ReferenceCrossIdeal.τ).loc Cert.ReferenceCrossIdeal.main_arg0)
          ∧ r.2.mem ((c.tc : Thread Cert.ReferenceCrossIdeal.nD Cert.ReferenceCrossIdeal.τ).loc Cert.ReferenceCrossIdeal.main_arg1) = m' ((c.tc : Thread Cert.ReferenceCrossIdeal.nD Cert.ReferenceCrossIdeal.τ).loc Cert.ReferenceCrossIdeal.main_arg1)
          ∧ r.2.mem ((c.tc : Thread Cert.ReferenceCrossIdeal.nD Cert.ReferenceCrossIdeal.τ).loc Cert.ReferenceCrossIdeal.main_arg2) = m' ((c.tc : Thread Cert.ReferenceCrossIdeal.nD Cert.ReferenceCrossIdeal.τ).loc Cert.ReferenceCrossIdeal.main_arg2))

def preserves_KernelSample_KernelSampleIdeal : Prop :=
  True

def algebraic_KernelSampleIdeal_ReferenceSampleIdeal_pre_finite_sample [hKernelSampleIdeal : Cert.KernelSampleIdeal.Facts] [hReferenceSampleIdeal : Cert.ReferenceSampleIdeal.Facts] [hPre_finite_sample : Cert.Pre_finite_sample.Facts] : Prop :=
  ∀ (m : (ℓ : Loc Cert.KernelSampleIdeal.nD Cert.KernelSampleIdeal.τ Cert.KernelSampleIdeal.sig) → Buf (Elt Ideal) ℓ) (g : Dev Cert.KernelSampleIdeal.nD → PrngReg)
    (m' : (ℓ : Loc Cert.ReferenceSampleIdeal.nD Cert.ReferenceSampleIdeal.τ Cert.ReferenceSampleIdeal.sig) → Buf (Elt Ideal) ℓ) (g' : Dev Cert.ReferenceSampleIdeal.nD → PrngReg), Pre_KernelSampleIdeal_finite_sample m →
    (∀ c : Dev Cert.KernelSampleIdeal.nD,
      m' ((c.tc : Thread Cert.ReferenceSampleIdeal.nD Cert.ReferenceSampleIdeal.τ).loc Cert.ReferenceSampleIdeal.main_arg0) = m ((c.tc : Thread Cert.KernelSampleIdeal.nD Cert.KernelSampleIdeal.τ).loc Cert.KernelSampleIdeal.main_arg0)
      ∧ m' ((c.tc : Thread Cert.ReferenceSampleIdeal.nD Cert.ReferenceSampleIdeal.τ).loc Cert.ReferenceSampleIdeal.main_arg1) = m ((c.tc : Thread Cert.KernelSampleIdeal.nD Cert.KernelSampleIdeal.τ).loc Cert.KernelSampleIdeal.main_arg1)
      ∧ m' ((c.tc : Thread Cert.ReferenceSampleIdeal.nD Cert.ReferenceSampleIdeal.τ).loc Cert.ReferenceSampleIdeal.main_arg2) = m ((c.tc : Thread Cert.KernelSampleIdeal.nD Cert.KernelSampleIdeal.τ).loc Cert.KernelSampleIdeal.main_arg2)
      ∧ m' ((c.tc : Thread Cert.ReferenceSampleIdeal.nD Cert.ReferenceSampleIdeal.τ).loc Cert.ReferenceSampleIdeal.main_arg3) = m ((c.tc : Thread Cert.KernelSampleIdeal.nD Cert.KernelSampleIdeal.τ).loc Cert.KernelSampleIdeal.main_arg3)
      ∧ m' ((c.tc : Thread Cert.ReferenceSampleIdeal.nD Cert.ReferenceSampleIdeal.τ).loc Cert.ReferenceSampleIdeal.main_arg4) = m ((c.tc : Thread Cert.KernelSampleIdeal.nD Cert.KernelSampleIdeal.τ).loc Cert.KernelSampleIdeal.main_arg4)
      ∧ m' ((c.tc : Thread Cert.ReferenceSampleIdeal.nD Cert.ReferenceSampleIdeal.τ).loc Cert.ReferenceSampleIdeal.main_arg5) = m ((c.tc : Thread Cert.KernelSampleIdeal.nD Cert.KernelSampleIdeal.τ).loc Cert.KernelSampleIdeal.main_arg5)
      ∧ m' ((c.tc : Thread Cert.ReferenceSampleIdeal.nD Cert.ReferenceSampleIdeal.τ).loc Cert.ReferenceSampleIdeal.main_arg6) = m ((c.tc : Thread Cert.KernelSampleIdeal.nD Cert.KernelSampleIdeal.τ).loc Cert.KernelSampleIdeal.main_arg6)) →
    ∃ (v0 : (c : Dev Cert.KernelSampleIdeal.nD) → Buf (Elt Ideal) ((c.tc : Thread Cert.KernelSampleIdeal.nD Cert.KernelSampleIdeal.τ).loc Cert.KernelSampleIdeal.main_v9)),
      θ_run (Cert.KernelSampleIdeal.defs (F := Ideal)) (onTc (τ := Cert.KernelSampleIdeal.τ) (Cert.KernelSampleIdeal.main (F := Ideal))) ⟨m, fun _ => 0, g⟩ (fun r => ∀ c : Dev Cert.KernelSampleIdeal.nD,
          r.2.mem ((c.tc : Thread Cert.KernelSampleIdeal.nD Cert.KernelSampleIdeal.τ).loc Cert.KernelSampleIdeal.main_v9) = v0 c
          ∧ r.2.mem ((c.tc : Thread Cert.KernelSampleIdeal.nD Cert.KernelSampleIdeal.τ).loc Cert.KernelSampleIdeal.main_arg0) = m ((c.tc : Thread Cert.KernelSampleIdeal.nD Cert.KernelSampleIdeal.τ).loc Cert.KernelSampleIdeal.main_arg0)
          ∧ r.2.mem ((c.tc : Thread Cert.KernelSampleIdeal.nD Cert.KernelSampleIdeal.τ).loc Cert.KernelSampleIdeal.main_arg1) = m ((c.tc : Thread Cert.KernelSampleIdeal.nD Cert.KernelSampleIdeal.τ).loc Cert.KernelSampleIdeal.main_arg1)
          ∧ r.2.mem ((c.tc : Thread Cert.KernelSampleIdeal.nD Cert.KernelSampleIdeal.τ).loc Cert.KernelSampleIdeal.main_arg2) = m ((c.tc : Thread Cert.KernelSampleIdeal.nD Cert.KernelSampleIdeal.τ).loc Cert.KernelSampleIdeal.main_arg2)
          ∧ r.2.mem ((c.tc : Thread Cert.KernelSampleIdeal.nD Cert.KernelSampleIdeal.τ).loc Cert.KernelSampleIdeal.main_arg3) = m ((c.tc : Thread Cert.KernelSampleIdeal.nD Cert.KernelSampleIdeal.τ).loc Cert.KernelSampleIdeal.main_arg3)
          ∧ r.2.mem ((c.tc : Thread Cert.KernelSampleIdeal.nD Cert.KernelSampleIdeal.τ).loc Cert.KernelSampleIdeal.main_arg4) = m ((c.tc : Thread Cert.KernelSampleIdeal.nD Cert.KernelSampleIdeal.τ).loc Cert.KernelSampleIdeal.main_arg4)
          ∧ r.2.mem ((c.tc : Thread Cert.KernelSampleIdeal.nD Cert.KernelSampleIdeal.τ).loc Cert.KernelSampleIdeal.main_arg5) = m ((c.tc : Thread Cert.KernelSampleIdeal.nD Cert.KernelSampleIdeal.τ).loc Cert.KernelSampleIdeal.main_arg5)
          ∧ r.2.mem ((c.tc : Thread Cert.KernelSampleIdeal.nD Cert.KernelSampleIdeal.τ).loc Cert.KernelSampleIdeal.main_arg6) = m ((c.tc : Thread Cert.KernelSampleIdeal.nD Cert.KernelSampleIdeal.τ).loc Cert.KernelSampleIdeal.main_arg6))
      ∧ θ_run (Cert.ReferenceSampleIdeal.defs (F := Ideal)) (onTc (τ := Cert.ReferenceSampleIdeal.τ) (Cert.ReferenceSampleIdeal.main (F := Ideal))) ⟨m', fun _ => 0, g'⟩ (fun r => ∀ c : Dev Cert.ReferenceSampleIdeal.nD,
          r.2.mem ((c.tc : Thread Cert.ReferenceSampleIdeal.nD Cert.ReferenceSampleIdeal.τ).loc Cert.ReferenceSampleIdeal.main_v161) = v0 c
          ∧ r.2.mem ((c.tc : Thread Cert.ReferenceSampleIdeal.nD Cert.ReferenceSampleIdeal.τ).loc Cert.ReferenceSampleIdeal.main_arg0) = m' ((c.tc : Thread Cert.ReferenceSampleIdeal.nD Cert.ReferenceSampleIdeal.τ).loc Cert.ReferenceSampleIdeal.main_arg0)
          ∧ r.2.mem ((c.tc : Thread Cert.ReferenceSampleIdeal.nD Cert.ReferenceSampleIdeal.τ).loc Cert.ReferenceSampleIdeal.main_arg1) = m' ((c.tc : Thread Cert.ReferenceSampleIdeal.nD Cert.ReferenceSampleIdeal.τ).loc Cert.ReferenceSampleIdeal.main_arg1)
          ∧ r.2.mem ((c.tc : Thread Cert.ReferenceSampleIdeal.nD Cert.ReferenceSampleIdeal.τ).loc Cert.ReferenceSampleIdeal.main_arg2) = m' ((c.tc : Thread Cert.ReferenceSampleIdeal.nD Cert.ReferenceSampleIdeal.τ).loc Cert.ReferenceSampleIdeal.main_arg2)
          ∧ r.2.mem ((c.tc : Thread Cert.ReferenceSampleIdeal.nD Cert.ReferenceSampleIdeal.τ).loc Cert.ReferenceSampleIdeal.main_arg3) = m' ((c.tc : Thread Cert.ReferenceSampleIdeal.nD Cert.ReferenceSampleIdeal.τ).loc Cert.ReferenceSampleIdeal.main_arg3)
          ∧ r.2.mem ((c.tc : Thread Cert.ReferenceSampleIdeal.nD Cert.ReferenceSampleIdeal.τ).loc Cert.ReferenceSampleIdeal.main_arg4) = m' ((c.tc : Thread Cert.ReferenceSampleIdeal.nD Cert.ReferenceSampleIdeal.τ).loc Cert.ReferenceSampleIdeal.main_arg4)
          ∧ r.2.mem ((c.tc : Thread Cert.ReferenceSampleIdeal.nD Cert.ReferenceSampleIdeal.τ).loc Cert.ReferenceSampleIdeal.main_arg5) = m' ((c.tc : Thread Cert.ReferenceSampleIdeal.nD Cert.ReferenceSampleIdeal.τ).loc Cert.ReferenceSampleIdeal.main_arg5)
          ∧ r.2.mem ((c.tc : Thread Cert.ReferenceSampleIdeal.nD Cert.ReferenceSampleIdeal.τ).loc Cert.ReferenceSampleIdeal.main_arg6) = m' ((c.tc : Thread Cert.ReferenceSampleIdeal.nD Cert.ReferenceSampleIdeal.τ).loc Cert.ReferenceSampleIdeal.main_arg6))

def preserves_KernelConfIn_KernelConfInIdeal : Prop :=
  True

def algebraic_KernelConfInIdeal_ReferenceConfInIdeal [hKernelConfInIdeal : Cert.KernelConfInIdeal.Facts] [hReferenceConfInIdeal : Cert.ReferenceConfInIdeal.Facts] : Prop :=
  ∀ (m : (ℓ : Loc Cert.KernelConfInIdeal.nD Cert.KernelConfInIdeal.τ Cert.KernelConfInIdeal.sig) → Buf (Elt Ideal) ℓ) (g : Dev Cert.KernelConfInIdeal.nD → PrngReg)
    (m' : (ℓ : Loc Cert.ReferenceConfInIdeal.nD Cert.ReferenceConfInIdeal.τ Cert.ReferenceConfInIdeal.sig) → Buf (Elt Ideal) ℓ) (g' : Dev Cert.ReferenceConfInIdeal.nD → PrngReg), Pre_KernelConfInIdeal m →
    (∀ c : Dev Cert.KernelConfInIdeal.nD,
      m' ((c.tc : Thread Cert.ReferenceConfInIdeal.nD Cert.ReferenceConfInIdeal.τ).loc Cert.ReferenceConfInIdeal.main_arg0) = m ((c.tc : Thread Cert.KernelConfInIdeal.nD Cert.KernelConfInIdeal.τ).loc Cert.KernelConfInIdeal.main_arg0)
      ∧ m' ((c.tc : Thread Cert.ReferenceConfInIdeal.nD Cert.ReferenceConfInIdeal.τ).loc Cert.ReferenceConfInIdeal.main_arg1) = m ((c.tc : Thread Cert.KernelConfInIdeal.nD Cert.KernelConfInIdeal.τ).loc Cert.KernelConfInIdeal.main_arg1)
      ∧ m' ((c.tc : Thread Cert.ReferenceConfInIdeal.nD Cert.ReferenceConfInIdeal.τ).loc Cert.ReferenceConfInIdeal.main_arg2) = m ((c.tc : Thread Cert.KernelConfInIdeal.nD Cert.KernelConfInIdeal.τ).loc Cert.KernelConfInIdeal.main_arg2)) →
    ∃ (v0 : (c : Dev Cert.KernelConfInIdeal.nD) → Buf (Elt Ideal) ((c.tc : Thread Cert.KernelConfInIdeal.nD Cert.KernelConfInIdeal.τ).loc Cert.KernelConfInIdeal.main_v2)),
      θ_run (Cert.KernelConfInIdeal.defs (F := Ideal)) (onTc (τ := Cert.KernelConfInIdeal.τ) (Cert.KernelConfInIdeal.main (F := Ideal))) ⟨m, fun _ => 0, g⟩ (fun r => ∀ c : Dev Cert.KernelConfInIdeal.nD,
          r.2.mem ((c.tc : Thread Cert.KernelConfInIdeal.nD Cert.KernelConfInIdeal.τ).loc Cert.KernelConfInIdeal.main_v2) = v0 c
          ∧ r.2.mem ((c.tc : Thread Cert.KernelConfInIdeal.nD Cert.KernelConfInIdeal.τ).loc Cert.KernelConfInIdeal.main_arg0) = m ((c.tc : Thread Cert.KernelConfInIdeal.nD Cert.KernelConfInIdeal.τ).loc Cert.KernelConfInIdeal.main_arg0)
          ∧ r.2.mem ((c.tc : Thread Cert.KernelConfInIdeal.nD Cert.KernelConfInIdeal.τ).loc Cert.KernelConfInIdeal.main_arg1) = m ((c.tc : Thread Cert.KernelConfInIdeal.nD Cert.KernelConfInIdeal.τ).loc Cert.KernelConfInIdeal.main_arg1)
          ∧ r.2.mem ((c.tc : Thread Cert.KernelConfInIdeal.nD Cert.KernelConfInIdeal.τ).loc Cert.KernelConfInIdeal.main_arg2) = m ((c.tc : Thread Cert.KernelConfInIdeal.nD Cert.KernelConfInIdeal.τ).loc Cert.KernelConfInIdeal.main_arg2))
      ∧ θ_run (Cert.ReferenceConfInIdeal.defs (F := Ideal)) (onTc (τ := Cert.ReferenceConfInIdeal.τ) (Cert.ReferenceConfInIdeal.main (F := Ideal))) ⟨m', fun _ => 0, g'⟩ (fun r => ∀ c : Dev Cert.ReferenceConfInIdeal.nD,
          r.2.mem ((c.tc : Thread Cert.ReferenceConfInIdeal.nD Cert.ReferenceConfInIdeal.τ).loc Cert.ReferenceConfInIdeal.main_v13) = v0 c
          ∧ r.2.mem ((c.tc : Thread Cert.ReferenceConfInIdeal.nD Cert.ReferenceConfInIdeal.τ).loc Cert.ReferenceConfInIdeal.main_arg0) = m' ((c.tc : Thread Cert.ReferenceConfInIdeal.nD Cert.ReferenceConfInIdeal.τ).loc Cert.ReferenceConfInIdeal.main_arg0)
          ∧ r.2.mem ((c.tc : Thread Cert.ReferenceConfInIdeal.nD Cert.ReferenceConfInIdeal.τ).loc Cert.ReferenceConfInIdeal.main_arg1) = m' ((c.tc : Thread Cert.ReferenceConfInIdeal.nD Cert.ReferenceConfInIdeal.τ).loc Cert.ReferenceConfInIdeal.main_arg1)
          ∧ r.2.mem ((c.tc : Thread Cert.ReferenceConfInIdeal.nD Cert.ReferenceConfInIdeal.τ).loc Cert.ReferenceConfInIdeal.main_arg2) = m' ((c.tc : Thread Cert.ReferenceConfInIdeal.nD Cert.ReferenceConfInIdeal.τ).loc Cert.ReferenceConfInIdeal.main_arg2))

def preserves_KernelQuery_KernelQueryIdeal : Prop :=
  True

def algebraic_KernelQueryIdeal_ReferenceQueryIdeal [hKernelQueryIdeal : Cert.KernelQueryIdeal.Facts] [hReferenceQueryIdeal : Cert.ReferenceQueryIdeal.Facts] : Prop :=
  ∀ (m : (ℓ : Loc Cert.KernelQueryIdeal.nD Cert.KernelQueryIdeal.τ Cert.KernelQueryIdeal.sig) → Buf (Elt Ideal) ℓ) (g : Dev Cert.KernelQueryIdeal.nD → PrngReg)
    (m' : (ℓ : Loc Cert.ReferenceQueryIdeal.nD Cert.ReferenceQueryIdeal.τ Cert.ReferenceQueryIdeal.sig) → Buf (Elt Ideal) ℓ) (g' : Dev Cert.ReferenceQueryIdeal.nD → PrngReg), Pre_KernelQueryIdeal m →
    (∀ c : Dev Cert.KernelQueryIdeal.nD,
      m' ((c.tc : Thread Cert.ReferenceQueryIdeal.nD Cert.ReferenceQueryIdeal.τ).loc Cert.ReferenceQueryIdeal.main_arg0) = m ((c.tc : Thread Cert.KernelQueryIdeal.nD Cert.KernelQueryIdeal.τ).loc Cert.KernelQueryIdeal.main_arg0)
      ∧ m' ((c.tc : Thread Cert.ReferenceQueryIdeal.nD Cert.ReferenceQueryIdeal.τ).loc Cert.ReferenceQueryIdeal.main_arg1) = m ((c.tc : Thread Cert.KernelQueryIdeal.nD Cert.KernelQueryIdeal.τ).loc Cert.KernelQueryIdeal.main_arg1)
      ∧ m' ((c.tc : Thread Cert.ReferenceQueryIdeal.nD Cert.ReferenceQueryIdeal.τ).loc Cert.ReferenceQueryIdeal.main_arg2) = m ((c.tc : Thread Cert.KernelQueryIdeal.nD Cert.KernelQueryIdeal.τ).loc Cert.KernelQueryIdeal.main_arg2)) →
    ∃ (v0 : (c : Dev Cert.KernelQueryIdeal.nD) → Buf (Elt Ideal) ((c.tc : Thread Cert.KernelQueryIdeal.nD Cert.KernelQueryIdeal.τ).loc Cert.KernelQueryIdeal.main_v2)),
      θ_run (Cert.KernelQueryIdeal.defs (F := Ideal)) (onTc (τ := Cert.KernelQueryIdeal.τ) (Cert.KernelQueryIdeal.main (F := Ideal))) ⟨m, fun _ => 0, g⟩ (fun r => ∀ c : Dev Cert.KernelQueryIdeal.nD,
          r.2.mem ((c.tc : Thread Cert.KernelQueryIdeal.nD Cert.KernelQueryIdeal.τ).loc Cert.KernelQueryIdeal.main_v2) = v0 c
          ∧ r.2.mem ((c.tc : Thread Cert.KernelQueryIdeal.nD Cert.KernelQueryIdeal.τ).loc Cert.KernelQueryIdeal.main_arg0) = m ((c.tc : Thread Cert.KernelQueryIdeal.nD Cert.KernelQueryIdeal.τ).loc Cert.KernelQueryIdeal.main_arg0)
          ∧ r.2.mem ((c.tc : Thread Cert.KernelQueryIdeal.nD Cert.KernelQueryIdeal.τ).loc Cert.KernelQueryIdeal.main_arg1) = m ((c.tc : Thread Cert.KernelQueryIdeal.nD Cert.KernelQueryIdeal.τ).loc Cert.KernelQueryIdeal.main_arg1)
          ∧ r.2.mem ((c.tc : Thread Cert.KernelQueryIdeal.nD Cert.KernelQueryIdeal.τ).loc Cert.KernelQueryIdeal.main_arg2) = m ((c.tc : Thread Cert.KernelQueryIdeal.nD Cert.KernelQueryIdeal.τ).loc Cert.KernelQueryIdeal.main_arg2))
      ∧ θ_run (Cert.ReferenceQueryIdeal.defs (F := Ideal)) (onTc (τ := Cert.ReferenceQueryIdeal.τ) (Cert.ReferenceQueryIdeal.main (F := Ideal))) ⟨m', fun _ => 0, g'⟩ (fun r => ∀ c : Dev Cert.ReferenceQueryIdeal.nD,
          r.2.mem ((c.tc : Thread Cert.ReferenceQueryIdeal.nD Cert.ReferenceQueryIdeal.τ).loc Cert.ReferenceQueryIdeal.main_v13) = v0 c
          ∧ r.2.mem ((c.tc : Thread Cert.ReferenceQueryIdeal.nD Cert.ReferenceQueryIdeal.τ).loc Cert.ReferenceQueryIdeal.main_arg0) = m' ((c.tc : Thread Cert.ReferenceQueryIdeal.nD Cert.ReferenceQueryIdeal.τ).loc Cert.ReferenceQueryIdeal.main_arg0)
          ∧ r.2.mem ((c.tc : Thread Cert.ReferenceQueryIdeal.nD Cert.ReferenceQueryIdeal.τ).loc Cert.ReferenceQueryIdeal.main_arg1) = m' ((c.tc : Thread Cert.ReferenceQueryIdeal.nD Cert.ReferenceQueryIdeal.τ).loc Cert.ReferenceQueryIdeal.main_arg1)
          ∧ r.2.mem ((c.tc : Thread Cert.ReferenceQueryIdeal.nD Cert.ReferenceQueryIdeal.τ).loc Cert.ReferenceQueryIdeal.main_arg2) = m' ((c.tc : Thread Cert.ReferenceQueryIdeal.nD Cert.ReferenceQueryIdeal.τ).loc Cert.ReferenceQueryIdeal.main_arg2))

def preserves_KernelCrossOut_KernelCrossOutIdeal : Prop :=
  True

def algebraic_KernelCrossOutIdeal_ReferenceCrossOutIdeal [hKernelCrossOutIdeal : Cert.KernelCrossOutIdeal.Facts] [hReferenceCrossOutIdeal : Cert.ReferenceCrossOutIdeal.Facts] : Prop :=
  ∀ (m : (ℓ : Loc Cert.KernelCrossOutIdeal.nD Cert.KernelCrossOutIdeal.τ Cert.KernelCrossOutIdeal.sig) → Buf (Elt Ideal) ℓ) (g : Dev Cert.KernelCrossOutIdeal.nD → PrngReg)
    (m' : (ℓ : Loc Cert.ReferenceCrossOutIdeal.nD Cert.ReferenceCrossOutIdeal.τ Cert.ReferenceCrossOutIdeal.sig) → Buf (Elt Ideal) ℓ) (g' : Dev Cert.ReferenceCrossOutIdeal.nD → PrngReg), Pre_KernelCrossOutIdeal m →
    (∀ c : Dev Cert.KernelCrossOutIdeal.nD,
      m' ((c.tc : Thread Cert.ReferenceCrossOutIdeal.nD Cert.ReferenceCrossOutIdeal.τ).loc Cert.ReferenceCrossOutIdeal.main_arg0) = m ((c.tc : Thread Cert.KernelCrossOutIdeal.nD Cert.KernelCrossOutIdeal.τ).loc Cert.KernelCrossOutIdeal.main_arg0)
      ∧ m' ((c.tc : Thread Cert.ReferenceCrossOutIdeal.nD Cert.ReferenceCrossOutIdeal.τ).loc Cert.ReferenceCrossOutIdeal.main_arg1) = m ((c.tc : Thread Cert.KernelCrossOutIdeal.nD Cert.KernelCrossOutIdeal.τ).loc Cert.KernelCrossOutIdeal.main_arg1)
      ∧ m' ((c.tc : Thread Cert.ReferenceCrossOutIdeal.nD Cert.ReferenceCrossOutIdeal.τ).loc Cert.ReferenceCrossOutIdeal.main_arg2) = m ((c.tc : Thread Cert.KernelCrossOutIdeal.nD Cert.KernelCrossOutIdeal.τ).loc Cert.KernelCrossOutIdeal.main_arg2)) →
    ∃ (v0 : (c : Dev Cert.KernelCrossOutIdeal.nD) → Buf (Elt Ideal) ((c.tc : Thread Cert.KernelCrossOutIdeal.nD Cert.KernelCrossOutIdeal.τ).loc Cert.KernelCrossOutIdeal.main_v1)),
      θ_run (Cert.KernelCrossOutIdeal.defs (F := Ideal)) (onTc (τ := Cert.KernelCrossOutIdeal.τ) (Cert.KernelCrossOutIdeal.main (F := Ideal))) ⟨m, fun _ => 0, g⟩ (fun r => ∀ c : Dev Cert.KernelCrossOutIdeal.nD,
          r.2.mem ((c.tc : Thread Cert.KernelCrossOutIdeal.nD Cert.KernelCrossOutIdeal.τ).loc Cert.KernelCrossOutIdeal.main_v1) = v0 c
          ∧ r.2.mem ((c.tc : Thread Cert.KernelCrossOutIdeal.nD Cert.KernelCrossOutIdeal.τ).loc Cert.KernelCrossOutIdeal.main_arg0) = m ((c.tc : Thread Cert.KernelCrossOutIdeal.nD Cert.KernelCrossOutIdeal.τ).loc Cert.KernelCrossOutIdeal.main_arg0)
          ∧ r.2.mem ((c.tc : Thread Cert.KernelCrossOutIdeal.nD Cert.KernelCrossOutIdeal.τ).loc Cert.KernelCrossOutIdeal.main_arg1) = m ((c.tc : Thread Cert.KernelCrossOutIdeal.nD Cert.KernelCrossOutIdeal.τ).loc Cert.KernelCrossOutIdeal.main_arg1)
          ∧ r.2.mem ((c.tc : Thread Cert.KernelCrossOutIdeal.nD Cert.KernelCrossOutIdeal.τ).loc Cert.KernelCrossOutIdeal.main_arg2) = m ((c.tc : Thread Cert.KernelCrossOutIdeal.nD Cert.KernelCrossOutIdeal.τ).loc Cert.KernelCrossOutIdeal.main_arg2))
      ∧ θ_run (Cert.ReferenceCrossOutIdeal.defs (F := Ideal)) (onTc (τ := Cert.ReferenceCrossOutIdeal.τ) (Cert.ReferenceCrossOutIdeal.main (F := Ideal))) ⟨m', fun _ => 0, g'⟩ (fun r => ∀ c : Dev Cert.ReferenceCrossOutIdeal.nD,
          r.2.mem ((c.tc : Thread Cert.ReferenceCrossOutIdeal.nD Cert.ReferenceCrossOutIdeal.τ).loc Cert.ReferenceCrossOutIdeal.main_v1) = v0 c
          ∧ r.2.mem ((c.tc : Thread Cert.ReferenceCrossOutIdeal.nD Cert.ReferenceCrossOutIdeal.τ).loc Cert.ReferenceCrossOutIdeal.main_arg0) = m' ((c.tc : Thread Cert.ReferenceCrossOutIdeal.nD Cert.ReferenceCrossOutIdeal.τ).loc Cert.ReferenceCrossOutIdeal.main_arg0)
          ∧ r.2.mem ((c.tc : Thread Cert.ReferenceCrossOutIdeal.nD Cert.ReferenceCrossOutIdeal.τ).loc Cert.ReferenceCrossOutIdeal.main_arg1) = m' ((c.tc : Thread Cert.ReferenceCrossOutIdeal.nD Cert.ReferenceCrossOutIdeal.τ).loc Cert.ReferenceCrossOutIdeal.main_arg1)
          ∧ r.2.mem ((c.tc : Thread Cert.ReferenceCrossOutIdeal.nD Cert.ReferenceCrossOutIdeal.τ).loc Cert.ReferenceCrossOutIdeal.main_arg2) = m' ((c.tc : Thread Cert.ReferenceCrossOutIdeal.nD Cert.ReferenceCrossOutIdeal.τ).loc Cert.ReferenceCrossOutIdeal.main_arg2))

def preserves_KernelConf_KernelConfIdeal : Prop :=
  True

def algebraic_KernelConfIdeal_ReferenceConfIdeal [hKernelConfIdeal : Cert.KernelConfIdeal.Facts] [hReferenceConfIdeal : Cert.ReferenceConfIdeal.Facts] : Prop :=
  ∀ (m : (ℓ : Loc Cert.KernelConfIdeal.nD Cert.KernelConfIdeal.τ Cert.KernelConfIdeal.sig) → Buf (Elt Ideal) ℓ) (g : Dev Cert.KernelConfIdeal.nD → PrngReg)
    (m' : (ℓ : Loc Cert.ReferenceConfIdeal.nD Cert.ReferenceConfIdeal.τ Cert.ReferenceConfIdeal.sig) → Buf (Elt Ideal) ℓ) (g' : Dev Cert.ReferenceConfIdeal.nD → PrngReg), Pre_KernelConfIdeal m →
    (∀ c : Dev Cert.KernelConfIdeal.nD,
      m' ((c.tc : Thread Cert.ReferenceConfIdeal.nD Cert.ReferenceConfIdeal.τ).loc Cert.ReferenceConfIdeal.main_arg0) = m ((c.tc : Thread Cert.KernelConfIdeal.nD Cert.KernelConfIdeal.τ).loc Cert.KernelConfIdeal.main_arg0)
      ∧ m' ((c.tc : Thread Cert.ReferenceConfIdeal.nD Cert.ReferenceConfIdeal.τ).loc Cert.ReferenceConfIdeal.main_arg1) = m ((c.tc : Thread Cert.KernelConfIdeal.nD Cert.KernelConfIdeal.τ).loc Cert.KernelConfIdeal.main_arg1)
      ∧ m' ((c.tc : Thread Cert.ReferenceConfIdeal.nD Cert.ReferenceConfIdeal.τ).loc Cert.ReferenceConfIdeal.main_arg2) = m ((c.tc : Thread Cert.KernelConfIdeal.nD Cert.KernelConfIdeal.τ).loc Cert.KernelConfIdeal.main_arg2)
      ∧ m' ((c.tc : Thread Cert.ReferenceConfIdeal.nD Cert.ReferenceConfIdeal.τ).loc Cert.ReferenceConfIdeal.main_arg3) = m ((c.tc : Thread Cert.KernelConfIdeal.nD Cert.KernelConfIdeal.τ).loc Cert.KernelConfIdeal.main_arg3)
      ∧ m' ((c.tc : Thread Cert.ReferenceConfIdeal.nD Cert.ReferenceConfIdeal.τ).loc Cert.ReferenceConfIdeal.main_arg4) = m ((c.tc : Thread Cert.KernelConfIdeal.nD Cert.KernelConfIdeal.τ).loc Cert.KernelConfIdeal.main_arg4)
      ∧ m' ((c.tc : Thread Cert.ReferenceConfIdeal.nD Cert.ReferenceConfIdeal.τ).loc Cert.ReferenceConfIdeal.main_arg5) = m ((c.tc : Thread Cert.KernelConfIdeal.nD Cert.KernelConfIdeal.τ).loc Cert.KernelConfIdeal.main_arg5)
      ∧ m' ((c.tc : Thread Cert.ReferenceConfIdeal.nD Cert.ReferenceConfIdeal.τ).loc Cert.ReferenceConfIdeal.main_arg6) = m ((c.tc : Thread Cert.KernelConfIdeal.nD Cert.KernelConfIdeal.τ).loc Cert.KernelConfIdeal.main_arg6)) →
    ∃ (v0 : (c : Dev Cert.KernelConfIdeal.nD) → Buf (Elt Ideal) ((c.tc : Thread Cert.KernelConfIdeal.nD Cert.KernelConfIdeal.τ).loc Cert.KernelConfIdeal.main_v6_0)) (v1 : (c : Dev Cert.KernelConfIdeal.nD) → Buf (Elt Ideal) ((c.tc : Thread Cert.KernelConfIdeal.nD Cert.KernelConfIdeal.τ).loc Cert.KernelConfIdeal.main_v6_1)),
      θ_run (Cert.KernelConfIdeal.defs (F := Ideal)) (onTc (τ := Cert.KernelConfIdeal.τ) (Cert.KernelConfIdeal.main (F := Ideal))) ⟨m, fun _ => 0, g⟩ (fun r => ∀ c : Dev Cert.KernelConfIdeal.nD,
          r.2.mem ((c.tc : Thread Cert.KernelConfIdeal.nD Cert.KernelConfIdeal.τ).loc Cert.KernelConfIdeal.main_v6_0) = v0 c
          ∧ r.2.mem ((c.tc : Thread Cert.KernelConfIdeal.nD Cert.KernelConfIdeal.τ).loc Cert.KernelConfIdeal.main_v6_1) = v1 c
          ∧ r.2.mem ((c.tc : Thread Cert.KernelConfIdeal.nD Cert.KernelConfIdeal.τ).loc Cert.KernelConfIdeal.main_arg0) = m ((c.tc : Thread Cert.KernelConfIdeal.nD Cert.KernelConfIdeal.τ).loc Cert.KernelConfIdeal.main_arg0)
          ∧ r.2.mem ((c.tc : Thread Cert.KernelConfIdeal.nD Cert.KernelConfIdeal.τ).loc Cert.KernelConfIdeal.main_arg1) = m ((c.tc : Thread Cert.KernelConfIdeal.nD Cert.KernelConfIdeal.τ).loc Cert.KernelConfIdeal.main_arg1)
          ∧ r.2.mem ((c.tc : Thread Cert.KernelConfIdeal.nD Cert.KernelConfIdeal.τ).loc Cert.KernelConfIdeal.main_arg2) = m ((c.tc : Thread Cert.KernelConfIdeal.nD Cert.KernelConfIdeal.τ).loc Cert.KernelConfIdeal.main_arg2)
          ∧ r.2.mem ((c.tc : Thread Cert.KernelConfIdeal.nD Cert.KernelConfIdeal.τ).loc Cert.KernelConfIdeal.main_arg3) = m ((c.tc : Thread Cert.KernelConfIdeal.nD Cert.KernelConfIdeal.τ).loc Cert.KernelConfIdeal.main_arg3)
          ∧ r.2.mem ((c.tc : Thread Cert.KernelConfIdeal.nD Cert.KernelConfIdeal.τ).loc Cert.KernelConfIdeal.main_arg4) = m ((c.tc : Thread Cert.KernelConfIdeal.nD Cert.KernelConfIdeal.τ).loc Cert.KernelConfIdeal.main_arg4)
          ∧ r.2.mem ((c.tc : Thread Cert.KernelConfIdeal.nD Cert.KernelConfIdeal.τ).loc Cert.KernelConfIdeal.main_arg5) = m ((c.tc : Thread Cert.KernelConfIdeal.nD Cert.KernelConfIdeal.τ).loc Cert.KernelConfIdeal.main_arg5)
          ∧ r.2.mem ((c.tc : Thread Cert.KernelConfIdeal.nD Cert.KernelConfIdeal.τ).loc Cert.KernelConfIdeal.main_arg6) = m ((c.tc : Thread Cert.KernelConfIdeal.nD Cert.KernelConfIdeal.τ).loc Cert.KernelConfIdeal.main_arg6))
      ∧ θ_run (Cert.ReferenceConfIdeal.defs (F := Ideal)) (onTc (τ := Cert.ReferenceConfIdeal.τ) (Cert.ReferenceConfIdeal.main (F := Ideal))) ⟨m', fun _ => 0, g'⟩ (fun r => ∀ c : Dev Cert.ReferenceConfIdeal.nD,
          r.2.mem ((c.tc : Thread Cert.ReferenceConfIdeal.nD Cert.ReferenceConfIdeal.τ).loc Cert.ReferenceConfIdeal.main_v260) = v0 c
          ∧ r.2.mem ((c.tc : Thread Cert.ReferenceConfIdeal.nD Cert.ReferenceConfIdeal.τ).loc Cert.ReferenceConfIdeal.main_v259) = v1 c
          ∧ r.2.mem ((c.tc : Thread Cert.ReferenceConfIdeal.nD Cert.ReferenceConfIdeal.τ).loc Cert.ReferenceConfIdeal.main_arg0) = m' ((c.tc : Thread Cert.ReferenceConfIdeal.nD Cert.ReferenceConfIdeal.τ).loc Cert.ReferenceConfIdeal.main_arg0)
          ∧ r.2.mem ((c.tc : Thread Cert.ReferenceConfIdeal.nD Cert.ReferenceConfIdeal.τ).loc Cert.ReferenceConfIdeal.main_arg1) = m' ((c.tc : Thread Cert.ReferenceConfIdeal.nD Cert.ReferenceConfIdeal.τ).loc Cert.ReferenceConfIdeal.main_arg1)
          ∧ r.2.mem ((c.tc : Thread Cert.ReferenceConfIdeal.nD Cert.ReferenceConfIdeal.τ).loc Cert.ReferenceConfIdeal.main_arg2) = m' ((c.tc : Thread Cert.ReferenceConfIdeal.nD Cert.ReferenceConfIdeal.τ).loc Cert.ReferenceConfIdeal.main_arg2)
          ∧ r.2.mem ((c.tc : Thread Cert.ReferenceConfIdeal.nD Cert.ReferenceConfIdeal.τ).loc Cert.ReferenceConfIdeal.main_arg3) = m' ((c.tc : Thread Cert.ReferenceConfIdeal.nD Cert.ReferenceConfIdeal.τ).loc Cert.ReferenceConfIdeal.main_arg3)
          ∧ r.2.mem ((c.tc : Thread Cert.ReferenceConfIdeal.nD Cert.ReferenceConfIdeal.τ).loc Cert.ReferenceConfIdeal.main_arg4) = m' ((c.tc : Thread Cert.ReferenceConfIdeal.nD Cert.ReferenceConfIdeal.τ).loc Cert.ReferenceConfIdeal.main_arg4)
          ∧ r.2.mem ((c.tc : Thread Cert.ReferenceConfIdeal.nD Cert.ReferenceConfIdeal.τ).loc Cert.ReferenceConfIdeal.main_arg5) = m' ((c.tc : Thread Cert.ReferenceConfIdeal.nD Cert.ReferenceConfIdeal.τ).loc Cert.ReferenceConfIdeal.main_arg5)
          ∧ r.2.mem ((c.tc : Thread Cert.ReferenceConfIdeal.nD Cert.ReferenceConfIdeal.τ).loc Cert.ReferenceConfIdeal.main_arg6) = m' ((c.tc : Thread Cert.ReferenceConfIdeal.nD Cert.ReferenceConfIdeal.τ).loc Cert.ReferenceConfIdeal.main_arg6))

def preserves_KernelConfSample_KernelConfSampleIdeal : Prop :=
  True

def algebraic_KernelConfSampleIdeal_ReferenceConfSampleIdeal [hKernelConfSampleIdeal : Cert.KernelConfSampleIdeal.Facts] [hReferenceConfSampleIdeal : Cert.ReferenceConfSampleIdeal.Facts] : Prop :=
  ∀ (m : (ℓ : Loc Cert.KernelConfSampleIdeal.nD Cert.KernelConfSampleIdeal.τ Cert.KernelConfSampleIdeal.sig) → Buf (Elt Ideal) ℓ) (g : Dev Cert.KernelConfSampleIdeal.nD → PrngReg)
    (m' : (ℓ : Loc Cert.ReferenceConfSampleIdeal.nD Cert.ReferenceConfSampleIdeal.τ Cert.ReferenceConfSampleIdeal.sig) → Buf (Elt Ideal) ℓ) (g' : Dev Cert.ReferenceConfSampleIdeal.nD → PrngReg), Pre_KernelConfSampleIdeal m →
    (∀ c : Dev Cert.KernelConfSampleIdeal.nD,
      m' ((c.tc : Thread Cert.ReferenceConfSampleIdeal.nD Cert.ReferenceConfSampleIdeal.τ).loc Cert.ReferenceConfSampleIdeal.main_arg0) = m ((c.tc : Thread Cert.KernelConfSampleIdeal.nD Cert.KernelConfSampleIdeal.τ).loc Cert.KernelConfSampleIdeal.main_arg0)
      ∧ m' ((c.tc : Thread Cert.ReferenceConfSampleIdeal.nD Cert.ReferenceConfSampleIdeal.τ).loc Cert.ReferenceConfSampleIdeal.main_arg1) = m ((c.tc : Thread Cert.KernelConfSampleIdeal.nD Cert.KernelConfSampleIdeal.τ).loc Cert.KernelConfSampleIdeal.main_arg1)
      ∧ m' ((c.tc : Thread Cert.ReferenceConfSampleIdeal.nD Cert.ReferenceConfSampleIdeal.τ).loc Cert.ReferenceConfSampleIdeal.main_arg2) = m ((c.tc : Thread Cert.KernelConfSampleIdeal.nD Cert.KernelConfSampleIdeal.τ).loc Cert.KernelConfSampleIdeal.main_arg2)
      ∧ m' ((c.tc : Thread Cert.ReferenceConfSampleIdeal.nD Cert.ReferenceConfSampleIdeal.τ).loc Cert.ReferenceConfSampleIdeal.main_arg3) = m ((c.tc : Thread Cert.KernelConfSampleIdeal.nD Cert.KernelConfSampleIdeal.τ).loc Cert.KernelConfSampleIdeal.main_arg3)
      ∧ m' ((c.tc : Thread Cert.ReferenceConfSampleIdeal.nD Cert.ReferenceConfSampleIdeal.τ).loc Cert.ReferenceConfSampleIdeal.main_arg4) = m ((c.tc : Thread Cert.KernelConfSampleIdeal.nD Cert.KernelConfSampleIdeal.τ).loc Cert.KernelConfSampleIdeal.main_arg4)
      ∧ m' ((c.tc : Thread Cert.ReferenceConfSampleIdeal.nD Cert.ReferenceConfSampleIdeal.τ).loc Cert.ReferenceConfSampleIdeal.main_arg5) = m ((c.tc : Thread Cert.KernelConfSampleIdeal.nD Cert.KernelConfSampleIdeal.τ).loc Cert.KernelConfSampleIdeal.main_arg5)
      ∧ m' ((c.tc : Thread Cert.ReferenceConfSampleIdeal.nD Cert.ReferenceConfSampleIdeal.τ).loc Cert.ReferenceConfSampleIdeal.main_arg6) = m ((c.tc : Thread Cert.KernelConfSampleIdeal.nD Cert.KernelConfSampleIdeal.τ).loc Cert.KernelConfSampleIdeal.main_arg6)
      ∧ m' ((c.tc : Thread Cert.ReferenceConfSampleIdeal.nD Cert.ReferenceConfSampleIdeal.τ).loc Cert.ReferenceConfSampleIdeal.main_arg7) = m ((c.tc : Thread Cert.KernelConfSampleIdeal.nD Cert.KernelConfSampleIdeal.τ).loc Cert.KernelConfSampleIdeal.main_arg7)) →
    ∃ (v0 : (c : Dev Cert.KernelConfSampleIdeal.nD) → Buf (Elt Ideal) ((c.tc : Thread Cert.KernelConfSampleIdeal.nD Cert.KernelConfSampleIdeal.τ).loc Cert.KernelConfSampleIdeal.main_v4_0)) (v1 : (c : Dev Cert.KernelConfSampleIdeal.nD) → Buf (Elt Ideal) ((c.tc : Thread Cert.KernelConfSampleIdeal.nD Cert.KernelConfSampleIdeal.τ).loc Cert.KernelConfSampleIdeal.main_v4_1)),
      θ_run (Cert.KernelConfSampleIdeal.defs (F := Ideal)) (onTc (τ := Cert.KernelConfSampleIdeal.τ) (Cert.KernelConfSampleIdeal.main (F := Ideal))) ⟨m, fun _ => 0, g⟩ (fun r => ∀ c : Dev Cert.KernelConfSampleIdeal.nD,
          r.2.mem ((c.tc : Thread Cert.KernelConfSampleIdeal.nD Cert.KernelConfSampleIdeal.τ).loc Cert.KernelConfSampleIdeal.main_v4_0) = v0 c
          ∧ r.2.mem ((c.tc : Thread Cert.KernelConfSampleIdeal.nD Cert.KernelConfSampleIdeal.τ).loc Cert.KernelConfSampleIdeal.main_v4_1) = v1 c
          ∧ r.2.mem ((c.tc : Thread Cert.KernelConfSampleIdeal.nD Cert.KernelConfSampleIdeal.τ).loc Cert.KernelConfSampleIdeal.main_arg0) = m ((c.tc : Thread Cert.KernelConfSampleIdeal.nD Cert.KernelConfSampleIdeal.τ).loc Cert.KernelConfSampleIdeal.main_arg0)
          ∧ r.2.mem ((c.tc : Thread Cert.KernelConfSampleIdeal.nD Cert.KernelConfSampleIdeal.τ).loc Cert.KernelConfSampleIdeal.main_arg1) = m ((c.tc : Thread Cert.KernelConfSampleIdeal.nD Cert.KernelConfSampleIdeal.τ).loc Cert.KernelConfSampleIdeal.main_arg1)
          ∧ r.2.mem ((c.tc : Thread Cert.KernelConfSampleIdeal.nD Cert.KernelConfSampleIdeal.τ).loc Cert.KernelConfSampleIdeal.main_arg2) = m ((c.tc : Thread Cert.KernelConfSampleIdeal.nD Cert.KernelConfSampleIdeal.τ).loc Cert.KernelConfSampleIdeal.main_arg2)
          ∧ r.2.mem ((c.tc : Thread Cert.KernelConfSampleIdeal.nD Cert.KernelConfSampleIdeal.τ).loc Cert.KernelConfSampleIdeal.main_arg3) = m ((c.tc : Thread Cert.KernelConfSampleIdeal.nD Cert.KernelConfSampleIdeal.τ).loc Cert.KernelConfSampleIdeal.main_arg3)
          ∧ r.2.mem ((c.tc : Thread Cert.KernelConfSampleIdeal.nD Cert.KernelConfSampleIdeal.τ).loc Cert.KernelConfSampleIdeal.main_arg4) = m ((c.tc : Thread Cert.KernelConfSampleIdeal.nD Cert.KernelConfSampleIdeal.τ).loc Cert.KernelConfSampleIdeal.main_arg4)
          ∧ r.2.mem ((c.tc : Thread Cert.KernelConfSampleIdeal.nD Cert.KernelConfSampleIdeal.τ).loc Cert.KernelConfSampleIdeal.main_arg5) = m ((c.tc : Thread Cert.KernelConfSampleIdeal.nD Cert.KernelConfSampleIdeal.τ).loc Cert.KernelConfSampleIdeal.main_arg5)
          ∧ r.2.mem ((c.tc : Thread Cert.KernelConfSampleIdeal.nD Cert.KernelConfSampleIdeal.τ).loc Cert.KernelConfSampleIdeal.main_arg6) = m ((c.tc : Thread Cert.KernelConfSampleIdeal.nD Cert.KernelConfSampleIdeal.τ).loc Cert.KernelConfSampleIdeal.main_arg6)
          ∧ r.2.mem ((c.tc : Thread Cert.KernelConfSampleIdeal.nD Cert.KernelConfSampleIdeal.τ).loc Cert.KernelConfSampleIdeal.main_arg7) = m ((c.tc : Thread Cert.KernelConfSampleIdeal.nD Cert.KernelConfSampleIdeal.τ).loc Cert.KernelConfSampleIdeal.main_arg7))
      ∧ θ_run (Cert.ReferenceConfSampleIdeal.defs (F := Ideal)) (onTc (τ := Cert.ReferenceConfSampleIdeal.τ) (Cert.ReferenceConfSampleIdeal.main (F := Ideal))) ⟨m', fun _ => 0, g'⟩ (fun r => ∀ c : Dev Cert.ReferenceConfSampleIdeal.nD,
          r.2.mem ((c.tc : Thread Cert.ReferenceConfSampleIdeal.nD Cert.ReferenceConfSampleIdeal.τ).loc Cert.ReferenceConfSampleIdeal.main_v258) = v0 c
          ∧ r.2.mem ((c.tc : Thread Cert.ReferenceConfSampleIdeal.nD Cert.ReferenceConfSampleIdeal.τ).loc Cert.ReferenceConfSampleIdeal.main_v259) = v1 c
          ∧ r.2.mem ((c.tc : Thread Cert.ReferenceConfSampleIdeal.nD Cert.ReferenceConfSampleIdeal.τ).loc Cert.ReferenceConfSampleIdeal.main_arg0) = m' ((c.tc : Thread Cert.ReferenceConfSampleIdeal.nD Cert.ReferenceConfSampleIdeal.τ).loc Cert.ReferenceConfSampleIdeal.main_arg0)
          ∧ r.2.mem ((c.tc : Thread Cert.ReferenceConfSampleIdeal.nD Cert.ReferenceConfSampleIdeal.τ).loc Cert.ReferenceConfSampleIdeal.main_arg1) = m' ((c.tc : Thread Cert.ReferenceConfSampleIdeal.nD Cert.ReferenceConfSampleIdeal.τ).loc Cert.ReferenceConfSampleIdeal.main_arg1)
          ∧ r.2.mem ((c.tc : Thread Cert.ReferenceConfSampleIdeal.nD Cert.ReferenceConfSampleIdeal.τ).loc Cert.ReferenceConfSampleIdeal.main_arg2) = m' ((c.tc : Thread Cert.ReferenceConfSampleIdeal.nD Cert.ReferenceConfSampleIdeal.τ).loc Cert.ReferenceConfSampleIdeal.main_arg2)
          ∧ r.2.mem ((c.tc : Thread Cert.ReferenceConfSampleIdeal.nD Cert.ReferenceConfSampleIdeal.τ).loc Cert.ReferenceConfSampleIdeal.main_arg3) = m' ((c.tc : Thread Cert.ReferenceConfSampleIdeal.nD Cert.ReferenceConfSampleIdeal.τ).loc Cert.ReferenceConfSampleIdeal.main_arg3)
          ∧ r.2.mem ((c.tc : Thread Cert.ReferenceConfSampleIdeal.nD Cert.ReferenceConfSampleIdeal.τ).loc Cert.ReferenceConfSampleIdeal.main_arg4) = m' ((c.tc : Thread Cert.ReferenceConfSampleIdeal.nD Cert.ReferenceConfSampleIdeal.τ).loc Cert.ReferenceConfSampleIdeal.main_arg4)
          ∧ r.2.mem ((c.tc : Thread Cert.ReferenceConfSampleIdeal.nD Cert.ReferenceConfSampleIdeal.τ).loc Cert.ReferenceConfSampleIdeal.main_arg5) = m' ((c.tc : Thread Cert.ReferenceConfSampleIdeal.nD Cert.ReferenceConfSampleIdeal.τ).loc Cert.ReferenceConfSampleIdeal.main_arg5)
          ∧ r.2.mem ((c.tc : Thread Cert.ReferenceConfSampleIdeal.nD Cert.ReferenceConfSampleIdeal.τ).loc Cert.ReferenceConfSampleIdeal.main_arg6) = m' ((c.tc : Thread Cert.ReferenceConfSampleIdeal.nD Cert.ReferenceConfSampleIdeal.τ).loc Cert.ReferenceConfSampleIdeal.main_arg6)
          ∧ r.2.mem ((c.tc : Thread Cert.ReferenceConfSampleIdeal.nD Cert.ReferenceConfSampleIdeal.τ).loc Cert.ReferenceConfSampleIdeal.main_arg7) = m' ((c.tc : Thread Cert.ReferenceConfSampleIdeal.nD Cert.ReferenceConfSampleIdeal.τ).loc Cert.ReferenceConfSampleIdeal.main_arg7))

def preserves_KernelSsdSample_KernelSsdSampleIdeal : Prop :=
  True

def algebraic_KernelSsdSampleIdeal_ReferenceSsdSampleIdeal [hKernelSsdSampleIdeal : Cert.KernelSsdSampleIdeal.Facts] [hReferenceSsdSampleIdeal : Cert.ReferenceSsdSampleIdeal.Facts] : Prop :=
  ∀ (m : (ℓ : Loc Cert.KernelSsdSampleIdeal.nD Cert.KernelSsdSampleIdeal.τ Cert.KernelSsdSampleIdeal.sig) → Buf (Elt Ideal) ℓ) (g : Dev Cert.KernelSsdSampleIdeal.nD → PrngReg)
    (m' : (ℓ : Loc Cert.ReferenceSsdSampleIdeal.nD Cert.ReferenceSsdSampleIdeal.τ Cert.ReferenceSsdSampleIdeal.sig) → Buf (Elt Ideal) ℓ) (g' : Dev Cert.ReferenceSsdSampleIdeal.nD → PrngReg), Pre_KernelSsdSampleIdeal m →
    (∀ c : Dev Cert.KernelSsdSampleIdeal.nD,
      m' ((c.tc : Thread Cert.ReferenceSsdSampleIdeal.nD Cert.ReferenceSsdSampleIdeal.τ).loc Cert.ReferenceSsdSampleIdeal.main_arg0) = m ((c.tc : Thread Cert.KernelSsdSampleIdeal.nD Cert.KernelSsdSampleIdeal.τ).loc Cert.KernelSsdSampleIdeal.main_arg0)
      ∧ m' ((c.tc : Thread Cert.ReferenceSsdSampleIdeal.nD Cert.ReferenceSsdSampleIdeal.τ).loc Cert.ReferenceSsdSampleIdeal.main_arg1) = m ((c.tc : Thread Cert.KernelSsdSampleIdeal.nD Cert.KernelSsdSampleIdeal.τ).loc Cert.KernelSsdSampleIdeal.main_arg1)
      ∧ m' ((c.tc : Thread Cert.ReferenceSsdSampleIdeal.nD Cert.ReferenceSsdSampleIdeal.τ).loc Cert.ReferenceSsdSampleIdeal.main_arg2) = m ((c.tc : Thread Cert.KernelSsdSampleIdeal.nD Cert.KernelSsdSampleIdeal.τ).loc Cert.KernelSsdSampleIdeal.main_arg2)
      ∧ m' ((c.tc : Thread Cert.ReferenceSsdSampleIdeal.nD Cert.ReferenceSsdSampleIdeal.τ).loc Cert.ReferenceSsdSampleIdeal.main_arg3) = m ((c.tc : Thread Cert.KernelSsdSampleIdeal.nD Cert.KernelSsdSampleIdeal.τ).loc Cert.KernelSsdSampleIdeal.main_arg3)
      ∧ m' ((c.tc : Thread Cert.ReferenceSsdSampleIdeal.nD Cert.ReferenceSsdSampleIdeal.τ).loc Cert.ReferenceSsdSampleIdeal.main_arg4) = m ((c.tc : Thread Cert.KernelSsdSampleIdeal.nD Cert.KernelSsdSampleIdeal.τ).loc Cert.KernelSsdSampleIdeal.main_arg4)
      ∧ m' ((c.tc : Thread Cert.ReferenceSsdSampleIdeal.nD Cert.ReferenceSsdSampleIdeal.τ).loc Cert.ReferenceSsdSampleIdeal.main_arg5) = m ((c.tc : Thread Cert.KernelSsdSampleIdeal.nD Cert.KernelSsdSampleIdeal.τ).loc Cert.KernelSsdSampleIdeal.main_arg5)
      ∧ m' ((c.tc : Thread Cert.ReferenceSsdSampleIdeal.nD Cert.ReferenceSsdSampleIdeal.τ).loc Cert.ReferenceSsdSampleIdeal.main_arg6) = m ((c.tc : Thread Cert.KernelSsdSampleIdeal.nD Cert.KernelSsdSampleIdeal.τ).loc Cert.KernelSsdSampleIdeal.main_arg6)
      ∧ m' ((c.tc : Thread Cert.ReferenceSsdSampleIdeal.nD Cert.ReferenceSsdSampleIdeal.τ).loc Cert.ReferenceSsdSampleIdeal.main_arg7) = m ((c.tc : Thread Cert.KernelSsdSampleIdeal.nD Cert.KernelSsdSampleIdeal.τ).loc Cert.KernelSsdSampleIdeal.main_arg7)
      ∧ m' ((c.tc : Thread Cert.ReferenceSsdSampleIdeal.nD Cert.ReferenceSsdSampleIdeal.τ).loc Cert.ReferenceSsdSampleIdeal.main_arg8) = m ((c.tc : Thread Cert.KernelSsdSampleIdeal.nD Cert.KernelSsdSampleIdeal.τ).loc Cert.KernelSsdSampleIdeal.main_arg8)) →
    ∃ (v0 : (c : Dev Cert.KernelSsdSampleIdeal.nD) → Buf (Elt Ideal) ((c.tc : Thread Cert.KernelSsdSampleIdeal.nD Cert.KernelSsdSampleIdeal.τ).loc Cert.KernelSsdSampleIdeal.main_v22_1)),
      θ_run (Cert.KernelSsdSampleIdeal.defs (F := Ideal)) (onTc (τ := Cert.KernelSsdSampleIdeal.τ) (Cert.KernelSsdSampleIdeal.main (F := Ideal))) ⟨m, fun _ => 0, g⟩ (fun r => ∀ c : Dev Cert.KernelSsdSampleIdeal.nD,
          r.2.mem ((c.tc : Thread Cert.KernelSsdSampleIdeal.nD Cert.KernelSsdSampleIdeal.τ).loc Cert.KernelSsdSampleIdeal.main_v22_1) = v0 c
          ∧ r.2.mem ((c.tc : Thread Cert.KernelSsdSampleIdeal.nD Cert.KernelSsdSampleIdeal.τ).loc Cert.KernelSsdSampleIdeal.main_arg0) = m ((c.tc : Thread Cert.KernelSsdSampleIdeal.nD Cert.KernelSsdSampleIdeal.τ).loc Cert.KernelSsdSampleIdeal.main_arg0)
          ∧ r.2.mem ((c.tc : Thread Cert.KernelSsdSampleIdeal.nD Cert.KernelSsdSampleIdeal.τ).loc Cert.KernelSsdSampleIdeal.main_arg1) = m ((c.tc : Thread Cert.KernelSsdSampleIdeal.nD Cert.KernelSsdSampleIdeal.τ).loc Cert.KernelSsdSampleIdeal.main_arg1)
          ∧ r.2.mem ((c.tc : Thread Cert.KernelSsdSampleIdeal.nD Cert.KernelSsdSampleIdeal.τ).loc Cert.KernelSsdSampleIdeal.main_arg2) = m ((c.tc : Thread Cert.KernelSsdSampleIdeal.nD Cert.KernelSsdSampleIdeal.τ).loc Cert.KernelSsdSampleIdeal.main_arg2)
          ∧ r.2.mem ((c.tc : Thread Cert.KernelSsdSampleIdeal.nD Cert.KernelSsdSampleIdeal.τ).loc Cert.KernelSsdSampleIdeal.main_arg3) = m ((c.tc : Thread Cert.KernelSsdSampleIdeal.nD Cert.KernelSsdSampleIdeal.τ).loc Cert.KernelSsdSampleIdeal.main_arg3)
          ∧ r.2.mem ((c.tc : Thread Cert.KernelSsdSampleIdeal.nD Cert.KernelSsdSampleIdeal.τ).loc Cert.KernelSsdSampleIdeal.main_arg4) = m ((c.tc : Thread Cert.KernelSsdSampleIdeal.nD Cert.KernelSsdSampleIdeal.τ).loc Cert.KernelSsdSampleIdeal.main_arg4)
          ∧ r.2.mem ((c.tc : Thread Cert.KernelSsdSampleIdeal.nD Cert.KernelSsdSampleIdeal.τ).loc Cert.KernelSsdSampleIdeal.main_arg5) = m ((c.tc : Thread Cert.KernelSsdSampleIdeal.nD Cert.KernelSsdSampleIdeal.τ).loc Cert.KernelSsdSampleIdeal.main_arg5)
          ∧ r.2.mem ((c.tc : Thread Cert.KernelSsdSampleIdeal.nD Cert.KernelSsdSampleIdeal.τ).loc Cert.KernelSsdSampleIdeal.main_arg6) = m ((c.tc : Thread Cert.KernelSsdSampleIdeal.nD Cert.KernelSsdSampleIdeal.τ).loc Cert.KernelSsdSampleIdeal.main_arg6)
          ∧ r.2.mem ((c.tc : Thread Cert.KernelSsdSampleIdeal.nD Cert.KernelSsdSampleIdeal.τ).loc Cert.KernelSsdSampleIdeal.main_arg7) = m ((c.tc : Thread Cert.KernelSsdSampleIdeal.nD Cert.KernelSsdSampleIdeal.τ).loc Cert.KernelSsdSampleIdeal.main_arg7)
          ∧ r.2.mem ((c.tc : Thread Cert.KernelSsdSampleIdeal.nD Cert.KernelSsdSampleIdeal.τ).loc Cert.KernelSsdSampleIdeal.main_arg8) = m ((c.tc : Thread Cert.KernelSsdSampleIdeal.nD Cert.KernelSsdSampleIdeal.τ).loc Cert.KernelSsdSampleIdeal.main_arg8))
      ∧ θ_run (Cert.ReferenceSsdSampleIdeal.defs (F := Ideal)) (onTc (τ := Cert.ReferenceSsdSampleIdeal.τ) (Cert.ReferenceSsdSampleIdeal.main (F := Ideal))) ⟨m', fun _ => 0, g'⟩ (fun r => ∀ c : Dev Cert.ReferenceSsdSampleIdeal.nD,
          r.2.mem ((c.tc : Thread Cert.ReferenceSsdSampleIdeal.nD Cert.ReferenceSsdSampleIdeal.τ).loc Cert.ReferenceSsdSampleIdeal.main_v96) = v0 c
          ∧ r.2.mem ((c.tc : Thread Cert.ReferenceSsdSampleIdeal.nD Cert.ReferenceSsdSampleIdeal.τ).loc Cert.ReferenceSsdSampleIdeal.main_arg0) = m' ((c.tc : Thread Cert.ReferenceSsdSampleIdeal.nD Cert.ReferenceSsdSampleIdeal.τ).loc Cert.ReferenceSsdSampleIdeal.main_arg0)
          ∧ r.2.mem ((c.tc : Thread Cert.ReferenceSsdSampleIdeal.nD Cert.ReferenceSsdSampleIdeal.τ).loc Cert.ReferenceSsdSampleIdeal.main_arg1) = m' ((c.tc : Thread Cert.ReferenceSsdSampleIdeal.nD Cert.ReferenceSsdSampleIdeal.τ).loc Cert.ReferenceSsdSampleIdeal.main_arg1)
          ∧ r.2.mem ((c.tc : Thread Cert.ReferenceSsdSampleIdeal.nD Cert.ReferenceSsdSampleIdeal.τ).loc Cert.ReferenceSsdSampleIdeal.main_arg2) = m' ((c.tc : Thread Cert.ReferenceSsdSampleIdeal.nD Cert.ReferenceSsdSampleIdeal.τ).loc Cert.ReferenceSsdSampleIdeal.main_arg2)
          ∧ r.2.mem ((c.tc : Thread Cert.ReferenceSsdSampleIdeal.nD Cert.ReferenceSsdSampleIdeal.τ).loc Cert.ReferenceSsdSampleIdeal.main_arg3) = m' ((c.tc : Thread Cert.ReferenceSsdSampleIdeal.nD Cert.ReferenceSsdSampleIdeal.τ).loc Cert.ReferenceSsdSampleIdeal.main_arg3)
          ∧ r.2.mem ((c.tc : Thread Cert.ReferenceSsdSampleIdeal.nD Cert.ReferenceSsdSampleIdeal.τ).loc Cert.ReferenceSsdSampleIdeal.main_arg4) = m' ((c.tc : Thread Cert.ReferenceSsdSampleIdeal.nD Cert.ReferenceSsdSampleIdeal.τ).loc Cert.ReferenceSsdSampleIdeal.main_arg4)
          ∧ r.2.mem ((c.tc : Thread Cert.ReferenceSsdSampleIdeal.nD Cert.ReferenceSsdSampleIdeal.τ).loc Cert.ReferenceSsdSampleIdeal.main_arg5) = m' ((c.tc : Thread Cert.ReferenceSsdSampleIdeal.nD Cert.ReferenceSsdSampleIdeal.τ).loc Cert.ReferenceSsdSampleIdeal.main_arg5)
          ∧ r.2.mem ((c.tc : Thread Cert.ReferenceSsdSampleIdeal.nD Cert.ReferenceSsdSampleIdeal.τ).loc Cert.ReferenceSsdSampleIdeal.main_arg6) = m' ((c.tc : Thread Cert.ReferenceSsdSampleIdeal.nD Cert.ReferenceSsdSampleIdeal.τ).loc Cert.ReferenceSsdSampleIdeal.main_arg6)
          ∧ r.2.mem ((c.tc : Thread Cert.ReferenceSsdSampleIdeal.nD Cert.ReferenceSsdSampleIdeal.τ).loc Cert.ReferenceSsdSampleIdeal.main_arg7) = m' ((c.tc : Thread Cert.ReferenceSsdSampleIdeal.nD Cert.ReferenceSsdSampleIdeal.τ).loc Cert.ReferenceSsdSampleIdeal.main_arg7)
          ∧ r.2.mem ((c.tc : Thread Cert.ReferenceSsdSampleIdeal.nD Cert.ReferenceSsdSampleIdeal.τ).loc Cert.ReferenceSsdSampleIdeal.main_arg8) = m' ((c.tc : Thread Cert.ReferenceSsdSampleIdeal.nD Cert.ReferenceSsdSampleIdeal.τ).loc Cert.ReferenceSsdSampleIdeal.main_arg8))

def preserves_KernelSsd_KernelSsdIdeal : Prop :=
  True

def algebraic_KernelSsdIdeal_ReferenceSsdIdeal [hKernelSsdIdeal : Cert.KernelSsdIdeal.Facts] [hReferenceSsdIdeal : Cert.ReferenceSsdIdeal.Facts] : Prop :=
  ∀ (m : (ℓ : Loc Cert.KernelSsdIdeal.nD Cert.KernelSsdIdeal.τ Cert.KernelSsdIdeal.sig) → Buf (Elt Ideal) ℓ) (g : Dev Cert.KernelSsdIdeal.nD → PrngReg)
    (m' : (ℓ : Loc Cert.ReferenceSsdIdeal.nD Cert.ReferenceSsdIdeal.τ Cert.ReferenceSsdIdeal.sig) → Buf (Elt Ideal) ℓ) (g' : Dev Cert.ReferenceSsdIdeal.nD → PrngReg), Pre_KernelSsdIdeal m →
    (∀ c : Dev Cert.KernelSsdIdeal.nD,
      m' ((c.tc : Thread Cert.ReferenceSsdIdeal.nD Cert.ReferenceSsdIdeal.τ).loc Cert.ReferenceSsdIdeal.main_arg0) = m ((c.tc : Thread Cert.KernelSsdIdeal.nD Cert.KernelSsdIdeal.τ).loc Cert.KernelSsdIdeal.main_arg0)
      ∧ m' ((c.tc : Thread Cert.ReferenceSsdIdeal.nD Cert.ReferenceSsdIdeal.τ).loc Cert.ReferenceSsdIdeal.main_arg1) = m ((c.tc : Thread Cert.KernelSsdIdeal.nD Cert.KernelSsdIdeal.τ).loc Cert.KernelSsdIdeal.main_arg1)
      ∧ m' ((c.tc : Thread Cert.ReferenceSsdIdeal.nD Cert.ReferenceSsdIdeal.τ).loc Cert.ReferenceSsdIdeal.main_arg2) = m ((c.tc : Thread Cert.KernelSsdIdeal.nD Cert.KernelSsdIdeal.τ).loc Cert.KernelSsdIdeal.main_arg2)
      ∧ m' ((c.tc : Thread Cert.ReferenceSsdIdeal.nD Cert.ReferenceSsdIdeal.τ).loc Cert.ReferenceSsdIdeal.main_arg3) = m ((c.tc : Thread Cert.KernelSsdIdeal.nD Cert.KernelSsdIdeal.τ).loc Cert.KernelSsdIdeal.main_arg3)
      ∧ m' ((c.tc : Thread Cert.ReferenceSsdIdeal.nD Cert.ReferenceSsdIdeal.τ).loc Cert.ReferenceSsdIdeal.main_arg4) = m ((c.tc : Thread Cert.KernelSsdIdeal.nD Cert.KernelSsdIdeal.τ).loc Cert.KernelSsdIdeal.main_arg4)
      ∧ m' ((c.tc : Thread Cert.ReferenceSsdIdeal.nD Cert.ReferenceSsdIdeal.τ).loc Cert.ReferenceSsdIdeal.main_arg5) = m ((c.tc : Thread Cert.KernelSsdIdeal.nD Cert.KernelSsdIdeal.τ).loc Cert.KernelSsdIdeal.main_arg5)
      ∧ m' ((c.tc : Thread Cert.ReferenceSsdIdeal.nD Cert.ReferenceSsdIdeal.τ).loc Cert.ReferenceSsdIdeal.main_arg6) = m ((c.tc : Thread Cert.KernelSsdIdeal.nD Cert.KernelSsdIdeal.τ).loc Cert.KernelSsdIdeal.main_arg6)) →
    ∃ (v0 : (c : Dev Cert.KernelSsdIdeal.nD) → Buf (Elt Ideal) ((c.tc : Thread Cert.KernelSsdIdeal.nD Cert.KernelSsdIdeal.τ).loc Cert.KernelSsdIdeal.main_v18_1)),
      θ_run (Cert.KernelSsdIdeal.defs (F := Ideal)) (onTc (τ := Cert.KernelSsdIdeal.τ) (Cert.KernelSsdIdeal.main (F := Ideal))) ⟨m, fun _ => 0, g⟩ (fun r => ∀ c : Dev Cert.KernelSsdIdeal.nD,
          r.2.mem ((c.tc : Thread Cert.KernelSsdIdeal.nD Cert.KernelSsdIdeal.τ).loc Cert.KernelSsdIdeal.main_v18_1) = v0 c
          ∧ r.2.mem ((c.tc : Thread Cert.KernelSsdIdeal.nD Cert.KernelSsdIdeal.τ).loc Cert.KernelSsdIdeal.main_arg0) = m ((c.tc : Thread Cert.KernelSsdIdeal.nD Cert.KernelSsdIdeal.τ).loc Cert.KernelSsdIdeal.main_arg0)
          ∧ r.2.mem ((c.tc : Thread Cert.KernelSsdIdeal.nD Cert.KernelSsdIdeal.τ).loc Cert.KernelSsdIdeal.main_arg1) = m ((c.tc : Thread Cert.KernelSsdIdeal.nD Cert.KernelSsdIdeal.τ).loc Cert.KernelSsdIdeal.main_arg1)
          ∧ r.2.mem ((c.tc : Thread Cert.KernelSsdIdeal.nD Cert.KernelSsdIdeal.τ).loc Cert.KernelSsdIdeal.main_arg2) = m ((c.tc : Thread Cert.KernelSsdIdeal.nD Cert.KernelSsdIdeal.τ).loc Cert.KernelSsdIdeal.main_arg2)
          ∧ r.2.mem ((c.tc : Thread Cert.KernelSsdIdeal.nD Cert.KernelSsdIdeal.τ).loc Cert.KernelSsdIdeal.main_arg3) = m ((c.tc : Thread Cert.KernelSsdIdeal.nD Cert.KernelSsdIdeal.τ).loc Cert.KernelSsdIdeal.main_arg3)
          ∧ r.2.mem ((c.tc : Thread Cert.KernelSsdIdeal.nD Cert.KernelSsdIdeal.τ).loc Cert.KernelSsdIdeal.main_arg4) = m ((c.tc : Thread Cert.KernelSsdIdeal.nD Cert.KernelSsdIdeal.τ).loc Cert.KernelSsdIdeal.main_arg4)
          ∧ r.2.mem ((c.tc : Thread Cert.KernelSsdIdeal.nD Cert.KernelSsdIdeal.τ).loc Cert.KernelSsdIdeal.main_arg5) = m ((c.tc : Thread Cert.KernelSsdIdeal.nD Cert.KernelSsdIdeal.τ).loc Cert.KernelSsdIdeal.main_arg5)
          ∧ r.2.mem ((c.tc : Thread Cert.KernelSsdIdeal.nD Cert.KernelSsdIdeal.τ).loc Cert.KernelSsdIdeal.main_arg6) = m ((c.tc : Thread Cert.KernelSsdIdeal.nD Cert.KernelSsdIdeal.τ).loc Cert.KernelSsdIdeal.main_arg6))
      ∧ θ_run (Cert.ReferenceSsdIdeal.defs (F := Ideal)) (onTc (τ := Cert.ReferenceSsdIdeal.τ) (Cert.ReferenceSsdIdeal.main (F := Ideal))) ⟨m', fun _ => 0, g'⟩ (fun r => ∀ c : Dev Cert.ReferenceSsdIdeal.nD,
          r.2.mem ((c.tc : Thread Cert.ReferenceSsdIdeal.nD Cert.ReferenceSsdIdeal.τ).loc Cert.ReferenceSsdIdeal.main_v93) = v0 c
          ∧ r.2.mem ((c.tc : Thread Cert.ReferenceSsdIdeal.nD Cert.ReferenceSsdIdeal.τ).loc Cert.ReferenceSsdIdeal.main_arg0) = m' ((c.tc : Thread Cert.ReferenceSsdIdeal.nD Cert.ReferenceSsdIdeal.τ).loc Cert.ReferenceSsdIdeal.main_arg0)
          ∧ r.2.mem ((c.tc : Thread Cert.ReferenceSsdIdeal.nD Cert.ReferenceSsdIdeal.τ).loc Cert.ReferenceSsdIdeal.main_arg1) = m' ((c.tc : Thread Cert.ReferenceSsdIdeal.nD Cert.ReferenceSsdIdeal.τ).loc Cert.ReferenceSsdIdeal.main_arg1)
          ∧ r.2.mem ((c.tc : Thread Cert.ReferenceSsdIdeal.nD Cert.ReferenceSsdIdeal.τ).loc Cert.ReferenceSsdIdeal.main_arg2) = m' ((c.tc : Thread Cert.ReferenceSsdIdeal.nD Cert.ReferenceSsdIdeal.τ).loc Cert.ReferenceSsdIdeal.main_arg2)
          ∧ r.2.mem ((c.tc : Thread Cert.ReferenceSsdIdeal.nD Cert.ReferenceSsdIdeal.τ).loc Cert.ReferenceSsdIdeal.main_arg3) = m' ((c.tc : Thread Cert.ReferenceSsdIdeal.nD Cert.ReferenceSsdIdeal.τ).loc Cert.ReferenceSsdIdeal.main_arg3)
          ∧ r.2.mem ((c.tc : Thread Cert.ReferenceSsdIdeal.nD Cert.ReferenceSsdIdeal.τ).loc Cert.ReferenceSsdIdeal.main_arg4) = m' ((c.tc : Thread Cert.ReferenceSsdIdeal.nD Cert.ReferenceSsdIdeal.τ).loc Cert.ReferenceSsdIdeal.main_arg4)
          ∧ r.2.mem ((c.tc : Thread Cert.ReferenceSsdIdeal.nD Cert.ReferenceSsdIdeal.τ).loc Cert.ReferenceSsdIdeal.main_arg5) = m' ((c.tc : Thread Cert.ReferenceSsdIdeal.nD Cert.ReferenceSsdIdeal.τ).loc Cert.ReferenceSsdIdeal.main_arg5)
          ∧ r.2.mem ((c.tc : Thread Cert.ReferenceSsdIdeal.nD Cert.ReferenceSsdIdeal.τ).loc Cert.ReferenceSsdIdeal.main_arg6) = m' ((c.tc : Thread Cert.ReferenceSsdIdeal.nD Cert.ReferenceSsdIdeal.τ).loc Cert.ReferenceSsdIdeal.main_arg6))

def Claim : Prop :=
  ∃ (hKernel : Cert.Kernel.Facts) (hKernelIdeal : Cert.KernelIdeal.Facts) (hReferenceIdeal : Cert.ReferenceIdeal.Facts) (hKernelMem : Cert.KernelMem.Facts) (hKernelMemIdeal : Cert.KernelMemIdeal.Facts) (hReferenceMemIdeal : Cert.ReferenceMemIdeal.Facts) (hKernelFfn : Cert.KernelFfn.Facts) (hKernelFfnIdeal : Cert.KernelFfnIdeal.Facts) (hReferenceFfnIdeal : Cert.ReferenceFfnIdeal.Facts) (hKernelIn : Cert.KernelIn.Facts) (hKernelInIdeal : Cert.KernelInIdeal.Facts) (hReferenceInIdeal : Cert.ReferenceInIdeal.Facts) (hKernelInSample : Cert.KernelInSample.Facts) (hKernelInSampleIdeal : Cert.KernelInSampleIdeal.Facts) (hReferenceInSampleIdeal : Cert.ReferenceInSampleIdeal.Facts) (hKernelPrep : Cert.KernelPrep.Facts) (hKernelPrepIdeal : Cert.KernelPrepIdeal.Facts) (hReferencePrepIdeal : Cert.ReferencePrepIdeal.Facts) (hKernelOut : Cert.KernelOut.Facts) (hKernelOutIdeal : Cert.KernelOutIdeal.Facts) (hReferenceOutIdeal : Cert.ReferenceOutIdeal.Facts) (hKernelCross : Cert.KernelCross.Facts) (hKernelCrossIdeal : Cert.KernelCrossIdeal.Facts) (hReferenceCrossIdeal : Cert.ReferenceCrossIdeal.Facts) (hKernelSample : Cert.KernelSample.Facts) (hKernelSampleIdeal : Cert.KernelSampleIdeal.Facts) (hReferenceSampleIdeal : Cert.ReferenceSampleIdeal.Facts) (hKernelConfIn : Cert.KernelConfIn.Facts) (hKernelConfInIdeal : Cert.KernelConfInIdeal.Facts) (hReferenceConfInIdeal : Cert.ReferenceConfInIdeal.Facts) (hKernelQuery : Cert.KernelQuery.Facts) (hKernelQueryIdeal : Cert.KernelQueryIdeal.Facts) (hReferenceQueryIdeal : Cert.ReferenceQueryIdeal.Facts) (hKernelCrossOut : Cert.KernelCrossOut.Facts) (hKernelCrossOutIdeal : Cert.KernelCrossOutIdeal.Facts) (hReferenceCrossOutIdeal : Cert.ReferenceCrossOutIdeal.Facts) (hKernelConf : Cert.KernelConf.Facts) (hKernelConfIdeal : Cert.KernelConfIdeal.Facts) (hReferenceConfIdeal : Cert.ReferenceConfIdeal.Facts) (hKernelConfSample : Cert.KernelConfSample.Facts) (hKernelConfSampleIdeal : Cert.KernelConfSampleIdeal.Facts) (hReferenceConfSampleIdeal : Cert.ReferenceConfSampleIdeal.Facts) (hKernelSsdSample : Cert.KernelSsdSample.Facts) (hKernelSsdSampleIdeal : Cert.KernelSsdSampleIdeal.Facts) (hReferenceSsdSampleIdeal : Cert.ReferenceSsdSampleIdeal.Facts) (hKernelSsd : Cert.KernelSsd.Facts) (hKernelSsdIdeal : Cert.KernelSsdIdeal.Facts) (hReferenceSsdIdeal : Cert.ReferenceSsdIdeal.Facts) (hPre_finite : Cert.Pre_finite.Facts) (hPre_finite_sample : Cert.Pre_finite_sample.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_KernelMem (hKernelMem := hKernelMem)
    ∧ quiescent_KernelMemIdeal (hKernelMemIdeal := hKernelMemIdeal)
    ∧ quiescent_ReferenceMemIdeal (hReferenceMemIdeal := hReferenceMemIdeal)
    ∧ quiescent_KernelFfn (hKernelFfn := hKernelFfn)
    ∧ quiescent_KernelFfnIdeal (hKernelFfnIdeal := hKernelFfnIdeal)
    ∧ quiescent_ReferenceFfnIdeal (hReferenceFfnIdeal := hReferenceFfnIdeal)
    ∧ quiescent_KernelIn (hKernelIn := hKernelIn)
    ∧ quiescent_KernelInIdeal (hKernelInIdeal := hKernelInIdeal)
    ∧ quiescent_ReferenceInIdeal (hReferenceInIdeal := hReferenceInIdeal)
    ∧ quiescent_KernelInSample (hKernelInSample := hKernelInSample)
    ∧ quiescent_KernelInSampleIdeal (hKernelInSampleIdeal := hKernelInSampleIdeal)
    ∧ quiescent_ReferenceInSampleIdeal (hReferenceInSampleIdeal := hReferenceInSampleIdeal)
    ∧ quiescent_KernelPrep (hKernelPrep := hKernelPrep)
    ∧ quiescent_KernelPrepIdeal (hKernelPrepIdeal := hKernelPrepIdeal)
    ∧ quiescent_ReferencePrepIdeal (hReferencePrepIdeal := hReferencePrepIdeal)
    ∧ quiescent_KernelOut (hKernelOut := hKernelOut)
    ∧ quiescent_KernelOutIdeal (hKernelOutIdeal := hKernelOutIdeal)
    ∧ quiescent_ReferenceOutIdeal (hReferenceOutIdeal := hReferenceOutIdeal)
    ∧ quiescent_KernelCross (hKernelCross := hKernelCross)
    ∧ quiescent_KernelCrossIdeal (hKernelCrossIdeal := hKernelCrossIdeal)
    ∧ quiescent_ReferenceCrossIdeal (hReferenceCrossIdeal := hReferenceCrossIdeal)
    ∧ quiescent_KernelSample (hKernelSample := hKernelSample)
    ∧ quiescent_KernelSampleIdeal (hKernelSampleIdeal := hKernelSampleIdeal)
    ∧ quiescent_KernelSampleIdeal_pre_finite_sample (hKernelSampleIdeal := hKernelSampleIdeal) (hPre_finite_sample := hPre_finite_sample)
    ∧ quiescent_ReferenceSampleIdeal (hReferenceSampleIdeal := hReferenceSampleIdeal)
    ∧ quiescent_ReferenceSampleIdeal_pre_finite_sample (hReferenceSampleIdeal := hReferenceSampleIdeal) (hPre_finite_sample := hPre_finite_sample)
    ∧ quiescent_KernelConfIn (hKernelConfIn := hKernelConfIn)
    ∧ quiescent_KernelConfInIdeal (hKernelConfInIdeal := hKernelConfInIdeal)
    ∧ quiescent_ReferenceConfInIdeal (hReferenceConfInIdeal := hReferenceConfInIdeal)
    ∧ quiescent_KernelQuery (hKernelQuery := hKernelQuery)
    ∧ quiescent_KernelQueryIdeal (hKernelQueryIdeal := hKernelQueryIdeal)
    ∧ quiescent_ReferenceQueryIdeal (hReferenceQueryIdeal := hReferenceQueryIdeal)
    ∧ quiescent_KernelCrossOut (hKernelCrossOut := hKernelCrossOut)
    ∧ quiescent_KernelCrossOutIdeal (hKernelCrossOutIdeal := hKernelCrossOutIdeal)
    ∧ quiescent_ReferenceCrossOutIdeal (hReferenceCrossOutIdeal := hReferenceCrossOutIdeal)
    ∧ quiescent_KernelConf (hKernelConf := hKernelConf)
    ∧ quiescent_KernelConfIdeal (hKernelConfIdeal := hKernelConfIdeal)
    ∧ quiescent_ReferenceConfIdeal (hReferenceConfIdeal := hReferenceConfIdeal)
    ∧ quiescent_KernelConfSample (hKernelConfSample := hKernelConfSample)
    ∧ quiescent_KernelConfSampleIdeal (hKernelConfSampleIdeal := hKernelConfSampleIdeal)
    ∧ quiescent_ReferenceConfSampleIdeal (hReferenceConfSampleIdeal := hReferenceConfSampleIdeal)
    ∧ quiescent_KernelSsdSample (hKernelSsdSample := hKernelSsdSample)
    ∧ quiescent_KernelSsdSampleIdeal (hKernelSsdSampleIdeal := hKernelSsdSampleIdeal)
    ∧ quiescent_ReferenceSsdSampleIdeal (hReferenceSsdSampleIdeal := hReferenceSsdSampleIdeal)
    ∧ quiescent_KernelSsd (hKernelSsd := hKernelSsd)
    ∧ quiescent_KernelSsdIdeal (hKernelSsdIdeal := hKernelSsdIdeal)
    ∧ quiescent_ReferenceSsdIdeal (hReferenceSsdIdeal := hReferenceSsdIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_KernelMem_KernelMemIdeal
    ∧ algebraic_KernelMemIdeal_ReferenceMemIdeal (hKernelMemIdeal := hKernelMemIdeal) (hReferenceMemIdeal := hReferenceMemIdeal)
    ∧ preserves_KernelFfn_KernelFfnIdeal
    ∧ algebraic_KernelFfnIdeal_ReferenceFfnIdeal (hKernelFfnIdeal := hKernelFfnIdeal) (hReferenceFfnIdeal := hReferenceFfnIdeal)
    ∧ preserves_KernelIn_KernelInIdeal
    ∧ algebraic_KernelInIdeal_ReferenceInIdeal (hKernelInIdeal := hKernelInIdeal) (hReferenceInIdeal := hReferenceInIdeal)
    ∧ preserves_KernelInSample_KernelInSampleIdeal
    ∧ algebraic_KernelInSampleIdeal_ReferenceInSampleIdeal (hKernelInSampleIdeal := hKernelInSampleIdeal) (hReferenceInSampleIdeal := hReferenceInSampleIdeal)
    ∧ preserves_KernelPrep_KernelPrepIdeal
    ∧ algebraic_KernelPrepIdeal_ReferencePrepIdeal (hKernelPrepIdeal := hKernelPrepIdeal) (hReferencePrepIdeal := hReferencePrepIdeal)
    ∧ preserves_KernelOut_KernelOutIdeal
    ∧ algebraic_KernelOutIdeal_ReferenceOutIdeal (hKernelOutIdeal := hKernelOutIdeal) (hReferenceOutIdeal := hReferenceOutIdeal)
    ∧ preserves_KernelCross_KernelCrossIdeal
    ∧ algebraic_KernelCrossIdeal_ReferenceCrossIdeal (hKernelCrossIdeal := hKernelCrossIdeal) (hReferenceCrossIdeal := hReferenceCrossIdeal)
    ∧ preserves_KernelSample_KernelSampleIdeal
    ∧ algebraic_KernelSampleIdeal_ReferenceSampleIdeal_pre_finite_sample (hKernelSampleIdeal := hKernelSampleIdeal) (hReferenceSampleIdeal := hReferenceSampleIdeal) (hPre_finite_sample := hPre_finite_sample)
    ∧ preserves_KernelConfIn_KernelConfInIdeal
    ∧ algebraic_KernelConfInIdeal_ReferenceConfInIdeal (hKernelConfInIdeal := hKernelConfInIdeal) (hReferenceConfInIdeal := hReferenceConfInIdeal)
    ∧ preserves_KernelQuery_KernelQueryIdeal
    ∧ algebraic_KernelQueryIdeal_ReferenceQueryIdeal (hKernelQueryIdeal := hKernelQueryIdeal) (hReferenceQueryIdeal := hReferenceQueryIdeal)
    ∧ preserves_KernelCrossOut_KernelCrossOutIdeal
    ∧ algebraic_KernelCrossOutIdeal_ReferenceCrossOutIdeal (hKernelCrossOutIdeal := hKernelCrossOutIdeal) (hReferenceCrossOutIdeal := hReferenceCrossOutIdeal)
    ∧ preserves_KernelConf_KernelConfIdeal
    ∧ algebraic_KernelConfIdeal_ReferenceConfIdeal (hKernelConfIdeal := hKernelConfIdeal) (hReferenceConfIdeal := hReferenceConfIdeal)
    ∧ preserves_KernelConfSample_KernelConfSampleIdeal
    ∧ algebraic_KernelConfSampleIdeal_ReferenceConfSampleIdeal (hKernelConfSampleIdeal := hKernelConfSampleIdeal) (hReferenceConfSampleIdeal := hReferenceConfSampleIdeal)
    ∧ preserves_KernelSsdSample_KernelSsdSampleIdeal
    ∧ algebraic_KernelSsdSampleIdeal_ReferenceSsdSampleIdeal (hKernelSsdSampleIdeal := hKernelSsdSampleIdeal) (hReferenceSsdSampleIdeal := hReferenceSsdSampleIdeal)
    ∧ preserves_KernelSsd_KernelSsdIdeal
    ∧ algebraic_KernelSsdIdeal_ReferenceSsdIdeal (hKernelSsdIdeal := hKernelSsdIdeal) (hReferenceSsdIdeal := hReferenceSsdIdeal)
-- ==== Pre_finite.lean ====
abbrev S16384x1024 : Shape := ⟨2, ![16384, 1024]⟩
abbrev S1024 : Shape := ⟨1, ![1024]⟩
abbrev S1024x8 : Shape := ⟨2, ![1024, 8]⟩
abbrev S8x1024x3584 : Shape := ⟨3, ![8, 1024, 3584]⟩
abbrev S8x3584x1024 : Shape := ⟨3, ![8, 3584, 1024]⟩
abbrev S_ : Shape := ⟨0, ![]⟩

class Facts : Prop where
  bcast_S_S16384x1024 : S_.BroadcastsInDim S16384x1024 (![] : Fin 0 → Fin S16384x1024.rank)
  bcast_S_S1024 : S_.BroadcastsInDim S1024 (![] : Fin 0 → Fin S1024.rank)
  bcast_S_S1024x8 : S_.BroadcastsInDim S1024x8 (![] : Fin 0 → Fin S1024x8.rank)

variable [Facts]

def fn {F : FTy → Type} [FloatOps F] (main_arg0 : FVec F S16384x1024 .f32) (main_arg1 : FVec F S1024 .f32) (main_arg2 : FVec F S1024x8 .f32) (main_arg3 : FVec F S8x1024x3584 .f32) (main_arg4 : FVec F S8x1024x3584 .f32) (main_arg5 : FVec F S8x3584x1024 .f32) (main_arg6 : FVec F S1024 .f32) : IVec S16384x1024 1 × IVec S1024 1 × IVec S1024x8 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x8 .f32 := Host.absf main_arg2
  let main_cst_1 : FVec F S_ .f32 := constant S_ .f32 0x7F800000#32
  let main_v7 : FVec F S1024x8 .f32 := broadcastInDim S1024x8 ![] bcast_S_S1024x8 main_cst_1
  let main_v8 : IVec S1024x8 1 := cmpf .olt main_v6 main_v7
  (main_v2, main_v5, main_v8)
-- ==== Pre_finite_sample.lean ====
abbrev S512x1024 : Shape := ⟨2, ![512, 1024]⟩
abbrev S1024 : Shape := ⟨1, ![1024]⟩
abbrev S1024x8 : Shape := ⟨2, ![1024, 8]⟩
abbrev S8x1024x3584 : Shape := ⟨3, ![8, 1024, 3584]⟩
abbrev S8x3584x1024 : Shape := ⟨3, ![8, 3584, 1024]⟩
abbrev S_ : Shape := ⟨0, ![]⟩

class Facts : Prop where
  bcast_S_S512x1024 : S_.BroadcastsInDim S512x1024 (![] : Fin 0 → Fin S512x1024.rank)
  bcast_S_S1024 : S_.BroadcastsInDim S1024 (![] : Fin 0 → Fin S1024.rank)
  bcast_S_S1024x8 : S_.BroadcastsInDim S1024x8 (![] : Fin 0 → Fin S1024x8.rank)

variable [Facts]

def fn {F : FTy → Type} [FloatOps F] (main_arg0 : FVec F S512x1024 .f32) (main_arg1 : FVec F S1024 .f32) (main_arg2 : FVec F S1024x8 .f32) (main_arg3 : FVec F S8x1024x3584 .f32) (main_arg4 : FVec F S8x1024x3584 .f32) (main_arg5 : FVec F S8x3584x1024 .f32) (main_arg6 : FVec F S1024 .f32) : IVec S512x1024 1 × IVec S1024 1 × IVec S1024x8 1 :=
  let main_v0 : FVec F S512x1024 .f32 := Host.absf main_arg0
  let main_cst : FVec F S_ .f32 := constant S_ .f32 0x7F800000#32
  let main_v1 : FVec F S512x1024 .f32 := broadcastInDim S512x1024 ![] bcast_S_S512x1024 main_cst
  let main_v2 : IVec S512x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x8 .f32 := Host.absf main_arg2
  let main_cst_1 : FVec F S_ .f32 := constant S_ .f32 0x7F800000#32
  let main_v7 : FVec F S1024x8 .f32 := broadcastInDim S1024x8 ![] bcast_S_S1024x8 main_cst_1
  let main_v8 : IVec S1024x8 1 := cmpf .olt main_v6 main_v7
  (main_v2, main_v5, main_v8)
-- ==== Kernel.lean ====
abbrev S16384x1024 : Shape := ⟨2, ![16384, 1024]⟩
abbrev S1024 : Shape := ⟨1, ![1024]⟩
abbrev S1024x8 : Shape := ⟨2, ![1024, 8]⟩
abbrev S8x1024x3584 : Shape := ⟨3, ![8, 1024, 3584]⟩
abbrev S8x3584x1024 : Shape := ⟨3, ![8, 3584, 1024]⟩
abbrev S_ : Shape := ⟨0, ![]⟩
abbrev S1024x128 : Shape := ⟨2, ![1024, 128]⟩
abbrev S1 : Shape := ⟨1, ![1]⟩
abbrev S1x1024 : Shape := ⟨2, ![1, 1024]⟩
abbrev S512x1024 : Shape := ⟨2, ![512, 1024]⟩
abbrev S1x1024x512 : Shape := ⟨3, ![1, 1024, 512]⟩
abbrev S1x512x1024 : Shape := ⟨3, ![1, 512, 1024]⟩
abbrev S512x128 : Shape := ⟨2, ![512, 128]⟩
abbrev S512 : Shape := ⟨1, ![512]⟩
abbrev S512x1 : Shape := ⟨2, ![512, 1]⟩
abbrev S1024x512 : Shape := ⟨2, ![1024, 512]⟩
abbrev S512x512 : Shape := ⟨2, ![512, 512]⟩

abbrev nBuf : Space → Nat
  | .hbm => 19
  | .vmem => 16
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x8, .f32⟩
  | .hbm, ⟨3, _⟩ => ⟨S8x1024x3584, .f32⟩
  | .hbm, ⟨4, _⟩ => ⟨S8x1024x3584, .f32⟩
  | .hbm, ⟨5, _⟩ => ⟨S8x3584x1024, .f32⟩
  | .hbm, ⟨6, _⟩ => ⟨S1024, .f32⟩
  | .hbm, ⟨7, _⟩ => ⟨S8x1024x3584, .bf16⟩
  | .hbm, ⟨8, _⟩ => ⟨S8x1024x3584, .bf16⟩
  | .hbm, ⟨9, _⟩ => ⟨S8x3584x1024, .bf16⟩
  | .hbm, ⟨10, _⟩ => ⟨S_, .bf16⟩
  | .hbm, ⟨11, _⟩ => ⟨S1024x128, .bf16⟩
  | .hbm, ⟨12, _⟩ => ⟨S1024x8, .bf16⟩
  | .hbm, ⟨13, _⟩ => ⟨S_, .i32⟩
  | .hbm, ⟨14, _⟩ => ⟨S1, .i32⟩
  | .hbm, ⟨15, _⟩ => ⟨S1024x128, .bf16⟩
  | .hbm, ⟨16, _⟩ => ⟨S1x1024, .f32⟩
  | .hbm, ⟨17, _⟩ => ⟨S1x1024, .f32⟩
  | .hbm, ⟨18, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x128, .bf16⟩
  | .local _ .vmem, ⟨4, _⟩ => ⟨S1x1024x512, .bf16⟩
  | .local _ .vmem, ⟨5, _⟩ => ⟨S1x1024x512, .bf16⟩
  | .local _ .vmem, ⟨6, _⟩ => ⟨S1x1024x512, .bf16⟩
  | .local _ .vmem, ⟨7, _⟩ => ⟨S1x1024x512, .bf16⟩
  | .local _ .vmem, ⟨8, _⟩ => ⟨S1x512x1024, .bf16⟩
  | .local _ .vmem, ⟨9, _⟩ => ⟨S1x512x1024, .bf16⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x128, .f32⟩
  | .local _ .vmem, ⟨15, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_c : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨3, ![32, 8, 7], ![false, false, false]⟩

def k0_cond2 (i : grid0.Coords) : BitVec 1 :=
  let arg1 : BitVec 32 := BitVec.ofNat 32 (i 1).val
  let c7_i32 : BitVec 32 := 7#32
  let v40 : BitVec 1 := Scalar.cmpi .eq arg1 c7_i32
  let arg2 : BitVec 32 := BitVec.ofNat 32 (i 2).val
  let c6_i32 : BitVec 32 := 6#32
  let v41 : BitVec 1 := Scalar.cmpi .eq arg2 c6_i32
  let v42 : BitVec 1 := Scalar.andi v40 v41
  let v43 : BitVec 32 := Scalar.extui v42
  let c0_i32_25 : BitVec 32 := 0#32
  let v44 : BitVec 1 := Scalar.cmpi .ne v43 c0_i32_25
  v44

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 1 → Memref sig .tc .vmem S1024x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S1x1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1x1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, true]

abbrev stage0_5 : Fin 2 → Memref sig .tc .vmem S1x512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]
-- ==== ReferenceIdeal.lean ====
abbrev S16384x1024 : Shape := ⟨2, ![16384, 1024]⟩
abbrev S1024 : Shape := ⟨1, ![1024]⟩
abbrev S1024x8 : Shape := ⟨2, ![1024, 8]⟩
abbrev S8x1024x3584 : Shape := ⟨3, ![8, 1024, 3584]⟩
abbrev S8x3584x1024 : Shape := ⟨3, ![8, 3584, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x8 : Shape := ⟨2, ![16384, 8]⟩
abbrev S16384x2 : Shape := ⟨2, ![16384, 2]⟩
abbrev S16384x2x1 : Shape := ⟨3, ![16384, 2, 1]⟩
abbrev S1x1x8 : Shape := ⟨3, ![1, 1, 8]⟩
abbrev S16384x2x8 : Shape := ⟨3, ![16384, 2, 8]⟩
abbrev S1x1024x3584 : Shape := ⟨3, ![1, 1024, 3584]⟩
abbrev S1024x3584 : Shape := ⟨2, ![1024, 3584]⟩
abbrev S16384x3584 : Shape := ⟨2, ![16384, 3584]⟩
abbrev S1x3584x1024 : Shape := ⟨3, ![1, 3584, 1024]⟩
abbrev S3584x1024 : Shape := ⟨2, ![3584, 1024]⟩

abbrev nBuf : Space → Nat
  | .hbm => 250
  | .vmem => 0
  | .smem => 0
  | _ => 0

abbrev hbmTy0_0 (i : Nat) : BufTy := match i % 128 with
  | 0 => ⟨S16384x1024, .f32⟩
  | 1 => ⟨S1024, .f32⟩
  | 2 => ⟨S1024x8, .f32⟩
  | 3 => ⟨S8x1024x3584, .f32⟩
  | 4 => ⟨S8x1024x3584, .f32⟩
  | 5 => ⟨S8x3584x1024, .f32⟩
  | 6 => ⟨S1024, .f32⟩
  | 7 => ⟨S16384x1024, .f32⟩
  | 8 => ⟨S_, .f32⟩
  | 9 => ⟨S16384, .f32⟩
  | 10 => ⟨S16384x1, .f32⟩
  | 11 => ⟨S_, .f32⟩
  | 12 => ⟨S16384x1, .f32⟩
  | 13 => ⟨S16384x1, .f32⟩
  | 14 => ⟨S_, .f32⟩
  | 15 => ⟨S16384x1, .f32⟩
  | 16 => ⟨S16384x1, .f32⟩
  | 17 => ⟨S16384x1, .f32⟩
  | 18 => ⟨S16384x1024, .f32⟩
  | 19 => ⟨S16384x1024, .f32⟩
  | 20 => ⟨S1x1024, .f32⟩
  | 21 => ⟨S16384x1024, .f32⟩
  | 22 => ⟨S16384x1024, .f32⟩
  | 23 => ⟨S16384x8, .f32⟩
  | 24 => ⟨S16384x2, .f32⟩
  | 25 => ⟨S16384x2, .i32⟩
  | 26 => ⟨S_, .f32⟩
  | 27 => ⟨S16384, .f32⟩
  | 28 => ⟨S_, .f32⟩
  | 29 => ⟨S16384, .f32⟩
  | 30 => ⟨S16384, .f32⟩
  | 31 => ⟨S16384x1, .f32⟩
  | 32 => ⟨S16384x2, .f32⟩
  | 33 => ⟨S16384x2, .f32⟩
  | 34 => ⟨S16384x2, .f32⟩
  | 35 => ⟨S_, .f32⟩
  | 36 => ⟨S16384, .f32⟩
  | 37 => ⟨S16384x1, .f32⟩
  | 38 => ⟨S16384x2, .f32⟩
  | 39 => ⟨S16384x2, .f32⟩
  | 40 => ⟨S16384x2x1, .i32⟩
  | 41 => ⟨S1x1x8, .i32⟩
  | 42 => ⟨S16384x2x8, .i32⟩
  | 43 => ⟨S16384x2x8, .i32⟩
  | 44 => ⟨S16384x2x8, .i1⟩
  | 45 => ⟨S16384x2x8, .f32⟩
  | 46 => ⟨S16384x8, .f32⟩
  | 47 => ⟨S_, .f32⟩
  | 48 => ⟨S16384x1024, .f32⟩
  | 49 => ⟨S1x1024x3584, .f32⟩
  | 50 => ⟨S1024x3584, .f32⟩
  | 51 => ⟨S16384x3584, .f32⟩
  | 52 => ⟨S16384x3584, .f32⟩
  | 53 => ⟨S16384x3584, .f32⟩
  | 54 => ⟨S_, .f32⟩
  | 55 => ⟨S16384x3584, .f32⟩
  | 56 => ⟨S16384x3584, .f32⟩
  | 57 => ⟨S_, .f32⟩
  | 58 => ⟨S16384x3584, .f32⟩
  | 59 => ⟨S16384x3584, .f32⟩
  | 60 => ⟨S16384x3584, .f32⟩
  | 61 => ⟨S1x1024x3584, .f32⟩
  | 62 => ⟨S1024x3584, .f32⟩
  | 63 => ⟨S16384x3584, .f32⟩
  | 64 => ⟨S16384x3584, .f32⟩
  | 65 => ⟨S1x3584x1024, .f32⟩
  | 66 => ⟨S3584x1024, .f32⟩
  | 67 => ⟨S16384x1024, .f32⟩
  | 68 => ⟨S16384x1, .f32⟩
  | 69 => ⟨S16384x1024, .f32⟩
  | 70 => ⟨S16384x1024, .f32⟩
  | 71 => ⟨S16384x1024, .f32⟩
  | 72 => ⟨S1x1024x3584, .f32⟩
  | 73 => ⟨S1024x3584, .f32⟩
  | 74 => ⟨S16384x3584, .f32⟩
  | 75 => ⟨S16384x3584, .f32⟩
  | 76 => ⟨S16384x3584, .f32⟩
  | 77 => ⟨S_, .f32⟩
  | 78 => ⟨S16384x3584, .f32⟩
  | 79 => ⟨S16384x3584, .f32⟩
  | 80 => ⟨S_, .f32⟩
  | 81 => ⟨S16384x3584, .f32⟩
  | 82 => ⟨S16384x3584, .f32⟩
  | 83 => ⟨S16384x3584, .f32⟩
  | 84 => ⟨S1x1024x3584, .f32⟩
  | 85 => ⟨S1024x3584, .f32⟩
  | 86 => ⟨S16384x3584, .f32⟩
  | 87 => ⟨S16384x3584, .f32⟩
  | 88 => ⟨S1x3584x1024, .f32⟩
  | 89 => ⟨S3584x1024, .f32⟩
  | 90 => ⟨S16384x1024, .f32⟩
  | 91 => ⟨S16384x1, .f32⟩
  | 92 => ⟨S16384x1024, .f32⟩
  | 93 => ⟨S16384x1024, .f32⟩
  | 94 => ⟨S16384x1024, .f32⟩
  | 95 => ⟨S1x1024x3584, .f32⟩
  | 96 => ⟨S1024x3584, .f32⟩
  | 97 => ⟨S16384x3584, .f32⟩
  | 98 => ⟨S16384x3584, .f32⟩
  | 99 => ⟨S16384x3584, .f32⟩
  | 100 => ⟨S_, .f32⟩
  | 101 => ⟨S16384x3584, .f32⟩
  | 102 => ⟨S16384x3584, .f32⟩
  | 103 => ⟨S_, .f32⟩
  | 104 => ⟨S16384x3584, .f32⟩
  | 105 => ⟨S16384x3584, .f32⟩
  | 106 => ⟨S16384x3584, .f32⟩
  | 107 => ⟨S1x1024x3584, .f32⟩
  | 108 => ⟨S1024x3584, .f32⟩
  | 109 => ⟨S16384x3584, .f32⟩
  | 110 => ⟨S16384x3584, .f32⟩
  | 111 => ⟨S1x3584x1024, .f32⟩
  | 112 => ⟨S3584x1024, .f32⟩
  | 113 => ⟨S16384x1024, .f32⟩
  | 114 => ⟨S16384x1, .f32⟩
  | 115 => ⟨S16384x1024, .f32⟩
  | 116 => ⟨S16384x1024, .f32⟩
  | 117 => ⟨S16384x1024, .f32⟩
  | 118 => ⟨S1x1024x3584, .f32⟩
  | 119 => ⟨S1024x3584, .f32⟩
  | 120 => ⟨S16384x3584, .f32⟩
  | 121 => ⟨S16384x3584, .f32⟩
  | 122 => ⟨S16384x3584, .f32⟩
  | 123 => ⟨S_, .f32⟩
  | 124 => ⟨S16384x3584, .f32⟩
  | 125 => ⟨S16384x3584, .f32⟩
  | 126 => ⟨S_, .f32⟩
  | 127 => ⟨S16384x3584, .f32⟩
  | _ => ⟨S16384x1024, .f32⟩

abbrev hbmTy0_1 (i : Nat) : BufTy := match i % 128 with
  | 0 => ⟨S16384x3584, .f32⟩
  | 1 => ⟨S16384x3584, .f32⟩
  | 2 => ⟨S1x1024x3584, .f32⟩
  | 3 => ⟨S1024x3584, .f32⟩
  | 4 => ⟨S16384x3584, .f32⟩
  | 5 => ⟨S16384x3584, .f32⟩
  | 6 => ⟨S1x3584x1024, .f32⟩
  | 7 => ⟨S3584x1024, .f32⟩
  | 8 => ⟨S16384x1024, .f32⟩
  | 9 => ⟨S16384x1, .f32⟩
  | 10 => ⟨S16384x1024, .f32⟩
  | 11 => ⟨S16384x1024, .f32⟩
  | 12 => ⟨S16384x1024, .f32⟩
  | 13 => ⟨S1x1024x3584, .f32⟩
  | 14 => ⟨S1024x3584, .f32⟩
  | 15 => ⟨S16384x3584, .f32⟩
  | 16 => ⟨S16384x3584, .f32⟩
  | 17 => ⟨S16384x3584, .f32⟩
  | 18 => ⟨S_, .f32⟩
  | 19 => ⟨S16384x3584, .f32⟩
  | 20 => ⟨S16384x3584, .f32⟩
  | 21 => ⟨S_, .f32⟩
  | 22 => ⟨S16384x3584, .f32⟩
  | 23 => ⟨S16384x3584, .f32⟩
  | 24 => ⟨S16384x3584, .f32⟩
  | 25 => ⟨S1x1024x3584, .f32⟩
  | 26 => ⟨S1024x3584, .f32⟩
  | 27 => ⟨S16384x3584, .f32⟩
  | 28 => ⟨S16384x3584, .f32⟩
  | 29 => ⟨S1x3584x1024, .f32⟩
  | 30 => ⟨S3584x1024, .f32⟩
  | 31 => ⟨S16384x1024, .f32⟩
  | 32 => ⟨S16384x1, .f32⟩
  | 33 => ⟨S16384x1024, .f32⟩
  | 34 => ⟨S16384x1024, .f32⟩
  | 35 => ⟨S16384x1024, .f32⟩
  | 36 => ⟨S1x1024x3584, .f32⟩
  | 37 => ⟨S1024x3584, .f32⟩
  | 38 => ⟨S16384x3584, .f32⟩
  | 39 => ⟨S16384x3584, .f32⟩
  | 40 => ⟨S16384x3584, .f32⟩
  | 41 => ⟨S_, .f32⟩
  | 42 => ⟨S16384x3584, .f32⟩
  | 43 => ⟨S16384x3584, .f32⟩
  | 44 => ⟨S_, .f32⟩
  | 45 => ⟨S16384x3584, .f32⟩
  | 46 => ⟨S16384x3584, .f32⟩
  | 47 => ⟨S16384x3584, .f32⟩
  | 48 => ⟨S1x1024x3584, .f32⟩
  | 49 => ⟨S1024x3584, .f32⟩
  | 50 => ⟨S16384x3584, .f32⟩
  | 51 => ⟨S16384x3584, .f32⟩
  | 52 => ⟨S1x3584x1024, .f32⟩
  | 53 => ⟨S3584x1024, .f32⟩
  | 54 => ⟨S16384x1024, .f32⟩
  | 55 => ⟨S16384x1, .f32⟩
  | 56 => ⟨S16384x1024, .f32⟩
  | 57 => ⟨S16384x1024, .f32⟩
  | 58 => ⟨S16384x1024, .f32⟩
  | 59 => ⟨S1x1024x3584, .f32⟩
  | 60 => ⟨S1024x3584, .f32⟩
  | 61 => ⟨S16384x3584, .f32⟩
  | 62 => ⟨S16384x3584, .f32⟩
  | 63 => ⟨S16384x3584, .f32⟩
  | 64 => ⟨S_, .f32⟩
  | 65 => ⟨S16384x3584, .f32⟩
  | 66 => ⟨S16384x3584, .f32⟩
  | 67 => ⟨S_, .f32⟩
  | 68 => ⟨S16384x3584, .f32⟩
  | 69 => ⟨S16384x3584, .f32⟩
  | 70 => ⟨S16384x3584, .f32⟩
  | 71 => ⟨S1x1024x3584, .f32⟩
  | 72 => ⟨S1024x3584, .f32⟩
  | 73 => ⟨S16384x3584, .f32⟩
  | 74 => ⟨S16384x3584, .f32⟩
  | 75 => ⟨S1x3584x1024, .f32⟩
  | 76 => ⟨S3584x1024, .f32⟩
  | 77 => ⟨S16384x1024, .f32⟩
  | 78 => ⟨S16384x1, .f32⟩
  | 79 => ⟨S16384x1024, .f32⟩
  | 80 => ⟨S16384x1024, .f32⟩
  | 81 => ⟨S16384x1024, .f32⟩
  | 82 => ⟨S1x1024x3584, .f32⟩
  | 83 => ⟨S1024x3584, .f32⟩
  | 84 => ⟨S16384x3584, .f32⟩
  | 85 => ⟨S16384x3584, .f32⟩
  | 86 => ⟨S16384x3584, .f32⟩
  | 87 => ⟨S_, .f32⟩
  | 88 => ⟨S16384x3584, .f32⟩
  | 89 => ⟨S16384x3584, .f32⟩
  | 90 => ⟨S_, .f32⟩
  | 91 => ⟨S16384x3584, .f32⟩
  | 92 => ⟨S16384x3584, .f32⟩
  | 93 => ⟨S16384x3584, .f32⟩
  | 94 => ⟨S1x1024x3584, .f32⟩
  | 95 => ⟨S1024x3584, .f32⟩
  | 96 => ⟨S16384x3584, .f32⟩
  | 97 => ⟨S16384x3584, .f32⟩
  | 98 => ⟨S1x3584x1024, .f32⟩
  | 99 => ⟨S3584x1024, .f32⟩
  | 100 => ⟨S16384x1024, .f32⟩
  | 101 => ⟨S16384x1, .f32⟩
  | 102 => ⟨S16384x1024, .f32⟩
  | 103 => ⟨S16384x1024, .f32⟩
  | 104 => ⟨S16384x1024, .f32⟩
  | 105 => ⟨S16384x1024, .f32⟩
  | 106 => ⟨S16384x1024, .f32⟩
  | 107 => ⟨S_, .f32⟩
  | 108 => ⟨S16384, .f32⟩
  | 109 => ⟨S16384x1, .f32⟩
  | 110 => ⟨S_, .f32⟩
  | 111 => ⟨S16384x1, .f32⟩
  | 112 => ⟨S16384x1, .f32⟩
  | 113 => ⟨S_, .f32⟩
  | 114 => ⟨S16384x1, .f32⟩
  | 115 => ⟨S16384x1, .f32⟩
  | 116 => ⟨S16384x1, .f32⟩
  | 117 => ⟨S16384x1024, .f32⟩
  | 118 => ⟨S16384x1024, .f32⟩
  | 119 => ⟨S1x1024, .f32⟩
  | 120 => ⟨S16384x1024, .f32⟩
  | 121 => ⟨S16384x1024, .f32⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_values : Ref sig .tc := ⟨.hbm, 24, rfl⟩
abbrev main_indices : Ref sig .tc := ⟨.hbm, 25, rfl⟩
abbrev main_cst_2 : Ref sig .tc := ⟨.hbm, 26, rfl⟩
abbrev main_v14 : Ref sig .tc := ⟨.hbm, 27, rfl⟩
abbrev main_cst_3 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_call0_v0 : Ref sig .tc := ⟨.hbm, 40, rfl⟩
abbrev main_call0_v1 : Ref sig .tc := ⟨.hbm, 41, rfl⟩
abbrev main_call0_v2 : Ref sig .tc := ⟨.hbm, 42, rfl⟩
abbrev main_call0_v3 : Ref sig .tc := ⟨.hbm, 43, rfl⟩
abbrev main_call0_v4 : Ref sig .tc := ⟨.hbm, 44, rfl⟩
abbrev main_v25 : Ref sig .tc := ⟨.hbm, 45, rfl⟩
abbrev main_v26 : Ref sig .tc := ⟨.hbm, 46, rfl⟩
abbrev main_cst_5 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_call1_v0 : Ref sig .tc := ⟨.hbm, 52, rfl⟩
abbrev main_call1_v1 : Ref sig .tc := ⟨.hbm, 53, rfl⟩
abbrev main_call1_cst : Ref sig .tc := ⟨.hbm, 54, rfl⟩
abbrev main_call1_v2 : Ref sig .tc := ⟨.hbm, 55, rfl⟩
abbrev main_call1_v3 : Ref sig .tc := ⟨.hbm, 56, rfl⟩
abbrev main_call1_cst_0 : Ref sig .tc := ⟨.hbm, 57, rfl⟩
abbrev main_call1_v4 : Ref sig .tc := ⟨.hbm, 58, rfl⟩
abbrev main_call1_v5 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_call2_v0 : Ref sig .tc := ⟨.hbm, 75, rfl⟩
abbrev main_call2_v1 : Ref sig .tc := ⟨.hbm, 76, rfl⟩
abbrev main_call2_cst : Ref sig .tc := ⟨.hbm, 77, rfl⟩
abbrev main_call2_v2 : Ref sig .tc := ⟨.hbm, 78, rfl⟩
abbrev main_call2_v3 : Ref sig .tc := ⟨.hbm, 79, rfl⟩
abbrev main_call2_cst_0 : Ref sig .tc := ⟨.hbm, 80, rfl⟩
abbrev main_call2_v4 : Ref sig .tc := ⟨.hbm, 81, rfl⟩
abbrev main_call2_v5 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_call3_v0 : Ref sig .tc := ⟨.hbm, 98, rfl⟩
abbrev main_call3_v1 : Ref sig .tc := ⟨.hbm, 99, rfl⟩
abbrev main_call3_cst : Ref sig .tc := ⟨.hbm, 100, rfl⟩
abbrev main_call3_v2 : Ref sig .tc := ⟨.hbm, 101, rfl⟩
abbrev main_call3_v3 : Ref sig .tc := ⟨.hbm, 102, rfl⟩
abbrev main_call3_cst_0 : Ref sig .tc := ⟨.hbm, 103, rfl⟩
abbrev main_call3_v4 : Ref sig .tc := ⟨.hbm, 104, rfl⟩
abbrev main_call3_v5 : Ref sig .tc := ⟨.hbm, 105, rfl⟩
abbrev main_v61 : Ref sig .tc := ⟨.hbm, 106, rfl⟩
abbrev main_v62 : Ref sig .tc := ⟨.hbm, 107, rfl⟩
abbrev main_v63 : Ref sig .tc := ⟨.hbm, 108, rfl⟩
abbrev main_v64 : Ref sig .tc := ⟨.hbm, 109, rfl⟩
abbrev main_v65 : Ref sig .tc := ⟨.hbm, 110, rfl⟩
abbrev main_v66 : Ref sig .tc := ⟨.hbm, 111, rfl⟩
abbrev main_v67 : Ref sig .tc := ⟨.hbm, 112, rfl⟩
abbrev main_v68 : Ref sig .tc := ⟨.hbm, 113, rfl⟩
abbrev main_v69 : Ref sig .tc := ⟨.hbm, 114, rfl⟩
abbrev main_v70 : Ref sig .tc := ⟨.hbm, 115, rfl⟩
abbrev main_v71 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_call4_v0 : Ref sig .tc := ⟨.hbm, 121, rfl⟩
abbrev main_call4_v1 : Ref sig .tc := ⟨.hbm, 122, rfl⟩
abbrev main_call4_cst : Ref sig .tc := ⟨.hbm, 123, rfl⟩
abbrev main_call4_v2 : Ref sig .tc := ⟨.hbm, 124, rfl⟩
abbrev main_call4_v3 : Ref sig .tc := ⟨.hbm, 125, rfl⟩
abbrev main_call4_cst_0 : Ref sig .tc := ⟨.hbm, 126, rfl⟩
abbrev main_call4_v4 : Ref sig .tc := ⟨.hbm, 127, rfl⟩
abbrev main_call4_v5 : Ref sig .tc := ⟨.hbm, 128, rfl⟩
abbrev main_v76 : Ref sig .tc := ⟨.hbm, 129, rfl⟩
abbrev main_v77 : Ref sig .tc := ⟨.hbm, 130, rfl⟩
abbrev main_v78 : Ref sig .tc := ⟨.hbm, 131, rfl⟩
abbrev main_v79 : Ref sig .tc := ⟨.hbm, 132, rfl⟩
abbrev main_v80 : Ref sig .tc := ⟨.hbm, 133, rfl⟩
abbrev main_v81 : Ref sig .tc := ⟨.hbm, 134, rfl⟩
abbrev main_v82 : Ref sig .tc := ⟨.hbm, 135, rfl⟩
abbrev main_v83 : Ref sig .tc := ⟨.hbm, 136, rfl⟩
abbrev main_v84 : Ref sig .tc := ⟨.hbm, 137, rfl⟩
abbrev main_v85 : Ref sig .tc := ⟨.hbm, 138, rfl⟩
abbrev main_v86 : Ref sig .tc := ⟨.hbm, 139, rfl⟩
abbrev main_v87 : Ref sig .tc := ⟨.hbm, 140, rfl⟩
abbrev main_v88 : Ref sig .tc := ⟨.hbm, 141, rfl⟩
abbrev main_v89 : Ref sig .tc := ⟨.hbm, 142, rfl⟩
abbrev main_v90 : Ref sig .tc := ⟨.hbm, 143, rfl⟩
abbrev main_call5_v0 : Ref sig .tc := ⟨.hbm, 144, rfl⟩
abbrev main_call5_v1 : Ref sig .tc := ⟨.hbm, 145, rfl⟩
abbrev main_call5_cst : Ref sig .tc := ⟨.hbm, 146, rfl⟩
abbrev main_call5_v2 : Ref sig .tc := ⟨.hbm, 147, rfl⟩
abbrev main_call5_v3 : Ref sig .tc := ⟨.hbm, 148, rfl⟩
abbrev main_call5_cst_0 : Ref sig .tc := ⟨.hbm, 149, rfl⟩
abbrev main_call5_v4 : Ref sig .tc := ⟨.hbm, 150, rfl⟩
abbrev main_call5_v5 : Ref sig .tc := ⟨.hbm, 151, rfl⟩
abbrev main_v91 : Ref sig .tc := ⟨.hbm, 152, rfl⟩
abbrev main_v92 : Ref sig .tc := ⟨.hbm, 153, rfl⟩
abbrev main_v93 : Ref sig .tc := ⟨.hbm, 154, rfl⟩
abbrev main_v94 : Ref sig .tc := ⟨.hbm, 155, rfl⟩
abbrev main_v95 : Ref sig .tc := ⟨.hbm, 156, rfl⟩
abbrev main_v96 : Ref sig .tc := ⟨.hbm, 157, rfl⟩
abbrev main_v97 : Ref sig .tc := ⟨.hbm, 158, rfl⟩
abbrev main_v98 : Ref sig .tc := ⟨.hbm, 159, rfl⟩
abbrev main_v99 : Ref sig .tc := ⟨.hbm, 160, rfl⟩
abbrev main_v100 : Ref sig .tc := ⟨.hbm, 161, rfl⟩
abbrev main_v101 : Ref sig .tc := ⟨.hbm, 162, rfl⟩
abbrev main_v102 : Ref sig .tc := ⟨.hbm, 163, rfl⟩
abbrev main_v103 : Ref sig .tc := ⟨.hbm, 164, rfl⟩
abbrev main_v104 : Ref sig .tc := ⟨.hbm, 165, rfl⟩
abbrev main_v105 : Ref sig .tc := ⟨.hbm, 166, rfl⟩
abbrev main_call6_v0 : Ref sig .tc := ⟨.hbm, 167, rfl⟩
abbrev main_call6_v1 : Ref sig .tc := ⟨.hbm, 168, rfl⟩
abbrev main_call6_cst : Ref sig .tc := ⟨.hbm, 169, rfl⟩
abbrev main_call6_v2 : Ref sig .tc := ⟨.hbm, 170, rfl⟩
abbrev main_call6_v3 : Ref sig .tc := ⟨.hbm, 171, rfl⟩
abbrev main_call6_cst_0 : Ref sig .tc := ⟨.hbm, 172, rfl⟩
abbrev main_call6_v4 : Ref sig .tc := ⟨.hbm, 173, rfl⟩
abbrev main_call6_v5 : Ref sig .tc := ⟨.hbm, 174, rfl⟩
abbrev main_v106 : Ref sig .tc := ⟨.hbm, 175, rfl⟩
abbrev main_v107 : Ref sig .tc := ⟨.hbm, 176, rfl⟩
abbrev main_v108 : Ref sig .tc := ⟨.hbm, 177, rfl⟩
abbrev main_v109 : Ref sig .tc := ⟨.hbm, 178, rfl⟩
abbrev main_v110 : Ref sig .tc := ⟨.hbm, 179, rfl⟩
abbrev main_v111 : Ref sig .tc := ⟨.hbm, 180, rfl⟩
abbrev main_v112 : Ref sig .tc := ⟨.hbm, 181, rfl⟩
abbrev main_v113 : Ref sig .tc := ⟨.hbm, 182, rfl⟩
abbrev main_v114 : Ref sig .tc := ⟨.hbm, 183, rfl⟩
abbrev main_v115 : Ref sig .tc := ⟨.hbm, 184, rfl⟩
abbrev main_v116 : Ref sig .tc := ⟨.hbm, 185, rfl⟩
abbrev main_v117 : Ref sig .tc := ⟨.hbm, 186, rfl⟩
abbrev main_v118 : Ref sig .tc := ⟨.hbm, 187, rfl⟩
abbrev main_v119 : Ref sig .tc := ⟨.hbm, 188, rfl⟩
abbrev main_v120 : Ref sig .tc := ⟨.hbm, 189, rfl⟩
abbrev main_call7_v0 : Ref sig .tc := ⟨.hbm, 190, rfl⟩
abbrev main_call7_v1 : Ref sig .tc := ⟨.hbm, 191, rfl⟩
abbrev main_call7_cst : Ref sig .tc := ⟨.hbm, 192, rfl⟩
abbrev main_call7_v2 : Ref sig .tc := ⟨.hbm, 193, rfl⟩
abbrev main_call7_v3 : Ref sig .tc := ⟨.hbm, 194, rfl⟩
abbrev main_call7_cst_0 : Ref sig .tc := ⟨.hbm, 195, rfl⟩
abbrev main_call7_v4 : Ref sig .tc := ⟨.hbm, 196, rfl⟩
abbrev main_call7_v5 : Ref sig .tc := ⟨.hbm, 197, rfl⟩
abbrev main_v121 : Ref sig .tc := ⟨.hbm, 198, rfl⟩
abbrev main_v122 : Ref sig .tc := ⟨.hbm, 199, rfl⟩
abbrev main_v123 : Ref sig .tc := ⟨.hbm, 200, rfl⟩
abbrev main_v124 : Ref sig .tc := ⟨.hbm, 201, rfl⟩
abbrev main_v125 : Ref sig .tc := ⟨.hbm, 202, rfl⟩
abbrev main_v126 : Ref sig .tc := ⟨.hbm, 203, rfl⟩
abbrev main_v127 : Ref sig .tc := ⟨.hbm, 204, rfl⟩
abbrev main_v128 : Ref sig .tc := ⟨.hbm, 205, rfl⟩
abbrev main_v129 : Ref sig .tc := ⟨.hbm, 206, rfl⟩
abbrev main_v130 : Ref sig .tc := ⟨.hbm, 207, rfl⟩
abbrev main_v131 : Ref sig .tc := ⟨.hbm, 208, rfl⟩
abbrev main_v132 : Ref sig .tc := ⟨.hbm, 209, rfl⟩
abbrev main_v133 : Ref sig .tc := ⟨.hbm, 210, rfl⟩
abbrev main_v134 : Ref sig .tc := ⟨.hbm, 211, rfl⟩
abbrev main_v135 : Ref sig .tc := ⟨.hbm, 212, rfl⟩
abbrev main_call8_v0 : Ref sig .tc := ⟨.hbm, 213, rfl⟩
abbrev main_call8_v1 : Ref sig .tc := ⟨.hbm, 214, rfl⟩
abbrev main_call8_cst : Ref sig .tc := ⟨.hbm, 215, rfl⟩
abbrev main_call8_v2 : Ref sig .tc := ⟨.hbm, 216, rfl⟩
abbrev main_call8_v3 : Ref sig .tc := ⟨.hbm, 217, rfl⟩
abbrev main_call8_cst_0 : Ref sig .tc := ⟨.hbm, 218, rfl⟩
abbrev main_call8_v4 : Ref sig .tc := ⟨.hbm, 219, rfl⟩
abbrev main_call8_v5 : Ref sig .tc := ⟨.hbm, 220, rfl⟩
abbrev main_v136 : Ref sig .tc := ⟨.hbm, 221, rfl⟩
abbrev main_v137 : Ref sig .tc := ⟨.hbm, 222, rfl⟩
abbrev main_v138 : Ref sig .tc := ⟨.hbm, 223, rfl⟩
abbrev main_v139 : Ref sig .tc := ⟨.hbm, 224, rfl⟩
abbrev main_v140 : Ref sig .tc := ⟨.hbm, 225, rfl⟩
abbrev main_v141 : Ref sig .tc := ⟨.hbm, 226, rfl⟩
abbrev main_v142 : Ref sig .tc := ⟨.hbm, 227, rfl⟩
abbrev main_v143 : Ref sig .tc := ⟨.hbm, 228, rfl⟩
abbrev main_v144 : Ref sig .tc := ⟨.hbm, 229, rfl⟩
abbrev main_v145 : Ref sig .tc := ⟨.hbm, 230, rfl⟩
abbrev main_v146 : Ref sig .tc := ⟨.hbm, 231, rfl⟩
abbrev main_v147 : Ref sig .tc := ⟨.hbm, 232, rfl⟩
abbrev main_v148 : Ref sig .tc := ⟨.hbm, 233, rfl⟩
abbrev main_v149 : Ref sig .tc := ⟨.hbm, 234, rfl⟩
abbrev main_cst_6 : Ref sig .tc := ⟨.hbm, 235, rfl⟩
abbrev main_v150 : Ref sig .tc := ⟨.hbm, 236, rfl⟩
abbrev main_v151 : Ref sig .tc := ⟨.hbm, 237, rfl⟩
abbrev main_cst_7 : Ref sig .tc := ⟨.hbm, 238, rfl⟩
abbrev main_v152 : Ref sig .tc := ⟨.hbm, 239, rfl⟩
abbrev main_v153 : Ref sig .tc := ⟨.hbm, 240, rfl⟩
abbrev main_cst_8 : Ref sig .tc := ⟨.hbm, 241, rfl⟩
abbrev main_v154 : Ref sig .tc := ⟨.hbm, 242, rfl⟩
abbrev main_v155 : Ref sig .tc := ⟨.hbm, 243, rfl⟩
abbrev main_v156 : Ref sig .tc := ⟨.hbm, 244, rfl⟩
abbrev main_v157 : Ref sig .tc := ⟨.hbm, 245, rfl⟩
abbrev main_v158 : Ref sig .tc := ⟨.hbm, 246, rfl⟩
abbrev main_v159 : Ref sig .tc := ⟨.hbm, 247, rfl⟩
abbrev main_v160 : Ref sig .tc := ⟨.hbm, 248, rfl⟩
abbrev main_v161 : Ref sig .tc := ⟨.hbm, 249, rfl⟩

abbrev nD : Nat := 1
abbrev τ : Topo := Topo.v7x

variable {F : FTy → Type} [FloatOps F]
-- ==== KernelMem.lean ====
abbrev S2x256x1024 : Shape := ⟨3, ![2, 256, 1024]⟩
abbrev S2x1024x512 : Shape := ⟨3, ![2, 1024, 512]⟩
abbrev S2x2x256x512 : Shape := ⟨4, ![2, 2, 256, 512]⟩
abbrev S1x256x1024 : Shape := ⟨3, ![1, 256, 1024]⟩
abbrev S1x1024x512 : Shape := ⟨3, ![1, 1024, 512]⟩
abbrev S1x1x256x512 : Shape := ⟨4, ![1, 1, 256, 512]⟩
abbrev S256x1024 : Shape := ⟨2, ![256, 1024]⟩
abbrev S1024x512 : Shape := ⟨2, ![1024, 512]⟩
abbrev S256x512 : Shape := ⟨2, ![256, 512]⟩

abbrev nBuf : Space → Nat
  | .hbm => 7
  | .vmem => 10
  | .smem => 0
  | _ => 0

abbrev bufTy : (tb : Table) → Fin (tcTables nBuf tb) → BufTy
  | .hbm, ⟨0, _⟩ => ⟨S2x256x1024, .f32⟩
  | .hbm, ⟨1, _⟩ => ⟨S2x1024x512, .f32⟩
  | .hbm, ⟨2, _⟩ => ⟨S2x1024x512, .f32⟩
  | .hbm, ⟨3, _⟩ => ⟨S2x1024x512, .bf16⟩
  | .hbm, ⟨4, _⟩ => ⟨S2x1024x512, .bf16⟩
  | .hbm, ⟨5, _⟩ => ⟨S2x2x256x512, .f32⟩
  | .hbm, ⟨6, _⟩ => ⟨S2x2x256x512, .f32⟩
  | .local _ .vmem, ⟨0, _⟩ => ⟨S1x256x1024, .f32⟩
  | .local _ .vmem, ⟨1, _⟩ => ⟨S1x256x1024, .f32⟩
  | .local _ .vmem, ⟨2, _⟩ => ⟨S1x1024x512, .bf16⟩
  | .local _ .vmem, ⟨3, _⟩ => ⟨S1x1024x512, .bf16⟩
  | .local _ .vmem, ⟨4, _⟩ => ⟨S1x1024x512, .bf16⟩
  | .local _ .vmem, ⟨5, _⟩ => ⟨S1x1024x512, .bf16⟩
  | .local _ .vmem, ⟨6, _⟩ => ⟨S1x1x256x512, .f32⟩
  | .local _ .vmem, ⟨7, _⟩ => ⟨S1x1x256x512, .f32⟩
  | .local _ .vmem, ⟨8, _⟩ => ⟨S1x1x256x512, .f32⟩
  | .local _ .vmem, ⟨9, _⟩ => ⟨S1x1x256x512, .f32⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1x256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceMemIdeal.lean ====
abbrev S2x256x1024 : Shape := ⟨3, ![2, 256, 1024]⟩
abbrev S2x1024x512 : Shape := ⟨3, ![2, 1024, 512]⟩
abbrev S2x512x2x256 : Shape := ⟨4, ![2, 512, 2, 256]⟩
abbrev S2x2x256x512 : Shape := ⟨4, ![2, 2, 256, 512]⟩

abbrev nBuf : Space → Nat
  | .hbm => 7
  | .vmem => 0
  | .smem => 0
  | _ => 0

abbrev bufTy : (tb : Table) → Fin (tcTables nBuf tb) → BufTy
  | .hbm, ⟨0, _⟩ => ⟨S2x256x1024, .f32⟩
  | .hbm, ⟨1, _⟩ => ⟨S2x1024x512, .f32⟩
  | .hbm, ⟨2, _⟩ => ⟨S2x1024x512, .f32⟩
  | .hbm, ⟨3, _⟩ => ⟨S2x512x2x256, .f32⟩
  | .hbm, ⟨4, _⟩ => ⟨S2x2x256x512, .f32⟩
  | .hbm, ⟨5, _⟩ => ⟨S2x512x2x256, .f32⟩
  | .hbm, ⟨6, _⟩ => ⟨S2x2x256x512, .f32⟩
  | _, _ => ⟨S2x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== KernelFfn.lean ====
abbrev S16384x1024 : Shape := ⟨2, ![16384, 1024]⟩
abbrev S1024 : Shape := ⟨1, ![1024]⟩
abbrev S1024x3584 : Shape := ⟨2, ![1024, 3584]⟩
abbrev S3584x1024 : Shape := ⟨2, ![3584, 1024]⟩
abbrev S1x1024 : Shape := ⟨2, ![1, 1024]⟩
abbrev S512x1024 : Shape := ⟨2, ![512, 1024]⟩
abbrev S1024x512 : Shape := ⟨2, ![1024, 512]⟩
abbrev S512 : Shape := ⟨1, ![512]⟩
abbrev S512x1 : Shape := ⟨2, ![512, 1]⟩
abbrev S512x512 : Shape := ⟨2, ![512, 512]⟩

abbrev nBuf : Space → Nat
  | .hbm => 10
  | .vmem => 13
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x3584, .f32⟩
  | .hbm, ⟨3, _⟩ => ⟨S1024x3584, .f32⟩
  | .hbm, ⟨4, _⟩ => ⟨S3584x1024, .f32⟩
  | .hbm, ⟨5, _⟩ => ⟨S1024x3584, .bf16⟩
  | .hbm, ⟨6, _⟩ => ⟨S1024x3584, .bf16⟩
  | .hbm, ⟨7, _⟩ => ⟨S3584x1024, .bf16⟩
  | .hbm, ⟨8, _⟩ => ⟨S1x1024, .f32⟩
  | .hbm, ⟨9, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![32, 7], ![false, false]⟩

def k0_cond2 (i : grid0.Coords) : BitVec 1 :=
  let arg1 : BitVec 32 := BitVec.ofNat 32 (i 1).val
  let c6_i32 : BitVec 32 := 6#32
  let v28 : BitVec 1 := Scalar.cmpi .eq arg1 c6_i32
  let v29 : BitVec 32 := Scalar.extui v28
  let c0_i32_17 : BitVec 32 := 0#32
  let v30 : BitVec 1 := Scalar.cmpi .ne v29 c0_i32_17
  v30

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== ReferenceFfnIdeal.lean ====
abbrev S16384x1024 : Shape := ⟨2, ![16384, 1024]⟩
abbrev S1024 : Shape := ⟨1, ![1024]⟩
abbrev S1024x3584 : Shape := ⟨2, ![1024, 3584]⟩
abbrev S3584x1024 : Shape := ⟨2, ![3584, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x3584 : Shape := ⟨2, ![16384, 3584]⟩

abbrev nBuf : Space → Nat
  | .hbm => 35
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x3584, .f32⟩
  | .hbm, ⟨3, _⟩ => ⟨S1024x3584, .f32⟩
  | .hbm, ⟨4, _⟩ => ⟨S3584x1024, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1024, .f32⟩
  | .hbm, ⟨17, _⟩ => ⟨S16384x1024, .f32⟩
  | .hbm, ⟨18, _⟩ => ⟨S1x1024, .f32⟩
  | .hbm, ⟨19, _⟩ => ⟨S16384x1024, .f32⟩
  | .hbm, ⟨20, _⟩ => ⟨S16384x1024, .f32⟩
  | .hbm, ⟨21, _⟩ => ⟨S16384x3584, .f32⟩
  | .hbm, ⟨22, _⟩ => ⟨S16384x3584, .f32⟩
  | .hbm, ⟨23, _⟩ => ⟨S16384x3584, .f32⟩
  | .hbm, ⟨24, _⟩ => ⟨S_, .f32⟩
  | .hbm, ⟨25, _⟩ => ⟨S16384x3584, .f32⟩
  | .hbm, ⟨26, _⟩ => ⟨S16384x3584, .f32⟩
  | .hbm, ⟨27, _⟩ => ⟨S_, .f32⟩
  | .hbm, ⟨28, _⟩ => ⟨S16384x3584, .f32⟩
  | .hbm, ⟨29, _⟩ => ⟨S16384x3584, .f32⟩
  | .hbm, ⟨30, _⟩ => ⟨S16384x3584, .f32⟩
  | .hbm, ⟨31, _⟩ => ⟨S16384x3584, .f32⟩
  | .hbm, ⟨32, _⟩ => ⟨S16384x3584, .f32⟩
  | .hbm, ⟨33, _⟩ => ⟨S16384x1024, .f32⟩
  | .hbm, ⟨34, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩

abbrev nD : Nat := 1
abbrev τ : Topo := Topo.v7x

variable {F : FTy → Type} [FloatOps F]
-- ==== KernelIn.lean ====
abbrev S2x8192x1024 : Shape := ⟨3, ![2, 8192, 1024]⟩
abbrev S1024 : Shape := ⟨1, ![1024]⟩
abbrev S1024x4416 : Shape := ⟨2, ![1024, 4416]⟩
abbrev S16384x1024 : Shape := ⟨2, ![16384, 1024]⟩
abbrev S1024x2560 : Shape := ⟨2, ![1024, 2560]⟩
abbrev S1024x1792 : Shape := ⟨2, ![1024, 1792]⟩
abbrev S1024x16 : Shape := ⟨2, ![1024, 16]⟩
abbrev S1024x48 : Shape := ⟨2, ![1024, 48]⟩
abbrev S_ : Shape := ⟨0, ![]⟩
abbrev S1024x4608 : Shape := ⟨2, ![1024, 4608]⟩
abbrev S1x1024 : Shape := ⟨2, ![1, 1024]⟩
abbrev S16384x4608 : Shape := ⟨2, ![16384, 4608]⟩
abbrev S512x1024 : Shape := ⟨2, ![512, 1024]⟩
abbrev S1024x512 : Shape := ⟨2, ![1024, 512]⟩
abbrev S512x512 : Shape := ⟨2, ![512, 512]⟩
abbrev S512 : Shape := ⟨1, ![512]⟩
abbrev S512x1 : Shape := ⟨2, ![512, 1]⟩

abbrev nBuf : Space → Nat
  | .hbm => 15
  | .vmem => 8
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S1024x4416, .f32⟩
  | .hbm, ⟨3, _⟩ => ⟨S16384x1024, .f32⟩
  | .hbm, ⟨4, _⟩ => ⟨S1024x2560, .f32⟩
  | .hbm, ⟨5, _⟩ => ⟨S1024x1792, .f32⟩
  | .hbm, ⟨6, _⟩ => ⟨S1024x16, .f32⟩
  | .hbm, ⟨7, _⟩ => ⟨S1024x48, .f32⟩
  | .hbm, ⟨8, _⟩ => ⟨S1024x4416, .f32⟩
  | .hbm, ⟨9, _⟩ => ⟨S_, .i32⟩
  | .hbm, ⟨10, _⟩ => ⟨S_, .f32⟩
  | .hbm, ⟨11, _⟩ => ⟨S1024x4608, .f32⟩
  | .hbm, ⟨12, _⟩ => ⟨S1024x4608, .bf16⟩
  | .hbm, ⟨13, _⟩ => ⟨S1x1024, .f32⟩
  | .hbm, ⟨14, _⟩ => ⟨S16384x4608, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x512, .bf16⟩
  | .local _ .vmem, ⟨4, _⟩ => ⟨S1024x512, .bf16⟩
  | .local _ .vmem, ⟨5, _⟩ => ⟨S512x512, .f32⟩
  | .local _ .vmem, ⟨6, _⟩ => ⟨S512x512, .f32⟩
  | .local _ .vmem, ⟨7, _⟩ => ⟨S512x1024, .bf16⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_call0_v0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![32, 9], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceInIdeal.lean ====
abbrev S2x8192x1024 : Shape := ⟨3, ![2, 8192, 1024]⟩
abbrev S1024 : Shape := ⟨1, ![1024]⟩
abbrev S1024x4416 : Shape := ⟨2, ![1024, 4416]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x4416 : Shape := ⟨3, ![2, 8192, 4416]⟩
abbrev S2x8192x1536 : Shape := ⟨3, ![2, 8192, 1536]⟩
abbrev S2x8192x16 : Shape := ⟨3, ![2, 8192, 16]⟩
abbrev S2x8192x128 : Shape := ⟨3, ![2, 8192, 128]⟩
abbrev S2x8192x48 : Shape := ⟨3, ![2, 8192, 48]⟩
abbrev S2x8192x192 : Shape := ⟨3, ![2, 8192, 192]⟩
abbrev S2x8192x4608 : Shape := ⟨3, ![2, 8192, 4608]⟩
abbrev S16384x4608 : Shape := ⟨2, ![16384, 4608]⟩

abbrev nBuf : Space → Nat
  | .hbm => 35
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S1024x4416, .f32⟩
  | .hbm, ⟨3, _⟩ => ⟨S2x8192x1024, .f32⟩
  | .hbm, ⟨4, _⟩ => ⟨S_, .f32⟩
  | .hbm, ⟨5, _⟩ => ⟨S2x8192, .f32⟩
  | .hbm, ⟨6, _⟩ => ⟨S2x8192x1, .f32⟩
  | .hbm, ⟨7, _⟩ => ⟨S_, .f32⟩
  | .hbm, ⟨8, _⟩ => ⟨S2x8192x1, .f32⟩
  | .hbm, ⟨9, _⟩ => ⟨S2x8192x1, .f32⟩
  | .hbm, ⟨10, _⟩ => ⟨S_, .f32⟩
  | .hbm, ⟨11, _⟩ => ⟨S2x8192x1, .f32⟩
  | .hbm, ⟨12, _⟩ => ⟨S2x8192x1, .f32⟩
  | .hbm, ⟨13, _⟩ => ⟨S2x8192x1, .f32⟩
  | .hbm, ⟨14, _⟩ => ⟨S2x8192x1024, .f32⟩
  | .hbm, ⟨15, _⟩ => ⟨S2x8192x1024, .f32⟩
  | .hbm, ⟨16, _⟩ => ⟨S1x1x1024, .f32⟩
  | .hbm, ⟨17, _⟩ => ⟨S2x8192x1024, .f32⟩
  | .hbm, ⟨18, _⟩ => ⟨S2x8192x1024, .f32⟩
  | .hbm, ⟨19, _⟩ => ⟨S2x8192x4416, .f32⟩
  | .hbm, ⟨20, _⟩ => ⟨S2x8192x1024, .f32⟩
  | .hbm, ⟨21, _⟩ => ⟨S2x8192x1536, .f32⟩
  | .hbm, ⟨22, _⟩ => ⟨S2x8192x16, .f32⟩
  | .hbm, ⟨23, _⟩ => ⟨S2x8192x1024, .f32⟩
  | .hbm, ⟨24, _⟩ => ⟨S2x8192x128, .f32⟩
  | .hbm, ⟨25, _⟩ => ⟨S2x8192x128, .f32⟩
  | .hbm, ⟨26, _⟩ => ⟨S2x8192x128, .f32⟩
  | .hbm, ⟨27, _⟩ => ⟨S2x8192x128, .f32⟩
  | .hbm, ⟨28, _⟩ => ⟨S2x8192x128, .f32⟩
  | .hbm, ⟨29, _⟩ => ⟨S2x8192x128, .f32⟩
  | .hbm, ⟨30, _⟩ => ⟨S2x8192x48, .f32⟩
  | .hbm, ⟨31, _⟩ => ⟨S_, .f32⟩
  | .hbm, ⟨32, _⟩ => ⟨S2x8192x192, .f32⟩
  | .hbm, ⟨33, _⟩ => ⟨S2x8192x4608, .f32⟩
  | .hbm, ⟨34, _⟩ => ⟨S16384x4608, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_cst_2 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩

abbrev nD : Nat := 1
abbrev τ : Topo := Topo.v7x

variable {F : FTy → Type} [FloatOps F]
-- ==== KernelInSample.lean ====
abbrev S128x4x1024 : Shape := ⟨3, ![128, 4, 1024]⟩
abbrev S1024 : Shape := ⟨1, ![1024]⟩
abbrev S1024x4416 : Shape := ⟨2, ![1024, 4416]⟩
abbrev S512x1024 : Shape := ⟨2, ![512, 1024]⟩
abbrev S1024x2560 : Shape := ⟨2, ![1024, 2560]⟩
abbrev S1024x1792 : Shape := ⟨2, ![1024, 1792]⟩
abbrev S1024x16 : Shape := ⟨2, ![1024, 16]⟩
abbrev S1024x48 : Shape := ⟨2, ![1024, 48]⟩
abbrev S_ : Shape := ⟨0, ![]⟩
abbrev S1024x4608 : Shape := ⟨2, ![1024, 4608]⟩
abbrev S1x1024 : Shape := ⟨2, ![1, 1024]⟩
abbrev S512x4608 : Shape := ⟨2, ![512, 4608]⟩
abbrev S1024x512 : Shape := ⟨2, ![1024, 512]⟩
abbrev S512x512 : Shape := ⟨2, ![512, 512]⟩
abbrev S512 : Shape := ⟨1, ![512]⟩
abbrev S512x1 : Shape := ⟨2, ![512, 1]⟩

abbrev nBuf : Space → Nat
  | .hbm => 15
  | .vmem => 7
  | .smem => 0
  | _ => 0

abbrev bufTy : (tb : Table) → Fin (tcTables nBuf tb) → BufTy
  | .hbm, ⟨0, _⟩ => ⟨S128x4x1024, .f32⟩
  | .hbm, ⟨1, _⟩ => ⟨S1024, .f32⟩
  | .hbm, ⟨2, _⟩ => ⟨S1024x4416, .f32⟩
  | .hbm, ⟨3, _⟩ => ⟨S512x1024, .f32⟩
  | .hbm, ⟨4, _⟩ => ⟨S1024x2560, .f32⟩
  | .hbm, ⟨5, _⟩ => ⟨S1024x1792, .f32⟩
  | .hbm, ⟨6, _⟩ => ⟨S1024x16, .f32⟩
  | .hbm, ⟨7, _⟩ => ⟨S1024x48, .f32⟩
  | .hbm, ⟨8, _⟩ => ⟨S1024x4416, .f32⟩
  | .hbm, ⟨9, _⟩ => ⟨S_, .i32⟩
  | .hbm, ⟨10, _⟩ => ⟨S_, .f32⟩
  | .hbm, ⟨11, _⟩ => ⟨S1024x4608, .f32⟩
  | .hbm, ⟨12, _⟩ => ⟨S1024x4608, .bf16⟩
  | .hbm, ⟨13, _⟩ => ⟨S1x1024, .f32⟩
  | .hbm, ⟨14, _⟩ => ⟨S512x4608, .f32⟩
  | .local _ .vmem, ⟨0, _⟩ => ⟨S512x1024, .f32⟩
  | .local _ .vmem, ⟨1, _⟩ => ⟨S1x1024, .f32⟩
  | .local _ .vmem, ⟨2, _⟩ => ⟨S1024x512, .bf16⟩
  | .local _ .vmem, ⟨3, _⟩ => ⟨S1024x512, .bf16⟩
  | .local _ .vmem, ⟨4, _⟩ => ⟨S512x512, .f32⟩
  | .local _ .vmem, ⟨5, _⟩ => ⟨S512x512, .f32⟩
  | .local _ .vmem, ⟨6, _⟩ => ⟨S512x1024, .bf16⟩
  | _, _ => ⟨S128x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_call0_v0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![1, 9], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceInSampleIdeal.lean ====
abbrev S128x4x1024 : Shape := ⟨3, ![128, 4, 1024]⟩
abbrev S1024 : Shape := ⟨1, ![1024]⟩
abbrev S1024x4416 : Shape := ⟨2, ![1024, 4416]⟩
abbrev S_ : Shape := ⟨0, ![]⟩
abbrev S128x4 : Shape := ⟨2, ![128, 4]⟩
abbrev S128x4x1 : Shape := ⟨3, ![128, 4, 1]⟩
abbrev S1x1x1024 : Shape := ⟨3, ![1, 1, 1024]⟩
abbrev S128x4x4416 : Shape := ⟨3, ![128, 4, 4416]⟩
abbrev S128x4x1536 : Shape := ⟨3, ![128, 4, 1536]⟩
abbrev S128x4x16 : Shape := ⟨3, ![128, 4, 16]⟩
abbrev S128x4x128 : Shape := ⟨3, ![128, 4, 128]⟩
abbrev S128x4x48 : Shape := ⟨3, ![128, 4, 48]⟩
abbrev S128x4x192 : Shape := ⟨3, ![128, 4, 192]⟩
abbrev S128x4x4608 : Shape := ⟨3, ![128, 4, 4608]⟩
abbrev S512x4608 : Shape := ⟨2, ![512, 4608]⟩

abbrev nBuf : Space → Nat
  | .hbm => 35
  | .vmem => 0
  | .smem => 0
  | _ => 0

abbrev bufTy : (tb : Table) → Fin (tcTables nBuf tb) → BufTy
  | .hbm, ⟨0, _⟩ => ⟨S128x4x1024, .f32⟩
  | .hbm, ⟨1, _⟩ => ⟨S1024, .f32⟩
  | .hbm, ⟨2, _⟩ => ⟨S1024x4416, .f32⟩
  | .hbm, ⟨3, _⟩ => ⟨S128x4x1024, .f32⟩
  | .hbm, ⟨4, _⟩ => ⟨S_, .f32⟩
  | .hbm, ⟨5, _⟩ => ⟨S128x4, .f32⟩
  | .hbm, ⟨6, _⟩ => ⟨S128x4x1, .f32⟩
  | .hbm, ⟨7, _⟩ => ⟨S_, .f32⟩
  | .hbm, ⟨8, _⟩ => ⟨S128x4x1, .f32⟩
  | .hbm, ⟨9, _⟩ => ⟨S128x4x1, .f32⟩
  | .hbm, ⟨10, _⟩ => ⟨S_, .f32⟩
  | .hbm, ⟨11, _⟩ => ⟨S128x4x1, .f32⟩
  | .hbm, ⟨12, _⟩ => ⟨S128x4x1, .f32⟩
  | .hbm, ⟨13, _⟩ => ⟨S128x4x1, .f32⟩
  | .hbm, ⟨14, _⟩ => ⟨S128x4x1024, .f32⟩
  | .hbm, ⟨15, _⟩ => ⟨S128x4x1024, .f32⟩
  | .hbm, ⟨16, _⟩ => ⟨S1x1x1024, .f32⟩
  | .hbm, ⟨17, _⟩ => ⟨S128x4x1024, .f32⟩
  | .hbm, ⟨18, _⟩ => ⟨S128x4x1024, .f32⟩
  | .hbm, ⟨19, _⟩ => ⟨S128x4x4416, .f32⟩
  | .hbm, ⟨20, _⟩ => ⟨S128x4x1024, .f32⟩
  | .hbm, ⟨21, _⟩ => ⟨S128x4x1536, .f32⟩
  | .hbm, ⟨22, _⟩ => ⟨S128x4x16, .f32⟩
  | .hbm, ⟨23, _⟩ => ⟨S128x4x1024, .f32⟩
  | .hbm, ⟨24, _⟩ => ⟨S128x4x128, .f32⟩
  | .hbm, ⟨25, _⟩ => ⟨S128x4x128, .f32⟩
  | .hbm, ⟨26, _⟩ => ⟨S128x4x128, .f32⟩
  | .hbm, ⟨27, _⟩ => ⟨S128x4x128, .f32⟩
  | .hbm, ⟨28, _⟩ => ⟨S128x4x128, .f32⟩
  | .hbm, ⟨29, _⟩ => ⟨S128x4x128, .f32⟩
  | .hbm, ⟨30, _⟩ => ⟨S128x4x48, .f32⟩
  | .hbm, ⟨31, _⟩ => ⟨S_, .f32⟩
  | .hbm, ⟨32, _⟩ => ⟨S128x4x192, .f32⟩
  | .hbm, ⟨33, _⟩ => ⟨S128x4x4608, .f32⟩
  | .hbm, ⟨34, _⟩ => ⟨S512x4608, .f32⟩
  | _, _ => ⟨S128x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_cst_2 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩

abbrev nD : Nat := 1
abbrev τ : Topo := Topo.v7x

variable {F : FTy → Type} [FloatOps F]
-- ==== KernelPrep.lean ====
abbrev S16384x4608 : Shape := ⟨2, ![16384, 4608]⟩
abbrev S32x512x4608 : Shape := ⟨3, ![32, 512, 4608]⟩
abbrev S2x2x8x8192x64 : Shape := ⟨5, ![2, 2, 8, 8192, 64]⟩
abbrev S2x2x256x64 : Shape := ⟨4, ![2, 2, 256, 64]⟩
abbrev S2x2x8192x64 : Shape := ⟨4, ![2, 2, 8192, 64]⟩
abbrev S6x32x512x128 : Shape := ⟨4, ![6, 32, 512, 128]⟩
abbrev S1x512x512 : Shape := ⟨3, ![1, 512, 512]⟩
abbrev S1x512x256 : Shape := ⟨3, ![1, 512, 256]⟩
abbrev S1x2x8x512x64 : Shape := ⟨5, ![1, 2, 8, 512, 64]⟩
abbrev S1x2x16x64 : Shape := ⟨4, ![1, 2, 16, 64]⟩
abbrev S1x2x512x64 : Shape := ⟨4, ![1, 2, 512, 64]⟩
abbrev S6x1x512x128 : Shape := ⟨4, ![6, 1, 512, 128]⟩
abbrev S512x256 : Shape := ⟨2, ![512, 256]⟩
abbrev S512x128 : Shape := ⟨2, ![512, 128]⟩
abbrev S1x1x512x128 : Shape := ⟨4, ![1, 1, 512, 128]⟩
abbrev S512x512 : Shape := ⟨2, ![512, 512]⟩
abbrev S512x64 : Shape := ⟨2, ![512, 64]⟩
abbrev S1x1x1x512x64 : Shape := ⟨5, ![1, 1, 1, 512, 64]⟩
abbrev S16x32x256 : Shape := ⟨3, ![16, 32, 256]⟩
abbrev S16x256 : Shape := ⟨2, ![16, 256]⟩
abbrev S16x64 : Shape := ⟨2, ![16, 64]⟩
abbrev S1x1x16x64 : Shape := ⟨4, ![1, 1, 16, 64]⟩
abbrev S1x1x512x64 : Shape := ⟨4, ![1, 1, 512, 64]⟩

abbrev nBuf : Space → Nat
  | .hbm => 10
  | .vmem => 26
  | .smem => 0
  | _ => 0

abbrev bufTy : (tb : Table) → Fin (tcTables nBuf tb) → BufTy
  | .hbm, ⟨0, _⟩ => ⟨S16384x4608, .f32⟩
  | .hbm, ⟨1, _⟩ => ⟨S32x512x4608, .f32⟩
  | .hbm, ⟨2, _⟩ => ⟨S2x2x8x8192x64, .bf16⟩
  | .hbm, ⟨3, _⟩ => ⟨S2x2x256x64, .bf16⟩
  | .hbm, ⟨4, _⟩ => ⟨S2x2x256x64, .bf16⟩
  | .hbm, ⟨5, _⟩ => ⟨S2x2x8192x64, .bf16⟩
  | .hbm, ⟨6, _⟩ => ⟨S2x2x8192x64, .bf16⟩
  | .hbm, ⟨7, _⟩ => ⟨S2x2x8192x64, .bf16⟩
  | .hbm, ⟨8, _⟩ => ⟨S2x2x8192x64, .bf16⟩
  | .hbm, ⟨9, _⟩ => ⟨S6x32x512x128, .f32⟩
  | .local _ .vmem, ⟨0, _⟩ => ⟨S1x512x512, .f32⟩
  | .local _ .vmem, ⟨1, _⟩ => ⟨S1x512x512, .f32⟩
  | .local _ .vmem, ⟨2, _⟩ => ⟨S1x512x512, .f32⟩
  | .local _ .vmem, ⟨3, _⟩ => ⟨S1x512x512, .f32⟩
  | .local _ .vmem, ⟨4, _⟩ => ⟨S1x512x256, .f32⟩
  | .local _ .vmem, ⟨5, _⟩ => ⟨S1x512x256, .f32⟩
  | .local _ .vmem, ⟨6, _⟩ => ⟨S1x512x256, .f32⟩
  | .local _ .vmem, ⟨7, _⟩ => ⟨S1x512x256, .f32⟩
  | .local _ .vmem, ⟨8, _⟩ => ⟨S1x512x256, .f32⟩
  | .local _ .vmem, ⟨9, _⟩ => ⟨S1x512x256, .f32⟩
  | .local _ .vmem, ⟨10, _⟩ => ⟨S1x2x8x512x64, .bf16⟩
  | .local _ .vmem, ⟨11, _⟩ => ⟨S1x2x8x512x64, .bf16⟩
  | .local _ .vmem, ⟨12, _⟩ => ⟨S1x2x16x64, .bf16⟩
  | .local _ .vmem, ⟨13, _⟩ => ⟨S1x2x16x64, .bf16⟩
  | .local _ .vmem, ⟨14, _⟩ => ⟨S1x2x16x64, .bf16⟩
  | .local _ .vmem, ⟨15, _⟩ => ⟨S1x2x16x64, .bf16⟩
  | .local _ .vmem, ⟨16, _⟩ => ⟨S1x2x512x64, .bf16⟩
  | .local _ .vmem, ⟨17, _⟩ => ⟨S1x2x512x64, .bf16⟩
  | .local _ .vmem, ⟨18, _⟩ => ⟨S1x2x512x64, .bf16⟩
  | .local _ .vmem, ⟨19, _⟩ => ⟨S1x2x512x64, .bf16⟩
  | .local _ .vmem, ⟨20, _⟩ => ⟨S1x2x512x64, .bf16⟩
  | .local _ .vmem, ⟨21, _⟩ => ⟨S1x2x512x64, .bf16⟩
  | .local _ .vmem, ⟨22, _⟩ => ⟨S1x2x512x64, .bf16⟩
  | .local _ .vmem, ⟨23, _⟩ => ⟨S1x2x512x64, .bf16⟩
  | .local _ .vmem, ⟨24, _⟩ => ⟨S6x1x512x128, .f32⟩
  | .local _ .vmem, ⟨25, _⟩ => ⟨S6x1x512x128, .f32⟩
  | _, _ => ⟨S16384x4608, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1_0 : Ref sig .tc := ⟨.hbm, 2, rfl⟩
abbrev main_v1_1 : Ref sig .tc := ⟨.hbm, 3, rfl⟩
abbrev main_v1_2 : Ref sig .tc := ⟨.hbm, 4, rfl⟩
abbrev main_v1_3 : Ref sig .tc := ⟨.hbm, 5, rfl⟩
abbrev main_v1_4 : Ref sig .tc := ⟨.hbm, 6, rfl⟩
abbrev main_v1_5 : Ref sig .tc := ⟨.hbm, 7, rfl⟩
abbrev main_v1_6 : Ref sig .tc := ⟨.hbm, 8, rfl⟩
abbrev main_v1_7 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c5_i32 : BitVec 32 := 5#32
  let c0_i32_0 : BitVec 32 := 0#32
  ![v1.toNat, c0_i32.toNat, c5_i32.toNat]

def cc0_transform_1 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c6_i32 : BitVec 32 := 6#32
  let c0_i32_0 : BitVec 32 := 0#32
  ![v1.toNat, c0_i32.toNat, c6_i32.toNat]

def cc0_transform_2 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c14_i32 : BitVec 32 := 14#32
  let c0_i32_0 : BitVec 32 := 0#32
  ![v1.toNat, c0_i32.toNat, c14_i32.toNat]

def cc0_transform_3 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c15_i32 : BitVec 32 := 15#32
  let c0_i32_0 : BitVec 32 := 0#32
  ![v1.toNat, c0_i32.toNat, c15_i32.toNat]

def cc0_transform_4 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c16_i32_0 : BitVec 32 := 16#32
  let c0_i32_1 : BitVec 32 := 0#32
  ![v1.toNat, c0_i32.toNat, c16_i32_0.toNat]

def cc0_transform_5 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, arg1.toNat, c0_i32_1.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_12 (i : grid0.Coords) : Fin 4 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2x8x512x64 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x2x16x64 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x2x16x64 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x2x512x64 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x2x512x64 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x2x512x64 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x2x512x64 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S6x1x512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== ReferencePrepIdeal.lean ====
abbrev S16384x4608 : Shape := ⟨2, ![16384, 4608]⟩
abbrev S16384x1024 : Shape := ⟨2, ![16384, 1024]⟩
abbrev S2x8192x2x8x64 : Shape := ⟨5, ![2, 8192, 2, 8, 64]⟩
abbrev S_ : Shape := ⟨0, ![]⟩
abbrev S16384x128 : Shape := ⟨2, ![16384, 128]⟩
abbrev S2x8192x2x64 : Shape := ⟨4, ![2, 8192, 2, 64]⟩
abbrev S32x512x128 : Shape := ⟨3, ![32, 512, 128]⟩
abbrev S1x32x512x128 : Shape := ⟨4, ![1, 32, 512, 128]⟩
abbrev S6x32x512x128 : Shape := ⟨4, ![6, 32, 512, 128]⟩
abbrev S2x2x8x8192x64 : Shape := ⟨5, ![2, 2, 8, 8192, 64]⟩
abbrev S2x256x32x2x64 : Shape := ⟨5, ![2, 256, 32, 2, 64]⟩
abbrev S2x256x2x64 : Shape := ⟨4, ![2, 256, 2, 64]⟩
abbrev S2x2x256x64 : Shape := ⟨4, ![2, 2, 256, 64]⟩
abbrev S2x2x8192x64 : Shape := ⟨4, ![2, 2, 8192, 64]⟩

abbrev nBuf : Space → Nat
  | .hbm => 57
  | .vmem => 0
  | .smem => 0
  | _ => 0

abbrev bufTy : (tb : Table) → Fin (tcTables nBuf tb) → BufTy
  | .hbm, ⟨0, _⟩ => ⟨S16384x4608, .f32⟩
  | .hbm, ⟨1, _⟩ => ⟨S16384x1024, .f32⟩
  | .hbm, ⟨2, _⟩ => ⟨S2x8192x2x8x64, .f32⟩
  | .hbm, ⟨3, _⟩ => ⟨S_, .f32⟩
  | .hbm, ⟨4, _⟩ => ⟨S2x8192x2x8x64, .f32⟩
  | .hbm, ⟨5, _⟩ => ⟨S2x8192x2x8x64, .f32⟩
  | .hbm, ⟨6, _⟩ => ⟨S16384x128, .f32⟩
  | .hbm, ⟨7, _⟩ => ⟨S16384x128, .f32⟩
  | .hbm, ⟨8, _⟩ => ⟨S16384x128, .f32⟩
  | .hbm, ⟨9, _⟩ => ⟨S16384x128, .f32⟩
  | .hbm, ⟨10, _⟩ => ⟨S16384x128, .f32⟩
  | .hbm, ⟨11, _⟩ => ⟨S16384x128, .f32⟩
  | .hbm, ⟨12, _⟩ => ⟨S2x8192x2x64, .f32⟩
  | .hbm, ⟨13, _⟩ => ⟨S2x8192x2x64, .f32⟩
  | .hbm, ⟨14, _⟩ => ⟨S2x8192x2x64, .f32⟩
  | .hbm, ⟨15, _⟩ => ⟨S2x8192x2x64, .f32⟩
  | .hbm, ⟨16, _⟩ => ⟨S2x8192x2x64, .f32⟩
  | .hbm, ⟨17, _⟩ => ⟨S2x8192x2x64, .f32⟩
  | .hbm, ⟨18, _⟩ => ⟨S32x512x128, .f32⟩
  | .hbm, ⟨19, _⟩ => ⟨S32x512x128, .f32⟩
  | .hbm, ⟨20, _⟩ => ⟨S32x512x128, .f32⟩
  | .hbm, ⟨21, _⟩ => ⟨S32x512x128, .f32⟩
  | .hbm, ⟨22, _⟩ => ⟨S32x512x128, .f32⟩
  | .hbm, ⟨23, _⟩ => ⟨S32x512x128, .f32⟩
  | .hbm, ⟨24, _⟩ => ⟨S1x32x512x128, .f32⟩
  | .hbm, ⟨25, _⟩ => ⟨S1x32x512x128, .f32⟩
  | .hbm, ⟨26, _⟩ => ⟨S1x32x512x128, .f32⟩
  | .hbm, ⟨27, _⟩ => ⟨S1x32x512x128, .f32⟩
  | .hbm, ⟨28, _⟩ => ⟨S1x32x512x128, .f32⟩
  | .hbm, ⟨29, _⟩ => ⟨S1x32x512x128, .f32⟩
  | .hbm, ⟨30, _⟩ => ⟨S6x32x512x128, .f32⟩
  | .hbm, ⟨31, _⟩ => ⟨S2x2x8x8192x64, .f32⟩
  | .hbm, ⟨32, _⟩ => ⟨S2x2x8x8192x64, .bf16⟩
  | .hbm, ⟨33, _⟩ => ⟨S2x256x32x2x64, .f32⟩
  | .hbm, ⟨34, _⟩ => ⟨S_, .f32⟩
  | .hbm, ⟨35, _⟩ => ⟨S2x256x2x64, .f32⟩
  | .hbm, ⟨36, _⟩ => ⟨S_, .f32⟩
  | .hbm, ⟨37, _⟩ => ⟨S2x256x2x64, .f32⟩
  | .hbm, ⟨38, _⟩ => ⟨S2x256x2x64, .f32⟩
  | .hbm, ⟨39, _⟩ => ⟨S2x2x256x64, .f32⟩
  | .hbm, ⟨40, _⟩ => ⟨S2x2x256x64, .bf16⟩
  | .hbm, ⟨41, _⟩ => ⟨S2x256x32x2x64, .f32⟩
  | .hbm, ⟨42, _⟩ => ⟨S_, .f32⟩
  | .hbm, ⟨43, _⟩ => ⟨S2x256x2x64, .f32⟩
  | .hbm, ⟨44, _⟩ => ⟨S_, .f32⟩
  | .hbm, ⟨45, _⟩ => ⟨S2x256x2x64, .f32⟩
  | .hbm, ⟨46, _⟩ => ⟨S2x256x2x64, .f32⟩
  | .hbm, ⟨47, _⟩ => ⟨S2x2x256x64, .f32⟩
  | .hbm, ⟨48, _⟩ => ⟨S2x2x256x64, .bf16⟩
  | .hbm, ⟨49, _⟩ => ⟨S2x2x8192x64, .f32⟩
  | .hbm, ⟨50, _⟩ => ⟨S2x2x8192x64, .bf16⟩
  | .hbm, ⟨51, _⟩ => ⟨S2x2x8192x64, .f32⟩
  | .hbm, ⟨52, _⟩ => ⟨S2x2x8192x64, .bf16⟩
  | .hbm, ⟨53, _⟩ => ⟨S2x2x8192x64, .f32⟩
  | .hbm, ⟨54, _⟩ => ⟨S2x2x8192x64, .bf16⟩
  | .hbm, ⟨55, _⟩ => ⟨S2x2x8192x64, .f32⟩
  | .hbm, ⟨56, _⟩ => ⟨S2x2x8192x64, .bf16⟩
  | _, _ => ⟨S16384x4608, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_v23 : Ref sig .tc := ⟨.hbm, 25, rfl⟩
abbrev main_v24 : Ref sig .tc := ⟨.hbm, 26, rfl⟩
abbrev main_v25 : Ref sig .tc := ⟨.hbm, 27, rfl⟩
abbrev main_v26 : Ref sig .tc := ⟨.hbm, 28, rfl⟩
abbrev main_v27 : Ref sig .tc := ⟨.hbm, 29, rfl⟩
abbrev main_v28 : Ref sig .tc := ⟨.hbm, 30, rfl⟩
abbrev main_v29 : Ref sig .tc := ⟨.hbm, 31, rfl⟩
abbrev main_v30 : Ref sig .tc := ⟨.hbm, 32, rfl⟩
abbrev main_v31 : Ref sig .tc := ⟨.hbm, 33, rfl⟩
abbrev main_cst_0 : Ref sig .tc := ⟨.hbm, 34, rfl⟩
abbrev main_v32 : Ref sig .tc := ⟨.hbm, 35, rfl⟩
abbrev main_cst_1 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_cst_2 : Ref sig .tc := ⟨.hbm, 42, rfl⟩
abbrev main_v38 : Ref sig .tc := ⟨.hbm, 43, rfl⟩
abbrev main_cst_3 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩

abbrev nD : Nat := 1
abbrev τ : Topo := Topo.v7x

variable {F : FTy → Type} [FloatOps F]
-- ==== KernelOut.lean ====
abbrev S16384x1024 : Shape := ⟨2, ![16384, 1024]⟩
abbrev S2048x1024 : Shape := ⟨2, ![2048, 1024]⟩
abbrev S1024x1024 : Shape := ⟨2, ![1024, 1024]⟩
abbrev S512x1024 : Shape := ⟨2, ![512, 1024]⟩
abbrev S1024x512 : Shape := ⟨2, ![1024, 512]⟩
abbrev S512x512 : Shape := ⟨2, ![512, 512]⟩

abbrev nBuf : Space → Nat
  | .hbm => 9
  | .vmem => 12
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S2048x1024, .f32⟩
  | .hbm, ⟨3, _⟩ => ⟨S16384x1024, .f32⟩
  | .hbm, ⟨4, _⟩ => ⟨S1024x1024, .f32⟩
  | .hbm, ⟨5, _⟩ => ⟨S1024x1024, .bf16⟩
  | .hbm, ⟨6, _⟩ => ⟨S1024x1024, .f32⟩
  | .hbm, ⟨7, _⟩ => ⟨S1024x1024, .bf16⟩
  | .hbm, ⟨8, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![32, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceOutIdeal.lean ====
abbrev S16384x1024 : Shape := ⟨2, ![16384, 1024]⟩
abbrev S2048x1024 : Shape := ⟨2, ![2048, 1024]⟩
abbrev S16384x2048 : Shape := ⟨2, ![16384, 2048]⟩

abbrev nBuf : Space → Nat
  | .hbm => 7
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S2048x1024, .f32⟩
  | .hbm, ⟨3, _⟩ => ⟨S16384x1024, .f32⟩
  | .hbm, ⟨4, _⟩ => ⟨S16384x2048, .f32⟩
  | .hbm, ⟨5, _⟩ => ⟨S16384x1024, .f32⟩
  | .hbm, ⟨6, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩

abbrev nD : Nat := 1
abbrev τ : Topo := Topo.v7x

variable {F : FTy → Type} [FloatOps F]
-- ==== KernelCross.lean ====
abbrev S2x8192x512 : Shape := ⟨3, ![2, 8192, 512]⟩
abbrev S2x2x256x4x128 : Shape := ⟨5, ![2, 2, 256, 4, 128]⟩
abbrev S2x2x256x512 : Shape := ⟨4, ![2, 2, 256, 512]⟩
abbrev S1x512x512 : Shape := ⟨3, ![1, 512, 512]⟩
abbrev S1x1x256x512 : Shape := ⟨4, ![1, 1, 256, 512]⟩
abbrev S512x512 : Shape := ⟨2, ![512, 512]⟩
abbrev S256x512 : Shape := ⟨2, ![256, 512]⟩
abbrev S512x128 : Shape := ⟨2, ![512, 128]⟩
abbrev S256x128 : Shape := ⟨2, ![256, 128]⟩
abbrev S512x256 : Shape := ⟨2, ![512, 256]⟩
abbrev S512 : Shape := ⟨1, ![512]⟩
abbrev S512x1 : Shape := ⟨2, ![512, 1]⟩

abbrev nBuf : Space → Nat
  | .hbm => 6
  | .vmem => 8
  | .smem => 0
  | _ => 0

abbrev bufTy : (tb : Table) → Fin (tcTables nBuf tb) → BufTy
  | .hbm, ⟨0, _⟩ => ⟨S2x8192x512, .f32⟩
  | .hbm, ⟨1, _⟩ => ⟨S2x2x256x4x128, .f32⟩
  | .hbm, ⟨2, _⟩ => ⟨S2x2x256x4x128, .f32⟩
  | .hbm, ⟨3, _⟩ => ⟨S2x2x256x512, .f32⟩
  | .hbm, ⟨4, _⟩ => ⟨S2x2x256x512, .f32⟩
  | .hbm, ⟨5, _⟩ => ⟨S2x8192x512, .f32⟩
  | .local _ .vmem, ⟨0, _⟩ => ⟨S1x512x512, .f32⟩
  | .local _ .vmem, ⟨1, _⟩ => ⟨S1x512x512, .f32⟩
  | .local _ .vmem, ⟨2, _⟩ => ⟨S1x1x256x512, .f32⟩
  | .local _ .vmem, ⟨3, _⟩ => ⟨S1x1x256x512, .f32⟩
  | .local _ .vmem, ⟨4, _⟩ => ⟨S1x1x256x512, .f32⟩
  | .local _ .vmem, ⟨5, _⟩ => ⟨S1x1x256x512, .f32⟩
  | .local _ .vmem, ⟨6, _⟩ => ⟨S1x512x512, .f32⟩
  | .local _ .vmem, ⟨7, _⟩ => ⟨S1x512x512, .f32⟩
  | _, _ => ⟨S2x8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceCrossIdeal.lean ====
abbrev S2x8192x512 : Shape := ⟨3, ![2, 8192, 512]⟩
abbrev S2x2x256x4x128 : Shape := ⟨5, ![2, 2, 256, 4, 128]⟩
abbrev S2x8192x4x128 : Shape := ⟨4, ![2, 8192, 4, 128]⟩
abbrev S_ : Shape := ⟨0, ![]⟩
abbrev S2x1x256x4x128 : Shape := ⟨5, ![2, 1, 256, 4, 128]⟩
abbrev S2x256x4x128 : Shape := ⟨4, ![2, 256, 4, 128]⟩
abbrev S2x4x8192x256 : Shape := ⟨4, ![2, 4, 8192, 256]⟩
abbrev S2x4x8192 : Shape := ⟨3, ![2, 4, 8192]⟩
abbrev S2x4x8192x1 : Shape := ⟨4, ![2, 4, 8192, 1]⟩
abbrev S2x4x128x8192 : Shape := ⟨4, ![2, 4, 128, 8192]⟩

abbrev nBuf : Space → Nat
  | .hbm => 29
  | .vmem => 0
  | .smem => 0
  | _ => 0

abbrev bufTy : (tb : Table) → Fin (tcTables nBuf tb) → BufTy
  | .hbm, ⟨0, _⟩ => ⟨S2x8192x512, .f32⟩
  | .hbm, ⟨1, _⟩ => ⟨S2x2x256x4x128, .f32⟩
  | .hbm, ⟨2, _⟩ => ⟨S2x2x256x4x128, .f32⟩
  | .hbm, ⟨3, _⟩ => ⟨S2x8192x4x128, .f32⟩
  | .hbm, ⟨4, _⟩ => ⟨S_, .f32⟩
  | .hbm, ⟨5, _⟩ => ⟨S2x8192x4x128, .f32⟩
  | .hbm, ⟨6, _⟩ => ⟨S2x8192x4x128, .f32⟩
  | .hbm, ⟨7, _⟩ => ⟨S2x1x256x4x128, .f32⟩
  | .hbm, ⟨8, _⟩ => ⟨S2x256x4x128, .f32⟩
  | .hbm, ⟨9, _⟩ => ⟨S2x4x8192x256, .f32⟩
  | .hbm, ⟨10, _⟩ => ⟨S_, .f32⟩
  | .hbm, ⟨11, _⟩ => ⟨S2x4x8192, .f32⟩
  | .hbm, ⟨12, _⟩ => ⟨S_, .f32⟩
  | .hbm, ⟨13, _⟩ => ⟨S2x4x8192, .f32⟩
  | .hbm, ⟨14, _⟩ => ⟨S2x4x8192, .f32⟩
  | .hbm, ⟨15, _⟩ => ⟨S2x4x8192x1, .f32⟩
  | .hbm, ⟨16, _⟩ => ⟨S2x4x8192x256, .f32⟩
  | .hbm, ⟨17, _⟩ => ⟨S2x4x8192x256, .f32⟩
  | .hbm, ⟨18, _⟩ => ⟨S2x4x8192x256, .f32⟩
  | .hbm, ⟨19, _⟩ => ⟨S_, .f32⟩
  | .hbm, ⟨20, _⟩ => ⟨S2x4x8192, .f32⟩
  | .hbm, ⟨21, _⟩ => ⟨S2x4x8192x1, .f32⟩
  | .hbm, ⟨22, _⟩ => ⟨S2x4x8192x256, .f32⟩
  | .hbm, ⟨23, _⟩ => ⟨S2x4x8192x256, .f32⟩
  | .hbm, ⟨24, _⟩ => ⟨S2x1x256x4x128, .f32⟩
  | .hbm, ⟨25, _⟩ => ⟨S2x256x4x128, .f32⟩
  | .hbm, ⟨26, _⟩ => ⟨S2x4x128x8192, .f32⟩
  | .hbm, ⟨27, _⟩ => ⟨S2x8192x4x128, .f32⟩
  | .hbm, ⟨28, _⟩ => ⟨S2x8192x512, .f32⟩
  | _, _ => ⟨S2x8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩

abbrev nD : Nat := 1
abbrev τ : Topo := Topo.v7x

variable {F : FTy → Type} [FloatOps F]
-- ==== KernelSample.lean ====
abbrev S512x1024 : Shape := ⟨2, ![512, 1024]⟩
abbrev S1024 : Shape := ⟨1, ![1024]⟩
abbrev S1024x8 : Shape := ⟨2, ![1024, 8]⟩
abbrev S8x1024x3584 : Shape := ⟨3, ![8, 1024, 3584]⟩
abbrev S8x3584x1024 : Shape := ⟨3, ![8, 3584, 1024]⟩
abbrev S_ : Shape := ⟨0, ![]⟩
abbrev S1024x128 : Shape := ⟨2, ![1024, 128]⟩
abbrev S1 : Shape := ⟨1, ![1]⟩
abbrev S1x1024 : Shape := ⟨2, ![1, 1024]⟩
abbrev S1x1024x512 : Shape := ⟨3, ![1, 1024, 512]⟩
abbrev S1x512x1024 : Shape := ⟨3, ![1, 512, 1024]⟩
abbrev S512x128 : Shape := ⟨2, ![512, 128]⟩
abbrev S512 : Shape := ⟨1, ![512]⟩
abbrev S512x1 : Shape := ⟨2, ![512, 1]⟩
abbrev S1024x512 : Shape := ⟨2, ![1024, 512]⟩
abbrev S512x512 : Shape := ⟨2, ![512, 512]⟩

abbrev nBuf : Space → Nat
  | .hbm => 19
  | .vmem => 14
  | .smem => 0
  | _ => 0

abbrev bufTy : (tb : Table) → Fin (tcTables nBuf tb) → BufTy
  | .hbm, ⟨0, _⟩ => ⟨S512x1024, .f32⟩
  | .hbm, ⟨1, _⟩ => ⟨S1024, .f32⟩
  | .hbm, ⟨2, _⟩ => ⟨S1024x8, .f32⟩
  | .hbm, ⟨3, _⟩ => ⟨S8x1024x3584, .f32⟩
  | .hbm, ⟨4, _⟩ => ⟨S8x1024x3584, .f32⟩
  | .hbm, ⟨5, _⟩ => ⟨S8x3584x1024, .f32⟩
  | .hbm, ⟨6, _⟩ => ⟨S1024, .f32⟩
  | .hbm, ⟨7, _⟩ => ⟨S8x1024x3584, .bf16⟩
  | .hbm, ⟨8, _⟩ => ⟨S8x1024x3584, .bf16⟩
  | .hbm, ⟨9, _⟩ => ⟨S8x3584x1024, .bf16⟩
  | .hbm, ⟨10, _⟩ => ⟨S_, .bf16⟩
  | .hbm, ⟨11, _⟩ => ⟨S1024x128, .bf16⟩
  | .hbm, ⟨12, _⟩ => ⟨S1024x8, .bf16⟩
  | .hbm, ⟨13, _⟩ => ⟨S_, .i32⟩
  | .hbm, ⟨14, _⟩ => ⟨S1, .i32⟩
  | .hbm, ⟨15, _⟩ => ⟨S1024x128, .bf16⟩
  | .hbm, ⟨16, _⟩ => ⟨S1x1024, .f32⟩
  | .hbm, ⟨17, _⟩ => ⟨S1x1024, .f32⟩
  | .hbm, ⟨18, _⟩ => ⟨S512x1024, .f32⟩
  | .local _ .vmem, ⟨0, _⟩ => ⟨S512x1024, .f32⟩
  | .local _ .vmem, ⟨1, _⟩ => ⟨S1x1024, .f32⟩
  | .local _ .vmem, ⟨2, _⟩ => ⟨S1024x128, .bf16⟩
  | .local _ .vmem, ⟨3, _⟩ => ⟨S1x1024x512, .bf16⟩
  | .local _ .vmem, ⟨4, _⟩ => ⟨S1x1024x512, .bf16⟩
  | .local _ .vmem, ⟨5, _⟩ => ⟨S1x1024x512, .bf16⟩
  | .local _ .vmem, ⟨6, _⟩ => ⟨S1x1024x512, .bf16⟩
  | .local _ .vmem, ⟨7, _⟩ => ⟨S1x512x1024, .bf16⟩
  | .local _ .vmem, ⟨8, _⟩ => ⟨S1x512x1024, .bf16⟩
  | .local _ .vmem, ⟨9, _⟩ => ⟨S1x1024, .f32⟩
  | .local _ .vmem, ⟨10, _⟩ => ⟨S512x1024, .f32⟩
  | .local _ .vmem, ⟨11, _⟩ => ⟨S512x1024, .bf16⟩
  | .local _ .vmem, ⟨12, _⟩ => ⟨S512x128, .f32⟩
  | .local _ .vmem, ⟨13, _⟩ => ⟨S512x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_c : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem7_0 : DmaSem sig := 10

abbrev nD : Nat := 1
abbrev τ : Topo := Topo.v7x

variable {F : FTy → Type} [FloatOps F]

abbrev grid0 : Pipeline.Grid := ⟨3, ![1, 8, 7], ![false, false, false]⟩

def k0_cond2 (i : grid0.Coords) : BitVec 1 :=
  let arg1 : BitVec 32 := BitVec.ofNat 32 (i 1).val
  let c7_i32 : BitVec 32 := 7#32
  let v40 : BitVec 1 := Scalar.cmpi .eq arg1 c7_i32
  let arg2 : BitVec 32 := BitVec.ofNat 32 (i 2).val
  let c6_i32 : BitVec 32 := 6#32
  let v41 : BitVec 1 := Scalar.cmpi .eq arg2 c6_i32
  let v42 : BitVec 1 := Scalar.andi v40 v41
  let v43 : BitVec 32 := Scalar.extui v42
  let c0_i32_25 : BitVec 32 := 0#32
  let v44 : BitVec 1 := Scalar.cmpi .ne v43 c0_i32_25
  v44

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 1 → Memref sig .tc .vmem S1024x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S1x1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1x1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, true]

abbrev stage0_5 : Fin 2 → Memref sig .tc .vmem S1x512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 1 → Memref sig .tc .vmem S512x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, false, false]
-- ==== ReferenceSampleIdeal.lean ====
abbrev S512x1024 : Shape := ⟨2, ![512, 1024]⟩
abbrev S1024 : Shape := ⟨1, ![1024]⟩
abbrev S1024x8 : Shape := ⟨2, ![1024, 8]⟩
abbrev S8x1024x3584 : Shape := ⟨3, ![8, 1024, 3584]⟩
abbrev S8x3584x1024 : Shape := ⟨3, ![8, 3584, 1024]⟩
abbrev S_ : Shape := ⟨0, ![]⟩
abbrev S512 : Shape := ⟨1, ![512]⟩
abbrev S512x1 : Shape := ⟨2, ![512, 1]⟩
abbrev S1x1024 : Shape := ⟨2, ![1, 1024]⟩
abbrev S512x8 : Shape := ⟨2, ![512, 8]⟩
abbrev S512x2 : Shape := ⟨2, ![512, 2]⟩
abbrev S512x2x1 : Shape := ⟨3, ![512, 2, 1]⟩
abbrev S1x1x8 : Shape := ⟨3, ![1, 1, 8]⟩
abbrev S512x2x8 : Shape := ⟨3, ![512, 2, 8]⟩
abbrev S1x1024x3584 : Shape := ⟨3, ![1, 1024, 3584]⟩
abbrev S1024x3584 : Shape := ⟨2, ![1024, 3584]⟩
abbrev S512x3584 : Shape := ⟨2, ![512, 3584]⟩
abbrev S1x3584x1024 : Shape := ⟨3, ![1, 3584, 1024]⟩
abbrev S3584x1024 : Shape := ⟨2, ![3584, 1024]⟩

abbrev nBuf : Space → Nat
  | .hbm => 250
  | .vmem => 0
  | .smem => 0
  | _ => 0

abbrev hbmTy0_0 (i : Nat) : BufTy := match i % 128 with
  | 0 => ⟨S512x1024, .f32⟩
  | 1 => ⟨S1024, .f32⟩
  | 2 => ⟨S1024x8, .f32⟩
  | 3 => ⟨S8x1024x3584, .f32⟩
  | 4 => ⟨S8x1024x3584, .f32⟩
  | 5 => ⟨S8x3584x1024, .f32⟩
  | 6 => ⟨S1024, .f32⟩
  | 7 => ⟨S512x1024, .f32⟩
  | 8 => ⟨S_, .f32⟩
  | 9 => ⟨S512, .f32⟩
  | 10 => ⟨S512x1, .f32⟩
  | 11 => ⟨S_, .f32⟩
  | 12 => ⟨S512x1, .f32⟩
  | 13 => ⟨S512x1, .f32⟩
  | 14 => ⟨S_, .f32⟩
  | 15 => ⟨S512x1, .f32⟩
  | 16 => ⟨S512x1, .f32⟩
  | 17 => ⟨S512x1, .f32⟩
  | 18 => ⟨S512x1024, .f32⟩
  | 19 => ⟨S512x1024, .f32⟩
  | 20 => ⟨S1x1024, .f32⟩
  | 21 => ⟨S512x1024, .f32⟩
  | 22 => ⟨S512x1024, .f32⟩
  | 23 => ⟨S512x8, .f32⟩
  | 24 => ⟨S512x2, .f32⟩
  | 25 => ⟨S512x2, .i32⟩
  | 26 => ⟨S_, .f32⟩
  | 27 => ⟨S512, .f32⟩
  | 28 => ⟨S_, .f32⟩
  | 29 => ⟨S512, .f32⟩
  | 30 => ⟨S512, .f32⟩
  | 31 => ⟨S512x1, .f32⟩
  | 32 => ⟨S512x2, .f32⟩
  | 33 => ⟨S512x2, .f32⟩
  | 34 => ⟨S512x2, .f32⟩
  | 35 => ⟨S_, .f32⟩
  | 36 => ⟨S512, .f32⟩
  | 37 => ⟨S512x1, .f32⟩
  | 38 => ⟨S512x2, .f32⟩
  | 39 => ⟨S512x2, .f32⟩
  | 40 => ⟨S512x2x1, .i32⟩
  | 41 => ⟨S1x1x8, .i32⟩
  | 42 => ⟨S512x2x8, .i32⟩
  | 43 => ⟨S512x2x8, .i32⟩
  | 44 => ⟨S512x2x8, .i1⟩
  | 45 => ⟨S512x2x8, .f32⟩
  | 46 => ⟨S512x8, .f32⟩
  | 47 => ⟨S_, .f32⟩
  | 48 => ⟨S512x1024, .f32⟩
  | 49 => ⟨S1x1024x3584, .f32⟩
  | 50 => ⟨S1024x3584, .f32⟩
  | 51 => ⟨S512x3584, .f32⟩
  | 52 => ⟨S512x3584, .f32⟩
  | 53 => ⟨S512x3584, .f32⟩
  | 54 => ⟨S_, .f32⟩
  | 55 => ⟨S512x3584, .f32⟩
  | 56 => ⟨S512x3584, .f32⟩
  | 57 => ⟨S_, .f32⟩
  | 58 => ⟨S512x3584, .f32⟩
  | 59 => ⟨S512x3584, .f32⟩
  | 60 => ⟨S512x3584, .f32⟩
  | 61 => ⟨S1x1024x3584, .f32⟩
  | 62 => ⟨S1024x3584, .f32⟩
  | 63 => ⟨S512x3584, .f32⟩
  | 64 => ⟨S512x3584, .f32⟩
  | 65 => ⟨S1x3584x1024, .f32⟩
  | 66 => ⟨S3584x1024, .f32⟩
  | 67 => ⟨S512x1024, .f32⟩
  | 68 => ⟨S512x1, .f32⟩
  | 69 => ⟨S512x1024, .f32⟩
  | 70 => ⟨S512x1024, .f32⟩
  | 71 => ⟨S512x1024, .f32⟩
  | 72 => ⟨S1x1024x3584, .f32⟩
  | 73 => ⟨S1024x3584, .f32⟩
  | 74 => ⟨S512x3584, .f32⟩
  | 75 => ⟨S512x3584, .f32⟩
  | 76 => ⟨S512x3584, .f32⟩
  | 77 => ⟨S_, .f32⟩
  | 78 => ⟨S512x3584, .f32⟩
  | 79 => ⟨S512x3584, .f32⟩
  | 80 => ⟨S_, .f32⟩
  | 81 => ⟨S512x3584, .f32⟩
  | 82 => ⟨S512x3584, .f32⟩
  | 83 => ⟨S512x3584, .f32⟩
  | 84 => ⟨S1x1024x3584, .f32⟩
  | 85 => ⟨S1024x3584, .f32⟩
  | 86 => ⟨S512x3584, .f32⟩
  | 87 => ⟨S512x3584, .f32⟩
  | 88 => ⟨S1x3584x1024, .f32⟩
  | 89 => ⟨S3584x1024, .f32⟩
  | 90 => ⟨S512x1024, .f32⟩
  | 91 => ⟨S512x1, .f32⟩
  | 92 => ⟨S512x1024, .f32⟩
  | 93 => ⟨S512x1024, .f32⟩
  | 94 => ⟨S512x1024, .f32⟩
  | 95 => ⟨S1x1024x3584, .f32⟩
  | 96 => ⟨S1024x3584, .f32⟩
  | 97 => ⟨S512x3584, .f32⟩
  | 98 => ⟨S512x3584, .f32⟩
  | 99 => ⟨S512x3584, .f32⟩
  | 100 => ⟨S_, .f32⟩
  | 101 => ⟨S512x3584, .f32⟩
  | 102 => ⟨S512x3584, .f32⟩
  | 103 => ⟨S_, .f32⟩
  | 104 => ⟨S512x3584, .f32⟩
  | 105 => ⟨S512x3584, .f32⟩
  | 106 => ⟨S512x3584, .f32⟩
  | 107 => ⟨S1x1024x3584, .f32⟩
  | 108 => ⟨S1024x3584, .f32⟩
  | 109 => ⟨S512x3584, .f32⟩
  | 110 => ⟨S512x3584, .f32⟩
  | 111 => ⟨S1x3584x1024, .f32⟩
  | 112 => ⟨S3584x1024, .f32⟩
  | 113 => ⟨S512x1024, .f32⟩
  | 114 => ⟨S512x1, .f32⟩
  | 115 => ⟨S512x1024, .f32⟩
  | 116 => ⟨S512x1024, .f32⟩
  | 117 => ⟨S512x1024, .f32⟩
  | 118 => ⟨S1x1024x3584, .f32⟩
  | 119 => ⟨S1024x3584, .f32⟩
  | 120 => ⟨S512x3584, .f32⟩
  | 121 => ⟨S512x3584, .f32⟩
  | 122 => ⟨S512x3584, .f32⟩
  | 123 => ⟨S_, .f32⟩
  | 124 => ⟨S512x3584, .f32⟩
  | 125 => ⟨S512x3584, .f32⟩
  | 126 => ⟨S_, .f32⟩
  | 127 => ⟨S512x3584, .f32⟩
  | _ => ⟨S512x1024, .f32⟩

abbrev hbmTy0_1 (i : Nat) : BufTy := match i % 128 with
  | 0 => ⟨S512x3584, .f32⟩
  | 1 => ⟨S512x3584, .f32⟩
  | 2 => ⟨S1x1024x3584, .f32⟩
  | 3 => ⟨S1024x3584, .f32⟩
  | 4 => ⟨S512x3584, .f32⟩
  | 5 => ⟨S512x3584, .f32⟩
  | 6 => ⟨S1x3584x1024, .f32⟩
  | 7 => ⟨S3584x1024, .f32⟩
  | 8 => ⟨S512x1024, .f32⟩
  | 9 => ⟨S512x1, .f32⟩
  | 10 => ⟨S512x1024, .f32⟩
  | 11 => ⟨S512x1024, .f32⟩
  | 12 => ⟨S512x1024, .f32⟩
  | 13 => ⟨S1x1024x3584, .f32⟩
  | 14 => ⟨S1024x3584, .f32⟩
  | 15 => ⟨S512x3584, .f32⟩
  | 16 => ⟨S512x3584, .f32⟩
  | 17 => ⟨S512x3584, .f32⟩
  | 18 => ⟨S_, .f32⟩
  | 19 => ⟨S512x3584, .f32⟩
  | 20 => ⟨S512x3584, .f32⟩
  | 21 => ⟨S_, .f32⟩
  | 22 => ⟨S512x3584, .f32⟩
  | 23 => ⟨S512x3584, .f32⟩
  | 24 => ⟨S512x3584, .f32⟩
  | 25 => ⟨S1x1024x3584, .f32⟩
  | 26 => ⟨S1024x3584, .f32⟩
  | 27 => ⟨S512x3584, .f32⟩
  | 28 => ⟨S512x3584, .f32⟩
  | 29 => ⟨S1x3584x1024, .f32⟩
  | 30 => ⟨S3584x1024, .f32⟩
  | 31 => ⟨S512x1024, .f32⟩
  | 32 => ⟨S512x1, .f32⟩
  | 33 => ⟨S512x1024, .f32⟩
  | 34 => ⟨S512x1024, .f32⟩
  | 35 => ⟨S512x1024, .f32⟩
  | 36 => ⟨S1x1024x3584, .f32⟩
  | 37 => ⟨S1024x3584, .f32⟩
  | 38 => ⟨S512x3584, .f32⟩
  | 39 => ⟨S512x3584, .f32⟩
  | 40 => ⟨S512x3584, .f32⟩
  | 41 => ⟨S_, .f32⟩
  | 42 => ⟨S512x3584, .f32⟩
  | 43 => ⟨S512x3584, .f32⟩
  | 44 => ⟨S_, .f32⟩
  | 45 => ⟨S512x3584, .f32⟩
  | 46 => ⟨S512x3584, .f32⟩
  | 47 => ⟨S512x3584, .f32⟩
  | 48 => ⟨S1x1024x3584, .f32⟩
  | 49 => ⟨S1024x3584, .f32⟩
  | 50 => ⟨S512x3584, .f32⟩
  | 51 => ⟨S512x3584, .f32⟩
  | 52 => ⟨S1x3584x1024, .f32⟩
  | 53 => ⟨S3584x1024, .f32⟩
  | 54 => ⟨S512x1024, .f32⟩
  | 55 => ⟨S512x1, .f32⟩
  | 56 => ⟨S512x1024, .f32⟩
  | 57 => ⟨S512x1024, .f32⟩
  | 58 => ⟨S512x1024, .f32⟩
  | 59 => ⟨S1x1024x3584, .f32⟩
  | 60 => ⟨S1024x3584, .f32⟩
  | 61 => ⟨S512x3584, .f32⟩
  | 62 => ⟨S512x3584, .f32⟩
  | 63 => ⟨S512x3584, .f32⟩
  | 64 => ⟨S_, .f32⟩
  | 65 => ⟨S512x3584, .f32⟩
  | 66 => ⟨S512x3584, .f32⟩
  | 67 => ⟨S_, .f32⟩
  | 68 => ⟨S512x3584, .f32⟩
  | 69 => ⟨S512x3584, .f32⟩
  | 70 => ⟨S512x3584, .f32⟩
  | 71 => ⟨S1x1024x3584, .f32⟩
  | 72 => ⟨S1024x3584, .f32⟩
  | 73 => ⟨S512x3584, .f32⟩
  | 74 => ⟨S512x3584, .f32⟩
  | 75 => ⟨S1x3584x1024, .f32⟩
  | 76 => ⟨S3584x1024, .f32⟩
  | 77 => ⟨S512x1024, .f32⟩
  | 78 => ⟨S512x1, .f32⟩
  | 79 => ⟨S512x1024, .f32⟩
  | 80 => ⟨S512x1024, .f32⟩
  | 81 => ⟨S512x1024, .f32⟩
  | 82 => ⟨S1x1024x3584, .f32⟩
  | 83 => ⟨S1024x3584, .f32⟩
  | 84 => ⟨S512x3584, .f32⟩
  | 85 => ⟨S512x3584, .f32⟩
  | 86 => ⟨S512x3584, .f32⟩
  | 87 => ⟨S_, .f32⟩
  | 88 => ⟨S512x3584, .f32⟩
  | 89 => ⟨S512x3584, .f32⟩
  | 90 => ⟨S_, .f32⟩
  | 91 => ⟨S512x3584, .f32⟩
  | 92 => ⟨S512x3584, .f32⟩
  | 93 => ⟨S512x3584, .f32⟩
  | 94 => ⟨S1x1024x3584, .f32⟩
  | 95 => ⟨S1024x3584, .f32⟩
  | 96 => ⟨S512x3584, .f32⟩
  | 97 => ⟨S512x3584, .f32⟩
  | 98 => ⟨S1x3584x1024, .f32⟩
  | 99 => ⟨S3584x1024, .f32⟩
  | 100 => ⟨S512x1024, .f32⟩
  | 101 => ⟨S512x1, .f32⟩
  | 102 => ⟨S512x1024, .f32⟩
  | 103 => ⟨S512x1024, .f32⟩
  | 104 => ⟨S512x1024, .f32⟩
  | 105 => ⟨S512x1024, .f32⟩
  | 106 => ⟨S512x1024, .f32⟩
  | 107 => ⟨S_, .f32⟩
  | 108 => ⟨S512, .f32⟩
  | 109 => ⟨S512x1, .f32⟩
  | 110 => ⟨S_, .f32⟩
  | 111 => ⟨S512x1, .f32⟩
  | 112 => ⟨S512x1, .f32⟩
  | 113 => ⟨S_, .f32⟩
  | 114 => ⟨S512x1, .f32⟩
  | 115 => ⟨S512x1, .f32⟩
  | 116 => ⟨S512x1, .f32⟩
  | 117 => ⟨S512x1024, .f32⟩
  | 118 => ⟨S512x1024, .f32⟩
  | 119 => ⟨S1x1024, .f32⟩
  | 120 => ⟨S512x1024, .f32⟩
  | 121 => ⟨S512x1024, .f32⟩
  | _ => ⟨S512x1024, .f32⟩

abbrev hbmTy (i : Nat) : BufTy := match i / 128 with
  | 0 => hbmTy0_0 i
  | 1 => hbmTy0_1 i
  | _ => ⟨S512x1024, .f32⟩

abbrev bufTy : (tb : Table) → Fin (tcTables nBuf tb) → BufTy
  | .hbm, ⟨i, _⟩ => hbmTy i
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_values : Ref sig .tc := ⟨.hbm, 24, rfl⟩
abbrev main_indices : Ref sig .tc := ⟨.hbm, 25, rfl⟩
abbrev main_cst_2 : Ref sig .tc := ⟨.hbm, 26, rfl⟩
abbrev main_v14 : Ref sig .tc := ⟨.hbm, 27, rfl⟩
abbrev main_cst_3 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_call0_v0 : Ref sig .tc := ⟨.hbm, 40, rfl⟩
abbrev main_call0_v1 : Ref sig .tc := ⟨.hbm, 41, rfl⟩
abbrev main_call0_v2 : Ref sig .tc := ⟨.hbm, 42, rfl⟩
abbrev main_call0_v3 : Ref sig .tc := ⟨.hbm, 43, rfl⟩
abbrev main_call0_v4 : Ref sig .tc := ⟨.hbm, 44, rfl⟩
abbrev main_v25 : Ref sig .tc := ⟨.hbm, 45, rfl⟩
abbrev main_v26 : Ref sig .tc := ⟨.hbm, 46, rfl⟩
abbrev main_cst_5 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_call1_v0 : Ref sig .tc := ⟨.hbm, 52, rfl⟩
abbrev main_call1_v1 : Ref sig .tc := ⟨.hbm, 53, rfl⟩
abbrev main_call1_cst : Ref sig .tc := ⟨.hbm, 54, rfl⟩
abbrev main_call1_v2 : Ref sig .tc := ⟨.hbm, 55, rfl⟩
abbrev main_call1_v3 : Ref sig .tc := ⟨.hbm, 56, rfl⟩
abbrev main_call1_cst_0 : Ref sig .tc := ⟨.hbm, 57, rfl⟩
abbrev main_call1_v4 : Ref sig .tc := ⟨.hbm, 58, rfl⟩
abbrev main_call1_v5 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_call2_v0 : Ref sig .tc := ⟨.hbm, 75, rfl⟩
abbrev main_call2_v1 : Ref sig .tc := ⟨.hbm, 76, rfl⟩
abbrev main_call2_cst : Ref sig .tc := ⟨.hbm, 77, rfl⟩
abbrev main_call2_v2 : Ref sig .tc := ⟨.hbm, 78, rfl⟩
abbrev main_call2_v3 : Ref sig .tc := ⟨.hbm, 79, rfl⟩
abbrev main_call2_cst_0 : Ref sig .tc := ⟨.hbm, 80, rfl⟩
abbrev main_call2_v4 : Ref sig .tc := ⟨.hbm, 81, rfl⟩
abbrev main_call2_v5 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_call3_v0 : Ref sig .tc := ⟨.hbm, 98, rfl⟩
abbrev main_call3_v1 : Ref sig .tc := ⟨.hbm, 99, rfl⟩
abbrev main_call3_cst : Ref sig .tc := ⟨.hbm, 100, rfl⟩
abbrev main_call3_v2 : Ref sig .tc := ⟨.hbm, 101, rfl⟩
abbrev main_call3_v3 : Ref sig .tc := ⟨.hbm, 102, rfl⟩
abbrev main_call3_cst_0 : Ref sig .tc := ⟨.hbm, 103, rfl⟩
abbrev main_call3_v4 : Ref sig .tc := ⟨.hbm, 104, rfl⟩
abbrev main_call3_v5 : Ref sig .tc := ⟨.hbm, 105, rfl⟩
abbrev main_v61 : Ref sig .tc := ⟨.hbm, 106, rfl⟩
abbrev main_v62 : Ref sig .tc := ⟨.hbm, 107, rfl⟩
abbrev main_v63 : Ref sig .tc := ⟨.hbm, 108, rfl⟩
abbrev main_v64 : Ref sig .tc := ⟨.hbm, 109, rfl⟩
abbrev main_v65 : Ref sig .tc := ⟨.hbm, 110, rfl⟩
abbrev main_v66 : Ref sig .tc := ⟨.hbm, 111, rfl⟩
abbrev main_v67 : Ref sig .tc := ⟨.hbm, 112, rfl⟩
abbrev main_v68 : Ref sig .tc := ⟨.hbm, 113, rfl⟩
abbrev main_v69 : Ref sig .tc := ⟨.hbm, 114, rfl⟩
abbrev main_v70 : Ref sig .tc := ⟨.hbm, 115, rfl⟩
abbrev main_v71 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_call4_v0 : Ref sig .tc := ⟨.hbm, 121, rfl⟩
abbrev main_call4_v1 : Ref sig .tc := ⟨.hbm, 122, rfl⟩
abbrev main_call4_cst : Ref sig .tc := ⟨.hbm, 123, rfl⟩
abbrev main_call4_v2 : Ref sig .tc := ⟨.hbm, 124, rfl⟩
abbrev main_call4_v3 : Ref sig .tc := ⟨.hbm, 125, rfl⟩
abbrev main_call4_cst_0 : Ref sig .tc := ⟨.hbm, 126, rfl⟩
abbrev main_call4_v4 : Ref sig .tc := ⟨.hbm, 127, rfl⟩
abbrev main_call4_v5 : Ref sig .tc := ⟨.hbm, 128, rfl⟩
abbrev main_v76 : Ref sig .tc := ⟨.hbm, 129, rfl⟩
abbrev main_v77 : Ref sig .tc := ⟨.hbm, 130, rfl⟩
abbrev main_v78 : Ref sig .tc := ⟨.hbm, 131, rfl⟩
abbrev main_v79 : Ref sig .tc := ⟨.hbm, 132, rfl⟩
abbrev main_v80 : Ref sig .tc := ⟨.hbm, 133, rfl⟩
abbrev main_v81 : Ref sig .tc := ⟨.hbm, 134, rfl⟩
abbrev main_v82 : Ref sig .tc := ⟨.hbm, 135, rfl⟩
abbrev main_v83 : Ref sig .tc := ⟨.hbm, 136, rfl⟩
abbrev main_v84 : Ref sig .tc := ⟨.hbm, 137, rfl⟩
abbrev main_v85 : Ref sig .tc := ⟨.hbm, 138, rfl⟩
abbrev main_v86 : Ref sig .tc := ⟨.hbm, 139, rfl⟩
abbrev main_v87 : Ref sig .tc := ⟨.hbm, 140, rfl⟩
abbrev main_v88 : Ref sig .tc := ⟨.hbm, 141, rfl⟩
abbrev main_v89 : Ref sig .tc := ⟨.hbm, 142, rfl⟩
abbrev main_v90 : Ref sig .tc := ⟨.hbm, 143, rfl⟩
abbrev main_call5_v0 : Ref sig .tc := ⟨.hbm, 144, rfl⟩
abbrev main_call5_v1 : Ref sig .tc := ⟨.hbm, 145, rfl⟩
abbrev main_call5_cst : Ref sig .tc := ⟨.hbm, 146, rfl⟩
abbrev main_call5_v2 : Ref sig .tc := ⟨.hbm, 147, rfl⟩
abbrev main_call5_v3 : Ref sig .tc := ⟨.hbm, 148, rfl⟩
abbrev main_call5_cst_0 : Ref sig .tc := ⟨.hbm, 149, rfl⟩
abbrev main_call5_v4 : Ref sig .tc := ⟨.hbm, 150, rfl⟩
abbrev main_call5_v5 : Ref sig .tc := ⟨.hbm, 151, rfl⟩
abbrev main_v91 : Ref sig .tc := ⟨.hbm, 152, rfl⟩
abbrev main_v92 : Ref sig .tc := ⟨.hbm, 153, rfl⟩
abbrev main_v93 : Ref sig .tc := ⟨.hbm, 154, rfl⟩
abbrev main_v94 : Ref sig .tc := ⟨.hbm, 155, rfl⟩
abbrev main_v95 : Ref sig .tc := ⟨.hbm, 156, rfl⟩
abbrev main_v96 : Ref sig .tc := ⟨.hbm, 157, rfl⟩
abbrev main_v97 : Ref sig .tc := ⟨.hbm, 158, rfl⟩
abbrev main_v98 : Ref sig .tc := ⟨.hbm, 159, rfl⟩
abbrev main_v99 : Ref sig .tc := ⟨.hbm, 160, rfl⟩
abbrev main_v100 : Ref sig .tc := ⟨.hbm, 161, rfl⟩
abbrev main_v101 : Ref sig .tc := ⟨.hbm, 162, rfl⟩
abbrev main_v102 : Ref sig .tc := ⟨.hbm, 163, rfl⟩
abbrev main_v103 : Ref sig .tc := ⟨.hbm, 164, rfl⟩
abbrev main_v104 : Ref sig .tc := ⟨.hbm, 165, rfl⟩
abbrev main_v105 : Ref sig .tc := ⟨.hbm, 166, rfl⟩
abbrev main_call6_v0 : Ref sig .tc := ⟨.hbm, 167, rfl⟩
abbrev main_call6_v1 : Ref sig .tc := ⟨.hbm, 168, rfl⟩
abbrev main_call6_cst : Ref sig .tc := ⟨.hbm, 169, rfl⟩
abbrev main_call6_v2 : Ref sig .tc := ⟨.hbm, 170, rfl⟩
abbrev main_call6_v3 : Ref sig .tc := ⟨.hbm, 171, rfl⟩
abbrev main_call6_cst_0 : Ref sig .tc := ⟨.hbm, 172, rfl⟩
abbrev main_call6_v4 : Ref sig .tc := ⟨.hbm, 173, rfl⟩
abbrev main_call6_v5 : Ref sig .tc := ⟨.hbm, 174, rfl⟩
abbrev main_v106 : Ref sig .tc := ⟨.hbm, 175, rfl⟩
abbrev main_v107 : Ref sig .tc := ⟨.hbm, 176, rfl⟩
abbrev main_v108 : Ref sig .tc := ⟨.hbm, 177, rfl⟩
abbrev main_v109 : Ref sig .tc := ⟨.hbm, 178, rfl⟩
abbrev main_v110 : Ref sig .tc := ⟨.hbm, 179, rfl⟩
abbrev main_v111 : Ref sig .tc := ⟨.hbm, 180, rfl⟩
abbrev main_v112 : Ref sig .tc := ⟨.hbm, 181, rfl⟩
abbrev main_v113 : Ref sig .tc := ⟨.hbm, 182, rfl⟩
abbrev main_v114 : Ref sig .tc := ⟨.hbm, 183, rfl⟩
abbrev main_v115 : Ref sig .tc := ⟨.hbm, 184, rfl⟩
abbrev main_v116 : Ref sig .tc := ⟨.hbm, 185, rfl⟩
abbrev main_v117 : Ref sig .tc := ⟨.hbm, 186, rfl⟩
abbrev main_v118 : Ref sig .tc := ⟨.hbm, 187, rfl⟩
abbrev main_v119 : Ref sig .tc := ⟨.hbm, 188, rfl⟩
abbrev main_v120 : Ref sig .tc := ⟨.hbm, 189, rfl⟩
abbrev main_call7_v0 : Ref sig .tc := ⟨.hbm, 190, rfl⟩
abbrev main_call7_v1 : Ref sig .tc := ⟨.hbm, 191, rfl⟩
abbrev main_call7_cst : Ref sig .tc := ⟨.hbm, 192, rfl⟩
abbrev main_call7_v2 : Ref sig .tc := ⟨.hbm, 193, rfl⟩
abbrev main_call7_v3 : Ref sig .tc := ⟨.hbm, 194, rfl⟩
abbrev main_call7_cst_0 : Ref sig .tc := ⟨.hbm, 195, rfl⟩
abbrev main_call7_v4 : Ref sig .tc := ⟨.hbm, 196, rfl⟩
abbrev main_call7_v5 : Ref sig .tc := ⟨.hbm, 197, rfl⟩
abbrev main_v121 : Ref sig .tc := ⟨.hbm, 198, rfl⟩
abbrev main_v122 : Ref sig .tc := ⟨.hbm, 199, rfl⟩
abbrev main_v123 : Ref sig .tc := ⟨.hbm, 200, rfl⟩
abbrev main_v124 : Ref sig .tc := ⟨.hbm, 201, rfl⟩
abbrev main_v125 : Ref sig .tc := ⟨.hbm, 202, rfl⟩
abbrev main_v126 : Ref sig .tc := ⟨.hbm, 203, rfl⟩
abbrev main_v127 : Ref sig .tc := ⟨.hbm, 204, rfl⟩
abbrev main_v128 : Ref sig .tc := ⟨.hbm, 205, rfl⟩
abbrev main_v129 : Ref sig .tc := ⟨.hbm, 206, rfl⟩
abbrev main_v130 : Ref sig .tc := ⟨.hbm, 207, rfl⟩
abbrev main_v131 : Ref sig .tc := ⟨.hbm, 208, rfl⟩
abbrev main_v132 : Ref sig .tc := ⟨.hbm, 209, rfl⟩
abbrev main_v133 : Ref sig .tc := ⟨.hbm, 210, rfl⟩
abbrev main_v134 : Ref sig .tc := ⟨.hbm, 211, rfl⟩
abbrev main_v135 : Ref sig .tc := ⟨.hbm, 212, rfl⟩
abbrev main_call8_v0 : Ref sig .tc := ⟨.hbm, 213, rfl⟩
abbrev main_call8_v1 : Ref sig .tc := ⟨.hbm, 214, rfl⟩
abbrev main_call8_cst : Ref sig .tc := ⟨.hbm, 215, rfl⟩
abbrev main_call8_v2 : Ref sig .tc := ⟨.hbm, 216, rfl⟩
abbrev main_call8_v3 : Ref sig .tc := ⟨.hbm, 217, rfl⟩
abbrev main_call8_cst_0 : Ref sig .tc := ⟨.hbm, 218, rfl⟩
abbrev main_call8_v4 : Ref sig .tc := ⟨.hbm, 219, rfl⟩
abbrev main_call8_v5 : Ref sig .tc := ⟨.hbm, 220, rfl⟩
abbrev main_v136 : Ref sig .tc := ⟨.hbm, 221, rfl⟩
abbrev main_v137 : Ref sig .tc := ⟨.hbm, 222, rfl⟩
abbrev main_v138 : Ref sig .tc := ⟨.hbm, 223, rfl⟩
abbrev main_v139 : Ref sig .tc := ⟨.hbm, 224, rfl⟩
abbrev main_v140 : Ref sig .tc := ⟨.hbm, 225, rfl⟩
abbrev main_v141 : Ref sig .tc := ⟨.hbm, 226, rfl⟩
abbrev main_v142 : Ref sig .tc := ⟨.hbm, 227, rfl⟩
abbrev main_v143 : Ref sig .tc := ⟨.hbm, 228, rfl⟩
abbrev main_v144 : Ref sig .tc := ⟨.hbm, 229, rfl⟩
abbrev main_v145 : Ref sig .tc := ⟨.hbm, 230, rfl⟩
abbrev main_v146 : Ref sig .tc := ⟨.hbm, 231, rfl⟩
abbrev main_v147 : Ref sig .tc := ⟨.hbm, 232, rfl⟩
abbrev main_v148 : Ref sig .tc := ⟨.hbm, 233, rfl⟩
abbrev main_v149 : Ref sig .tc := ⟨.hbm, 234, rfl⟩
abbrev main_cst_6 : Ref sig .tc := ⟨.hbm, 235, rfl⟩
abbrev main_v150 : Ref sig .tc := ⟨.hbm, 236, rfl⟩
abbrev main_v151 : Ref sig .tc := ⟨.hbm, 237, rfl⟩
abbrev main_cst_7 : Ref sig .tc := ⟨.hbm, 238, rfl⟩
abbrev main_v152 : Ref sig .tc := ⟨.hbm, 239, rfl⟩
abbrev main_v153 : Ref sig .tc := ⟨.hbm, 240, rfl⟩
abbrev main_cst_8 : Ref sig .tc := ⟨.hbm, 241, rfl⟩
abbrev main_v154 : Ref sig .tc := ⟨.hbm, 242, rfl⟩
abbrev main_v155 : Ref sig .tc := ⟨.hbm, 243, rfl⟩
abbrev main_v156 : Ref sig .tc := ⟨.hbm, 244, rfl⟩
abbrev main_v157 : Ref sig .tc := ⟨.hbm, 245, rfl⟩
abbrev main_v158 : Ref sig .tc := ⟨.hbm, 246, rfl⟩
abbrev main_v159 : Ref sig .tc := ⟨.hbm, 247, rfl⟩
abbrev main_v160 : Ref sig .tc := ⟨.hbm, 248, rfl⟩
abbrev main_v161 : Ref sig .tc := ⟨.hbm, 249, rfl⟩

abbrev nD : Nat := 1
abbrev τ : Topo := Topo.v7x

variable {F : FTy → Type} [FloatOps F]
-- ==== KernelConfIn.lean ====
abbrev S16384x1024 : Shape := ⟨2, ![16384, 1024]⟩
abbrev S1024 : Shape := ⟨1, ![1024]⟩
abbrev S1024x2048 : Shape := ⟨2, ![1024, 2048]⟩
abbrev S1x1024 : Shape := ⟨2, ![1, 1024]⟩
abbrev S16384x2048 : Shape := ⟨2, ![16384, 2048]⟩
abbrev S512x1024 : Shape := ⟨2, ![512, 1024]⟩
abbrev S1024x512 : Shape := ⟨2, ![1024, 512]⟩
abbrev S512x512 : Shape := ⟨2, ![512, 512]⟩
abbrev S512 : Shape := ⟨1, ![512]⟩
abbrev S512x1 : Shape := ⟨2, ![512, 1]⟩

abbrev nBuf : Space → Nat
  | .hbm => 6
  | .vmem => 8
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2048, .f32⟩
  | .hbm, ⟨3, _⟩ => ⟨S1024x2048, .bf16⟩
  | .hbm, ⟨4, _⟩ => ⟨S1x1024, .f32⟩
  | .hbm, ⟨5, _⟩ => ⟨S16384x2048, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x512, .bf16⟩
  | .local _ .vmem, ⟨4, _⟩ => ⟨S1024x512, .bf16⟩
  | .local _ .vmem, ⟨5, _⟩ => ⟨S512x512, .f32⟩
  | .local _ .vmem, ⟨6, _⟩ => ⟨S512x512, .f32⟩
  | .local _ .vmem, ⟨7, _⟩ => ⟨S512x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![32, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceConfInIdeal.lean ====
abbrev S16384x1024 : Shape := ⟨2, ![16384, 1024]⟩
abbrev S1024 : Shape := ⟨1, ![1024]⟩
abbrev S1024x2048 : Shape := ⟨2, ![1024, 2048]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x2048 : Shape := ⟨2, ![16384, 2048]⟩

abbrev nBuf : Space → Nat
  | .hbm => 20
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2048, .f32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1024, .f32⟩
  | .hbm, ⟨15, _⟩ => ⟨S16384x1024, .f32⟩
  | .hbm, ⟨16, _⟩ => ⟨S1x1024, .f32⟩
  | .hbm, ⟨17, _⟩ => ⟨S16384x1024, .f32⟩
  | .hbm, ⟨18, _⟩ => ⟨S16384x1024, .f32⟩
  | .hbm, ⟨19, _⟩ => ⟨S16384x2048, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== KernelQuery.lean ====
abbrev S16384x1024 : Shape := ⟨2, ![16384, 1024]⟩
abbrev S1024 : Shape := ⟨1, ![1024]⟩
abbrev S1024x512 : Shape := ⟨2, ![1024, 512]⟩
abbrev S1x1024 : Shape := ⟨2, ![1, 1024]⟩
abbrev S16384x512 : Shape := ⟨2, ![16384, 512]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩

abbrev nBuf : Space → Nat
  | .hbm => 6
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x512, .f32⟩
  | .hbm, ⟨3, _⟩ => ⟨S1024x512, .bf16⟩
  | .hbm, ⟨4, _⟩ => ⟨S1x1024, .f32⟩
  | .hbm, ⟨5, _⟩ => ⟨S16384x512, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x512, .bf16⟩
  | .local _ .vmem, ⟨4, _⟩ => ⟨S512x512, .f32⟩
  | .local _ .vmem, ⟨5, _⟩ => ⟨S512x512, .f32⟩
  | .local _ .vmem, ⟨6, _⟩ => ⟨S512x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceQueryIdeal.lean ====
abbrev S16384x1024 : Shape := ⟨2, ![16384, 1024]⟩
abbrev S1024 : Shape := ⟨1, ![1024]⟩
abbrev S1024x512 : Shape := ⟨2, ![1024, 512]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x512 : Shape := ⟨2, ![16384, 512]⟩

abbrev nBuf : Space → Nat
  | .hbm => 20
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x512, .f32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1024, .f32⟩
  | .hbm, ⟨15, _⟩ => ⟨S16384x1024, .f32⟩
  | .hbm, ⟨16, _⟩ => ⟨S1x1024, .f32⟩
  | .hbm, ⟨17, _⟩ => ⟨S16384x1024, .f32⟩
  | .hbm, ⟨18, _⟩ => ⟨S16384x1024, .f32⟩
  | .hbm, ⟨19, _⟩ => ⟨S16384x512, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== KernelCrossOut.lean ====
abbrev S16384x512 : Shape := ⟨2, ![16384, 512]⟩
abbrev S512x1024 : Shape := ⟨2, ![512, 1024]⟩
abbrev S16384x1024 : Shape := ⟨2, ![16384, 1024]⟩
abbrev S512x512 : Shape := ⟨2, ![512, 512]⟩

abbrev nBuf : Space → Nat
  | .hbm => 5
  | .vmem => 8
  | .smem => 0
  | _ => 0

abbrev bufTy : (tb : Table) → Fin (tcTables nBuf tb) → BufTy
  | .hbm, ⟨0, _⟩ => ⟨S16384x512, .f32⟩
  | .hbm, ⟨1, _⟩ => ⟨S512x1024, .f32⟩
  | .hbm, ⟨2, _⟩ => ⟨S16384x1024, .f32⟩
  | .hbm, ⟨3, _⟩ => ⟨S512x1024, .bf16⟩
  | .hbm, ⟨4, _⟩ => ⟨S16384x1024, .f32⟩
  | .local _ .vmem, ⟨0, _⟩ => ⟨S512x512, .f32⟩
  | .local _ .vmem, ⟨1, _⟩ => ⟨S512x512, .f32⟩
  | .local _ .vmem, ⟨2, _⟩ => ⟨S512x512, .bf16⟩
  | .local _ .vmem, ⟨3, _⟩ => ⟨S512x512, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![32, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceCrossOutIdeal.lean ====
abbrev S16384x512 : Shape := ⟨2, ![16384, 512]⟩
abbrev S512x1024 : Shape := ⟨2, ![512, 1024]⟩
abbrev S16384x1024 : Shape := ⟨2, ![16384, 1024]⟩

abbrev nBuf : Space → Nat
  | .hbm => 5
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S512x1024, .f32⟩
  | .hbm, ⟨2, _⟩ => ⟨S16384x1024, .f32⟩
  | .hbm, ⟨3, _⟩ => ⟨S16384x1024, .f32⟩
  | .hbm, ⟨4, _⟩ => ⟨S16384x1024, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== KernelConf.lean ====
abbrev S2x8192x2048 : Shape := ⟨3, ![2, 8192, 2048]⟩
abbrev S2x8192x1024 : Shape := ⟨3, ![2, 8192, 1024]⟩
abbrev S31x1024 : Shape := ⟨2, ![31, 1024]⟩
abbrev S1024 : Shape := ⟨1, ![1024]⟩
abbrev S1024x1024 : Shape := ⟨2, ![1024, 1024]⟩
abbrev S64x256x2048 : Shape := ⟨3, ![64, 256, 2048]⟩
abbrev S64x256x1024 : Shape := ⟨3, ![64, 256, 1024]⟩
abbrev S1x1024 : Shape := ⟨2, ![1, 1024]⟩
abbrev S2x30x1024 : Shape := ⟨3, ![2, 30, 1024]⟩
abbrev S1x256x2048 : Shape := ⟨3, ![1, 256, 2048]⟩
abbrev S1x256x1024 : Shape := ⟨3, ![1, 256, 1024]⟩
abbrev S1x30x1024 : Shape := ⟨3, ![1, 30, 1024]⟩
abbrev S288x1024 : Shape := ⟨2, ![288, 1024]⟩
abbrev S256x2048 : Shape := ⟨2, ![256, 2048]⟩
abbrev S256x1024 : Shape := ⟨2, ![256, 1024]⟩
abbrev S256 : Shape := ⟨1, ![256]⟩
abbrev S256x1 : Shape := ⟨2, ![256, 1]⟩
abbrev S30x1024 : Shape := ⟨2, ![30, 1024]⟩
abbrev S32x1024 : Shape := ⟨2, ![32, 1024]⟩

abbrev nBuf : Space → Nat
  | .hbm => 15
  | .vmem => 14
  | .smem => 0
  | _ => 0

abbrev bufTy : (tb : Table) → Fin (tcTables nBuf tb) → BufTy
  | .hbm, ⟨0, _⟩ => ⟨S2x8192x2048, .f32⟩
  | .hbm, ⟨1, _⟩ => ⟨S2x8192x1024, .f32⟩
  | .hbm, ⟨2, _⟩ => ⟨S31x1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1024x1024, .f32⟩
  | .hbm, ⟨7, _⟩ => ⟨S64x256x2048, .f32⟩
  | .hbm, ⟨8, _⟩ => ⟨S64x256x1024, .f32⟩
  | .hbm, ⟨9, _⟩ => ⟨S1024x1024, .bf16⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S64x256x1024, .f32⟩
  | .hbm, ⟨14, _⟩ => ⟨S2x30x1024, .f32⟩
  | .local _ .vmem, ⟨0, _⟩ => ⟨S1x256x2048, .f32⟩
  | .local _ .vmem, ⟨1, _⟩ => ⟨S1x256x2048, .f32⟩
  | .local _ .vmem, ⟨2, _⟩ => ⟨S1x256x1024, .f32⟩
  | .local _ .vmem, ⟨3, _⟩ => ⟨S1x256x1024, .f32⟩
  | .local _ .vmem, ⟨4, _⟩ => ⟨S31x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1024x1024, .bf16⟩
  | .local _ .vmem, ⟨9, _⟩ => ⟨S1x256x1024, .f32⟩
  | .local _ .vmem, ⟨10, _⟩ => ⟨S1x256x1024, .f32⟩
  | .local _ .vmem, ⟨11, _⟩ => ⟨S1x30x1024, .f32⟩
  | .local _ .vmem, ⟨12, _⟩ => ⟨S1x30x1024, .f32⟩
  | .local _ .vmem, ⟨13, _⟩ => ⟨S288x1024, .f32⟩
  | _, _ => ⟨S2x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨2, ![2, 32], ![false, false]⟩

def k0_cond2 (i : grid0.Coords) : BitVec 1 :=
  let arg1 : BitVec 32 := BitVec.ofNat 32 (i 1).val
  let c31_i32 : BitVec 32 := 31#32
  let v218 : BitVec 1 := Scalar.cmpi .eq arg1 c31_i32
  let v219 : BitVec 32 := Scalar.extui v218
  let c0_i32_122 : BitVec 32 := 0#32
  let v220 : BitVec 1 := Scalar.cmpi .ne v219 c0_i32_122
  v220

def cc0_transform_0 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S31x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x30x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== ReferenceConfIdeal.lean ====
abbrev S2x8192x2048 : Shape := ⟨3, ![2, 8192, 2048]⟩
abbrev S2x8192x1024 : Shape := ⟨3, ![2, 8192, 1024]⟩
abbrev S31x1024 : Shape := ⟨2, ![31, 1024]⟩
abbrev S1024 : Shape := ⟨1, ![1024]⟩
abbrev S1024x1024 : Shape := ⟨2, ![1024, 1024]⟩
abbrev S_ : Shape := ⟨0, ![]⟩
abbrev S2x30x1024 : Shape := ⟨3, ![2, 30, 1024]⟩
abbrev S2x8222x1024 : Shape := ⟨3, ![2, 8222, 1024]⟩
abbrev S1x1024 : Shape := ⟨2, ![1, 1024]⟩
abbrev S1x1x1024 : Shape := ⟨3, ![1, 1, 1024]⟩
abbrev S2x8192 : Shape := ⟨2, ![2, 8192]⟩
abbrev S2x8192x1 : Shape := ⟨3, ![2, 8192, 1]⟩
abbrev S64x256x1024 : Shape := ⟨3, ![64, 256, 1024]⟩

abbrev nBuf : Space → Nat
  | .hbm => 285
  | .vmem => 0
  | .smem => 0
  | _ => 0

abbrev hbmTy0_0 (i : Nat) : BufTy := match i % 128 with
  | 0 => ⟨S2x8192x2048, .f32⟩
  | 1 => ⟨S2x8192x1024, .f32⟩
  | 2 => ⟨S31x1024, .f32⟩
  | 3 => ⟨S1024, .f32⟩
  | 4 => ⟨S1024, .f32⟩
  | 5 => ⟨S1024, .f32⟩
  | 6 => ⟨S1024x1024, .f32⟩
  | 7 => ⟨S_, .f32⟩
  | 8 => ⟨S2x30x1024, .f32⟩
  | 9 => ⟨S2x8192x1024, .f32⟩
  | 10 => ⟨S2x8192x1024, .f32⟩
  | 11 => ⟨S2x8192x1024, .f32⟩
  | 12 => ⟨S2x8192x1024, .f32⟩
  | 13 => ⟨S_, .f32⟩
  | 14 => ⟨S2x8192x1024, .f32⟩
  | 15 => ⟨S2x8192x1024, .f32⟩
  | 16 => ⟨S_, .f32⟩
  | 17 => ⟨S2x8192x1024, .f32⟩
  | 18 => ⟨S2x8192x1024, .f32⟩
  | 19 => ⟨S2x8192x1024, .f32⟩
  | 20 => ⟨S2x8222x1024, .f32⟩
  | 21 => ⟨S2x8192x1024, .f32⟩
  | 22 => ⟨S1x1024, .f32⟩
  | 23 => ⟨S1024, .f32⟩
  | 24 => ⟨S1x1x1024, .f32⟩
  | 25 => ⟨S2x8192x1024, .f32⟩
  | 26 => ⟨S2x8192x1024, .f32⟩
  | 27 => ⟨S_, .f32⟩
  | 28 => ⟨S2x8192x1024, .f32⟩
  | 29 => ⟨S2x8192x1024, .f32⟩
  | 30 => ⟨S2x8192x1024, .f32⟩
  | 31 => ⟨S1x1024, .f32⟩
  | 32 => ⟨S1024, .f32⟩
  | 33 => ⟨S1x1x1024, .f32⟩
  | 34 => ⟨S2x8192x1024, .f32⟩
  | 35 => ⟨S2x8192x1024, .f32⟩
  | 36 => ⟨S2x8192x1024, .f32⟩
  | 37 => ⟨S2x8192x1024, .f32⟩
  | 38 => ⟨S1x1024, .f32⟩
  | 39 => ⟨S1024, .f32⟩
  | 40 => ⟨S1x1x1024, .f32⟩
  | 41 => ⟨S2x8192x1024, .f32⟩
  | 42 => ⟨S2x8192x1024, .f32⟩
  | 43 => ⟨S2x8192x1024, .f32⟩
  | 44 => ⟨S2x8192x1024, .f32⟩
  | 45 => ⟨S1x1024, .f32⟩
  | 46 => ⟨S1024, .f32⟩
  | 47 => ⟨S1x1x1024, .f32⟩
  | 48 => ⟨S2x8192x1024, .f32⟩
  | 49 => ⟨S2x8192x1024, .f32⟩
  | 50 => ⟨S2x8192x1024, .f32⟩
  | 51 => ⟨S2x8192x1024, .f32⟩
  | 52 => ⟨S1x1024, .f32⟩
  | 53 => ⟨S1024, .f32⟩
  | 54 => ⟨S1x1x1024, .f32⟩
  | 55 => ⟨S2x8192x1024, .f32⟩
  | 56 => ⟨S2x8192x1024, .f32⟩
  | 57 => ⟨S2x8192x1024, .f32⟩
  | 58 => ⟨S2x8192x1024, .f32⟩
  | 59 => ⟨S1x1024, .f32⟩
  | 60 => ⟨S1024, .f32⟩
  | 61 => ⟨S1x1x1024, .f32⟩
  | 62 => ⟨S2x8192x1024, .f32⟩
  | 63 => ⟨S2x8192x1024, .f32⟩
  | 64 => ⟨S2x8192x1024, .f32⟩
  | 65 => ⟨S2x8192x1024, .f32⟩
  | 66 => ⟨S1x1024, .f32⟩
  | 67 => ⟨S1024, .f32⟩
  | 68 => ⟨S1x1x1024, .f32⟩
  | 69 => ⟨S2x8192x1024, .f32⟩
  | 70 => ⟨S2x8192x1024, .f32⟩
  | 71 => ⟨S2x8192x1024, .f32⟩
  | 72 => ⟨S2x8192x1024, .f32⟩
  | 73 => ⟨S1x1024, .f32⟩
  | 74 => ⟨S1024, .f32⟩
  | 75 => ⟨S1x1x1024, .f32⟩
  | 76 => ⟨S2x8192x1024, .f32⟩
  | 77 => ⟨S2x8192x1024, .f32⟩
  | 78 => ⟨S2x8192x1024, .f32⟩
  | 79 => ⟨S2x8192x1024, .f32⟩
  | 80 => ⟨S1x1024, .f32⟩
  | 81 => ⟨S1024, .f32⟩
  | 82 => ⟨S1x1x1024, .f32⟩
  | 83 => ⟨S2x8192x1024, .f32⟩
  | 84 => ⟨S2x8192x1024, .f32⟩
  | 85 => ⟨S2x8192x1024, .f32⟩
  | 86 => ⟨S2x8192x1024, .f32⟩
  | 87 => ⟨S1x1024, .f32⟩
  | 88 => ⟨S1024, .f32⟩
  | 89 => ⟨S1x1x1024, .f32⟩
  | 90 => ⟨S2x8192x1024, .f32⟩
  | 91 => ⟨S2x8192x1024, .f32⟩
  | 92 => ⟨S2x8192x1024, .f32⟩
  | 93 => ⟨S2x8192x1024, .f32⟩
  | 94 => ⟨S1x1024, .f32⟩
  | 95 => ⟨S1024, .f32⟩
  | 96 => ⟨S1x1x1024, .f32⟩
  | 97 => ⟨S2x8192x1024, .f32⟩
  | 98 => ⟨S2x8192x1024, .f32⟩
  | 99 => ⟨S2x8192x1024, .f32⟩
  | 100 => ⟨S2x8192x1024, .f32⟩
  | 101 => ⟨S1x1024, .f32⟩
  | 102 => ⟨S1024, .f32⟩
  | 103 => ⟨S1x1x1024, .f32⟩
  | 104 => ⟨S2x8192x1024, .f32⟩
  | 105 => ⟨S2x8192x1024, .f32⟩
  | 106 => ⟨S2x8192x1024, .f32⟩
  | 107 => ⟨S2x8192x1024, .f32⟩
  | 108 => ⟨S1x1024, .f32⟩
  | 109 => ⟨S1024, .f32⟩
  | 110 => ⟨S1x1x1024, .f32⟩
  | 111 => ⟨S2x8192x1024, .f32⟩
  | 112 => ⟨S2x8192x1024, .f32⟩
  | 113 => ⟨S2x8192x1024, .f32⟩
  | 114 => ⟨S2x8192x1024, .f32⟩
  | 115 => ⟨S1x1024, .f32⟩
  | 116 => ⟨S1024, .f32⟩
  | 117 => ⟨S1x1x1024, .f32⟩
  | 118 => ⟨S2x8192x1024, .f32⟩
  | 119 => ⟨S2x8192x1024, .f32⟩
  | 120 => ⟨S2x8192x1024, .f32⟩
  | 121 => ⟨S2x8192x1024, .f32⟩
  | 122 => ⟨S1x1024, .f32⟩
  | 123 => ⟨S1024, .f32⟩
  | 124 => ⟨S1x1x1024, .f32⟩
  | 125 => ⟨S2x8192x1024, .f32⟩
  | 126 => ⟨S2x8192x1024, .f32⟩
  | 127 => ⟨S2x8192x1024, .f32⟩
  | _ => ⟨S2x8192x2048, .f32⟩

abbrev hbmTy0_1 (i : Nat) : BufTy := match i % 128 with
  | 0 => ⟨S2x8192x1024, .f32⟩
  | 1 => ⟨S1x1024, .f32⟩
  | 2 => ⟨S1024, .f32⟩
  | 3 => ⟨S1x1x1024, .f32⟩
  | 4 => ⟨S2x8192x1024, .f32⟩
  | 5 => ⟨S2x8192x1024, .f32⟩
  | 6 => ⟨S2x8192x1024, .f32⟩
  | 7 => ⟨S2x8192x1024, .f32⟩
  | 8 => ⟨S1x1024, .f32⟩
  | 9 => ⟨S1024, .f32⟩
  | 10 => ⟨S1x1x1024, .f32⟩
  | 11 => ⟨S2x8192x1024, .f32⟩
  | 12 => ⟨S2x8192x1024, .f32⟩
  | 13 => ⟨S2x8192x1024, .f32⟩
  | 14 => ⟨S2x8192x1024, .f32⟩
  | 15 => ⟨S1x1024, .f32⟩
  | 16 => ⟨S1024, .f32⟩
  | 17 => ⟨S1x1x1024, .f32⟩
  | 18 => ⟨S2x8192x1024, .f32⟩
  | 19 => ⟨S2x8192x1024, .f32⟩
  | 20 => ⟨S2x8192x1024, .f32⟩
  | 21 => ⟨S2x8192x1024, .f32⟩
  | 22 => ⟨S1x1024, .f32⟩
  | 23 => ⟨S1024, .f32⟩
  | 24 => ⟨S1x1x1024, .f32⟩
  | 25 => ⟨S2x8192x1024, .f32⟩
  | 26 => ⟨S2x8192x1024, .f32⟩
  | 27 => ⟨S2x8192x1024, .f32⟩
  | 28 => ⟨S2x8192x1024, .f32⟩
  | 29 => ⟨S1x1024, .f32⟩
  | 30 => ⟨S1024, .f32⟩
  | 31 => ⟨S1x1x1024, .f32⟩
  | 32 => ⟨S2x8192x1024, .f32⟩
  | 33 => ⟨S2x8192x1024, .f32⟩
  | 34 => ⟨S2x8192x1024, .f32⟩
  | 35 => ⟨S2x8192x1024, .f32⟩
  | 36 => ⟨S1x1024, .f32⟩
  | 37 => ⟨S1024, .f32⟩
  | 38 => ⟨S1x1x1024, .f32⟩
  | 39 => ⟨S2x8192x1024, .f32⟩
  | 40 => ⟨S2x8192x1024, .f32⟩
  | 41 => ⟨S2x8192x1024, .f32⟩
  | 42 => ⟨S2x8192x1024, .f32⟩
  | 43 => ⟨S1x1024, .f32⟩
  | 44 => ⟨S1024, .f32⟩
  | 45 => ⟨S1x1x1024, .f32⟩
  | 46 => ⟨S2x8192x1024, .f32⟩
  | 47 => ⟨S2x8192x1024, .f32⟩
  | 48 => ⟨S2x8192x1024, .f32⟩
  | 49 => ⟨S2x8192x1024, .f32⟩
  | 50 => ⟨S1x1024, .f32⟩
  | 51 => ⟨S1024, .f32⟩
  | 52 => ⟨S1x1x1024, .f32⟩
  | 53 => ⟨S2x8192x1024, .f32⟩
  | 54 => ⟨S2x8192x1024, .f32⟩
  | 55 => ⟨S2x8192x1024, .f32⟩
  | 56 => ⟨S2x8192x1024, .f32⟩
  | 57 => ⟨S1x1024, .f32⟩
  | 58 => ⟨S1024, .f32⟩
  | 59 => ⟨S1x1x1024, .f32⟩
  | 60 => ⟨S2x8192x1024, .f32⟩
  | 61 => ⟨S2x8192x1024, .f32⟩
  | 62 => ⟨S2x8192x1024, .f32⟩
  | 63 => ⟨S2x8192x1024, .f32⟩
  | 64 => ⟨S1x1024, .f32⟩
  | 65 => ⟨S1024, .f32⟩
  | 66 => ⟨S1x1x1024, .f32⟩
  | 67 => ⟨S2x8192x1024, .f32⟩
  | 68 => ⟨S2x8192x1024, .f32⟩
  | 69 => ⟨S2x8192x1024, .f32⟩
  | 70 => ⟨S2x8192x1024, .f32⟩
  | 71 => ⟨S1x1024, .f32⟩
  | 72 => ⟨S1024, .f32⟩
  | 73 => ⟨S1x1x1024, .f32⟩
  | 74 => ⟨S2x8192x1024, .f32⟩
  | 75 => ⟨S2x8192x1024, .f32⟩
  | 76 => ⟨S2x8192x1024, .f32⟩
  | 77 => ⟨S2x8192x1024, .f32⟩
  | 78 => ⟨S1x1024, .f32⟩
  | 79 => ⟨S1024, .f32⟩
  | 80 => ⟨S1x1x1024, .f32⟩
  | 81 => ⟨S2x8192x1024, .f32⟩
  | 82 => ⟨S2x8192x1024, .f32⟩
  | 83 => ⟨S2x8192x1024, .f32⟩
  | 84 => ⟨S2x8192x1024, .f32⟩
  | 85 => ⟨S1x1024, .f32⟩
  | 86 => ⟨S1024, .f32⟩
  | 87 => ⟨S1x1x1024, .f32⟩
  | 88 => ⟨S2x8192x1024, .f32⟩
  | 89 => ⟨S2x8192x1024, .f32⟩
  | 90 => ⟨S2x8192x1024, .f32⟩
  | 91 => ⟨S2x8192x1024, .f32⟩
  | 92 => ⟨S1x1024, .f32⟩
  | 93 => ⟨S1024, .f32⟩
  | 94 => ⟨S1x1x1024, .f32⟩
  | 95 => ⟨S2x8192x1024, .f32⟩
  | 96 => ⟨S2x8192x1024, .f32⟩
  | 97 => ⟨S2x8192x1024, .f32⟩
  | 98 => ⟨S2x8192x1024, .f32⟩
  | 99 => ⟨S1x1024, .f32⟩
  | 100 => ⟨S1024, .f32⟩
  | 101 => ⟨S1x1x1024, .f32⟩
  | 102 => ⟨S2x8192x1024, .f32⟩
  | 103 => ⟨S2x8192x1024, .f32⟩
  | 104 => ⟨S2x8192x1024, .f32⟩
  | 105 => ⟨S2x8192x1024, .f32⟩
  | 106 => ⟨S1x1024, .f32⟩
  | 107 => ⟨S1024, .f32⟩
  | 108 => ⟨S1x1x1024, .f32⟩
  | 109 => ⟨S2x8192x1024, .f32⟩
  | 110 => ⟨S2x8192x1024, .f32⟩
  | 111 => ⟨S2x8192x1024, .f32⟩
  | 112 => ⟨S1x1x1024, .f32⟩
  | 113 => ⟨S2x8192x1024, .f32⟩
  | 114 => ⟨S2x8192x1024, .f32⟩
  | 115 => ⟨S_, .f32⟩
  | 116 => ⟨S2x8192, .f32⟩
  | 117 => ⟨S2x8192x1, .f32⟩
  | 118 => ⟨S_, .f32⟩
  | 119 => ⟨S2x8192x1, .f32⟩
  | 120 => ⟨S2x8192x1, .f32⟩
  | 121 => ⟨S2x8192x1024, .f32⟩
  | 122 => ⟨S2x8192x1024, .f32⟩
  | 123 => ⟨S2x8192x1024, .f32⟩
  | 124 => ⟨S_, .f32⟩
  | 125 => ⟨S2x8192, .f32⟩
  | 126 => ⟨S2x8192x1, .f32⟩
  | 127 => ⟨S_, .f32⟩
  | _ => ⟨S2x8192x2048, .f32⟩

abbrev hbmTy0_2 (i : Nat) : BufTy := match i % 128 with
  | 0 => ⟨S2x8192x1, .f32⟩
  | 1 => ⟨S2x8192x1, .f32⟩
  | 2 => ⟨S2x8192x1024, .f32⟩
  | 3 => ⟨S2x8192x1024, .f32⟩
  | 4 => ⟨S_, .f32⟩
  | 5 => ⟨S2x8192x1, .f32⟩
  | 6 => ⟨S2x8192x1, .f32⟩
  | 7 => ⟨S2x8192x1, .f32⟩
  | 8 => ⟨S2x8192x1024, .f32⟩
  | 9 => ⟨S2x8192x1024, .f32⟩
  | 10 => ⟨S1x1x1024, .f32⟩
  | 11 => ⟨S2x8192x1024, .f32⟩
  | 12 => ⟨S2x8192x1024, .f32⟩
  | 13 => ⟨S1x1x1024, .f32⟩
  | 14 => ⟨S2x8192x1024, .f32⟩
  | 15 => ⟨S2x8192x1024, .f32⟩
  | 16 => ⟨S2x8192x1024, .f32⟩
  | 17 => ⟨S2x8192x1024, .f32⟩
  | 18 => ⟨S_, .f32⟩
  | 19 => ⟨S2x8192x1024, .f32⟩
  | 20 => ⟨S2x8192x1024, .f32⟩
  | 21 => ⟨S_, .f32⟩
  | 22 => ⟨S2x8192x1024, .f32⟩
  | 23 => ⟨S2x8192x1024, .f32⟩
  | 24 => ⟨S2x8192x1024, .f32⟩
  | 25 => ⟨S2x8192x1024, .f32⟩
  | 26 => ⟨S2x8192x1024, .f32⟩
  | 27 => ⟨S2x30x1024, .f32⟩
  | 28 => ⟨S64x256x1024, .f32⟩
  | _ => ⟨S2x8192x2048, .f32⟩

abbrev hbmTy (i : Nat) : BufTy := match i / 128 with
  | 0 => hbmTy0_0 i
  | 1 => hbmTy0_1 i
  | 2 => hbmTy0_2 i
  | _ => ⟨S2x8192x2048, .f32⟩

abbrev bufTy : (tb : Table) → Fin (tcTables nBuf tb) → BufTy
  | .hbm, ⟨i, _⟩ => hbmTy i
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩
abbrev main_v91 : Ref sig .tc := ⟨.hbm, 102, rfl⟩
abbrev main_v92 : Ref sig .tc := ⟨.hbm, 103, rfl⟩
abbrev main_v93 : Ref sig .tc := ⟨.hbm, 104, rfl⟩
abbrev main_v94 : Ref sig .tc := ⟨.hbm, 105, rfl⟩
abbrev main_v95 : Ref sig .tc := ⟨.hbm, 106, rfl⟩
abbrev main_v96 : Ref sig .tc := ⟨.hbm, 107, rfl⟩
abbrev main_v97 : Ref sig .tc := ⟨.hbm, 108, rfl⟩
abbrev main_v98 : Ref sig .tc := ⟨.hbm, 109, rfl⟩
abbrev main_v99 : Ref sig .tc := ⟨.hbm, 110, rfl⟩
abbrev main_v100 : Ref sig .tc := ⟨.hbm, 111, rfl⟩
abbrev main_v101 : Ref sig .tc := ⟨.hbm, 112, rfl⟩
abbrev main_v102 : Ref sig .tc := ⟨.hbm, 113, rfl⟩
abbrev main_v103 : Ref sig .tc := ⟨.hbm, 114, rfl⟩
abbrev main_v104 : Ref sig .tc := ⟨.hbm, 115, rfl⟩
abbrev main_v105 : Ref sig .tc := ⟨.hbm, 116, rfl⟩
abbrev main_v106 : Ref sig .tc := ⟨.hbm, 117, rfl⟩
abbrev main_v107 : Ref sig .tc := ⟨.hbm, 118, rfl⟩
abbrev main_v108 : Ref sig .tc := ⟨.hbm, 119, rfl⟩
abbrev main_v109 : Ref sig .tc := ⟨.hbm, 120, rfl⟩
abbrev main_v110 : Ref sig .tc := ⟨.hbm, 121, rfl⟩
abbrev main_v111 : Ref sig .tc := ⟨.hbm, 122, rfl⟩
abbrev main_v112 : Ref sig .tc := ⟨.hbm, 123, rfl⟩
abbrev main_v113 : Ref sig .tc := ⟨.hbm, 124, rfl⟩
abbrev main_v114 : Ref sig .tc := ⟨.hbm, 125, rfl⟩
abbrev main_v115 : Ref sig .tc := ⟨.hbm, 126, rfl⟩
abbrev main_v116 : Ref sig .tc := ⟨.hbm, 127, rfl⟩
abbrev main_v117 : Ref sig .tc := ⟨.hbm, 128, rfl⟩
abbrev main_v118 : Ref sig .tc := ⟨.hbm, 129, rfl⟩
abbrev main_v119 : Ref sig .tc := ⟨.hbm, 130, rfl⟩
abbrev main_v120 : Ref sig .tc := ⟨.hbm, 131, rfl⟩
abbrev main_v121 : Ref sig .tc := ⟨.hbm, 132, rfl⟩
abbrev main_v122 : Ref sig .tc := ⟨.hbm, 133, rfl⟩
abbrev main_v123 : Ref sig .tc := ⟨.hbm, 134, rfl⟩
abbrev main_v124 : Ref sig .tc := ⟨.hbm, 135, rfl⟩
abbrev main_v125 : Ref sig .tc := ⟨.hbm, 136, rfl⟩
abbrev main_v126 : Ref sig .tc := ⟨.hbm, 137, rfl⟩
abbrev main_v127 : Ref sig .tc := ⟨.hbm, 138, rfl⟩
abbrev main_v128 : Ref sig .tc := ⟨.hbm, 139, rfl⟩
abbrev main_v129 : Ref sig .tc := ⟨.hbm, 140, rfl⟩
abbrev main_v130 : Ref sig .tc := ⟨.hbm, 141, rfl⟩
abbrev main_v131 : Ref sig .tc := ⟨.hbm, 142, rfl⟩
abbrev main_v132 : Ref sig .tc := ⟨.hbm, 143, rfl⟩
abbrev main_v133 : Ref sig .tc := ⟨.hbm, 144, rfl⟩
abbrev main_v134 : Ref sig .tc := ⟨.hbm, 145, rfl⟩
abbrev main_v135 : Ref sig .tc := ⟨.hbm, 146, rfl⟩
abbrev main_v136 : Ref sig .tc := ⟨.hbm, 147, rfl⟩
abbrev main_v137 : Ref sig .tc := ⟨.hbm, 148, rfl⟩
abbrev main_v138 : Ref sig .tc := ⟨.hbm, 149, rfl⟩
abbrev main_v139 : Ref sig .tc := ⟨.hbm, 150, rfl⟩
abbrev main_v140 : Ref sig .tc := ⟨.hbm, 151, rfl⟩
abbrev main_v141 : Ref sig .tc := ⟨.hbm, 152, rfl⟩
abbrev main_v142 : Ref sig .tc := ⟨.hbm, 153, rfl⟩
abbrev main_v143 : Ref sig .tc := ⟨.hbm, 154, rfl⟩
abbrev main_v144 : Ref sig .tc := ⟨.hbm, 155, rfl⟩
abbrev main_v145 : Ref sig .tc := ⟨.hbm, 156, rfl⟩
abbrev main_v146 : Ref sig .tc := ⟨.hbm, 157, rfl⟩
abbrev main_v147 : Ref sig .tc := ⟨.hbm, 158, rfl⟩
abbrev main_v148 : Ref sig .tc := ⟨.hbm, 159, rfl⟩
abbrev main_v149 : Ref sig .tc := ⟨.hbm, 160, rfl⟩
abbrev main_v150 : Ref sig .tc := ⟨.hbm, 161, rfl⟩
abbrev main_v151 : Ref sig .tc := ⟨.hbm, 162, rfl⟩
abbrev main_v152 : Ref sig .tc := ⟨.hbm, 163, rfl⟩
abbrev main_v153 : Ref sig .tc := ⟨.hbm, 164, rfl⟩
abbrev main_v154 : Ref sig .tc := ⟨.hbm, 165, rfl⟩
abbrev main_v155 : Ref sig .tc := ⟨.hbm, 166, rfl⟩
abbrev main_v156 : Ref sig .tc := ⟨.hbm, 167, rfl⟩
abbrev main_v157 : Ref sig .tc := ⟨.hbm, 168, rfl⟩
abbrev main_v158 : Ref sig .tc := ⟨.hbm, 169, rfl⟩
abbrev main_v159 : Ref sig .tc := ⟨.hbm, 170, rfl⟩
abbrev main_v160 : Ref sig .tc := ⟨.hbm, 171, rfl⟩
abbrev main_v161 : Ref sig .tc := ⟨.hbm, 172, rfl⟩
abbrev main_v162 : Ref sig .tc := ⟨.hbm, 173, rfl⟩
abbrev main_v163 : Ref sig .tc := ⟨.hbm, 174, rfl⟩
abbrev main_v164 : Ref sig .tc := ⟨.hbm, 175, rfl⟩
abbrev main_v165 : Ref sig .tc := ⟨.hbm, 176, rfl⟩
abbrev main_v166 : Ref sig .tc := ⟨.hbm, 177, rfl⟩
abbrev main_v167 : Ref sig .tc := ⟨.hbm, 178, rfl⟩
abbrev main_v168 : Ref sig .tc := ⟨.hbm, 179, rfl⟩
abbrev main_v169 : Ref sig .tc := ⟨.hbm, 180, rfl⟩
abbrev main_v170 : Ref sig .tc := ⟨.hbm, 181, rfl⟩
abbrev main_v171 : Ref sig .tc := ⟨.hbm, 182, rfl⟩
abbrev main_v172 : Ref sig .tc := ⟨.hbm, 183, rfl⟩
abbrev main_v173 : Ref sig .tc := ⟨.hbm, 184, rfl⟩
abbrev main_v174 : Ref sig .tc := ⟨.hbm, 185, rfl⟩
abbrev main_v175 : Ref sig .tc := ⟨.hbm, 186, rfl⟩
abbrev main_v176 : Ref sig .tc := ⟨.hbm, 187, rfl⟩
abbrev main_v177 : Ref sig .tc := ⟨.hbm, 188, rfl⟩
abbrev main_v178 : Ref sig .tc := ⟨.hbm, 189, rfl⟩
abbrev main_v179 : Ref sig .tc := ⟨.hbm, 190, rfl⟩
abbrev main_v180 : Ref sig .tc := ⟨.hbm, 191, rfl⟩
abbrev main_v181 : Ref sig .tc := ⟨.hbm, 192, rfl⟩
abbrev main_v182 : Ref sig .tc := ⟨.hbm, 193, rfl⟩
abbrev main_v183 : Ref sig .tc := ⟨.hbm, 194, rfl⟩
abbrev main_v184 : Ref sig .tc := ⟨.hbm, 195, rfl⟩
abbrev main_v185 : Ref sig .tc := ⟨.hbm, 196, rfl⟩
abbrev main_v186 : Ref sig .tc := ⟨.hbm, 197, rfl⟩
abbrev main_v187 : Ref sig .tc := ⟨.hbm, 198, rfl⟩
abbrev main_v188 : Ref sig .tc := ⟨.hbm, 199, rfl⟩
abbrev main_v189 : Ref sig .tc := ⟨.hbm, 200, rfl⟩
abbrev main_v190 : Ref sig .tc := ⟨.hbm, 201, rfl⟩
abbrev main_v191 : Ref sig .tc := ⟨.hbm, 202, rfl⟩
abbrev main_v192 : Ref sig .tc := ⟨.hbm, 203, rfl⟩
abbrev main_v193 : Ref sig .tc := ⟨.hbm, 204, rfl⟩
abbrev main_v194 : Ref sig .tc := ⟨.hbm, 205, rfl⟩
abbrev main_v195 : Ref sig .tc := ⟨.hbm, 206, rfl⟩
abbrev main_v196 : Ref sig .tc := ⟨.hbm, 207, rfl⟩
abbrev main_v197 : Ref sig .tc := ⟨.hbm, 208, rfl⟩
abbrev main_v198 : Ref sig .tc := ⟨.hbm, 209, rfl⟩
abbrev main_v199 : Ref sig .tc := ⟨.hbm, 210, rfl⟩
abbrev main_v200 : Ref sig .tc := ⟨.hbm, 211, rfl⟩
abbrev main_v201 : Ref sig .tc := ⟨.hbm, 212, rfl⟩
abbrev main_v202 : Ref sig .tc := ⟨.hbm, 213, rfl⟩
abbrev main_v203 : Ref sig .tc := ⟨.hbm, 214, rfl⟩
abbrev main_v204 : Ref sig .tc := ⟨.hbm, 215, rfl⟩
abbrev main_v205 : Ref sig .tc := ⟨.hbm, 216, rfl⟩
abbrev main_v206 : Ref sig .tc := ⟨.hbm, 217, rfl⟩
abbrev main_v207 : Ref sig .tc := ⟨.hbm, 218, rfl⟩
abbrev main_v208 : Ref sig .tc := ⟨.hbm, 219, rfl⟩
abbrev main_v209 : Ref sig .tc := ⟨.hbm, 220, rfl⟩
abbrev main_v210 : Ref sig .tc := ⟨.hbm, 221, rfl⟩
abbrev main_v211 : Ref sig .tc := ⟨.hbm, 222, rfl⟩
abbrev main_v212 : Ref sig .tc := ⟨.hbm, 223, rfl⟩
abbrev main_v213 : Ref sig .tc := ⟨.hbm, 224, rfl⟩
abbrev main_v214 : Ref sig .tc := ⟨.hbm, 225, rfl⟩
abbrev main_v215 : Ref sig .tc := ⟨.hbm, 226, rfl⟩
abbrev main_v216 : Ref sig .tc := ⟨.hbm, 227, rfl⟩
abbrev main_v217 : Ref sig .tc := ⟨.hbm, 228, rfl⟩
abbrev main_v218 : Ref sig .tc := ⟨.hbm, 229, rfl⟩
abbrev main_v219 : Ref sig .tc := ⟨.hbm, 230, rfl⟩
abbrev main_v220 : Ref sig .tc := ⟨.hbm, 231, rfl⟩
abbrev main_v221 : Ref sig .tc := ⟨.hbm, 232, rfl⟩
abbrev main_v222 : Ref sig .tc := ⟨.hbm, 233, rfl⟩
abbrev main_v223 : Ref sig .tc := ⟨.hbm, 234, rfl⟩
abbrev main_v224 : Ref sig .tc := ⟨.hbm, 235, rfl⟩
abbrev main_v225 : Ref sig .tc := ⟨.hbm, 236, rfl⟩
abbrev main_v226 : Ref sig .tc := ⟨.hbm, 237, rfl⟩
abbrev main_v227 : Ref sig .tc := ⟨.hbm, 238, rfl⟩
abbrev main_v228 : Ref sig .tc := ⟨.hbm, 239, rfl⟩
abbrev main_v229 : Ref sig .tc := ⟨.hbm, 240, rfl⟩
abbrev main_v230 : Ref sig .tc := ⟨.hbm, 241, rfl⟩
abbrev main_v231 : Ref sig .tc := ⟨.hbm, 242, rfl⟩
abbrev main_cst_3 : Ref sig .tc := ⟨.hbm, 243, rfl⟩
abbrev main_v232 : Ref sig .tc := ⟨.hbm, 244, rfl⟩
abbrev main_v233 : Ref sig .tc := ⟨.hbm, 245, rfl⟩
abbrev main_cst_4 : Ref sig .tc := ⟨.hbm, 246, rfl⟩
abbrev main_v234 : Ref sig .tc := ⟨.hbm, 247, rfl⟩
abbrev main_v235 : Ref sig .tc := ⟨.hbm, 248, rfl⟩
abbrev main_v236 : Ref sig .tc := ⟨.hbm, 249, rfl⟩
abbrev main_v237 : Ref sig .tc := ⟨.hbm, 250, rfl⟩
abbrev main_v238 : Ref sig .tc := ⟨.hbm, 251, rfl⟩
abbrev main_cst_5 : Ref sig .tc := ⟨.hbm, 252, rfl⟩
abbrev main_v239 : Ref sig .tc := ⟨.hbm, 253, rfl⟩
abbrev main_v240 : Ref sig .tc := ⟨.hbm, 254, rfl⟩
abbrev main_cst_6 : Ref sig .tc := ⟨.hbm, 255, rfl⟩
abbrev main_v241 : Ref sig .tc := ⟨.hbm, 256, rfl⟩
abbrev main_v242 : Ref sig .tc := ⟨.hbm, 257, rfl⟩
abbrev main_v243 : Ref sig .tc := ⟨.hbm, 258, rfl⟩
abbrev main_v244 : Ref sig .tc := ⟨.hbm, 259, rfl⟩
abbrev main_cst_7 : Ref sig .tc := ⟨.hbm, 260, rfl⟩
abbrev main_v245 : Ref sig .tc := ⟨.hbm, 261, rfl⟩
abbrev main_v246 : Ref sig .tc := ⟨.hbm, 262, rfl⟩
abbrev main_v247 : Ref sig .tc := ⟨.hbm, 263, rfl⟩
abbrev main_v248 : Ref sig .tc := ⟨.hbm, 264, rfl⟩
abbrev main_v249 : Ref sig .tc := ⟨.hbm, 265, rfl⟩
abbrev main_v250 : Ref sig .tc := ⟨.hbm, 266, rfl⟩
abbrev main_v251 : Ref sig .tc := ⟨.hbm, 267, rfl⟩
abbrev main_v252 : Ref sig .tc := ⟨.hbm, 268, rfl⟩
abbrev main_v253 : Ref sig .tc := ⟨.hbm, 269, rfl⟩
abbrev main_v254 : Ref sig .tc := ⟨.hbm, 270, rfl⟩
abbrev main_v255 : Ref sig .tc := ⟨.hbm, 271, rfl⟩
abbrev main_call0_v0 : Ref sig .tc := ⟨.hbm, 272, rfl⟩
abbrev main_call0_v1 : Ref sig .tc := ⟨.hbm, 273, rfl⟩
abbrev main_call0_cst : Ref sig .tc := ⟨.hbm, 274, rfl⟩
abbrev main_call0_v2 : Ref sig .tc := ⟨.hbm, 275, rfl⟩
abbrev main_call0_v3 : Ref sig .tc := ⟨.hbm, 276, rfl⟩
abbrev main_call0_cst_0 : Ref sig .tc := ⟨.hbm, 277, rfl⟩
abbrev main_call0_v4 : Ref sig .tc := ⟨.hbm, 278, rfl⟩
abbrev main_call0_v5 : Ref sig .tc := ⟨.hbm, 279, rfl⟩
abbrev main_v256 : Ref sig .tc := ⟨.hbm, 280, rfl⟩
abbrev main_v257 : Ref sig .tc := ⟨.hbm, 281, rfl⟩
abbrev main_v258 : Ref sig .tc := ⟨.hbm, 282, rfl⟩
abbrev main_v259 : Ref sig .tc := ⟨.hbm, 283, rfl⟩
abbrev main_v260 : Ref sig .tc := ⟨.hbm, 284, rfl⟩

abbrev nD : Nat := 1
abbrev τ : Topo := Topo.v7x

variable {F : FTy → Type} [FloatOps F]
-- ==== KernelConfSample.lean ====
abbrev S128x4x2048 : Shape := ⟨3, ![128, 4, 2048]⟩
abbrev S128x4x1024 : Shape := ⟨3, ![128, 4, 1024]⟩
abbrev S128x1x30x1024 : Shape := ⟨4, ![128, 1, 30, 1024]⟩
abbrev S31x1024 : Shape := ⟨2, ![31, 1024]⟩
abbrev S1024 : Shape := ⟨1, ![1024]⟩
abbrev S1024x1024 : Shape := ⟨2, ![1024, 1024]⟩
abbrev S1x1024 : Shape := ⟨2, ![1, 1024]⟩
abbrev S128x30x1024 : Shape := ⟨3, ![128, 30, 1024]⟩
abbrev S1x4x2048 : Shape := ⟨3, ![1, 4, 2048]⟩
abbrev S1x4x1024 : Shape := ⟨3, ![1, 4, 1024]⟩
abbrev S1x1x30x1024 : Shape := ⟨4, ![1, 1, 30, 1024]⟩
abbrev S1x30x1024 : Shape := ⟨3, ![1, 30, 1024]⟩
abbrev S40x1024 : Shape := ⟨2, ![40, 1024]⟩
abbrev S30x1024 : Shape := ⟨2, ![30, 1024]⟩
abbrev S4x2048 : Shape := ⟨2, ![4, 2048]⟩
abbrev S4x1024 : Shape := ⟨2, ![4, 1024]⟩
abbrev S8x1024 : Shape := ⟨2, ![8, 1024]⟩
abbrev S8 : Shape := ⟨1, ![8]⟩
abbrev S8x1 : Shape := ⟨2, ![8, 1]⟩

abbrev nBuf : Space → Nat
  | .hbm => 14
  | .vmem => 16
  | .smem => 0
  | _ => 0

abbrev bufTy : (tb : Table) → Fin (tcTables nBuf tb) → BufTy
  | .hbm, ⟨0, _⟩ => ⟨S128x4x2048, .f32⟩
  | .hbm, ⟨1, _⟩ => ⟨S128x4x1024, .f32⟩
  | .hbm, ⟨2, _⟩ => ⟨S128x1x30x1024, .f32⟩
  | .hbm, ⟨3, _⟩ => ⟨S31x1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S1024x1024, .f32⟩
  | .hbm, ⟨8, _⟩ => ⟨S1024x1024, .bf16⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S128x4x1024, .f32⟩
  | .hbm, ⟨13, _⟩ => ⟨S128x30x1024, .f32⟩
  | .local _ .vmem, ⟨0, _⟩ => ⟨S1x4x2048, .f32⟩
  | .local _ .vmem, ⟨1, _⟩ => ⟨S1x4x2048, .f32⟩
  | .local _ .vmem, ⟨2, _⟩ => ⟨S1x4x1024, .f32⟩
  | .local _ .vmem, ⟨3, _⟩ => ⟨S1x4x1024, .f32⟩
  | .local _ .vmem, ⟨4, _⟩ => ⟨S1x1x30x1024, .f32⟩
  | .local _ .vmem, ⟨5, _⟩ => ⟨S1x1x30x1024, .f32⟩
  | .local _ .vmem, ⟨6, _⟩ => ⟨S31x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S1024x1024, .bf16⟩
  | .local _ .vmem, ⟨11, _⟩ => ⟨S1x4x1024, .f32⟩
  | .local _ .vmem, ⟨12, _⟩ => ⟨S1x4x1024, .f32⟩
  | .local _ .vmem, ⟨13, _⟩ => ⟨S1x30x1024, .f32⟩
  | .local _ .vmem, ⟨14, _⟩ => ⟨S1x30x1024, .f32⟩
  | .local _ .vmem, ⟨15, _⟩ => ⟨S40x1024, .f32⟩
  | _, _ => ⟨S128x4x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨2, ![128, 1], ![false, false]⟩

def k0_cond2 (i : grid0.Coords) : BitVec 1 :=
  let arg1 : BitVec 32 := BitVec.ofNat 32 (i 1).val
  let c0_i32_122 : BitVec 32 := 0#32
  let v219 : BitVec 1 := Scalar.cmpi .eq arg1 c0_i32_122
  let v220 : BitVec 32 := Scalar.extui v219
  let c0_i32_123 : BitVec 32 := 0#32
  let v221 : BitVec 1 := Scalar.cmpi .ne v220 c0_i32_123
  v221

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x30x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S31x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x4x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x30x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== ReferenceConfSampleIdeal.lean ====
abbrev S128x4x2048 : Shape := ⟨3, ![128, 4, 2048]⟩
abbrev S128x4x1024 : Shape := ⟨3, ![128, 4, 1024]⟩
abbrev S128x1x30x1024 : Shape := ⟨4, ![128, 1, 30, 1024]⟩
abbrev S31x1024 : Shape := ⟨2, ![31, 1024]⟩
abbrev S1024 : Shape := ⟨1, ![1024]⟩
abbrev S1024x1024 : Shape := ⟨2, ![1024, 1024]⟩
abbrev S128x30x1024 : Shape := ⟨3, ![128, 30, 1024]⟩
abbrev S_ : Shape := ⟨0, ![]⟩
abbrev S128x34x1024 : Shape := ⟨3, ![128, 34, 1024]⟩
abbrev S1x1024 : Shape := ⟨2, ![1, 1024]⟩
abbrev S1x1x1024 : Shape := ⟨3, ![1, 1, 1024]⟩
abbrev S128x4 : Shape := ⟨2, ![128, 4]⟩
abbrev S128x4x1 : Shape := ⟨3, ![128, 4, 1]⟩

abbrev nBuf : Space → Nat
  | .hbm => 284
  | .vmem => 0
  | .smem => 0
  | _ => 0

abbrev hbmTy0_0 (i : Nat) : BufTy := match i % 128 with
  | 0 => ⟨S128x4x2048, .f32⟩
  | 1 => ⟨S128x4x1024, .f32⟩
  | 2 => ⟨S128x1x30x1024, .f32⟩
  | 3 => ⟨S31x1024, .f32⟩
  | 4 => ⟨S1024, .f32⟩
  | 5 => ⟨S1024, .f32⟩
  | 6 => ⟨S1024, .f32⟩
  | 7 => ⟨S1024x1024, .f32⟩
  | 8 => ⟨S128x30x1024, .f32⟩
  | 9 => ⟨S128x4x1024, .f32⟩
  | 10 => ⟨S128x4x1024, .f32⟩
  | 11 => ⟨S128x4x1024, .f32⟩
  | 12 => ⟨S128x4x1024, .f32⟩
  | 13 => ⟨S_, .f32⟩
  | 14 => ⟨S128x4x1024, .f32⟩
  | 15 => ⟨S128x4x1024, .f32⟩
  | 16 => ⟨S_, .f32⟩
  | 17 => ⟨S128x4x1024, .f32⟩
  | 18 => ⟨S128x4x1024, .f32⟩
  | 19 => ⟨S128x4x1024, .f32⟩
  | 20 => ⟨S128x34x1024, .f32⟩
  | 21 => ⟨S128x4x1024, .f32⟩
  | 22 => ⟨S1x1024, .f32⟩
  | 23 => ⟨S1024, .f32⟩
  | 24 => ⟨S1x1x1024, .f32⟩
  | 25 => ⟨S128x4x1024, .f32⟩
  | 26 => ⟨S128x4x1024, .f32⟩
  | 27 => ⟨S_, .f32⟩
  | 28 => ⟨S128x4x1024, .f32⟩
  | 29 => ⟨S128x4x1024, .f32⟩
  | 30 => ⟨S128x4x1024, .f32⟩
  | 31 => ⟨S1x1024, .f32⟩
  | 32 => ⟨S1024, .f32⟩
  | 33 => ⟨S1x1x1024, .f32⟩
  | 34 => ⟨S128x4x1024, .f32⟩
  | 35 => ⟨S128x4x1024, .f32⟩
  | 36 => ⟨S128x4x1024, .f32⟩
  | 37 => ⟨S128x4x1024, .f32⟩
  | 38 => ⟨S1x1024, .f32⟩
  | 39 => ⟨S1024, .f32⟩
  | 40 => ⟨S1x1x1024, .f32⟩
  | 41 => ⟨S128x4x1024, .f32⟩
  | 42 => ⟨S128x4x1024, .f32⟩
  | 43 => ⟨S128x4x1024, .f32⟩
  | 44 => ⟨S128x4x1024, .f32⟩
  | 45 => ⟨S1x1024, .f32⟩
  | 46 => ⟨S1024, .f32⟩
  | 47 => ⟨S1x1x1024, .f32⟩
  | 48 => ⟨S128x4x1024, .f32⟩
  | 49 => ⟨S128x4x1024, .f32⟩
  | 50 => ⟨S128x4x1024, .f32⟩
  | 51 => ⟨S128x4x1024, .f32⟩
  | 52 => ⟨S1x1024, .f32⟩
  | 53 => ⟨S1024, .f32⟩
  | 54 => ⟨S1x1x1024, .f32⟩
  | 55 => ⟨S128x4x1024, .f32⟩
  | 56 => ⟨S128x4x1024, .f32⟩
  | 57 => ⟨S128x4x1024, .f32⟩
  | 58 => ⟨S128x4x1024, .f32⟩
  | 59 => ⟨S1x1024, .f32⟩
  | 60 => ⟨S1024, .f32⟩
  | 61 => ⟨S1x1x1024, .f32⟩
  | 62 => ⟨S128x4x1024, .f32⟩
  | 63 => ⟨S128x4x1024, .f32⟩
  | 64 => ⟨S128x4x1024, .f32⟩
  | 65 => ⟨S128x4x1024, .f32⟩
  | 66 => ⟨S1x1024, .f32⟩
  | 67 => ⟨S1024, .f32⟩
  | 68 => ⟨S1x1x1024, .f32⟩
  | 69 => ⟨S128x4x1024, .f32⟩
  | 70 => ⟨S128x4x1024, .f32⟩
  | 71 => ⟨S128x4x1024, .f32⟩
  | 72 => ⟨S128x4x1024, .f32⟩
  | 73 => ⟨S1x1024, .f32⟩
  | 74 => ⟨S1024, .f32⟩
  | 75 => ⟨S1x1x1024, .f32⟩
  | 76 => ⟨S128x4x1024, .f32⟩
  | 77 => ⟨S128x4x1024, .f32⟩
  | 78 => ⟨S128x4x1024, .f32⟩
  | 79 => ⟨S128x4x1024, .f32⟩
  | 80 => ⟨S1x1024, .f32⟩
  | 81 => ⟨S1024, .f32⟩
  | 82 => ⟨S1x1x1024, .f32⟩
  | 83 => ⟨S128x4x1024, .f32⟩
  | 84 => ⟨S128x4x1024, .f32⟩
  | 85 => ⟨S128x4x1024, .f32⟩
  | 86 => ⟨S128x4x1024, .f32⟩
  | 87 => ⟨S1x1024, .f32⟩
  | 88 => ⟨S1024, .f32⟩
  | 89 => ⟨S1x1x1024, .f32⟩
  | 90 => ⟨S128x4x1024, .f32⟩
  | 91 => ⟨S128x4x1024, .f32⟩
  | 92 => ⟨S128x4x1024, .f32⟩
  | 93 => ⟨S128x4x1024, .f32⟩
  | 94 => ⟨S1x1024, .f32⟩
  | 95 => ⟨S1024, .f32⟩
  | 96 => ⟨S1x1x1024, .f32⟩
  | 97 => ⟨S128x4x1024, .f32⟩
  | 98 => ⟨S128x4x1024, .f32⟩
  | 99 => ⟨S128x4x1024, .f32⟩
  | 100 => ⟨S128x4x1024, .f32⟩
  | 101 => ⟨S1x1024, .f32⟩
  | 102 => ⟨S1024, .f32⟩
  | 103 => ⟨S1x1x1024, .f32⟩
  | 104 => ⟨S128x4x1024, .f32⟩
  | 105 => ⟨S128x4x1024, .f32⟩
  | 106 => ⟨S128x4x1024, .f32⟩
  | 107 => ⟨S128x4x1024, .f32⟩
  | 108 => ⟨S1x1024, .f32⟩
  | 109 => ⟨S1024, .f32⟩
  | 110 => ⟨S1x1x1024, .f32⟩
  | 111 => ⟨S128x4x1024, .f32⟩
  | 112 => ⟨S128x4x1024, .f32⟩
  | 113 => ⟨S128x4x1024, .f32⟩
  | 114 => ⟨S128x4x1024, .f32⟩
  | 115 => ⟨S1x1024, .f32⟩
  | 116 => ⟨S1024, .f32⟩
  | 117 => ⟨S1x1x1024, .f32⟩
  | 118 => ⟨S128x4x1024, .f32⟩
  | 119 => ⟨S128x4x1024, .f32⟩
  | 120 => ⟨S128x4x1024, .f32⟩
  | 121 => ⟨S128x4x1024, .f32⟩
  | 122 => ⟨S1x1024, .f32⟩
  | 123 => ⟨S1024, .f32⟩
  | 124 => ⟨S1x1x1024, .f32⟩
  | 125 => ⟨S128x4x1024, .f32⟩
  | 126 => ⟨S128x4x1024, .f32⟩
  | 127 => ⟨S128x4x1024, .f32⟩
  | _ => ⟨S128x4x2048, .f32⟩

abbrev hbmTy0_1 (i : Nat) : BufTy := match i % 128 with
  | 0 => ⟨S128x4x1024, .f32⟩
  | 1 => ⟨S1x1024, .f32⟩
  | 2 => ⟨S1024, .f32⟩
  | 3 => ⟨S1x1x1024, .f32⟩
  | 4 => ⟨S128x4x1024, .f32⟩
  | 5 => ⟨S128x4x1024, .f32⟩
  | 6 => ⟨S128x4x1024, .f32⟩
  | 7 => ⟨S128x4x1024, .f32⟩
  | 8 => ⟨S1x1024, .f32⟩
  | 9 => ⟨S1024, .f32⟩
  | 10 => ⟨S1x1x1024, .f32⟩
  | 11 => ⟨S128x4x1024, .f32⟩
  | 12 => ⟨S128x4x1024, .f32⟩
  | 13 => ⟨S128x4x1024, .f32⟩
  | 14 => ⟨S128x4x1024, .f32⟩
  | 15 => ⟨S1x1024, .f32⟩
  | 16 => ⟨S1024, .f32⟩
  | 17 => ⟨S1x1x1024, .f32⟩
  | 18 => ⟨S128x4x1024, .f32⟩
  | 19 => ⟨S128x4x1024, .f32⟩
  | 20 => ⟨S128x4x1024, .f32⟩
  | 21 => ⟨S128x4x1024, .f32⟩
  | 22 => ⟨S1x1024, .f32⟩
  | 23 => ⟨S1024, .f32⟩
  | 24 => ⟨S1x1x1024, .f32⟩
  | 25 => ⟨S128x4x1024, .f32⟩
  | 26 => ⟨S128x4x1024, .f32⟩
  | 27 => ⟨S128x4x1024, .f32⟩
  | 28 => ⟨S128x4x1024, .f32⟩
  | 29 => ⟨S1x1024, .f32⟩
  | 30 => ⟨S1024, .f32⟩
  | 31 => ⟨S1x1x1024, .f32⟩
  | 32 => ⟨S128x4x1024, .f32⟩
  | 33 => ⟨S128x4x1024, .f32⟩
  | 34 => ⟨S128x4x1024, .f32⟩
  | 35 => ⟨S128x4x1024, .f32⟩
  | 36 => ⟨S1x1024, .f32⟩
  | 37 => ⟨S1024, .f32⟩
  | 38 => ⟨S1x1x1024, .f32⟩
  | 39 => ⟨S128x4x1024, .f32⟩
  | 40 => ⟨S128x4x1024, .f32⟩
  | 41 => ⟨S128x4x1024, .f32⟩
  | 42 => ⟨S128x4x1024, .f32⟩
  | 43 => ⟨S1x1024, .f32⟩
  | 44 => ⟨S1024, .f32⟩
  | 45 => ⟨S1x1x1024, .f32⟩
  | 46 => ⟨S128x4x1024, .f32⟩
  | 47 => ⟨S128x4x1024, .f32⟩
  | 48 => ⟨S128x4x1024, .f32⟩
  | 49 => ⟨S128x4x1024, .f32⟩
  | 50 => ⟨S1x1024, .f32⟩
  | 51 => ⟨S1024, .f32⟩
  | 52 => ⟨S1x1x1024, .f32⟩
  | 53 => ⟨S128x4x1024, .f32⟩
  | 54 => ⟨S128x4x1024, .f32⟩
  | 55 => ⟨S128x4x1024, .f32⟩
  | 56 => ⟨S128x4x1024, .f32⟩
  | 57 => ⟨S1x1024, .f32⟩
  | 58 => ⟨S1024, .f32⟩
  | 59 => ⟨S1x1x1024, .f32⟩
  | 60 => ⟨S128x4x1024, .f32⟩
  | 61 => ⟨S128x4x1024, .f32⟩
  | 62 => ⟨S128x4x1024, .f32⟩
  | 63 => ⟨S128x4x1024, .f32⟩
  | 64 => ⟨S1x1024, .f32⟩
  | 65 => ⟨S1024, .f32⟩
  | 66 => ⟨S1x1x1024, .f32⟩
  | 67 => ⟨S128x4x1024, .f32⟩
  | 68 => ⟨S128x4x1024, .f32⟩
  | 69 => ⟨S128x4x1024, .f32⟩
  | 70 => ⟨S128x4x1024, .f32⟩
  | 71 => ⟨S1x1024, .f32⟩
  | 72 => ⟨S1024, .f32⟩
  | 73 => ⟨S1x1x1024, .f32⟩
  | 74 => ⟨S128x4x1024, .f32⟩
  | 75 => ⟨S128x4x1024, .f32⟩
  | 76 => ⟨S128x4x1024, .f32⟩
  | 77 => ⟨S128x4x1024, .f32⟩
  | 78 => ⟨S1x1024, .f32⟩
  | 79 => ⟨S1024, .f32⟩
  | 80 => ⟨S1x1x1024, .f32⟩
  | 81 => ⟨S128x4x1024, .f32⟩
  | 82 => ⟨S128x4x1024, .f32⟩
  | 83 => ⟨S128x4x1024, .f32⟩
  | 84 => ⟨S128x4x1024, .f32⟩
  | 85 => ⟨S1x1024, .f32⟩
  | 86 => ⟨S1024, .f32⟩
  | 87 => ⟨S1x1x1024, .f32⟩
  | 88 => ⟨S128x4x1024, .f32⟩
  | 89 => ⟨S128x4x1024, .f32⟩
  | 90 => ⟨S128x4x1024, .f32⟩
  | 91 => ⟨S128x4x1024, .f32⟩
  | 92 => ⟨S1x1024, .f32⟩
  | 93 => ⟨S1024, .f32⟩
  | 94 => ⟨S1x1x1024, .f32⟩
  | 95 => ⟨S128x4x1024, .f32⟩
  | 96 => ⟨S128x4x1024, .f32⟩
  | 97 => ⟨S128x4x1024, .f32⟩
  | 98 => ⟨S128x4x1024, .f32⟩
  | 99 => ⟨S1x1024, .f32⟩
  | 100 => ⟨S1024, .f32⟩
  | 101 => ⟨S1x1x1024, .f32⟩
  | 102 => ⟨S128x4x1024, .f32⟩
  | 103 => ⟨S128x4x1024, .f32⟩
  | 104 => ⟨S128x4x1024, .f32⟩
  | 105 => ⟨S128x4x1024, .f32⟩
  | 106 => ⟨S1x1024, .f32⟩
  | 107 => ⟨S1024, .f32⟩
  | 108 => ⟨S1x1x1024, .f32⟩
  | 109 => ⟨S128x4x1024, .f32⟩
  | 110 => ⟨S128x4x1024, .f32⟩
  | 111 => ⟨S128x4x1024, .f32⟩
  | 112 => ⟨S1x1x1024, .f32⟩
  | 113 => ⟨S128x4x1024, .f32⟩
  | 114 => ⟨S128x4x1024, .f32⟩
  | 115 => ⟨S_, .f32⟩
  | 116 => ⟨S128x4, .f32⟩
  | 117 => ⟨S128x4x1, .f32⟩
  | 118 => ⟨S_, .f32⟩
  | 119 => ⟨S128x4x1, .f32⟩
  | 120 => ⟨S128x4x1, .f32⟩
  | 121 => ⟨S128x4x1024, .f32⟩
  | 122 => ⟨S128x4x1024, .f32⟩
  | 123 => ⟨S128x4x1024, .f32⟩
  | 124 => ⟨S_, .f32⟩
  | 125 => ⟨S128x4, .f32⟩
  | 126 => ⟨S128x4x1, .f32⟩
  | 127 => ⟨S_, .f32⟩
  | _ => ⟨S128x4x2048, .f32⟩

abbrev hbmTy0_2 (i : Nat) : BufTy := match i % 128 with
  | 0 => ⟨S128x4x1, .f32⟩
  | 1 => ⟨S128x4x1, .f32⟩
  | 2 => ⟨S128x4x1024, .f32⟩
  | 3 => ⟨S128x4x1024, .f32⟩
  | 4 => ⟨S_, .f32⟩
  | 5 => ⟨S128x4x1, .f32⟩
  | 6 => ⟨S128x4x1, .f32⟩
  | 7 => ⟨S128x4x1, .f32⟩
  | 8 => ⟨S128x4x1024, .f32⟩
  | 9 => ⟨S128x4x1024, .f32⟩
  | 10 => ⟨S1x1x1024, .f32⟩
  | 11 => ⟨S128x4x1024, .f32⟩
  | 12 => ⟨S128x4x1024, .f32⟩
  | 13 => ⟨S1x1x1024, .f32⟩
  | 14 => ⟨S128x4x1024, .f32⟩
  | 15 => ⟨S128x4x1024, .f32⟩
  | 16 => ⟨S128x4x1024, .f32⟩
  | 17 => ⟨S128x4x1024, .f32⟩
  | 18 => ⟨S_, .f32⟩
  | 19 => ⟨S128x4x1024, .f32⟩
  | 20 => ⟨S128x4x1024, .f32⟩
  | 21 => ⟨S_, .f32⟩
  | 22 => ⟨S128x4x1024, .f32⟩
  | 23 => ⟨S128x4x1024, .f32⟩
  | 24 => ⟨S128x4x1024, .f32⟩
  | 25 => ⟨S128x4x1024, .f32⟩
  | 26 => ⟨S128x4x1024, .f32⟩
  | 27 => ⟨S128x30x1024, .f32⟩
  | _ => ⟨S128x4x2048, .f32⟩

abbrev hbmTy (i : Nat) : BufTy := match i / 128 with
  | 0 => hbmTy0_0 i
  | 1 => hbmTy0_1 i
  | 2 => hbmTy0_2 i
  | _ => ⟨S128x4x2048, .f32⟩

abbrev bufTy : (tb : Table) → Fin (tcTables nBuf tb) → BufTy
  | .hbm, ⟨i, _⟩ => hbmTy i
  | _, _ => ⟨S128x4x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_1 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩
abbrev main_v91 : Ref sig .tc := ⟨.hbm, 102, rfl⟩
abbrev main_v92 : Ref sig .tc := ⟨.hbm, 103, rfl⟩
abbrev main_v93 : Ref sig .tc := ⟨.hbm, 104, rfl⟩
abbrev main_v94 : Ref sig .tc := ⟨.hbm, 105, rfl⟩
abbrev main_v95 : Ref sig .tc := ⟨.hbm, 106, rfl⟩
abbrev main_v96 : Ref sig .tc := ⟨.hbm, 107, rfl⟩
abbrev main_v97 : Ref sig .tc := ⟨.hbm, 108, rfl⟩
abbrev main_v98 : Ref sig .tc := ⟨.hbm, 109, rfl⟩
abbrev main_v99 : Ref sig .tc := ⟨.hbm, 110, rfl⟩
abbrev main_v100 : Ref sig .tc := ⟨.hbm, 111, rfl⟩
abbrev main_v101 : Ref sig .tc := ⟨.hbm, 112, rfl⟩
abbrev main_v102 : Ref sig .tc := ⟨.hbm, 113, rfl⟩
abbrev main_v103 : Ref sig .tc := ⟨.hbm, 114, rfl⟩
abbrev main_v104 : Ref sig .tc := ⟨.hbm, 115, rfl⟩
abbrev main_v105 : Ref sig .tc := ⟨.hbm, 116, rfl⟩
abbrev main_v106 : Ref sig .tc := ⟨.hbm, 117, rfl⟩
abbrev main_v107 : Ref sig .tc := ⟨.hbm, 118, rfl⟩
abbrev main_v108 : Ref sig .tc := ⟨.hbm, 119, rfl⟩
abbrev main_v109 : Ref sig .tc := ⟨.hbm, 120, rfl⟩
abbrev main_v110 : Ref sig .tc := ⟨.hbm, 121, rfl⟩
abbrev main_v111 : Ref sig .tc := ⟨.hbm, 122, rfl⟩
abbrev main_v112 : Ref sig .tc := ⟨.hbm, 123, rfl⟩
abbrev main_v113 : Ref sig .tc := ⟨.hbm, 124, rfl⟩
abbrev main_v114 : Ref sig .tc := ⟨.hbm, 125, rfl⟩
abbrev main_v115 : Ref sig .tc := ⟨.hbm, 126, rfl⟩
abbrev main_v116 : Ref sig .tc := ⟨.hbm, 127, rfl⟩
abbrev main_v117 : Ref sig .tc := ⟨.hbm, 128, rfl⟩
abbrev main_v118 : Ref sig .tc := ⟨.hbm, 129, rfl⟩
abbrev main_v119 : Ref sig .tc := ⟨.hbm, 130, rfl⟩
abbrev main_v120 : Ref sig .tc := ⟨.hbm, 131, rfl⟩
abbrev main_v121 : Ref sig .tc := ⟨.hbm, 132, rfl⟩
abbrev main_v122 : Ref sig .tc := ⟨.hbm, 133, rfl⟩
abbrev main_v123 : Ref sig .tc := ⟨.hbm, 134, rfl⟩
abbrev main_v124 : Ref sig .tc := ⟨.hbm, 135, rfl⟩
abbrev main_v125 : Ref sig .tc := ⟨.hbm, 136, rfl⟩
abbrev main_v126 : Ref sig .tc := ⟨.hbm, 137, rfl⟩
abbrev main_v127 : Ref sig .tc := ⟨.hbm, 138, rfl⟩
abbrev main_v128 : Ref sig .tc := ⟨.hbm, 139, rfl⟩
abbrev main_v129 : Ref sig .tc := ⟨.hbm, 140, rfl⟩
abbrev main_v130 : Ref sig .tc := ⟨.hbm, 141, rfl⟩
abbrev main_v131 : Ref sig .tc := ⟨.hbm, 142, rfl⟩
abbrev main_v132 : Ref sig .tc := ⟨.hbm, 143, rfl⟩
abbrev main_v133 : Ref sig .tc := ⟨.hbm, 144, rfl⟩
abbrev main_v134 : Ref sig .tc := ⟨.hbm, 145, rfl⟩
abbrev main_v135 : Ref sig .tc := ⟨.hbm, 146, rfl⟩
abbrev main_v136 : Ref sig .tc := ⟨.hbm, 147, rfl⟩
abbrev main_v137 : Ref sig .tc := ⟨.hbm, 148, rfl⟩
abbrev main_v138 : Ref sig .tc := ⟨.hbm, 149, rfl⟩
abbrev main_v139 : Ref sig .tc := ⟨.hbm, 150, rfl⟩
abbrev main_v140 : Ref sig .tc := ⟨.hbm, 151, rfl⟩
abbrev main_v141 : Ref sig .tc := ⟨.hbm, 152, rfl⟩
abbrev main_v142 : Ref sig .tc := ⟨.hbm, 153, rfl⟩
abbrev main_v143 : Ref sig .tc := ⟨.hbm, 154, rfl⟩
abbrev main_v144 : Ref sig .tc := ⟨.hbm, 155, rfl⟩
abbrev main_v145 : Ref sig .tc := ⟨.hbm, 156, rfl⟩
abbrev main_v146 : Ref sig .tc := ⟨.hbm, 157, rfl⟩
abbrev main_v147 : Ref sig .tc := ⟨.hbm, 158, rfl⟩
abbrev main_v148 : Ref sig .tc := ⟨.hbm, 159, rfl⟩
abbrev main_v149 : Ref sig .tc := ⟨.hbm, 160, rfl⟩
abbrev main_v150 : Ref sig .tc := ⟨.hbm, 161, rfl⟩
abbrev main_v151 : Ref sig .tc := ⟨.hbm, 162, rfl⟩
abbrev main_v152 : Ref sig .tc := ⟨.hbm, 163, rfl⟩
abbrev main_v153 : Ref sig .tc := ⟨.hbm, 164, rfl⟩
abbrev main_v154 : Ref sig .tc := ⟨.hbm, 165, rfl⟩
abbrev main_v155 : Ref sig .tc := ⟨.hbm, 166, rfl⟩
abbrev main_v156 : Ref sig .tc := ⟨.hbm, 167, rfl⟩
abbrev main_v157 : Ref sig .tc := ⟨.hbm, 168, rfl⟩
abbrev main_v158 : Ref sig .tc := ⟨.hbm, 169, rfl⟩
abbrev main_v159 : Ref sig .tc := ⟨.hbm, 170, rfl⟩
abbrev main_v160 : Ref sig .tc := ⟨.hbm, 171, rfl⟩
abbrev main_v161 : Ref sig .tc := ⟨.hbm, 172, rfl⟩
abbrev main_v162 : Ref sig .tc := ⟨.hbm, 173, rfl⟩
abbrev main_v163 : Ref sig .tc := ⟨.hbm, 174, rfl⟩
abbrev main_v164 : Ref sig .tc := ⟨.hbm, 175, rfl⟩
abbrev main_v165 : Ref sig .tc := ⟨.hbm, 176, rfl⟩
abbrev main_v166 : Ref sig .tc := ⟨.hbm, 177, rfl⟩
abbrev main_v167 : Ref sig .tc := ⟨.hbm, 178, rfl⟩
abbrev main_v168 : Ref sig .tc := ⟨.hbm, 179, rfl⟩
abbrev main_v169 : Ref sig .tc := ⟨.hbm, 180, rfl⟩
abbrev main_v170 : Ref sig .tc := ⟨.hbm, 181, rfl⟩
abbrev main_v171 : Ref sig .tc := ⟨.hbm, 182, rfl⟩
abbrev main_v172 : Ref sig .tc := ⟨.hbm, 183, rfl⟩
abbrev main_v173 : Ref sig .tc := ⟨.hbm, 184, rfl⟩
abbrev main_v174 : Ref sig .tc := ⟨.hbm, 185, rfl⟩
abbrev main_v175 : Ref sig .tc := ⟨.hbm, 186, rfl⟩
abbrev main_v176 : Ref sig .tc := ⟨.hbm, 187, rfl⟩
abbrev main_v177 : Ref sig .tc := ⟨.hbm, 188, rfl⟩
abbrev main_v178 : Ref sig .tc := ⟨.hbm, 189, rfl⟩
abbrev main_v179 : Ref sig .tc := ⟨.hbm, 190, rfl⟩
abbrev main_v180 : Ref sig .tc := ⟨.hbm, 191, rfl⟩
abbrev main_v181 : Ref sig .tc := ⟨.hbm, 192, rfl⟩
abbrev main_v182 : Ref sig .tc := ⟨.hbm, 193, rfl⟩
abbrev main_v183 : Ref sig .tc := ⟨.hbm, 194, rfl⟩
abbrev main_v184 : Ref sig .tc := ⟨.hbm, 195, rfl⟩
abbrev main_v185 : Ref sig .tc := ⟨.hbm, 196, rfl⟩
abbrev main_v186 : Ref sig .tc := ⟨.hbm, 197, rfl⟩
abbrev main_v187 : Ref sig .tc := ⟨.hbm, 198, rfl⟩
abbrev main_v188 : Ref sig .tc := ⟨.hbm, 199, rfl⟩
abbrev main_v189 : Ref sig .tc := ⟨.hbm, 200, rfl⟩
abbrev main_v190 : Ref sig .tc := ⟨.hbm, 201, rfl⟩
abbrev main_v191 : Ref sig .tc := ⟨.hbm, 202, rfl⟩
abbrev main_v192 : Ref sig .tc := ⟨.hbm, 203, rfl⟩
abbrev main_v193 : Ref sig .tc := ⟨.hbm, 204, rfl⟩
abbrev main_v194 : Ref sig .tc := ⟨.hbm, 205, rfl⟩
abbrev main_v195 : Ref sig .tc := ⟨.hbm, 206, rfl⟩
abbrev main_v196 : Ref sig .tc := ⟨.hbm, 207, rfl⟩
abbrev main_v197 : Ref sig .tc := ⟨.hbm, 208, rfl⟩
abbrev main_v198 : Ref sig .tc := ⟨.hbm, 209, rfl⟩
abbrev main_v199 : Ref sig .tc := ⟨.hbm, 210, rfl⟩
abbrev main_v200 : Ref sig .tc := ⟨.hbm, 211, rfl⟩
abbrev main_v201 : Ref sig .tc := ⟨.hbm, 212, rfl⟩
abbrev main_v202 : Ref sig .tc := ⟨.hbm, 213, rfl⟩
abbrev main_v203 : Ref sig .tc := ⟨.hbm, 214, rfl⟩
abbrev main_v204 : Ref sig .tc := ⟨.hbm, 215, rfl⟩
abbrev main_v205 : Ref sig .tc := ⟨.hbm, 216, rfl⟩
abbrev main_v206 : Ref sig .tc := ⟨.hbm, 217, rfl⟩
abbrev main_v207 : Ref sig .tc := ⟨.hbm, 218, rfl⟩
abbrev main_v208 : Ref sig .tc := ⟨.hbm, 219, rfl⟩
abbrev main_v209 : Ref sig .tc := ⟨.hbm, 220, rfl⟩
abbrev main_v210 : Ref sig .tc := ⟨.hbm, 221, rfl⟩
abbrev main_v211 : Ref sig .tc := ⟨.hbm, 222, rfl⟩
abbrev main_v212 : Ref sig .tc := ⟨.hbm, 223, rfl⟩
abbrev main_v213 : Ref sig .tc := ⟨.hbm, 224, rfl⟩
abbrev main_v214 : Ref sig .tc := ⟨.hbm, 225, rfl⟩
abbrev main_v215 : Ref sig .tc := ⟨.hbm, 226, rfl⟩
abbrev main_v216 : Ref sig .tc := ⟨.hbm, 227, rfl⟩
abbrev main_v217 : Ref sig .tc := ⟨.hbm, 228, rfl⟩
abbrev main_v218 : Ref sig .tc := ⟨.hbm, 229, rfl⟩
abbrev main_v219 : Ref sig .tc := ⟨.hbm, 230, rfl⟩
abbrev main_v220 : Ref sig .tc := ⟨.hbm, 231, rfl⟩
abbrev main_v221 : Ref sig .tc := ⟨.hbm, 232, rfl⟩
abbrev main_v222 : Ref sig .tc := ⟨.hbm, 233, rfl⟩
abbrev main_v223 : Ref sig .tc := ⟨.hbm, 234, rfl⟩
abbrev main_v224 : Ref sig .tc := ⟨.hbm, 235, rfl⟩
abbrev main_v225 : Ref sig .tc := ⟨.hbm, 236, rfl⟩
abbrev main_v226 : Ref sig .tc := ⟨.hbm, 237, rfl⟩
abbrev main_v227 : Ref sig .tc := ⟨.hbm, 238, rfl⟩
abbrev main_v228 : Ref sig .tc := ⟨.hbm, 239, rfl⟩
abbrev main_v229 : Ref sig .tc := ⟨.hbm, 240, rfl⟩
abbrev main_v230 : Ref sig .tc := ⟨.hbm, 241, rfl⟩
abbrev main_v231 : Ref sig .tc := ⟨.hbm, 242, rfl⟩
abbrev main_cst_2 : Ref sig .tc := ⟨.hbm, 243, rfl⟩
abbrev main_v232 : Ref sig .tc := ⟨.hbm, 244, rfl⟩
abbrev main_v233 : Ref sig .tc := ⟨.hbm, 245, rfl⟩
abbrev main_cst_3 : Ref sig .tc := ⟨.hbm, 246, rfl⟩
abbrev main_v234 : Ref sig .tc := ⟨.hbm, 247, rfl⟩
abbrev main_v235 : Ref sig .tc := ⟨.hbm, 248, rfl⟩
abbrev main_v236 : Ref sig .tc := ⟨.hbm, 249, rfl⟩
abbrev main_v237 : Ref sig .tc := ⟨.hbm, 250, rfl⟩
abbrev main_v238 : Ref sig .tc := ⟨.hbm, 251, rfl⟩
abbrev main_cst_4 : Ref sig .tc := ⟨.hbm, 252, rfl⟩
abbrev main_v239 : Ref sig .tc := ⟨.hbm, 253, rfl⟩
abbrev main_v240 : Ref sig .tc := ⟨.hbm, 254, rfl⟩
abbrev main_cst_5 : Ref sig .tc := ⟨.hbm, 255, rfl⟩
abbrev main_v241 : Ref sig .tc := ⟨.hbm, 256, rfl⟩
abbrev main_v242 : Ref sig .tc := ⟨.hbm, 257, rfl⟩
abbrev main_v243 : Ref sig .tc := ⟨.hbm, 258, rfl⟩
abbrev main_v244 : Ref sig .tc := ⟨.hbm, 259, rfl⟩
abbrev main_cst_6 : Ref sig .tc := ⟨.hbm, 260, rfl⟩
abbrev main_v245 : Ref sig .tc := ⟨.hbm, 261, rfl⟩
abbrev main_v246 : Ref sig .tc := ⟨.hbm, 262, rfl⟩
abbrev main_v247 : Ref sig .tc := ⟨.hbm, 263, rfl⟩
abbrev main_v248 : Ref sig .tc := ⟨.hbm, 264, rfl⟩
abbrev main_v249 : Ref sig .tc := ⟨.hbm, 265, rfl⟩
abbrev main_v250 : Ref sig .tc := ⟨.hbm, 266, rfl⟩
abbrev main_v251 : Ref sig .tc := ⟨.hbm, 267, rfl⟩
abbrev main_v252 : Ref sig .tc := ⟨.hbm, 268, rfl⟩
abbrev main_v253 : Ref sig .tc := ⟨.hbm, 269, rfl⟩
abbrev main_v254 : Ref sig .tc := ⟨.hbm, 270, rfl⟩
abbrev main_v255 : Ref sig .tc := ⟨.hbm, 271, rfl⟩
abbrev main_call0_v0 : Ref sig .tc := ⟨.hbm, 272, rfl⟩
abbrev main_call0_v1 : Ref sig .tc := ⟨.hbm, 273, rfl⟩
abbrev main_call0_cst : Ref sig .tc := ⟨.hbm, 274, rfl⟩
abbrev main_call0_v2 : Ref sig .tc := ⟨.hbm, 275, rfl⟩
abbrev main_call0_v3 : Ref sig .tc := ⟨.hbm, 276, rfl⟩
abbrev main_call0_cst_0 : Ref sig .tc := ⟨.hbm, 277, rfl⟩
abbrev main_call0_v4 : Ref sig .tc := ⟨.hbm, 278, rfl⟩
abbrev main_call0_v5 : Ref sig .tc := ⟨.hbm, 279, rfl⟩
abbrev main_v256 : Ref sig .tc := ⟨.hbm, 280, rfl⟩
abbrev main_v257 : Ref sig .tc := ⟨.hbm, 281, rfl⟩
abbrev main_v258 : Ref sig .tc := ⟨.hbm, 282, rfl⟩
abbrev main_v259 : Ref sig .tc := ⟨.hbm, 283, rfl⟩

abbrev nD : Nat := 1
abbrev τ : Topo := Topo.v7x

variable {F : FTy → Type} [FloatOps F]
-- ==== KernelSsdSample.lean ====
abbrev S512x4608 : Shape := ⟨2, ![512, 4608]⟩
abbrev S128x1x3x1536 : Shape := ⟨4, ![128, 1, 3, 1536]⟩
abbrev S128x1x16x64x128 : Shape := ⟨5, ![128, 1, 16, 64, 128]⟩
abbrev S4x1536 : Shape := ⟨2, ![4, 1536]⟩
abbrev S1536 : Shape := ⟨1, ![1536]⟩
abbrev S16 : Shape := ⟨1, ![16]⟩
abbrev S1024 : Shape := ⟨1, ![1024]⟩
abbrev S128x4x4608 : Shape := ⟨3, ![128, 4, 4608]⟩
abbrev S128x16x64x128 : Shape := ⟨4, ![128, 16, 64, 128]⟩
abbrev S128x8x2x64x128 : Shape := ⟨5, ![128, 8, 2, 64, 128]⟩
abbrev S128x8x128x2x64 : Shape := ⟨5, ![128, 8, 128, 2, 64]⟩
abbrev S128x8x128x128 : Shape := ⟨4, ![128, 8, 128, 128]⟩
abbrev S1x1536 : Shape := ⟨2, ![1, 1536]⟩
abbrev S_ : Shape := ⟨0, ![]⟩
abbrev S1x128 : Shape := ⟨2, ![1, 128]⟩
abbrev S1 : Shape := ⟨1, ![1]⟩
abbrev S2 : Shape := ⟨1, ![2]⟩
abbrev S1x1024 : Shape := ⟨2, ![1, 1024]⟩
abbrev S128x4x1024 : Shape := ⟨3, ![128, 4, 1024]⟩
abbrev S1x4x1024 : Shape := ⟨3, ![1, 4, 1024]⟩
abbrev S1x4x512 : Shape := ⟨3, ![1, 4, 512]⟩
abbrev S1x4x128 : Shape := ⟨3, ![1, 4, 128]⟩
abbrev S1x1x3x1536 : Shape := ⟨4, ![1, 1, 3, 1536]⟩
abbrev S1x8x128x128 : Shape := ⟨4, ![1, 8, 128, 128]⟩
abbrev S16x1536 : Shape := ⟨2, ![16, 1536]⟩
abbrev S8x128x128 : Shape := ⟨3, ![8, 128, 128]⟩
abbrev S8x1024 : Shape := ⟨2, ![8, 1024]⟩
abbrev S3x1536 : Shape := ⟨2, ![3, 1536]⟩
abbrev S4x1024 : Shape := ⟨2, ![4, 1024]⟩
abbrev S4x512 : Shape := ⟨2, ![4, 512]⟩
abbrev S8x1536 : Shape := ⟨2, ![8, 1536]⟩
abbrev S8x128 : Shape := ⟨2, ![8, 128]⟩
abbrev S4x128 : Shape := ⟨2, ![4, 128]⟩
abbrev S8x8 : Shape := ⟨2, ![8, 8]⟩
abbrev S128x128 : Shape := ⟨2, ![128, 128]⟩
abbrev S128x8 : Shape := ⟨2, ![128, 8]⟩
abbrev S8x1 : Shape := ⟨2, ![8, 1]⟩
abbrev S1x8 : Shape := ⟨2, ![1, 8]⟩
abbrev S1x128x128 : Shape := ⟨3, ![1, 128, 128]⟩
abbrev S1x1 : Shape := ⟨2, ![1, 1]⟩
abbrev S8x512 : Shape := ⟨2, ![8, 512]⟩
abbrev S8 : Shape := ⟨1, ![8]⟩

abbrev nBuf : Space → Nat
  | .hbm => 42
  | .vmem => 25
  | .smem => 0
  | _ => 0

abbrev bufTy : (tb : Table) → Fin (tcTables nBuf tb) → BufTy
  | .hbm, ⟨0, _⟩ => ⟨S512x4608, .f32⟩
  | .hbm, ⟨1, _⟩ => ⟨S128x1x3x1536, .f32⟩
  | .hbm, ⟨2, _⟩ => ⟨S128x1x16x64x128, .f32⟩
  | .hbm, ⟨3, _⟩ => ⟨S4x1536, .f32⟩
  | .hbm, ⟨4, _⟩ => ⟨S1536, .f32⟩
  | .hbm, ⟨5, _⟩ => ⟨S16, .f32⟩
  | .hbm, ⟨6, _⟩ => ⟨S16, .f32⟩
  | .hbm, ⟨7, _⟩ => ⟨S16, .f32⟩
  | .hbm, ⟨8, _⟩ => ⟨S1024, .f32⟩
  | .hbm, ⟨9, _⟩ => ⟨S128x4x4608, .f32⟩
  | .hbm, ⟨10, _⟩ => ⟨S128x16x64x128, .f32⟩
  | .hbm, ⟨11, _⟩ => ⟨S128x8x2x64x128, .f32⟩
  | .hbm, ⟨12, _⟩ => ⟨S128x8x128x2x64, .f32⟩
  | .hbm, ⟨13, _⟩ => ⟨S128x8x128x128, .f32⟩
  | .hbm, ⟨14, _⟩ => ⟨S1x1536, .f32⟩
  | .hbm, ⟨15, _⟩ => ⟨S_, .f32⟩
  | .hbm, ⟨16, _⟩ => ⟨S1x128, .f32⟩
  | .hbm, ⟨17, _⟩ => ⟨S_, .i32⟩
  | .hbm, ⟨18, _⟩ => ⟨S1, .i32⟩
  | .hbm, ⟨19, _⟩ => ⟨S_, .i32⟩
  | .hbm, ⟨20, _⟩ => ⟨S1, .i32⟩
  | .hbm, ⟨21, _⟩ => ⟨S2, .i32⟩
  | .hbm, ⟨22, _⟩ => ⟨S1x128, .f32⟩
  | .hbm, ⟨23, _⟩ => ⟨S_, .f32⟩
  | .hbm, ⟨24, _⟩ => ⟨S1x128, .f32⟩
  | .hbm, ⟨25, _⟩ => ⟨S_, .i32⟩
  | .hbm, ⟨26, _⟩ => ⟨S1, .i32⟩
  | .hbm, ⟨27, _⟩ => ⟨S_, .i32⟩
  | .hbm, ⟨28, _⟩ => ⟨S1, .i32⟩
  | .hbm, ⟨29, _⟩ => ⟨S2, .i32⟩
  | .hbm, ⟨30, _⟩ => ⟨S1x128, .f32⟩
  | .hbm, ⟨31, _⟩ => ⟨S_, .f32⟩
  | .hbm, ⟨32, _⟩ => ⟨S1x128, .f32⟩
  | .hbm, ⟨33, _⟩ => ⟨S_, .i32⟩
  | .hbm, ⟨34, _⟩ => ⟨S1, .i32⟩
  | .hbm, ⟨35, _⟩ => ⟨S_, .i32⟩
  | .hbm, ⟨36, _⟩ => ⟨S1, .i32⟩
  | .hbm, ⟨37, _⟩ => ⟨S2, .i32⟩
  | .hbm, ⟨38, _⟩ => ⟨S1x128, .f32⟩
  | .hbm, ⟨39, _⟩ => ⟨S1x1024, .f32⟩
  | .hbm, ⟨40, _⟩ => ⟨S128x4x1024, .f32⟩
  | .hbm, ⟨41, _⟩ => ⟨S128x8x128x128, .f32⟩
  | .local _ .vmem, ⟨0, _⟩ => ⟨S1x4x1024, .f32⟩
  | .local _ .vmem, ⟨1, _⟩ => ⟨S1x4x1024, .f32⟩
  | .local _ .vmem, ⟨2, _⟩ => ⟨S1x4x1024, .f32⟩
  | .local _ .vmem, ⟨3, _⟩ => ⟨S1x4x1024, .f32⟩
  | .local _ .vmem, ⟨4, _⟩ => ⟨S1x4x512, .f32⟩
  | .local _ .vmem, ⟨5, _⟩ => ⟨S1x4x512, .f32⟩
  | .local _ .vmem, ⟨6, _⟩ => ⟨S1x4x128, .f32⟩
  | .local _ .vmem, ⟨7, _⟩ => ⟨S1x4x128, .f32⟩
  | .local _ .vmem, ⟨8, _⟩ => ⟨S1x1x3x1536, .f32⟩
  | .local _ .vmem, ⟨9, _⟩ => ⟨S1x1x3x1536, .f32⟩
  | .local _ .vmem, ⟨10, _⟩ => ⟨S1x8x128x128, .f32⟩
  | .local _ .vmem, ⟨11, _⟩ => ⟨S1x8x128x128, .f32⟩
  | .local _ .vmem, ⟨12, _⟩ => ⟨S4x1536, .f32⟩
  | .local _ .vmem, ⟨13, _⟩ => ⟨S1x1536, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S1x1024, .f32⟩
  | .local _ .vmem, ⟨18, _⟩ => ⟨S1x4x1024, .f32⟩
  | .local _ .vmem, ⟨19, _⟩ => ⟨S1x4x1024, .f32⟩
  | .local _ .vmem, ⟨20, _⟩ => ⟨S1x8x128x128, .f32⟩
  | .local _ .vmem, ⟨21, _⟩ => ⟨S1x8x128x128, .f32⟩
  | .local _ .vmem, ⟨22, _⟩ => ⟨S16x1536, .f32⟩
  | .local _ .vmem, ⟨23, _⟩ => ⟨S8x128x128, .f32⟩
  | .local _ .vmem, ⟨24, _⟩ => ⟨S8x1024, .f32⟩
  | _, _ => ⟨S512x4608, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_c : Ref sig .tc := ⟨.hbm, 17, rfl⟩
abbrev main_v7 : Ref sig .tc := ⟨.hbm, 18, rfl⟩
abbrev main_c_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_c_2 : Ref sig .tc := ⟨.hbm, 25, rfl⟩
abbrev main_v12 : Ref sig .tc := ⟨.hbm, 26, rfl⟩
abbrev main_c_3 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_4 : Ref sig .tc := ⟨.hbm, 31, rfl⟩
abbrev main_v16 : Ref sig .tc := ⟨.hbm, 32, rfl⟩
abbrev main_c_5 : Ref sig .tc := ⟨.hbm, 33, rfl⟩
abbrev main_v17 : Ref sig .tc := ⟨.hbm, 34, rfl⟩
abbrev main_c_6 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22_0 : Ref sig .tc := ⟨.hbm, 40, rfl⟩
abbrev main_v22_1 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem12_1 : DmaSem sig := 19
abbrev cc0_sem13_0 : DmaSem sig := 20
abbrev cc0_sem13_1 : DmaSem sig := 21

abbrev nD : Nat := 1
abbrev τ : Topo := Topo.v7x

variable {F : FTy → Type} [FloatOps F]

abbrev grid0 : Pipeline.Grid := ⟨2, ![128, 1], ![false, false]⟩

def k0_cond2 (i : grid0.Coords) : BitVec 1 :=
  let arg1 : BitVec 32 := BitVec.ofNat 32 (i 1).val
  let c0_i32_187 : BitVec 32 := 0#32
  let v964 : BitVec 1 := Scalar.cmpi .eq arg1 c0_i32_187
  let v965 : BitVec 32 := Scalar.extui v964
  let c0_i32_188 : BitVec 32 := 0#32
  let v966 : BitVec 1 := Scalar.cmpi .ne v965 c0_i32_188
  v966

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c1_i32_0 : BitVec 32 := 1#32
  let c0_i32_1 : BitVec 32 := 0#32
  ![v1.toNat, c0_i32.toNat, c1_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c4_i32 : BitVec 32 := 4#32
  let c0_i32_0 : BitVec 32 := 0#32
  ![v1.toNat, c0_i32.toNat, c4_i32.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c34_i32 : BitVec 32 := 34#32
  let c0_i32_0 : BitVec 32 := 0#32
  ![v1.toNat, c0_i32.toNat, c34_i32.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_13 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x4x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x4x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x3x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x8x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S4x1536 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1536 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x4x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x8x128x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]
-- ==== ReferenceSsdSampleIdeal.lean ====
abbrev S512x4608 : Shape := ⟨2, ![512, 4608]⟩
abbrev S128x1x3x1536 : Shape := ⟨4, ![128, 1, 3, 1536]⟩
abbrev S128x1x16x64x128 : Shape := ⟨5, ![128, 1, 16, 64, 128]⟩
abbrev S4x1536 : Shape := ⟨2, ![4, 1536]⟩
abbrev S1536 : Shape := ⟨1, ![1536]⟩
abbrev S16 : Shape := ⟨1, ![16]⟩
abbrev S1024 : Shape := ⟨1, ![1024]⟩
abbrev S128x4x4608 : Shape := ⟨3, ![128, 4, 4608]⟩
abbrev S128x4x1536 : Shape := ⟨3, ![128, 4, 1536]⟩
abbrev S128x4x16 : Shape := ⟨3, ![128, 4, 16]⟩
abbrev S128x3x1536 : Shape := ⟨3, ![128, 3, 1536]⟩
abbrev S128x16x64x128 : Shape := ⟨4, ![128, 16, 64, 128]⟩
abbrev S128x7x1536 : Shape := ⟨3, ![128, 7, 1536]⟩
abbrev S1x1536 : Shape := ⟨2, ![1, 1536]⟩
abbrev S1x1x1536 : Shape := ⟨3, ![1, 1, 1536]⟩
abbrev S_ : Shape := ⟨0, ![]⟩
abbrev S128x4x1024 : Shape := ⟨3, ![128, 4, 1024]⟩
abbrev S128x4x256 : Shape := ⟨3, ![128, 4, 256]⟩
abbrev S128x4x16x64 : Shape := ⟨4, ![128, 4, 16, 64]⟩
abbrev S128x4x2x128 : Shape := ⟨4, ![128, 4, 2, 128]⟩
abbrev S1x1x16 : Shape := ⟨3, ![1, 1, 16]⟩
abbrev S128x4x16x1 : Shape := ⟨4, ![128, 4, 16, 1]⟩
abbrev S128x1x16 : Shape := ⟨3, ![128, 1, 16]⟩
abbrev S128x16 : Shape := ⟨2, ![128, 16]⟩
abbrev S128x2x16 : Shape := ⟨3, ![128, 2, 16]⟩
abbrev S128x3x16 : Shape := ⟨3, ![128, 3, 16]⟩
abbrev S128x4x2x8x64 : Shape := ⟨5, ![128, 4, 2, 8, 64]⟩
abbrev S128x2x8x64x128 : Shape := ⟨5, ![128, 2, 8, 64, 128]⟩
abbrev S128x16x1x1 : Shape := ⟨4, ![128, 16, 1, 1]⟩
abbrev S128x8x2x64x128 : Shape := ⟨5, ![128, 8, 2, 64, 128]⟩
abbrev S128x8x128x2x64 : Shape := ⟨5, ![128, 8, 128, 2, 64]⟩
abbrev S128x8x128x128 : Shape := ⟨4, ![128, 8, 128, 128]⟩

abbrev nBuf : Space → Nat
  | .hbm => 132
  | .vmem => 0
  | .smem => 0
  | _ => 0

abbrev hbmTy0_0 (i : Nat) : BufTy := match i % 128 with
  | 0 => ⟨S512x4608, .f32⟩
  | 1 => ⟨S128x1x3x1536, .f32⟩
  | 2 => ⟨S128x1x16x64x128, .f32⟩
  | 3 => ⟨S4x1536, .f32⟩
  | 4 => ⟨S1536, .f32⟩
  | 5 => ⟨S16, .f32⟩
  | 6 => ⟨S16, .f32⟩
  | 7 => ⟨S16, .f32⟩
  | 8 => ⟨S1024, .f32⟩
  | 9 => ⟨S128x4x4608, .f32⟩
  | 10 => ⟨S128x4x1536, .f32⟩
  | 11 => ⟨S128x4x16, .f32⟩
  | 12 => ⟨S128x3x1536, .f32⟩
  | 13 => ⟨S128x16x64x128, .f32⟩
  | 14 => ⟨S128x7x1536, .f32⟩
  | 15 => ⟨S128x4x1536, .f32⟩
  | 16 => ⟨S1x1536, .f32⟩
  | 17 => ⟨S1536, .f32⟩
  | 18 => ⟨S1x1x1536, .f32⟩
  | 19 => ⟨S128x4x1536, .f32⟩
  | 20 => ⟨S128x4x1536, .f32⟩
  | 21 => ⟨S_, .f32⟩
  | 22 => ⟨S128x4x1536, .f32⟩
  | 23 => ⟨S128x4x1536, .f32⟩
  | 24 => ⟨S128x4x1536, .f32⟩
  | 25 => ⟨S1x1536, .f32⟩
  | 26 => ⟨S1536, .f32⟩
  | 27 => ⟨S1x1x1536, .f32⟩
  | 28 => ⟨S128x4x1536, .f32⟩
  | 29 => ⟨S128x4x1536, .f32⟩
  | 30 => ⟨S128x4x1536, .f32⟩
  | 31 => ⟨S128x4x1536, .f32⟩
  | 32 => ⟨S1x1536, .f32⟩
  | 33 => ⟨S1536, .f32⟩
  | 34 => ⟨S1x1x1536, .f32⟩
  | 35 => ⟨S128x4x1536, .f32⟩
  | 36 => ⟨S128x4x1536, .f32⟩
  | 37 => ⟨S128x4x1536, .f32⟩
  | 38 => ⟨S128x4x1536, .f32⟩
  | 39 => ⟨S1x1536, .f32⟩
  | 40 => ⟨S1536, .f32⟩
  | 41 => ⟨S1x1x1536, .f32⟩
  | 42 => ⟨S128x4x1536, .f32⟩
  | 43 => ⟨S128x4x1536, .f32⟩
  | 44 => ⟨S128x4x1536, .f32⟩
  | 45 => ⟨S1x1x1536, .f32⟩
  | 46 => ⟨S128x4x1536, .f32⟩
  | 47 => ⟨S128x4x1536, .f32⟩
  | 48 => ⟨S128x4x1536, .f32⟩
  | 49 => ⟨S128x4x1536, .f32⟩
  | 50 => ⟨S_, .f32⟩
  | 51 => ⟨S128x4x1536, .f32⟩
  | 52 => ⟨S128x4x1536, .f32⟩
  | 53 => ⟨S_, .f32⟩
  | 54 => ⟨S128x4x1536, .f32⟩
  | 55 => ⟨S128x4x1536, .f32⟩
  | 56 => ⟨S128x4x1536, .f32⟩
  | 57 => ⟨S128x4x1024, .f32⟩
  | 58 => ⟨S128x4x256, .f32⟩
  | 59 => ⟨S128x4x256, .f32⟩
  | 60 => ⟨S128x4x16x64, .f32⟩
  | 61 => ⟨S128x4x2x128, .f32⟩
  | 62 => ⟨S1x1x16, .f32⟩
  | 63 => ⟨S128x4x16, .f32⟩
  | 64 => ⟨S128x4x16, .f32⟩
  | 65 => ⟨S_, .f32⟩
  | 66 => ⟨S128x4x16, .f32⟩
  | 67 => ⟨S128x4x16, .f32⟩
  | 68 => ⟨S128x4x16, .f32⟩
  | 69 => ⟨S128x4x16, .f32⟩
  | 70 => ⟨S128x4x16, .i1⟩
  | 71 => ⟨S128x4x16, .f32⟩
  | 72 => ⟨S128x4x16, .f32⟩
  | 73 => ⟨S128x4x16, .f32⟩
  | 74 => ⟨S128x4x16, .f32⟩
  | 75 => ⟨S128x4x16, .f32⟩
  | 76 => ⟨S128x4x16, .f32⟩
  | 77 => ⟨S128x4x16, .f32⟩
  | 78 => ⟨S128x4x16, .f32⟩
  | 79 => ⟨S16, .f32⟩
  | 80 => ⟨S16, .f32⟩
  | 81 => ⟨S128x4x16x1, .f32⟩
  | 82 => ⟨S128x4x16x64, .f32⟩
  | 83 => ⟨S128x4x16x64, .f32⟩
  | 84 => ⟨S1x1x16, .f32⟩
  | 85 => ⟨S128x4x16, .f32⟩
  | 86 => ⟨S128x4x16, .f32⟩
  | 87 => ⟨S128x1x16, .f32⟩
  | 88 => ⟨S_, .f32⟩
  | 89 => ⟨S128x16, .f32⟩
  | 90 => ⟨S1x1x16, .f32⟩
  | 91 => ⟨S128x4x16, .f32⟩
  | 92 => ⟨S128x4x16, .f32⟩
  | 93 => ⟨S128x2x16, .f32⟩
  | 94 => ⟨S_, .f32⟩
  | 95 => ⟨S128x16, .f32⟩
  | 96 => ⟨S1x1x16, .f32⟩
  | 97 => ⟨S128x4x16, .f32⟩
  | 98 => ⟨S128x4x16, .f32⟩
  | 99 => ⟨S128x3x16, .f32⟩
  | 100 => ⟨S_, .f32⟩
  | 101 => ⟨S128x16, .f32⟩
  | 102 => ⟨S1x1x16, .f32⟩
  | 103 => ⟨S128x4x16, .f32⟩
  | 104 => ⟨S128x4x16, .f32⟩
  | 105 => ⟨S_, .f32⟩
  | 106 => ⟨S128x16, .f32⟩
  | 107 => ⟨S128x1x16, .f32⟩
  | 108 => ⟨S128x1x16, .f32⟩
  | 109 => ⟨S128x1x16, .f32⟩
  | 110 => ⟨S128x1x16, .f32⟩
  | 111 => ⟨S128x4x16, .f32⟩
  | 112 => ⟨S128x1x16, .f32⟩
  | 113 => ⟨S128x4x16, .f32⟩
  | 114 => ⟨S128x4x16, .f32⟩
  | 115 => ⟨S128x4x16, .f32⟩
  | 116 => ⟨S128x4x16x1, .f32⟩
  | 117 => ⟨S128x4x16x64, .f32⟩
  | 118 => ⟨S128x4x16x64, .f32⟩
  | 119 => ⟨S128x4x2x8x64, .f32⟩
  | 120 => ⟨S128x2x8x64x128, .f32⟩
  | 121 => ⟨S128x16x64x128, .f32⟩
  | 122 => ⟨S128x1x16, .f32⟩
  | 123 => ⟨S128x16, .f32⟩
  | 124 => ⟨S128x16, .f32⟩
  | 125 => ⟨S128x16x1x1, .f32⟩
  | 126 => ⟨S128x16x64x128, .f32⟩
  | 127 => ⟨S128x16x64x128, .f32⟩
  | _ => ⟨S512x4608, .f32⟩

abbrev hbmTy0_1 (i : Nat) : BufTy := match i % 128 with
  | 0 => ⟨S128x16x64x128, .f32⟩
  | 1 => ⟨S128x8x2x64x128, .f32⟩
  | 2 => ⟨S128x8x128x2x64, .f32⟩
  | 3 => ⟨S128x8x128x128, .f32⟩
  | _ => ⟨S512x4608, .f32⟩

abbrev hbmTy (i : Nat) : BufTy := match i / 128 with
  | 0 => hbmTy0_0 i
  | 1 => hbmTy0_1 i
  | _ => ⟨S512x4608, .f32⟩

abbrev bufTy : (tb : Table) → Fin (tcTables nBuf tb) → BufTy
  | .hbm, ⟨i, _⟩ => hbmTy i
  | _, _ => ⟨S512x4608, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_call0_v0 : Ref sig .tc := ⟨.hbm, 48, rfl⟩
abbrev main_call0_v1 : Ref sig .tc := ⟨.hbm, 49, rfl⟩
abbrev main_call0_cst : Ref sig .tc := ⟨.hbm, 50, rfl⟩
abbrev main_call0_v2 : Ref sig .tc := ⟨.hbm, 51, rfl⟩
abbrev main_call0_v3 : Ref sig .tc := ⟨.hbm, 52, rfl⟩
abbrev main_call0_cst_0 : Ref sig .tc := ⟨.hbm, 53, rfl⟩
abbrev main_call0_v4 : Ref sig .tc := ⟨.hbm, 54, rfl⟩
abbrev main_call0_v5 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_call1_cst : Ref sig .tc := ⟨.hbm, 65, rfl⟩
abbrev main_call1_v0 : Ref sig .tc := ⟨.hbm, 66, rfl⟩
abbrev main_call1_v1 : Ref sig .tc := ⟨.hbm, 67, rfl⟩
abbrev main_call1_v2 : Ref sig .tc := ⟨.hbm, 68, rfl⟩
abbrev main_call1_v3 : Ref sig .tc := ⟨.hbm, 69, rfl⟩
abbrev main_call1_v4 : Ref sig .tc := ⟨.hbm, 70, rfl⟩
abbrev main_call1_v5 : Ref sig .tc := ⟨.hbm, 71, rfl⟩
abbrev main_call1_v6 : Ref sig .tc := ⟨.hbm, 72, rfl⟩
abbrev main_call1_v7 : Ref sig .tc := ⟨.hbm, 73, rfl⟩
abbrev main_call1_v8 : Ref sig .tc := ⟨.hbm, 74, rfl⟩
abbrev main_call1_v9 : Ref sig .tc := ⟨.hbm, 75, rfl⟩
abbrev main_call1_v10 : Ref sig .tc := ⟨.hbm, 76, rfl⟩
abbrev main_call1_v11 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_cst_0 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_cst_1 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_cst_2 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_cst_3 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩

abbrev nD : Nat := 1
abbrev τ : Topo := Topo.v7x

variable {F : FTy → Type} [FloatOps F]
-- ==== KernelSsd.lean ====
abbrev S16384x4608 : Shape := ⟨2, ![16384, 4608]⟩
abbrev S4x1536 : Shape := ⟨2, ![4, 1536]⟩
abbrev S1536 : Shape := ⟨1, ![1536]⟩
abbrev S16 : Shape := ⟨1, ![16]⟩
abbrev S1024 : Shape := ⟨1, ![1024]⟩
abbrev S128x128x4608 : Shape := ⟨3, ![128, 128, 4608]⟩
abbrev S1x1536 : Shape := ⟨2, ![1, 1536]⟩
abbrev S_ : Shape := ⟨0, ![]⟩
abbrev S1x128 : Shape := ⟨2, ![1, 128]⟩
abbrev S1 : Shape := ⟨1, ![1]⟩
abbrev S2 : Shape := ⟨1, ![2]⟩
abbrev S1x1024 : Shape := ⟨2, ![1, 1024]⟩
abbrev S128x128x1024 : Shape := ⟨3, ![128, 128, 1024]⟩
abbrev S2x8x128x128 : Shape := ⟨4, ![2, 8, 128, 128]⟩
abbrev S1x128x1024 : Shape := ⟨3, ![1, 128, 1024]⟩
abbrev S1x128x512 : Shape := ⟨3, ![1, 128, 512]⟩
abbrev S1x128x128 : Shape := ⟨3, ![1, 128, 128]⟩
abbrev S1x8x128x128 : Shape := ⟨4, ![1, 8, 128, 128]⟩
abbrev S136x1536 : Shape := ⟨2, ![136, 1536]⟩
abbrev S8x128x128 : Shape := ⟨3, ![8, 128, 128]⟩
abbrev S128x1024 : Shape := ⟨2, ![128, 1024]⟩
abbrev S128x512 : Shape := ⟨2, ![128, 512]⟩
abbrev S128x1536 : Shape := ⟨2, ![128, 1536]⟩
abbrev S8x1536 : Shape := ⟨2, ![8, 1536]⟩
abbrev S128x128 : Shape := ⟨2, ![128, 128]⟩
abbrev S128x1 : Shape := ⟨2, ![128, 1]⟩
abbrev S1x1 : Shape := ⟨2, ![1, 1]⟩
abbrev S128 : Shape := ⟨1, ![128]⟩

abbrev nBuf : Space → Nat
  | .hbm => 36
  | .vmem => 21
  | .smem => 0
  | _ => 0

abbrev bufTy : (tb : Table) → Fin (tcTables nBuf tb) → BufTy
  | .hbm, ⟨0, _⟩ => ⟨S16384x4608, .f32⟩
  | .hbm, ⟨1, _⟩ => ⟨S4x1536, .f32⟩
  | .hbm, ⟨2, _⟩ => ⟨S1536, .f32⟩
  | .hbm, ⟨3, _⟩ => ⟨S16, .f32⟩
  | .hbm, ⟨4, _⟩ => ⟨S16, .f32⟩
  | .hbm, ⟨5, _⟩ => ⟨S16, .f32⟩
  | .hbm, ⟨6, _⟩ => ⟨S1024, .f32⟩
  | .hbm, ⟨7, _⟩ => ⟨S128x128x4608, .f32⟩
  | .hbm, ⟨8, _⟩ => ⟨S1x1536, .f32⟩
  | .hbm, ⟨9, _⟩ => ⟨S_, .f32⟩
  | .hbm, ⟨10, _⟩ => ⟨S1x128, .f32⟩
  | .hbm, ⟨11, _⟩ => ⟨S_, .i32⟩
  | .hbm, ⟨12, _⟩ => ⟨S1, .i32⟩
  | .hbm, ⟨13, _⟩ => ⟨S_, .i32⟩
  | .hbm, ⟨14, _⟩ => ⟨S1, .i32⟩
  | .hbm, ⟨15, _⟩ => ⟨S2, .i32⟩
  | .hbm, ⟨16, _⟩ => ⟨S1x128, .f32⟩
  | .hbm, ⟨17, _⟩ => ⟨S_, .f32⟩
  | .hbm, ⟨18, _⟩ => ⟨S1x128, .f32⟩
  | .hbm, ⟨19, _⟩ => ⟨S_, .i32⟩
  | .hbm, ⟨20, _⟩ => ⟨S1, .i32⟩
  | .hbm, ⟨21, _⟩ => ⟨S_, .i32⟩
  | .hbm, ⟨22, _⟩ => ⟨S1, .i32⟩
  | .hbm, ⟨23, _⟩ => ⟨S2, .i32⟩
  | .hbm, ⟨24, _⟩ => ⟨S1x128, .f32⟩
  | .hbm, ⟨25, _⟩ => ⟨S_, .f32⟩
  | .hbm, ⟨26, _⟩ => ⟨S1x128, .f32⟩
  | .hbm, ⟨27, _⟩ => ⟨S_, .i32⟩
  | .hbm, ⟨28, _⟩ => ⟨S1, .i32⟩
  | .hbm, ⟨29, _⟩ => ⟨S_, .i32⟩
  | .hbm, ⟨30, _⟩ => ⟨S1, .i32⟩
  | .hbm, ⟨31, _⟩ => ⟨S2, .i32⟩
  | .hbm, ⟨32, _⟩ => ⟨S1x128, .f32⟩
  | .hbm, ⟨33, _⟩ => ⟨S1x1024, .f32⟩
  | .hbm, ⟨34, _⟩ => ⟨S128x128x1024, .f32⟩
  | .hbm, ⟨35, _⟩ => ⟨S2x8x128x128, .f32⟩
  | .local _ .vmem, ⟨0, _⟩ => ⟨S1x128x1024, .f32⟩
  | .local _ .vmem, ⟨1, _⟩ => ⟨S1x128x1024, .f32⟩
  | .local _ .vmem, ⟨2, _⟩ => ⟨S1x128x1024, .f32⟩
  | .local _ .vmem, ⟨3, _⟩ => ⟨S1x128x1024, .f32⟩
  | .local _ .vmem, ⟨4, _⟩ => ⟨S1x128x512, .f32⟩
  | .local _ .vmem, ⟨5, _⟩ => ⟨S1x128x512, .f32⟩
  | .local _ .vmem, ⟨6, _⟩ => ⟨S1x128x128, .f32⟩
  | .local _ .vmem, ⟨7, _⟩ => ⟨S1x128x128, .f32⟩
  | .local _ .vmem, ⟨8, _⟩ => ⟨S4x1536, .f32⟩
  | .local _ .vmem, ⟨9, _⟩ => ⟨S1x1536, .f32⟩
  | .local _ .vmem, ⟨10, _⟩ => ⟨S1x128, .f32⟩
  | .local _ .vmem, ⟨11, _⟩ => ⟨S1x128, .f32⟩
  | .local _ .vmem, ⟨12, _⟩ => ⟨S1x128, .f32⟩
  | .local _ .vmem, ⟨13, _⟩ => ⟨S1x1024, .f32⟩
  | .local _ .vmem, ⟨14, _⟩ => ⟨S1x128x1024, .f32⟩
  | .local _ .vmem, ⟨15, _⟩ => ⟨S1x128x1024, .f32⟩
  | .local _ .vmem, ⟨16, _⟩ => ⟨S1x8x128x128, .f32⟩
  | .local _ .vmem, ⟨17, _⟩ => ⟨S1x8x128x128, .f32⟩
  | .local _ .vmem, ⟨18, _⟩ => ⟨S136x1536, .f32⟩
  | .local _ .vmem, ⟨19, _⟩ => ⟨S8x128x128, .f32⟩
  | .local _ .vmem, ⟨20, _⟩ => ⟨S128x1024, .f32⟩
  | _, _ => ⟨S16384x4608, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_c : Ref sig .tc := ⟨.hbm, 11, rfl⟩
abbrev main_v3 : Ref sig .tc := ⟨.hbm, 12, rfl⟩
abbrev main_c_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_c_2 : Ref sig .tc := ⟨.hbm, 19, rfl⟩
abbrev main_v8 : Ref sig .tc := ⟨.hbm, 20, rfl⟩
abbrev main_c_3 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_4 : Ref sig .tc := ⟨.hbm, 25, rfl⟩
abbrev main_v12 : Ref sig .tc := ⟨.hbm, 26, rfl⟩
abbrev main_c_5 : Ref sig .tc := ⟨.hbm, 27, rfl⟩
abbrev main_v13 : Ref sig .tc := ⟨.hbm, 28, rfl⟩
abbrev main_c_6 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18_0 : Ref sig .tc := ⟨.hbm, 34, rfl⟩
abbrev main_v18_1 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨2, ![2, 64], ![false, false]⟩

def k0_cond2 (i : grid0.Coords) : BitVec 1 :=
  let arg1 : BitVec 32 := BitVec.ofNat 32 (i 1).val
  let c63_i32 : BitVec 32 := 63#32
  let v963 : BitVec 1 := Scalar.cmpi .eq arg1 c63_i32
  let v964 : BitVec 32 := Scalar.extui v963
  let c0_i32_189 : BitVec 32 := 0#32
  let v965 : BitVec 1 := Scalar.cmpi .ne v964 c0_i32_189
  v965

def cc0_transform_0 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c1_i32 : BitVec 32 := 1#32
  let c0_i32_0 : BitVec 32 := 0#32
  ![v1.toNat, c0_i32.toNat, c1_i32.toNat]

def cc0_transform_2 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c4_i32 : BitVec 32 := 4#32
  let c0_i32_0 : BitVec 32 := 0#32
  ![v1.toNat, c0_i32.toNat, c4_i32.toNat]

def cc0_transform_3 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c34_i32 : BitVec 32 := 34#32
  let c0_i32_0 : BitVec 32 := 0#32
  ![v1.toNat, c0_i32.toNat, c34_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S4x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1536 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x128x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x8x128x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== ReferenceSsdIdeal.lean ====
abbrev S16384x4608 : Shape := ⟨2, ![16384, 4608]⟩
abbrev S4x1536 : Shape := ⟨2, ![4, 1536]⟩
abbrev S1536 : Shape := ⟨1, ![1536]⟩
abbrev S16 : Shape := ⟨1, ![16]⟩
abbrev S1024 : Shape := ⟨1, ![1024]⟩
abbrev S2x8192x4608 : Shape := ⟨3, ![2, 8192, 4608]⟩
abbrev S2x8192x1536 : Shape := ⟨3, ![2, 8192, 1536]⟩
abbrev S2x8192x16 : Shape := ⟨3, ![2, 8192, 16]⟩
abbrev S_ : Shape := ⟨0, ![]⟩
abbrev S2x3x1536 : Shape := ⟨3, ![2, 3, 1536]⟩
abbrev S2x8195x1536 : Shape := ⟨3, ![2, 8195, 1536]⟩
abbrev S1x1536 : Shape := ⟨2, ![1, 1536]⟩
abbrev S1x1x1536 : Shape := ⟨3, ![1, 1, 1536]⟩
abbrev S2x8192x1024 : Shape := ⟨3, ![2, 8192, 1024]⟩
abbrev S2x8192x256 : Shape := ⟨3, ![2, 8192, 256]⟩
abbrev S128x128x16x64 : Shape := ⟨4, ![128, 128, 16, 64]⟩
abbrev S128x128x2x128 : Shape := ⟨4, ![128, 128, 2, 128]⟩
abbrev S1x1x16 : Shape := ⟨3, ![1, 1, 16]⟩
abbrev S128x128x16 : Shape := ⟨3, ![128, 128, 16]⟩
abbrev S128x128x16x1 : Shape := ⟨4, ![128, 128, 16, 1]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x128x128x1 : Shape := ⟨4, ![1, 128, 128, 1]⟩
abbrev S128x1x128x16 : Shape := ⟨4, ![128, 1, 128, 16]⟩
abbrev S128x128x128x16 : Shape := ⟨4, ![128, 128, 128, 16]⟩
abbrev S128x1x16 : Shape := ⟨3, ![128, 1, 16]⟩
abbrev S128x128x2x8x64 : Shape := ⟨5, ![128, 128, 2, 8, 64]⟩
abbrev S128x2x8x64x128 : Shape := ⟨5, ![128, 2, 8, 64, 128]⟩
abbrev S2x64x16x64x128 : Shape := ⟨5, ![2, 64, 16, 64, 128]⟩
abbrev S64 : Shape := ⟨1, ![64]⟩
abbrev S128x16 : Shape := ⟨2, ![128, 16]⟩
abbrev S2x64x16 : Shape := ⟨3, ![2, 64, 16]⟩
abbrev S64x1 : Shape := ⟨2, ![64, 1]⟩
abbrev S1x64 : Shape := ⟨2, ![1, 64]⟩
abbrev S64x64 : Shape := ⟨2, ![64, 64]⟩
abbrev S1x64x64x1 : Shape := ⟨4, ![1, 64, 64, 1]⟩
abbrev S2x1x64x16 : Shape := ⟨4, ![2, 1, 64, 16]⟩
abbrev S2x64x64x16 : Shape := ⟨4, ![2, 64, 64, 16]⟩
abbrev S2x16x64x128 : Shape := ⟨4, ![2, 16, 64, 128]⟩
abbrev S2x8x2x64x128 : Shape := ⟨5, ![2, 8, 2, 64, 128]⟩
abbrev S2x8x128x2x64 : Shape := ⟨5, ![2, 8, 128, 2, 64]⟩
abbrev S2x8x128x128 : Shape := ⟨4, ![2, 8, 128, 128]⟩

abbrev nBuf : Space → Nat
  | .hbm => 136
  | .vmem => 0
  | .smem => 0
  | _ => 0

abbrev hbmTy0_0 (i : Nat) : BufTy := match i % 128 with
  | 0 => ⟨S16384x4608, .f32⟩
  | 1 => ⟨S4x1536, .f32⟩
  | 2 => ⟨S1536, .f32⟩
  | 3 => ⟨S16, .f32⟩
  | 4 => ⟨S16, .f32⟩
  | 5 => ⟨S16, .f32⟩
  | 6 => ⟨S1024, .f32⟩
  | 7 => ⟨S2x8192x4608, .f32⟩
  | 8 => ⟨S2x8192x1536, .f32⟩
  | 9 => ⟨S2x8192x16, .f32⟩
  | 10 => ⟨S_, .f32⟩
  | 11 => ⟨S2x3x1536, .f32⟩
  | 12 => ⟨S2x8195x1536, .f32⟩
  | 13 => ⟨S2x8192x1536, .f32⟩
  | 14 => ⟨S1x1536, .f32⟩
  | 15 => ⟨S1536, .f32⟩
  | 16 => ⟨S1x1x1536, .f32⟩
  | 17 => ⟨S2x8192x1536, .f32⟩
  | 18 => ⟨S2x8192x1536, .f32⟩
  | 19 => ⟨S_, .f32⟩
  | 20 => ⟨S2x8192x1536, .f32⟩
  | 21 => ⟨S2x8192x1536, .f32⟩
  | 22 => ⟨S2x8192x1536, .f32⟩
  | 23 => ⟨S1x1536, .f32⟩
  | 24 => ⟨S1536, .f32⟩
  | 25 => ⟨S1x1x1536, .f32⟩
  | 26 => ⟨S2x8192x1536, .f32⟩
  | 27 => ⟨S2x8192x1536, .f32⟩
  | 28 => ⟨S2x8192x1536, .f32⟩
  | 29 => ⟨S2x8192x1536, .f32⟩
  | 30 => ⟨S1x1536, .f32⟩
  | 31 => ⟨S1536, .f32⟩
  | 32 => ⟨S1x1x1536, .f32⟩
  | 33 => ⟨S2x8192x1536, .f32⟩
  | 34 => ⟨S2x8192x1536, .f32⟩
  | 35 => ⟨S2x8192x1536, .f32⟩
  | 36 => ⟨S2x8192x1536, .f32⟩
  | 37 => ⟨S1x1536, .f32⟩
  | 38 => ⟨S1536, .f32⟩
  | 39 => ⟨S1x1x1536, .f32⟩
  | 40 => ⟨S2x8192x1536, .f32⟩
  | 41 => ⟨S2x8192x1536, .f32⟩
  | 42 => ⟨S2x8192x1536, .f32⟩
  | 43 => ⟨S1x1x1536, .f32⟩
  | 44 => ⟨S2x8192x1536, .f32⟩
  | 45 => ⟨S2x8192x1536, .f32⟩
  | 46 => ⟨S2x8192x1536, .f32⟩
  | 47 => ⟨S2x8192x1536, .f32⟩
  | 48 => ⟨S_, .f32⟩
  | 49 => ⟨S2x8192x1536, .f32⟩
  | 50 => ⟨S2x8192x1536, .f32⟩
  | 51 => ⟨S_, .f32⟩
  | 52 => ⟨S2x8192x1536, .f32⟩
  | 53 => ⟨S2x8192x1536, .f32⟩
  | 54 => ⟨S2x8192x1536, .f32⟩
  | 55 => ⟨S2x8192x1024, .f32⟩
  | 56 => ⟨S2x8192x256, .f32⟩
  | 57 => ⟨S2x8192x256, .f32⟩
  | 58 => ⟨S128x128x16x64, .f32⟩
  | 59 => ⟨S128x128x2x128, .f32⟩
  | 60 => ⟨S1x1x16, .f32⟩
  | 61 => ⟨S2x8192x16, .f32⟩
  | 62 => ⟨S2x8192x16, .f32⟩
  | 63 => ⟨S_, .f32⟩
  | 64 => ⟨S2x8192x16, .f32⟩
  | 65 => ⟨S2x8192x16, .f32⟩
  | 66 => ⟨S2x8192x16, .f32⟩
  | 67 => ⟨S2x8192x16, .f32⟩
  | 68 => ⟨S2x8192x16, .i1⟩
  | 69 => ⟨S2x8192x16, .f32⟩
  | 70 => ⟨S2x8192x16, .f32⟩
  | 71 => ⟨S2x8192x16, .f32⟩
  | 72 => ⟨S2x8192x16, .f32⟩
  | 73 => ⟨S2x8192x16, .f32⟩
  | 74 => ⟨S2x8192x16, .f32⟩
  | 75 => ⟨S2x8192x16, .f32⟩
  | 76 => ⟨S2x8192x16, .f32⟩
  | 77 => ⟨S128x128x16, .f32⟩
  | 78 => ⟨S16, .f32⟩
  | 79 => ⟨S16, .f32⟩
  | 80 => ⟨S128x128x16x1, .f32⟩
  | 81 => ⟨S128x128x16x64, .f32⟩
  | 82 => ⟨S128x128x16x64, .f32⟩
  | 83 => ⟨S128, .i32⟩
  | 84 => ⟨S1x1x16, .f32⟩
  | 85 => ⟨S128x128x16, .f32⟩
  | 86 => ⟨S128x128x16, .f32⟩
  | 87 => ⟨S128x1, .i32⟩
  | 88 => ⟨S1x128, .i32⟩
  | 89 => ⟨S128x128, .i32⟩
  | 90 => ⟨S128x128, .i32⟩
  | 91 => ⟨S128x128, .i1⟩
  | 92 => ⟨S1x128x128x1, .i1⟩
  | 93 => ⟨S128x1x128x16, .f32⟩
  | 94 => ⟨S_, .f32⟩
  | 95 => ⟨S_, .f32⟩
  | 96 => ⟨S128x128x128x16, .i1⟩
  | 97 => ⟨S128x128x128x16, .f32⟩
  | 98 => ⟨S128x128x128x16, .f32⟩
  | 99 => ⟨S128x128x128x16, .f32⟩
  | 100 => ⟨S_, .f32⟩
  | 101 => ⟨S128x128x16, .f32⟩
  | 102 => ⟨S128x1x16, .f32⟩
  | 103 => ⟨S128x128x16, .f32⟩
  | 104 => ⟨S128x128x16, .f32⟩
  | 105 => ⟨S128x128x16, .f32⟩
  | 106 => ⟨S128x128x16x1, .f32⟩
  | 107 => ⟨S128x128x16x64, .f32⟩
  | 108 => ⟨S128x128x16x64, .f32⟩
  | 109 => ⟨S128x128x2x8x64, .f32⟩
  | 110 => ⟨S128x2x8x64x128, .f32⟩
  | 111 => ⟨S2x64x16x64x128, .f32⟩
  | 112 => ⟨S64, .i32⟩
  | 113 => ⟨S128x1x16, .f32⟩
  | 114 => ⟨S128x16, .f32⟩
  | 115 => ⟨S2x64x16, .f32⟩
  | 116 => ⟨S64x1, .i32⟩
  | 117 => ⟨S1x64, .i32⟩
  | 118 => ⟨S64x64, .i32⟩
  | 119 => ⟨S64x64, .i32⟩
  | 120 => ⟨S64x64, .i1⟩
  | 121 => ⟨S1x64x64x1, .i1⟩
  | 122 => ⟨S2x1x64x16, .f32⟩
  | 123 => ⟨S_, .f32⟩
  | 124 => ⟨S_, .f32⟩
  | 125 => ⟨S2x64x64x16, .i1⟩
  | 126 => ⟨S2x64x64x16, .f32⟩
  | 127 => ⟨S2x64x64x16, .f32⟩
  | _ => ⟨S16384x4608, .f32⟩

abbrev hbmTy0_1 (i : Nat) : BufTy := match i % 128 with
  | 0 => ⟨S2x64x64x16, .f32⟩
  | 1 => ⟨S_, .f32⟩
  | 2 => ⟨S2x64x16, .f32⟩
  | 3 => ⟨S2x64x16, .f32⟩
  | 4 => ⟨S2x16x64x128, .f32⟩
  | 5 => ⟨S2x8x2x64x128, .f32⟩
  | 6 => ⟨S2x8x128x2x64, .f32⟩
  | 7 => ⟨S2x8x128x128, .f32⟩
  | _ => ⟨S16384x4608, .f32⟩

abbrev hbmTy (i : Nat) : BufTy := match i / 128 with
  | 0 => hbmTy0_0 i
  | 1 => hbmTy0_1 i
  | _ => ⟨S16384x4608, .f32⟩

abbrev bufTy : (tb : Table) → Fin (tcTables nBuf tb) → BufTy
  | .hbm, ⟨i, _⟩ => hbmTy i
  | _, _ => ⟨S16384x4608, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_call0_v0 : Ref sig .tc := ⟨.hbm, 46, rfl⟩
abbrev main_call0_v1 : Ref sig .tc := ⟨.hbm, 47, rfl⟩
abbrev main_call0_cst : Ref sig .tc := ⟨.hbm, 48, rfl⟩
abbrev main_call0_v2 : Ref sig .tc := ⟨.hbm, 49, rfl⟩
abbrev main_call0_v3 : Ref sig .tc := ⟨.hbm, 50, rfl⟩
abbrev main_call0_cst_0 : Ref sig .tc := ⟨.hbm, 51, rfl⟩
abbrev main_call0_v4 : Ref sig .tc := ⟨.hbm, 52, rfl⟩
abbrev main_call0_v5 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_call1_cst : Ref sig .tc := ⟨.hbm, 63, rfl⟩
abbrev main_call1_v0 : Ref sig .tc := ⟨.hbm, 64, rfl⟩
abbrev main_call1_v1 : Ref sig .tc := ⟨.hbm, 65, rfl⟩
abbrev main_call1_v2 : Ref sig .tc := ⟨.hbm, 66, rfl⟩
abbrev main_call1_v3 : Ref sig .tc := ⟨.hbm, 67, rfl⟩
abbrev main_call1_v4 : Ref sig .tc := ⟨.hbm, 68, rfl⟩
abbrev main_call1_v5 : Ref sig .tc := ⟨.hbm, 69, rfl⟩
abbrev main_call1_v6 : Ref sig .tc := ⟨.hbm, 70, rfl⟩
abbrev main_call1_v7 : Ref sig .tc := ⟨.hbm, 71, rfl⟩
abbrev main_call1_v8 : Ref sig .tc := ⟨.hbm, 72, rfl⟩
abbrev main_call1_v9 : Ref sig .tc := ⟨.hbm, 73, rfl⟩
abbrev main_call1_v10 : Ref sig .tc := ⟨.hbm, 74, rfl⟩
abbrev main_call1_v11 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_cst_1 : Ref sig .tc := ⟨.hbm, 94, rfl⟩
abbrev main_call2_v0 : Ref sig .tc := ⟨.hbm, 95, rfl⟩
abbrev main_call2_v1 : Ref sig .tc := ⟨.hbm, 96, rfl⟩
abbrev main_call2_v2 : Ref sig .tc := ⟨.hbm, 97, rfl⟩
abbrev main_call2_v3 : Ref sig .tc := ⟨.hbm, 98, rfl⟩
abbrev main_v64 : Ref sig .tc := ⟨.hbm, 99, rfl⟩
abbrev main_cst_2 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_cst_3 : Ref sig .tc := ⟨.hbm, 123, rfl⟩
abbrev main_call3_v0 : Ref sig .tc := ⟨.hbm, 124, rfl⟩
abbrev main_call3_v1 : Ref sig .tc := ⟨.hbm, 125, rfl⟩
abbrev main_call3_v2 : Ref sig .tc := ⟨.hbm, 126, rfl⟩
abbrev main_call3_v3 : Ref sig .tc := ⟨.hbm, 127, rfl⟩
abbrev main_v87 : Ref sig .tc := ⟨.hbm, 128, rfl⟩
abbrev main_cst_4 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩

abbrev nD : Nat := 1
abbrev τ : Topo := Topo.v7x

variable {F : FTy → Type} [FloatOps F]
-- ==== Proof.MemValue.lean ====
/-
  The two projections of the memory: each of the four points (batch and layer) writes the product of its memory block with
  its layer's weights, and the two result arrays are the reference's einsums of the arguments.
-/
module

public import proofs.«01_k».proof.Defs
public import proofs.«01_k».proof.Proof.Gen.KernelMemIdeal.Value
public import proofs.«01_k».proof.Proof.Gen.ReferenceMemIdeal.Run
public import Idealize.ShloMosaic.Lib.Pipeline.ValueKit
public import Idealize.ShloMosaic.Lib.Quiescent

@[expose] public section

set_option maxRecDepth 16384

open Idealize.ShloMosaic Idealize.ShloMosaic.TcCoe Idealize.SL.Sem
open Idealize.ShloMosaic.Pipeline (Dat)

noncomputable section

namespace Cert.KernelMemIdeal.Gen

open Cert.KernelMemIdeal

variable (m : (ℓ : Loc nD τ sig) → Buf (Elt Ideal) ℓ)

/-- The reference's projection of the memory `x` by the two layers' weights `w`. -/
abbrev projected (w : FVec Ideal S2x1024x512 .f32) (x : FVec Ideal S2x256x1024 .f32) : FVec Ideal S2x2x256x512 .f32 :=
  transpose S2x2x256x512 [2, 0, 3, 1] (Host.dotGeneral Cert.ReferenceMemIdeal.dot_S2x1024x512_S2x256x1024_S2x512x2x256_1_2_02_01_n_n none w x)
    Cert.ReferenceMemIdeal.Gen.transposes_S2x512x2x256_S2x2x256x512_2_0_3_1

theorem idx : ∀ t : Fin cfg0.N, win0_0.index t = ![t.val / 2, 0, 0] ∧ win0_1.index t = ![t.val % 2, 0, 0]
    ∧ win0_2.index t = ![t.val % 2, 0, 0] ∧ win0_3.index t = ![t.val / 2, t.val % 2, 0, 0]
    ∧ win0_4.index t = ![t.val / 2, t.val % 2, 0, 0] ∧ t.val / 2 < 2 :=
  (by decide +kernel : ∀ t : Fin grid0.N, _)

theorem key_weight (c : Dev nD) (t : Fin cfg0.N) (k : Fin 1024) (e : Fin 512) :
    iblk m c 1 t (ix3 0 k e) = m ((c : Thread nD τ).loc main_arg1) (ix3 ⟨t.val % 2, Nat.mod_lt _ (by decide)⟩ k e) := by
  blk_simp [iblk, idx t]
  entry_read
  pointwise
  blk_ext [idx t]

theorem value_weight (c : Dev nD) (t : Fin cfg0.N) (k : Fin 1024) (e : Fin 512) :
    iblk m c 2 t (ix3 0 k e) = m ((c : Thread nD τ).loc main_arg2) (ix3 ⟨t.val % 2, Nat.mod_lt _ (by decide)⟩ k e) := by
  blk_simp [iblk, idx t]
  entry_read
  pointwise
  blk_ext [idx t]

theorem keys (c : Dev nD) : (dats m 0 c).arrAt 3 cfg0.N
    = projected (m ((c : Thread nD τ).loc main_arg1)) (m ((c : Thread nD τ).loc main_arg0)) := by
  refine (dats m 0 c).arrAt_eq_of_covers 3 _ (by decide +kernel) fun t _ y => ?_
  blk_simp
  rw [after0_3]
  frame_out
  pointwise [k0_pay2, k0_pay1, projected]
  refine Finset.sum_congr (M := EReal) rfl fun k _ => ?_
  refine (mul_comm _ _).trans (congrArg₂ (· * ·) ((key_weight m c t k (y 3)).trans ?_) ?_)
  · blk_ext [idx t]
  · blk_ext [iblk, V, idx t]

theorem values (c : Dev nD) : (dats m 0 c).arrAt 4 cfg0.N
    = projected (m ((c : Thread nD τ).loc main_arg2)) (m ((c : Thread nD τ).loc main_arg0)) := by
  refine (dats m 0 c).arrAt_eq_of_covers 4 _ (by decide +kernel) fun t _ y => ?_
  blk_simp
  rw [after0_4]
  frame_out
  pointwise [k0_pay3, k0_pay1, projected]
  refine Finset.sum_congr (M := EReal) rfl fun k _ => ?_
  refine (mul_comm _ _).trans (congrArg₂ (· * ·) ((value_weight m c t k (y 3)).trans ?_) ?_)
  · blk_ext [idx t]
  · blk_ext [iblk, V, idx t]

end Cert.KernelMemIdeal.Gen

namespace Cert.Proof

theorem quiescent_ReferenceMemIdeal : quiescent_ReferenceMemIdeal := fun m ρ _ =>
  (θ_run Cert.ReferenceMemIdeal.defs _ _).mono
    (fun r h => ⟨fun c => (h c).2.2, sem_eq_zero_of_no_sems (by decide) r.2⟩)
    (Cert.ReferenceMemIdeal.Value.run (F := Ideal) m ρ)

theorem algebraic_KernelMemIdeal_ReferenceMemIdeal : algebraic_KernelMemIdeal_ReferenceMemIdeal := by
  intro m ρ m' ρ' _ hagree
  refine ⟨_, _, Cert.KernelMemIdeal.Value.run_blocks (F := Ideal) m ρ, ?_⟩
  refine (θ_run Cert.ReferenceMemIdeal.defs _ _).mono
    (fun _ h c => ⟨(h c).1.trans ?_, (h c).2.1.trans ?_, (h c).2.2⟩) (Cert.ReferenceMemIdeal.Value.run (F := Ideal) m' ρ')
  all_goals obtain ⟨e0, e1, e2⟩ := hagree c
  · rw [e0, e1]
    exact (Cert.KernelMemIdeal.Gen.keys m c).symm
  · rw [e0, e2]
    exact (Cert.KernelMemIdeal.Gen.values m c).symm

end Cert.Proof
-- ==== Proof.TopTwo.lean ====
/-
  The two greatest of a row of eight scores, ties to the lower position. A stable descending sort puts them at its first
  two places (`topTwo_sortedFrom`); a maximum, then the least position that attains it, finds one of them (`sup_eq_of_first`,
  `minFold_eq_of_first`).
-/
module

public import Idealize.ShloMosaic.Lib.SortPrefix
public import Idealize.ShloMosaic.Lib.Pointwise
public import Idealize.ShloMosaic.Lib.SortNet.Extract

@[expose] public section

namespace Moe

open Idealize.ShloMosaic

/-- Position `s` holds the greatest entry, and no earlier position holds as great a one. -/
def IsFirst {n : Nat} (l : Fin n → EReal) (s : Fin n) : Prop :=
  ∀ e, e ≠ s → l e < l s ∨ (l e = l s ∧ s < e)

/-- Positions `s0` and `s1` hold the greatest and the second greatest entry, each the earliest that does. -/
structure TopTwo {n : Nat} (l : Fin n → EReal) (s0 s1 : Fin n) : Prop where
  ne : s1 ≠ s0
  fst : IsFirst l s0
  snd : ∀ e, e ≠ s0 → e ≠ s1 → l e < l s1 ∨ (l e = l s1 ∧ s1 < e)

/-- "Greater, or equal and earlier". -/
noncomputable def before {n : Nat} (l : Fin n → EReal) (a b : Fin n) : Bool := decide (l b < l a ∨ (l b = l a ∧ a < b))

theorem before_strict {n : Nat} (l : Fin n → EReal) : StrictTotalBefore (before l) where
  irrefl a := by simp [before]
  trans a b c hab hbc := by
    simp only [before, decide_eq_true_eq] at *
    rcases hab with hab | ⟨hab, hab'⟩ <;> rcases hbc with hbc | ⟨hbc, hbc'⟩
    · exact Or.inl (hbc.trans hab)
    · exact Or.inl (hbc ▸ hab)
    · exact Or.inl (hab ▸ hbc)
    · exact Or.inr ⟨hbc.trans hab, hab'.trans hbc'⟩
  total a b hne := by
    simp only [before, decide_eq_true_eq]
    rcases lt_trichotomy (l a) (l b) with h | h | h
    · exact Or.inr (Or.inl h)
    · rcases lt_or_gt_of_ne hne with h' | h'
      · exact Or.inl (Or.inr ⟨h.symm, h'⟩)
      · exact Or.inr (Or.inr ⟨h, h'⟩)
    · exact Or.inl (Or.inl h)

/-- The stable sort compares an element only with elements behind it in the list. -/
theorem stableSort_congr_of_pairwise {ι : Type} (R R' : ι → ι → Bool) (l : List ι)
    (h : l.Pairwise fun a b => R b a = R' b a) : stableSort R l = stableSort R' l := by
  induction l with
  | nil => rfl
  | cons a l ih =>
    rw [List.pairwise_cons] at h
    unfold stableSort
    rw [ih h.2]
    exact insertBefore_congr R R' a _ fun b hb => h.1 b ((perm_stableSort R' l).mem_iff.mp hb)

/-- Sorting by the entries alone, stably, is sorting by entry and then position. -/
theorem sortedFrom_eq_before {n : Nat} (l : Fin n → EReal) (R : Fin n → Fin n → Bool)
    (hR : ∀ a b, R a b = decide (l b < l a)) : sortedFrom R = sortedFrom (before l) := by
  have h : sortPositions n R = sortPositions n (before l) := by
    refine stableSort_congr_of_pairwise R (before l) _ ?_
    refine (List.pairwise_lt_finRange n).imp fun {a b} hab => ?_
    rw [hR]
    unfold before
    congr 1
    exact propext ⟨Or.inl, fun q => q.elim id fun q => absurd q.2 (not_lt.mpr hab.le)⟩
  funext k
  unfold sortedFrom
  rw [List.get_of_eq h]
  rfl

/-- The first two places of a stable descending sort. -/
theorem topTwo_sortedFrom (l : Fin 8 → EReal) (R : Fin 8 → Fin 8 → Bool)
    (hR : ∀ a b, R a b = decide (l b < l a)) : TopTwo l (sortedFrom R 0) (sortedFrom R 1) := by
  rw [sortedFrom_eq_before l R hR]
  have hB := before_strict l
  have inj := sortedFrom_injective (before l)
  have key : ∀ i j : Fin 8, i < j →
      l (sortedFrom (before l) j) < l (sortedFrom (before l) i) ∨
        (l (sortedFrom (before l) j) = l (sortedFrom (before l) i) ∧ sortedFrom (before l) i < sortedFrom (before l) j) := by
    intro i j hij
    have h := sortedFrom_noInversion (before l) (before l) (fun a b h => hB.asymm a b h) (fun _ _ h => h) hB.negTrans i j hij
    have hne : sortedFrom (before l) i ≠ sortedFrom (before l) j := fun q => hij.ne (inj q)
    rcases hB.total _ _ hne with q | q
    · simpa only [before, decide_eq_true_eq] using q
    · rw [h] at q; exact absurd q (by decide)
  refine ⟨fun q => absurd (inj q) (by decide), fun e he => ?_, fun e he he' => ?_⟩
  · obtain ⟨j, rfl⟩ := sortedFrom_surjective (before l) e
    exact key 0 j (Fin.pos_iff_ne_zero.mpr fun q => he (q ▸ rfl))
  · obtain ⟨j, rfl⟩ := sortedFrom_surjective (before l) e
    refine key 1 j ?_
    have h0 : j ≠ 0 := fun q => he (q ▸ rfl)
    have h1 : j ≠ 1 := fun q => he' (q ▸ rfl)
    omega

/-- The greatest entry is the one at the first greatest position. -/
theorem sup_eq_of_first {n : Nat} (l : Fin n → EReal) (s : Fin n) (h : IsFirst l s) : Finset.univ.sup l = l s := by
  refine le_antisymm (Finset.sup_le fun e _ => ?_) (Finset.le_sup (f := l) (Finset.mem_univ s))
  by_cases q : e = s
  · rw [q]
  · exact (h e q).elim le_of_lt fun q => q.1.le

/-- An entry equals the greatest only at the first greatest position or behind it. -/
theorem le_of_eq_first {n : Nat} {l : Fin n → EReal} {s e : Fin n} (h : IsFirst l s) (he : l e = l s) : s ≤ e := by
  by_cases q : e = s
  · exact q.ge
  · exact (h e q).elim (fun q => absurd he q.ne) fun q => q.2.le

/-- A running maximum from `⊥` ends at the first greatest entry. -/
theorem maxFold_eq_of_first {n : Nat} (l : Fin n → EReal) (s : Fin n) (h : IsFirst l s) :
    Finset.fold max ⊥ l Finset.univ = l s :=
  sup_eq_of_first l s h

/-- The least position whose entry is the greatest, as a signed word; the other positions read the word 128. -/
theorem minFold_eq_of_first (l : Fin 128 → EReal) (s : Fin 128) (h : IsFirst l s) :
    Finset.fold IntOp.minsi (2147483647#32) (fun j : Fin 128 => if l j = l s then BitVec.ofNat 32 j.val else 128#32)
      Finset.univ = BitVec.ofNat 32 s.val := by
  have hw : ∀ j : Fin 128, (BitVec.ofNat 32 j.val).toInt = (j.val : Int) := by decide +kernel
  apply BitVec.eq_of_toInt_eq
  have hom := Finset.fold_hom (op := IntOp.minsi) (op' := (min : Int → Int → Int)) (m := BitVec.toInt)
    (b := 2147483647#32) (f := fun j : Fin 128 => if l j = l s then BitVec.ofNat 32 j.val else 128#32)
    (s := Finset.univ) (fun a b => SortNet.toInt_minsi a b)
  rw [← hom, hw]
  refine le_antisymm ((Finset.fold_min_le _).mpr (Or.inr ⟨s, Finset.mem_univ s, ?_⟩))
    ((Finset.le_fold_min _).mpr ⟨?_, fun j _ => ?_⟩)
  · rw [if_pos rfl, hw]
  · have := s.isLt
    have h2 : (2147483647#32).toInt = 2147483647 := by decide
    omega
  · split
    · rename_i q
      rw [hw]
      exact_mod_cast le_of_eq_first h q
    · have := s.isLt
      have h2 : (128#32).toInt = 128 := by decide
      omega

end Moe
-- ==== Proof.Spec.lean ====
/-
  The layer in plain words over the extended reals, one row at a time: the RMS norm of the row, its eight scores, the gate of
  the two greatest scores, the SwiGLU experts, their gated sum added to the row, and the RMS norm of that.
-/
module

public import Idealize.ShloMosaic.Lib.Pointwise
public import proofs.«01_k».proof.Proof.TopTwo

@[expose] public section

namespace Moe

open Idealize.ShloMosaic

noncomputable section

/-- The row length as the constant of both programs. -/
def len : EReal := Ideal.ofBits .f32 0x44800000#32

/-- The norm's small constant, as both programs have it. -/
def eps : EReal := Ideal.ofBits .f32 0x358637BD#32

/-- The RMS norm of a row, scaled by `g`. -/
def normed (x g : Fin 1024 → EReal) (k : Fin 1024) : EReal :=
  x k * Ideal.rsqrt (Ideal.div (∑ j, x j * x j) len + eps) * g k

/-- The eight scores of a normed row. -/
def score (h : Fin 1024 → EReal) (w : Fin 1024 → Fin 8 → EReal) (e : Fin 8) : EReal := ∑ k, h k * w k e

/-- The gate of two chosen positions: the softmax of their two scores, zero elsewhere. -/
def pairGate (l : Fin 8 → EReal) (s0 s1 e : Fin 8) : EReal :=
  (if e = s0 then Ideal.div 1 (1 + Ideal.exp (l s1 - l s0)) else 0)
    + (if e = s1 then Ideal.div (Ideal.exp (l s1 - l s0)) (1 + Ideal.exp (l s1 - l s0)) else 0)

/-- The SwiGLU unit of one hidden position. -/
def unit (h wg wu : Fin 1024 → EReal) : EReal :=
  (∑ k, h k * wg k) * Ideal.div 1 (1 + Ideal.exp (-∑ k, h k * wg k)) * ∑ k, h k * wu k

/-- One expert's output at one position. -/
def expert (h : Fin 1024 → EReal) (wg wu : Fin 1024 → Fin 3584 → EReal) (wd : Fin 3584 → EReal) : EReal :=
  ∑ f, unit h (fun k => wg k f) (fun k => wu k f) * wd f

end

end Moe
-- ==== Proof.FfnValue.lean ====
/-
  The dense SwiGLU layer: over the seven tiles of the hidden axis a row block's accumulator takes in the tiles' products, and
  the last tile's point writes the row block plus the accumulator. The result array is the row plus the sum over the whole
  hidden axis.
-/
module

public import proofs.«01_k».proof.Proof.Gen.KernelFfnIdeal.Value
public import proofs.«01_k».proof.Proof.Spec
public import Idealize.ShloMosaic.Lib.Pipeline.ValueKit
public import Idealize.ShloMosaic.Lib.Pipeline.ReadBack

@[expose] public section

set_option maxRecDepth 16384

open Idealize.ShloMosaic Idealize.ShloMosaic.TcCoe Idealize.SL.Sem Moe
open Idealize.ShloMosaic.Pipeline (Dat)

namespace Cert.KernelFfnIdeal.Gen

open Cert.KernelFfnIdeal

noncomputable section

/-- The normed block. -/
theorem pay1_apply (a : Vec Ideal S512x1024 .f32) (b : Vec Ideal S1x1024 .f32) (i : Fin 512) (k : Fin 1024) :
    k0_pay1 a b (ix2 i k) = normed (fun j => a (ix2 i j)) (fun j => b (ix2 0 j)) k := by
  pointwise [k0_pay1]
  rfl

/-- The accumulator starts at zero. -/
theorem pay2_apply (i : Fin 512) (k : Fin 1024) : k0_pay2 (F := Ideal) (ix2 i k) = 0 := by
  pointwise [k0_pay2]

/-- One tile's products added to the accumulator. -/
theorem pay3_apply (h : Vec Ideal S512x1024 .bf16) (wg wu : Vec Ideal S1024x512 .bf16) (acc : Vec Ideal S512x1024 .f32)
    (wd : Vec Ideal S512x1024 .bf16) (i : Fin 512) (d : Fin 1024) :
    k0_pay3 (F := Ideal) h wg wu acc wd (ix2 i d)
      = acc (ix2 i d) + ∑ k : Fin 512, unit (fun x => h (ix2 i x)) (fun x => wg (ix2 x k)) (fun x => wu (ix2 x k)) * wd (ix2 k d) := by
  pointwise [k0_pay3]
  unfold unit
  simp only [zero_sub]

theorem pay4_apply (a b : Vec Ideal S512x1024 .f32) (i : Fin 512) (d : Fin 1024) :
    k0_pay4 a b (ix2 i d) = a (ix2 i d) + b (ix2 i d) := by
  pointwise [k0_pay4]

variable (m : (ℓ : Loc nD τ sig) → (ℓ : Loc nD τ sig).ty.Contents (Elt Ideal)) (c : Dev nD)

/-- The normed block of the row block a point belongs to. -/
def xnBlk (t : Fin cfg0.N) : FVec Ideal S512x1024 .bf16 := k0_pay1 (iblk m c 0 t) (iblk m c 1 t)

/-- The accumulator after a point, from the normed block and the accumulator before. -/
def accStep (t : Fin cfg0.N) (xn : FVec Ideal S512x1024 .bf16) (acc : FVec Ideal S512x1024 .f32) : FVec Ideal S512x1024 .f32 :=
  k0_pay3 xn (iblk m c 2 t) (iblk m c 3 t) acc (iblk m c 4 t)

theorem xn_first (t : Fin cfg0.N) (h0 : t.val % 7 = 0) : (outsAt0 m c t.val t.isLt).2.1 = xnBlk m c t := by
  rw [outsAt0_A m c t h0 (by omega)]
  frame_out
  rfl

theorem acc_first (t : Fin cfg0.N) (h0 : t.val % 7 = 0) :
    (outsAt0 m c t.val t.isLt).2.2 = accStep m c t (xnBlk m c t) (k0_pay2 (F := Ideal)) := by
  rw [outsAt0_A m c t h0 (by omega)]
  frame_out
  rfl

theorem xn_next (t : Fin cfg0.N) (h0 : ¬ t.val % 7 = 0) :
    (outsAt0 m c t.val t.isLt).2.1 = (outsAt0 m c (t.val - 1) (Nat.lt_of_le_of_lt (Nat.sub_le _ _) t.isLt)).2.1 := by
  by_cases h1 : t.val % 7 = 6
  · rw [outsAt0_C m c t h0 h1]
    unfold sout0_C_0
    rfl
  · rw [outsAt0_B m c t h0 h1]
    unfold sout0_B_0
    rfl

theorem acc_next (t : Fin cfg0.N) (h0 : ¬ t.val % 7 = 0) :
    (outsAt0 m c t.val t.isLt).2.2
      = accStep m c t (outsAt0 m c (t.val - 1) (Nat.lt_of_le_of_lt (Nat.sub_le _ _) t.isLt)).2.1
          (outsAt0 m c (t.val - 1) (Nat.lt_of_le_of_lt (Nat.sub_le _ _) t.isLt)).2.2 := by
  unfold accStep
  by_cases h1 : t.val % 7 = 6
  · rw [outsAt0_C m c t h0 h1]
    frame_out
    rw [read_unread_whole, read_unread_whole]
  · rw [outsAt0_B m c t h0 h1]
    frame_out
    rw [read_unread_whole, read_unread_whole]

theorem out_last (t : Fin cfg0.N) (h1 : t.val % 7 = 6) :
    (outsAt0 m c t.val t.isLt).1 = k0_pay4 (iblk m c 0 t) (outsAt0 m c t.val t.isLt).2.2 := by
  have h0 : ¬ t.val % 7 = 0 := by omega
  have e := acc_next m c t h0
  rw [e]
  clear e
  rw [outsAt0_C m c t h0 h1]
  frame_out
  unfold accStep
  rw [read_unread_whole, read_unread_whole]

/-- The windows' block indices at a grid point. -/
theorem idx : ∀ t : Fin cfg0.N, win0_0.index t = ![t.val / 7, 0] ∧ win0_1.index t = ![0, 0]
    ∧ win0_2.index t = ![0, t.val % 7] ∧ win0_3.index t = ![0, t.val % 7]
    ∧ win0_4.index t = ![t.val % 7, 0] ∧ win0_5.index t = ![t.val / 7, 0] :=
  (by decide +kernel : ∀ t : Fin grid0.N, _)

/-- The row of the whole array that row `i` of a point's block is. -/
def rowOf (t : Fin cfg0.N) (i : Fin 512) : Fin 16384 :=
  ⟨512 * (t.val / 7) + i.val, by have := t.isLt; have := i.isLt; have : cfg0.N = 224 := N_0; omega⟩

/-- Hidden position `k` of tile `a`. -/
def hidden (a : Fin 7) (k : Fin 512) : Fin 3584 := ⟨512 * a.val + k.val, by omega⟩

/-- The tile a point works on. -/
def tileOf (t : Fin cfg0.N) : Fin 7 := ⟨t.val % 7, Nat.mod_lt _ (by decide)⟩

theorem x_apply (t : Fin cfg0.N) (i : Fin 512) (j : Fin 1024) :
    iblk m c 0 t (ix2 i j) = m ((c : Thread nD τ).loc main_arg0) (ix2 (rowOf t i) j) := by
  unfold rowOf
  blk_ext [iblk, V, idx t]

theorem g_apply (t : Fin cfg0.N) (j : Fin 1024) :
    iblk m c 1 t (ix2 0 j) = m ((c : Thread nD τ).loc main_arg1) (ix1 j) := by
  blk_simp [iblk, idx t]
  entry_read
  pointwise
  blk_ext [idx t]

theorem wg_apply (t : Fin cfg0.N) (x : Fin 1024) (k : Fin 512) :
    iblk m c 2 t (ix2 x k) = m ((c : Thread nD τ).loc main_arg2) (ix2 x (hidden (tileOf t) k)) := by
  unfold hidden tileOf
  blk_simp [iblk, idx t]
  entry_read
  pointwise
  blk_ext [idx t]

theorem wu_apply (t : Fin cfg0.N) (x : Fin 1024) (k : Fin 512) :
    iblk m c 3 t (ix2 x k) = m ((c : Thread nD τ).loc main_arg3) (ix2 x (hidden (tileOf t) k)) := by
  unfold hidden tileOf
  blk_simp [iblk, idx t]
  entry_read
  pointwise
  blk_ext [idx t]

theorem wd_apply (t : Fin cfg0.N) (k : Fin 512) (d : Fin 1024) :
    iblk m c 4 t (ix2 k d) = m ((c : Thread nD τ).loc main_arg4) (ix2 (hidden (tileOf t) k) d) := by
  unfold hidden tileOf
  blk_simp [iblk, idx t]
  entry_read
  pointwise
  blk_ext [idx t]

theorem emb_apply (t : Fin cfg0.N) (i : Fin 512) (d : Fin 1024) :
    (win0_5.blk t).view.emb (ix2 i d) = ix2 (rowOf t i) d := by
  unfold rowOf
  blk_ext [idx t]

/-- The layer's five arguments. -/
def argX : FVec Ideal S16384x1024 .f32 := m ((c : Thread nD τ).loc main_arg0)
def argG : FVec Ideal S1024 .f32 := m ((c : Thread nD τ).loc main_arg1)
def argGate : FVec Ideal S1024x3584 .f32 := m ((c : Thread nD τ).loc main_arg2)
def argUp : FVec Ideal S1024x3584 .f32 := m ((c : Thread nD τ).loc main_arg3)
def argDown : FVec Ideal S3584x1024 .f32 := m ((c : Thread nD τ).loc main_arg4)

/-- Row `r`, normed. -/
def normRow (r : Fin 16384) : Fin 1024 → EReal :=
  normed (fun j => argX m c (ix2 r j)) (fun j => argG m c (ix1 j))

/-- Two points of one row block have the same rows. -/
theorem rowOf_pred (t : Fin cfg0.N) (h0 : ¬ t.val % 7 = 0) (i : Fin 512) :
    rowOf ⟨t.val - 1, Nat.lt_of_le_of_lt (Nat.sub_le _ _) t.isLt⟩ i = rowOf t i := by
  refine Fin.ext ?_
  show 512 * ((t.val - 1) / 7) + i.val = 512 * (t.val / 7) + i.val
  omega

theorem xnBlk_apply (t : Fin cfg0.N) (i : Fin 512) (k : Fin 1024) : xnBlk m c t (ix2 i k) = normRow m c (rowOf t i) k :=
  (pay1_apply _ _ i k).trans
    (congrFun (congrArg₂ normed (funext fun j => x_apply m c t i j) (funext fun j => g_apply m c t j)) k)

/-- The normed block at every point. -/
theorem xn_apply (n : Nat) : ∀ (hn : n < cfg0.N) (i : Fin 512) (k : Fin 1024),
    (outsAt0 m c n hn).2.1 (ix2 i k) = normRow m c (rowOf ⟨n, hn⟩ i) k := by
  induction n with
  | zero =>
    intro hn i k
    rw [xn_first m c ⟨0, hn⟩ rfl]
    exact xnBlk_apply m c _ i k
  | succ n ih =>
    intro hn i k
    by_cases h0 : (n + 1) % 7 = 0
    · rw [xn_first m c ⟨n + 1, hn⟩ h0]
      exact xnBlk_apply m c _ i k
    · rw [xn_next m c ⟨n + 1, hn⟩ h0, ← rowOf_pred ⟨n + 1, hn⟩ h0]
      exact ih _ i k

/-- What hidden position `f` gives to a row's position `d`. -/
def part (r : Fin 16384) (d : Fin 1024) (f : Fin 3584) : EReal :=
  unit (normRow m c r) (fun k => argGate m c (ix2 k f)) (fun k => argUp m c (ix2 k f)) * argDown m c (ix2 f d)

/-- What a point adds: its tile's part. -/
def term (t : Fin cfg0.N) (p : Fin 512 × Fin 1024) : EReal :=
  ∑ k : Fin 512, part m c (rowOf t p.1) p.2 (hidden (tileOf t) k)

/-- One accumulation step adds the point's term. -/
theorem accStep_apply (t : Fin cfg0.N) (xn : FVec Ideal S512x1024 .bf16) (acc : FVec Ideal S512x1024 .f32)
    (i : Fin 512) (d : Fin 1024) (hx : ∀ k, xn (ix2 i k) = normRow m c (rowOf t i) k) :
    accStep m c t xn acc (ix2 i d) = acc (ix2 i d) + term m c t (i, d) := by
  unfold accStep term
  refine (pay3_apply _ _ _ _ _ i d).trans (congrArg (acc (ix2 i d) + ·) ?_)
  refine Finset.sum_congr rfl fun k _ => ?_
  unfold part
  refine congrArg₂ (· * ·) ?_ (wd_apply m c t k d)
  rw [show (fun x => xn (ix2 i x)) = normRow m c (rowOf t i) from funext hx]
  exact congrArg₂ (unit (normRow m c (rowOf t i))) (funext fun x => wg_apply m c t x k) (funext fun x => wu_apply m c t x k)

/-- The accumulator at the last point of a row block is the sum of its seven terms. -/
theorem acc_last (t : Fin cfg0.N) (h1 : t.val % 7 = 6) (p : Fin 512 × Fin 1024) :
    (outsAt0 m c t.val t.isLt).2.2 (ix2 p.1 p.2)
      = 0 + ∑ s : Fin 7, term m c ⟨7 * (t.val / 7) + s.val, Pipeline.run_point_lt_of_flush t h1 s⟩ p := by
  refine Pipeline.eq_sum_fin_of_reset_step_apply_of_flush
    (fun n hn (p : Fin 512 × Fin 1024) => (outsAt0 m c n hn).2.2 (ix2 p.1 p.2)) 7 (fun _ => 0) (term m c) ?_ ?_ t h1 p
  · intro u h0 q
    show (outsAt0 m c u.val u.isLt).2.2 (ix2 q.1 q.2) = _
    rw [acc_first m c u h0]
    refine (accStep_apply m c u _ _ q.1 q.2 fun k => xnBlk_apply m c u q.1 k).trans ?_
    rw [pay2_apply]
  · intro u h0 q
    show (outsAt0 m c u.val u.isLt).2.2 (ix2 q.1 q.2) = _
    rw [acc_next m c u h0]
    refine accStep_apply m c u _ _ q.1 q.2 fun k => ?_
    rw [← rowOf_pred u h0]
    exact xn_apply m c _ _ q.1 k

/-- The accumulator at the last point of a row block, over the whole hidden axis. -/
theorem acc_hidden (t : Fin cfg0.N) (h1 : t.val % 7 = 6) (i : Fin 512) (d : Fin 1024) :
    (outsAt0 m c t.val t.isLt).2.2 (ix2 i d) = ∑ f : Fin 3584, part m c (rowOf t i) d f := by
  refine (acc_last m c t h1 (i, d)).trans ?_
  rw [zero_add]
  have h : ∑ f : Fin 3584, part m c (rowOf t i) d f = ∑ a : Fin 7, ∑ k : Fin 512, part m c (rowOf t i) d (hidden a k) := by
    refine Eq.symm (Fin.sum_mul_add_congr fun a k hl => ?_)
    refine congrArg _ (Fin.ext ?_)
    show 512 * a.val + k.val = a.val * 512 + k.val
    omega
  rw [h]
  refine Finset.sum_congr rfl fun s _ => ?_
  have hlt := Pipeline.run_point_lt_of_flush t h1 s
  have hR : rowOf ⟨7 * (t.val / 7) + s.val, hlt⟩ i = rowOf t i := by
    refine Fin.ext ?_
    show 512 * ((7 * (t.val / 7) + s.val) / 7) + i.val = 512 * (t.val / 7) + i.val
    have := s.isLt
    omega
  have hT : tileOf ⟨7 * (t.val / 7) + s.val, hlt⟩ = s := by
    refine Fin.ext ?_
    show (7 * (t.val / 7) + s.val) % 7 = s.val
    have := s.isLt
    omega
  unfold term
  simp only [hR, hT]

/-- The result array. -/
theorem result_eq (G : FVec Ideal S16384x1024 .f32)
    (hG : ∀ r d, G (ix2 r d) = argX m c (ix2 r d) + ∑ f : Fin 3584, part m c r d f) :
    (dats m 0 c).arrAt 5 cfg0.N = G := by
  refine (dats m 0 c).arrAt_eq_of_covers 5 _ (by decide +kernel) fun t hf y => ?_
  blk_simp
  rw [after0_5]
  obtain ⟨i, d, rfl⟩ : ∃ (i : Fin 512) (d : Fin 1024), y = ix2 i d := ⟨y 0, y 1, eq_ix2 (n0 := 512) (n1 := 1024) y⟩
  have h1 := (flush0_5 t).mp hf
  refine Eq.trans ?_ ((hG _ _).symm.trans (congrArg G (emb_apply t i d).symm))
  rw [out_last m c t h1]
  exact (pay4_apply _ _ i d).trans (congrArg₂ (· + ·) (x_apply m c t i d) (acc_hidden m c t h1 i d))

end

end Cert.KernelFfnIdeal.Gen
-- ==== Proof.FfnLayer.lean ====
/-
  The dense SwiGLU layer's claim: the reference's term at an entry is the row plus the sum over the hidden axis, which is what
  the kernel leaves.
-/
module

public import proofs.«01_k».proof.Defs
public import proofs.«01_k».proof.Proof.FfnValue
public import proofs.«01_k».proof.Proof.Gen.ReferenceFfnIdeal.Run
public import Idealize.ShloMosaic.Lib.Quiescent

@[expose] public section

set_option maxRecDepth 16384

open Idealize.ShloMosaic Idealize.ShloMosaic.TcCoe Idealize.SL.Sem Moe

noncomputable section

namespace Cert.ReferenceFfnIdeal.Value

open Cert.ReferenceFfnIdeal Cert.ReferenceFfnIdeal.Gen

variable (x : FVec Ideal S16384x1024 .f32) (g : FVec Ideal S1024 .f32) (wg wu : FVec Ideal S1024x3584 .f32)
  (wd : FVec Ideal S3584x1024 .f32)

/-- The reference's normed rows. -/
def rowsNormed : FVec Ideal S16384x1024 .f32 :=
  mulf (mulf x (broadcastInDim S16384x1024 ![0, 1] bcast_S16384x1_S16384x1024_0_1 (Host.rsqrt (addf (Host.divf (broadcastInDim S16384x1 ![0] bcast_S16384_S16384x1_0 (Host.reduceAdd (mulf x x) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (broadcastInDim S1x1024 ![1] bcast_S1024_S1x1024_1 g))

theorem rowsNormed_apply (r : Fin 16384) (k : Fin 1024) :
    rowsNormed x g (ix2 r k) = normed (fun j => x (ix2 r j)) (fun j => g (ix1 j)) k := by
  pointwise [rowsNormed]
  rfl

/-- The reference's layer. -/
def layer : FVec Ideal S16384x1024 .f32 :=
  addf x (Host.dotGeneral dot_S16384x3584_S3584x1024_S16384x1024_1_0_0_1_n_n none (mulf (mulf (Host.dotGeneral dot_S16384x1024_S1024x3584_S16384x3584_1_0_0_1_n_n none (rowsNormed x g) wg) (Host.divf (broadcastInDim S16384x3584 ![] bcast_S_S16384x3584 (constant S_ .f32 0x3F800000#32)) (addf (broadcastInDim S16384x3584 ![] bcast_S_S16384x3584 (constant S_ .f32 0x3F800000#32)) (Host.exp (Host.negf (Host.dotGeneral dot_S16384x1024_S1024x3584_S16384x3584_1_0_0_1_n_n none (rowsNormed x g) wg)))))) (Host.dotGeneral dot_S16384x1024_S1024x3584_S16384x3584_1_0_0_1_n_n none (rowsNormed x g) wu)) wd)

theorem layer_apply (r : Fin 16384) (d : Fin 1024) :
    layer x g wg wu wd (ix2 r d) = x (ix2 r d) + ∑ f : Fin 3584,
      unit (normed (fun j => x (ix2 r j)) (fun j => g (ix1 j))) (fun k => wg (ix2 k f)) (fun k => wu (ix2 k f)) * wd (ix2 f d) := by
  pointwise [layer]
  simp only [rowsNormed_apply]
  rfl

end Cert.ReferenceFfnIdeal.Value

namespace Cert.Proof

theorem quiescent_ReferenceFfnIdeal : quiescent_ReferenceFfnIdeal := fun m ρ _ =>
  (θ_run Cert.ReferenceFfnIdeal.defs _ _).mono
    (fun r h => ⟨fun c => (h c).2, sem_eq_zero_of_no_sems (by decide) r.2⟩)
    (Cert.ReferenceFfnIdeal.Value.run (F := Ideal) m ρ)

theorem algebraic_KernelFfnIdeal_ReferenceFfnIdeal : algebraic_KernelFfnIdeal_ReferenceFfnIdeal := by
  intro m ρ m' ρ' _ hagree
  refine ⟨_, Cert.KernelFfnIdeal.Value.run_blocks (F := Ideal) m ρ, ?_⟩
  refine (θ_run Cert.ReferenceFfnIdeal.defs _ _).mono
    (fun _ h c => ⟨(h c).1.trans ?_, (h c).2⟩) (Cert.ReferenceFfnIdeal.Value.run (F := Ideal) m' ρ')
  obtain ⟨e0, e1, e2, e3, e4⟩ := hagree c
  rw [e0, e1, e2, e3, e4]
  exact (Cert.KernelFfnIdeal.Gen.result_eq m c (Cert.ReferenceFfnIdeal.Value.layer _ _ _ _ _)
    fun r d => Cert.ReferenceFfnIdeal.Value.layer_apply _ _ _ _ _ r d).symm

end Cert.Proof
-- ==== Proof.InSpec.lean ====
/-
  The in-projection's columns: z and xBC come first, then queries, keys and values, then the step sizes and the gates, then
  zero columns. The weights have the step sizes before the queries.
-/
module

public import proofs.«01_k».proof.Proof.Spec

@[expose] public section

namespace Moe

open Idealize.ShloMosaic

noncomputable section

/-- Where column `c` of the projection is among the weights' columns; a zero column is sent outside of them. -/
def source (c : Nat) : Nat := if c < 2560 then c else if c < 4352 then c + 16 else if c < 4368 then c - 1792 else c

/-- The weight of column `c`: zero for the columns past the weights. -/
def weight (w : Fin 1024 → Fin 4416 → EReal) (c : Nat) (k : Fin 1024) : EReal :=
  if h : source c < 4416 then w k ⟨source c, h⟩ else 0

theorem weight_eq (w : Fin 1024 → Fin 4416 → EReal) (c : Nat) (k : Fin 1024) (s : Fin 4416) (h : s.val = source c) :
    weight w c k = w k s := by
  unfold weight
  rw [dif_pos (h ▸ s.isLt)]
  exact congrArg _ (Fin.ext h.symm)

theorem weight_zero (w : Fin 1024 → Fin 4416 → EReal) (c : Nat) (k : Fin 1024) (h : 4416 ≤ c) : weight w c k = 0 := by
  unfold weight source
  rw [dif_neg (by split_ifs <;> omega)]

/-- A choice equals `r` when both sides do. -/
theorem choice_eq {α : Type} {p : Prop} [Decidable p] {a : p → α} {b : ¬p → α} {r : α} (ha : ∀ h, a h = r)
    (hb : ∀ h, b h = r) : (if h : p then a h else b h) = r := by
  split
  · exact ha _
  · exact hb _

/-- The projection of a normed row. -/
def projected (h : Fin 1024 → EReal) (w : Fin 1024 → Fin 4416 → EReal) (c : Nat) : EReal := ∑ k, h k * weight w c k

theorem projected_eq (h : Fin 1024 → EReal) (w : Fin 1024 → Fin 4416 → EReal) (c : Nat) (s : Fin 4416)
    (hs : s.val = source c) : projected h w c = ∑ k, h k * w k s :=
  Finset.sum_congr rfl fun k _ => congrArg _ (weight_eq w c k s hs)

theorem projected_zero (h : Fin 1024 → EReal) (w : Fin 1024 → Fin 4416 → EReal) (c : Nat) (hc : 4416 ≤ c) :
    projected h w c = 0 := by
  unfold projected
  simp only [weight_zero w c _ hc, mul_zero, Finset.sum_const_zero]

end

end Moe
-- ==== Proof.InValue.lean ====
/-
  The in-projection of the prompt: the first of a row block's nine points norms the rows, the others keep them, and every
  point writes the product with its tile of the reordered weights.
-/
module

public import proofs.«01_k».proof.Proof.Gen.KernelInIdeal.Value
public import proofs.«01_k».proof.Proof.InSpec
public import Idealize.ShloMosaic.Lib.Pipeline.ValueKit
public import Idealize.ShloMosaic.Lib.Pipeline.ReadBack

@[expose] public section

set_option maxRecDepth 16384

open Idealize.ShloMosaic Idealize.ShloMosaic.TcCoe Idealize.SL.Sem Moe
open Idealize.ShloMosaic.Pipeline (Dat)

namespace Cert.KernelInIdeal.Gen

open Cert.KernelInIdeal

noncomputable section

/-- The normed block. -/
theorem pay1_apply (a : Vec Ideal S512x1024 .f32) (b : Vec Ideal S1x1024 .f32) (i : Fin 512) (k : Fin 1024) :
    k0_pay1 a b (ix2 i k) = normed (fun j => a (ix2 i j)) (fun j => b (ix2 0 j)) k := by
  pointwise [k0_pay1]
  rfl

/-- A tile's product. -/
theorem pay2_apply (h : Vec Ideal S512x1024 .bf16) (w : Vec Ideal S1024x512 .bf16) (i d : Fin 512) :
    k0_pay2 (F := Ideal) h w (ix2 i d) = ∑ k : Fin 1024, h (ix2 i k) * w (ix2 k d) := by
  pointwise [k0_pay2]

variable (m : (ℓ : Loc nD τ sig) → (ℓ : Loc nD τ sig).ty.Contents (Elt Ideal)) (c : Dev nD)

theorem xn_first (t : Fin cfg0.N) (h0 : t.val % 9 = 0) :
    (outsAt0 m c t.val t.isLt).2 = k0_pay1 (iblk m c 0 t) (iblk m c 1 t) := by
  rw [outsAt0_A m c t h0]
  frame_out

theorem xn_next (t : Fin cfg0.N) (h0 : ¬ t.val % 9 = 0) :
    (outsAt0 m c t.val t.isLt).2 = (outsAt0 m c (t.val - 1) (Nat.lt_of_le_of_lt (Nat.sub_le _ _) t.isLt)).2 := by
  rw [outsAt0_B m c t h0]
  unfold sout0_B_0
  rfl

/-- Every point writes its tile's product. -/
theorem out_eq (t : Fin cfg0.N) :
    (outsAt0 m c t.val t.isLt).1 = k0_pay2 (outsAt0 m c t.val t.isLt).2 (iblk m c 2 t) := by
  by_cases h0 : t.val % 9 = 0
  · have e := xn_first m c t h0
    rw [e]
    clear e
    rw [outsAt0_A m c t h0]
    frame_out
  · have e := xn_next m c t h0
    rw [e]
    clear e
    rw [outsAt0_B m c t h0]
    frame_out
    rw [read_unread_whole]

/-- The windows' block indices at a grid point. -/
theorem idx : ∀ t : Fin cfg0.N, win0_0.index t = ![t.val / 9, 0] ∧ win0_1.index t = ![0, 0]
    ∧ win0_2.index t = ![0, t.val % 9] ∧ win0_3.index t = ![t.val / 9, t.val % 9] :=
  (by decide +kernel : ∀ t : Fin grid0.N, _)

/-- The row and the column of the whole array that a point's block entry is. -/
def rowOf (t : Fin cfg0.N) (i : Fin 512) : Fin 16384 :=
  ⟨512 * (t.val / 9) + i.val, by have := t.isLt; have := i.isLt; have : cfg0.N = 288 := N_0; omega⟩

def colOf (t : Fin cfg0.N) (d : Fin 512) : Fin 4608 :=
  ⟨512 * (t.val % 9) + d.val, by have := Nat.mod_lt t.val (show 0 < 9 by decide); have := d.isLt; omega⟩

/-- Row `r` of the input. -/
def inputRow (r : Fin 16384) (j : Fin 1024) : EReal :=
  (show FVec Ideal S2x8192x1024 .f32 from m ((c : Thread nD τ).loc main_arg0))
    (ix3 (⟨r.val / 8192, by omega⟩ : Fin 2) (⟨r.val % 8192, Nat.mod_lt _ (by decide)⟩ : Fin 8192) j)

/-- Row `r`, normed. -/
def normRow (r : Fin 16384) : Fin 1024 → EReal :=
  normed (inputRow m c r) fun j => (show FVec Ideal S1024 .f32 from m ((c : Thread nD τ).loc main_arg1)) (ix1 j)

/-- The weights. -/
def weights (k : Fin 1024) (s : Fin 4416) : EReal :=
  (show FVec Ideal S1024x4416 .f32 from m ((c : Thread nD τ).loc main_arg2)) (ix2 k s)

theorem x_apply (t : Fin cfg0.N) (i : Fin 512) (j : Fin 1024) : iblk m c 0 t (ix2 i j) = inputRow m c (rowOf t i) j := by
  unfold rowOf inputRow
  blk_simp [iblk, idx t]
  simp only [V, List.flatten_cons, List.flatten_nil, List.append_nil, hostOps0, hostOps0_1, hostOps0_2, List.cons_append, List.nil_append]
  entry_read
  pointwise
  blk_ext [idx t]

theorem g_apply (t : Fin cfg0.N) (j : Fin 1024) :
    iblk m c 1 t (ix2 0 j) = m ((c : Thread nD τ).loc main_arg1) (ix1 j) := by
  blk_simp [iblk, idx t]
  simp only [V, List.flatten_cons, List.flatten_nil, List.append_nil, hostOps0, hostOps0_1, hostOps0_2, List.cons_append, List.nil_append]
  entry_read
  pointwise
  blk_ext [idx t]

/-- The reordered weights with their zero columns. -/
def reordered (w : FVec Ideal S1024x4416 .f32) : FVec Ideal S1024x4608 .bf16 :=
  truncf .bf16 (pad S1024x4608 ![0, 0] ![0, 192] ![0, 0]
    (concatenate S1024x4416 1 [⟨S1024x2560, extractStridedSlice S1024x2560 ![0, 0] w slices_S1024x4416_S1024x2560_0_0⟩,
      ⟨S1024x1792, extractStridedSlice S1024x1792 ![0, 2576] w slices_S1024x4416_S1024x1792_0_2576⟩,
      ⟨S1024x16, extractStridedSlice S1024x16 ![0, 2560] w slices_S1024x4416_S1024x16_0_2560⟩,
      ⟨S1024x48, extractStridedSlice S1024x48 ![0, 4368] w slices_S1024x4416_S1024x48_0_4368⟩]
      concatenates_S1024x2560_S1024x1792_S1024x16_S1024x48_S1024x4416_d1)
    (sitofp .f32 (constantI S_ 32 0#32)) pads_S1024x4416_S1024x4608_000_01920 h_S_) bitsLt_bf16_f32

theorem reordered_apply (w : FVec Ideal S1024x4416 .f32) (k : Fin 1024) (d : Fin 4608) :
    reordered w (ix2 k d) = weight (fun k s => w (ix2 k s)) d.val k := by
  have at_ : ∀ s : Fin 4416, s.val = source d.val → w (ix2 k s) = weight (fun k s => w (ix2 k s)) d.val k :=
    fun s h => (weight_eq (fun k s => w (ix2 k s)) d.val k s h).symm
  pointwise [reordered]
  by_cases h : d.val < 4416
  · rw [dif_pos h]
    split_ifs <;> refine at_ _ ?_ <;> unfold source <;> dsimp only <;> split_ifs <;> omega
  · rw [dif_neg h, weight_zero _ _ _ (by omega)]
    show (((0#32).toInt : ℝ) : EReal) = 0
    simp

theorem V_v7 : V m c main_v7 = reordered (m ((c : Thread nD τ).loc main_arg2)) := by
  simp only [V, List.flatten_cons, List.flatten_nil, List.append_nil, hostOps0, hostOps0_1, hostOps0_2, List.cons_append,
    List.nil_append]
  after_results
  unfold reordered
  rfl

theorem w_apply (t : Fin cfg0.N) (k : Fin 1024) (d : Fin 512) :
    iblk m c 2 t (ix2 k d) = weight (weights m c) (colOf t d).val k := by
  refine Eq.trans ?_ (reordered_apply (m ((c : Thread nD τ).loc main_arg2)) k (colOf t d))
  rw [← V_v7]
  unfold colOf
  blk_ext [iblk, idx t]

theorem emb_apply (t : Fin cfg0.N) (i d : Fin 512) : (win0_3.blk t).view.emb (ix2 i d) = ix2 (rowOf t i) (colOf t d) := by
  unfold rowOf colOf
  blk_ext [idx t]

/-- Two points of one row block have the same rows. -/
theorem rowOf_pred (t : Fin cfg0.N) (h0 : ¬ t.val % 9 = 0) (i : Fin 512) :
    rowOf ⟨t.val - 1, Nat.lt_of_le_of_lt (Nat.sub_le _ _) t.isLt⟩ i = rowOf t i := by
  refine Fin.ext ?_
  show 512 * ((t.val - 1) / 9) + i.val = 512 * (t.val / 9) + i.val
  omega

/-- The normed block at every point. -/
theorem xn_apply (n : Nat) : ∀ (hn : n < cfg0.N) (i : Fin 512) (k : Fin 1024),
    (outsAt0 m c n hn).2 (ix2 i k) = normRow m c (rowOf ⟨n, hn⟩ i) k := by
  have first : ∀ (t : Fin cfg0.N) (h0 : t.val % 9 = 0) (i : Fin 512) (k : Fin 1024),
      (outsAt0 m c t.val t.isLt).2 (ix2 i k) = normRow m c (rowOf t i) k := fun t h0 i k => by
    rw [xn_first m c t h0]
    exact (pay1_apply _ _ i k).trans
      (congrFun (congrArg₂ normed (funext fun j => x_apply m c t i j) (funext fun j => g_apply m c t j)) k)
  induction n with
  | zero => exact fun hn i k => first ⟨0, hn⟩ rfl i k
  | succ n ih =>
    intro hn i k
    by_cases h0 : (n + 1) % 9 = 0
    · exact first ⟨n + 1, hn⟩ h0 i k
    · rw [xn_next m c ⟨n + 1, hn⟩ h0, ← rowOf_pred ⟨n + 1, hn⟩ h0]
      exact ih _ i k

/-- The result array. -/
theorem result_eq (G : FVec Ideal S16384x4608 .f32)
    (hG : ∀ (r : Fin 16384) (d : Fin 4608), G (ix2 r d) = projected (normRow m c r) (weights m c) d.val) :
    (dats m 0 c).arrAt 3 cfg0.N = G := by
  refine (dats m 0 c).arrAt_eq_of_covers 3 _ (by decide +kernel) fun t hf y => ?_
  blk_simp
  rw [after0_3]
  obtain ⟨i, d, rfl⟩ : ∃ (i d : Fin 512), y = ix2 i d := ⟨y 0, y 1, eq_ix2 (n0 := 512) (n1 := 512) y⟩
  refine Eq.trans ?_ ((hG _ _).symm.trans (congrArg G (emb_apply t i d).symm))
  rw [out_eq m c t]
  exact (pay2_apply _ _ i d).trans
    (Finset.sum_congr rfl fun k _ => congrArg₂ (· * ·) (xn_apply m c t.val t.isLt i k) (w_apply m c t k d))

end

end Cert.KernelInIdeal.Gen
-- ==== Proof.InLayer.lean ====
/-
  The in-projection of the prompt, the claim: the reference's term at an entry is the projection of the normed row by the
  column's weight, which is what the kernel leaves.
-/
module

public import proofs.«01_k».proof.Defs
public import proofs.«01_k».proof.Proof.InValue
public import proofs.«01_k».proof.Proof.Gen.ReferenceInIdeal.Run
public import Idealize.ShloMosaic.Lib.Quiescent

@[expose] public section

set_option maxRecDepth 16384

open Idealize.ShloMosaic Idealize.ShloMosaic.TcCoe Idealize.SL.Sem Moe

noncomputable section

namespace Cert.ReferenceInIdeal.Value

open Cert.ReferenceInIdeal Cert.ReferenceInIdeal.Gen

variable (x : FVec Ideal S2x8192x1024 .f32) (g : FVec Ideal S1024 .f32) (w : FVec Ideal S1024x4416 .f32)

/-- The reference's normed rows. -/
def rowsNormed : FVec Ideal S2x8192x1024 .f32 :=
  mulf (mulf x (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf x x) (constant S_ .f32 0x00000000#32) reducesTo_S2x8192x1024_S2x8192_d2 h_S_)) (broadcastInDim S2x8192x1 ![] bcast_S_S2x8192x1 (constant S_ .f32 0x44800000#32))) (broadcastInDim S2x8192x1 ![] bcast_S_S2x8192x1 (constant S_ .f32 0x358637BD#32)))))) (broadcastInDim S2x8192x1024 ![0, 1, 2] bcast_S1x1x1024_S2x8192x1024_0_1_2 (broadcastInDim S1x1x1024 ![2] bcast_S1024_S1x1x1024_2 g))

theorem rowsNormed_apply (a : Fin 2) (b : Fin 8192) (k : Fin 1024) :
    rowsNormed x g (ix3 a b k) = normed (fun j => x (ix3 a b j)) (fun j => g (ix1 j)) k := by
  pointwise [rowsNormed]
  rfl

/-- Their projection, in the order of the weights' columns. -/
def columns : FVec Ideal S2x8192x4416 .f32 :=
  Host.dotGeneral dot_S2x8192x1024_S1024x4416_S2x8192x4416_2_0_01_1_n_n none (rowsNormed x g) w

theorem columns_apply (a : Fin 2) (b : Fin 8192) (s : Fin 4416) (d : Nat) (h : s.val = source d) :
    columns x g w (ix3 a b s) = projected (normed (fun j => x (ix3 a b j)) (fun j => g (ix1 j))) (fun k s => w (ix2 k s)) d := by
  rw [projected_eq _ _ d s h]
  pointwise [columns]
  simp only [rowsNormed_apply]

/-- The reference's projection. -/
def layer : FVec Ideal S16384x4608 .f32 :=
  shapeCast S16384x4608 ((concatenate S2x8192x4608 2 [⟨S2x8192x1024, ((extractStridedSlice S2x8192x1024 ![0, 0, 0] (columns x g w) slices_S2x8192x4416_S2x8192x1024_0_0_0))⟩,
    ⟨S2x8192x1536, ((extractStridedSlice S2x8192x1536 ![0, 0, 1024] (columns x g w) slices_S2x8192x4416_S2x8192x1536_0_0_1024))⟩,
    ⟨S2x8192x1024, ((extractStridedSlice S2x8192x1024 ![0, 0, 2576] (columns x g w) slices_S2x8192x4416_S2x8192x1024_0_0_2576))⟩,
    ⟨S2x8192x128, ((extractStridedSlice S2x8192x128 ![0, 0, 3600] (columns x g w) slices_S2x8192x4416_S2x8192x128_0_0_3600))⟩,
    ⟨S2x8192x128, ((extractStridedSlice S2x8192x128 ![0, 0, 3728] (columns x g w) slices_S2x8192x4416_S2x8192x128_0_0_3728))⟩,
    ⟨S2x8192x128, ((extractStridedSlice S2x8192x128 ![0, 0, 3856] (columns x g w) slices_S2x8192x4416_S2x8192x128_0_0_3856))⟩,
    ⟨S2x8192x128, ((extractStridedSlice S2x8192x128 ![0, 0, 3984] (columns x g w) slices_S2x8192x4416_S2x8192x128_0_0_3984))⟩,
    ⟨S2x8192x128, ((extractStridedSlice S2x8192x128 ![0, 0, 4112] (columns x g w) slices_S2x8192x4416_S2x8192x128_0_0_4112))⟩,
    ⟨S2x8192x128, ((extractStridedSlice S2x8192x128 ![0, 0, 4240] (columns x g w) slices_S2x8192x4416_S2x8192x128_0_0_4240))⟩,
    ⟨S2x8192x16, ((extractStridedSlice S2x8192x16 ![0, 0, 2560] (columns x g w) slices_S2x8192x4416_S2x8192x16_0_0_2560))⟩,
    ⟨S2x8192x48, ((extractStridedSlice S2x8192x48 ![0, 0, 4368] (columns x g w) slices_S2x8192x4416_S2x8192x48_0_0_4368))⟩,
    ⟨S2x8192x192, ((broadcastInDim S2x8192x192 ![] bcast_S_S2x8192x192 (constant S_ .f32 0x00000000#32)))⟩] concatenates_S2x8192x1024_S2x8192x1536_S2x8192x1024_S2x8192x128_S2x8192x128_S2x8192x128_S2x8192x128_S2x8192x128_S2x8192x128_S2x8192x16_S2x8192x48_S2x8192x192_S2x8192x4608_d2)) shapeCasts_S2x8192x4608_S16384x4608

theorem layer_apply (r : Fin 16384) (d : Fin 4608) :
    layer x g w (ix2 r d) = projected (normed (fun j => x (ix3 (⟨r.val / 8192, by omega⟩ : Fin 2)
      (⟨r.val % 8192, Nat.mod_lt _ (by decide)⟩ : Fin 8192) j)) (fun j => g (ix1 j))) (fun k s => w (ix2 k s)) d.val := by
  pointwise [layer]
  repeat' refine choice_eq (fun _ => ?_) (fun _ => ?_)
  all_goals first
    | (refine columns_apply x g w _ _ _ _ ?_
       unfold source
       dsimp only
       split_ifs <;> omega)
    | exact (projected_zero _ _ _ (by omega)).symm

end Cert.ReferenceInIdeal.Value

namespace Cert.Proof

theorem quiescent_ReferenceInIdeal : quiescent_ReferenceInIdeal := fun m ρ _ =>
  (θ_run Cert.ReferenceInIdeal.defs _ _).mono
    (fun r h => ⟨fun c => (h c).2, sem_eq_zero_of_no_sems (by decide) r.2⟩)
    (Cert.ReferenceInIdeal.Value.run (F := Ideal) m ρ)

theorem algebraic_KernelInIdeal_ReferenceInIdeal : algebraic_KernelInIdeal_ReferenceInIdeal := by
  intro m ρ m' ρ' _ hagree
  refine ⟨_, Cert.KernelInIdeal.Value.run_blocks (F := Ideal) m ρ, ?_⟩
  refine (θ_run Cert.ReferenceInIdeal.defs _ _).mono
    (fun _ h c => ⟨(h c).1.trans ?_, (h c).2⟩) (Cert.ReferenceInIdeal.Value.run (F := Ideal) m' ρ')
  obtain ⟨e0, e1, e2⟩ := hagree c
  unfold Cert.ReferenceInIdeal.Value.res_main_v27
  rw [e0, e1, e2]
  exact (Cert.KernelInIdeal.Gen.result_eq m c (Cert.ReferenceInIdeal.Value.layer _ _ _)
    fun r d => Cert.ReferenceInIdeal.Value.layer_apply _ _ _ r d).symm

end Cert.Proof
-- ==== Proof.InSampleValue.lean ====
/-
  The in-projection of the sample: the first of a row block's nine points norms the rows, the others keep them, and every
  point writes the product with its tile of the reordered weights.
-/
module

public import proofs.«01_k».proof.Proof.Gen.KernelInSampleIdeal.Value
public import proofs.«01_k».proof.Proof.InSpec
public import Idealize.ShloMosaic.Lib.Pipeline.ValueKit
public import Idealize.ShloMosaic.Lib.Pipeline.ReadBack

@[expose] public section

set_option maxRecDepth 16384

open Idealize.ShloMosaic Idealize.ShloMosaic.TcCoe Idealize.SL.Sem Moe
open Idealize.ShloMosaic.Pipeline (Dat)

namespace Cert.KernelInSampleIdeal.Gen

open Cert.KernelInSampleIdeal

noncomputable section

/-- The normed block. -/
theorem pay1_apply (a : Vec Ideal S512x1024 .f32) (b : Vec Ideal S1x1024 .f32) (i : Fin 512) (k : Fin 1024) :
    k0_pay1 a b (ix2 i k) = normed (fun j => a (ix2 i j)) (fun j => b (ix2 0 j)) k := by
  pointwise [k0_pay1]
  rfl

/-- A tile's product. -/
theorem pay2_apply (h : Vec Ideal S512x1024 .bf16) (w : Vec Ideal S1024x512 .bf16) (i d : Fin 512) :
    k0_pay2 (F := Ideal) h w (ix2 i d) = ∑ k : Fin 1024, h (ix2 i k) * w (ix2 k d) := by
  pointwise [k0_pay2]

variable (m : (ℓ : Loc nD τ sig) → (ℓ : Loc nD τ sig).ty.Contents (Elt Ideal)) (c : Dev nD)

theorem xn_first (t : Fin cfg0.N) (h0 : t.val % 9 = 0) :
    (outsAt0 m c t.val t.isLt).2 = k0_pay1 (iblk m c 0 t) (iblk m c 1 t) := by
  rw [outsAt0_A m c t h0]
  frame_out

theorem xn_next (t : Fin cfg0.N) (h0 : ¬ t.val % 9 = 0) :
    (outsAt0 m c t.val t.isLt).2 = (outsAt0 m c (t.val - 1) (Nat.lt_of_le_of_lt (Nat.sub_le _ _) t.isLt)).2 := by
  rw [outsAt0_B m c t h0]
  unfold sout0_B_0
  rfl

/-- Every point writes its tile's product. -/
theorem out_eq (t : Fin cfg0.N) :
    (outsAt0 m c t.val t.isLt).1 = k0_pay2 (outsAt0 m c t.val t.isLt).2 (iblk m c 2 t) := by
  by_cases h0 : t.val % 9 = 0
  · have e := xn_first m c t h0
    rw [e]
    clear e
    rw [outsAt0_A m c t h0]
    frame_out
  · have e := xn_next m c t h0
    rw [e]
    clear e
    rw [outsAt0_B m c t h0]
    frame_out
    rw [read_unread_whole]

/-- The windows' block indices at a grid point. -/
theorem idx : ∀ t : Fin cfg0.N, win0_0.index t = ![t.val / 9, 0] ∧ win0_1.index t = ![0, 0]
    ∧ win0_2.index t = ![0, t.val % 9] ∧ win0_3.index t = ![t.val / 9, t.val % 9] :=
  (by decide +kernel : ∀ t : Fin grid0.N, _)

/-- The row and the column of the whole array that a point's block entry is. -/
def rowOf (t : Fin cfg0.N) (i : Fin 512) : Fin 512 :=
  ⟨512 * (t.val / 9) + i.val, by have := t.isLt; have := i.isLt; have : cfg0.N = 9 := N_0; omega⟩

def colOf (t : Fin cfg0.N) (d : Fin 512) : Fin 4608 :=
  ⟨512 * (t.val % 9) + d.val, by have := Nat.mod_lt t.val (show 0 < 9 by decide); have := d.isLt; omega⟩

/-- Row `r` of the input. -/
def inputRow (r : Fin 512) (j : Fin 1024) : EReal :=
  (show FVec Ideal S128x4x1024 .f32 from m ((c : Thread nD τ).loc main_arg0))
    (ix3 (⟨r.val / 4, by omega⟩ : Fin 128) (⟨r.val % 4, Nat.mod_lt _ (by decide)⟩ : Fin 4) j)

/-- Row `r`, normed. -/
def normRow (r : Fin 512) : Fin 1024 → EReal :=
  normed (inputRow m c r) fun j => (show FVec Ideal S1024 .f32 from m ((c : Thread nD τ).loc main_arg1)) (ix1 j)

/-- The weights. -/
def weights (k : Fin 1024) (s : Fin 4416) : EReal :=
  (show FVec Ideal S1024x4416 .f32 from m ((c : Thread nD τ).loc main_arg2)) (ix2 k s)

theorem x_apply (t : Fin cfg0.N) (i : Fin 512) (j : Fin 1024) : iblk m c 0 t (ix2 i j) = inputRow m c (rowOf t i) j := by
  unfold rowOf inputRow
  blk_simp [iblk, idx t]
  simp only [V, List.flatten_cons, List.flatten_nil, List.append_nil, hostOps0, hostOps0_1, hostOps0_2, List.cons_append, List.nil_append]
  entry_read
  pointwise
  blk_ext [idx t]

theorem g_apply (t : Fin cfg0.N) (j : Fin 1024) :
    iblk m c 1 t (ix2 0 j) = m ((c : Thread nD τ).loc main_arg1) (ix1 j) := by
  blk_simp [iblk, idx t]
  simp only [V, List.flatten_cons, List.flatten_nil, List.append_nil, hostOps0, hostOps0_1, hostOps0_2, List.cons_append, List.nil_append]
  entry_read
  pointwise
  blk_ext [idx t]

/-- The reordered weights with their zero columns. -/
def reordered (w : FVec Ideal S1024x4416 .f32) : FVec Ideal S1024x4608 .bf16 :=
  truncf .bf16 (pad S1024x4608 ![0, 0] ![0, 192] ![0, 0]
    (concatenate S1024x4416 1 [⟨S1024x2560, extractStridedSlice S1024x2560 ![0, 0] w slices_S1024x4416_S1024x2560_0_0⟩,
      ⟨S1024x1792, extractStridedSlice S1024x1792 ![0, 2576] w slices_S1024x4416_S1024x1792_0_2576⟩,
      ⟨S1024x16, extractStridedSlice S1024x16 ![0, 2560] w slices_S1024x4416_S1024x16_0_2560⟩,
      ⟨S1024x48, extractStridedSlice S1024x48 ![0, 4368] w slices_S1024x4416_S1024x48_0_4368⟩]
      concatenates_S1024x2560_S1024x1792_S1024x16_S1024x48_S1024x4416_d1)
    (sitofp .f32 (constantI S_ 32 0#32)) pads_S1024x4416_S1024x4608_000_01920 h_S_) bitsLt_bf16_f32

theorem reordered_apply (w : FVec Ideal S1024x4416 .f32) (k : Fin 1024) (d : Fin 4608) :
    reordered w (ix2 k d) = weight (fun k s => w (ix2 k s)) d.val k := by
  have at_ : ∀ s : Fin 4416, s.val = source d.val → w (ix2 k s) = weight (fun k s => w (ix2 k s)) d.val k :=
    fun s h => (weight_eq (fun k s => w (ix2 k s)) d.val k s h).symm
  pointwise [reordered]
  by_cases h : d.val < 4416
  · rw [dif_pos h]
    split_ifs <;> refine at_ _ ?_ <;> unfold source <;> dsimp only <;> split_ifs <;> omega
  · rw [dif_neg h, weight_zero _ _ _ (by omega)]
    show (((0#32).toInt : ℝ) : EReal) = 0
    simp

theorem V_v7 : V m c main_v7 = reordered (m ((c : Thread nD τ).loc main_arg2)) := by
  simp only [V, List.flatten_cons, List.flatten_nil, List.append_nil, hostOps0, hostOps0_1, hostOps0_2, List.cons_append,
    List.nil_append]
  after_results
  unfold reordered
  rfl

theorem w_apply (t : Fin cfg0.N) (k : Fin 1024) (d : Fin 512) :
    iblk m c 2 t (ix2 k d) = weight (weights m c) (colOf t d).val k := by
  refine Eq.trans ?_ (reordered_apply (m ((c : Thread nD τ).loc main_arg2)) k (colOf t d))
  rw [← V_v7]
  unfold colOf
  blk_ext [iblk, idx t]

theorem emb_apply (t : Fin cfg0.N) (i d : Fin 512) : (win0_3.blk t).view.emb (ix2 i d) = ix2 (rowOf t i) (colOf t d) := by
  unfold rowOf colOf
  blk_ext [idx t]

/-- Two points of one row block have the same rows. -/
theorem rowOf_pred (t : Fin cfg0.N) (h0 : ¬ t.val % 9 = 0) (i : Fin 512) :
    rowOf ⟨t.val - 1, Nat.lt_of_le_of_lt (Nat.sub_le _ _) t.isLt⟩ i = rowOf t i := by
  refine Fin.ext ?_
  show 512 * ((t.val - 1) / 9) + i.val = 512 * (t.val / 9) + i.val
  omega

/-- The normed block at every point. -/
theorem xn_apply (n : Nat) : ∀ (hn : n < cfg0.N) (i : Fin 512) (k : Fin 1024),
    (outsAt0 m c n hn).2 (ix2 i k) = normRow m c (rowOf ⟨n, hn⟩ i) k := by
  have first : ∀ (t : Fin cfg0.N) (h0 : t.val % 9 = 0) (i : Fin 512) (k : Fin 1024),
      (outsAt0 m c t.val t.isLt).2 (ix2 i k) = normRow m c (rowOf t i) k := fun t h0 i k => by
    rw [xn_first m c t h0]
    exact (pay1_apply _ _ i k).trans
      (congrFun (congrArg₂ normed (funext fun j => x_apply m c t i j) (funext fun j => g_apply m c t j)) k)
  induction n with
  | zero => exact fun hn i k => first ⟨0, hn⟩ rfl i k
  | succ n ih =>
    intro hn i k
    by_cases h0 : (n + 1) % 9 = 0
    · exact first ⟨n + 1, hn⟩ h0 i k
    · rw [xn_next m c ⟨n + 1, hn⟩ h0, ← rowOf_pred ⟨n + 1, hn⟩ h0]
      exact ih _ i k

/-- The result array. -/
theorem result_eq (G : FVec Ideal S512x4608 .f32)
    (hG : ∀ (r : Fin 512) (d : Fin 4608), G (ix2 r d) = projected (normRow m c r) (weights m c) d.val) :
    (dats m 0 c).arrAt 3 cfg0.N = G := by
  refine (dats m 0 c).arrAt_eq_of_covers 3 _ (by decide +kernel) fun t hf y => ?_
  blk_simp
  rw [after0_3]
  obtain ⟨i, d, rfl⟩ : ∃ (i d : Fin 512), y = ix2 i d := ⟨y 0, y 1, eq_ix2 (n0 := 512) (n1 := 512) y⟩
  refine Eq.trans ?_ ((hG _ _).symm.trans (congrArg G (emb_apply t i d).symm))
  rw [out_eq m c t]
  exact (pay2_apply _ _ i d).trans
    (Finset.sum_congr rfl fun k _ => congrArg₂ (· * ·) (xn_apply m c t.val t.isLt i k) (w_apply m c t k d))

end

end Cert.KernelInSampleIdeal.Gen
-- ==== Proof.InSampleLayer.lean ====
/-
  The in-projection of the sample, the claim: the reference's term at an entry is the projection of the normed row by the
  column's weight, which is what the kernel leaves.
-/
module

public import proofs.«01_k».proof.Defs
public import proofs.«01_k».proof.Proof.InSampleValue
public import proofs.«01_k».proof.Proof.Gen.ReferenceInSampleIdeal.Run
public import Idealize.ShloMosaic.Lib.Quiescent

@[expose] public section

set_option maxRecDepth 16384

open Idealize.ShloMosaic Idealize.ShloMosaic.TcCoe Idealize.SL.Sem Moe

noncomputable section

namespace Cert.ReferenceInSampleIdeal.Value

open Cert.ReferenceInSampleIdeal Cert.ReferenceInSampleIdeal.Gen

variable (x : FVec Ideal S128x4x1024 .f32) (g : FVec Ideal S1024 .f32) (w : FVec Ideal S1024x4416 .f32)

/-- The reference's normed rows. -/
def rowsNormed : FVec Ideal S128x4x1024 .f32 :=
  mulf (mulf x (broadcastInDim S128x4x1024 ![0, 1, 2] bcast_S128x4x1_S128x4x1024_0_1_2 (Host.rsqrt (addf (Host.divf (broadcastInDim S128x4x1 ![0, 1] bcast_S128x4_S128x4x1_0_1 (Host.reduceAdd (mulf x x) (constant S_ .f32 0x00000000#32) reducesTo_S128x4x1024_S128x4_d2 h_S_)) (broadcastInDim S128x4x1 ![] bcast_S_S128x4x1 (constant S_ .f32 0x44800000#32))) (broadcastInDim S128x4x1 ![] bcast_S_S128x4x1 (constant S_ .f32 0x358637BD#32)))))) (broadcastInDim S128x4x1024 ![0, 1, 2] bcast_S1x1x1024_S128x4x1024_0_1_2 (broadcastInDim S1x1x1024 ![2] bcast_S1024_S1x1x1024_2 g))

theorem rowsNormed_apply (a : Fin 128) (b : Fin 4) (k : Fin 1024) :
    rowsNormed x g (ix3 a b k) = normed (fun j => x (ix3 a b j)) (fun j => g (ix1 j)) k := by
  pointwise [rowsNormed]
  rfl

/-- Their projection, in the order of the weights' columns. -/
def columns : FVec Ideal S128x4x4416 .f32 :=
  Host.dotGeneral dot_S128x4x1024_S1024x4416_S128x4x4416_2_0_01_1_n_n none (rowsNormed x g) w

theorem columns_apply (a : Fin 128) (b : Fin 4) (s : Fin 4416) (d : Nat) (h : s.val = source d) :
    columns x g w (ix3 a b s) = projected (normed (fun j => x (ix3 a b j)) (fun j => g (ix1 j))) (fun k s => w (ix2 k s)) d := by
  rw [projected_eq _ _ d s h]
  pointwise [columns]
  simp only [rowsNormed_apply]

/-- The reference's projection. -/
def layer : FVec Ideal S512x4608 .f32 :=
  shapeCast S512x4608 ((concatenate S128x4x4608 2 [⟨S128x4x1024, ((extractStridedSlice S128x4x1024 ![0, 0, 0] (columns x g w) slices_S128x4x4416_S128x4x1024_0_0_0))⟩,
    ⟨S128x4x1536, ((extractStridedSlice S128x4x1536 ![0, 0, 1024] (columns x g w) slices_S128x4x4416_S128x4x1536_0_0_1024))⟩,
    ⟨S128x4x1024, ((extractStridedSlice S128x4x1024 ![0, 0, 2576] (columns x g w) slices_S128x4x4416_S128x4x1024_0_0_2576))⟩,
    ⟨S128x4x128, ((extractStridedSlice S128x4x128 ![0, 0, 3600] (columns x g w) slices_S128x4x4416_S128x4x128_0_0_3600))⟩,
    ⟨S128x4x128, ((extractStridedSlice S128x4x128 ![0, 0, 3728] (columns x g w) slices_S128x4x4416_S128x4x128_0_0_3728))⟩,
    ⟨S128x4x128, ((extractStridedSlice S128x4x128 ![0, 0, 3856] (columns x g w) slices_S128x4x4416_S128x4x128_0_0_3856))⟩,
    ⟨S128x4x128, ((extractStridedSlice S128x4x128 ![0, 0, 3984] (columns x g w) slices_S128x4x4416_S128x4x128_0_0_3984))⟩,
    ⟨S128x4x128, ((extractStridedSlice S128x4x128 ![0, 0, 4112] (columns x g w) slices_S128x4x4416_S128x4x128_0_0_4112))⟩,
    ⟨S128x4x128, ((extractStridedSlice S128x4x128 ![0, 0, 4240] (columns x g w) slices_S128x4x4416_S128x4x128_0_0_4240))⟩,
    ⟨S128x4x16, ((extractStridedSlice S128x4x16 ![0, 0, 2560] (columns x g w) slices_S128x4x4416_S128x4x16_0_0_2560))⟩,
    ⟨S128x4x48, ((extractStridedSlice S128x4x48 ![0, 0, 4368] (columns x g w) slices_S128x4x4416_S128x4x48_0_0_4368))⟩,
    ⟨S128x4x192, ((broadcastInDim S128x4x192 ![] bcast_S_S128x4x192 (constant S_ .f32 0x00000000#32)))⟩] concatenates_S128x4x1024_S128x4x1536_S128x4x1024_S128x4x128_S128x4x128_S128x4x128_S128x4x128_S128x4x128_S128x4x128_S128x4x16_S128x4x48_S128x4x192_S128x4x4608_d2)) shapeCasts_S128x4x4608_S512x4608

theorem layer_apply (r : Fin 512) (d : Fin 4608) :
    layer x g w (ix2 r d) = projected (normed (fun j => x (ix3 (⟨r.val / 4, by omega⟩ : Fin 128)
      (⟨r.val % 4, Nat.mod_lt _ (by decide)⟩ : Fin 4) j)) (fun j => g (ix1 j))) (fun k s => w (ix2 k s)) d.val := by
  pointwise [layer]
  repeat' refine choice_eq (fun _ => ?_) (fun _ => ?_)
  all_goals first
    | (refine columns_apply x g w _ _ _ _ ?_
       unfold source
       dsimp only
       split_ifs <;> omega)
    | exact (projected_zero _ _ _ (by omega)).symm

end Cert.ReferenceInSampleIdeal.Value

namespace Cert.Proof

theorem quiescent_ReferenceInSampleIdeal : quiescent_ReferenceInSampleIdeal := fun m ρ _ =>
  (θ_run Cert.ReferenceInSampleIdeal.defs _ _).mono
    (fun r h => ⟨fun c => (h c).2, sem_eq_zero_of_no_sems (by decide) r.2⟩)
    (Cert.ReferenceInSampleIdeal.Value.run (F := Ideal) m ρ)

theorem algebraic_KernelInSampleIdeal_ReferenceInSampleIdeal : algebraic_KernelInSampleIdeal_ReferenceInSampleIdeal := by
  intro m ρ m' ρ' _ hagree
  refine ⟨_, Cert.KernelInSampleIdeal.Value.run_blocks (F := Ideal) m ρ, ?_⟩
  refine (θ_run Cert.ReferenceInSampleIdeal.defs _ _).mono
    (fun _ h c => ⟨(h c).1.trans ?_, (h c).2⟩) (Cert.ReferenceInSampleIdeal.Value.run (F := Ideal) m' ρ')
  obtain ⟨e0, e1, e2⟩ := hagree c
  unfold Cert.ReferenceInSampleIdeal.Value.res_main_v27
  rw [e0, e1, e2]
  exact (Cert.KernelInSampleIdeal.Gen.result_eq m c (Cert.ReferenceInSampleIdeal.Value.layer _ _ _)
    fun r d => Cert.ReferenceInSampleIdeal.Value.layer_apply _ _ _ r d).symm

end Cert.Proof
-- ==== Proof.PrepSpec.lean ====
/-
  What the preparation of the projected rows must deliver: the scaled queries by group and head, the block means of the
  compression keys and values, the other keys and values by head, and the six column groups side by side.
-/
module

public import proofs.«01_k».proof.Defs
public import proofs.«01_k».proof.Proof.Gen.ReferencePrepIdeal.Run
public import Idealize.ShloMosaic.Lib.Pipeline.ValueKit

@[expose] public section

set_option maxRecDepth 16384

open Idealize.ShloMosaic Idealize.ShloMosaic.TcCoe Idealize.SL.Sem

noncomputable section

namespace Cert.ReferencePrepIdeal.Gen

open Cert.ReferencePrepIdeal

/-- The reference's queries, scaled by one eighth and laid out by group and head. -/
def queries (a : FVec Ideal S16384x4608 .f32) : FVec Ideal S2x2x8x8192x64 .bf16 :=
  truncf .bf16 (transpose S2x2x8x8192x64 [0, 2, 3, 1, 4] (mulf (shapeCast _ (extractStridedSlice S16384x1024 ![0, 2560] a slices_S16384x4608_S16384x1024_0_2560) shapeCasts_S16384x1024_S2x8192x2x8x64) (broadcastInDim S2x8192x2x8x64 ![] bcast_S_S2x8192x2x8x64 (constant S_ .f32 0x3E000000#32))) transposes_S2x8192x2x8x64_S2x2x8x8192x64_0_2_3_1_4) bitsLt_bf16_f32

/-- The reference's means of the compression keys over blocks of 32 positions. -/
def keyMeans (a : FVec Ideal S16384x4608 .f32) : FVec Ideal S2x2x256x64 .bf16 :=
  truncf .bf16 (transpose S2x2x256x64 [0, 2, 1, 3] (Host.divf (Host.reduceAdd (shapeCast _ (shapeCast _ (extractStridedSlice S16384x128 ![0, 3584] a slices_S16384x4608_S16384x128_0_3584) shapeCasts_S16384x128_S2x8192x2x64) shapeCasts_S2x8192x2x64_S2x256x32x2x64) (constant S_ .f32 0x00000000#32) reducesTo_S2x256x32x2x64_S2x256x2x64_d2 h_S_) (broadcastInDim S2x256x2x64 ![] bcast_S_S2x256x2x64 (constant S_ .f32 0x42000000#32))) transposes_S2x256x2x64_S2x2x256x64_0_2_1_3) bitsLt_bf16_f32

/-- The reference's means of the compression values. -/
def valueMeans (a : FVec Ideal S16384x4608 .f32) : FVec Ideal S2x2x256x64 .bf16 :=
  truncf .bf16 (transpose S2x2x256x64 [0, 2, 1, 3] (Host.divf (Host.reduceAdd (shapeCast _ (shapeCast _ (extractStridedSlice S16384x128 ![0, 3712] a slices_S16384x4608_S16384x128_0_3712) shapeCasts_S16384x128_S2x8192x2x64) shapeCasts_S2x8192x2x64_S2x256x32x2x64) (constant S_ .f32 0x00000000#32) reducesTo_S2x256x32x2x64_S2x256x2x64_d2 h_S_) (broadcastInDim S2x256x2x64 ![] bcast_S_S2x256x2x64 (constant S_ .f32 0x42000000#32))) transposes_S2x256x2x64_S2x2x256x64_0_2_1_3) bitsLt_bf16_f32

/-- The reference's keys of the selected blocks, by head. -/
def selKeys (a : FVec Ideal S16384x4608 .f32) : FVec Ideal S2x2x8192x64 .bf16 :=
  truncf .bf16 (transpose S2x2x8192x64 [0, 2, 1, 3] (shapeCast _ (extractStridedSlice S16384x128 ![0, 3840] a slices_S16384x4608_S16384x128_0_3840) shapeCasts_S16384x128_S2x8192x2x64) transposes_S2x8192x2x64_S2x2x8192x64_0_2_1_3) bitsLt_bf16_f32

/-- The reference's values of the selected blocks, by head. -/
def selValues (a : FVec Ideal S16384x4608 .f32) : FVec Ideal S2x2x8192x64 .bf16 :=
  truncf .bf16 (transpose S2x2x8192x64 [0, 2, 1, 3] (shapeCast _ (extractStridedSlice S16384x128 ![0, 3968] a slices_S16384x4608_S16384x128_0_3968) shapeCasts_S16384x128_S2x8192x2x64) transposes_S2x8192x2x64_S2x2x8192x64_0_2_1_3) bitsLt_bf16_f32

/-- The reference's keys of the window, by head. -/
def winKeys (a : FVec Ideal S16384x4608 .f32) : FVec Ideal S2x2x8192x64 .bf16 :=
  truncf .bf16 (transpose S2x2x8192x64 [0, 2, 1, 3] (shapeCast _ (extractStridedSlice S16384x128 ![0, 4096] a slices_S16384x4608_S16384x128_0_4096) shapeCasts_S16384x128_S2x8192x2x64) transposes_S2x8192x2x64_S2x2x8192x64_0_2_1_3) bitsLt_bf16_f32

/-- The reference's values of the window, by head. -/
def winValues (a : FVec Ideal S16384x4608 .f32) : FVec Ideal S2x2x8192x64 .bf16 :=
  truncf .bf16 (transpose S2x2x8192x64 [0, 2, 1, 3] (shapeCast _ (extractStridedSlice S16384x128 ![0, 4224] a slices_S16384x4608_S16384x128_0_4224) shapeCasts_S16384x128_S2x8192x2x64) transposes_S2x8192x2x64_S2x2x8192x64_0_2_1_3) bitsLt_bf16_f32

/-- The reference's six groups of columns, one after the other, in blocks of rows. -/
def groups (a : FVec Ideal S16384x4608 .f32) : FVec Ideal S6x32x512x128 .f32 :=
  concatenate S6x32x512x128 0 [⟨S1x32x512x128, ((broadcastInDim S1x32x512x128 ![1, 2, 3] bcast_S32x512x128_S1x32x512x128_1_2_3 (shapeCast _ (extractStridedSlice S16384x128 ![0, 3584] a slices_S16384x4608_S16384x128_0_3584) shapeCasts_S16384x128_S32x512x128)) : FVec Ideal S1x32x512x128 .f32)⟩, ⟨S1x32x512x128, ((broadcastInDim S1x32x512x128 ![1, 2, 3] bcast_S32x512x128_S1x32x512x128_1_2_3 (shapeCast _ (extractStridedSlice S16384x128 ![0, 3712] a slices_S16384x4608_S16384x128_0_3712) shapeCasts_S16384x128_S32x512x128)) : FVec Ideal S1x32x512x128 .f32)⟩, ⟨S1x32x512x128, ((broadcastInDim S1x32x512x128 ![1, 2, 3] bcast_S32x512x128_S1x32x512x128_1_2_3 (shapeCast _ (extractStridedSlice S16384x128 ![0, 3840] a slices_S16384x4608_S16384x128_0_3840) shapeCasts_S16384x128_S32x512x128)) : FVec Ideal S1x32x512x128 .f32)⟩, ⟨S1x32x512x128, ((broadcastInDim S1x32x512x128 ![1, 2, 3] bcast_S32x512x128_S1x32x512x128_1_2_3 (shapeCast _ (extractStridedSlice S16384x128 ![0, 3968] a slices_S16384x4608_S16384x128_0_3968) shapeCasts_S16384x128_S32x512x128)) : FVec Ideal S1x32x512x128 .f32)⟩, ⟨S1x32x512x128, ((broadcastInDim S1x32x512x128 ![1, 2, 3] bcast_S32x512x128_S1x32x512x128_1_2_3 (shapeCast _ (extractStridedSlice S16384x128 ![0, 4096] a slices_S16384x4608_S16384x128_0_4096) shapeCasts_S16384x128_S32x512x128)) : FVec Ideal S1x32x512x128 .f32)⟩, ⟨S1x32x512x128, ((broadcastInDim S1x32x512x128 ![1, 2, 3] bcast_S32x512x128_S1x32x512x128_1_2_3 (shapeCast _ (extractStridedSlice S16384x128 ![0, 4224] a slices_S16384x4608_S16384x128_0_4224) shapeCasts_S16384x128_S32x512x128)) : FVec Ideal S1x32x512x128 .f32)⟩] concatenates_S1x32x512x128_S1x32x512x128_S1x32x512x128_S1x32x512x128_S1x32x512x128_S1x32x512x128_S6x32x512x128_d0

theorem queries_at (a : FVec Ideal S16384x4608 .f32) (b : Fin 2) (g : Fin 2) (h : Fin 8) (r : Fin 8192) (d : Fin 64) :
    queries a (ix5 b g h r d) = a (ix2 ⟨8192 * b.val + r.val, by omega⟩ ⟨2560 + 512 * g.val + 64 * h.val + d.val, by omega⟩)
      * Ideal.ofBits .f32 0x3E000000#32 := by
  pointwise [queries]
  blk_point []

theorem selKeys_at (a : FVec Ideal S16384x4608 .f32) (b : Fin 2) (g : Fin 2) (r : Fin 8192) (d : Fin 64) :
    selKeys a (ix4 b g r d) = a (ix2 ⟨8192 * b.val + r.val, by omega⟩ ⟨3840 + 64 * g.val + d.val, by omega⟩) := by
  pointwise [selKeys]
  blk_ext

theorem selValues_at (a : FVec Ideal S16384x4608 .f32) (b : Fin 2) (g : Fin 2) (r : Fin 8192) (d : Fin 64) :
    selValues a (ix4 b g r d) = a (ix2 ⟨8192 * b.val + r.val, by omega⟩ ⟨3968 + 64 * g.val + d.val, by omega⟩) := by
  pointwise [selValues]
  blk_ext

theorem winKeys_at (a : FVec Ideal S16384x4608 .f32) (b : Fin 2) (g : Fin 2) (r : Fin 8192) (d : Fin 64) :
    winKeys a (ix4 b g r d) = a (ix2 ⟨8192 * b.val + r.val, by omega⟩ ⟨4096 + 64 * g.val + d.val, by omega⟩) := by
  pointwise [winKeys]
  blk_ext

theorem winValues_at (a : FVec Ideal S16384x4608 .f32) (b : Fin 2) (g : Fin 2) (r : Fin 8192) (d : Fin 64) :
    winValues a (ix4 b g r d) = a (ix2 ⟨8192 * b.val + r.val, by omega⟩ ⟨4224 + 64 * g.val + d.val, by omega⟩) := by
  pointwise [winValues]
  blk_ext

theorem keyMeans_at (a : FVec Ideal S16384x4608 .f32) (b : Fin 2) (g : Fin 2) (r : Fin 256) (d : Fin 64) :
    keyMeans a (ix4 b g r d) = Ideal.div (∑ j : Fin 32, a (ix2 ⟨8192 * b.val + 32 * r.val + j.val, by omega⟩ ⟨3584 + 64 * g.val + d.val, by omega⟩))
      (Ideal.ofBits .f32 0x42000000#32) := by
  pointwise [keyMeans]
  blk_point []

theorem valueMeans_at (a : FVec Ideal S16384x4608 .f32) (b : Fin 2) (g : Fin 2) (r : Fin 256) (d : Fin 64) :
    valueMeans a (ix4 b g r d) = Ideal.div (∑ j : Fin 32, a (ix2 ⟨8192 * b.val + 32 * r.val + j.val, by omega⟩ ⟨3712 + 64 * g.val + d.val, by omega⟩))
      (Ideal.ofBits .f32 0x42000000#32) := by
  pointwise [valueMeans]
  blk_point []

theorem groups_at (a : FVec Ideal S16384x4608 .f32) (s : Fin 6) (b : Fin 32) (r : Fin 512) (d : Fin 128) :
    groups a (ix4 s b r d) = a (ix2 ⟨512 * b.val + r.val, by omega⟩ ⟨3584 + 128 * s.val + d.val, by omega⟩) := by
  pointwise [groups]
  blk_point []

end Cert.ReferencePrepIdeal.Gen
-- ==== Proof.PrepValue.lean ====
/-
  The preparation's arrays: point t writes rows 512 t … 512 t + 511 of each of its eight results, and every result is the
  reference's.
-/
module

public import proofs.«01_k».proof.Defs
public import proofs.«01_k».proof.Proof.Gen.KernelPrepIdeal.Frame
public import proofs.«01_k».proof.Proof.PrepSpec
public import Idealize.ShloMosaic.Lib.Pipeline.ValueKit
public import Idealize.ShloMosaic.Lib.Quiescent

@[expose] public section

set_option maxRecDepth 16384

open Idealize.ShloMosaic Idealize.ShloMosaic.TcCoe Idealize.SL.Sem
open Idealize.ShloMosaic.Pipeline (Dat)

noncomputable section

namespace Cert.KernelPrepIdeal.Gen

open Cert.KernelPrepIdeal
open Cert.ReferencePrepIdeal.Gen (queries keyMeans valueMeans selKeys selValues winKeys winValues groups
  queries_at keyMeans_at valueMeans_at selKeys_at selValues_at winKeys_at winValues_at groups_at)

variable (m : (ℓ : Loc nD τ sig) → Buf (Elt Ideal) ℓ)

theorem idx : ∀ t : Fin cfg0.N, win0_0.index t = ![t.val, 0, 5] ∧ win0_1.index t = ![t.val, 0, 6]
    ∧ win0_2.index t = ![t.val, 0, 14] ∧ win0_3.index t = ![t.val, 0, 15] ∧ win0_4.index t = ![t.val, 0, 16]
    ∧ win0_5.index t = ![t.val / 16, 0, 0, t.val % 16, 0] ∧ win0_6.index t = ![t.val / 16, 0, t.val % 16, 0]
    ∧ win0_7.index t = ![t.val / 16, 0, t.val % 16, 0] ∧ win0_8.index t = ![t.val / 16, 0, t.val % 16, 0]
    ∧ win0_9.index t = ![t.val / 16, 0, t.val % 16, 0] ∧ win0_10.index t = ![t.val / 16, 0, t.val % 16, 0]
    ∧ win0_11.index t = ![t.val / 16, 0, t.val % 16, 0] ∧ win0_12.index t = ![0, t.val, 0, 0] ∧ t.val < 32 :=
  (by decide +kernel : ∀ t : Fin grid0.N, _)

theorem block0 (c : Dev nD) (t : Fin cfg0.N) (r : Fin 512) (d : Fin 512) :
    iblk m c 0 t (ix3 0 r d) = m ((c : Thread nD τ).loc main_arg0)
      (ix2 ⟨512 * t.val + r.val, by have := (idx t).2.2.2.2.2.2.2.2.2.2.2.2.2; omega⟩ ⟨2560 + d.val, by omega⟩) := by
  blk_simp [iblk, idx t]
  entry_read
  pointwise
  blk_ext [idx t]

theorem block1 (c : Dev nD) (t : Fin cfg0.N) (r : Fin 512) (d : Fin 512) :
    iblk m c 1 t (ix3 0 r d) = m ((c : Thread nD τ).loc main_arg0)
      (ix2 ⟨512 * t.val + r.val, by have := (idx t).2.2.2.2.2.2.2.2.2.2.2.2.2; omega⟩ ⟨3072 + d.val, by omega⟩) := by
  blk_simp [iblk, idx t]
  entry_read
  pointwise
  blk_ext [idx t]

theorem block2 (c : Dev nD) (t : Fin cfg0.N) (r : Fin 512) (d : Fin 256) :
    iblk m c 2 t (ix3 0 r d) = m ((c : Thread nD τ).loc main_arg0)
      (ix2 ⟨512 * t.val + r.val, by have := (idx t).2.2.2.2.2.2.2.2.2.2.2.2.2; omega⟩ ⟨3584 + d.val, by omega⟩) := by
  blk_simp [iblk, idx t]
  entry_read
  pointwise
  blk_ext [idx t]

theorem block3 (c : Dev nD) (t : Fin cfg0.N) (r : Fin 512) (d : Fin 256) :
    iblk m c 3 t (ix3 0 r d) = m ((c : Thread nD τ).loc main_arg0)
      (ix2 ⟨512 * t.val + r.val, by have := (idx t).2.2.2.2.2.2.2.2.2.2.2.2.2; omega⟩ ⟨3840 + d.val, by omega⟩) := by
  blk_simp [iblk, idx t]
  entry_read
  pointwise
  blk_ext [idx t]

theorem block4 (c : Dev nD) (t : Fin cfg0.N) (r : Fin 512) (d : Fin 256) :
    iblk m c 4 t (ix3 0 r d) = m ((c : Thread nD τ).loc main_arg0)
      (ix2 ⟨512 * t.val + r.val, by have := (idx t).2.2.2.2.2.2.2.2.2.2.2.2.2; omega⟩ ⟨4096 + d.val, by omega⟩) := by
  blk_simp [iblk, idx t]
  entry_read
  pointwise
  blk_ext [idx t]

/-- The run of the frame, with each result array named. -/
theorem run_arrays (ρ : Dev nD → PrngReg) :
    θ_run defs (onTc (τ := τ) (main (F := Ideal))) ⟨m, fun _ => 0, ρ⟩ fun r => ∀ c : Dev nD,
      r.2.mem ((c : Thread nD τ).loc main_v1_0) = (dats m 0 c).arrAt 5 cfg0.N
      ∧ r.2.mem ((c : Thread nD τ).loc main_v1_1) = (dats m 0 c).arrAt 6 cfg0.N
      ∧ r.2.mem ((c : Thread nD τ).loc main_v1_2) = (dats m 0 c).arrAt 7 cfg0.N
      ∧ r.2.mem ((c : Thread nD τ).loc main_v1_3) = (dats m 0 c).arrAt 8 cfg0.N
      ∧ r.2.mem ((c : Thread nD τ).loc main_v1_4) = (dats m 0 c).arrAt 9 cfg0.N
      ∧ r.2.mem ((c : Thread nD τ).loc main_v1_5) = (dats m 0 c).arrAt 10 cfg0.N
      ∧ r.2.mem ((c : Thread nD τ).loc main_v1_6) = (dats m 0 c).arrAt 11 cfg0.N
      ∧ r.2.mem ((c : Thread nD τ).loc main_v1_7) = (dats m 0 c).arrAt 12 cfg0.N
      ∧ r.2.mem ((c : Thread nD τ).loc main_arg0) = m ((c : Thread nD τ).loc main_arg0) :=
  (θ_run defs _ _).mono (fun r h c => ⟨(h c).1 5, (h c).1 6, (h c).1 7, (h c).1 8, (h c).1 9, (h c).1 10, (h c).1 11,
    (h c).1 12, ((h c).2 main_arg0 (Pipeline.mem_restRefs_of main_arg0 (by decide) (by decide))).trans (V_main_arg0 m c)⟩)
    (run_main m ρ)

/-- A point's number is below 32. -/
theorem point_lt (t : Fin cfg0.N) : t.val < 32 := (idx t).2.2.2.2.2.2.2.2.2.2.2.2.2

theorem queries_emb (t : Fin cfg0.N) (y : S1x2x8x512x64.Idx) : (win0_5.blk t).view.emb y
    = ix5 (n0 := 2) (n1 := 2) (n2 := 8) (n3 := 8192) (n4 := 64) ⟨t.val / 16, by have := point_lt t; omega⟩ (y 1) (y 2)
      ⟨512 * (t.val % 16) + (y 3).val, by have : (y 3).val < 512 := (y 3).isLt; omega⟩ (y 4) := by
  blk_ext [idx t]

set_option maxHeartbeats 1000000 in
theorem queries_point (c : Dev nD) (t : Fin cfg0.N) (y : S1x2x8x512x64.Idx) :
    out0_5 (iblk m c 0 t) (iblk m c 1 t) (iblk m c 2 t) (iblk m c 3 t) (iblk m c 4 t) y
      = queries (m ((c : Thread nD τ).loc main_arg0)) ((win0_5.blk t).view.emb y) := by
  refine Eq.trans ?_ ((congrArg _ (queries_emb t y)).trans (queries_at _ _ _ _ _ _)).symm
  have ht := point_lt t
  canon_tiles x h
  case piece0 | piece1 | piece2 | piece3 | piece4 | piece5 | piece6 | piece7 =>
    open_payloads
    pointwise
    refine congrArg (· * _) ((block1 m c t (x 3) _).trans ?_)
    blk_ext
  case piece8 | piece9 | piece10 | piece11 | piece12 | piece13 | piece14 | piece15 =>
    open_payloads
    pointwise
    refine congrArg (· * _) ((block0 m c t (x 3) _).trans ?_)
    blk_ext

theorem queries_array (c : Dev nD) : (dats m 0 c).arrAt 5 cfg0.N = queries (m ((c : Thread nD τ).loc main_arg0)) := by
  refine (dats m 0 c).arrAt_eq_of_covers 5 _ (by decide +kernel) fun t _ y => ?_
  blk_simp
  rw [after0_5]
  exact queries_point m c t y

theorem keyMeans_emb (t : Fin cfg0.N) (y : S1x2x16x64.Idx) : (win0_6.blk t).view.emb y
    = ix4 (n0 := 2) (n1 := 2) (n2 := 256) (n3 := 64) ⟨t.val / 16, by have := point_lt t; omega⟩ (y 1)
      ⟨16 * (t.val % 16) + (y 2).val, by have : (y 2).val < 16 := (y 2).isLt; omega⟩ (y 3) := by
  blk_ext [idx t]

theorem keyMeans_point (c : Dev nD) (t : Fin cfg0.N) (y : S1x2x16x64.Idx) :
    out0_6 (iblk m c 0 t) (iblk m c 1 t) (iblk m c 2 t) (iblk m c 3 t) (iblk m c 4 t) y
      = keyMeans (m ((c : Thread nD τ).loc main_arg0)) ((win0_6.blk t).view.emb y) := by
  refine Eq.trans ?_ ((congrArg _ (keyMeans_emb t y)).trans (keyMeans_at _ _ _ _ _)).symm
  have ht := point_lt t
  canon_tiles x h
  all_goals
    open_payloads
    pointwise
    refine congrArg (Ideal.div · _) (Finset.sum_congr (M := EReal) rfl fun k _ => (block2 m c t _ _).trans ?_)
    blk_ext

theorem keyMeans_array (c : Dev nD) : (dats m 0 c).arrAt 6 cfg0.N = keyMeans (m ((c : Thread nD τ).loc main_arg0)) := by
  refine (dats m 0 c).arrAt_eq_of_covers 6 _ (by decide +kernel) fun t _ y => ?_
  blk_simp
  rw [after0_6]
  exact keyMeans_point m c t y

theorem valueMeans_emb (t : Fin cfg0.N) (y : S1x2x16x64.Idx) : (win0_7.blk t).view.emb y
    = ix4 (n0 := 2) (n1 := 2) (n2 := 256) (n3 := 64) ⟨t.val / 16, by have := point_lt t; omega⟩ (y 1)
      ⟨16 * (t.val % 16) + (y 2).val, by have : (y 2).val < 16 := (y 2).isLt; omega⟩ (y 3) := by
  blk_ext [idx t]

theorem valueMeans_point (c : Dev nD) (t : Fin cfg0.N) (y : S1x2x16x64.Idx) :
    out0_7 (iblk m c 0 t) (iblk m c 1 t) (iblk m c 2 t) (iblk m c 3 t) (iblk m c 4 t) y
      = valueMeans (m ((c : Thread nD τ).loc main_arg0)) ((win0_7.blk t).view.emb y) := by
  refine Eq.trans ?_ ((congrArg _ (valueMeans_emb t y)).trans (valueMeans_at _ _ _ _ _)).symm
  have ht := point_lt t
  canon_tiles x h
  all_goals
    open_payloads
    pointwise
    refine congrArg (Ideal.div · _) (Finset.sum_congr (M := EReal) rfl fun k _ => (block2 m c t _ _).trans ?_)
    blk_ext

theorem valueMeans_array (c : Dev nD) : (dats m 0 c).arrAt 7 cfg0.N = valueMeans (m ((c : Thread nD τ).loc main_arg0)) := by
  refine (dats m 0 c).arrAt_eq_of_covers 7 _ (by decide +kernel) fun t _ y => ?_
  blk_simp
  rw [after0_7]
  exact valueMeans_point m c t y

theorem selKeys_emb (t : Fin cfg0.N) (y : S1x2x512x64.Idx) : (win0_8.blk t).view.emb y
    = ix4 (n0 := 2) (n1 := 2) (n2 := 8192) (n3 := 64) ⟨t.val / 16, by have := point_lt t; omega⟩ (y 1)
      ⟨512 * (t.val % 16) + (y 2).val, by have : (y 2).val < 512 := (y 2).isLt; omega⟩ (y 3) := by
  blk_ext [idx t]

theorem selKeys_point (c : Dev nD) (t : Fin cfg0.N) (y : S1x2x512x64.Idx) :
    out0_8 (iblk m c 0 t) (iblk m c 1 t) (iblk m c 2 t) (iblk m c 3 t) (iblk m c 4 t) y
      = selKeys (m ((c : Thread nD τ).loc main_arg0)) ((win0_8.blk t).view.emb y) := by
  refine Eq.trans ?_ ((congrArg _ (selKeys_emb t y)).trans (selKeys_at _ _ _ _ _)).symm
  have ht := point_lt t
  canon_tiles x h
  all_goals
    open_payloads
    pointwise
    refine (block3 m c t (x 2) _).trans ?_
    blk_ext

theorem selKeys_array (c : Dev nD) : (dats m 0 c).arrAt 8 cfg0.N = selKeys (m ((c : Thread nD τ).loc main_arg0)) := by
  refine (dats m 0 c).arrAt_eq_of_covers 8 _ (by decide +kernel) fun t _ y => ?_
  blk_simp
  rw [after0_8]
  exact selKeys_point m c t y

theorem selValues_emb (t : Fin cfg0.N) (y : S1x2x512x64.Idx) : (win0_9.blk t).view.emb y
    = ix4 (n0 := 2) (n1 := 2) (n2 := 8192) (n3 := 64) ⟨t.val / 16, by have := point_lt t; omega⟩ (y 1)
      ⟨512 * (t.val % 16) + (y 2).val, by have : (y 2).val < 512 := (y 2).isLt; omega⟩ (y 3) := by
  blk_ext [idx t]

theorem selValues_point (c : Dev nD) (t : Fin cfg0.N) (y : S1x2x512x64.Idx) :
    out0_9 (iblk m c 0 t) (iblk m c 1 t) (iblk m c 2 t) (iblk m c 3 t) (iblk m c 4 t) y
      = selValues (m ((c : Thread nD τ).loc main_arg0)) ((win0_9.blk t).view.emb y) := by
  refine Eq.trans ?_ ((congrArg _ (selValues_emb t y)).trans (selValues_at _ _ _ _ _)).symm
  have ht := point_lt t
  canon_tiles x h
  all_goals
    open_payloads
    pointwise
    refine (block3 m c t (x 2) _).trans ?_
    blk_ext

theorem selValues_array (c : Dev nD) : (dats m 0 c).arrAt 9 cfg0.N = selValues (m ((c : Thread nD τ).loc main_arg0)) := by
  refine (dats m 0 c).arrAt_eq_of_covers 9 _ (by decide +kernel) fun t _ y => ?_
  blk_simp
  rw [after0_9]
  exact selValues_point m c t y

theorem winKeys_emb (t : Fin cfg0.N) (y : S1x2x512x64.Idx) : (win0_10.blk t).view.emb y
    = ix4 (n0 := 2) (n1 := 2) (n2 := 8192) (n3 := 64) ⟨t.val / 16, by have := point_lt t; omega⟩ (y 1)
      ⟨512 * (t.val % 16) + (y 2).val, by have : (y 2).val < 512 := (y 2).isLt; omega⟩ (y 3) := by
  blk_ext [idx t]

theorem winKeys_point (c : Dev nD) (t : Fin cfg0.N) (y : S1x2x512x64.Idx) :
    out0_10 (iblk m c 0 t) (iblk m c 1 t) (iblk m c 2 t) (iblk m c 3 t) (iblk m c 4 t) y
      = winKeys (m ((c : Thread nD τ).loc main_arg0)) ((win0_10.blk t).view.emb y) := by
  refine Eq.trans ?_ ((congrArg _ (winKeys_emb t y)).trans (winKeys_at _ _ _ _ _)).symm
  have ht := point_lt t
  canon_tiles x h
  all_goals
    open_payloads
    pointwise
    refine (block4 m c t (x 2) _).trans ?_
    blk_ext

theorem winKeys_array (c : Dev nD) : (dats m 0 c).arrAt 10 cfg0.N = winKeys (m ((c : Thread nD τ).loc main_arg0)) := by
  refine (dats m 0 c).arrAt_eq_of_covers 10 _ (by decide +kernel) fun t _ y => ?_
  blk_simp
  rw [after0_10]
  exact winKeys_point m c t y

theorem winValues_emb (t : Fin cfg0.N) (y : S1x2x512x64.Idx) : (win0_11.blk t).view.emb y
    = ix4 (n0 := 2) (n1 := 2) (n2 := 8192) (n3 := 64) ⟨t.val / 16, by have := point_lt t; omega⟩ (y 1)
      ⟨512 * (t.val % 16) + (y 2).val, by have : (y 2).val < 512 := (y 2).isLt; omega⟩ (y 3) := by
  blk_ext [idx t]

theorem winValues_point (c : Dev nD) (t : Fin cfg0.N) (y : S1x2x512x64.Idx) :
    out0_11 (iblk m c 0 t) (iblk m c 1 t) (iblk m c 2 t) (iblk m c 3 t) (iblk m c 4 t) y
      = winValues (m ((c : Thread nD τ).loc main_arg0)) ((win0_11.blk t).view.emb y) := by
  refine Eq.trans ?_ ((congrArg _ (winValues_emb t y)).trans (winValues_at _ _ _ _ _)).symm
  have ht := point_lt t
  canon_tiles x h
  all_goals
    open_payloads
    pointwise
    refine (block4 m c t (x 2) _).trans ?_
    blk_ext

theorem winValues_array (c : Dev nD) : (dats m 0 c).arrAt 11 cfg0.N = winValues (m ((c : Thread nD τ).loc main_arg0)) := by
  refine (dats m 0 c).arrAt_eq_of_covers 11 _ (by decide +kernel) fun t _ y => ?_
  blk_simp
  rw [after0_11]
  exact winValues_point m c t y

theorem groups_emb (t : Fin cfg0.N) (y : S6x1x512x128.Idx) : (win0_12.blk t).view.emb y
    = ix4 (n0 := 6) (n1 := 32) (n2 := 512) (n3 := 128) (y 0) ⟨t.val, point_lt t⟩ (y 2) (y 3) := by
  blk_ext [idx t]

set_option maxHeartbeats 1000000 in
theorem groups_point (c : Dev nD) (t : Fin cfg0.N) (y : S6x1x512x128.Idx) :
    out0_12 (iblk m c 0 t) (iblk m c 1 t) (iblk m c 2 t) (iblk m c 3 t) (iblk m c 4 t) y
      = groups (m ((c : Thread nD τ).loc main_arg0)) ((win0_12.blk t).view.emb y) := by
  refine Eq.trans ?_ ((congrArg _ (groups_emb t y)).trans (groups_at _ _ _ _ _)).symm
  have ht := point_lt t
  canon_tiles x h
  case piece0 | piece1 =>
    open_payloads
    pointwise
    refine (block4 m c t (x 2) _).trans ?_
    blk_ext
  case piece2 | piece3 =>
    open_payloads
    pointwise
    refine (block3 m c t (x 2) _).trans ?_
    blk_ext
  case piece4 | piece5 =>
    open_payloads
    pointwise
    refine (block2 m c t (x 2) _).trans ?_
    blk_ext

theorem groups_array (c : Dev nD) : (dats m 0 c).arrAt 12 cfg0.N = groups (m ((c : Thread nD τ).loc main_arg0)) := by
  refine (dats m 0 c).arrAt_eq_of_covers 12 _ (by decide +kernel) fun t _ y => ?_
  blk_simp
  rw [after0_12]
  exact groups_point m c t y

end Cert.KernelPrepIdeal.Gen

namespace Cert.Proof

theorem quiescent_ReferencePrepIdeal : quiescent_ReferencePrepIdeal := fun m ρ _ =>
  (θ_run Cert.ReferencePrepIdeal.defs _ _).mono
    (fun r h => ⟨fun c => (h c).2.2.2.2.2.2.2.2, sem_eq_zero_of_no_sems (by decide) r.2⟩)
    (Cert.ReferencePrepIdeal.Value.run (F := Ideal) m ρ)

theorem algebraic_KernelPrepIdeal_ReferencePrepIdeal : algebraic_KernelPrepIdeal_ReferencePrepIdeal := by
  intro m ρ m' ρ' _ hagree
  refine ⟨_, _, _, _, _, _, _, _, Cert.KernelPrepIdeal.Gen.run_arrays m ρ, ?_⟩
  refine (θ_run Cert.ReferencePrepIdeal.defs _ _).mono
    (fun _ h c => ⟨(h c).1.trans ?_, (h c).2.1.trans ?_, (h c).2.2.1.trans ?_, (h c).2.2.2.1.trans ?_, (h c).2.2.2.2.1.trans ?_,
      (h c).2.2.2.2.2.1.trans ?_, (h c).2.2.2.2.2.2.1.trans ?_, (h c).2.2.2.2.2.2.2.1.trans ?_, (h c).2.2.2.2.2.2.2.2⟩)
    (Cert.ReferencePrepIdeal.Value.run (F := Ideal) m' ρ')
  all_goals rw [hagree c]
  · exact (Cert.KernelPrepIdeal.Gen.queries_array m c).symm
  · exact (Cert.KernelPrepIdeal.Gen.keyMeans_array m c).symm
  · exact (Cert.KernelPrepIdeal.Gen.valueMeans_array m c).symm
  · exact (Cert.KernelPrepIdeal.Gen.selKeys_array m c).symm
  · exact (Cert.KernelPrepIdeal.Gen.selValues_array m c).symm
  · exact (Cert.KernelPrepIdeal.Gen.winKeys_array m c).symm
  · exact (Cert.KernelPrepIdeal.Gen.winValues_array m c).symm
  · exact (Cert.KernelPrepIdeal.Gen.groups_array m c).symm

end Cert.Proof
-- ==== Proof.OutValue.lean ====
/-
  The out-projection with its residual: a point's block is the residual block plus the products of the two input blocks with
  the upper and the lower half of the weights; the reference multiplies the two inputs, set side by side, with all of them.
-/
module

public import proofs.«01_k».proof.Defs
public import proofs.«01_k».proof.Proof.Gen.KernelOutIdeal.Value
public import proofs.«01_k».proof.Proof.Gen.ReferenceOutIdeal.Run
public import Idealize.ShloMosaic.Lib.Pipeline.ValueKit
public import Idealize.ShloMosaic.Lib.Quiescent

@[expose] public section

set_option maxRecDepth 16384

open Idealize.ShloMosaic Idealize.ShloMosaic.TcCoe Idealize.SL.Sem
open Idealize.ShloMosaic.Pipeline (Dat)

noncomputable section

namespace Cert.KernelOutIdeal.Gen

open Cert.KernelOutIdeal

variable (m : (ℓ : Loc nD τ sig) → Buf (Elt Ideal) ℓ)

/-- The reference: the residual plus the two inputs side by side times the weights. -/
abbrev projected (a b : FVec Ideal S16384x1024 .f32) (w : FVec Ideal S2048x1024 .f32) (x : FVec Ideal S16384x1024 .f32) :
    FVec Ideal S16384x1024 .f32 :=
  addf x (Host.dotGeneral Cert.ReferenceOutIdeal.dot_S16384x2048_S2048x1024_S16384x1024_1_0_0_1_n_n none
    (concatenate Cert.ReferenceOutIdeal.S16384x2048 1 [⟨S16384x1024, a⟩, ⟨S16384x1024, b⟩]
      Cert.ReferenceOutIdeal.Gen.concatenates_S16384x1024_S16384x1024_S16384x2048_d1) w)

/-- The reference's entry with the sum split at the seam of the two inputs. -/
theorem projected_apply (a b : FVec Ideal S16384x1024 .f32) (w : FVec Ideal S2048x1024 .f32)
    (x : FVec Ideal S16384x1024 .f32) (r : Fin 16384) (d : Fin 1024) :
    projected a b w x (ix2 r d) = x (ix2 r d)
      + (∑ k : Fin 1024, a (ix2 r k) * w (ix2 (⟨k.val, by omega⟩) d)
        + ∑ k : Fin 1024, b (ix2 r k) * w (ix2 (⟨1024 + k.val, by omega⟩) d)) := by
  pointwise [projected]

theorem idx : ∀ t : Fin cfg0.N, win0_0.index t = ![t.val / 2, 0] ∧ win0_1.index t = ![t.val / 2, 0]
    ∧ win0_2.index t = ![0, t.val % 2] ∧ win0_3.index t = ![0, t.val % 2]
    ∧ win0_4.index t = ![t.val / 2, t.val % 2] ∧ win0_5.index t = ![t.val / 2, t.val % 2] ∧ t.val / 2 < 32 :=
  (by decide +kernel : ∀ t : Fin grid0.N, _)

/-- The row and the column of the whole array that a point's block entry is. -/
def rowOf (t : Fin cfg0.N) (i : Fin 512) : Fin 16384 :=
  ⟨512 * (t.val / 2) + i.val, by have := (idx t).2.2.2.2.2.2; have := i.isLt; omega⟩

def colOf (t : Fin cfg0.N) (d : Fin 512) : Fin 1024 :=
  ⟨512 * (t.val % 2) + d.val, by have := Nat.mod_lt t.val (show 0 < 2 by decide); have := d.isLt; omega⟩

theorem emb_apply (t : Fin cfg0.N) (i d : Fin 512) : (win0_5.blk t).view.emb (ix2 i d) = ix2 (rowOf t i) (colOf t d) := by
  unfold rowOf colOf
  blk_ext [idx t]

theorem a_apply (c : Dev nD) (t : Fin cfg0.N) (i : Fin 512) (k : Fin 1024) :
    iblk m c 0 t (ix2 i k) = m ((c : Thread nD τ).loc main_arg0) (ix2 (rowOf t i) k) := by
  unfold rowOf
  blk_ext [iblk, V, idx t]

theorem b_apply (c : Dev nD) (t : Fin cfg0.N) (i : Fin 512) (k : Fin 1024) :
    iblk m c 1 t (ix2 i k) = m ((c : Thread nD τ).loc main_arg1) (ix2 (rowOf t i) k) := by
  unfold rowOf
  blk_ext [iblk, V, idx t]

theorem upper_apply (c : Dev nD) (t : Fin cfg0.N) (k : Fin 1024) (d : Fin 512) :
    iblk m c 2 t (ix2 k d) = m ((c : Thread nD τ).loc main_arg2) (ix2 (⟨k.val, by omega⟩) (colOf t d)) := by
  unfold colOf
  blk_simp [iblk, idx t]
  entry_read
  pointwise
  blk_ext [idx t]

theorem lower_apply (c : Dev nD) (t : Fin cfg0.N) (k : Fin 1024) (d : Fin 512) :
    iblk m c 3 t (ix2 k d) = m ((c : Thread nD τ).loc main_arg2) (ix2 (⟨1024 + k.val, by omega⟩) (colOf t d)) := by
  unfold colOf
  blk_simp [iblk, idx t]
  entry_read
  pointwise
  blk_ext [idx t]

theorem residual_apply (c : Dev nD) (t : Fin cfg0.N) (i d : Fin 512) :
    iblk m c 4 t (ix2 i d) = m ((c : Thread nD τ).loc main_arg3) (ix2 (rowOf t i) (colOf t d)) := by
  unfold rowOf colOf
  blk_ext [iblk, V, idx t]

theorem pay_apply (x : Vec Ideal S512x512 .f32) (a : Vec Ideal S512x1024 .f32) (u : Vec Ideal S1024x512 .bf16)
    (b : Vec Ideal S512x1024 .f32) (l : Vec Ideal S1024x512 .bf16) (i d : Fin 512) :
    k0_pay1 (F := Ideal) x a u b l (ix2 i d)
      = x (ix2 i d) + ∑ k : Fin 1024, a (ix2 i k) * u (ix2 k d) + ∑ k : Fin 1024, b (ix2 i k) * l (ix2 k d) := by
  pointwise [k0_pay1]

theorem result (c : Dev nD) : (dats m 0 c).arrAt 5 cfg0.N
    = projected (m ((c : Thread nD τ).loc main_arg0)) (m ((c : Thread nD τ).loc main_arg1))
        (m ((c : Thread nD τ).loc main_arg2)) (m ((c : Thread nD τ).loc main_arg3)) := by
  refine (dats m 0 c).arrAt_eq_of_covers 5 _ (by decide +kernel) fun t _ y => ?_
  blk_simp
  rw [after0_5]
  frame_out
  obtain ⟨i, d, rfl⟩ : ∃ (i d : Fin 512), y = ix2 i d := ⟨y 0, y 1, eq_ix2 (n0 := 512) (n1 := 512) y⟩
  refine (pay_apply _ _ _ _ _ i d).trans (Eq.trans ?_ ((projected_apply _ _ _ _ (rowOf t i) (colOf t d)).symm.trans
    (congrArg _ (emb_apply t i d).symm)))
  refine (add_assoc _ _ _).trans (congrArg₂ (· + ·) (residual_apply m c t i d) (congrArg₂ (· + ·) ?_ ?_))
  · exact Finset.sum_congr (M := EReal) rfl fun k _ => congrArg₂ (· * ·) (a_apply m c t i k) (upper_apply m c t k d)
  · exact Finset.sum_congr (M := EReal) rfl fun k _ => congrArg₂ (· * ·) (b_apply m c t i k) (lower_apply m c t k d)

end Cert.KernelOutIdeal.Gen

namespace Cert.Proof

theorem quiescent_ReferenceOutIdeal : quiescent_ReferenceOutIdeal := fun m ρ _ =>
  (θ_run Cert.ReferenceOutIdeal.defs _ _).mono
    (fun r h => ⟨fun c => (h c).2, sem_eq_zero_of_no_sems (by decide) r.2⟩)
    (Cert.ReferenceOutIdeal.Value.run (F := Ideal) m ρ)

theorem algebraic_KernelOutIdeal_ReferenceOutIdeal : algebraic_KernelOutIdeal_ReferenceOutIdeal := by
  intro m ρ m' ρ' _ hagree
  refine ⟨_, Cert.KernelOutIdeal.Value.run_blocks (F := Ideal) m ρ, ?_⟩
  refine (θ_run Cert.ReferenceOutIdeal.defs _ _).mono
    (fun _ h c => ⟨(h c).1.trans ?_, (h c).2⟩) (Cert.ReferenceOutIdeal.Value.run (F := Ideal) m' ρ')
  obtain ⟨e0, e1, e2, e3⟩ := hagree c
  rw [e0, e1, e2, e3]
  exact (Cert.KernelOutIdeal.Gen.result m c).symm

end Cert.Proof
-- ==== Proof.CrossSpec.lean ====
/-
  The attention of one query to the memory's 256 positions at one head: the softmax of the scores, shifted by the greatest of
  them, times the values; and the reference's cross-attention read at an index as exactly that.
-/
module

public import proofs.«01_k».proof.Defs
public import proofs.«01_k».proof.Proof.Gen.ReferenceCrossIdeal.Run
public import Idealize.ShloMosaic.Lib.Pipeline.ValueKit

@[expose] public section

set_option maxRecDepth 16384

open Idealize.ShloMosaic Idealize.ShloMosaic.TcCoe Idealize.SL.Sem

noncomputable section

namespace Cross

/-- A query's score at a position of the memory. -/
def score (q : Fin 128 → EReal) (k : Fin 256 → Fin 128 → EReal) (j : Fin 256) : EReal := ∑ x, q x * k j x

/-- The greatest of a query's scores. -/
def top (q : Fin 128 → EReal) (k : Fin 256 → Fin 128 → EReal) : EReal :=
  Finset.fold max (Ideal.ofBits .f32 0xFF800000#32) (score q k) Finset.univ

/-- A position's weight before the division. -/
def raised (q : Fin 128 → EReal) (k : Fin 256 → Fin 128 → EReal) (j : Fin 256) : EReal := Ideal.exp (score q k j - top q k)

/-- One coordinate of the attention of a query. -/
def attend (q : Fin 128 → EReal) (k : Fin 256 → Fin 128 → EReal) (v : Fin 256 → EReal) : EReal :=
  ∑ j, Ideal.div (raised q k j) (∑ i, raised q k i) * v j

end Cross

namespace Cert.ReferenceCrossIdeal.Gen

open Cert.ReferenceCrossIdeal Cross

/-- The reference's scores. -/
def scores (q : FVec Ideal S2x8192x512 .f32) (k : FVec Ideal S2x2x256x4x128 .f32) : FVec Ideal S2x4x8192x256 .f32 :=
  Host.dotGeneral dot_S2x8192x4x128_S2x256x4x128_S2x4x8192x256_3_3_1_1_02_02 none (mulf (shapeCast _ q shapeCasts_S2x8192x512_S2x8192x4x128) (broadcastInDim S2x8192x4x128 ![] bcast_S_S2x8192x4x128 (constant S_ .f32 0x3DB504F3#32))) (shapeCast _ (extractStridedSlice S2x1x256x4x128 ![0, 0, 0, 0, 0] k slices_S2x2x256x4x128_S2x1x256x4x128_0_0_0_0_0) shapeCasts_S2x1x256x4x128_S2x256x4x128)

/-- The greatest score of each row. -/
def greatest (s : FVec Ideal S2x4x8192x256 .f32) : FVec Ideal S2x4x8192 .f32 :=
  Host.reduce FloatOps.maximumf s (constant S_ .f32 0xFF800000#32) reducesTo_S2x4x8192x256_S2x4x8192_d3 h_S_

/-- The reference's weights before the division, from the scores and their rows' greatest. -/
def expsOf (s : FVec Ideal S2x4x8192x256 .f32) (g : FVec Ideal S2x4x8192 .f32) : FVec Ideal S2x4x8192x256 .f32 :=
  Host.exp (subf s (broadcastInDim S2x4x8192x256 ![0, 1, 2, 3] bcast_S2x4x8192x1_S2x4x8192x256_0_1_2_3 (broadcastInDim S2x4x8192x1 ![0, 1, 2] bcast_S2x4x8192_S2x4x8192x1_0_1_2 (maximumf (broadcastInDim S2x4x8192 ![] bcast_S_S2x4x8192 (constant S_ .f32 0xFF800000#32)) g))))

/-- The reference's attention from the weights before the division. -/
def mixed (w : FVec Ideal S2x4x8192x256 .f32) (v : FVec Ideal S2x2x256x4x128 .f32) : FVec Ideal S2x8192x512 .f32 :=
  shapeCast _ (transpose S2x8192x4x128 [0, 3, 1, 2] (Host.dotGeneral dot_S2x256x4x128_S2x4x8192x256_S2x4x128x8192_1_3_3_2_02_01 none (shapeCast _ (extractStridedSlice S2x1x256x4x128 ![0, 0, 0, 0, 0] v slices_S2x2x256x4x128_S2x1x256x4x128_0_0_0_0_0) shapeCasts_S2x1x256x4x128_S2x256x4x128) (Host.divf w (broadcastInDim S2x4x8192x256 ![0, 1, 2, 3] bcast_S2x4x8192x1_S2x4x8192x256_0_1_2_3 (broadcastInDim S2x4x8192x1 ![0, 1, 2] bcast_S2x4x8192_S2x4x8192x1_0_1_2 (Host.reduceAdd w (constant S_ .f32 0x00000000#32) reducesTo_S2x4x8192x256_S2x4x8192_d3 h_S_))))) transposes_S2x4x128x8192_S2x8192x4x128_0_3_1_2) shapeCasts_S2x8192x4x128_S2x8192x512

/-- The reference's cross-attention of the first layer's memory. -/
def attended (q : FVec Ideal S2x8192x512 .f32) (k v : FVec Ideal S2x2x256x4x128 .f32) : FVec Ideal S2x8192x512 .f32 :=
  mixed (expsOf (scores q k) (greatest (scores q k))) v

theorem scores_at (q : FVec Ideal S2x8192x512 .f32) (k : FVec Ideal S2x2x256x4x128 .f32) (b : Fin 2) (n : Fin 4) (r : Fin 8192) (j : Fin 256) :
    scores q k (ix4 b n r j) = score (fun x => q (ix3 b r ⟨128 * n.val + x.val, by omega⟩) * Ideal.ofBits .f32 0x3DB504F3#32)
      (fun i x => k (ix5 b 0 i n x)) j := by
  unfold score
  pointwise [scores]
  blk_point []

theorem greatest_at (s : FVec Ideal S2x4x8192x256 .f32) (b : Fin 2) (n : Fin 4) (r : Fin 8192) :
    greatest s (ix3 b n r) = Finset.fold max (Ideal.ofBits .f32 0xFF800000#32) (fun i => s (ix4 b n r i)) Finset.univ := by
  unfold greatest
  pointwise

theorem expsOf_at (s : FVec Ideal S2x4x8192x256 .f32) (g : FVec Ideal S2x4x8192 .f32) (b : Fin 2) (n : Fin 4) (r : Fin 8192) (j : Fin 256) :
    expsOf s g (ix4 b n r j) = Ideal.exp (s (ix4 b n r j) - g (ix3 b n r)) := by
  have h : Ideal.ofBits .f32 0xFF800000#32 = (⊥ : EReal) := by simp [Ideal.ofBits, Ideal.ieee]
  pointwise [expsOf]
  rw [h, max_eq_right bot_le]

theorem mixed_at (w : FVec Ideal S2x4x8192x256 .f32) (v : FVec Ideal S2x2x256x4x128 .f32) (b : Fin 2) (r : Fin 8192) (d : Fin 512) :
    mixed w v (ix3 b r d) = ∑ j, Ideal.div (w (ix4 b ⟨d.val / 128, by omega⟩ r j)) (∑ i, w (ix4 b ⟨d.val / 128, by omega⟩ r i))
      * v (ix5 b 0 j ⟨d.val / 128, by omega⟩ ⟨d.val % 128, by omega⟩) := by
  pointwise [mixed]
  refine Finset.sum_congr (M := EReal) rfl fun j _ => (mul_comm _ _).trans ?_
  blk_point []

theorem attended_at (q : FVec Ideal S2x8192x512 .f32) (k v : FVec Ideal S2x2x256x4x128 .f32) (b : Fin 2) (r : Fin 8192) (d : Fin 512) :
    attended q k v (ix3 b r d) = attend (fun x => q (ix3 b r ⟨128 * (d.val / 128) + x.val, by omega⟩) * Ideal.ofBits .f32 0x3DB504F3#32)
      (fun j x => k (ix5 b 0 j ⟨d.val / 128, by omega⟩ x)) (fun j => v (ix5 b 0 j ⟨d.val / 128, by omega⟩ ⟨d.val % 128, by omega⟩)) := by
  unfold attended
  rw [mixed_at]
  simp only [expsOf_at, greatest_at, scores_at]
  rfl

end Cert.ReferenceCrossIdeal.Gen
-- ==== Proof.CrossValue.lean ====
/-
  The cross-attention's result: each point writes the attention of 512 queries, four heads of 128 columns, and the result
  array is the reference's.
-/
module

public import proofs.«01_k».proof.Defs
public import proofs.«01_k».proof.Proof.Gen.KernelCrossIdeal.Value
public import proofs.«01_k».proof.Proof.CrossSpec
public import Idealize.ShloMosaic.Lib.Pipeline.ValueKit
public import Idealize.ShloMosaic.Lib.Quiescent

@[expose] public section

set_option maxRecDepth 16384

open Idealize.ShloMosaic Idealize.ShloMosaic.TcCoe Idealize.SL.Sem Cross
open Idealize.ShloMosaic.Pipeline (Dat)

noncomputable section

namespace Cert.KernelCrossIdeal.Gen

open Cert.KernelCrossIdeal

/-- The attention a block gives, the head's columns starting at `o`. -/
def headed (q : Vec Ideal S1x512x512 .f32) (k v : Vec Ideal S1x1x256x512 .f32) (i : Fin 512) (d : Fin 512) (o : ℕ) (ho : o + 128 ≤ 512) : EReal :=
  attend (fun x => q (ix3 0 i ⟨o + x.val, by omega⟩) * Ideal.ofBits .f32 0x3DB504F3#32)
    (fun j x => k (ix4 0 0 j ⟨o + x.val, by omega⟩)) (fun j => v (ix4 0 0 j d))

theorem head0 (q : Vec Ideal S1x512x512 .f32) (k v : Vec Ideal S1x1x256x512 .f32) (i : Fin 512) (d : Fin 128) :
    k0_pay5 q k v (ix2 i d) = headed q k v i ⟨d.val, by omega⟩ 0 (by omega) := by
  unfold headed attend raised top score
  pointwise [k0_pay5, k0_pay2, k0_pay3, k0_pay4]

/-- A choice equals what both of its sides equal. -/
theorem either {p : Prop} [Decidable p] {α : Type} {a : p → α} {b : ¬p → α} {z : α} (h : ∀ x, a x = z) (h' : ∀ x, b x = z) :
    dite p a b = z := by
  split
  · exact h _
  · exact h' _

theorem written (q : Vec Ideal S1x512x512 .f32) (k v : Vec Ideal S1x1x256x512 .f32) (i : Fin 512) (d : Fin 512) :
    k0_pay1 (k0_pay2 q) (k0_pay3 k) (k0_pay4 v) (k0_pay5 q k v) (k0_pay6 q k) (k0_pay7 q k) (ix3 0 i d)
      = headed q k v i d (128 * (d.val / 128)) (by omega) := by
  have hd := d.isLt
  pointwise [k0_pay1, k0_pay7, k0_pay6, k0_pay4, k0_pay3, k0_pay2]
  refine either (fun h0 => ?_) (fun h0 => either (fun h1 => ?_) (fun h1 => either (fun h2 => ?_) (fun h2 => ?_)))
  · rw [head0]
    congr 1
    omega
  · have e : 128 * (d.val / 128) = 128 := by omega
    have e' : 128 + (d.val - 128) = d.val := by omega
    simp only [e, e', Fin.eta]
    rfl
  · have e : 128 * (d.val / 128) = 256 := by omega
    have e' : 256 + (d.val - 128 - 128) = d.val := by omega
    simp only [e, e', Fin.eta]
    rfl
  · have e : 128 * (d.val / 128) = 384 := by omega
    have e' : 384 + (d.val - 128 - 128 - 128) = d.val := by omega
    simp only [e, e', Fin.eta]
    rfl

variable (m : (ℓ : Loc nD τ sig) → Buf (Elt Ideal) ℓ)

theorem idx : ∀ t : Fin cfg0.N, win0_0.index t = ![t.val / 16, t.val % 16, 0] ∧ win0_1.index t = ![t.val / 16, 0, 0, 0]
    ∧ win0_2.index t = ![t.val / 16, 0, 0, 0] ∧ win0_3.index t = ![t.val / 16, t.val % 16, 0] ∧ t.val < 32 :=
  (by decide +kernel : ∀ t : Fin grid0.N, _)

theorem point_lt (t : Fin cfg0.N) : t.val < 32 := (idx t).2.2.2.2

theorem query (c : Dev nD) (t : Fin cfg0.N) (i : Fin 512) (d : Fin 512) :
    iblk m c 0 t (ix3 0 i d) = m ((c : Thread nD τ).loc main_arg0)
      (ix3 ⟨t.val / 16, by have := point_lt t; omega⟩ ⟨512 * (t.val % 16) + i.val, by omega⟩ d) := by
  blk_ext [iblk, V, idx t]

theorem key (c : Dev nD) (t : Fin cfg0.N) (j : Fin 256) (d : Fin 512) :
    iblk m c 1 t (ix4 0 0 j d) = m ((c : Thread nD τ).loc main_arg1)
      (ix5 ⟨t.val / 16, by have := point_lt t; omega⟩ 0 j ⟨d.val / 128, by omega⟩ ⟨d.val % 128, by omega⟩) := by
  blk_simp [iblk, idx t]
  entry_read
  pointwise
  blk_ext [idx t]

theorem value (c : Dev nD) (t : Fin cfg0.N) (j : Fin 256) (d : Fin 512) :
    iblk m c 2 t (ix4 0 0 j d) = m ((c : Thread nD τ).loc main_arg2)
      (ix5 ⟨t.val / 16, by have := point_lt t; omega⟩ 0 j ⟨d.val / 128, by omega⟩ ⟨d.val % 128, by omega⟩) := by
  blk_simp [iblk, idx t]
  entry_read
  pointwise
  blk_ext [idx t]

theorem headed_eq (c : Dev nD) (t : Fin cfg0.N) (i : Fin 512) (d : Fin 512) :
    headed (iblk m c 0 t) (iblk m c 1 t) (iblk m c 2 t) i d (128 * (d.val / 128)) (by omega)
      = Cert.ReferenceCrossIdeal.Gen.attended (m ((c : Thread nD τ).loc main_arg0)) (m ((c : Thread nD τ).loc main_arg1))
          (m ((c : Thread nD τ).loc main_arg2)) (ix3 ⟨t.val / 16, by have := point_lt t; omega⟩ ⟨512 * (t.val % 16) + i.val, by omega⟩ d) := by
  rw [Cert.ReferenceCrossIdeal.Gen.attended_at]
  unfold headed
  have h1 : ∀ x : Fin 128, (128 * (d.val / 128) + x.val) / 128 = d.val / 128 := fun x => by omega
  have h2 : ∀ x : Fin 128, (128 * (d.val / 128) + x.val) % 128 = x.val := fun x => by omega
  simp only [query, key, value, h1, h2]

theorem emb_apply (t : Fin cfg0.N) (i : Fin 512) (d : Fin 512) : (win0_3.blk t).view.emb (ix3 0 i d)
    = ix3 (n0 := 2) (n1 := 8192) (n2 := 512) ⟨t.val / 16, by have := point_lt t; omega⟩ ⟨512 * (t.val % 16) + i.val, by omega⟩ d := by
  blk_ext [idx t]

theorem attention (c : Dev nD) : (dats m 0 c).arrAt 3 cfg0.N
    = Cert.ReferenceCrossIdeal.Gen.attended (m ((c : Thread nD τ).loc main_arg0)) (m ((c : Thread nD τ).loc main_arg1))
        (m ((c : Thread nD τ).loc main_arg2)) := by
  refine (dats m 0 c).arrAt_eq_of_covers 3 _ (by decide +kernel) fun t _ y => ?_
  blk_simp
  rw [after0_3]
  frame_out
  obtain ⟨i, d, rfl⟩ : ∃ (i : Fin 512) (d : Fin 512), y = ix3 (n0 := 1) 0 i d := ⟨y 1, y 2, by
    refine (eq_ix3 (n0 := 1) (n1 := 512) (n2 := 512) y).trans (congrArg (fun z => ix3 z (y 1) (y 2)) ?_)
    exact Fin.ext (by have : (y 0).val < 1 := (y 0).isLt; show (y 0).val = 0; omega)⟩
  exact (written _ _ _ i d).trans ((headed_eq m c t i d).trans (congrArg _ (emb_apply t i d)).symm)

end Cert.KernelCrossIdeal.Gen

namespace Cert.Proof

theorem quiescent_ReferenceCrossIdeal : quiescent_ReferenceCrossIdeal := fun m ρ _ =>
  (θ_run Cert.ReferenceCrossIdeal.defs _ _).mono
    (fun r h => ⟨fun c => (h c).2, sem_eq_zero_of_no_sems (by decide) r.2⟩)
    (Cert.ReferenceCrossIdeal.Value.run (F := Ideal) m ρ)

theorem algebraic_KernelCrossIdeal_ReferenceCrossIdeal : algebraic_KernelCrossIdeal_ReferenceCrossIdeal := by
  intro m ρ m' ρ' _ hagree
  refine ⟨_, Cert.KernelCrossIdeal.Value.run_blocks (F := Ideal) m ρ, ?_⟩
  refine (θ_run Cert.ReferenceCrossIdeal.defs _ _).mono
    (fun _ h c => ⟨(h c).1.trans ?_, (h c).2⟩) (Cert.ReferenceCrossIdeal.Value.run (F := Ideal) m' ρ')
  obtain ⟨e0, e1, e2⟩ := hagree c
  rw [e0, e1, e2]
  exact (Cert.KernelCrossIdeal.Gen.attention m c).symm

end Cert.Proof
-- ==== Proof.GateFacts.lean ====
/-
  Facts of the router on finite rows: the normed row and its scores are finite, and the gate of two positions is a
  nonnegative finite number, so that it moves in and out of a sum whatever the summands are.
-/
module

public import proofs.«01_k».proof.Proof.Spec

@[expose] public section

namespace Moe

open Idealize.ShloMosaic

/-- A real number among the extended reals. -/
def IsReal (a : EReal) : Prop := ∃ r : ℝ, a = (r : EReal)

theorem IsReal.mul {a b : EReal} (ha : IsReal a) (hb : IsReal b) : IsReal (a * b) := by
  obtain ⟨r, rfl⟩ := ha; obtain ⟨q, rfl⟩ := hb
  exact ⟨r * q, (EReal.coe_mul r q).symm⟩

/-- A finite sum of reals, among the extended reals. -/
theorem coe_sum {n : Nat} (r : Fin n → ℝ) : ((∑ k, r k : ℝ) : EReal) = ∑ k, (r k : EReal) := by
  induction (Finset.univ : Finset (Fin n)) using Finset.induction_on with
  | empty => simp
  | insert a s ha ih => rw [Finset.sum_insert ha, Finset.sum_insert ha, EReal.coe_add, ih]

theorem IsReal.sum {n : Nat} {f : Fin n → EReal} (h : ∀ k, IsReal (f k)) : IsReal (∑ k, f k) := by
  choose r hr using h
  refine ⟨∑ k, r k, ?_⟩
  rw [coe_sum]
  exact Finset.sum_congr rfl fun k _ => hr k

/-- The norm's factor is a real number on a real row. -/
theorem isReal_factor {x : Fin 1024 → EReal} (hx : ∀ k, IsReal (x k)) :
    IsReal (Ideal.rsqrt (Ideal.div (∑ j, x j * x j) len + eps)) := by
  choose r hr using hx
  have hs : (∑ j, x j * x j) = ((∑ j, r j * r j : ℝ) : EReal) := by
    rw [coe_sum]
    exact Finset.sum_congr rfl fun k _ => by rw [hr k, EReal.coe_mul]
  have hnn : (0 : ℝ) ≤ ∑ j, r j * r j := Finset.sum_nonneg fun j _ => mul_self_nonneg _
  have hlen : len = ((1024 : ℝ) : EReal) := by
    unfold len; simp [Ideal.ofBits, Ideal.ieee, -EReal.coe_mul]; norm_num
  obtain ⟨ε, he, hpos⟩ : ∃ ε : ℝ, eps = (ε : EReal) ∧ 0 < ε := by
    refine ⟨8796093 * (2 : ℝ) ^ (-43 : Int), ?_, by positivity⟩
    unfold eps; simp [Ideal.ofBits, Ideal.ieee, -EReal.coe_mul]
  rw [hs, hlen, Ideal.div_coe (by norm_num), he, ← EReal.coe_mul, ← EReal.coe_add, Ideal.rsqrt_coe]
  have hp : (0 : ℝ) < (∑ j, r j * r j) * (1 / 1024) + ε := by positivity
  rw [if_neg (not_lt.mpr hp.le), if_neg hp.ne']
  exact ⟨_, rfl⟩

theorem isReal_normed {x g : Fin 1024 → EReal} (hx : ∀ k, IsReal (x k)) (hg : ∀ k, IsReal (g k)) (k : Fin 1024) :
    IsReal (normed x g k) :=
  ((hx k).mul (isReal_factor hx)).mul (hg k)

theorem isReal_score {h : Fin 1024 → EReal} {w : Fin 1024 → Fin 8 → EReal} (hh : ∀ k, IsReal (h k))
    (hw : ∀ k e, IsReal (w k e)) (e : Fin 8) : IsReal (score h w e) :=
  IsReal.sum fun k => (hh k).mul (hw k e)

/-- The gate of real scores is a nonnegative real. -/
theorem pairGate_real {l : Fin 8 → EReal} (hl : ∀ e, IsReal (l e)) (s0 s1 e : Fin 8) :
    ∃ r : ℝ, 0 ≤ r ∧ pairGate l s0 s1 e = (r : EReal) := by
  obtain ⟨a, ha⟩ := hl s0
  obtain ⟨b, hb⟩ := hl s1
  have hE : Ideal.exp (l s1 - l s0) = ((Real.exp (b - a) : ℝ) : EReal) := by
    rw [ha, hb, ← EReal.coe_sub, Ideal.exp_coe]
  have hpos := Real.exp_pos (b - a)
  have hden : (1 : EReal) + ((Real.exp (b - a) : ℝ) : EReal) = ((1 + Real.exp (b - a) : ℝ) : EReal) := by
    rw [EReal.coe_add, EReal.coe_one]
  have hne : (1 + Real.exp (b - a) : ℝ) ≠ 0 := by positivity
  unfold pairGate
  rw [hE, hden, Ideal.div_coe hne, Ideal.div_coe hne, one_mul, ← EReal.coe_mul]
  refine ⟨(if e = s0 then 1 / (1 + Real.exp (b - a)) else 0) + (if e = s1 then Real.exp (b - a) * (1 / (1 + Real.exp (b - a))) else 0), ?_, ?_⟩
  · split <;> split <;> positivity
  · rw [EReal.coe_add]
    congr 1 <;> split <;> simp

/-- A nonnegative real factor distributes over any finite sum of extended reals. -/
theorem mul_sum_of_nonneg_real {n : Nat} (r : ℝ) (hr : 0 ≤ r) (f : Fin n → EReal) :
    (r : EReal) * ∑ k, f k = ∑ k, (r : EReal) * f k := by
  induction (Finset.univ : Finset (Fin n)) using Finset.induction_on with
  | empty => simp
  | insert a s ha ih =>
    rw [Finset.sum_insert ha, Finset.sum_insert ha, ← ih]
    exact EReal.left_distrib_of_nonneg_of_ne_top (by exact_mod_cast hr) (EReal.coe_ne_top r) _ _

end Moe
-- ==== Proof.SampleRow.lean ====
/-
  For the sample's 512 rows. The kernel's block values read at an index, as the layer's words of `Spec`: the normed block, its masked scores, the gate
  block, the gate column of one expert, one tile of the SwiGLU hidden block, the accumulation and the final norm.
-/
module

public import proofs.«01_k».proof.Proof.Gen.KernelSampleIdeal.Skeleton
public import Idealize.ShloMosaic.Lib.Pointwise
public import proofs.«01_k».proof.Proof.GateFacts

@[expose] public section

set_option maxRecDepth 16384

open Idealize.ShloMosaic Moe

namespace Cert.KernelSampleIdeal.Gen

/-- The f32 pattern of −∞. -/
theorem negInf : Ideal.ofBits .f32 0xFF800000#32 = ⊥ := by simp [Ideal.ofBits, Ideal.ieee]

/-- The normed block. -/
theorem pay3_apply (a : Vec Ideal S512x1024 .f32) (b : Vec Ideal S1x1024 .f32) (i : Fin 512) (k : Fin 1024) :
    k0_pay3 a b (ix2 i k) = normed (fun j => a (ix2 i j)) (fun j => b (ix2 0 j)) k := by
  pointwise [k0_pay3]
  rfl

/-- The stored normed block is the normed block. -/
theorem pay4_apply (a : Vec Ideal S512x1024 .f32) (b : Vec Ideal S1x1024 .f32) (i : Fin 512) (k : Fin 1024) :
    k0_pay4 a b (ix2 i k) = normed (fun j => a (ix2 i j)) (fun j => b (ix2 0 j)) k := by
  pointwise [k0_pay4]
  exact pay3_apply a b i k

/-- The output block: the norm of the row plus the accumulated experts. -/
theorem pay2_apply (a c : Vec Ideal S512x1024 .f32) (b : Vec Ideal S1x1024 .f32) (i : Fin 512) (k : Fin 1024) :
    k0_pay2 a c b (ix2 i k) = normed (fun j => a (ix2 i j) + c (ix2 i j)) (fun j => b (ix2 0 j)) k := by
  pointwise [k0_pay2]
  rfl

/-- The accumulator starts at zero. -/
theorem pay10_apply (i : Fin 512) (k : Fin 1024) : k0_pay10 (F := Ideal) (ix2 i k) = 0 := by
  pointwise [k0_pay10]

/-- Whether a lane is one of the first eight, as the comparison's bit. -/
theorem lane_lt_eight (k : Fin 128) : (IntOp.cmpi .slt (BitVec.ofNat 32 k.val) 8#32 = 1) ↔ k.val < 8 := by
  revert k
  decide +kernel

/-- Two lanes' words agree only at one lane. -/
theorem lane_eq (k s : Fin 128) : (IntOp.cmpi .eq (BitVec.ofNat 32 k.val) (BitVec.ofNat 32 s.val) = 1) ↔ k = s := by
  have h : ∀ k : Fin 128, (BitVec.ofNat 32 k.val).toNat = k.val := by decide +kernel
  unfold IntOp.cmpi
  constructor
  · intro q
    by_contra hne
    have hb : BitVec.ofNat 32 k.val ≠ BitVec.ofNat 32 s.val := fun e =>
      hne (Fin.ext (by rw [← h k, ← h s, e]))
    simp only [beq_eq_false_iff_ne.mpr hb] at q
    exact absurd (show BitVec.ofBool false = 1 from q) (by decide)
  · rintro rfl
    simp

/-- The masked scores. -/
theorem pay5_apply (a : Vec Ideal S512x1024 .f32) (b : Vec Ideal S1x1024 .f32) (w : Vec Ideal S1024x128 .bf16)
    (i : Fin 512) (k : Fin 128) :
    k0_pay5 a b w (ix2 i k)
      = if k.val < 8 then ∑ x, normed (fun j => a (ix2 i j)) (fun j => b (ix2 0 j)) x * w (ix2 x k) else ⊥ := by
  pointwise [k0_pay5]
  rw [Scalar.select_def]
  simp only [lane_lt_eight, negInf, pay3_apply]

section gate

variable (a : Vec Ideal S512x1024 .f32) (b : Vec Ideal S1x1024 .f32) (w : Vec Ideal S1024x128 .bf16) (i : Fin 512)

/-- The eight scores of row `i`. -/
noncomputable def rowScore (e : Fin 8) : EReal :=
  score (normed (fun j => a (ix2 i j)) (fun j => b (ix2 0 j))) (fun x e => w (ix2 x (e.castLE (by decide)))) e

theorem pay5_score (e : Fin 8) : k0_pay5 a b w (ix2 i (e.castLE (by decide))) = rowScore a b w i e := by
  rw [pay5_apply, if_pos (by exact e.isLt)]
  rfl

theorem pay5_pad (k : Fin 128) (h : ¬ k.val < 8) : k0_pay5 a b w (ix2 i k) = ⊥ := by
  rw [pay5_apply, if_neg h]

theorem lt_or_pad (k : Fin 128) : (∃ e : Fin 8, k = e.castLE (by decide)) ∨ ¬ k.val < 8 := by
  by_cases h : k.val < 8
  · exact Or.inl ⟨⟨k.val, h⟩, rfl⟩
  · exact Or.inr h

variable {s0 s1 : Fin 8} (hs : TopTwo (rowScore a b w i) s0 s1) (hr : ∀ e, IsReal (rowScore a b w i e))

include hr in
theorem bot_lt_score (e : Fin 8) : ⊥ < rowScore a b w i e := by
  obtain ⟨r, hr⟩ := hr e
  rw [hr]
  exact EReal.bot_lt_coe r

include hs hr

theorem first_pay5 : IsFirst (fun k => k0_pay5 a b w (ix2 i k)) (s0.castLE (by decide) : Fin 128) := by
  intro k hk
  show k0_pay5 a b w (ix2 i k) < k0_pay5 a b w (ix2 i (s0.castLE (by decide)))
    ∨ (k0_pay5 a b w (ix2 i k) = k0_pay5 a b w (ix2 i (s0.castLE (by decide))) ∧ _)
  rw [pay5_score]
  rcases lt_or_pad k with ⟨e, rfl⟩ | h
  · rw [pay5_score]
    exact hs.fst e fun q => hk (q ▸ rfl)
  · rw [pay5_pad a b w i k h]
    exact Or.inl (bot_lt_score a b w i hr s0)

/-- The greatest score of the row. -/
theorem pay6_apply : k0_pay6 a b w (ix2 i 0) = rowScore a b w i s0 := by
  pointwise [k0_pay6]
  rw [negInf, maxFold_eq_of_first _ _ (first_pay5 a b w i hs hr), pay5_score]

/-- Its first position. -/
theorem pay7_apply : k0_pay7 a b w (ix2 i 0) = BitVec.ofNat 32 s0.val := by
  pointwise [k0_pay7]
  rw [pay6_apply a b w i hs hr, ← pay5_score a b w i s0]
  exact minFold_eq_of_first _ _ (first_pay5 a b w i hs hr)

/-- The scores with the first position masked. -/
theorem pay8_apply (k : Fin 128) :
    k0_pay8 a b w (ix2 i k) = if k = s0.castLE (by decide) then ⊥ else k0_pay5 a b w (ix2 i k) := by
  pointwise [k0_pay8]
  rw [pay7_apply a b w i hs hr, Scalar.select_def, negInf]
  simp only [show BitVec.ofNat 32 s0.val = BitVec.ofNat 32 (s0.castLE (by decide) : Fin 128).val from rfl, lane_eq]

theorem pay8_second : k0_pay8 a b w (ix2 i (s1.castLE (by decide))) = rowScore a b w i s1 := by
  rw [pay8_apply a b w i hs hr, if_neg (fun q => hs.ne (Fin.castLE_injective _ q)), pay5_score]

theorem first_pay8 : IsFirst (fun k => k0_pay8 a b w (ix2 i k)) (s1.castLE (by decide) : Fin 128) := by
  intro k hk
  show k0_pay8 a b w (ix2 i k) < k0_pay8 a b w (ix2 i (s1.castLE (by decide)))
    ∨ (k0_pay8 a b w (ix2 i k) = k0_pay8 a b w (ix2 i (s1.castLE (by decide))) ∧ _)
  rw [pay8_second a b w i hs hr, pay8_apply a b w i hs hr]
  by_cases h0 : k = s0.castLE (by decide)
  · rw [if_pos h0]
    exact Or.inl (bot_lt_score a b w i hr s1)
  · rw [if_neg h0]
    rcases lt_or_pad k with ⟨e, rfl⟩ | h
    · rw [pay5_score]
      exact hs.snd e (fun q => h0 (q ▸ rfl)) fun q => hk (q ▸ rfl)
    · rw [pay5_pad a b w i k h]
      exact Or.inl (bot_lt_score a b w i hr s1)

/-- The gate block on the first eight lanes: the gate of the two greatest scores. -/
theorem pay9_apply (e : Fin 8) :
    k0_pay9 (iota .tc S512x128 32 [1] iota_S512x128_d1_w32) (k0_pay6 a b w) (k0_pay7 a b w) (k0_pay8 a b w)
      (ix2 i (e.castLE (by decide))) = pairGate (rowScore a b w i) s0 s1 e := by
  pointwise [k0_pay9]
  rw [negInf, maxFold_eq_of_first _ _ (first_pay8 a b w i hs hr), pay8_second a b w i hs hr,
    pay6_apply a b w i hs hr, pay7_apply a b w i hs hr]
  have hm := minFold_eq_of_first _ _ (first_pay8 a b w i hs hr)
  simp only [pay8_second a b w i hs hr] at hm
  rw [hm, Scalar.select_def, Scalar.select_def]
  have h0 := lane_eq (e.castLE (by decide)) (s0.castLE (by decide))
  have h1 := lane_eq (e.castLE (by decide)) (s1.castLE (by decide))
  simp only [Fin.val_castLE, Fin.castLE_inj] at h0 h1
  simp only [Fin.val_castLE, h0, h1]
  rfl

end gate

/-- The gate column of the expert a grid point works on. -/
theorem pay11_apply (p : grid0.Coords) (e : Fin 8) (he : (p 1).val = e.val) (v : Vec Ideal S512x128 .f32) (i : Fin 512) :
    k0_pay11 p v (ix2 i 0) = v (ix2 i (e.castLE (by decide))) := by
  pointwise [k0_pay11]
  rw [he]
  have h : ∀ x : Fin 128, (IntOp.cmpi .eq (BitVec.ofNat 32 x.val) (BitVec.ofNat 32 e.val) = 1) ↔ x = e.castLE (by decide) :=
    fun x => lane_eq x (e.castLE (by decide))
  simp only [Scalar.select_def, h]
  rw [Finset.sum_ite_eq' Finset.univ (e.castLE (by decide) : Fin 128)]
  simp

/-- One tile of the SwiGLU hidden block. -/
theorem pay12_apply (v : Vec Ideal S512x1024 .bf16) (wg wu : Vec Ideal S1x1024x512 .bf16) (i k : Fin 512) :
    k0_pay12 v wg wu (ix2 i k)
      = unit (fun x => v (ix2 i x)) (fun x => wg (ix3 0 x k)) (fun x => wu (ix3 0 x k)) := by
  pointwise [k0_pay12]
  rw [zero_sub]
  rfl

/-- The tile of the down projection. -/
theorem pay13_apply (wd : Vec Ideal S1x512x1024 .bf16) (k : Fin 512) (d : Fin 1024) :
    k0_pay13 wd (ix2 k d) = wd (ix3 0 k d) := by
  pointwise [k0_pay13]

/-- One accumulation step. -/
theorem pay1_apply (v13 : FVec Ideal S512x1 .f32) (v29 : FVec Ideal S512x512 .bf16) (v31 : FVec Ideal S512x1024 .bf16)
    (v33 : Vec Ideal S512x1024 .f32) (i : Fin 512) (k : Fin 1024) :
    k0_pay1 v13 v29 v31 (constant S512x1024 .f32 0x00000000#32) v33 (ix2 i k)
      = v33 (ix2 i k) + v13 (ix2 i 0) * ∑ x, v29 (ix2 i x) * v31 (ix2 x k) := by
  pointwise [k0_pay1]

end Cert.KernelSampleIdeal.Gen
-- ==== Proof.SampleFold.lean ====
/-
  For the sample's 512 rows. What the kernel's buffers hold after each grid point. The normed block and the gate block are set at the first of a row
  block's 56 points and carried; the accumulator is the sum of the points' terms so far; the last point writes the norm of the
  row block plus the accumulator.
-/
module

public import proofs.«01_k».proof.Proof.Gen.KernelSampleIdeal.Value
public import Idealize.ShloMosaic.Lib.Pointwise
public import Idealize.ShloMosaic.Lib.Pipeline.ValueKit
public import Idealize.ShloMosaic.Lib.Pipeline.ReadBack
public import proofs.«01_k».proof.Proof.SampleRow

@[expose] public section

set_option maxRecDepth 16384

open Idealize.ShloMosaic Idealize.ShloMosaic.TcCoe Idealize.SL.Sem Moe
open Idealize.ShloMosaic.Pipeline (Dat)

namespace Cert.KernelSampleIdeal.Gen

noncomputable section

variable (m : (ℓ : Loc nD τ sig) → (ℓ : Loc nD τ sig).ty.Contents (Elt Ideal)) (c : Dev nD)

/-- The normed block of the row block a point belongs to. -/
def xnBlk (t : Fin cfg0.N) : FVec Ideal S512x1024 .bf16 := k0_pay4 (iblk m c 0 t) (iblk m c 1 t)

/-- The gate block of the row block a point belongs to. -/
def gateBlk (t : Fin cfg0.N) : FVec Ideal S512x128 .f32 :=
  k0_pay9 (iota .tc S512x128 32 [1] iota_S512x128_d1_w32) (k0_pay6 (iblk m c 0 t) (iblk m c 1 t) (iblk m c 2 t))
    (k0_pay7 (iblk m c 0 t) (iblk m c 1 t) (iblk m c 2 t)) (k0_pay8 (iblk m c 0 t) (iblk m c 1 t) (iblk m c 2 t))

/-- The accumulator after a point, from the normed block, the gate block and the accumulator before. -/
def accStep (t : Fin cfg0.N) (xn : FVec Ideal S512x1024 .bf16) (gate : FVec Ideal S512x128 .f32)
    (acc : FVec Ideal S512x1024 .f32) : FVec Ideal S512x1024 .f32 :=
  k0_pay1 (k0_pay11 (grid0.coords t) gate) (k0_pay12 xn (iblk m c 3 t) (iblk m c 4 t)) (k0_pay13 (iblk m c 5 t))
    (constant S512x1024 .f32 0x00000000#32) acc

/-- The first point of a row block sets the normed block. -/
theorem xn_first (t : Fin cfg0.N) (h0 : t.val % 56 = 0) : (outsAt0 m c t.val t.isLt).2.1 = xnBlk m c t := by
  rw [outsAt0_A m c t h0 (by omega)]
  frame_out
  rfl

/-- The first point of a row block sets the gate block. -/
theorem gate_first (t : Fin cfg0.N) (h0 : t.val % 56 = 0) : (outsAt0 m c t.val t.isLt).2.2.1 = gateBlk m c t := by
  rw [outsAt0_A m c t h0 (by omega)]
  frame_out
  rfl

/-- The first point of a row block accumulates from zero. -/
theorem acc_first (t : Fin cfg0.N) (h0 : t.val % 56 = 0) :
    (outsAt0 m c t.val t.isLt).2.2.2 = accStep m c t (xnBlk m c t) (gateBlk m c t) (k0_pay10 (F := Ideal)) := by
  rw [outsAt0_A m c t h0 (by omega)]
  frame_out
  rfl

/-- The other points carry the normed block. -/
theorem xn_next (t : Fin cfg0.N) (h0 : ¬ t.val % 56 = 0) :
    (outsAt0 m c t.val t.isLt).2.1 = (outsAt0 m c (t.val - 1) (Nat.lt_of_le_of_lt (Nat.sub_le _ _) t.isLt)).2.1 := by
  by_cases h1 : t.val % 56 = 55
  · rw [outsAt0_C m c t h0 h1]
    unfold sout0_C_0
    rfl
  · rw [outsAt0_B m c t h0 h1]
    unfold sout0_B_0
    rfl

/-- The other points carry the gate block. -/
theorem gate_next (t : Fin cfg0.N) (h0 : ¬ t.val % 56 = 0) :
    (outsAt0 m c t.val t.isLt).2.2.1 = (outsAt0 m c (t.val - 1) (Nat.lt_of_le_of_lt (Nat.sub_le _ _) t.isLt)).2.2.1 := by
  by_cases h1 : t.val % 56 = 55
  · rw [outsAt0_C m c t h0 h1]
    unfold sout0_C_1
    rfl
  · rw [outsAt0_B m c t h0 h1]
    unfold sout0_B_1
    rfl

/-- The other points add their term to the accumulator. -/
theorem acc_next (t : Fin cfg0.N) (h0 : ¬ t.val % 56 = 0) :
    (outsAt0 m c t.val t.isLt).2.2.2
      = accStep m c t (outsAt0 m c (t.val - 1) (Nat.lt_of_le_of_lt (Nat.sub_le _ _) t.isLt)).2.1
          (outsAt0 m c (t.val - 1) (Nat.lt_of_le_of_lt (Nat.sub_le _ _) t.isLt)).2.2.1
          (outsAt0 m c (t.val - 1) (Nat.lt_of_le_of_lt (Nat.sub_le _ _) t.isLt)).2.2.2 := by
  unfold accStep
  by_cases h1 : t.val % 56 = 55
  · rw [outsAt0_C m c t h0 h1]
    frame_out
    rw [read_unread_whole, read_unread_whole, read_unread_whole]
  · rw [outsAt0_B m c t h0 h1]
    frame_out
    rw [read_unread_whole, read_unread_whole, read_unread_whole]

/-- The last point of a row block writes the norm of the row block plus the accumulator. -/
theorem out_last (t : Fin cfg0.N) (h1 : t.val % 56 = 55) :
    (outsAt0 m c t.val t.isLt).1
      = k0_pay2 (iblk m c 0 t) (outsAt0 m c t.val t.isLt).2.2.2 (iblk m c 6 t) := by
  have h0 : ¬ t.val % 56 = 0 := by omega
  have e := acc_next m c t h0
  rw [e]
  clear e
  rw [outsAt0_C m c t h0 h1]
  frame_out
  unfold accStep
  rw [read_unread_whole, read_unread_whole, read_unread_whole]

/-- The windows' block indices at a grid point. -/
theorem idx : ∀ t : Fin cfg0.N, win0_0.index t = ![t.val / 56, 0] ∧ win0_1.index t = ![0, 0] ∧ win0_2.index t = ![0, 0]
    ∧ win0_3.index t = ![t.val / 7 % 8, 0, t.val % 7] ∧ win0_4.index t = ![t.val / 7 % 8, 0, t.val % 7]
    ∧ win0_5.index t = ![t.val / 7 % 8, t.val % 7, 0] ∧ win0_6.index t = ![0, 0] ∧ win0_7.index t = ![t.val / 56, 0]
    ∧ (grid0.coords t 1).val = t.val / 7 % 8 :=
  (by decide +kernel : ∀ t : Fin grid0.N, _)

end

end Cert.KernelSampleIdeal.Gen
-- ==== Proof.SampleArrays.lean ====
/-
  For the sample's 512 rows. The kernel's operand blocks at a grid point, read at an index of the launch's arguments. The host rounds the expert weights
  (no change over the extended reals), puts the router's eight columns before zero columns, and gives each norm's scale as one
  row.
-/
module

public import proofs.«01_k».proof.Proof.Gen.KernelSampleIdeal.Value
public import Idealize.ShloMosaic.Lib.Pointwise
public import Idealize.ShloMosaic.Lib.Pipeline.ValueKit
public import Idealize.ShloMosaic.Lib.Claim
public import Idealize.ShloMosaic.Lib.Routing.OpsSet
public import proofs.«01_k».proof.Proof.SampleFold

@[expose] public section

set_option maxRecDepth 16384

open Idealize.ShloMosaic Idealize.ShloMosaic.TcCoe Idealize.SL.Sem

namespace Cert.KernelSampleIdeal.Gen

noncomputable section

/-- Scattering eight columns at column zero: each lands at its own place. -/
theorem scatter_cols {α : Type} (x0 : S1024x128.Idx → α) (i : IVec S1 32) (hi : ∀ j, i j = 0#32) (u : S1024x8.Idx → α)
    (x : Fin 1024) (e : Fin 8) :
    Host.scatter scatter_S1024x128_S1_S1024x8_01_n_1_0 (fun _ b => b) x0 i u (ix2 x (e.castLE (by decide))) = u (ix2 x e) := by
  have hstart : ∀ (k : S1024x8.Idx) (a : Fin 2), scatter_S1024x128_S1_S1024x8_01_n_1_0.start k i a = 0 := by
    intro k a
    unfold ScatterDims.start
    split
    · rw [hi]; rfl
    · rfl
  have hw0 : ∀ k : S1024x8.Idx, scatter_S1024x128_S1_S1024x8_01_n_1_0.window k (0 : Fin 2) = (k 0).val := fun k => rfl
  have hw1 : ∀ k : S1024x8.Idx, scatter_S1024x128_S1_S1024x8_01_n_1_0.window k (1 : Fin 2) = (k 1).val := fun k => rfl
  have land : ∀ k : S1024x8.Idx, scatter_S1024x128_S1_S1024x8_01_n_1_0.resultIdx? k i
      = some (ix2 x (e.castLE (by decide))) ↔ k = ix2 x e := by
    intro k
    rw [Routing.resultIdx?_eq_some]
    constructor
    · intro h
      have h0 := h (0 : Fin 2)
      have h1 := h (1 : Fin 2)
      rw [hstart, hw0] at h0
      rw [hstart, hw1] at h1
      funext a
      refine Fin.cases ?_ (fun a => Fin.cases ?_ (fun a => a.elim0) a) a
      · apply Fin.ext
        have : ((k 0).val : Int) = (x.val : Int) := by simpa using h0
        exact_mod_cast this
      · apply Fin.ext
        have : ((k 1).val : Int) = (e.val : Int) := by simpa using h1
        exact_mod_cast this
    · rintro rfl a
      rw [hstart]
      refine Fin.cases ?_ (fun a => Fin.cases ?_ (fun a => a.elim0) a) a
      · exact (zero_add _)
      · exact (zero_add _)
  exact Routing.scatter_set_hit _ x0 i u _ _ (fun k hk => by rw [(land k).mp hk]) (ix2 x e) ((land _).mpr rfl)

variable (m : (ℓ : Loc nD τ sig) → (ℓ : Loc nD τ sig).ty.Contents (Elt Ideal)) (c : Dev nD)

/-- The row of the whole array that row `i` of a point's block is. -/
def rowOf (t : Fin cfg0.N) (i : Fin 512) : Fin 512 :=
  ⟨512 * (t.val / 56) + i.val, by have := t.isLt; have := i.isLt; have : cfg0.N = 56 := N_0; omega⟩

/-- The expert a point works on. -/
def expertOf (t : Fin cfg0.N) : Fin 8 := ⟨t.val / 7 % 8, Nat.mod_lt _ (by decide)⟩

/-- The hidden position that position `k` of a point's tile is. -/
def hiddenOf (t : Fin cfg0.N) (k : Fin 512) : Fin 3584 :=
  ⟨512 * (t.val % 7) + k.val, by have := Nat.mod_lt t.val (show 0 < 7 by decide); have := k.isLt; omega⟩

theorem x_apply (t : Fin cfg0.N) (i : Fin 512) (j : Fin 1024) :
    iblk m c 0 t (ix2 i j) = m ((c : Thread nD τ).loc main_arg0) (ix2 (rowOf t i) j) := by
  unfold rowOf
  blk_ext [iblk, V, idx t]

theorem g_apply (t : Fin cfg0.N) (j : Fin 1024) :
    iblk m c 1 t (ix2 0 j) = m ((c : Thread nD τ).loc main_arg1) (ix1 j) := by
  blk_simp [iblk, idx t]
  entry_read
  pointwise
  blk_ext [idx t]

theorem gf_apply (t : Fin cfg0.N) (j : Fin 1024) :
    iblk m c 6 t (ix2 0 j) = m ((c : Thread nD τ).loc main_arg6) (ix1 j) := by
  blk_simp [iblk, idx t]
  entry_read
  pointwise
  blk_ext [idx t]

theorem router_apply (t : Fin cfg0.N) (x : Fin 1024) (e : Fin 8) :
    iblk m c 2 t (ix2 x (e.castLE (by decide))) = m ((c : Thread nD τ).loc main_arg2) (ix2 x e) := by
  blk_simp [iblk, idx t]
  entry_read
  refine (congrArg (Host.scatter scatter_S1024x128_S1_S1024x8_01_n_1_0 (fun _ b => b) _ _ _) ?_).trans
    (scatter_cols _ _ (fun _ => rfl) _ x e)
  blk_ext [idx t]

theorem wg_apply (t : Fin cfg0.N) (x : Fin 1024) (k : Fin 512) :
    iblk m c 3 t (ix3 0 x k) = m ((c : Thread nD τ).loc main_arg3) (ix3 (expertOf t) x (hiddenOf t k)) := by
  unfold expertOf hiddenOf
  blk_simp [iblk, idx t]
  entry_read
  pointwise
  blk_ext [idx t]

theorem wu_apply (t : Fin cfg0.N) (x : Fin 1024) (k : Fin 512) :
    iblk m c 4 t (ix3 0 x k) = m ((c : Thread nD τ).loc main_arg4) (ix3 (expertOf t) x (hiddenOf t k)) := by
  unfold expertOf hiddenOf
  blk_simp [iblk, idx t]
  entry_read
  pointwise
  blk_ext [idx t]

theorem wd_apply (t : Fin cfg0.N) (k : Fin 512) (d : Fin 1024) :
    iblk m c 5 t (ix3 0 k d) = m ((c : Thread nD τ).loc main_arg5) (ix3 (expertOf t) (hiddenOf t k) d) := by
  unfold expertOf hiddenOf
  blk_simp [iblk, idx t]
  entry_read
  pointwise
  blk_ext [idx t]

end

end Cert.KernelSampleIdeal.Gen
-- ==== Proof.SampleValue.lean ====
/-
  For the sample's 512 rows. What the kernel leaves in its result: at row `r`, the norm of the row plus the sum over the eight experts of gate times
  expert. The 56 points of a row block are the 8 experts times the 7 tiles of the hidden axis; as the gates are nonnegative
  reals, a gate comes out of the sum over its expert's tiles, and the tiles' sums join to the sum over the hidden axis.
-/
module

public import proofs.«01_k».proof.Proof.SampleFold
public import proofs.«01_k».proof.Proof.SampleArrays

@[expose] public section

set_option maxRecDepth 16384

open Idealize.ShloMosaic Idealize.ShloMosaic.TcCoe Idealize.SL.Sem Moe
open Idealize.ShloMosaic.Pipeline (Dat)

namespace Cert.KernelSampleIdeal.Gen

noncomputable section

variable (m : (ℓ : Loc nD τ sig) → (ℓ : Loc nD τ sig).ty.Contents (Elt Ideal)) (c : Dev nD)

/-- The layer's seven arguments. -/
def argX : FVec Ideal S512x1024 .f32 := m ((c : Thread nD τ).loc main_arg0)
def argG : FVec Ideal S1024 .f32 := m ((c : Thread nD τ).loc main_arg1)
def argRouter : FVec Ideal S1024x8 .f32 := m ((c : Thread nD τ).loc main_arg2)
def argGate : FVec Ideal S8x1024x3584 .f32 := m ((c : Thread nD τ).loc main_arg3)
def argUp : FVec Ideal S8x1024x3584 .f32 := m ((c : Thread nD τ).loc main_arg4)
def argDown : FVec Ideal S8x3584x1024 .f32 := m ((c : Thread nD τ).loc main_arg5)
def argFinal : FVec Ideal S1024 .f32 := m ((c : Thread nD τ).loc main_arg6)

/-- Row `r`, normed. -/
def normRow (r : Fin 512) : Fin 1024 → EReal :=
  normed (fun j => argX m c (ix2 r j)) (fun j => argG m c (ix1 j))

/-- Row `r`'s scores. -/
def scores (r : Fin 512) : Fin 8 → EReal := score (normRow m c r) fun k e => argRouter m c (ix2 k e)

/-- The normed row of a point's row block. -/
theorem normed_blk (t : Fin cfg0.N) (i : Fin 512) :
    normed (fun j => iblk m c 0 t (ix2 i j)) (fun j => iblk m c 1 t (ix2 0 j)) = normRow m c (rowOf t i) := by
  unfold normRow
  exact congrArg₂ normed (funext fun j => x_apply m c t i j) (funext fun j => g_apply m c t j)

/-- The scores of a point's row block. -/
theorem rowScore_blk (t : Fin cfg0.N) (i : Fin 512) :
    rowScore (iblk m c 0 t) (iblk m c 1 t) (iblk m c 2 t) i = scores m c (rowOf t i) := by
  unfold rowScore scores
  exact congrArg₂ score (normed_blk m c t i) (funext fun x => funext fun e => router_apply m c t x e)

/-- Two points of one row block have the same rows. -/
theorem rowOf_pred (t : Fin cfg0.N) (h0 : ¬ t.val % 56 = 0) (i : Fin 512) :
    rowOf ⟨t.val - 1, Nat.lt_of_le_of_lt (Nat.sub_le _ _) t.isLt⟩ i = rowOf t i := by
  refine Fin.ext ?_
  show 512 * ((t.val - 1) / 56) + i.val = 512 * (t.val / 56) + i.val
  omega

/-- The normed block at every point. -/
theorem xn_apply (n : Nat) : ∀ (hn : n < cfg0.N) (i : Fin 512) (k : Fin 1024),
    (outsAt0 m c n hn).2.1 (ix2 i k) = normRow m c (rowOf ⟨n, hn⟩ i) k := by
  induction n with
  | zero =>
    intro hn i k
    rw [xn_first m c ⟨0, hn⟩ rfl, ← normed_blk]
    exact pay4_apply _ _ i k
  | succ n ih =>
    intro hn i k
    by_cases h0 : (n + 1) % 56 = 0
    · rw [xn_first m c ⟨n + 1, hn⟩ h0, ← normed_blk]
      exact pay4_apply _ _ i k
    · rw [xn_next m c ⟨n + 1, hn⟩ h0, ← rowOf_pred ⟨n + 1, hn⟩ h0]
      exact ih _ i k

/-- Where a point's result block lies. -/
theorem emb_apply (t : Fin cfg0.N) (i : Fin 512) (d : Fin 1024) :
    (win0_7.blk t).view.emb (ix2 i d) = ix2 (rowOf t i) d := by
  unfold rowOf
  blk_ext [idx t]

section gates

variable (s0 s1 : Fin 512 → Fin 8) (hs : ∀ r, TopTwo (scores m c r) (s0 r) (s1 r))
  (hr : ∀ r e, IsReal (scores m c r e))

/-- Row `r`'s gate of expert `e`. -/
def gateOf (r : Fin 512) (e : Fin 8) : EReal := pairGate (scores m c r) (s0 r) (s1 r) e

include hs hr

/-- The gate block of a point's row block. -/
theorem gateBlk_apply (t : Fin cfg0.N) (i : Fin 512) (e : Fin 8) :
    gateBlk m c t (ix2 i (e.castLE (by decide))) = gateOf m c s0 s1 (rowOf t i) e := by
  unfold gateBlk gateOf
  rw [← rowScore_blk]
  exact pay9_apply _ _ _ i (rowScore_blk m c t i ▸ hs _) (rowScore_blk m c t i ▸ hr _) e

/-- The gate block at every point. -/
theorem gate_apply (n : Nat) : ∀ (hn : n < cfg0.N) (i : Fin 512) (e : Fin 8),
    (outsAt0 m c n hn).2.2.1 (ix2 i (e.castLE (by decide))) = gateOf m c s0 s1 (rowOf ⟨n, hn⟩ i) e := by
  induction n with
  | zero =>
    intro hn i e
    rw [gate_first m c ⟨0, hn⟩ rfl]
    exact gateBlk_apply m c s0 s1 hs hr _ i e
  | succ n ih =>
    intro hn i e
    by_cases h0 : (n + 1) % 56 = 0
    · rw [gate_first m c ⟨n + 1, hn⟩ h0]
      exact gateBlk_apply m c s0 s1 hs hr _ i e
    · rw [gate_next m c ⟨n + 1, hn⟩ h0, ← rowOf_pred ⟨n + 1, hn⟩ h0]
      exact ih _ i e

omit hs hr

/-- The part of expert `e` at hidden position `f`. -/
def part (r : Fin 512) (e : Fin 8) (d : Fin 1024) (f : Fin 3584) : EReal :=
  unit (normRow m c r) (fun k => argGate m c (ix3 e k f)) (fun k => argUp m c (ix3 e k f)) * argDown m c (ix3 e f d)

/-- Hidden position `k` of tile `a`. -/
def hidden (a : Fin 7) (k : Fin 512) : Fin 3584 := ⟨512 * a.val + k.val, by omega⟩

/-- What a point adds: the gate of its expert times the expert's tile. -/
def term (t : Fin cfg0.N) (p : Fin 512 × Fin 1024) : EReal :=
  gateOf m c s0 s1 (rowOf t p.1) (expertOf t)
    * ∑ k : Fin 512, part m c (rowOf t p.1) (expertOf t) p.2 (hidden ⟨t.val % 7, Nat.mod_lt _ (by decide)⟩ k)

/-- One accumulation step adds the point's term. -/
theorem accStep_apply (t : Fin cfg0.N) (xn : FVec Ideal S512x1024 .bf16) (gate : FVec Ideal S512x128 .f32)
    (acc : FVec Ideal S512x1024 .f32) (i : Fin 512) (d : Fin 1024)
    (hx : ∀ k, xn (ix2 i k) = normRow m c (rowOf t i) k)
    (hg : ∀ e : Fin 8, gate (ix2 i (e.castLE (by decide))) = gateOf m c s0 s1 (rowOf t i) e) :
    accStep m c t xn gate acc (ix2 i d) = acc (ix2 i d) + term m c s0 s1 t (i, d) := by
  unfold accStep term
  refine (pay1_apply _ _ _ _ i d).trans (congrArg (acc (ix2 i d) + ·) ?_)
  refine congrArg₂ (· * ·) ?_ (Finset.sum_congr rfl fun k _ => ?_)
  · exact (pay11_apply _ (expertOf t) ((idx t).2.2.2.2.2.2.2.2) gate i).trans (hg _)
  · unfold part
    refine congrArg₂ (· * ·) ((pay12_apply _ _ _ i k).trans ?_) ((pay13_apply _ k d).trans (wd_apply m c t k d))
    have e1 : (fun x => xn (ix2 i x)) = normRow m c (rowOf t i) := funext hx
    have e2 : (fun x => iblk m c 3 t (ix3 0 x k)) = fun x => argGate m c (ix3 (expertOf t) x (hiddenOf t k)) :=
      funext fun x => wg_apply m c t x k
    have e3 : (fun x => iblk m c 4 t (ix3 0 x k)) = fun x => argUp m c (ix3 (expertOf t) x (hiddenOf t k)) :=
      funext fun x => wu_apply m c t x k
    rw [e1]
    exact congrArg₂ (unit (normRow m c (rowOf t i))) e2 e3

include hs hr

/-- The accumulator at the last point of a row block is the sum of its 56 terms. -/
theorem acc_last (t : Fin cfg0.N) (h1 : t.val % 56 = 55) (p : Fin 512 × Fin 1024) :
    (outsAt0 m c t.val t.isLt).2.2.2 (ix2 p.1 p.2)
      = 0 + ∑ s : Fin 56, term m c s0 s1 ⟨56 * (t.val / 56) + s.val, Pipeline.run_point_lt_of_flush t h1 s⟩ p := by
  refine Pipeline.eq_sum_fin_of_reset_step_apply_of_flush
    (fun n hn (p : Fin 512 × Fin 1024) => (outsAt0 m c n hn).2.2.2 (ix2 p.1 p.2)) 56 (fun _ => 0) (term m c s0 s1) ?_ ?_ t h1 p
  · intro u h0 q
    show (outsAt0 m c u.val u.isLt).2.2.2 (ix2 q.1 q.2) = _
    rw [acc_first m c u h0]
    refine (accStep_apply m c s0 s1 u _ _ _ q.1 q.2 (fun k => ?_) fun e => gateBlk_apply m c s0 s1 hs hr u q.1 e).trans ?_
    · rw [← normed_blk]
      exact pay4_apply _ _ q.1 k
    · rw [pay10_apply]
  · intro u h0 q
    show (outsAt0 m c u.val u.isLt).2.2.2 (ix2 q.1 q.2) = _
    rw [acc_next m c u h0]
    refine accStep_apply m c s0 s1 u _ _ _ q.1 q.2 (fun k => ?_) fun e => ?_
    · rw [← rowOf_pred u h0]
      exact xn_apply m c _ _ q.1 k
    · rw [← rowOf_pred u h0]
      exact gate_apply m c s0 s1 hs hr _ _ q.1 e

/-- The accumulator at the last point of a row block, as the gated experts. -/
theorem acc_experts (t : Fin cfg0.N) (h1 : t.val % 56 = 55) (i : Fin 512) (d : Fin 1024) :
    (outsAt0 m c t.val t.isLt).2.2.2 (ix2 i d)
      = ∑ e : Fin 8, gateOf m c s0 s1 (rowOf t i) e * ∑ f : Fin 3584, part m c (rowOf t i) e d f := by
  refine (acc_last m c s0 s1 hs hr t h1 (i, d)).trans ?_
  rw [zero_add]
  have h : ∀ e : Fin 8, gateOf m c s0 s1 (rowOf t i) e * ∑ f : Fin 3584, part m c (rowOf t i) e d f
      = ∑ a : Fin 7, gateOf m c s0 s1 (rowOf t i) e * ∑ k : Fin 512, part m c (rowOf t i) e d (hidden a k) := by
    intro e
    obtain ⟨g, hg, he⟩ := pairGate_real (hr (rowOf t i)) (s0 (rowOf t i)) (s1 (rowOf t i)) e
    rw [show gateOf m c s0 s1 (rowOf t i) e = (g : EReal) from he, ← mul_sum_of_nonneg_real g hg]
    refine congrArg _ (Eq.symm ?_)
    refine Fin.sum_mul_add_congr fun a k hl => ?_
    refine congrArg _ (Fin.ext ?_)
    show 512 * a.val + k.val = a.val * 512 + k.val
    omega
  rw [Finset.sum_congr rfl fun e _ => h e]
  refine Fin.sum_divmod_congr fun s ha hb => ?_
  have hlt := Pipeline.run_point_lt_of_flush t h1 s
  have hR : rowOf ⟨56 * (t.val / 56) + s.val, hlt⟩ i = rowOf t i := by
    refine Fin.ext ?_
    show 512 * ((56 * (t.val / 56) + s.val) / 56) + i.val = 512 * (t.val / 56) + i.val
    omega
  have hE : expertOf ⟨56 * (t.val / 56) + s.val, hlt⟩ = ⟨s.val / 7, ha⟩ := by
    refine Fin.ext ?_
    show (56 * (t.val / 56) + s.val) / 7 % 8 = s.val / 7
    omega
  have hT : (⟨(56 * (t.val / 56) + s.val) % 7, Nat.mod_lt _ (by decide)⟩ : Fin 7) = ⟨s.val % 7, hb⟩ := by
    refine Fin.ext ?_
    show (56 * (t.val / 56) + s.val) % 7 = s.val % 7
    omega
  unfold term
  simp only [hR, hE, hT]

omit hs hr in
/-- The row plus its gated experts. -/
def mixed (r : Fin 512) (d : Fin 1024) : EReal :=
  argX m c (ix2 r d) + ∑ e : Fin 8, gateOf m c s0 s1 r e * ∑ f : Fin 3584, part m c r e d f

/-- What the last point of a row block writes. -/
theorem out_apply (t : Fin cfg0.N) (h1 : t.val % 56 = 55) (i : Fin 512) (d : Fin 1024) :
    (outsAt0 m c t.val t.isLt).1 (ix2 i d)
      = normed (mixed m c s0 s1 (rowOf t i)) (fun j => argFinal m c (ix1 j)) d := by
  rw [out_last m c t h1]
  refine (pay2_apply _ _ _ i d).trans ?_
  refine congrFun (congrArg₂ normed (funext fun j => ?_) (funext fun j => gf_apply m c t j)) d
  exact congrArg₂ (· + ·) (x_apply m c t i j) (acc_experts m c s0 s1 hs hr t h1 i j)

/-- The result array. -/
theorem result_eq (G : FVec Ideal S512x1024 .f32)
    (hG : ∀ r d, G (ix2 r d) = normed (mixed m c s0 s1 r) (fun j => argFinal m c (ix1 j)) d) :
    (dats m 0 c).arrAt 7 cfg0.N = G := by
  refine (dats m 0 c).arrAt_eq_of_covers 7 _ (by decide +kernel) fun t hf y => ?_
  blk_simp
  rw [after0_7]
  obtain ⟨i, d, rfl⟩ : ∃ (i : Fin 512) (d : Fin 1024), y = ix2 i d := ⟨y 0, y 1, eq_ix2 (n0 := 512) (n1 := 1024) y⟩
  exact (out_apply m c s0 s1 hs hr t ((flush0_7 t).mp hf) i d).trans
    ((hG _ _).symm.trans (congrArg G (emb_apply t i d).symm))

end gates

end

end Cert.KernelSampleIdeal.Gen
-- ==== Proof.SampleTopK.lean ====
/-
  For the sample's 512 rows. The reference's top-2 of each row of eight scores, read at an index: the two values and positions are the scores and the
  positions at the first two places of the row's stable descending sort.
-/
module

public import proofs.«01_k».proof.Proof.Gen.ReferenceSampleIdeal.Run
public import Idealize.ShloMosaic.Lib.Pointwise
public import proofs.«01_k».proof.Proof.TopTwo

@[expose] public section

set_option maxRecDepth 16384

open Idealize.ShloMosaic Idealize.ShloMosaic.TcCoe Idealize.SL.Sem Moe

namespace Cert.ReferenceSampleIdeal.Value

noncomputable section

/-- Position `e` of row `r`. -/
theorem along_row (r : Fin 512) (k e : Fin 8) : (ix2 r k : S512x8.Idx).along 1 e = ix2 r e := by
  funext a
  refine Fin.cases ?_ (fun a => Fin.cases ?_ (fun a => a.elim0) a) a <;> rfl

/-- The place-to-position map of a row's stable descending sort. -/
def place (l : FVec Ideal S512x8 .f32) (r : Fin 512) : Fin 8 → Fin 8 :=
  sortedFrom fun a b => FloatOps.cmpfTotal (F := Ideal) .gt (l (ix2 r a)) (l (ix2 r b)) == 1#1

/-- The first two places hold the two greatest scores. -/
theorem topTwo_place (l : FVec Ideal S512x8 .f32) (r : Fin 512) :
    TopTwo (fun e => l (ix2 r e)) (place l r 0) (place l r 1) := by
  refine topTwo_sortedFrom (fun e => l (ix2 r e)) _ fun a b => ?_
  show (BitVec.ofBool (decide (l (ix2 r b) < l (ix2 r a))) == 1#1) = _
  cases decide (l (ix2 r b) < l (ix2 r a)) <;> rfl

theorem topK_values (l : FVec Ideal S512x8 .f32) (h) (r : Fin 512) (k : Fin 2) :
    (Host.topK S512x2 1 (FloatOps.cmpfTotal (F := Ideal) .gt) l h).1 (ix2 r k)
      = l (ix2 r (place l r (k.castLE (by decide)))) := by
  unfold Host.topK
  simp only [Host.sort2_eq_sortBy]
  unfold Host.sortBy place
  pointwise
  simp only [along_row]
  rfl

theorem topK_positions (l : FVec Ideal S512x8 .f32) (h) (r : Fin 512) (k : Fin 2) :
    (Host.topK S512x2 1 (FloatOps.cmpfTotal (F := Ideal) .gt) l h).2 (ix2 r k)
      = BitVec.ofNat 32 (place l r (k.castLE (by decide))).val := by
  unfold Host.topK
  simp only [Host.sort2_eq_sortBy]
  unfold Host.sortBy place
  pointwise
  simp only [along_row]
  rfl

end

end Cert.ReferenceSampleIdeal.Value
-- ==== Proof.SampleRefRow.lean ====
/-
  For the sample's 512 rows. The reference's named intermediate arrays read at an index, as the layer's words of `Spec`.
-/
module

public import proofs.«01_k».proof.Proof.SampleTopK
public import proofs.«01_k».proof.Proof.GateFacts
public import Idealize.ShloMosaic.Lib.Tactic.CleanTypes

@[expose] public section

set_option maxRecDepth 16384

open Idealize.ShloMosaic Idealize.ShloMosaic.TcCoe Idealize.SL.Sem Moe
open Idealize.ShloMosaic.StableHlo

namespace Cert.ReferenceSampleIdeal.Value

open Cert.ReferenceSampleIdeal Cert.ReferenceSampleIdeal.Gen

noncomputable section

variable (V0 : Valuation τ sig (Elt Ideal))

/-- The layer's seven arguments. -/
def argX : FVec Ideal S512x1024 .f32 := V0 (Proc.devRef .tc main_arg0)
def argG : FVec Ideal S1024 .f32 := V0 (Proc.devRef .tc main_arg1)
def argRouter : FVec Ideal S1024x8 .f32 := V0 (Proc.devRef .tc main_arg2)
def argGate : FVec Ideal S8x1024x3584 .f32 := V0 (Proc.devRef .tc main_arg3)
def argUp : FVec Ideal S8x1024x3584 .f32 := V0 (Proc.devRef .tc main_arg4)
def argDown : FVec Ideal S8x3584x1024 .f32 := V0 (Proc.devRef .tc main_arg5)
def argFinal : FVec Ideal S1024 .f32 := V0 (Proc.devRef .tc main_arg6)

/-- Row `r`, normed. -/
def normRow (r : Fin 512) : Fin 1024 → EReal :=
  normed (fun j => argX V0 (ix2 r j)) (fun j => argG V0 (ix1 j))

/-- Row `r`'s scores. -/
def scores (r : Fin 512) : Fin 8 → EReal := score (normRow V0 r) fun k e => argRouter V0 (ix2 k e)

theorem v12_at (r : Fin 512) (k : Fin 1024) : (show FVec Ideal _ .f32 from res_main_v12 (F := Ideal) V0) (ix2 r k) = normRow V0 r k := by
  unfold res_main_v12
  clean_types
  pointwise
  rfl

theorem v13_at (r : Fin 512) (e : Fin 8) : (show FVec Ideal _ .f32 from res_main_v13 (F := Ideal) V0) (ix2 r e) = scores V0 r e := by
  unfold res_main_v13
  clean_types
  pointwise
  exact Finset.sum_congr rfl fun k _ => congrArg (· * _) (v12_at V0 r k)

/-- The positions of row `r`'s two greatest scores. -/
def pos (r : Fin 512) : Fin 8 → Fin 8 := place (show FVec Ideal S512x8 .f32 from res_main_v13 (F := Ideal) V0) r

theorem topTwo_pos (r : Fin 512) : TopTwo (scores V0 r) (pos V0 r 0) (pos V0 r 1) := by
  have h := topTwo_place (show FVec Ideal S512x8 .f32 from res_main_v13 (F := Ideal) V0) r
  rwa [show (fun e => (show FVec Ideal S512x8 .f32 from res_main_v13 (F := Ideal) V0) (ix2 r e)) = scores V0 r from
    funext fun e => v13_at V0 r e] at h

theorem values_at (r : Fin 512) (k : Fin 2) :
    (show FVec Ideal _ .f32 from res_main_values (F := Ideal) V0) (ix2 r k) = scores V0 r (pos V0 r (k.castLE (by decide))) := by
  unfold res_main_values
  exact (topK_values _ _ r k).trans (v13_at V0 r _)

/-- The softmax's numerators: the shift is by the greatest score. -/
theorem v20_at (r : Fin 512) (k : Fin 2) :
    (show FVec Ideal _ .f32 from res_main_v20 (F := Ideal) V0) (ix2 r k)
      = Ideal.exp (scores V0 r (pos V0 r (k.castLE (by decide))) - scores V0 r (pos V0 r 0)) := by
  unfold res_main_v20
  clean_types
  pointwise
  have hv : ∀ k : Fin 2, res_main_values (F := Ideal) V0 (ix2 r k) = scores V0 r (pos V0 r (k.castLE (by decide))) := values_at V0 r
  simp only [hv]
  have hmax : Finset.fold max ⊥ (fun x : Fin 2 => scores V0 r (pos V0 r (x.castLE (by decide)))) Finset.univ
      = scores V0 r (pos V0 r 0) := by
    refine (sup_eq_of_first (n := 2) (fun x : Fin 2 => scores V0 r (pos V0 r (x.castLE (by decide)))) 0 fun e he => ?_)
    obtain rfl : e = 1 := by omega
    rcases (topTwo_pos V0 r).fst _ (topTwo_pos V0 r).ne with h | h
    · exact Or.inl h
    · exact Or.inr ⟨h.1, by decide⟩
  have hb : Ideal.ofBits .f32 0xFF800000#32 = ⊥ := by simp [Ideal.ofBits, Ideal.ieee]
  rw [hb, hmax, max_eq_right bot_le]

/-- The one-hot entry of a position's word. -/
theorem oneHot (s e : Fin 8) :
    FloatOps.uitofp (F := Ideal) .f32 (IntOp.cmpi .eq (BitVec.ofNat 32 s.val) (BitVec.ofNat 32 e.val)) = if e = s then 1 else 0 := by
  have h : IntOp.cmpi .eq (BitVec.ofNat 32 s.val) (BitVec.ofNat 32 e.val) = if e = s then 1#1 else 0#1 := by
    revert s e
    decide +kernel
  rw [h]
  split <;> simp [FloatOps.uitofp]

/-- The gate: the softmax of the two greatest scores at their positions. -/
theorem v26_at (r : Fin 512) (hr : ∀ e, IsReal (scores V0 r e)) (e : Fin 8) :
    (show FVec Ideal _ .f32 from res_main_v26 (F := Ideal) V0) (ix2 r e) = pairGate (scores V0 r) (pos V0 r 0) (pos V0 r 1) e := by
  unfold res_main_v26
  clean_types
  pointwise
  have hv : ∀ k : Fin 2, res_main_v20 (F := Ideal) V0 (ix2 r k)
      = Ideal.exp (scores V0 r (pos V0 r (k.castLE (by decide))) - scores V0 r (pos V0 r 0)) := v20_at V0 r
  have hp : ∀ k : Fin 2, (Host.topK S512x2 1 (FloatOps.cmpfTotal (F := Ideal) .gt) (res_main_v13 (F := Ideal) V0) sliceFits_S512x8_S512x2).2 (ix2 r k)
      = BitVec.ofNat 32 (pos V0 r (k.castLE (by decide))).val := topK_positions _ _ r
  simp only [hv, hp, oneHot, Fin.sum_univ_two]
  have h0 : Ideal.exp (scores V0 r (pos V0 r 0) - scores V0 r (pos V0 r 0)) = 1 := by
    obtain ⟨a, ha⟩ := hr (pos V0 r 0)
    rw [ha, ← EReal.coe_sub, sub_self, Ideal.exp_coe, Real.exp_zero, EReal.coe_one]
  unfold pairGate
  have c0 : (Fin.castLE (by decide) (0 : Fin 2) : Fin 8) = 0 := rfl
  have c1 : (Fin.castLE (by decide) (1 : Fin 2) : Fin 8) = 1 := rfl
  simp only [c0, c1, h0, mul_ite, mul_one, mul_zero]

theorem v30_at (r : Fin 512) (f : Fin 3584) : (show FVec Ideal _ .f32 from res_main_v30 (F := Ideal) V0) (ix2 r f)
    = ∑ k, normRow V0 r k * argGate V0 (ix3 0 k f) := by
  unfold res_main_v30
  clean_types
  pointwise
  exact Finset.sum_congr rfl fun k _ => congrArg (· * _) (v12_at V0 r k)

theorem v45_at (r : Fin 512) (f : Fin 3584) : (show FVec Ideal _ .f32 from res_main_v45 (F := Ideal) V0) (ix2 r f)
    = ∑ k, normRow V0 r k * argGate V0 (ix3 1 k f) := by
  unfold res_main_v45
  clean_types
  pointwise
  exact Finset.sum_congr rfl fun k _ => congrArg (· * _) (v12_at V0 r k)

theorem v60_at (r : Fin 512) (f : Fin 3584) : (show FVec Ideal _ .f32 from res_main_v60 (F := Ideal) V0) (ix2 r f)
    = ∑ k, normRow V0 r k * argGate V0 (ix3 2 k f) := by
  unfold res_main_v60
  clean_types
  pointwise
  exact Finset.sum_congr rfl fun k _ => congrArg (· * _) (v12_at V0 r k)

theorem v75_at (r : Fin 512) (f : Fin 3584) : (show FVec Ideal _ .f32 from res_main_v75 (F := Ideal) V0) (ix2 r f)
    = ∑ k, normRow V0 r k * argGate V0 (ix3 3 k f) := by
  unfold res_main_v75
  clean_types
  pointwise
  exact Finset.sum_congr rfl fun k _ => congrArg (· * _) (v12_at V0 r k)

theorem v90_at (r : Fin 512) (f : Fin 3584) : (show FVec Ideal _ .f32 from res_main_v90 (F := Ideal) V0) (ix2 r f)
    = ∑ k, normRow V0 r k * argGate V0 (ix3 4 k f) := by
  unfold res_main_v90
  clean_types
  pointwise
  exact Finset.sum_congr rfl fun k _ => congrArg (· * _) (v12_at V0 r k)

theorem v105_at (r : Fin 512) (f : Fin 3584) : (show FVec Ideal _ .f32 from res_main_v105 (F := Ideal) V0) (ix2 r f)
    = ∑ k, normRow V0 r k * argGate V0 (ix3 5 k f) := by
  unfold res_main_v105
  clean_types
  pointwise
  exact Finset.sum_congr rfl fun k _ => congrArg (· * _) (v12_at V0 r k)

theorem v120_at (r : Fin 512) (f : Fin 3584) : (show FVec Ideal _ .f32 from res_main_v120 (F := Ideal) V0) (ix2 r f)
    = ∑ k, normRow V0 r k * argGate V0 (ix3 6 k f) := by
  unfold res_main_v120
  clean_types
  pointwise
  exact Finset.sum_congr rfl fun k _ => congrArg (· * _) (v12_at V0 r k)

theorem v135_at (r : Fin 512) (f : Fin 3584) : (show FVec Ideal _ .f32 from res_main_v135 (F := Ideal) V0) (ix2 r f)
    = ∑ k, normRow V0 r k * argGate V0 (ix3 7 k f) := by
  unfold res_main_v135
  clean_types
  pointwise
  exact Finset.sum_congr rfl fun k _ => congrArg (· * _) (v12_at V0 r k)

/-- The row plus its gated experts. -/
def mixed (r : Fin 512) (d : Fin 1024) : EReal :=
  argX V0 (ix2 r d) + ∑ e : Fin 8, pairGate (scores V0 r) (pos V0 r 0) (pos V0 r 1) e
    * expert (normRow V0 r) (fun k f => argGate V0 (ix3 e k f)) (fun k f => argUp V0 (ix3 e k f)) (fun f => argDown V0 (ix3 e f d))

theorem v148_at (r : Fin 512) (hr : ∀ e, IsReal (scores V0 r e)) (d : Fin 1024) :
    (show FVec Ideal _ .f32 from res_main_v148 (F := Ideal) V0) (ix2 r d) = mixed V0 r d := by
  unfold res_main_v148 res_main_v102
  clean_types
  pointwise
  have hg : ∀ e : Fin 8, res_main_v26 (F := Ideal) V0 (ix2 r e) = pairGate (scores V0 r) (pos V0 r 0) (pos V0 r 1) e := v26_at V0 r hr
  have hn : ∀ k : Fin 1024, res_main_v12 (F := Ideal) V0 (ix2 r k) = normRow V0 r k := v12_at V0 r
  have h0 : ∀ f : Fin 3584, res_main_v30 (F := Ideal) V0 (ix2 r f) = ∑ k, normRow V0 r k * argGate V0 (ix3 0 k f) := v30_at V0 r
  have h1 : ∀ f : Fin 3584, res_main_v45 (F := Ideal) V0 (ix2 r f) = ∑ k, normRow V0 r k * argGate V0 (ix3 1 k f) := v45_at V0 r
  have h2 : ∀ f : Fin 3584, res_main_v60 (F := Ideal) V0 (ix2 r f) = ∑ k, normRow V0 r k * argGate V0 (ix3 2 k f) := v60_at V0 r
  have h3 : ∀ f : Fin 3584, res_main_v75 (F := Ideal) V0 (ix2 r f) = ∑ k, normRow V0 r k * argGate V0 (ix3 3 k f) := v75_at V0 r
  have h4 : ∀ f : Fin 3584, res_main_v90 (F := Ideal) V0 (ix2 r f) = ∑ k, normRow V0 r k * argGate V0 (ix3 4 k f) := v90_at V0 r
  have h5 : ∀ f : Fin 3584, res_main_v105 (F := Ideal) V0 (ix2 r f) = ∑ k, normRow V0 r k * argGate V0 (ix3 5 k f) := v105_at V0 r
  have h6 : ∀ f : Fin 3584, res_main_v120 (F := Ideal) V0 (ix2 r f) = ∑ k, normRow V0 r k * argGate V0 (ix3 6 k f) := v120_at V0 r
  have h7 : ∀ f : Fin 3584, res_main_v135 (F := Ideal) V0 (ix2 r f) = ∑ k, normRow V0 r k * argGate V0 (ix3 7 k f) := v135_at V0 r
  simp only [hg, hn, h0, h1, h2, h3, h4, h5, h6, h7]
  unfold mixed
  rw [Fin.sum_univ_eight]
  rfl

/-- The reference's result: the norm of the row plus its gated experts. -/
theorem result_at (r : Fin 512) (hr : ∀ e, IsReal (scores V0 r e)) (d : Fin 1024) :
    (show FVec Ideal S512x1024 .f32 from val3 (F := Ideal) V0 (Proc.devRef .tc main_v161)) (ix2 r d)
      = normed (mixed V0 r) (fun j => argFinal V0 (ix1 j)) d := by
  rw [val3_main_v161]
  clean_types
  pointwise
  have h : ∀ d : Fin 1024, res_main_v148 (F := Ideal) V0 (ix2 r d) = mixed V0 r d := v148_at V0 r hr
  simp only [h]
  rfl

end

end Cert.ReferenceSampleIdeal.Value
-- ==== Proof.SampleFinite.lean ====
/-
  For the sample's 512 rows. The precondition read at an index: `|a| < ∞` at every entry makes every entry a real number.
-/
module

public import proofs.«01_k».proof.Pre_finite_sample
public import proofs.«01_k».proof.Proof.GateFacts
public import Idealize.ShloMosaic.Lib.Pointwise

@[expose] public section

open Idealize.ShloMosaic Moe

namespace Cert.Pre_finite_sample

theorem facts : Facts where
  bcast_S_S512x1024 := by decide
  bcast_S_S1024 := by decide
  bcast_S_S1024x8 := by decide

theorem posInf : Ideal.ofBits .f32 0x7F800000#32 = ⊤ := by simp [Ideal.ofBits, Ideal.ieee]

/-- An extended real whose absolute value is below infinity is a real number. -/
theorem isReal_of_abs {a : EReal}
    (h : BitVec.ofBool (decide (max a (-a) < Ideal.ofBits FTy.f32 0x7F800000#32)) = 1#1) : IsReal a := by
  rw [posInf] at h
  have hlt : max a (-a) < ⊤ := by
    by_contra hn
    rw [decide_eq_false hn] at h
    exact absurd h (by decide)
  induction a with
  | bot => simp at hlt
  | top => simp at hlt
  | coe r => exact ⟨r, rfl⟩

variable [Facts] (a0 : FVec Ideal S512x1024 .f32) (a1 : FVec Ideal S1024 .f32) (a2 : FVec Ideal S1024x8 .f32)
  (a3 a4 : FVec Ideal S8x1024x3584 .f32) (a5 : FVec Ideal S8x3584x1024 .f32) (a6 : FVec Ideal S1024 .f32)

theorem isReal_x (h : (fn a0 a1 a2 a3 a4 a5 a6).1 = fun _ => 1#1) (r : Fin 512) (k : Fin 1024) : IsReal (a0 (ix2 r k)) := by
  have e : (fn a0 a1 a2 a3 a4 a5 a6).1  (ix2 r k) = 1#1 := congrFun h _
  unfold fn at e
  simp only at e
  revert e
  pointwise
  exact isReal_of_abs

theorem isReal_g (h : (fn a0 a1 a2 a3 a4 a5 a6).2.1 = fun _ => 1#1) (k : Fin 1024) : IsReal (a1 (ix1 k)) := by
  have e : (fn a0 a1 a2 a3 a4 a5 a6).2.1  (ix1 k) = 1#1 := congrFun h _
  unfold fn at e
  simp only at e
  revert e
  pointwise
  exact isReal_of_abs

theorem isReal_router (h : (fn a0 a1 a2 a3 a4 a5 a6).2.2 = fun _ => 1#1) (k : Fin 1024) (e : Fin 8) : IsReal (a2 (ix2 k e)) := by
  have e : (fn a0 a1 a2 a3 a4 a5 a6).2.2  (ix2 k e) = 1#1 := congrFun h _
  unfold fn at e
  simp only at e
  revert e
  pointwise
  exact isReal_of_abs

end Cert.Pre_finite_sample
-- ==== Proof.SampleLayer.lean ====
/-
  The sample's routed feed-forward layer, the claim: where the precondition makes the scores real, the kernel's result is the
  reference's.
-/
module

public import proofs.«01_k».proof.Defs
public import proofs.«01_k».proof.Proof.SampleValue
public import proofs.«01_k».proof.Proof.SampleRefRow
public import proofs.«01_k».proof.Proof.SampleFinite
public import Idealize.ShloMosaic.Lib.Quiescent

@[expose] public section

set_option maxRecDepth 16384

noncomputable section

namespace Cert.Proof

open Idealize.ShloMosaic Idealize.ShloMosaic.TcCoe Idealize.SL.Sem Moe

theorem quiescent_ReferenceSampleIdeal : quiescent_ReferenceSampleIdeal := fun m ρ _ =>
  (θ_run Cert.ReferenceSampleIdeal.defs _ _).mono (fun r h => ⟨fun c => (h c).2, sem_eq_zero_of_no_sems (by decide) r.2⟩)
    (Cert.ReferenceSampleIdeal.Value.run (F := Ideal) m ρ)

instance : Cert.Pre_finite_sample.Facts := Cert.Pre_finite_sample.facts

section tie

variable (m : (ℓ : Loc Cert.KernelSampleIdeal.nD Cert.KernelSampleIdeal.τ Cert.KernelSampleIdeal.sig) → Buf (Elt Ideal) ℓ)
  (c : Dev Cert.KernelSampleIdeal.nD)

/-- Under the precondition a row's scores are real. -/
theorem isReal_sample_scores (h : Pre_KernelSampleIdeal_finite_sample m) (r : Fin 512) (e : Fin 8) :
    IsReal (Cert.KernelSampleIdeal.Gen.scores m c r e) :=
  isReal_score
    (isReal_normed (fun k => Cert.Pre_finite_sample.isReal_x _ _ _ _ _ _ _ (h c).1 r k)
      fun k => Cert.Pre_finite_sample.isReal_g _ _ _ _ _ _ _ (h c).2.1 k)
    (fun k e => Cert.Pre_finite_sample.isReal_router _ _ _ _ _ _ _ (h c).2.2 k e) e

end tie

theorem algebraic_KernelSampleIdeal_ReferenceSampleIdeal : algebraic_KernelSampleIdeal_ReferenceSampleIdeal_pre_finite_sample := by
  intro m ρ m' ρ' hpre hagree
  refine ⟨_, Cert.KernelSampleIdeal.Value.run_blocks (F := Ideal) m ρ, ?_⟩
  refine (θ_run Cert.ReferenceSampleIdeal.defs _ _).mono (fun _ h c => ⟨?_, (h c).2⟩) (Cert.ReferenceSampleIdeal.Value.run (F := Ideal) m' ρ')
  refine ((h c).1.trans (Cert.ReferenceSampleIdeal.Value.val3_main_v161 _).symm).trans (Eq.symm ?_)
  obtain ⟨e0, e1, e2, e3, e4, e5, e6⟩ := hagree c
  have a0 : Cert.ReferenceSampleIdeal.Value.argX (StableHlo.launchContents m' c) = Cert.KernelSampleIdeal.Gen.argX m c := e0
  have a1 : Cert.ReferenceSampleIdeal.Value.argG (StableHlo.launchContents m' c) = Cert.KernelSampleIdeal.Gen.argG m c := e1
  have a2 : Cert.ReferenceSampleIdeal.Value.argRouter (StableHlo.launchContents m' c) = Cert.KernelSampleIdeal.Gen.argRouter m c := e2
  have a3 : Cert.ReferenceSampleIdeal.Value.argGate (StableHlo.launchContents m' c) = Cert.KernelSampleIdeal.Gen.argGate m c := e3
  have a4 : Cert.ReferenceSampleIdeal.Value.argUp (StableHlo.launchContents m' c) = Cert.KernelSampleIdeal.Gen.argUp m c := e4
  have a5 : Cert.ReferenceSampleIdeal.Value.argDown (StableHlo.launchContents m' c) = Cert.KernelSampleIdeal.Gen.argDown m c := e5
  have a6 : Cert.ReferenceSampleIdeal.Value.argFinal (StableHlo.launchContents m' c) = Cert.KernelSampleIdeal.Gen.argFinal m c := e6
  have hn : Cert.ReferenceSampleIdeal.Value.normRow (StableHlo.launchContents m' c) = Cert.KernelSampleIdeal.Gen.normRow m c := by
    unfold Cert.ReferenceSampleIdeal.Value.normRow Cert.KernelSampleIdeal.Gen.normRow
    rw [a0, a1]
  have hsc : Cert.ReferenceSampleIdeal.Value.scores (StableHlo.launchContents m' c) = Cert.KernelSampleIdeal.Gen.scores m c := by
    unfold Cert.ReferenceSampleIdeal.Value.scores Cert.KernelSampleIdeal.Gen.scores
    rw [hn, a2]
  have hr := isReal_sample_scores m c hpre
  refine Cert.KernelSampleIdeal.Gen.result_eq m c
    (fun r => Cert.ReferenceSampleIdeal.Value.pos (StableHlo.launchContents m' c) r 0)
    (fun r => Cert.ReferenceSampleIdeal.Value.pos (StableHlo.launchContents m' c) r 1)
    (fun r => hsc ▸ Cert.ReferenceSampleIdeal.Value.topTwo_pos (StableHlo.launchContents m' c) r) hr _ fun r d => ?_
  refine (Cert.ReferenceSampleIdeal.Value.result_at (StableHlo.launchContents m' c) r (fun e => hsc ▸ hr r e) d).trans ?_
  rw [a6]
  refine congrFun (congrArg (normed · _) (funext fun d => ?_)) d
  unfold Cert.ReferenceSampleIdeal.Value.mixed Cert.KernelSampleIdeal.Gen.mixed Cert.KernelSampleIdeal.Gen.gateOf Cert.KernelSampleIdeal.Gen.part expert
  rw [a0, a3, a4, a5, hn, hsc]

end Cert.Proof

end
-- ==== Proof.ConfInValue.lean ====
/-
  The conformer's projection: the first of a row block's four points norms the rows, the others keep them, and every point
  writes the product with its tile of the weights.
-/
module

public import proofs.«01_k».proof.Defs
public import proofs.«01_k».proof.Proof.Gen.KernelConfInIdeal.Value
public import proofs.«01_k».proof.Proof.Gen.ReferenceConfInIdeal.Run
public import proofs.«01_k».proof.Proof.Spec
public import Idealize.ShloMosaic.Lib.Pipeline.ValueKit
public import Idealize.ShloMosaic.Lib.Pipeline.ReadBack
public import Idealize.ShloMosaic.Lib.Quiescent

@[expose] public section

set_option maxRecDepth 16384

open Idealize.ShloMosaic Idealize.ShloMosaic.TcCoe Idealize.SL.Sem Moe
open Idealize.ShloMosaic.Pipeline (Dat)

noncomputable section

namespace Cert.ReferenceConfInIdeal.Value

open Cert.ReferenceConfInIdeal Cert.ReferenceConfInIdeal.Gen

/-- The reference: the normed rows times the weights. -/
def projection (x : FVec Ideal S16384x1024 .f32) (g : FVec Ideal S1024 .f32) (w : FVec Ideal S1024x2048 .f32) :
    FVec Ideal S16384x2048 .f32 :=
  Host.dotGeneral dot_S16384x1024_S1024x2048_S16384x2048_1_0_0_1_n_n none (mulf (mulf x (broadcastInDim S16384x1024 ![0, 1] bcast_S16384x1_S16384x1024_0_1 (Host.rsqrt (addf (Host.divf (broadcastInDim S16384x1 ![0] bcast_S16384_S16384x1_0 (Host.reduceAdd (mulf x x) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (broadcastInDim S1x1024 ![1] bcast_S1024_S1x1024_1 g))) w

theorem projection_apply (x : FVec Ideal S16384x1024 .f32) (g : FVec Ideal S1024 .f32) (w : FVec Ideal S1024x2048 .f32)
    (r : Fin 16384) (d : Fin 2048) : projection x g w (ix2 r d)
      = ∑ k : Fin 1024, normed (fun j => x (ix2 r j)) (fun j => g (ix1 j)) k * w (ix2 k d) := by
  pointwise [projection]
  rfl

end Cert.ReferenceConfInIdeal.Value

namespace Cert.KernelConfInIdeal.Gen

open Cert.KernelConfInIdeal

/-- The normed block. -/
theorem pay1_apply (a : Vec Ideal S512x1024 .f32) (b : Vec Ideal S1x1024 .f32) (i : Fin 512) (k : Fin 1024) :
    k0_pay1 a b (ix2 i k) = normed (fun j => a (ix2 i j)) (fun j => b (ix2 0 j)) k := by
  pointwise [k0_pay1]
  rfl

/-- A tile's product. -/
theorem pay2_apply (h : Vec Ideal S512x1024 .bf16) (w : Vec Ideal S1024x512 .bf16) (i d : Fin 512) :
    k0_pay2 (F := Ideal) h w (ix2 i d) = ∑ k : Fin 1024, h (ix2 i k) * w (ix2 k d) := by
  pointwise [k0_pay2]

variable (m : (ℓ : Loc nD τ sig) → (ℓ : Loc nD τ sig).ty.Contents (Elt Ideal)) (c : Dev nD)

theorem xn_first (t : Fin cfg0.N) (h0 : t.val % 4 = 0) :
    (outsAt0 m c t.val t.isLt).2 = k0_pay1 (iblk m c 0 t) (iblk m c 1 t) := by
  rw [outsAt0_A m c t h0]
  frame_out

theorem xn_next (t : Fin cfg0.N) (h0 : ¬ t.val % 4 = 0) :
    (outsAt0 m c t.val t.isLt).2 = (outsAt0 m c (t.val - 1) (Nat.lt_of_le_of_lt (Nat.sub_le _ _) t.isLt)).2 := by
  rw [outsAt0_B m c t h0]
  unfold sout0_B_0
  rfl

/-- Every point writes its tile's product. -/
theorem out_eq (t : Fin cfg0.N) :
    (outsAt0 m c t.val t.isLt).1 = k0_pay2 (outsAt0 m c t.val t.isLt).2 (iblk m c 2 t) := by
  by_cases h0 : t.val % 4 = 0
  · have e := xn_first m c t h0
    rw [e]
    clear e
    rw [outsAt0_A m c t h0]
    frame_out
  · have e := xn_next m c t h0
    rw [e]
    clear e
    rw [outsAt0_B m c t h0]
    frame_out
    rw [read_unread_whole]

/-- The windows' block indices at a grid point. -/
theorem idx : ∀ t : Fin cfg0.N, win0_0.index t = ![t.val / 4, 0] ∧ win0_1.index t = ![0, 0]
    ∧ win0_2.index t = ![0, t.val % 4] ∧ win0_3.index t = ![t.val / 4, t.val % 4] :=
  (by decide +kernel : ∀ t : Fin grid0.N, _)

/-- The row and the column of the whole array that a point's block entry is. -/
def rowOf (t : Fin cfg0.N) (i : Fin 512) : Fin 16384 :=
  ⟨512 * (t.val / 4) + i.val, by have := t.isLt; have := i.isLt; have : cfg0.N = 128 := N_0; omega⟩

def colOf (t : Fin cfg0.N) (d : Fin 512) : Fin 2048 :=
  ⟨512 * (t.val % 4) + d.val, by have := Nat.mod_lt t.val (show 0 < 4 by decide); have := d.isLt; omega⟩

/-- Row `r`, normed. -/
def normRow (r : Fin 16384) : Fin 1024 → EReal :=
  normed (fun j => (show FVec Ideal S16384x1024 .f32 from m ((c : Thread nD τ).loc main_arg0)) (ix2 r j))
    fun j => (show FVec Ideal S1024 .f32 from m ((c : Thread nD τ).loc main_arg1)) (ix1 j)

theorem x_apply (t : Fin cfg0.N) (i : Fin 512) (j : Fin 1024) :
    iblk m c 0 t (ix2 i j) = m ((c : Thread nD τ).loc main_arg0) (ix2 (rowOf t i) j) := by
  unfold rowOf
  blk_ext [iblk, V, idx t]

theorem g_apply (t : Fin cfg0.N) (j : Fin 1024) :
    iblk m c 1 t (ix2 0 j) = m ((c : Thread nD τ).loc main_arg1) (ix1 j) := by
  blk_simp [iblk, idx t]
  entry_read
  pointwise
  blk_ext [idx t]

theorem w_apply (t : Fin cfg0.N) (k : Fin 1024) (d : Fin 512) :
    iblk m c 2 t (ix2 k d) = m ((c : Thread nD τ).loc main_arg2) (ix2 k (colOf t d)) := by
  unfold colOf
  blk_simp [iblk, idx t]
  entry_read
  pointwise
  blk_ext [idx t]

theorem emb_apply (t : Fin cfg0.N) (i d : Fin 512) : (win0_3.blk t).view.emb (ix2 i d) = ix2 (rowOf t i) (colOf t d) := by
  unfold rowOf colOf
  blk_ext [idx t]

/-- Two points of one row block have the same rows. -/
theorem rowOf_pred (t : Fin cfg0.N) (h0 : ¬ t.val % 4 = 0) (i : Fin 512) :
    rowOf ⟨t.val - 1, Nat.lt_of_le_of_lt (Nat.sub_le _ _) t.isLt⟩ i = rowOf t i := by
  refine Fin.ext ?_
  show 512 * ((t.val - 1) / 4) + i.val = 512 * (t.val / 4) + i.val
  omega

/-- The normed block at every point. -/
theorem xn_apply (n : Nat) : ∀ (hn : n < cfg0.N) (i : Fin 512) (k : Fin 1024),
    (outsAt0 m c n hn).2 (ix2 i k) = normRow m c (rowOf ⟨n, hn⟩ i) k := by
  have first : ∀ (t : Fin cfg0.N) (h0 : t.val % 4 = 0) (i : Fin 512) (k : Fin 1024),
      (outsAt0 m c t.val t.isLt).2 (ix2 i k) = normRow m c (rowOf t i) k := fun t h0 i k => by
    rw [xn_first m c t h0]
    exact (pay1_apply _ _ i k).trans
      (congrFun (congrArg₂ normed (funext fun j => x_apply m c t i j) (funext fun j => g_apply m c t j)) k)
  induction n with
  | zero => exact fun hn i k => first ⟨0, hn⟩ rfl i k
  | succ n ih =>
    intro hn i k
    by_cases h0 : (n + 1) % 4 = 0
    · exact first ⟨n + 1, hn⟩ h0 i k
    · rw [xn_next m c ⟨n + 1, hn⟩ h0, ← rowOf_pred ⟨n + 1, hn⟩ h0]
      exact ih _ i k

theorem result : (dats m 0 c).arrAt 3 cfg0.N
    = Cert.ReferenceConfInIdeal.Value.projection (m ((c : Thread nD τ).loc main_arg0)) (m ((c : Thread nD τ).loc main_arg1))
        (m ((c : Thread nD τ).loc main_arg2)) := by
  refine (dats m 0 c).arrAt_eq_of_covers 3 _ (by decide +kernel) fun t hf y => ?_
  blk_simp
  rw [after0_3]
  obtain ⟨i, d, rfl⟩ : ∃ (i d : Fin 512), y = ix2 i d := ⟨y 0, y 1, eq_ix2 (n0 := 512) (n1 := 512) y⟩
  refine Eq.trans ?_ ((Cert.ReferenceConfInIdeal.Value.projection_apply _ _ _ (rowOf t i) (colOf t d)).symm.trans
    (congrArg _ (emb_apply t i d).symm))
  rw [out_eq m c t]
  exact (pay2_apply _ _ i d).trans
    (Finset.sum_congr rfl fun k _ => congrArg₂ (· * ·) (xn_apply m c t.val t.isLt i k) (w_apply m c t k d))

end Cert.KernelConfInIdeal.Gen

namespace Cert.Proof

theorem quiescent_ReferenceConfInIdeal : quiescent_ReferenceConfInIdeal := fun m ρ _ =>
  (θ_run Cert.ReferenceConfInIdeal.defs _ _).mono
    (fun r h => ⟨fun c => (h c).2, sem_eq_zero_of_no_sems (by decide) r.2⟩)
    (Cert.ReferenceConfInIdeal.Value.run (F := Ideal) m ρ)

theorem algebraic_KernelConfInIdeal_ReferenceConfInIdeal : algebraic_KernelConfInIdeal_ReferenceConfInIdeal := by
  intro m ρ m' ρ' _ hagree
  refine ⟨_, Cert.KernelConfInIdeal.Value.run_blocks (F := Ideal) m ρ, ?_⟩
  refine (θ_run Cert.ReferenceConfInIdeal.defs _ _).mono
    (fun _ h c => ⟨(h c).1.trans ?_, (h c).2⟩) (Cert.ReferenceConfInIdeal.Value.run (F := Ideal) m' ρ')
  obtain ⟨e0, e1, e2⟩ := hagree c
  rw [e0, e1, e2]
  exact (Cert.KernelConfInIdeal.Gen.result m c).symm

end Cert.Proof
-- ==== Proof.QueryValue.lean ====
/-
  The cross-attention's query projection: each of the 32 points norms its rows and writes their product with the weights.
-/
module

public import proofs.«01_k».proof.Defs
public import proofs.«01_k».proof.Proof.Gen.KernelQueryIdeal.Value
public import proofs.«01_k».proof.Proof.Gen.ReferenceQueryIdeal.Run
public import proofs.«01_k».proof.Proof.Spec
public import Idealize.ShloMosaic.Lib.Pipeline.ValueKit
public import Idealize.ShloMosaic.Lib.Pipeline.ReadBack
public import Idealize.ShloMosaic.Lib.Quiescent

@[expose] public section

set_option maxRecDepth 16384

open Idealize.ShloMosaic Idealize.ShloMosaic.TcCoe Idealize.SL.Sem Moe
open Idealize.ShloMosaic.Pipeline (Dat)

noncomputable section

namespace Cert.ReferenceQueryIdeal.Value

open Cert.ReferenceQueryIdeal Cert.ReferenceQueryIdeal.Gen

/-- The reference: the normed rows times the weights. -/
def projection (x : FVec Ideal S16384x1024 .f32) (g : FVec Ideal S1024 .f32) (w : FVec Ideal S1024x512 .f32) :
    FVec Ideal S16384x512 .f32 :=
  Host.dotGeneral dot_S16384x1024_S1024x512_S16384x512_1_0_0_1_n_n none (mulf (mulf x (broadcastInDim S16384x1024 ![0, 1] bcast_S16384x1_S16384x1024_0_1 (Host.rsqrt (addf (Host.divf (broadcastInDim S16384x1 ![0] bcast_S16384_S16384x1_0 (Host.reduceAdd (mulf x x) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (broadcastInDim S1x1024 ![1] bcast_S1024_S1x1024_1 g))) w

theorem projection_apply (x : FVec Ideal S16384x1024 .f32) (g : FVec Ideal S1024 .f32) (w : FVec Ideal S1024x512 .f32)
    (r : Fin 16384) (d : Fin 512) : projection x g w (ix2 r d)
      = ∑ k : Fin 1024, normed (fun j => x (ix2 r j)) (fun j => g (ix1 j)) k * w (ix2 k d) := by
  pointwise [projection]
  rfl

end Cert.ReferenceQueryIdeal.Value

namespace Cert.KernelQueryIdeal.Gen

open Cert.KernelQueryIdeal

/-- The normed block. -/
theorem pay1_apply (a : Vec Ideal S512x1024 .f32) (b : Vec Ideal S1x1024 .f32) (i : Fin 512) (k : Fin 1024) :
    k0_pay1 a b (ix2 i k) = normed (fun j => a (ix2 i j)) (fun j => b (ix2 0 j)) k := by
  pointwise [k0_pay1]
  rfl

/-- A tile's product. -/
theorem pay2_apply (h : Vec Ideal S512x1024 .bf16) (w : Vec Ideal S1024x512 .bf16) (i d : Fin 512) :
    k0_pay2 (F := Ideal) h w (ix2 i d) = ∑ k : Fin 1024, h (ix2 i k) * w (ix2 k d) := by
  pointwise [k0_pay2]

variable (m : (ℓ : Loc nD τ sig) → (ℓ : Loc nD τ sig).ty.Contents (Elt Ideal)) (c : Dev nD)

/-- The windows' block indices at a grid point. -/
theorem idx : ∀ t : Fin cfg0.N, win0_0.index t = ![t.val / 1, 0] ∧ win0_1.index t = ![0, 0]
    ∧ win0_2.index t = ![0, t.val % 1] ∧ win0_3.index t = ![t.val / 1, t.val % 1] :=
  (by decide +kernel : ∀ t : Fin grid0.N, _)

/-- The row and the column of the whole array that a point's block entry is. -/
def rowOf (t : Fin cfg0.N) (i : Fin 512) : Fin 16384 :=
  ⟨512 * (t.val / 1) + i.val, by have := t.isLt; have := i.isLt; have : cfg0.N = 32 := N_0; omega⟩

def colOf (t : Fin cfg0.N) (d : Fin 512) : Fin 512 :=
  ⟨512 * (t.val % 1) + d.val, by have := Nat.mod_lt t.val (show 0 < 1 by decide); have := d.isLt; omega⟩

/-- Row `r`, normed. -/
def normRow (r : Fin 16384) : Fin 1024 → EReal :=
  normed (fun j => (show FVec Ideal S16384x1024 .f32 from m ((c : Thread nD τ).loc main_arg0)) (ix2 r j))
    fun j => (show FVec Ideal S1024 .f32 from m ((c : Thread nD τ).loc main_arg1)) (ix1 j)

theorem x_apply (t : Fin cfg0.N) (i : Fin 512) (j : Fin 1024) :
    iblk m c 0 t (ix2 i j) = m ((c : Thread nD τ).loc main_arg0) (ix2 (rowOf t i) j) := by
  unfold rowOf
  blk_ext [iblk, V, idx t]

theorem g_apply (t : Fin cfg0.N) (j : Fin 1024) :
    iblk m c 1 t (ix2 0 j) = m ((c : Thread nD τ).loc main_arg1) (ix1 j) := by
  blk_simp [iblk, idx t]
  entry_read
  pointwise
  blk_ext [idx t]

theorem w_apply (t : Fin cfg0.N) (k : Fin 1024) (d : Fin 512) :
    iblk m c 2 t (ix2 k d) = m ((c : Thread nD τ).loc main_arg2) (ix2 k (colOf t d)) := by
  unfold colOf
  blk_simp [iblk, idx t]
  entry_read
  pointwise
  blk_ext [idx t]

theorem emb_apply (t : Fin cfg0.N) (i d : Fin 512) : (win0_3.blk t).view.emb (ix2 i d) = ix2 (rowOf t i) (colOf t d) := by
  unfold rowOf colOf
  blk_ext [idx t]

theorem result : (dats m 0 c).arrAt 3 cfg0.N
    = Cert.ReferenceQueryIdeal.Value.projection (m ((c : Thread nD τ).loc main_arg0)) (m ((c : Thread nD τ).loc main_arg1))
        (m ((c : Thread nD τ).loc main_arg2)) := by
  refine (dats m 0 c).arrAt_eq_of_covers 3 _ (by decide +kernel) fun t hf y => ?_
  blk_simp
  rw [after0_3]
  obtain ⟨i, d, rfl⟩ : ∃ (i d : Fin 512), y = ix2 i d := ⟨y 0, y 1, eq_ix2 (n0 := 512) (n1 := 512) y⟩
  refine Eq.trans ?_ ((Cert.ReferenceQueryIdeal.Value.projection_apply _ _ _ (rowOf t i) (colOf t d)).symm.trans
    (congrArg _ (emb_apply t i d).symm))
  unfold outsAt0
  frame_out
  refine (pay2_apply _ _ i d).trans
    (Finset.sum_congr (M := EReal) rfl fun k _ => congrArg₂ (· * ·) ?_ (w_apply m c t k d))
  exact (pay1_apply _ _ i k).trans
    (congrFun (congrArg₂ normed (funext fun j => x_apply m c t i j) (funext fun j => g_apply m c t j)) k)

end Cert.KernelQueryIdeal.Gen

namespace Cert.Proof

theorem quiescent_ReferenceQueryIdeal : quiescent_ReferenceQueryIdeal := fun m ρ _ =>
  (θ_run Cert.ReferenceQueryIdeal.defs _ _).mono
    (fun r h => ⟨fun c => (h c).2, sem_eq_zero_of_no_sems (by decide) r.2⟩)
    (Cert.ReferenceQueryIdeal.Value.run (F := Ideal) m ρ)

theorem algebraic_KernelQueryIdeal_ReferenceQueryIdeal : algebraic_KernelQueryIdeal_ReferenceQueryIdeal := by
  intro m ρ m' ρ' _ hagree
  refine ⟨_, Cert.KernelQueryIdeal.Value.run_blocks (F := Ideal) m ρ, ?_⟩
  refine (θ_run Cert.ReferenceQueryIdeal.defs _ _).mono
    (fun _ h c => ⟨(h c).1.trans ?_, (h c).2⟩) (Cert.ReferenceQueryIdeal.Value.run (F := Ideal) m' ρ')
  obtain ⟨e0, e1, e2⟩ := hagree c
  rw [e0, e1, e2]
  exact (Cert.KernelQueryIdeal.Gen.result m c).symm

end Cert.Proof
-- ==== Proof.CrossOutValue.lean ====
/-
  The cross-attention's output projection with its residual: a point's block is the residual block plus the product of the input
  block with its tile of the weights.
-/
module

public import proofs.«01_k».proof.Defs
public import proofs.«01_k».proof.Proof.Gen.KernelCrossOutIdeal.Value
public import proofs.«01_k».proof.Proof.Gen.ReferenceCrossOutIdeal.Run
public import Idealize.ShloMosaic.Lib.Pipeline.ValueKit
public import Idealize.ShloMosaic.Lib.Pipeline.ReadBack
public import Idealize.ShloMosaic.Lib.Quiescent

@[expose] public section

set_option maxRecDepth 16384

open Idealize.ShloMosaic Idealize.ShloMosaic.TcCoe Idealize.SL.Sem
open Idealize.ShloMosaic.Pipeline (Dat)

noncomputable section

namespace Cert.KernelCrossOutIdeal.Gen

open Cert.KernelCrossOutIdeal

variable (m : (ℓ : Loc nD τ sig) → Buf (Elt Ideal) ℓ)

/-- The reference: the residual plus the input times the weights. -/
abbrev projected (a : FVec Ideal S16384x512 .f32) (w : FVec Ideal S512x1024 .f32) (x : FVec Ideal S16384x1024 .f32) :
    FVec Ideal S16384x1024 .f32 :=
  addf x (Host.dotGeneral Cert.ReferenceCrossOutIdeal.dot_S16384x512_S512x1024_S16384x1024_1_0_0_1_n_n none a w)

theorem projected_apply (a : FVec Ideal S16384x512 .f32) (w : FVec Ideal S512x1024 .f32)
    (x : FVec Ideal S16384x1024 .f32) (r : Fin 16384) (d : Fin 1024) :
    projected a w x (ix2 r d) = x (ix2 r d) + ∑ k : Fin 512, a (ix2 r k) * w (ix2 k d) := by
  pointwise [projected]

theorem idx : ∀ t : Fin cfg0.N, win0_0.index t = ![t.val / 2, 0] ∧ win0_1.index t = ![0, t.val % 2]
    ∧ win0_2.index t = ![t.val / 2, t.val % 2] ∧ win0_3.index t = ![t.val / 2, t.val % 2] ∧ t.val / 2 < 32 :=
  (by decide +kernel : ∀ t : Fin grid0.N, _)

/-- The row and the column of the whole array that a point's block entry is. -/
def rowOf (t : Fin cfg0.N) (i : Fin 512) : Fin 16384 :=
  ⟨512 * (t.val / 2) + i.val, by have := (idx t).2.2.2.2; have := i.isLt; omega⟩

def colOf (t : Fin cfg0.N) (d : Fin 512) : Fin 1024 :=
  ⟨512 * (t.val % 2) + d.val, by have := Nat.mod_lt t.val (show 0 < 2 by decide); have := d.isLt; omega⟩

theorem emb_apply (t : Fin cfg0.N) (i d : Fin 512) : (win0_3.blk t).view.emb (ix2 i d) = ix2 (rowOf t i) (colOf t d) := by
  unfold rowOf colOf
  blk_ext [idx t]

theorem a_apply (c : Dev nD) (t : Fin cfg0.N) (i k : Fin 512) :
    iblk m c 0 t (ix2 i k) = m ((c : Thread nD τ).loc main_arg0) (ix2 (rowOf t i) k) := by
  unfold rowOf
  blk_ext [iblk, V, idx t]

theorem weight_apply (c : Dev nD) (t : Fin cfg0.N) (k d : Fin 512) :
    iblk m c 1 t (ix2 k d) = m ((c : Thread nD τ).loc main_arg1) (ix2 k (colOf t d)) := by
  unfold colOf
  blk_simp [iblk, idx t]
  entry_read
  pointwise
  blk_ext [idx t]

theorem residual_apply (c : Dev nD) (t : Fin cfg0.N) (i d : Fin 512) :
    iblk m c 2 t (ix2 i d) = m ((c : Thread nD τ).loc main_arg2) (ix2 (rowOf t i) (colOf t d)) := by
  unfold rowOf colOf
  blk_ext [iblk, V, idx t]

theorem pay_apply (x : Vec Ideal S512x512 .f32) (a : Vec Ideal S512x512 .f32) (w : Vec Ideal S512x512 .bf16) (i d : Fin 512) :
    k0_pay1 (F := Ideal) x a w (ix2 i d) = x (ix2 i d) + ∑ k : Fin 512, a (ix2 i k) * w (ix2 k d) := by
  pointwise [k0_pay1]

theorem result (c : Dev nD) : (dats m 0 c).arrAt 3 cfg0.N
    = projected (m ((c : Thread nD τ).loc main_arg0)) (m ((c : Thread nD τ).loc main_arg1))
        (m ((c : Thread nD τ).loc main_arg2)) := by
  refine (dats m 0 c).arrAt_eq_of_covers 3 _ (by decide +kernel) fun t _ y => ?_
  blk_simp
  rw [after0_3]
  frame_out
  obtain ⟨i, d, rfl⟩ : ∃ (i d : Fin 512), y = ix2 i d := ⟨y 0, y 1, eq_ix2 (n0 := 512) (n1 := 512) y⟩
  refine (pay_apply _ _ _ i d).trans (Eq.trans ?_ ((projected_apply _ _ _ (rowOf t i) (colOf t d)).symm.trans
    (congrArg _ (emb_apply t i d).symm)))
  exact congrArg₂ (· + ·) (residual_apply m c t i d)
    (Finset.sum_congr (M := EReal) rfl fun k _ => congrArg₂ (· * ·) (a_apply m c t i k) (weight_apply m c t k d))

end Cert.KernelCrossOutIdeal.Gen

namespace Cert.Proof

theorem quiescent_ReferenceCrossOutIdeal : quiescent_ReferenceCrossOutIdeal := fun m ρ _ =>
  (θ_run Cert.ReferenceCrossOutIdeal.defs _ _).mono
    (fun r h => ⟨fun c => (h c).2, sem_eq_zero_of_no_sems (by decide) r.2⟩)
    (Cert.ReferenceCrossOutIdeal.Value.run (F := Ideal) m ρ)

theorem algebraic_KernelCrossOutIdeal_ReferenceCrossOutIdeal : algebraic_KernelCrossOutIdeal_ReferenceCrossOutIdeal := by
  intro m ρ m' ρ' _ hagree
  refine ⟨_, Cert.KernelCrossOutIdeal.Value.run_blocks (F := Ideal) m ρ, ?_⟩
  refine (θ_run Cert.ReferenceCrossOutIdeal.defs _ _).mono
    (fun _ h c => ⟨(h c).1.trans ?_, (h c).2⟩) (Cert.ReferenceCrossOutIdeal.Value.run (F := Ideal) m' ρ')
  obtain ⟨e0, e1, e2⟩ := hagree c
  rw [e0, e1, e2]
  exact (Cert.KernelCrossOutIdeal.Gen.result m c).symm

end Cert.Proof
-- ==== Proof.ConfSpec.lean ====
/-
  The conformer's convolution module on one row: the gated rows, the depthwise convolution over a row and the thirty before
  it, the layer norm, the activation and the projection back.
-/
module

public import proofs.«01_k».proof.Proof.Spec

@[expose] public section

namespace Conf

open Idealize.ShloMosaic

noncomputable section

/-- A value gated by another. -/
def gate (a g : EReal) : EReal := a * Ideal.div 1 (1 + Ideal.exp (-g))

/-- The convolution at one entry: the bias, and the weights times the rows. -/
def conv (b : EReal) (w h : Fin 31 → EReal) : EReal := b + ∑ k, w k * h k

/-- A sum of 31 written out. -/
theorem sum_taps (f : Fin 31 → EReal) :
    ∑ k, f k = f 0 + f 1 + f 2 + f 3 + f 4 + f 5 + f 6 + f 7 + f 8 + f 9 + f 10 + f 11 + f 12 + f 13 + f 14 + f 15 + f 16 + f 17 + f 18 + f 19 + f 20 + f 21 + f 22 + f 23 + f 24 + f 25 + f 26 + f 27 + f 28 + f 29 + f 30 := by
  simp only [Fin.sum_univ_castSucc, Fin.sum_univ_zero, zero_add]
  rfl

def mean (y : Fin 1024 → EReal) : EReal := Ideal.div (∑ k, y k) Moe.len

def centred (y : Fin 1024 → EReal) (d : Fin 1024) : EReal := y d - mean y

/-- The layer norm of a row, scaled by `g` and shifted by `b`. -/
def layerNorm (y g b : Fin 1024 → EReal) (d : Fin 1024) : EReal :=
  centred y d * Ideal.rsqrt (Ideal.div (∑ k, centred y k * centred y k) Moe.len + Ideal.ofBits .f32 0x3727C5AC#32) * g d + b d

def silu (v : EReal) : EReal := v * Ideal.div 1 (1 + Ideal.exp (-v))

/-- One entry of the module: the residual and the product of the activated row with the weights. -/
def entry (x : EReal) (y g b w : Fin 1024 → EReal) : EReal := x + ∑ k, silu (layerNorm y g b k) * w k

/-- The gated rows of a sequence of the prompt after thirty rows of zeros. -/
def padded (ag : Fin 8192 → Fin 2048 → EReal) (q : Nat) (d : Fin 1024) : EReal :=
  if h : 30 ≤ q ∧ q < 8222 then
    gate (ag ⟨q - 30, by omega⟩ ⟨d.val, by omega⟩) (ag ⟨q - 30, by omega⟩ ⟨1024 + d.val, by omega⟩)
  else 0

theorem padded_zero (ag : Fin 8192 → Fin 2048 → EReal) (q : Nat) (d : Fin 1024) (h : q < 30) : padded ag q d = 0 :=
  dif_neg (by omega)

theorem padded_row (ag : Fin 8192 → Fin 2048 → EReal) (q : Nat) (d : Fin 1024) (n : Fin 8192) (h : q = n.val + 30) :
    padded ag q d = gate (ag n ⟨d.val, by omega⟩) (ag n ⟨1024 + d.val, by omega⟩) := by
  subst h
  refine (dif_pos ⟨by omega, by omega⟩).trans ?_
  have e : (⟨n.val + 30 - 30, by omega⟩ : Fin 8192) = n := Fin.ext (by simp)
  rw [e]

/-- The convolved row `n` of a sequence. -/
def convRow (ag : Fin 8192 → Fin 2048 → EReal) (w : Fin 31 → Fin 1024 → EReal) (b : Fin 1024 → EReal) (n : Nat) (d : Fin 1024) :
    EReal := conv (b d) (fun k => w k d) fun k => padded ag (k.val + n) d

/-- The thirty rows kept from an earlier call and the four gated rows of this one. -/
def joined (st : Fin 30 → Fin 1024 → EReal) (ag : Fin 4 → Fin 2048 → EReal) (q : Nat) (d : Fin 1024) : EReal :=
  if h : q < 30 then st ⟨q, h⟩ d
  else if h : q < 34 then gate (ag ⟨q - 30, by omega⟩ ⟨d.val, by omega⟩) (ag ⟨q - 30, by omega⟩ ⟨1024 + d.val, by omega⟩)
  else 0

theorem joined_old (st : Fin 30 → Fin 1024 → EReal) (ag : Fin 4 → Fin 2048 → EReal) (q : Nat) (d : Fin 1024) (n : Fin 30)
    (h : q = n.val) : joined st ag q d = st n d := by
  subst h
  exact dif_pos n.isLt

theorem joined_new (st : Fin 30 → Fin 1024 → EReal) (ag : Fin 4 → Fin 2048 → EReal) (q : Nat) (d : Fin 1024) (n : Fin 4)
    (h : q = n.val + 30) : joined st ag q d = gate (ag n ⟨d.val, by omega⟩) (ag n ⟨1024 + d.val, by omega⟩) := by
  subst h
  refine (dif_neg (by omega)).trans ((dif_pos (by omega)).trans ?_)
  have e : (⟨n.val + 30 - 30, by omega⟩ : Fin 4) = n := Fin.ext (by simp)
  rw [e]

/-- The convolved row `n` of a sampled sequence. -/
def joinedRow (st : Fin 30 → Fin 1024 → EReal) (ag : Fin 4 → Fin 2048 → EReal) (w : Fin 31 → Fin 1024 → EReal)
    (b : Fin 1024 → EReal) (n : Nat) (d : Fin 1024) : EReal := conv (b d) (fun k => w k d) fun k => joined st ag (k.val + n) d

end

end Conf
-- ==== Proof.ConfTaps.lean ====
/-
  The conformer of the prompt: the payloads between the gated rows and the result are the spec's convolution, layer norm and
  activation, the rows read from the buffer that holds the earlier rows before the gated ones.
-/
module

public import proofs.«01_k».proof.Proof.Gen.KernelConfIdeal.Value
public import proofs.«01_k».proof.Proof.ConfSpec
public import Idealize.ShloMosaic.Lib.Pipeline.ValueKit
public import Idealize.ShloMosaic.Lib.Pipeline.ReadBack
public import Idealize.ShloMosaic.Lib.VecWindow

@[expose] public section

set_option maxRecDepth 16384

open Idealize.ShloMosaic Idealize.ShloMosaic.TcCoe Idealize.SL.Sem Conf

namespace Cert.KernelConfIdeal.Gen

open Cert.KernelConfIdeal

noncomputable section

/-! The convolution's products, some at a time. -/

theorem pay6_apply (b : Vec Ideal S1x1024 .f32) (w0 w1 : Vec Ideal S1x1024 .f32) (h0 h1 : Vec Ideal S256x1024 .f32)
    (i : Fin 256) (d : Fin 1024) : k0_pay6 b w0 h0 w1 h1 (ix2 i d)
      = b (ix2 0 d) + w0 (ix2 0 d) * h0 (ix2 i d) + w1 (ix2 0 d) * h1 (ix2 i d) := by
  pointwise [k0_pay6]

theorem pay7_apply (y : FVec Ideal S256x1024 .f32) (w2 w3 w4 w5 w6 w7 w8 : Vec Ideal S1x1024 .f32) (h2 h3 h4 h5 h6 h7 h8 : Vec Ideal S256x1024 .f32)
    (i : Fin 256) (d : Fin 1024) : k0_pay7 y w2 h2 w3 h3 w4 h4 w5 h5 w6 h6 w7 h7 w8 h8 (ix2 i d)
      = y (ix2 i d) + w2 (ix2 0 d) * h2 (ix2 i d) + w3 (ix2 0 d) * h3 (ix2 i d) + w4 (ix2 0 d) * h4 (ix2 i d) + w5 (ix2 0 d) * h5 (ix2 i d) + w6 (ix2 0 d) * h6 (ix2 i d) + w7 (ix2 0 d) * h7 (ix2 i d) + w8 (ix2 0 d) * h8 (ix2 i d) := by
  pointwise [k0_pay7]

theorem pay8_apply (y : FVec Ideal S256x1024 .f32) (w9 w10 w11 w12 w13 w14 : Vec Ideal S1x1024 .f32) (h9 h10 h11 h12 h13 h14 : Vec Ideal S256x1024 .f32)
    (i : Fin 256) (d : Fin 1024) : k0_pay8 y w9 h9 w10 h10 w11 h11 w12 h12 w13 h13 w14 h14 (ix2 i d)
      = y (ix2 i d) + w9 (ix2 0 d) * h9 (ix2 i d) + w10 (ix2 0 d) * h10 (ix2 i d) + w11 (ix2 0 d) * h11 (ix2 i d) + w12 (ix2 0 d) * h12 (ix2 i d) + w13 (ix2 0 d) * h13 (ix2 i d) + w14 (ix2 0 d) * h14 (ix2 i d) := by
  pointwise [k0_pay8]

theorem pay9_apply (w : Vec Ideal S1x1024 .f32) (h : Vec Ideal S256x1024 .f32) (i : Fin 256) (d : Fin 1024) :
    k0_pay9 w h (ix2 i d) = w (ix2 0 d) * h (ix2 i d) := by
  pointwise [k0_pay9]

theorem pay10_apply (y : FVec Ideal S256x1024 .f32) (z : FVec Ideal S256x1024 .f32) (w16 w17 w18 w19 w20 w21 : Vec Ideal S1x1024 .f32) (h16 h17 h18 h19 h20 h21 : Vec Ideal S256x1024 .f32)
    (i : Fin 256) (d : Fin 1024) : k0_pay10 y z w16 h16 w17 h17 w18 h18 w19 h19 w20 h20 w21 h21 (ix2 i d)
      = y (ix2 i d) + z (ix2 i d) + w16 (ix2 0 d) * h16 (ix2 i d) + w17 (ix2 0 d) * h17 (ix2 i d) + w18 (ix2 0 d) * h18 (ix2 i d) + w19 (ix2 0 d) * h19 (ix2 i d) + w20 (ix2 0 d) * h20 (ix2 i d) + w21 (ix2 0 d) * h21 (ix2 i d) := by
  pointwise [k0_pay10]

theorem pay11_apply (y : FVec Ideal S256x1024 .f32) (w22 w23 w24 w25 w26 w27 w28 : Vec Ideal S1x1024 .f32) (h22 h23 h24 h25 h26 h27 h28 : Vec Ideal S256x1024 .f32)
    (i : Fin 256) (d : Fin 1024) : k0_pay11 y w22 h22 w23 h23 w24 h24 w25 h25 w26 h26 w27 h27 w28 h28 (ix2 i d)
      = y (ix2 i d) + w22 (ix2 0 d) * h22 (ix2 i d) + w23 (ix2 0 d) * h23 (ix2 i d) + w24 (ix2 0 d) * h24 (ix2 i d) + w25 (ix2 0 d) * h25 (ix2 i d) + w26 (ix2 0 d) * h26 (ix2 i d) + w27 (ix2 0 d) * h27 (ix2 i d) + w28 (ix2 0 d) * h28 (ix2 i d) := by
  pointwise [k0_pay11]

/-- The last two products, the layer norm and the activation. -/
theorem pay12_apply (y : FVec Ideal S256x1024 .f32) (w29 w30 g b : Vec Ideal S1x1024 .f32) (h29 h30 : Vec Ideal S256x1024 .f32) (i : Fin 256)
    (d : Fin 1024) : k0_pay12 y w29 h29 w30 h30 g b (ix2 i d)
      = silu (layerNorm (fun e => y (ix2 i e) + w29 (ix2 0 e) * h29 (ix2 i e) + w30 (ix2 0 e) * h30 (ix2 i e))
          (fun e => g (ix2 0 e)) (fun e => b (ix2 0 e)) d) := by
  pointwise [k0_pay12]
  simp only [zero_sub]
  rfl

/-- The result: the residual and the projection. -/
theorem pay1_apply (y : FVec Ideal S256x1024 .f32) (x : Vec Ideal S1x256x1024 .f32) (w : Vec Ideal S1024x1024 .bf16)
    (i : Fin 256) (d : Fin 1024) :
    k0_pay1 y x w (ix3 0 i d) = x (ix3 0 i d) + ∑ k : Fin 1024, y (ix2 i k) * w (ix2 k d) := by
  pointwise [k0_pay1]

/-- Tap `k`'s row of the weights, and the rows it multiplies. -/
theorem ld_weight (w : Vec Ideal S31x1024 .f32) (k : Nat) (inb) (hk : k < 31) (d : Fin 1024) :
    View.ld w (Rect.unit ![k, 0] ![1, 1024] inb) (ix2 0 d) = w (ix2 ⟨k, hk⟩ d) :=
  View.ld_unit_apply_of _ _ _ _ _ _ (Fin.forall_fin_two.2 ⟨rfl, (Nat.zero_add d.val).symm⟩)

theorem ld_rows (h : Vec Ideal S288x1024 .f32) (k : Nat) (inb) (i : Fin 256) (r : Fin 288) (hr : r.val = k + i.val)
    (d : Fin 1024) : View.ld h (Rect.unit ![k, 0] ![256, 1024] inb) (ix2 i d) = h (ix2 r d) :=
  View.ld_unit_apply_of _ _ _ _ _ _ (Fin.forall_fin_two.2 ⟨hr, (Nat.zero_add d.val).symm⟩)

/-- The activated rows, of the weights, the buffer's rows, the bias and the norm's scale and shift. -/
def activated (w : Vec Ideal S31x1024 .f32) (h : Vec Ideal S288x1024 .f32) (b g s : Vec Ideal S1x1024 .f32) : FVec Ideal S256x1024 .f32 :=
  k0_pay12 (k0_pay11 (k0_pay10 (k0_pay8 (k0_pay7 (k0_pay6 b
    (View.ld w (Rect.unit ![0, 0] ![1, 1024] inb_S31x1024_S1x1024_0_0)) (View.ld h (Rect.unit ![2, 0] ![256, 1024] inb_S288x1024_S256x1024_2_0))
    (View.ld w (Rect.unit ![1, 0] ![1, 1024] inb_S31x1024_S1x1024_1_0)) (View.ld h (Rect.unit ![3, 0] ![256, 1024] inb_S288x1024_S256x1024_3_0)))
    (View.ld w (Rect.unit ![2, 0] ![1, 1024] inb_S31x1024_S1x1024_2_0)) (View.ld h (Rect.unit ![4, 0] ![256, 1024] inb_S288x1024_S256x1024_4_0))
    (View.ld w (Rect.unit ![3, 0] ![1, 1024] inb_S31x1024_S1x1024_3_0)) (View.ld h (Rect.unit ![5, 0] ![256, 1024] inb_S288x1024_S256x1024_5_0))
    (View.ld w (Rect.unit ![4, 0] ![1, 1024] inb_S31x1024_S1x1024_4_0)) (View.ld h (Rect.unit ![6, 0] ![256, 1024] inb_S288x1024_S256x1024_6_0))
    (View.ld w (Rect.unit ![5, 0] ![1, 1024] inb_S31x1024_S1x1024_5_0)) (View.ld h (Rect.unit ![7, 0] ![256, 1024] inb_S288x1024_S256x1024_7_0))
    (View.ld w (Rect.unit ![6, 0] ![1, 1024] inb_S31x1024_S1x1024_6_0)) (View.ld h (Rect.unit ![8, 0] ![256, 1024] inb_S288x1024_S256x1024_8_0))
    (View.ld w (Rect.unit ![7, 0] ![1, 1024] inb_S31x1024_S1x1024_7_0)) (View.ld h (Rect.unit ![9, 0] ![256, 1024] inb_S288x1024_S256x1024_9_0))
    (View.ld w (Rect.unit ![8, 0] ![1, 1024] inb_S31x1024_S1x1024_8_0)) (View.ld h (Rect.unit ![10, 0] ![256, 1024] inb_S288x1024_S256x1024_10_0)))
    (View.ld w (Rect.unit ![9, 0] ![1, 1024] inb_S31x1024_S1x1024_9_0)) (View.ld h (Rect.unit ![11, 0] ![256, 1024] inb_S288x1024_S256x1024_11_0))
    (View.ld w (Rect.unit ![10, 0] ![1, 1024] inb_S31x1024_S1x1024_10_0)) (View.ld h (Rect.unit ![12, 0] ![256, 1024] inb_S288x1024_S256x1024_12_0))
    (View.ld w (Rect.unit ![11, 0] ![1, 1024] inb_S31x1024_S1x1024_11_0)) (View.ld h (Rect.unit ![13, 0] ![256, 1024] inb_S288x1024_S256x1024_13_0))
    (View.ld w (Rect.unit ![12, 0] ![1, 1024] inb_S31x1024_S1x1024_12_0)) (View.ld h (Rect.unit ![14, 0] ![256, 1024] inb_S288x1024_S256x1024_14_0))
    (View.ld w (Rect.unit ![13, 0] ![1, 1024] inb_S31x1024_S1x1024_13_0)) (View.ld h (Rect.unit ![15, 0] ![256, 1024] inb_S288x1024_S256x1024_15_0))
    (View.ld w (Rect.unit ![14, 0] ![1, 1024] inb_S31x1024_S1x1024_14_0)) (View.ld h (Rect.unit ![16, 0] ![256, 1024] inb_S288x1024_S256x1024_16_0)))
    (k0_pay9 (View.ld w (Rect.unit ![15, 0] ![1, 1024] inb_S31x1024_S1x1024_15_0)) (View.ld h (Rect.unit ![17, 0] ![256, 1024] inb_S288x1024_S256x1024_17_0)))
    (View.ld w (Rect.unit ![16, 0] ![1, 1024] inb_S31x1024_S1x1024_16_0)) (View.ld h (Rect.unit ![18, 0] ![256, 1024] inb_S288x1024_S256x1024_18_0))
    (View.ld w (Rect.unit ![17, 0] ![1, 1024] inb_S31x1024_S1x1024_17_0)) (View.ld h (Rect.unit ![19, 0] ![256, 1024] inb_S288x1024_S256x1024_19_0))
    (View.ld w (Rect.unit ![18, 0] ![1, 1024] inb_S31x1024_S1x1024_18_0)) (View.ld h (Rect.unit ![20, 0] ![256, 1024] inb_S288x1024_S256x1024_20_0))
    (View.ld w (Rect.unit ![19, 0] ![1, 1024] inb_S31x1024_S1x1024_19_0)) (View.ld h (Rect.unit ![21, 0] ![256, 1024] inb_S288x1024_S256x1024_21_0))
    (View.ld w (Rect.unit ![20, 0] ![1, 1024] inb_S31x1024_S1x1024_20_0)) (View.ld h (Rect.unit ![22, 0] ![256, 1024] inb_S288x1024_S256x1024_22_0))
    (View.ld w (Rect.unit ![21, 0] ![1, 1024] inb_S31x1024_S1x1024_21_0)) (View.ld h (Rect.unit ![23, 0] ![256, 1024] inb_S288x1024_S256x1024_23_0)))
    (View.ld w (Rect.unit ![22, 0] ![1, 1024] inb_S31x1024_S1x1024_22_0)) (View.ld h (Rect.unit ![24, 0] ![256, 1024] inb_S288x1024_S256x1024_24_0))
    (View.ld w (Rect.unit ![23, 0] ![1, 1024] inb_S31x1024_S1x1024_23_0)) (View.ld h (Rect.unit ![25, 0] ![256, 1024] inb_S288x1024_S256x1024_25_0))
    (View.ld w (Rect.unit ![24, 0] ![1, 1024] inb_S31x1024_S1x1024_24_0)) (View.ld h (Rect.unit ![26, 0] ![256, 1024] inb_S288x1024_S256x1024_26_0))
    (View.ld w (Rect.unit ![25, 0] ![1, 1024] inb_S31x1024_S1x1024_25_0)) (View.ld h (Rect.unit ![27, 0] ![256, 1024] inb_S288x1024_S256x1024_27_0))
    (View.ld w (Rect.unit ![26, 0] ![1, 1024] inb_S31x1024_S1x1024_26_0)) (View.ld h (Rect.unit ![28, 0] ![256, 1024] inb_S288x1024_S256x1024_28_0))
    (View.ld w (Rect.unit ![27, 0] ![1, 1024] inb_S31x1024_S1x1024_27_0)) (View.ld h (Rect.unit ![29, 0] ![256, 1024] inb_S288x1024_S256x1024_29_0))
    (View.ld w (Rect.unit ![28, 0] ![1, 1024] inb_S31x1024_S1x1024_28_0)) (View.ld h (Rect.unit ![30, 0] ![256, 1024] inb_S288x1024_S256x1024_30_0)))
    (View.ld w (Rect.unit ![29, 0] ![1, 1024] inb_S31x1024_S1x1024_29_0)) (View.ld h (Rect.unit ![31, 0] ![256, 1024] inb_S288x1024_S256x1024_31_0))
    (View.ld w (Rect.unit ![30, 0] ![1, 1024] inb_S31x1024_S1x1024_30_0)) (View.ld h (Rect.unit ![32, 0] ![256, 1024] inb_S288x1024_S256x1024_32_0)) g s

theorem activated_apply (w : Vec Ideal S31x1024 .f32) (h : Vec Ideal S288x1024 .f32) (b g s : Vec Ideal S1x1024 .f32) (i : Fin 256)
    (d : Fin 1024) : activated w h b g s (ix2 i d)
      = silu (layerNorm (fun e => conv (b (ix2 0 e)) (fun k => w (ix2 k e)) fun k => h (ix2 ⟨k.val + 2 + i.val, by omega⟩ e))
          (fun e => g (ix2 0 e)) (fun e => s (ix2 0 e)) d) := by
  unfold activated
  refine (pay12_apply _ _ _ _ _ _ _ i d).trans (congrArg (fun y => silu (layerNorm y _ _ d)) (funext fun e => ?_))
  unfold conv
  rw [pay11_apply, pay10_apply, pay9_apply, pay8_apply, pay7_apply, pay6_apply, sum_taps]
  simp only [add_assoc]
  refine congrArg₂ (· + ·) rfl ?_
  refine congrArg₂ (· + ·) (congrArg₂ (· * ·) (ld_weight w 0 _ (by decide) e) (ld_rows h 2 _ i _ (by show 0 + (2 + i.val) = 2 + i.val; omega) e)) ?_
  refine congrArg₂ (· + ·) (congrArg₂ (· * ·) (ld_weight w 1 _ (by decide) e) (ld_rows h 3 _ i _ (by show 1 + (2 + i.val) = 3 + i.val; omega) e)) ?_
  refine congrArg₂ (· + ·) (congrArg₂ (· * ·) (ld_weight w 2 _ (by decide) e) (ld_rows h 4 _ i _ (by show 2 + (2 + i.val) = 4 + i.val; omega) e)) ?_
  refine congrArg₂ (· + ·) (congrArg₂ (· * ·) (ld_weight w 3 _ (by decide) e) (ld_rows h 5 _ i _ (by show 3 + (2 + i.val) = 5 + i.val; omega) e)) ?_
  refine congrArg₂ (· + ·) (congrArg₂ (· * ·) (ld_weight w 4 _ (by decide) e) (ld_rows h 6 _ i _ (by show 4 + (2 + i.val) = 6 + i.val; omega) e)) ?_
  refine congrArg₂ (· + ·) (congrArg₂ (· * ·) (ld_weight w 5 _ (by decide) e) (ld_rows h 7 _ i _ (by show 5 + (2 + i.val) = 7 + i.val; omega) e)) ?_
  refine congrArg₂ (· + ·) (congrArg₂ (· * ·) (ld_weight w 6 _ (by decide) e) (ld_rows h 8 _ i _ (by show 6 + (2 + i.val) = 8 + i.val; omega) e)) ?_
  refine congrArg₂ (· + ·) (congrArg₂ (· * ·) (ld_weight w 7 _ (by decide) e) (ld_rows h 9 _ i _ (by show 7 + (2 + i.val) = 9 + i.val; omega) e)) ?_
  refine congrArg₂ (· + ·) (congrArg₂ (· * ·) (ld_weight w 8 _ (by decide) e) (ld_rows h 10 _ i _ (by show 8 + (2 + i.val) = 10 + i.val; omega) e)) ?_
  refine congrArg₂ (· + ·) (congrArg₂ (· * ·) (ld_weight w 9 _ (by decide) e) (ld_rows h 11 _ i _ (by show 9 + (2 + i.val) = 11 + i.val; omega) e)) ?_
  refine congrArg₂ (· + ·) (congrArg₂ (· * ·) (ld_weight w 10 _ (by decide) e) (ld_rows h 12 _ i _ (by show 10 + (2 + i.val) = 12 + i.val; omega) e)) ?_
  refine congrArg₂ (· + ·) (congrArg₂ (· * ·) (ld_weight w 11 _ (by decide) e) (ld_rows h 13 _ i _ (by show 11 + (2 + i.val) = 13 + i.val; omega) e)) ?_
  refine congrArg₂ (· + ·) (congrArg₂ (· * ·) (ld_weight w 12 _ (by decide) e) (ld_rows h 14 _ i _ (by show 12 + (2 + i.val) = 14 + i.val; omega) e)) ?_
  refine congrArg₂ (· + ·) (congrArg₂ (· * ·) (ld_weight w 13 _ (by decide) e) (ld_rows h 15 _ i _ (by show 13 + (2 + i.val) = 15 + i.val; omega) e)) ?_
  refine congrArg₂ (· + ·) (congrArg₂ (· * ·) (ld_weight w 14 _ (by decide) e) (ld_rows h 16 _ i _ (by show 14 + (2 + i.val) = 16 + i.val; omega) e)) ?_
  refine congrArg₂ (· + ·) (congrArg₂ (· * ·) (ld_weight w 15 _ (by decide) e) (ld_rows h 17 _ i _ (by show 15 + (2 + i.val) = 17 + i.val; omega) e)) ?_
  refine congrArg₂ (· + ·) (congrArg₂ (· * ·) (ld_weight w 16 _ (by decide) e) (ld_rows h 18 _ i _ (by show 16 + (2 + i.val) = 18 + i.val; omega) e)) ?_
  refine congrArg₂ (· + ·) (congrArg₂ (· * ·) (ld_weight w 17 _ (by decide) e) (ld_rows h 19 _ i _ (by show 17 + (2 + i.val) = 19 + i.val; omega) e)) ?_
  refine congrArg₂ (· + ·) (congrArg₂ (· * ·) (ld_weight w 18 _ (by decide) e) (ld_rows h 20 _ i _ (by show 18 + (2 + i.val) = 20 + i.val; omega) e)) ?_
  refine congrArg₂ (· + ·) (congrArg₂ (· * ·) (ld_weight w 19 _ (by decide) e) (ld_rows h 21 _ i _ (by show 19 + (2 + i.val) = 21 + i.val; omega) e)) ?_
  refine congrArg₂ (· + ·) (congrArg₂ (· * ·) (ld_weight w 20 _ (by decide) e) (ld_rows h 22 _ i _ (by show 20 + (2 + i.val) = 22 + i.val; omega) e)) ?_
  refine congrArg₂ (· + ·) (congrArg₂ (· * ·) (ld_weight w 21 _ (by decide) e) (ld_rows h 23 _ i _ (by show 21 + (2 + i.val) = 23 + i.val; omega) e)) ?_
  refine congrArg₂ (· + ·) (congrArg₂ (· * ·) (ld_weight w 22 _ (by decide) e) (ld_rows h 24 _ i _ (by show 22 + (2 + i.val) = 24 + i.val; omega) e)) ?_
  refine congrArg₂ (· + ·) (congrArg₂ (· * ·) (ld_weight w 23 _ (by decide) e) (ld_rows h 25 _ i _ (by show 23 + (2 + i.val) = 25 + i.val; omega) e)) ?_
  refine congrArg₂ (· + ·) (congrArg₂ (· * ·) (ld_weight w 24 _ (by decide) e) (ld_rows h 26 _ i _ (by show 24 + (2 + i.val) = 26 + i.val; omega) e)) ?_
  refine congrArg₂ (· + ·) (congrArg₂ (· * ·) (ld_weight w 25 _ (by decide) e) (ld_rows h 27 _ i _ (by show 25 + (2 + i.val) = 27 + i.val; omega) e)) ?_
  refine congrArg₂ (· + ·) (congrArg₂ (· * ·) (ld_weight w 26 _ (by decide) e) (ld_rows h 28 _ i _ (by show 26 + (2 + i.val) = 28 + i.val; omega) e)) ?_
  refine congrArg₂ (· + ·) (congrArg₂ (· * ·) (ld_weight w 27 _ (by decide) e) (ld_rows h 29 _ i _ (by show 27 + (2 + i.val) = 29 + i.val; omega) e)) ?_
  refine congrArg₂ (· + ·) (congrArg₂ (· * ·) (ld_weight w 28 _ (by decide) e) (ld_rows h 30 _ i _ (by show 28 + (2 + i.val) = 30 + i.val; omega) e)) ?_
  refine congrArg₂ (· + ·) (congrArg₂ (· * ·) (ld_weight w 29 _ (by decide) e) (ld_rows h 31 _ i _ (by show 29 + (2 + i.val) = 31 + i.val; omega) e)) ?_
  exact congrArg₂ (· * ·) (ld_weight w 30 _ (by decide) e) (ld_rows h 32 _ i _ (by show 30 + (2 + i.val) = 32 + i.val; omega) e)

/-- The buffer after the gated rows were put behind what it held. -/
def rows (s : Vec Ideal S288x1024 .f32) (u : FVec Ideal S256x1024 .f32) : Vec Ideal S288x1024 .f32 :=
  VecWindow.put s ![32, 0] ![256, 1024] u

theorem rows_old (s : Vec Ideal S288x1024 .f32) (u : FVec Ideal S256x1024 .f32) (r : Fin 288) (d : Fin 1024) (h : r.val < 32) :
    rows s u (ix2 r d) = s (ix2 r d) :=
  dif_neg fun hall => by
    have h0 : 32 ≤ r.val := (hall 0).1
    omega

theorem rows_new (s : Vec Ideal S288x1024 .f32) (u : FVec Ideal S256x1024 .f32) (r : Fin 288) (i : Fin 256) (d : Fin 1024)
    (h : r.val = 32 + i.val) : rows s u (ix2 r d) = u (ix2 i d) :=
  (dif_pos (Fin.forall_fin_two.2 ⟨⟨by show 32 ≤ r.val; omega, by show r.val < 32 + 256; omega⟩,
    ⟨Nat.zero_le _, by show d.val < 0 + 1024; omega⟩⟩)).trans
    (congrArg u (funext (Fin.forall_fin_two.2 ⟨Fin.ext (by show r.val - 32 = i.val; omega), Fin.ext (Nat.sub_zero _)⟩)))

/-- The gated rows. -/
theorem pay5_apply (v : Vec Ideal S1x256x2048 .f32) (i : Fin 256) (d : Fin 1024) :
    k0_pay5 v (ix2 i d) = gate (v (ix3 0 i ⟨d.val, by omega⟩)) (v (ix3 0 i ⟨1024 + d.val, by omega⟩)) := by
  pointwise [k0_pay5]
  simp only [zero_sub]
  rfl

end

end Cert.KernelConfIdeal.Gen
-- ==== Proof.ConfValue.lean ====
/-
  The conformer of the prompt: a point gates its tile's rows behind the last rows of the tile before, zeros at a sequence's
  first, convolves and projects them, and the last tile leaves its last thirty gated rows.
-/
module

public import proofs.«01_k».proof.Proof.ConfTaps

@[expose] public section

set_option maxRecDepth 16384

open Idealize.ShloMosaic Idealize.ShloMosaic.TcCoe Idealize.SL.Sem Conf
open Idealize.ShloMosaic.Pipeline (Dat)

namespace Cert.KernelConfIdeal.Gen

open Cert.KernelConfIdeal

noncomputable section

/-! The buffer's reads, in the three forms they take. -/

theorem read_put {κ : Kind} {sp : Space} (v : View sig κ sp S288x1024 .f32) (f : v.ty.Contents (Elt Ideal))
    (u : FVec Ideal S256x1024 .f32) (inb) (L : List (View.Piece (Elt Ideal) S288x1024 .f32)) :
    v.read (Elt Ideal) (v.writes (Elt Ideal) f (⟨Rect.unit ![32, 0] ![256, 1024] inb, u⟩ :: L))
      = rows (v.read (Elt Ideal) (v.writes (Elt Ideal) f L)) u :=
  View.read_writes_cons_put v f inb u L rfl

theorem read_rows {κ : Kind} {sp : Space} (v : View sig κ sp S288x1024 .f32) (f : v.ty.Contents (Elt Ideal))
    (u : FVec Ideal S256x1024 .f32) (inb) :
    v.read (Elt Ideal) (v.writes (Elt Ideal) f [⟨Rect.unit ![32, 0] ![256, 1024] inb, u⟩]) = rows (v.read (Elt Ideal) f) u :=
  read_put v f u inb []

theorem readCov_rows {κ : Kind} {sp : Space} (v : View sig κ sp S288x1024 .f32) (s : Vec Ideal S288x1024 .f32)
    (u : FVec Ideal S256x1024 .f32) (inb inb0) (r : Rect S288x1024) :
    v.readCov (Val := Elt Ideal) [⟨Rect.unit ![32, 0] ![256, 1024] inb, u⟩, ⟨Rect.unit ![0, 0] ![288, 1024] inb0, s⟩] r.toLoadRect
      = View.ld (rows s u) r :=
  funext fun j => congrFun ((read_put v v.junk u inb _).trans
    (congrArg (fun x => rows x u) (View.read_writes_full v v.junk inb0 s []))) (r.idx j)

/-- Past the earlier rows only the gated ones are read. -/
theorem ld_rows_new (s s' : Vec Ideal S288x1024 .f32) (u : FVec Ideal S256x1024 .f32) (k n : Nat) (inb) (hk : 32 ≤ k) :
    View.ld (rows s u) (Rect.unit ![k, 0] ![n, 1024] inb) = View.ld (rows s' u) (Rect.unit ![k, 0] ![n, 1024] inb) :=
  have h : ∀ a : Fin 2, (![32, 0] : Fin 2 → Nat) a ≤ (![k, 0] : Fin 2 → Nat) a
      ∧ (![k, 0] : Fin 2 → Nat) a + (![n, 1024] : Fin 2 → Nat) a ≤ (![32, 0] : Fin 2 → Nat) a + (![256, 1024] : Fin 2 → Nat) a :=
    Fin.forall_fin_two.2 ⟨⟨hk, inb 0⟩, ⟨le_rfl, le_rfl⟩⟩
  (VecWindow.window_put_of_inside s ![32, 0] ![256, 1024] ![k, 0] ![n, 1024] inb u h).trans
    (VecWindow.window_put_of_inside s' ![32, 0] ![256, 1024] ![k, 0] ![n, 1024] inb u h).symm

theorem readCov_new {κ : Kind} {sp : Space} (v : View sig κ sp S288x1024 .f32) (s : Vec Ideal S288x1024 .f32)
    (u : FVec Ideal S256x1024 .f32) (inb) (k n : Nat) (inbk) (hk : 32 ≤ k) :
    v.readCov (Val := Elt Ideal) [⟨Rect.unit ![32, 0] ![256, 1024] inb, u⟩] (Rect.unit ![k, 0] ![n, 1024] inbk).toLoadRect
      = View.ld (rows s u) (Rect.unit ![k, 0] ![n, 1024] inbk) :=
  (congrArg (fun x => View.ld x (Rect.unit ![k, 0] ![n, 1024] inbk)) (read_put v v.junk u inb [])).trans
    (ld_rows_new _ s u k n inbk hk)

variable (m : (ℓ : Loc nD τ sig) → (ℓ : Loc nD τ sig).ty.Contents (Elt Ideal)) (c : Dev nD)

/-- What the buffer held before a point: zeros at a sequence's first. -/
def earlier (t : Fin cfg0.N) : Vec Ideal S288x1024 .f32 :=
  if t.val % 32 = 0 then k0_pay4 (F := Ideal) else (outsAt0 m c (t.val - 1) (Nat.lt_of_le_of_lt (Nat.sub_le _ _) t.isLt)).2.2

/-- What it holds when the point convolves. -/
def held (t : Fin cfg0.N) : Vec Ideal S288x1024 .f32 := rows (earlier m c t) (k0_pay5 (iblk m c 0 t))

theorem out_eq (t : Fin cfg0.N) : (outsAt0 m c t.val t.isLt).1
    = k0_pay1 (activated (iblk m c 2 t) (held m c t) (iblk m c 3 t) (iblk m c 4 t) (iblk m c 5 t)) (iblk m c 1 t) (iblk m c 6 t) := by
  unfold held earlier
  by_cases h0 : t.val % 32 = 0
  · rw [if_pos h0, outsAt0_A m c t h0 (by omega)]
    frame_out
    simp only [readCov_rows]
    unfold activated
    rfl
  · rw [if_neg h0]
    by_cases h1 : t.val % 32 = 31
    · rw [outsAt0_C m c t h0 h1]
      frame_out
      simp only [read_rows, read_unread_whole]
      rw [readCov_new _ (outsAt0 m c (t.val - 1) (Nat.lt_of_le_of_lt (Nat.sub_le _ _) t.isLt)).2.2 _ _ 32 256 _ le_rfl]
      unfold activated
      rfl
    · rw [outsAt0_B m c t h0 h1]
      frame_out
      simp only [read_rows, read_unread_whole]
      rw [readCov_new _ (outsAt0 m c (t.val - 1) (Nat.lt_of_le_of_lt (Nat.sub_le _ _) t.isLt)).2.2 _ _ 32 256 _ le_rfl]
      unfold activated
      rfl

/-- A sequence's last tile leaves its last thirty gated rows. -/
theorem last_eq (t : Fin cfg0.N) (h1 : t.val % 32 = 31) : (outsAt0 m c t.val t.isLt).2.1
    = k0_pay2 (View.ld (held m c t) (Rect.unit ![258, 0] ![30, 1024] inb_S288x1024_S30x1024_258_0)) := by
  unfold held
  rw [outsAt0_C m c t (by omega) h1]
  frame_out
  rw [readCov_new _ (earlier m c t) _ _ 258 30 _ (by decide)]

/-- A piece of rows at the buffer's start, read back. -/
theorem canon_start (w : FVec Ideal S32x1024 .f32) (inb) (L : List (View.Piece (Elt Ideal) S288x1024 .f32)) (r : Fin 288)
    (i : Fin 32) (d : Fin 1024) (h : r.val = i.val) :
    View.canon (⟨Rect.unit (s := S288x1024) ![0, 0] ![32, 1024] inb, w⟩ :: L) (ix2 r d) = w (ix2 i d) := by
  have e : (ix2 r d : S288x1024.Idx) = (Rect.unit (s := S288x1024) ![0, 0] ![32, 1024] inb).emb (ix2 i d) :=
    funext (Fin.forall_fin_two.2 ⟨Fin.ext (by show r.val = 0 + 1 * i.val; omega), Fin.ext (by show d.val = 0 + 1 * d.val; omega)⟩)
  rw [e]
  exact View.canon_cons_emb (Rect.unit (s := S288x1024) ![0, 0] ![32, 1024] inb) w L (ix2 i d)

/-- The rows kept for the next tile are the buffer's last ones. -/
theorem kept_eq (t : Fin cfg0.N) (h1 : ¬ t.val % 32 = 31) (r : Fin 288) (i : Fin 32) (d : Fin 1024) (h : r.val = i.val) :
    (outsAt0 m c t.val t.isLt).2.2 (ix2 r d) = held m c t (ix2 ⟨256 + i.val, by omega⟩ d) := by
  have tail : ∀ s : Vec Ideal S32x1024 .f32, k0_pay3 s (ix2 i d) = s (ix2 i d) := fun s => by pointwise [k0_pay3]
  have ld : View.ld (held m c t) (Rect.unit ![256, 0] ![32, 1024] inb_S288x1024_S32x1024_256_0) (ix2 i d)
      = held m c t (ix2 ⟨256 + i.val, by omega⟩ d) :=
    View.ld_unit_apply_of _ _ _ _ _ _ (Fin.forall_fin_two.2 ⟨rfl, (Nat.zero_add d.val).symm⟩)
  refine Eq.trans ?_ ld
  unfold held
  by_cases h0 : t.val % 32 = 0
  · unfold earlier
    rw [if_pos h0, outsAt0_A m c t h0 h1]
    frame_out
    rw [canon_start _ _ _ r i d h, tail, readCov_rows]
  · rw [outsAt0_B m c t h0 h1]
    frame_out
    rw [canon_start _ _ _ r i d h, tail, readCov_new _ (earlier m c t) _ _ 256 32 _ (by decide)]

/-- The windows' block indices at a grid point. -/
theorem idx : ∀ t : Fin cfg0.N, win0_0.index t = ![t.val, 0, 0] ∧ win0_1.index t = ![t.val, 0, 0]
    ∧ win0_2.index t = ![0, 0] ∧ win0_3.index t = ![0, 0] ∧ win0_4.index t = ![0, 0] ∧ win0_5.index t = ![0, 0]
    ∧ win0_6.index t = ![0, 0] ∧ win0_7.index t = ![t.val, 0, 0] ∧ win0_8.index t = ![t.val / 32, 0, 0] :=
  (by decide +kernel : ∀ t : Fin grid0.N, _)

/-- The sequence and the row of it that a point's row is. -/
def seqOf (r : Fin 64) : Fin 2 := ⟨r.val / 32, by omega⟩

def rowOf (r : Fin 64) (i : Fin 256) : Fin 8192 := ⟨256 * (r.val % 32) + i.val, by omega⟩

def tile (t : Fin cfg0.N) : Fin 64 := ⟨t.val, lt_of_lt_of_eq t.isLt N_0⟩

theorem ag_apply (t : Fin cfg0.N) (i : Fin 256) (d : Fin 2048) :
    iblk m c 0 t (ix3 0 i d) = m ((c : Thread nD τ).loc main_arg0) (ix3 (seqOf (tile t)) (rowOf (tile t) i) d) := by
  unfold seqOf rowOf tile
  blk_simp [iblk, idx t]
  entry_read
  pointwise
  blk_ext [idx t]

theorem x_apply (t : Fin cfg0.N) (i : Fin 256) (d : Fin 1024) :
    iblk m c 1 t (ix3 0 i d) = m ((c : Thread nD τ).loc main_arg1) (ix3 (seqOf (tile t)) (rowOf (tile t) i) d) := by
  unfold seqOf rowOf tile
  blk_simp [iblk, idx t]
  entry_read
  pointwise
  blk_ext [idx t]

theorem dw_apply (t : Fin cfg0.N) (k : Fin 31) (d : Fin 1024) :
    iblk m c 2 t (ix2 k d) = m ((c : Thread nD τ).loc main_arg2) (ix2 k d) := by
  blk_ext [iblk, V, idx t]

theorem dwb_apply (t : Fin cfg0.N) (d : Fin 1024) : iblk m c 3 t (ix2 0 d) = m ((c : Thread nD τ).loc main_arg3) (ix1 d) := by
  blk_simp [iblk, idx t]
  entry_read
  pointwise
  blk_ext [idx t]

theorem g_apply (t : Fin cfg0.N) (d : Fin 1024) : iblk m c 4 t (ix2 0 d) = m ((c : Thread nD τ).loc main_arg4) (ix1 d) := by
  blk_simp [iblk, idx t]
  entry_read
  pointwise
  blk_ext [idx t]

theorem b_apply (t : Fin cfg0.N) (d : Fin 1024) : iblk m c 5 t (ix2 0 d) = m ((c : Thread nD τ).loc main_arg5) (ix1 d) := by
  blk_simp [iblk, idx t]
  entry_read
  pointwise
  blk_ext [idx t]

theorem w_apply (t : Fin cfg0.N) (k d : Fin 1024) : iblk m c 6 t (ix2 k d) = m ((c : Thread nD τ).loc main_arg6) (ix2 k d) := by
  blk_simp [iblk, idx t]
  entry_read
  pointwise
  blk_ext [idx t]

/-- The rows before the split of a sequence. -/
def split (s : Fin 2) (n : Fin 8192) (d : Fin 2048) : EReal :=
  (show FVec Ideal S2x8192x2048 .f32 from m ((c : Thread nD τ).loc main_arg0)) (ix3 s n d)

theorem gated_apply (t : Fin cfg0.N) (i : Fin 256) (d : Fin 1024) (q : Nat) (hq : q = 256 * (t.val % 32) + i.val + 30) :
    k0_pay5 (iblk m c 0 t) (ix2 i d) = padded (split m c (seqOf (tile t))) q d :=
  (pay5_apply _ i d).trans ((congrArg₂ gate (ag_apply m c t i _) (ag_apply m c t i _)).trans
    (padded_row (split m c (seqOf (tile t))) q d (rowOf (tile t) i) hq).symm)

/-- The buffer at a point holds the sequence's rows up to the tile's last. -/
theorem held_apply (n : Nat) : ∀ (hn : n < cfg0.N) (r : Fin 288) (d : Fin 1024) (_ : 2 ≤ r.val),
    held m c ⟨n, hn⟩ (ix2 r d) = padded (split m c (seqOf (tile ⟨n, hn⟩))) (256 * (n % 32) + r.val - 2) d := by
  have new : ∀ (t : Fin cfg0.N) (r : Fin 288) (d : Fin 1024), 32 ≤ r.val →
      held m c t (ix2 r d) = padded (split m c (seqOf (tile t))) (256 * (t.val % 32) + r.val - 2) d := fun t r d h =>
    (rows_new _ _ r ⟨r.val - 32, by omega⟩ d (by show r.val = 32 + (r.val - 32); omega)).trans
      (gated_apply m c t _ d _ (by show 256 * (t.val % 32) + r.val - 2 = 256 * (t.val % 32) + (r.val - 32) + 30; omega))
  have first : ∀ (t : Fin cfg0.N) (_ : t.val % 32 = 0) (r : Fin 288) (d : Fin 1024), 2 ≤ r.val →
      held m c t (ix2 r d) = padded (split m c (seqOf (tile t))) (256 * (t.val % 32) + r.val - 2) d := fun t h0 r d h2 => by
    by_cases h : 32 ≤ r.val
    · exact new t r d h
    · unfold held earlier
      rw [if_pos h0, rows_old _ _ r d (by omega), padded_zero _ _ d (by omega)]
      pointwise [k0_pay4]
  induction n with
  | zero => exact fun hn r d h2 => first ⟨0, hn⟩ rfl r d h2
  | succ n ih =>
    intro hn r d h2
    by_cases h0 : (n + 1) % 32 = 0
    · exact first ⟨n + 1, hn⟩ h0 r d h2
    · by_cases h : 32 ≤ r.val
      · exact new ⟨n + 1, hn⟩ r d h
      · unfold held
        rw [rows_old _ _ r d (by omega)]
        unfold earlier
        rw [if_neg h0]
        refine (kept_eq m c ⟨n, Nat.lt_of_succ_lt hn⟩ (by show ¬ n % 32 = 31; omega) r ⟨r.val, by omega⟩ d rfl).trans
          ((ih (Nat.lt_of_succ_lt hn) _ d (by show 2 ≤ 256 + r.val; omega)).trans ?_)
        have es : seqOf (tile ⟨n, Nat.lt_of_succ_lt hn⟩) = seqOf (tile ⟨n + 1, hn⟩) :=
          Fin.ext (by show n / 32 = (n + 1) / 32; omega)
        have eq : 256 * (n % 32) + (256 + r.val) - 2 = 256 * ((n + 1) % 32) + r.val - 2 := by omega
        rw [es]
        exact congrArg (fun q => padded _ q d) eq

/-- The result of the module. -/
def result (s : Fin 2) (n : Fin 8192) (d : Fin 1024) : EReal :=
  entry ((show FVec Ideal S2x8192x1024 .f32 from m ((c : Thread nD τ).loc main_arg1)) (ix3 s n d))
    (convRow (split m c s) (fun k e => (show FVec Ideal S31x1024 .f32 from m ((c : Thread nD τ).loc main_arg2)) (ix2 k e))
      (fun e => (show FVec Ideal S1024 .f32 from m ((c : Thread nD τ).loc main_arg3)) (ix1 e)) n.val)
    (fun e => (show FVec Ideal S1024 .f32 from m ((c : Thread nD τ).loc main_arg4)) (ix1 e))
    (fun e => (show FVec Ideal S1024 .f32 from m ((c : Thread nD τ).loc main_arg5)) (ix1 e))
    (fun k => (show FVec Ideal S1024x1024 .f32 from m ((c : Thread nD τ).loc main_arg6)) (ix2 k d))

/-- A point's convolved row. -/
theorem conv_apply (t : Fin cfg0.N) (i : Fin 256) (e : Fin 1024) :
    conv (iblk m c 3 t (ix2 0 e)) (fun k => iblk m c 2 t (ix2 k e))
        (fun k => held m c t (ix2 ⟨k.val + 2 + i.val, by omega⟩ e))
      = convRow (split m c (seqOf (tile t)))
          (fun k e => (show FVec Ideal S31x1024 .f32 from m ((c : Thread nD τ).loc main_arg2)) (ix2 k e))
          (fun e => (show FVec Ideal S1024 .f32 from m ((c : Thread nD τ).loc main_arg3)) (ix1 e)) (rowOf (tile t) i).val e := by
  have hh : ∀ k : Fin 31, held m c t (ix2 ⟨k.val + 2 + i.val, by omega⟩ e)
      = padded (split m c (seqOf (tile t))) (k.val + (rowOf (tile t) i).val) e := fun k =>
    (held_apply m c t.val t.isLt _ e (by show 2 ≤ k.val + 2 + i.val; omega)).trans (congrArg (fun q => padded _ q e)
      (by show 256 * (t.val % 32) + (k.val + 2 + i.val) - 2 = k.val + (256 * (t.val % 32) + i.val); omega))
  unfold convRow
  rw [dwb_apply m c t e]
  exact congrArg₂ (conv _) (funext fun k => dw_apply m c t k e) (funext hh)

theorem emb7_apply (t : Fin cfg0.N) (i : Fin 256) (d : Fin 1024) : (win0_7.blk t).view.emb (ix3 0 i d) = ix3 (tile t) i d := by
  unfold tile
  blk_ext [idx t]

theorem emb8_apply (t : Fin cfg0.N) (i : Fin 30) (d : Fin 1024) : (win0_8.blk t).view.emb (ix3 0 i d) = ix3 (seqOf (tile t)) i d := by
  unfold seqOf tile
  blk_ext [idx t]

/-- The result array. -/
theorem result7_eq (G : FVec Ideal S64x256x1024 .f32)
    (hG : ∀ (r : Fin 64) (i : Fin 256) (d : Fin 1024), G (ix3 r i d) = result m c (seqOf r) (rowOf r i) d) :
    (dats m 0 c).arrAt 7 cfg0.N = G := by
  refine (dats m 0 c).arrAt_eq_of_covers 7 _ (by decide +kernel) fun t hf y => ?_
  blk_simp
  rw [after0_7]
  obtain ⟨o, i, d, rfl⟩ : ∃ (o : Fin 1) (i : Fin 256) (d : Fin 1024), y = ix3 o i d :=
    ⟨y 0, y 1, y 2, eq_ix3 (n0 := 1) (n1 := 256) (n2 := 1024) y⟩
  obtain rfl : o = 0 := Subsingleton.elim _ _
  refine Eq.trans ?_ ((hG _ _ _).symm.trans (congrArg G (emb7_apply t i d).symm))
  rw [out_eq m c t]
  refine (pay1_apply _ _ _ i d).trans ?_
  unfold result entry
  refine congrArg₂ (· + ·) (x_apply m c t i d) (Finset.sum_congr (M := EReal) rfl fun k _ =>
    congrArg₂ (· * ·) ((activated_apply _ _ _ _ _ i k).trans (congrArg silu ?_)) (w_apply m c t k d))
  rw [funext fun e => conv_apply m c t i e, funext fun e => g_apply m c t e, funext fun e => b_apply m c t e]

/-- The array of the rows kept for a later call. -/
theorem result8_eq (G : FVec Ideal S2x30x1024 .f32)
    (hG : ∀ (s : Fin 2) (i : Fin 30) (d : Fin 1024), G (ix3 s i d) = padded (split m c s) (8192 + i.val) d) :
    (dats m 0 c).arrAt 8 cfg0.N = G := by
  refine (dats m 0 c).arrAt_eq_of_covers 8 _ (by decide +kernel) fun t hf y => ?_
  blk_simp
  rw [after0_8]
  have h1 := (flush0_8 t).mp hf
  obtain ⟨o, i, d, rfl⟩ : ∃ (o : Fin 1) (i : Fin 30) (d : Fin 1024), y = ix3 o i d :=
    ⟨y 0, y 1, y 2, eq_ix3 (n0 := 1) (n1 := 30) (n2 := 1024) y⟩
  obtain rfl : o = 0 := Subsingleton.elim _ _
  refine Eq.trans ?_ ((hG _ _ _).symm.trans (congrArg G (emb8_apply t i d).symm))
  rw [last_eq m c t h1]
  have cast : ∀ s : Vec Ideal S30x1024 .f32, k0_pay2 s (ix3 0 i d) = s (ix2 i d) := fun s => by pointwise [k0_pay2]
  have ld : View.ld (held m c t) (Rect.unit ![258, 0] ![30, 1024] inb_S288x1024_S30x1024_258_0) (ix2 i d)
      = held m c t (ix2 ⟨258 + i.val, by omega⟩ d) :=
    View.ld_unit_apply_of _ _ _ _ _ _ (Fin.forall_fin_two.2 ⟨rfl, (Nat.zero_add d.val).symm⟩)
  refine (cast _).trans (ld.trans ((held_apply m c t.val t.isLt _ d (by show 2 ≤ 258 + i.val; omega)).trans
    (congrArg (fun q => padded _ q d) ?_)))
  show 256 * (t.val % 32) + (258 + i.val) - 2 = 8192 + i.val
  omega

end

end Cert.KernelConfIdeal.Gen
-- ==== Proof.ConfLayer.lean ====
/-
  The conformer of the prompt, the claim: the reference's convolution, norm and projection at an entry are what the kernel
  leaves there.
-/
module

public import proofs.«01_k».proof.Defs
public import proofs.«01_k».proof.Proof.ConfValue
public import proofs.«01_k».proof.Proof.Gen.ReferenceConfIdeal.Run
public import Idealize.ShloMosaic.Lib.Quiescent

@[expose] public section

set_option maxRecDepth 16384

open Idealize.ShloMosaic Idealize.ShloMosaic.TcCoe Idealize.SL.Sem Conf

noncomputable section

namespace Cert.ReferenceConfIdeal.Value

open Cert.ReferenceConfIdeal Cert.ReferenceConfIdeal.Gen

variable (V : Valuation τ sig (Elt Ideal))

/-- The rows before the split of a sequence. -/
def split (s : Fin 2) (n : Fin 8192) (d : Fin 2048) : EReal :=
  (show FVec Ideal S2x8192x2048 .f32 from V (Proc.devRef .tc main_arg0)) (ix3 s n d)

theorem padded_apply (a : Fin 2) (i : Fin 8222) (d : Fin 1024) :
    (show FVec Ideal S2x8222x1024 .f32 from res_main_v10 V) (ix3 a i d) = padded (split V a) i.val d := by
  show res_main_v10 V (ix3 a i d) = _
  pointwise [res_main_v10]
  by_cases h : i.val < 30
  · rw [dif_pos h, padded_zero _ _ _ h]
  · rw [dif_neg h, padded_row _ i.val d ⟨i.val - 30, by omega⟩ (by show i.val = i.val - 30 + 30; omega)]
    rfl

/-- One product of the convolution. -/
theorem tap (k : Fin 31) (a : Fin 2) (i : Fin 8192) (d : Fin 1024) (r : Fin 8222) (hr : r.val = k.val + i.val) (w : EReal) :
    (show FVec Ideal S2x8222x1024 .f32 from res_main_v10 V) (ix3 a r d) * w = w * padded (split V a) (k.val + i.val) d := by
  rw [padded_apply, hr, mul_comm]

theorem conv_apply (a : Fin 2) (i : Fin 8192) (d : Fin 1024) :
    (show FVec Ideal S2x8192x1024 .f32 from res_main_v231 V) (ix3 a i d) = convRow (split V a)
      (fun k e => (show FVec Ideal S31x1024 .f32 from V (Proc.devRef .tc main_arg2)) (ix2 k e))
      (fun e => (show FVec Ideal S1024 .f32 from V (Proc.devRef .tc main_arg3)) (ix1 e)) i.val d := by
  show res_main_v231 V (ix3 a i d) = _
  pointwise [res_main_v231]
  pointwise [res_main_v165]
  pointwise [res_main_v88]
  unfold convRow conv
  rw [sum_taps]
  refine (add_comm (G := EReal) _ _).trans (congrArg₂ (fun x y : EReal => x + y) rfl ?_)
  refine congrArg₂ (fun x y : EReal => x + y) ?_ (tap V 30 a i d _ rfl _)
  refine congrArg₂ (fun x y : EReal => x + y) ?_ (tap V 29 a i d _ rfl _)
  refine congrArg₂ (fun x y : EReal => x + y) ?_ (tap V 28 a i d _ rfl _)
  refine congrArg₂ (fun x y : EReal => x + y) ?_ (tap V 27 a i d _ rfl _)
  refine congrArg₂ (fun x y : EReal => x + y) ?_ (tap V 26 a i d _ rfl _)
  refine congrArg₂ (fun x y : EReal => x + y) ?_ (tap V 25 a i d _ rfl _)
  refine congrArg₂ (fun x y : EReal => x + y) ?_ (tap V 24 a i d _ rfl _)
  refine congrArg₂ (fun x y : EReal => x + y) ?_ (tap V 23 a i d _ rfl _)
  refine congrArg₂ (fun x y : EReal => x + y) ?_ (tap V 22 a i d _ rfl _)
  refine congrArg₂ (fun x y : EReal => x + y) ?_ (tap V 21 a i d _ rfl _)
  refine congrArg₂ (fun x y : EReal => x + y) ?_ (tap V 20 a i d _ rfl _)
  refine congrArg₂ (fun x y : EReal => x + y) ?_ (tap V 19 a i d _ rfl _)
  refine congrArg₂ (fun x y : EReal => x + y) ?_ (tap V 18 a i d _ rfl _)
  refine congrArg₂ (fun x y : EReal => x + y) ?_ (tap V 17 a i d _ rfl _)
  refine congrArg₂ (fun x y : EReal => x + y) ?_ (tap V 16 a i d _ rfl _)
  refine congrArg₂ (fun x y : EReal => x + y) ?_ (tap V 15 a i d _ rfl _)
  refine congrArg₂ (fun x y : EReal => x + y) ?_ (tap V 14 a i d _ rfl _)
  refine congrArg₂ (fun x y : EReal => x + y) ?_ (tap V 13 a i d _ rfl _)
  refine congrArg₂ (fun x y : EReal => x + y) ?_ (tap V 12 a i d _ rfl _)
  refine congrArg₂ (fun x y : EReal => x + y) ?_ (tap V 11 a i d _ rfl _)
  refine congrArg₂ (fun x y : EReal => x + y) ?_ (tap V 10 a i d _ rfl _)
  refine congrArg₂ (fun x y : EReal => x + y) ?_ (tap V 9 a i d _ rfl _)
  refine congrArg₂ (fun x y : EReal => x + y) ?_ (tap V 8 a i d _ rfl _)
  refine congrArg₂ (fun x y : EReal => x + y) ?_ (tap V 7 a i d _ rfl _)
  refine congrArg₂ (fun x y : EReal => x + y) ?_ (tap V 6 a i d _ rfl _)
  refine congrArg₂ (fun x y : EReal => x + y) ?_ (tap V 5 a i d _ rfl _)
  refine congrArg₂ (fun x y : EReal => x + y) ?_ (tap V 4 a i d _ rfl _)
  refine congrArg₂ (fun x y : EReal => x + y) ?_ (tap V 3 a i d _ rfl _)
  refine congrArg₂ (fun x y : EReal => x + y) ?_ (tap V 2 a i d _ rfl _)
  refine congrArg₂ (fun x y : EReal => x + y) ?_ (tap V 1 a i d _ rfl _)
  exact tap V 0 a i d _ (Nat.zero_add i.val).symm _

theorem norm_apply (a : Fin 2) (i : Fin 8192) (d : Fin 1024) :
    (show FVec Ideal S2x8192x1024 .f32 from res_main_v255 V) (ix3 a i d)
      = layerNorm (fun e => (show FVec Ideal S2x8192x1024 .f32 from res_main_v231 V) (ix3 a i e))
        (fun e => (show FVec Ideal S1024 .f32 from V (Proc.devRef .tc main_arg4)) (ix1 e))
        (fun e => (show FVec Ideal S1024 .f32 from V (Proc.devRef .tc main_arg5)) (ix1 e)) d := by
  show res_main_v255 V (ix3 a i d) = _
  pointwise [res_main_v255, res_main_v237, res_main_v235]
  rfl

/-- The reference's two results. -/
def layer : FVec Ideal S64x256x1024 .f32 :=
  shapeCast _ (addf (show FVec Ideal S2x8192x1024 .f32 from V (Proc.devRef .tc main_arg1)) (Host.dotGeneral dot_S2x8192x1024_S1024x1024_S2x8192x1024_2_0_01_1_n_n none (mulf (show FVec Ideal S2x8192x1024 .f32 from res_main_v255 V) (Host.divf (broadcastInDim S2x8192x1024 ![] bcast_S_S2x8192x1024 (constant S_ .f32 0x3F800000#32)) (addf (broadcastInDim S2x8192x1024 ![] bcast_S_S2x8192x1024 (constant S_ .f32 0x3F800000#32)) (Host.exp (Host.negf (show FVec Ideal S2x8192x1024 .f32 from res_main_v255 V)))))) (show FVec Ideal S1024x1024 .f32 from V (Proc.devRef .tc main_arg6)))) shapeCasts_S2x8192x1024_S64x256x1024

def kept : FVec Ideal S2x30x1024 .f32 :=
  extractStridedSlice S2x30x1024 ![0, 8192, 0] (res_main_v10 V) slices_S2x8222x1024_S2x30x1024_0_8192_0

theorem layer_apply (r : Fin 64) (i : Fin 256) (d : Fin 1024) :
    layer V (ix3 r i d) = entry ((show FVec Ideal S2x8192x1024 .f32 from V (Proc.devRef .tc main_arg1))
        (ix3 (⟨r.val / 32, by omega⟩ : Fin 2) (⟨256 * (r.val % 32) + i.val, by omega⟩ : Fin 8192) d))
      (convRow (split V ⟨r.val / 32, by omega⟩)
        (fun k e => (show FVec Ideal S31x1024 .f32 from V (Proc.devRef .tc main_arg2)) (ix2 k e))
        (fun e => (show FVec Ideal S1024 .f32 from V (Proc.devRef .tc main_arg3)) (ix1 e)) (256 * (r.val % 32) + i.val))
      (fun e => (show FVec Ideal S1024 .f32 from V (Proc.devRef .tc main_arg4)) (ix1 e))
      (fun e => (show FVec Ideal S1024 .f32 from V (Proc.devRef .tc main_arg5)) (ix1 e))
      (fun k => (show FVec Ideal S1024x1024 .f32 from V (Proc.devRef .tc main_arg6)) (ix2 k d)) := by
  have n : (⟨r.val % 32 * 256 + i.val, by omega⟩ : Fin 8192) = ⟨256 * (r.val % 32) + i.val, by omega⟩ :=
    Fin.ext (congrArg (· + i.val) (Nat.mul_comm _ _))
  pointwise [layer]
  rw [n]
  unfold entry
  refine congrArg₂ (fun x y : EReal => x + y) rfl (Finset.sum_congr (M := EReal) rfl fun k _ =>
    congrArg₂ (fun x y : EReal => x * y) ?_ rfl)
  exact congrArg silu ((norm_apply V _ _ k).trans (congrArg (fun y => layerNorm y _ _ k) (funext fun e => conv_apply V _ _ e)))

theorem kept_apply (s : Fin 2) (i : Fin 30) (d : Fin 1024) : kept V (ix3 s i d) = padded (split V s) (8192 + i.val) d := by
  pointwise [kept]
  exact padded_apply V s _ d

end Cert.ReferenceConfIdeal.Value

namespace Cert.Proof

theorem quiescent_ReferenceConfIdeal : quiescent_ReferenceConfIdeal := fun m ρ _ =>
  (θ_run Cert.ReferenceConfIdeal.defs _ _).mono
    (fun r h => ⟨fun c => (h c).2.2, sem_eq_zero_of_no_sems (by decide) r.2⟩)
    (Cert.ReferenceConfIdeal.Value.run (F := Ideal) m ρ)

theorem algebraic_KernelConfIdeal_ReferenceConfIdeal : algebraic_KernelConfIdeal_ReferenceConfIdeal := by
  intro m ρ m' ρ' _ hagree
  refine ⟨_, _, Cert.KernelConfIdeal.Value.run_blocks (F := Ideal) m ρ, ?_⟩
  refine (θ_run Cert.ReferenceConfIdeal.defs _ _).mono
    (fun _ h c => ⟨(h c).1.trans ?_, (h c).2.1.trans ?_, (h c).2.2⟩) (Cert.ReferenceConfIdeal.Value.run (F := Ideal) m' ρ')
  · obtain ⟨e0, e1, e2, e3, e4, e5, e6⟩ := hagree c
    refine (Cert.KernelConfIdeal.Gen.result7_eq m c (Cert.ReferenceConfIdeal.Value.layer _) fun r i d => ?_).symm
    refine (Cert.ReferenceConfIdeal.Value.layer_apply _ r i d).trans ?_
    unfold Cert.KernelConfIdeal.Gen.result Cert.KernelConfIdeal.Gen.split Cert.ReferenceConfIdeal.Value.split
    rw [← e0, ← e1, ← e2, ← e3, ← e4, ← e5, ← e6]
    rfl
  · obtain ⟨e0, e1, e2, e3, e4, e5, e6⟩ := hagree c
    refine (Cert.KernelConfIdeal.Gen.result8_eq m c (Cert.ReferenceConfIdeal.Value.kept _) fun s i d => ?_).symm
    refine (Cert.ReferenceConfIdeal.Value.kept_apply _ s i d).trans ?_
    unfold Cert.KernelConfIdeal.Gen.split Cert.ReferenceConfIdeal.Value.split
    rw [← e0]

end Cert.Proof
-- ==== Proof.ConfSampleTaps.lean ====
/-
  The conformer of the sampled rows: the payloads between the gated rows and the result are the spec's convolution, layer norm and
  activation, the rows read from the buffer that holds the earlier rows before the gated ones.
-/
module

public import proofs.«01_k».proof.Proof.Gen.KernelConfSampleIdeal.Value
public import proofs.«01_k».proof.Proof.ConfSpec
public import Idealize.ShloMosaic.Lib.Pipeline.ValueKit
public import Idealize.ShloMosaic.Lib.Pipeline.ReadBack
public import Idealize.ShloMosaic.Lib.VecWindow

@[expose] public section

set_option maxRecDepth 16384

open Idealize.ShloMosaic Idealize.ShloMosaic.TcCoe Idealize.SL.Sem Conf

namespace Cert.KernelConfSampleIdeal.Gen

open Cert.KernelConfSampleIdeal

noncomputable section

/-! The convolution's products, some at a time. -/

theorem pay6_apply (b : Vec Ideal S1x1024 .f32) (w0 w1 : Vec Ideal S1x1024 .f32) (h0 h1 : Vec Ideal S8x1024 .f32)
    (i : Fin 8) (d : Fin 1024) : k0_pay6 b w0 h0 w1 h1 (ix2 i d)
      = b (ix2 0 d) + w0 (ix2 0 d) * h0 (ix2 i d) + w1 (ix2 0 d) * h1 (ix2 i d) := by
  pointwise [k0_pay6]

theorem pay7_apply (y : FVec Ideal S8x1024 .f32) (w2 w3 w4 w5 w6 w7 w8 : Vec Ideal S1x1024 .f32) (h2 h3 h4 h5 h6 h7 h8 : Vec Ideal S8x1024 .f32)
    (i : Fin 8) (d : Fin 1024) : k0_pay7 y w2 h2 w3 h3 w4 h4 w5 h5 w6 h6 w7 h7 w8 h8 (ix2 i d)
      = y (ix2 i d) + w2 (ix2 0 d) * h2 (ix2 i d) + w3 (ix2 0 d) * h3 (ix2 i d) + w4 (ix2 0 d) * h4 (ix2 i d) + w5 (ix2 0 d) * h5 (ix2 i d) + w6 (ix2 0 d) * h6 (ix2 i d) + w7 (ix2 0 d) * h7 (ix2 i d) + w8 (ix2 0 d) * h8 (ix2 i d) := by
  pointwise [k0_pay7]

theorem pay8_apply (y : FVec Ideal S8x1024 .f32) (w9 w10 w11 w12 w13 w14 : Vec Ideal S1x1024 .f32) (h9 h10 h11 h12 h13 h14 : Vec Ideal S8x1024 .f32)
    (i : Fin 8) (d : Fin 1024) : k0_pay8 y w9 h9 w10 h10 w11 h11 w12 h12 w13 h13 w14 h14 (ix2 i d)
      = y (ix2 i d) + w9 (ix2 0 d) * h9 (ix2 i d) + w10 (ix2 0 d) * h10 (ix2 i d) + w11 (ix2 0 d) * h11 (ix2 i d) + w12 (ix2 0 d) * h12 (ix2 i d) + w13 (ix2 0 d) * h13 (ix2 i d) + w14 (ix2 0 d) * h14 (ix2 i d) := by
  pointwise [k0_pay8]

theorem pay9_apply (w : Vec Ideal S1x1024 .f32) (h : Vec Ideal S8x1024 .f32) (i : Fin 8) (d : Fin 1024) :
    k0_pay9 w h (ix2 i d) = w (ix2 0 d) * h (ix2 i d) := by
  pointwise [k0_pay9]

theorem pay10_apply (y : FVec Ideal S8x1024 .f32) (z : FVec Ideal S8x1024 .f32) (w16 w17 w18 w19 w20 w21 : Vec Ideal S1x1024 .f32) (h16 h17 h18 h19 h20 h21 : Vec Ideal S8x1024 .f32)
    (i : Fin 8) (d : Fin 1024) : k0_pay10 y z w16 h16 w17 h17 w18 h18 w19 h19 w20 h20 w21 h21 (ix2 i d)
      = y (ix2 i d) + z (ix2 i d) + w16 (ix2 0 d) * h16 (ix2 i d) + w17 (ix2 0 d) * h17 (ix2 i d) + w18 (ix2 0 d) * h18 (ix2 i d) + w19 (ix2 0 d) * h19 (ix2 i d) + w20 (ix2 0 d) * h20 (ix2 i d) + w21 (ix2 0 d) * h21 (ix2 i d) := by
  pointwise [k0_pay10]

theorem pay11_apply (y : FVec Ideal S8x1024 .f32) (w22 w23 w24 w25 w26 w27 w28 : Vec Ideal S1x1024 .f32) (h22 h23 h24 h25 h26 h27 h28 : Vec Ideal S8x1024 .f32)
    (i : Fin 8) (d : Fin 1024) : k0_pay11 y w22 h22 w23 h23 w24 h24 w25 h25 w26 h26 w27 h27 w28 h28 (ix2 i d)
      = y (ix2 i d) + w22 (ix2 0 d) * h22 (ix2 i d) + w23 (ix2 0 d) * h23 (ix2 i d) + w24 (ix2 0 d) * h24 (ix2 i d) + w25 (ix2 0 d) * h25 (ix2 i d) + w26 (ix2 0 d) * h26 (ix2 i d) + w27 (ix2 0 d) * h27 (ix2 i d) + w28 (ix2 0 d) * h28 (ix2 i d) := by
  pointwise [k0_pay11]

/-- The last two products, the layer norm and the activation. -/
theorem pay12_apply (y : FVec Ideal S8x1024 .f32) (w29 w30 g b : Vec Ideal S1x1024 .f32) (h29 h30 : Vec Ideal S8x1024 .f32) (i : Fin 8)
    (d : Fin 1024) : k0_pay12 y w29 h29 w30 h30 g b (ix2 i d)
      = silu (layerNorm (fun e => y (ix2 i e) + w29 (ix2 0 e) * h29 (ix2 i e) + w30 (ix2 0 e) * h30 (ix2 i e))
          (fun e => g (ix2 0 e)) (fun e => b (ix2 0 e)) d) := by
  pointwise [k0_pay12]
  simp only [zero_sub]
  rfl

/-- The result: the residual and the projection. -/
theorem pay1_apply (y : FVec Ideal S8x1024 .f32) (x : Vec Ideal S1x4x1024 .f32) (w : Vec Ideal S1024x1024 .bf16)
    (i : Fin 4) (d : Fin 1024) :
    k0_pay1 y x w (ix3 0 i d) = x (ix3 0 i d) + ∑ k : Fin 1024, y (ix2 ⟨i.val, by omega⟩ k) * w (ix2 k d) := by
  pointwise [k0_pay1]

/-- Tap `k`'s row of the weights, and the rows it multiplies. -/
theorem ld_weight (w : Vec Ideal S31x1024 .f32) (k : Nat) (inb) (hk : k < 31) (d : Fin 1024) :
    View.ld w (Rect.unit ![k, 0] ![1, 1024] inb) (ix2 0 d) = w (ix2 ⟨k, hk⟩ d) :=
  View.ld_unit_apply_of _ _ _ _ _ _ (Fin.forall_fin_two.2 ⟨rfl, (Nat.zero_add d.val).symm⟩)

theorem ld_rows (h : Vec Ideal S40x1024 .f32) (k : Nat) (inb) (i : Fin 8) (r : Fin 40) (hr : r.val = k + i.val)
    (d : Fin 1024) : View.ld h (Rect.unit ![k, 0] ![8, 1024] inb) (ix2 i d) = h (ix2 r d) :=
  View.ld_unit_apply_of _ _ _ _ _ _ (Fin.forall_fin_two.2 ⟨hr, (Nat.zero_add d.val).symm⟩)

/-- The activated rows, of the weights, the buffer's rows, the bias and the norm's scale and shift. -/
def activated (w : Vec Ideal S31x1024 .f32) (h : Vec Ideal S40x1024 .f32) (b g s : Vec Ideal S1x1024 .f32) : FVec Ideal S8x1024 .f32 :=
  k0_pay12 (k0_pay11 (k0_pay10 (k0_pay8 (k0_pay7 (k0_pay6 b
    (View.ld w (Rect.unit ![0, 0] ![1, 1024] inb_S31x1024_S1x1024_0_0)) (View.ld h (Rect.unit ![2, 0] ![8, 1024] inb_S40x1024_S8x1024_2_0))
    (View.ld w (Rect.unit ![1, 0] ![1, 1024] inb_S31x1024_S1x1024_1_0)) (View.ld h (Rect.unit ![3, 0] ![8, 1024] inb_S40x1024_S8x1024_3_0)))
    (View.ld w (Rect.unit ![2, 0] ![1, 1024] inb_S31x1024_S1x1024_2_0)) (View.ld h (Rect.unit ![4, 0] ![8, 1024] inb_S40x1024_S8x1024_4_0))
    (View.ld w (Rect.unit ![3, 0] ![1, 1024] inb_S31x1024_S1x1024_3_0)) (View.ld h (Rect.unit ![5, 0] ![8, 1024] inb_S40x1024_S8x1024_5_0))
    (View.ld w (Rect.unit ![4, 0] ![1, 1024] inb_S31x1024_S1x1024_4_0)) (View.ld h (Rect.unit ![6, 0] ![8, 1024] inb_S40x1024_S8x1024_6_0))
    (View.ld w (Rect.unit ![5, 0] ![1, 1024] inb_S31x1024_S1x1024_5_0)) (View.ld h (Rect.unit ![7, 0] ![8, 1024] inb_S40x1024_S8x1024_7_0))
    (View.ld w (Rect.unit ![6, 0] ![1, 1024] inb_S31x1024_S1x1024_6_0)) (View.ld h (Rect.unit ![8, 0] ![8, 1024] inb_S40x1024_S8x1024_8_0))
    (View.ld w (Rect.unit ![7, 0] ![1, 1024] inb_S31x1024_S1x1024_7_0)) (View.ld h (Rect.unit ![9, 0] ![8, 1024] inb_S40x1024_S8x1024_9_0))
    (View.ld w (Rect.unit ![8, 0] ![1, 1024] inb_S31x1024_S1x1024_8_0)) (View.ld h (Rect.unit ![10, 0] ![8, 1024] inb_S40x1024_S8x1024_10_0)))
    (View.ld w (Rect.unit ![9, 0] ![1, 1024] inb_S31x1024_S1x1024_9_0)) (View.ld h (Rect.unit ![11, 0] ![8, 1024] inb_S40x1024_S8x1024_11_0))
    (View.ld w (Rect.unit ![10, 0] ![1, 1024] inb_S31x1024_S1x1024_10_0)) (View.ld h (Rect.unit ![12, 0] ![8, 1024] inb_S40x1024_S8x1024_12_0))
    (View.ld w (Rect.unit ![11, 0] ![1, 1024] inb_S31x1024_S1x1024_11_0)) (View.ld h (Rect.unit ![13, 0] ![8, 1024] inb_S40x1024_S8x1024_13_0))
    (View.ld w (Rect.unit ![12, 0] ![1, 1024] inb_S31x1024_S1x1024_12_0)) (View.ld h (Rect.unit ![14, 0] ![8, 1024] inb_S40x1024_S8x1024_14_0))
    (View.ld w (Rect.unit ![13, 0] ![1, 1024] inb_S31x1024_S1x1024_13_0)) (View.ld h (Rect.unit ![15, 0] ![8, 1024] inb_S40x1024_S8x1024_15_0))
    (View.ld w (Rect.unit ![14, 0] ![1, 1024] inb_S31x1024_S1x1024_14_0)) (View.ld h (Rect.unit ![16, 0] ![8, 1024] inb_S40x1024_S8x1024_16_0)))
    (k0_pay9 (View.ld w (Rect.unit ![15, 0] ![1, 1024] inb_S31x1024_S1x1024_15_0)) (View.ld h (Rect.unit ![17, 0] ![8, 1024] inb_S40x1024_S8x1024_17_0)))
    (View.ld w (Rect.unit ![16, 0] ![1, 1024] inb_S31x1024_S1x1024_16_0)) (View.ld h (Rect.unit ![18, 0] ![8, 1024] inb_S40x1024_S8x1024_18_0))
    (View.ld w (Rect.unit ![17, 0] ![1, 1024] inb_S31x1024_S1x1024_17_0)) (View.ld h (Rect.unit ![19, 0] ![8, 1024] inb_S40x1024_S8x1024_19_0))
    (View.ld w (Rect.unit ![18, 0] ![1, 1024] inb_S31x1024_S1x1024_18_0)) (View.ld h (Rect.unit ![20, 0] ![8, 1024] inb_S40x1024_S8x1024_20_0))
    (View.ld w (Rect.unit ![19, 0] ![1, 1024] inb_S31x1024_S1x1024_19_0)) (View.ld h (Rect.unit ![21, 0] ![8, 1024] inb_S40x1024_S8x1024_21_0))
    (View.ld w (Rect.unit ![20, 0] ![1, 1024] inb_S31x1024_S1x1024_20_0)) (View.ld h (Rect.unit ![22, 0] ![8, 1024] inb_S40x1024_S8x1024_22_0))
    (View.ld w (Rect.unit ![21, 0] ![1, 1024] inb_S31x1024_S1x1024_21_0)) (View.ld h (Rect.unit ![23, 0] ![8, 1024] inb_S40x1024_S8x1024_23_0)))
    (View.ld w (Rect.unit ![22, 0] ![1, 1024] inb_S31x1024_S1x1024_22_0)) (View.ld h (Rect.unit ![24, 0] ![8, 1024] inb_S40x1024_S8x1024_24_0))
    (View.ld w (Rect.unit ![23, 0] ![1, 1024] inb_S31x1024_S1x1024_23_0)) (View.ld h (Rect.unit ![25, 0] ![8, 1024] inb_S40x1024_S8x1024_25_0))
    (View.ld w (Rect.unit ![24, 0] ![1, 1024] inb_S31x1024_S1x1024_24_0)) (View.ld h (Rect.unit ![26, 0] ![8, 1024] inb_S40x1024_S8x1024_26_0))
    (View.ld w (Rect.unit ![25, 0] ![1, 1024] inb_S31x1024_S1x1024_25_0)) (View.ld h (Rect.unit ![27, 0] ![8, 1024] inb_S40x1024_S8x1024_27_0))
    (View.ld w (Rect.unit ![26, 0] ![1, 1024] inb_S31x1024_S1x1024_26_0)) (View.ld h (Rect.unit ![28, 0] ![8, 1024] inb_S40x1024_S8x1024_28_0))
    (View.ld w (Rect.unit ![27, 0] ![1, 1024] inb_S31x1024_S1x1024_27_0)) (View.ld h (Rect.unit ![29, 0] ![8, 1024] inb_S40x1024_S8x1024_29_0))
    (View.ld w (Rect.unit ![28, 0] ![1, 1024] inb_S31x1024_S1x1024_28_0)) (View.ld h (Rect.unit ![30, 0] ![8, 1024] inb_S40x1024_S8x1024_30_0)))
    (View.ld w (Rect.unit ![29, 0] ![1, 1024] inb_S31x1024_S1x1024_29_0)) (View.ld h (Rect.unit ![31, 0] ![8, 1024] inb_S40x1024_S8x1024_31_0))
    (View.ld w (Rect.unit ![30, 0] ![1, 1024] inb_S31x1024_S1x1024_30_0)) (View.ld h (Rect.unit ![32, 0] ![8, 1024] inb_S40x1024_S8x1024_32_0)) g s

theorem activated_apply (w : Vec Ideal S31x1024 .f32) (h : Vec Ideal S40x1024 .f32) (b g s : Vec Ideal S1x1024 .f32) (i : Fin 8)
    (d : Fin 1024) : activated w h b g s (ix2 i d)
      = silu (layerNorm (fun e => conv (b (ix2 0 e)) (fun k => w (ix2 k e)) fun k => h (ix2 ⟨k.val + 2 + i.val, by omega⟩ e))
          (fun e => g (ix2 0 e)) (fun e => s (ix2 0 e)) d) := by
  unfold activated
  refine (pay12_apply _ _ _ _ _ _ _ i d).trans (congrArg (fun y => silu (layerNorm y _ _ d)) (funext fun e => ?_))
  unfold conv
  rw [pay11_apply, pay10_apply, pay9_apply, pay8_apply, pay7_apply, pay6_apply, sum_taps]
  simp only [add_assoc]
  refine congrArg₂ (· + ·) rfl ?_
  refine congrArg₂ (· + ·) (congrArg₂ (· * ·) (ld_weight w 0 _ (by decide) e) (ld_rows h 2 _ i _ (by show 0 + (2 + i.val) = 2 + i.val; omega) e)) ?_
  refine congrArg₂ (· + ·) (congrArg₂ (· * ·) (ld_weight w 1 _ (by decide) e) (ld_rows h 3 _ i _ (by show 1 + (2 + i.val) = 3 + i.val; omega) e)) ?_
  refine congrArg₂ (· + ·) (congrArg₂ (· * ·) (ld_weight w 2 _ (by decide) e) (ld_rows h 4 _ i _ (by show 2 + (2 + i.val) = 4 + i.val; omega) e)) ?_
  refine congrArg₂ (· + ·) (congrArg₂ (· * ·) (ld_weight w 3 _ (by decide) e) (ld_rows h 5 _ i _ (by show 3 + (2 + i.val) = 5 + i.val; omega) e)) ?_
  refine congrArg₂ (· + ·) (congrArg₂ (· * ·) (ld_weight w 4 _ (by decide) e) (ld_rows h 6 _ i _ (by show 4 + (2 + i.val) = 6 + i.val; omega) e)) ?_
  refine congrArg₂ (· + ·) (congrArg₂ (· * ·) (ld_weight w 5 _ (by decide) e) (ld_rows h 7 _ i _ (by show 5 + (2 + i.val) = 7 + i.val; omega) e)) ?_
  refine congrArg₂ (· + ·) (congrArg₂ (· * ·) (ld_weight w 6 _ (by decide) e) (ld_rows h 8 _ i _ (by show 6 + (2 + i.val) = 8 + i.val; omega) e)) ?_
  refine congrArg₂ (· + ·) (congrArg₂ (· * ·) (ld_weight w 7 _ (by decide) e) (ld_rows h 9 _ i _ (by show 7 + (2 + i.val) = 9 + i.val; omega) e)) ?_
  refine congrArg₂ (· + ·) (congrArg₂ (· * ·) (ld_weight w 8 _ (by decide) e) (ld_rows h 10 _ i _ (by show 8 + (2 + i.val) = 10 + i.val; omega) e)) ?_
  refine congrArg₂ (· + ·) (congrArg₂ (· * ·) (ld_weight w 9 _ (by decide) e) (ld_rows h 11 _ i _ (by show 9 + (2 + i.val) = 11 + i.val; omega) e)) ?_
  refine congrArg₂ (· + ·) (congrArg₂ (· * ·) (ld_weight w 10 _ (by decide) e) (ld_rows h 12 _ i _ (by show 10 + (2 + i.val) = 12 + i.val; omega) e)) ?_
  refine congrArg₂ (· + ·) (congrArg₂ (· * ·) (ld_weight w 11 _ (by decide) e) (ld_rows h 13 _ i _ (by show 11 + (2 + i.val) = 13 + i.val; omega) e)) ?_
  refine congrArg₂ (· + ·) (congrArg₂ (· * ·) (ld_weight w 12 _ (by decide) e) (ld_rows h 14 _ i _ (by show 12 + (2 + i.val) = 14 + i.val; omega) e)) ?_
  refine congrArg₂ (· + ·) (congrArg₂ (· * ·) (ld_weight w 13 _ (by decide) e) (ld_rows h 15 _ i _ (by show 13 + (2 + i.val) = 15 + i.val; omega) e)) ?_
  refine congrArg₂ (· + ·) (congrArg₂ (· * ·) (ld_weight w 14 _ (by decide) e) (ld_rows h 16 _ i _ (by show 14 + (2 + i.val) = 16 + i.val; omega) e)) ?_
  refine congrArg₂ (· + ·) (congrArg₂ (· * ·) (ld_weight w 15 _ (by decide) e) (ld_rows h 17 _ i _ (by show 15 + (2 + i.val) = 17 + i.val; omega) e)) ?_
  refine congrArg₂ (· + ·) (congrArg₂ (· * ·) (ld_weight w 16 _ (by decide) e) (ld_rows h 18 _ i _ (by show 16 + (2 + i.val) = 18 + i.val; omega) e)) ?_
  refine congrArg₂ (· + ·) (congrArg₂ (· * ·) (ld_weight w 17 _ (by decide) e) (ld_rows h 19 _ i _ (by show 17 + (2 + i.val) = 19 + i.val; omega) e)) ?_
  refine congrArg₂ (· + ·) (congrArg₂ (· * ·) (ld_weight w 18 _ (by decide) e) (ld_rows h 20 _ i _ (by show 18 + (2 + i.val) = 20 + i.val; omega) e)) ?_
  refine congrArg₂ (· + ·) (congrArg₂ (· * ·) (ld_weight w 19 _ (by decide) e) (ld_rows h 21 _ i _ (by show 19 + (2 + i.val) = 21 + i.val; omega) e)) ?_
  refine congrArg₂ (· + ·) (congrArg₂ (· * ·) (ld_weight w 20 _ (by decide) e) (ld_rows h 22 _ i _ (by show 20 + (2 + i.val) = 22 + i.val; omega) e)) ?_
  refine congrArg₂ (· + ·) (congrArg₂ (· * ·) (ld_weight w 21 _ (by decide) e) (ld_rows h 23 _ i _ (by show 21 + (2 + i.val) = 23 + i.val; omega) e)) ?_
  refine congrArg₂ (· + ·) (congrArg₂ (· * ·) (ld_weight w 22 _ (by decide) e) (ld_rows h 24 _ i _ (by show 22 + (2 + i.val) = 24 + i.val; omega) e)) ?_
  refine congrArg₂ (· + ·) (congrArg₂ (· * ·) (ld_weight w 23 _ (by decide) e) (ld_rows h 25 _ i _ (by show 23 + (2 + i.val) = 25 + i.val; omega) e)) ?_
  refine congrArg₂ (· + ·) (congrArg₂ (· * ·) (ld_weight w 24 _ (by decide) e) (ld_rows h 26 _ i _ (by show 24 + (2 + i.val) = 26 + i.val; omega) e)) ?_
  refine congrArg₂ (· + ·) (congrArg₂ (· * ·) (ld_weight w 25 _ (by decide) e) (ld_rows h 27 _ i _ (by show 25 + (2 + i.val) = 27 + i.val; omega) e)) ?_
  refine congrArg₂ (· + ·) (congrArg₂ (· * ·) (ld_weight w 26 _ (by decide) e) (ld_rows h 28 _ i _ (by show 26 + (2 + i.val) = 28 + i.val; omega) e)) ?_
  refine congrArg₂ (· + ·) (congrArg₂ (· * ·) (ld_weight w 27 _ (by decide) e) (ld_rows h 29 _ i _ (by show 27 + (2 + i.val) = 29 + i.val; omega) e)) ?_
  refine congrArg₂ (· + ·) (congrArg₂ (· * ·) (ld_weight w 28 _ (by decide) e) (ld_rows h 30 _ i _ (by show 28 + (2 + i.val) = 30 + i.val; omega) e)) ?_
  refine congrArg₂ (· + ·) (congrArg₂ (· * ·) (ld_weight w 29 _ (by decide) e) (ld_rows h 31 _ i _ (by show 29 + (2 + i.val) = 31 + i.val; omega) e)) ?_
  exact congrArg₂ (· * ·) (ld_weight w 30 _ (by decide) e) (ld_rows h 32 _ i _ (by show 30 + (2 + i.val) = 32 + i.val; omega) e)

/-- The buffer after the gated rows were put behind what it held. -/
def rows (s : Vec Ideal S40x1024 .f32) (u : FVec Ideal S4x1024 .f32) : Vec Ideal S40x1024 .f32 :=
  VecWindow.put s ![32, 0] ![4, 1024] u

theorem rows_old (s : Vec Ideal S40x1024 .f32) (u : FVec Ideal S4x1024 .f32) (r : Fin 40) (d : Fin 1024) (h : r.val < 32) :
    rows s u (ix2 r d) = s (ix2 r d) :=
  dif_neg fun hall => by
    have h0 : 32 ≤ r.val := (hall 0).1
    omega

theorem rows_new (s : Vec Ideal S40x1024 .f32) (u : FVec Ideal S4x1024 .f32) (r : Fin 40) (i : Fin 4) (d : Fin 1024)
    (h : r.val = 32 + i.val) : rows s u (ix2 r d) = u (ix2 i d) :=
  (dif_pos (Fin.forall_fin_two.2 ⟨⟨by show 32 ≤ r.val; omega, by show r.val < 32 + 4; omega⟩,
    ⟨Nat.zero_le _, by show d.val < 0 + 1024; omega⟩⟩)).trans
    (congrArg u (funext (Fin.forall_fin_two.2 ⟨Fin.ext (by show r.val - 32 = i.val; omega), Fin.ext (Nat.sub_zero _)⟩)))

/-- The gated rows. -/
theorem pay5_apply (v : Vec Ideal S1x4x2048 .f32) (i : Fin 4) (d : Fin 1024) :
    k0_pay5 v (ix2 i d) = gate (v (ix3 0 i ⟨d.val, by omega⟩)) (v (ix3 0 i ⟨1024 + d.val, by omega⟩)) := by
  pointwise [k0_pay5]
  simp only [zero_sub]
  rfl

end

end Cert.KernelConfSampleIdeal.Gen
-- ==== Proof.ConfSampleValue.lean ====
/-
  The conformer of the sampled rows: a sequence's point puts the thirty kept rows and its four gated rows into the buffer,
  convolves and projects them, and leaves the buffer's last thirty rows of these.
-/
module

public import proofs.«01_k».proof.Proof.ConfSampleTaps

@[expose] public section

set_option maxRecDepth 16384

open Idealize.ShloMosaic Idealize.ShloMosaic.TcCoe Idealize.SL.Sem Conf
open Idealize.ShloMosaic.Pipeline (Dat)

namespace Cert.KernelConfSampleIdeal.Gen

open Cert.KernelConfSampleIdeal

noncomputable section

/-- The buffer with the kept rows put in. -/
def kept (z : Vec Ideal S40x1024 .f32) (p : FVec Ideal S30x1024 .f32) : Vec Ideal S40x1024 .f32 :=
  VecWindow.put z ![2, 0] ![30, 1024] p

theorem kept_apply (z : Vec Ideal S40x1024 .f32) (p : FVec Ideal S30x1024 .f32) (r : Fin 40) (i : Fin 30) (d : Fin 1024)
    (h : r.val = 2 + i.val) : kept z p (ix2 r d) = p (ix2 i d) :=
  (dif_pos (Fin.forall_fin_two.2 ⟨⟨by show 2 ≤ r.val; omega, by show r.val < 2 + 30; omega⟩,
    ⟨Nat.zero_le _, by show d.val < 0 + 1024; omega⟩⟩)).trans
    (congrArg p (funext (Fin.forall_fin_two.2 ⟨Fin.ext (by show r.val - 2 = i.val; omega), Fin.ext (Nat.sub_zero _)⟩)))

theorem read_put {κ : Kind} {sp : Space} (v : View sig κ sp S40x1024 .f32) (f : v.ty.Contents (Elt Ideal))
    (u : FVec Ideal S4x1024 .f32) (inb) (L : List (View.Piece (Elt Ideal) S40x1024 .f32)) :
    v.read (Elt Ideal) (v.writes (Elt Ideal) f (⟨Rect.unit ![32, 0] ![4, 1024] inb, u⟩ :: L))
      = rows (v.read (Elt Ideal) (v.writes (Elt Ideal) f L)) u :=
  View.read_writes_cons_put v f inb u L rfl

theorem read_kept {κ : Kind} {sp : Space} (v : View sig κ sp S40x1024 .f32) (f : v.ty.Contents (Elt Ideal))
    (p : FVec Ideal S30x1024 .f32) (inb) (L : List (View.Piece (Elt Ideal) S40x1024 .f32)) :
    v.read (Elt Ideal) (v.writes (Elt Ideal) f (⟨Rect.unit ![2, 0] ![30, 1024] inb, p⟩ :: L))
      = kept (v.read (Elt Ideal) (v.writes (Elt Ideal) f L)) p :=
  View.read_writes_cons_put v f inb p L rfl

theorem read_all {κ : Kind} {sp : Space} (v : View sig κ sp S40x1024 .f32) (f : v.ty.Contents (Elt Ideal))
    (z : Vec Ideal S40x1024 .f32) (inb) (L : List (View.Piece (Elt Ideal) S40x1024 .f32)) :
    v.read (Elt Ideal) (v.writes (Elt Ideal) f (⟨Rect.unit ![0, 0] ![40, 1024] inb, z⟩ :: L)) = z :=
  View.read_writes_full v f inb z L

/-- What a load after the three stores reads. -/
theorem readCov_rows {κ : Kind} {sp : Space} (v : View sig κ sp S40x1024 .f32) (z : Vec Ideal S40x1024 .f32)
    (p : FVec Ideal S30x1024 .f32) (u : FVec Ideal S4x1024 .f32) (inb inb1 inb0) (r : Rect S40x1024) :
    v.readCov (Val := Elt Ideal) [⟨Rect.unit ![32, 0] ![4, 1024] inb, u⟩, ⟨Rect.unit ![2, 0] ![30, 1024] inb1, p⟩,
      ⟨Rect.unit ![0, 0] ![40, 1024] inb0, z⟩] r.toLoadRect = View.ld (rows (kept z p) u) r :=
  funext fun j => congrFun ((read_put v v.junk u inb _).trans (congrArg (fun x => rows x u)
    ((read_kept v v.junk p inb1 _).trans (congrArg (fun x => kept x p) (read_all v v.junk z inb0 []))))) (r.idx j)

variable (m : (ℓ : Loc nD τ sig) → (ℓ : Loc nD τ sig).ty.Contents (Elt Ideal)) (c : Dev nD)

/-- What the buffer holds when the point convolves. -/
def held (t : Fin cfg0.N) : Vec Ideal S40x1024 .f32 :=
  rows (kept (k0_pay3 (F := Ideal)) (k0_pay4 (iblk m c 2 t))) (k0_pay5 (iblk m c 0 t))

theorem out_eq (t : Fin cfg0.N) : (outsAt0 m c t).1
    = k0_pay1 (activated (iblk m c 3 t) (held m c t) (iblk m c 4 t) (iblk m c 5 t) (iblk m c 6 t)) (iblk m c 1 t) (iblk m c 7 t) := by
  unfold held
  frame_out
  simp only [readCov_rows]
  unfold activated
  rfl

theorem last_eq (t : Fin cfg0.N) : (outsAt0 m c t).2
    = k0_pay2 (View.ld (held m c t) (Rect.unit ![6, 0] ![30, 1024] inb_S40x1024_S30x1024_6_0)) := by
  unfold held
  frame_out
  simp only [readCov_rows]

/-- The windows' block indices at a grid point. -/
theorem idx : ∀ t : Fin cfg0.N, win0_0.index t = ![t.val, 0, 0] ∧ win0_1.index t = ![t.val, 0, 0]
    ∧ win0_2.index t = ![t.val, 0, 0, 0] ∧ win0_3.index t = ![0, 0] ∧ win0_4.index t = ![0, 0] ∧ win0_5.index t = ![0, 0]
    ∧ win0_6.index t = ![0, 0] ∧ win0_7.index t = ![0, 0] ∧ win0_8.index t = ![t.val, 0, 0] ∧ win0_9.index t = ![t.val, 0, 0] :=
  (by decide +kernel : ∀ t : Fin grid0.N, _)

/-- The sequence of a point. -/
def seq (t : Fin cfg0.N) : Fin 128 := ⟨t.val, lt_of_lt_of_eq t.isLt N_0⟩

theorem ag_apply (t : Fin cfg0.N) (i : Fin 4) (d : Fin 2048) :
    iblk m c 0 t (ix3 0 i d) = m ((c : Thread nD τ).loc main_arg0) (ix3 (seq t) i d) := by
  unfold seq
  blk_ext [iblk, V, idx t]

theorem x_apply (t : Fin cfg0.N) (i : Fin 4) (d : Fin 1024) :
    iblk m c 1 t (ix3 0 i d) = m ((c : Thread nD τ).loc main_arg1) (ix3 (seq t) i d) := by
  unfold seq
  blk_ext [iblk, V, idx t]

theorem st_apply (t : Fin cfg0.N) (i : Fin 30) (d : Fin 1024) :
    iblk m c 2 t (ix4 0 0 i d) = m ((c : Thread nD τ).loc main_arg2) (ix4 (seq t) 0 i d) := by
  unfold seq
  blk_ext [iblk, V, idx t]

theorem dw_apply (t : Fin cfg0.N) (k : Fin 31) (d : Fin 1024) :
    iblk m c 3 t (ix2 k d) = m ((c : Thread nD τ).loc main_arg3) (ix2 k d) := by
  blk_ext [iblk, V, idx t]

theorem dwb_apply (t : Fin cfg0.N) (d : Fin 1024) : iblk m c 4 t (ix2 0 d) = m ((c : Thread nD τ).loc main_arg4) (ix1 d) := by
  blk_simp [iblk, idx t]
  entry_read
  pointwise
  blk_ext [idx t]

theorem g_apply (t : Fin cfg0.N) (d : Fin 1024) : iblk m c 5 t (ix2 0 d) = m ((c : Thread nD τ).loc main_arg5) (ix1 d) := by
  blk_simp [iblk, idx t]
  entry_read
  pointwise
  blk_ext [idx t]

theorem b_apply (t : Fin cfg0.N) (d : Fin 1024) : iblk m c 6 t (ix2 0 d) = m ((c : Thread nD τ).loc main_arg6) (ix1 d) := by
  blk_simp [iblk, idx t]
  entry_read
  pointwise
  blk_ext [idx t]

theorem w_apply (t : Fin cfg0.N) (k d : Fin 1024) : iblk m c 7 t (ix2 k d) = m ((c : Thread nD τ).loc main_arg7) (ix2 k d) := by
  blk_simp [iblk, idx t]
  entry_read
  pointwise
  blk_ext [idx t]

/-- The rows before the split and the kept rows of a sequence. -/
def split (s : Fin 128) (n : Fin 4) (d : Fin 2048) : EReal :=
  (show FVec Ideal S128x4x2048 .f32 from m ((c : Thread nD τ).loc main_arg0)) (ix3 s n d)

def state (s : Fin 128) (n : Fin 30) (d : Fin 1024) : EReal :=
  (show FVec Ideal S128x1x30x1024 .f32 from m ((c : Thread nD τ).loc main_arg2)) (ix4 s 0 n d)

theorem gated_apply (t : Fin cfg0.N) (i : Fin 4) (d : Fin 1024) (q : Nat) (hq : q = i.val + 30) :
    k0_pay5 (iblk m c 0 t) (ix2 i d) = joined (state m c (seq t)) (split m c (seq t)) q d :=
  (pay5_apply _ i d).trans ((congrArg₂ gate (ag_apply m c t i _) (ag_apply m c t i _)).trans
    (joined_new (state m c (seq t)) (split m c (seq t)) q d i hq).symm)

theorem state_apply (t : Fin cfg0.N) (i : Fin 30) (d : Fin 1024) :
    k0_pay4 (iblk m c 2 t) (ix2 i d) = joined (state m c (seq t)) (split m c (seq t)) i.val d := by
  have e : ∀ v : Vec Ideal S1x1x30x1024 .f32, k0_pay4 v (ix2 i d) = v (ix4 0 0 i d) := fun v => by pointwise [k0_pay4]
  exact (e _).trans ((st_apply m c t i d).trans (joined_old (state m c (seq t)) (split m c (seq t)) i.val d i rfl).symm)

/-- The buffer at a point holds the sequence's rows. -/
theorem held_apply (t : Fin cfg0.N) (r : Fin 40) (d : Fin 1024) (q : Nat) (hq : r.val = 2 + q) (h : q < 34) :
    held m c t (ix2 r d) = joined (state m c (seq t)) (split m c (seq t)) q d := by
  unfold held
  by_cases h0 : q < 30
  · rw [rows_old _ _ r d (by omega), kept_apply _ _ r ⟨q, h0⟩ d hq]
    exact state_apply m c t ⟨q, h0⟩ d
  · rw [rows_new _ _ r ⟨q - 30, by omega⟩ d (by show r.val = 32 + (q - 30); omega)]
    exact gated_apply m c t _ d q (by show q = q - 30 + 30; omega)

/-- The result of the module. -/
def result (s : Fin 128) (n : Fin 4) (d : Fin 1024) : EReal :=
  entry ((show FVec Ideal S128x4x1024 .f32 from m ((c : Thread nD τ).loc main_arg1)) (ix3 s n d))
    (joinedRow (state m c s) (split m c s)
      (fun k e => (show FVec Ideal S31x1024 .f32 from m ((c : Thread nD τ).loc main_arg3)) (ix2 k e))
      (fun e => (show FVec Ideal S1024 .f32 from m ((c : Thread nD τ).loc main_arg4)) (ix1 e)) n.val)
    (fun e => (show FVec Ideal S1024 .f32 from m ((c : Thread nD τ).loc main_arg5)) (ix1 e))
    (fun e => (show FVec Ideal S1024 .f32 from m ((c : Thread nD τ).loc main_arg6)) (ix1 e))
    (fun k => (show FVec Ideal S1024x1024 .f32 from m ((c : Thread nD τ).loc main_arg7)) (ix2 k d))

/-- A point's convolved row. -/
theorem conv_apply (t : Fin cfg0.N) (i : Fin 4) (e : Fin 1024) :
    conv (iblk m c 4 t (ix2 0 e)) (fun k => iblk m c 3 t (ix2 k e))
        (fun k => held m c t (ix2 ⟨k.val + 2 + i.val, by omega⟩ e))
      = joinedRow (state m c (seq t)) (split m c (seq t))
          (fun k e => (show FVec Ideal S31x1024 .f32 from m ((c : Thread nD τ).loc main_arg3)) (ix2 k e))
          (fun e => (show FVec Ideal S1024 .f32 from m ((c : Thread nD τ).loc main_arg4)) (ix1 e)) i.val e := by
  have hh : ∀ k : Fin 31, held m c t (ix2 ⟨k.val + 2 + i.val, by omega⟩ e)
      = joined (state m c (seq t)) (split m c (seq t)) (k.val + i.val) e := fun k =>
    held_apply m c t _ e _ (by show k.val + 2 + i.val = 2 + (k.val + i.val); omega) (by omega)
  unfold joinedRow
  rw [dwb_apply m c t e]
  exact congrArg₂ (conv _) (funext fun k => dw_apply m c t k e) (funext hh)

theorem emb8_apply (t : Fin cfg0.N) (i : Fin 4) (d : Fin 1024) : (win0_8.blk t).view.emb (ix3 0 i d) = ix3 (seq t) i d := by
  unfold seq
  blk_ext [idx t]

theorem emb9_apply (t : Fin cfg0.N) (i : Fin 30) (d : Fin 1024) : (win0_9.blk t).view.emb (ix3 0 i d) = ix3 (seq t) i d := by
  unfold seq
  blk_ext [idx t]

/-- The result array. -/
theorem result8_eq (G : FVec Ideal S128x4x1024 .f32)
    (hG : ∀ (s : Fin 128) (i : Fin 4) (d : Fin 1024), G (ix3 s i d) = result m c s i d) :
    (dats m 0 c).arrAt 8 cfg0.N = G := by
  refine (dats m 0 c).arrAt_eq_of_covers 8 _ (by decide +kernel) fun t hf y => ?_
  blk_simp
  rw [after0_8]
  obtain ⟨o, i, d, rfl⟩ : ∃ (o : Fin 1) (i : Fin 4) (d : Fin 1024), y = ix3 o i d :=
    ⟨y 0, y 1, y 2, eq_ix3 (n0 := 1) (n1 := 4) (n2 := 1024) y⟩
  obtain rfl : o = 0 := Subsingleton.elim _ _
  refine Eq.trans ?_ ((hG _ _ _).symm.trans (congrArg G (emb8_apply t i d).symm))
  rw [out_eq m c t]
  refine (pay1_apply _ _ _ i d).trans ?_
  unfold result entry
  refine congrArg₂ (· + ·) (x_apply m c t i d) (Finset.sum_congr (M := EReal) rfl fun k _ =>
    congrArg₂ (· * ·) ((activated_apply _ _ _ _ _ _ k).trans (congrArg silu ?_)) (w_apply m c t k d))
  rw [funext fun e => conv_apply m c t i e, funext fun e => g_apply m c t e, funext fun e => b_apply m c t e]

/-- The array of the rows kept for a later call. -/
theorem result9_eq (G : FVec Ideal S128x30x1024 .f32)
    (hG : ∀ (s : Fin 128) (i : Fin 30) (d : Fin 1024), G (ix3 s i d) = joined (state m c s) (split m c s) (4 + i.val) d) :
    (dats m 0 c).arrAt 9 cfg0.N = G := by
  refine (dats m 0 c).arrAt_eq_of_covers 9 _ (by decide +kernel) fun t hf y => ?_
  blk_simp
  rw [after0_9]
  obtain ⟨o, i, d, rfl⟩ : ∃ (o : Fin 1) (i : Fin 30) (d : Fin 1024), y = ix3 o i d :=
    ⟨y 0, y 1, y 2, eq_ix3 (n0 := 1) (n1 := 30) (n2 := 1024) y⟩
  obtain rfl : o = 0 := Subsingleton.elim _ _
  refine Eq.trans ?_ ((hG _ _ _).symm.trans (congrArg G (emb9_apply t i d).symm))
  rw [last_eq m c t]
  have cast : ∀ s : Vec Ideal S30x1024 .f32, k0_pay2 s (ix3 0 i d) = s (ix2 i d) := fun s => by pointwise [k0_pay2]
  have ld : View.ld (held m c t) (Rect.unit ![6, 0] ![30, 1024] inb_S40x1024_S30x1024_6_0) (ix2 i d)
      = held m c t (ix2 ⟨6 + i.val, by omega⟩ d) :=
    View.ld_unit_apply_of _ _ _ _ _ _ (Fin.forall_fin_two.2 ⟨rfl, (Nat.zero_add d.val).symm⟩)
  exact (cast _).trans (ld.trans (held_apply m c t _ d _ (by show 6 + i.val = 2 + (4 + i.val); omega) (by omega)))

end

end Cert.KernelConfSampleIdeal.Gen
-- ==== Proof.ConfSampleLayer.lean ====
/-
  The conformer of the sampled rows, the claim: the reference's convolution, norm and projection at an entry are what the kernel
  leaves there.
-/
module

public import proofs.«01_k».proof.Defs
public import proofs.«01_k».proof.Proof.ConfSampleValue
public import proofs.«01_k».proof.Proof.Gen.ReferenceConfSampleIdeal.Run
public import Idealize.ShloMosaic.Lib.Quiescent

@[expose] public section

set_option maxRecDepth 16384

open Idealize.ShloMosaic Idealize.ShloMosaic.TcCoe Idealize.SL.Sem Conf

noncomputable section

namespace Cert.ReferenceConfSampleIdeal.Value

open Cert.ReferenceConfSampleIdeal Cert.ReferenceConfSampleIdeal.Gen

variable (V : Valuation τ sig (Elt Ideal))

/-- The rows before the split and the kept rows of a sequence. -/
def split (s : Fin 128) (n : Fin 4) (d : Fin 2048) : EReal :=
  (show FVec Ideal S128x4x2048 .f32 from V (Proc.devRef .tc main_arg0)) (ix3 s n d)

def state (s : Fin 128) (n : Fin 30) (d : Fin 1024) : EReal :=
  (show FVec Ideal S128x1x30x1024 .f32 from V (Proc.devRef .tc main_arg2)) (ix4 s 0 n d)

theorem joined_apply (a : Fin 128) (i : Fin 34) (d : Fin 1024) :
    (show FVec Ideal S128x34x1024 .f32 from res_main_v10 V) (ix3 a i d) = joined (state V a) (split V a) i.val d := by
  show res_main_v10 V (ix3 a i d) = _
  pointwise [res_main_v10]
  by_cases h : i.val < 30
  · rw [dif_pos h, joined_old _ _ i.val d ⟨i.val, h⟩ rfl]
    rfl
  · rw [dif_neg h, joined_new _ _ i.val d ⟨i.val - 30, by omega⟩ (by show i.val = i.val - 30 + 30; omega)]
    rfl

/-- One product of the convolution. -/
theorem tap (k : Fin 31) (a : Fin 128) (i : Fin 4) (d : Fin 1024) (r : Fin 34) (hr : r.val = k.val + i.val) (w : EReal) :
    (show FVec Ideal S128x34x1024 .f32 from res_main_v10 V) (ix3 a r d) * w = w * joined (state V a) (split V a) (k.val + i.val) d := by
  rw [joined_apply, hr, mul_comm]

theorem conv_apply (a : Fin 128) (i : Fin 4) (d : Fin 1024) :
    (show FVec Ideal S128x4x1024 .f32 from res_main_v231 V) (ix3 a i d) = joinedRow (state V a) (split V a)
      (fun k e => (show FVec Ideal S31x1024 .f32 from V (Proc.devRef .tc main_arg3)) (ix2 k e))
      (fun e => (show FVec Ideal S1024 .f32 from V (Proc.devRef .tc main_arg4)) (ix1 e)) i.val d := by
  show res_main_v231 V (ix3 a i d) = _
  pointwise [res_main_v231]
  pointwise [res_main_v165]
  pointwise [res_main_v88]
  unfold joinedRow conv
  rw [sum_taps]
  refine (add_comm (G := EReal) _ _).trans (congrArg₂ (fun x y : EReal => x + y) rfl ?_)
  refine congrArg₂ (fun x y : EReal => x + y) ?_ (tap V 30 a i d _ rfl _)
  refine congrArg₂ (fun x y : EReal => x + y) ?_ (tap V 29 a i d _ rfl _)
  refine congrArg₂ (fun x y : EReal => x + y) ?_ (tap V 28 a i d _ rfl _)
  refine congrArg₂ (fun x y : EReal => x + y) ?_ (tap V 27 a i d _ rfl _)
  refine congrArg₂ (fun x y : EReal => x + y) ?_ (tap V 26 a i d _ rfl _)
  refine congrArg₂ (fun x y : EReal => x + y) ?_ (tap V 25 a i d _ rfl _)
  refine congrArg₂ (fun x y : EReal => x + y) ?_ (tap V 24 a i d _ rfl _)
  refine congrArg₂ (fun x y : EReal => x + y) ?_ (tap V 23 a i d _ rfl _)
  refine congrArg₂ (fun x y : EReal => x + y) ?_ (tap V 22 a i d _ rfl _)
  refine congrArg₂ (fun x y : EReal => x + y) ?_ (tap V 21 a i d _ rfl _)
  refine congrArg₂ (fun x y : EReal => x + y) ?_ (tap V 20 a i d _ rfl _)
  refine congrArg₂ (fun x y : EReal => x + y) ?_ (tap V 19 a i d _ rfl _)
  refine congrArg₂ (fun x y : EReal => x + y) ?_ (tap V 18 a i d _ rfl _)
  refine congrArg₂ (fun x y : EReal => x + y) ?_ (tap V 17 a i d _ rfl _)
  refine congrArg₂ (fun x y : EReal => x + y) ?_ (tap V 16 a i d _ rfl _)
  refine congrArg₂ (fun x y : EReal => x + y) ?_ (tap V 15 a i d _ rfl _)
  refine congrArg₂ (fun x y : EReal => x + y) ?_ (tap V 14 a i d _ rfl _)
  refine congrArg₂ (fun x y : EReal => x + y) ?_ (tap V 13 a i d _ rfl _)
  refine congrArg₂ (fun x y : EReal => x + y) ?_ (tap V 12 a i d _ rfl _)
  refine congrArg₂ (fun x y : EReal => x + y) ?_ (tap V 11 a i d _ rfl _)
  refine congrArg₂ (fun x y : EReal => x + y) ?_ (tap V 10 a i d _ rfl _)
  refine congrArg₂ (fun x y : EReal => x + y) ?_ (tap V 9 a i d _ rfl _)
  refine congrArg₂ (fun x y : EReal => x + y) ?_ (tap V 8 a i d _ rfl _)
  refine congrArg₂ (fun x y : EReal => x + y) ?_ (tap V 7 a i d _ rfl _)
  refine congrArg₂ (fun x y : EReal => x + y) ?_ (tap V 6 a i d _ rfl _)
  refine congrArg₂ (fun x y : EReal => x + y) ?_ (tap V 5 a i d _ rfl _)
  refine congrArg₂ (fun x y : EReal => x + y) ?_ (tap V 4 a i d _ rfl _)
  refine congrArg₂ (fun x y : EReal => x + y) ?_ (tap V 3 a i d _ rfl _)
  refine congrArg₂ (fun x y : EReal => x + y) ?_ (tap V 2 a i d _ rfl _)
  refine congrArg₂ (fun x y : EReal => x + y) ?_ (tap V 1 a i d _ rfl _)
  exact tap V 0 a i d _ (Nat.zero_add i.val).symm _

theorem norm_apply (a : Fin 128) (i : Fin 4) (d : Fin 1024) :
    (show FVec Ideal S128x4x1024 .f32 from res_main_v255 V) (ix3 a i d)
      = layerNorm (fun e => (show FVec Ideal S128x4x1024 .f32 from res_main_v231 V) (ix3 a i e))
        (fun e => (show FVec Ideal S1024 .f32 from V (Proc.devRef .tc main_arg5)) (ix1 e))
        (fun e => (show FVec Ideal S1024 .f32 from V (Proc.devRef .tc main_arg6)) (ix1 e)) d := by
  show res_main_v255 V (ix3 a i d) = _
  pointwise [res_main_v255, res_main_v237, res_main_v235]
  rfl

/-- The reference's two results. -/
def layer : FVec Ideal S128x4x1024 .f32 :=
  addf (show FVec Ideal S128x4x1024 .f32 from V (Proc.devRef .tc main_arg1)) (Host.dotGeneral dot_S128x4x1024_S1024x1024_S128x4x1024_2_0_01_1_n_n none (mulf (show FVec Ideal S128x4x1024 .f32 from res_main_v255 V) (Host.divf (broadcastInDim S128x4x1024 ![] bcast_S_S128x4x1024 (constant S_ .f32 0x3F800000#32)) (addf (broadcastInDim S128x4x1024 ![] bcast_S_S128x4x1024 (constant S_ .f32 0x3F800000#32)) (Host.exp (Host.negf (show FVec Ideal S128x4x1024 .f32 from res_main_v255 V)))))) (show FVec Ideal S1024x1024 .f32 from V (Proc.devRef .tc main_arg7)))

def kept : FVec Ideal S128x30x1024 .f32 :=
  extractStridedSlice S128x30x1024 ![0, 4, 0] (res_main_v10 V) slices_S128x34x1024_S128x30x1024_0_4_0

theorem layer_apply (s : Fin 128) (i : Fin 4) (d : Fin 1024) :
    layer V (ix3 s i d) = entry ((show FVec Ideal S128x4x1024 .f32 from V (Proc.devRef .tc main_arg1)) (ix3 s i d))
      (joinedRow (state V s) (split V s)
        (fun k e => (show FVec Ideal S31x1024 .f32 from V (Proc.devRef .tc main_arg3)) (ix2 k e))
        (fun e => (show FVec Ideal S1024 .f32 from V (Proc.devRef .tc main_arg4)) (ix1 e)) i.val)
      (fun e => (show FVec Ideal S1024 .f32 from V (Proc.devRef .tc main_arg5)) (ix1 e))
      (fun e => (show FVec Ideal S1024 .f32 from V (Proc.devRef .tc main_arg6)) (ix1 e))
      (fun k => (show FVec Ideal S1024x1024 .f32 from V (Proc.devRef .tc main_arg7)) (ix2 k d)) := by
  pointwise [layer]
  unfold entry
  refine congrArg₂ (fun x y : EReal => x + y) rfl (Finset.sum_congr (M := EReal) rfl fun k _ =>
    congrArg₂ (fun x y : EReal => x * y) ?_ rfl)
  exact congrArg silu ((norm_apply V _ _ k).trans (congrArg (fun y => layerNorm y _ _ k) (funext fun e => conv_apply V _ _ e)))

theorem kept_apply (s : Fin 128) (i : Fin 30) (d : Fin 1024) :
    kept V (ix3 s i d) = joined (state V s) (split V s) (4 + i.val) d := by
  pointwise [kept]
  exact joined_apply V s _ d

end Cert.ReferenceConfSampleIdeal.Value

namespace Cert.Proof

theorem quiescent_ReferenceConfSampleIdeal : quiescent_ReferenceConfSampleIdeal := fun m ρ _ =>
  (θ_run Cert.ReferenceConfSampleIdeal.defs _ _).mono
    (fun r h => ⟨fun c => (h c).2.2, sem_eq_zero_of_no_sems (by decide) r.2⟩)
    (Cert.ReferenceConfSampleIdeal.Value.run (F := Ideal) m ρ)

theorem algebraic_KernelConfSampleIdeal_ReferenceConfSampleIdeal : algebraic_KernelConfSampleIdeal_ReferenceConfSampleIdeal := by
  intro m ρ m' ρ' _ hagree
  refine ⟨_, _, Cert.KernelConfSampleIdeal.Value.run_blocks (F := Ideal) m ρ, ?_⟩
  refine (θ_run Cert.ReferenceConfSampleIdeal.defs _ _).mono
    (fun _ h c => ⟨(h c).1.trans ?_, (h c).2.1.trans ?_, (h c).2.2⟩) (Cert.ReferenceConfSampleIdeal.Value.run (F := Ideal) m' ρ')
  · obtain ⟨e0, e1, e2, e3, e4, e5, e6, e7⟩ := hagree c
    refine (Cert.KernelConfSampleIdeal.Gen.result8_eq m c (Cert.ReferenceConfSampleIdeal.Value.layer _) fun s i d => ?_).symm
    refine (Cert.ReferenceConfSampleIdeal.Value.layer_apply _ s i d).trans ?_
    unfold Cert.KernelConfSampleIdeal.Gen.result Cert.KernelConfSampleIdeal.Gen.split Cert.KernelConfSampleIdeal.Gen.state Cert.ReferenceConfSampleIdeal.Value.split
      Cert.ReferenceConfSampleIdeal.Value.state
    rw [← e0, ← e1, ← e2, ← e3, ← e4, ← e5, ← e6, ← e7]
  · obtain ⟨e0, e1, e2, e3, e4, e5, e6, e7⟩ := hagree c
    refine (Cert.KernelConfSampleIdeal.Gen.result9_eq m c (Cert.ReferenceConfSampleIdeal.Value.kept _) fun s i d => ?_).symm
    refine (Cert.ReferenceConfSampleIdeal.Value.kept_apply _ s i d).trans ?_
    unfold Cert.KernelConfSampleIdeal.Gen.split Cert.KernelConfSampleIdeal.Gen.state Cert.ReferenceConfSampleIdeal.Value.split
      Cert.ReferenceConfSampleIdeal.Value.state
    rw [← e0, ← e2]

end Cert.Proof
-- ==== Proof.SsdSpec.lean ====
/-
  The state-space mixer's state after a sequence's four sampled rows: the causal convolution and the activation of the rows, the
  step sizes, the decay up to each row, and the sum of the rows' contributions on top of the decayed earlier state.
-/
module

public import proofs.«01_k».proof.Proof.ConfSpec

@[expose] public section

namespace Ssd

open Idealize.ShloMosaic

noncomputable section

def softplus (v : EReal) : EReal :=
  max v 0 + Ideal.log1p (Ideal.exp (-(FloatOps.absf (F := Ideal) (φ := .f32) v)))

/-- The convolution at one entry: the bias, and the four weights times the rows. -/
def conv (b : EReal) (w x : Fin 4 → EReal) : EReal := b + (w 0 * x 0 + w 1 * x 1 + w 2 * x 2 + w 3 * x 3)

/-- The rows of a sequence that are convolved: the three kept ones before the columns of the four new ones. -/
def joined (st : Fin 3 → Fin 1536 → EReal) (p : Fin 4 → Fin 4608 → EReal) (q : Nat) (d : Fin 1536) : EReal :=
  if h : q < 3 then st ⟨q, h⟩ d else if h4 : q - 3 < 4 then p ⟨q - 3, h4⟩ ⟨1024 + d.val, by omega⟩ else 0

/-- A convolved and activated row. -/
def activated (st : Fin 3 → Fin 1536 → EReal) (p : Fin 4 → Fin 4608 → EReal) (cw : Fin 4 → Fin 1536 → EReal)
    (cb : Fin 1536 → EReal) (l : Fin 4) (d : Fin 1536) : EReal :=
  Conf.silu (conv (cb d) (fun k => cw k d) (fun k => joined st p (k.val + l.val) d))

/-- The logarithm of the decay up to a row: the sum of the step sizes times the rate. -/
def total (d : Fin 4 → EReal) (r : EReal) (i : Nat) : EReal := ∑ l : Fin 4, if l.val ≤ i then d l * r else 0

/-- One entry of the state after the rows. -/
def after (d : Fin 4 → EReal) (r : EReal) (b x : Fin 4 → EReal) (h : EReal) : EReal :=
  Ideal.exp (total d r 3) * h + ∑ l : Fin 4, b l * (x l * d l * Ideal.exp (total d r 3 - total d r l.val))

/-- The head of a pair that a lane belongs to. -/
def head (j : Fin 8) (q : Fin 128) : Fin 16 := ⟨2 * j.val + q.val / 64, by omega⟩

/-- The state's entry of a pair of heads, from the sequence's rows and the layer's parameters. -/
def entry (st : Fin 3 → Fin 1536 → EReal) (p : Fin 4 → Fin 4608 → EReal) (cw : Fin 4 → Fin 1536 → EReal) (cb : Fin 1536 → EReal)
    (dtb alog : Fin 16 → EReal) (h : Fin 16 → Fin 64 → Fin 128 → EReal) (j : Fin 8) (n q : Fin 128) : EReal :=
  after (fun l => softplus (p l ⟨4352 + (head j q).val, by omega⟩ + dtb (head j q))) (-Ideal.exp (alog (head j q)))
    (fun l => activated st p cw cb l ⟨1024 + 128 * (j.val / 4) + n.val, by omega⟩)
    (fun l => activated st p cw cb l ⟨128 * j.val + q.val, by omega⟩) (h (head j q) ⟨q.val % 64, by omega⟩ n)

end

end Ssd
-- ==== Proof.SsdSampleSteps.lean ====
/-
  The state-space mixer of the sampled rows: what the payloads between the loaded rows and the stored states compute, the state of
  each pair of heads as the same step.
-/
module

public import proofs.«01_k».proof.Proof.Gen.KernelSsdSampleIdeal.Value
public import proofs.«01_k».proof.Proof.SsdSpec
public import Idealize.ShloMosaic.Lib.Pipeline.ValueKit
public import Idealize.ShloMosaic.Lib.Pipeline.ReadBack
public import Idealize.ShloMosaic.Lib.VecWindow

@[expose] public section

set_option maxRecDepth 16384

open Idealize.ShloMosaic Idealize.ShloMosaic.TcCoe Idealize.SL.Sem

namespace Cert.KernelSsdSampleIdeal.Gen

open Cert.KernelSsdSampleIdeal

noncomputable section

/-- The lanes' numbers, and the lanes of a pair's first head. -/
abbrev lanes : IVec S8x128 32 := iota Kind.tc S8x128 32 [1] iota_S8x128_d1_w32

abbrev first : IVec S8x128 1 := k0_pay19 lanes

theorem first_lane : ∀ q : Fin 128, IntOp.cmpi .slt (BitVec.ofNat 32 q.val) 64#32 = if q.val < 64 then 1#1 else 0#1 := by
  decide +kernel

theorem pick (q : Fin 128) (x y : EReal) :
    Scalar.select (IntOp.cmpi .slt (BitVec.ofNat 32 q.val) 64#32) x y = if q.val < 64 then x else y := by
  rw [first_lane]
  by_cases h : q.val < 64
  · rw [if_pos h, if_pos h]; rfl
  · rw [if_neg h, if_neg h]; rfl

/-- The column of a pair's lane among the heads' columns. -/
def column (j : Fin 8) (q : Fin 128) : Fin 128 := ⟨2 * j.val + q.val / 64, by omega⟩

/-- A pair's new state at an entry, from the earlier one `h`. -/
def step (xc : FVec Ideal S8x1536 .f32) (dt ac : FVec Ideal S8x128 .f32) (al : FVec Ideal S1x128 .f32) (j : Fin 8) (n q : Fin 128)
    (h : EReal) : EReal :=
  Ideal.exp (al (ix2 0 (column j q))) * h
    + ∑ l : Fin 8, xc (ix2 l ⟨1024 + 128 * (j.val / 4) + n.val, by omega⟩) * (xc (ix2 l ⟨128 * j.val + q.val, by omega⟩)
        * dt (ix2 l (column j q)) * Ideal.exp (al (ix2 0 (column j q)) - ac (ix2 l (column j q))))

/-- The step as a pair's payloads write it, with a choice between the two heads at each factor. -/
theorem step_of (xc : FVec Ideal S8x1536 .f32) (dt ac : FVec Ideal S8x128 .f32) (al : FVec Ideal S1x128 .f32) (j : Fin 8)
    (n q : Fin 128) (h : EReal) (kb kx : Fin 1536) (h0 h1 : Fin 128) (hb : kb.val = 1024 + 128 * (j.val / 4) + n.val)
    (hx : kx.val = 128 * j.val + q.val) (e0 : h0.val = 2 * j.val) (e1 : h1.val = 2 * j.val + 1) :
    Scalar.select (IntOp.cmpi .slt (BitVec.ofNat 32 q.val) 64#32) (Ideal.exp (al (ix2 0 h0))) (Ideal.exp (al (ix2 0 h1))) * h
      + ∑ l : Fin 8, xc (ix2 l kb) * (xc (ix2 l kx)
          * Scalar.select (IntOp.cmpi .slt (BitVec.ofNat 32 q.val) 64#32) (dt (ix2 l h0)) (dt (ix2 l h1))
          * Scalar.select (IntOp.cmpi .slt (BitVec.ofNat 32 q.val) 64#32) (Ideal.exp (al (ix2 0 h0) - ac (ix2 l h0)))
              (Ideal.exp (al (ix2 0 h1) - ac (ix2 l h1))))
      = step xc dt ac al j n q h := by
  rw [show kb = ⟨1024 + 128 * (j.val / 4) + n.val, by omega⟩ from Fin.ext hb,
    show kx = ⟨128 * j.val + q.val, by omega⟩ from Fin.ext hx]
  unfold step
  by_cases c : q.val < 64
  · obtain rfl : h0 = column j q := Fin.ext (e0.trans (by show 2 * j.val = 2 * j.val + q.val / 64; omega))
    simp only [pick, if_pos c]
  · obtain rfl : h1 = column j q := Fin.ext (e1.trans (by show 2 * j.val + 1 = 2 * j.val + q.val / 64; omega))
    simp only [pick, if_neg c]

variable (xc : FVec Ideal S8x1536 .f32) (sp ac : FVec Ideal S8x128 .f32) (al : FVec Ideal S1x128 .f32)
  (s : Vec Ideal S1x128x128 .f32)

/-- The step sizes. -/
abbrev sizes (sp : FVec Ideal S8x128 .f32) : FVec Ideal S8x128 .f32 := k0_pay14 sp k0_pay12 k0_pay13

/-! The new states of the eight pairs. -/

def pair0 : FVec Ideal S1x128x128 .f32 :=
  k0_pay32 (F := Ideal) (k0_pay20 xc) (k0_pay24 xc lanes sp k0_pay12 k0_pay13) (k0_pay28 s) (k0_pay30 ac al first) (k0_pay31 al first)

theorem pair0_apply (n q : Fin 128) :
    pair0 xc sp ac al s (ix3 0 n q) = step xc (sizes sp) ac al ⟨0, by omega⟩ n q (s (ix3 0 n q)) := by
  pointwise [pair0, k0_pay32, k0_pay20, k0_pay24, k0_pay23, k0_pay28, k0_pay30, k0_pay31, k0_pay19]
  exact step_of _ _ _ _ ⟨0, by omega⟩ _ _ _ _ _ _ _ rfl (by dsimp only; omega) rfl rfl

def pair1 : FVec Ideal S1x128x128 .f32 :=
  k0_pay45 (F := Ideal) (k0_pay20 xc) (k0_pay35 xc (sizes sp) first) (k0_pay39 s) (k0_pay41 ac al first) (k0_pay42 first) (k0_pay43 al) (k0_pay44 al)

theorem pair1_apply (n q : Fin 128) :
    pair1 xc sp ac al s (ix3 0 n q) = step xc (sizes sp) ac al ⟨1, by omega⟩ n q (s (ix3 0 n q)) := by
  pointwise [pair1, k0_pay45, k0_pay20, k0_pay35, k0_pay34, k0_pay39, k0_pay41, k0_pay42, k0_pay43, k0_pay44, k0_pay19]
  exact step_of _ _ _ _ ⟨1, by omega⟩ _ _ _ _ _ _ _ rfl rfl rfl rfl

def pair2 : FVec Ideal S1x128x128 .f32 :=
  k0_pay57 (F := Ideal) (k0_pay20 xc) (k0_pay48 xc (sizes sp) first) (k0_pay51 s) (k0_pay53 ac al first) (k0_pay54 first) (k0_pay55 al) (k0_pay56 al)

theorem pair2_apply (n q : Fin 128) :
    pair2 xc sp ac al s (ix3 0 n q) = step xc (sizes sp) ac al ⟨2, by omega⟩ n q (s (ix3 0 n q)) := by
  pointwise [pair2, k0_pay57, k0_pay20, k0_pay48, k0_pay47, k0_pay51, k0_pay53, k0_pay54, k0_pay55, k0_pay56, k0_pay19]
  exact step_of _ _ _ _ ⟨2, by omega⟩ _ _ _ _ _ _ _ rfl rfl rfl rfl

def pair3 : FVec Ideal S1x128x128 .f32 :=
  k0_pay69 (F := Ideal) (k0_pay20 xc) (k0_pay60 xc (sizes sp) first) (k0_pay63 s) (k0_pay65 ac al first) (k0_pay66 first) (k0_pay67 al) (k0_pay68 al)

theorem pair3_apply (n q : Fin 128) :
    pair3 xc sp ac al s (ix3 0 n q) = step xc (sizes sp) ac al ⟨3, by omega⟩ n q (s (ix3 0 n q)) := by
  pointwise [pair3, k0_pay69, k0_pay20, k0_pay60, k0_pay59, k0_pay63, k0_pay65, k0_pay66, k0_pay67, k0_pay68, k0_pay19]
  exact step_of _ _ _ _ ⟨3, by omega⟩ _ _ _ _ _ _ _ rfl rfl rfl rfl

def pair4 : FVec Ideal S1x128x128 .f32 :=
  k0_pay82 (F := Ideal) al first (k0_pay71 xc) (k0_pay75 xc (sizes sp) first) (k0_pay79 s) (k0_pay81 ac al first)

theorem pair4_apply (n q : Fin 128) :
    pair4 xc sp ac al s (ix3 0 n q) = step xc (sizes sp) ac al ⟨4, by omega⟩ n q (s (ix3 0 n q)) := by
  pointwise [pair4, k0_pay82, k0_pay71, k0_pay75, k0_pay74, k0_pay79, k0_pay81, k0_pay19]
  exact step_of _ _ _ _ ⟨4, by omega⟩ _ _ _ _ _ _ _ rfl rfl rfl rfl

def pair5 : FVec Ideal S1x128x128 .f32 :=
  k0_pay93 (F := Ideal) al first (k0_pay71 xc) (k0_pay85 xc (sizes sp) first) (k0_pay89 s) (k0_pay91 ac al) (k0_pay92 ac al)

theorem pair5_apply (n q : Fin 128) :
    pair5 xc sp ac al s (ix3 0 n q) = step xc (sizes sp) ac al ⟨5, by omega⟩ n q (s (ix3 0 n q)) := by
  pointwise [pair5, k0_pay93, k0_pay71, k0_pay85, k0_pay84, k0_pay89, k0_pay91, k0_pay92, k0_pay19]
  exact step_of _ _ _ _ ⟨5, by omega⟩ _ _ _ _ _ _ _ rfl rfl rfl rfl

def pair6 : FVec Ideal S1x128x128 .f32 :=
  k0_pay103 (F := Ideal) al first (k0_pay71 xc) (k0_pay96 xc (sizes sp) first) (k0_pay99 s) (k0_pay101 ac al) (k0_pay102 ac al)

theorem pair6_apply (n q : Fin 128) :
    pair6 xc sp ac al s (ix3 0 n q) = step xc (sizes sp) ac al ⟨6, by omega⟩ n q (s (ix3 0 n q)) := by
  pointwise [pair6, k0_pay103, k0_pay71, k0_pay96, k0_pay95, k0_pay99, k0_pay101, k0_pay102, k0_pay19]
  exact step_of _ _ _ _ ⟨6, by omega⟩ _ _ _ _ _ _ _ rfl rfl rfl rfl

def pair7 : FVec Ideal S1x128x128 .f32 :=
  k0_pay112 (F := Ideal) al first (k0_pay71 xc) (k0_pay106 xc (sizes sp) first) (k0_pay108 s) (k0_pay110 ac al) (k0_pay111 ac al)

theorem pair7_apply (n q : Fin 128) :
    pair7 xc sp ac al s (ix3 0 n q) = step xc (sizes sp) ac al ⟨7, by omega⟩ n q (s (ix3 0 n q)) := by
  pointwise [pair7, k0_pay112, k0_pay71, k0_pay106, k0_pay105, k0_pay108, k0_pay110, k0_pay111, k0_pay19]
  exact step_of _ _ _ _ ⟨7, by omega⟩ _ _ _ _ _ _ _ rfl rfl rfl rfl

theorem size_mask : ∀ (l : Fin 8) (h : Fin 16), IntOp.andi (IntOp.cmpi .slt (BitVec.ofNat 32 h.val) 16#32)
    (IntOp.cmpi .slt (BitVec.ofNat 32 l.val) 4#32) = if l.val < 4 then 1#1 else 0#1 := by decide +kernel

/-- A step size: of a new row the softplus, of a row of padding zero. -/
theorem size_apply (v : Vec Ideal S1x4x128 .f32) (b : Vec Ideal S1x128 .f32) (l : Fin 8) (h : Fin 128) (hh : h.val < 16) :
    sizes (k0_pay11 v b) (ix2 l h)
      = if hl : l.val < 4 then Ssd.softplus (v (ix3 0 ⟨l.val, hl⟩ h) + b (ix2 0 h)) else 0 := by
  pointwise [k0_pay14, k0_pay11, k0_pay12, k0_pay13]
  rw [size_mask l ⟨h.val, hh⟩]
  by_cases hl : l.val < 4
  · rw [if_pos hl, dif_pos hl, dif_pos hl]
    refine (show Scalar.select 1#1 _ _ = _ from rfl).trans ((if_neg (not_not.2 rfl)).trans ?_)
    unfold Ssd.softplus
    rw [zero_sub]
  · rw [if_neg hl, dif_neg hl, dif_neg hl]
    rfl

theorem tri_mask : ∀ l k : Fin 8, BitVec.setWidth 32 (IntOp.cmpi .sge (BitVec.ofNat 32 l.val) (BitVec.ofNat 32 k.val))
    = if k.val ≤ l.val then 1#32 else 0#32 := by decide +kernel

theorem tri_apply (l k : Fin 8) : FloatOps.sitofp (F := Ideal) FTy.f32
      (BitVec.setWidth 32 (IntOp.cmpi .sge (BitVec.ofNat 32 l.val) (BitVec.ofNat 32 k.val)))
    = if k.val ≤ l.val then 1 else 0 := by
  rw [tri_mask]
  show (((if k.val ≤ l.val then 1#32 else 0#32 : BitVec 32).toInt : ℝ) : EReal) = _
  by_cases h : k.val ≤ l.val
  · rw [if_pos h, if_pos h]; norm_num
  · rw [if_neg h, if_neg h]; norm_num

/-- The decay's logarithm up to a row. -/
theorem decay_apply (a : Vec Ideal S1x128 .f32) (l : Fin 8) (h : Fin 128) :
    k0_pay16 sp k0_pay12 k0_pay13 a (ix2 l h)
      = ∑ k : Fin 8, if k.val ≤ l.val then sizes sp (ix2 k h) * -Ideal.exp (a (ix2 0 h)) else 0 := by
  pointwise [k0_pay16, k0_pay15]
  refine Finset.sum_congr (M := EReal) rfl fun k _ => ?_
  rw [tri_apply, zero_sub]
  by_cases c : k.val ≤ l.val
  · rw [if_pos c, if_pos c, one_mul]
  · rw [if_neg c, if_neg c, zero_mul]

theorem last_apply (a : Vec Ideal S1x128 .f32) (h : Fin 128) :
    k0_pay18 sp k0_pay12 k0_pay13 a (ix2 0 h) = k0_pay16 sp k0_pay12 k0_pay13 a (ix2 7 h) := by
  pointwise [k0_pay18]

/-- The convolved and activated rows. -/
theorem conv_apply (b w0 w1 w2 w3 : Vec Ideal S1x1536 .f32) (x0 x1 x2 x3 : Vec Ideal S8x1536 .f32) (l : Fin 8) (d : Fin 1536) :
    k0_pay10 (k0_pay8 b w0 x0 w1 x1) x2 (k0_pay9 w2) w3 x3 (ix2 l d)
      = Conf.silu (Ssd.conv (b (ix2 0 d)) ![w0 (ix2 0 d), w1 (ix2 0 d), w2 (ix2 0 d), w3 (ix2 0 d)]
          ![x0 (ix2 l d), x1 (ix2 l d), x2 (ix2 l d), x3 (ix2 l d)]) := by
  pointwise [k0_pay10, k0_pay8, k0_pay9]
  rw [zero_sub]
  unfold Conf.silu Ssd.conv
  simp only [add_assoc]
  rfl

/-- The rows of padding add nothing: the step is the spec's over the four new rows. -/
theorem step_eq (xc : FVec Ideal S8x1536 .f32) (dt ac : FVec Ideal S8x128 .f32) (al : FVec Ideal S1x128 .f32) (j : Fin 8)
    (n q : Fin 128) (h r : EReal) (d : Fin 4 → EReal) (hd : ∀ l : Fin 8, dt (ix2 l (column j q)) = if hl : l.val < 4 then d ⟨l.val, hl⟩ else 0)
    (ha : ∀ l : Fin 8, ac (ix2 l (column j q)) = ∑ k : Fin 8, if k.val ≤ l.val then dt (ix2 k (column j q)) * r else 0)
    (hl : al (ix2 0 (column j q)) = ac (ix2 7 (column j q))) :
    step xc dt ac al j n q h
      = Ssd.after d r (fun l => xc (ix2 ⟨l.val, by omega⟩ ⟨1024 + 128 * (j.val / 4) + n.val, by omega⟩))
          (fun l => xc (ix2 ⟨l.val, by omega⟩ ⟨128 * j.val + q.val, by omega⟩)) h := by
  have ht : ∀ (l : Fin 8) (i : Nat), (l.val = i ∨ (l.val = 7 ∧ i = 3)) → ac (ix2 l (column j q)) = Ssd.total d r i := fun l i c => by
    rw [ha, Fin.sum_univ_eight]
    unfold Ssd.total
    rw [Fin.sum_univ_four]
    rcases c with rfl | ⟨c, rfl⟩
    · simp [hd]
    · simp [hd, c]
  unfold step Ssd.after
  rw [hl, ht 7 3 (Or.inr ⟨rfl, rfl⟩), Fin.sum_univ_eight, Fin.sum_univ_four]
  simp only [hd, ht 0 0 (Or.inl rfl), ht 1 1 (Or.inl rfl), ht 2 2 (Or.inl rfl), ht 3 3 (Or.inl rfl)]
  simp

end

end Cert.KernelSsdSampleIdeal.Gen
-- ==== Proof.SsdSampleArrays.lean ====
/-
  The state-space mixer of the sampled rows: the blocks of a sequence's point, read at an index of the launch's arguments. The host
  groups the rows by sequence, gives each pair of heads' states side by side, and puts the heads' parameters before zero lanes.
-/
module

public import proofs.«01_k».proof.Proof.SsdSampleSteps
public import Idealize.ShloMosaic.Lib.Routing.OpsSet

@[expose] public section

set_option maxRecDepth 16384

open Idealize.ShloMosaic Idealize.ShloMosaic.TcCoe Idealize.SL.Sem
open Idealize.ShloMosaic.Pipeline (Dat)

namespace Cert.KernelSsdSampleIdeal.Gen

open Cert.KernelSsdSampleIdeal

noncomputable section

/-- Scattering sixteen entries at the row's start: each lands at its own place. -/
theorem scatter_lanes {α : Type} (x0 : S1x128.Idx → α) (i : IVec S2 32) (hi : ∀ j, i j = 0#32) (u : S16.Idx → α) (e : Fin 16) :
    Host.scatter scatter_S1x128_S2_S16_0_0_01_0 (fun _ b => b) x0 i u (ix2 0 (e.castLE (by decide))) = u (ix1 e) := by
  have hstart : ∀ (k : S16.Idx) (a : Fin 2), scatter_S1x128_S2_S16_0_0_01_0.start k i a = 0 := by
    intro k a
    unfold ScatterDims.start
    split
    · rw [hi]; rfl
    · rfl
  have hw0 : ∀ k : S16.Idx, scatter_S1x128_S2_S16_0_0_01_0.window k (0 : Fin 2) = 0 := fun k => rfl
  have hw1 : ∀ k : S16.Idx, scatter_S1x128_S2_S16_0_0_01_0.window k (1 : Fin 2) = (k 0).val := fun k => rfl
  have land : ∀ k : S16.Idx, scatter_S1x128_S2_S16_0_0_01_0.resultIdx? k i = some (ix2 0 (e.castLE (by decide))) ↔ k = ix1 e := by
    intro k
    rw [Routing.resultIdx?_eq_some]
    constructor
    · intro h
      have h1 := h (1 : Fin 2)
      rw [hstart, hw1] at h1
      funext a
      refine Fin.cases ?_ (fun a => a.elim0) a
      apply Fin.ext
      have : ((k 0).val : Int) = (e.val : Int) := by simpa using h1
      exact_mod_cast this
    · rintro rfl a
      rw [hstart]
      refine Fin.cases ?_ (fun a => Fin.cases ?_ (fun a => a.elim0) a) a
      · rfl
      · exact (zero_add _)
  exact Routing.scatter_set_hit _ x0 i u _ _ (fun k hk => by rw [(land k).mp hk]) (ix1 e) ((land _).mpr rfl)

/-- The two index words are zero. -/
theorem zeros_apply (j : S2.Idx) : concatenate S2 0 [⟨S1, broadcastInDim S1 ![] bcast_S_S1 (constantI S_ 32 0#32)⟩,
    ⟨S1, broadcastInDim S1 ![] bcast_S_S1 (constantI S_ 32 0#32)⟩] concatenates_S1_S1_S2_d0 j = 0#32 := by
  obtain ⟨k, rfl⟩ : ∃ k : Fin 2, j = ix1 k := ⟨j 0, eq_ix1 j⟩
  fin_cases k <;> rfl

variable (m : (ℓ : Loc nD τ sig) → (ℓ : Loc nD τ sig).ty.Contents (Elt Ideal)) (c : Dev nD)

/-- The windows' block indices at a grid point. -/
theorem idx : ∀ t : Fin cfg0.N, win0_1.index t = ![t.val, 0, 1] ∧ win0_2.index t = ![t.val, 0, 4] ∧ win0_3.index t = ![t.val, 0, 34]
    ∧ win0_4.index t = ![t.val, 0, 0, 0] ∧ win0_5.index t = ![t.val, 0, 0, 0] ∧ win0_6.index t = ![0, 0] ∧ win0_7.index t = ![0, 0]
    ∧ win0_8.index t = ![0, 0] ∧ win0_9.index t = ![0, 0] ∧ win0_13.index t = ![t.val, 0, 0, 0] :=
  (by decide +kernel : ∀ t : Fin grid0.N, _)

/-- The sequence of a point. -/
def seq (t : Fin cfg0.N) : Fin 128 := ⟨t.val, lt_of_lt_of_eq t.isLt N_0⟩

/-- A sequence's new row. -/
def rowOf (s : Fin 128) (i : Fin 4) : Fin 512 := ⟨4 * s.val + i.val, by omega⟩

theorem x_apply (t : Fin cfg0.N) (i : Fin 4) (d : Fin 1024) : X0_1 m c t (ix3 0 i d)
    = m ((c : Thread nD τ).loc main_arg0) (ix2 (rowOf (seq t) i) ⟨1024 + d.val, by omega⟩) := by
  unfold rowOf seq X0_1 Pipeline.Window.fill
  rw [dif_pos (moved0_1 t _)]
  blk_simp [iblk, idx t]
  entry_read
  pointwise
  blk_ext [idx t]

theorem bc_apply (t : Fin cfg0.N) (i : Fin 4) (d : Fin 512) : iblk m c 2 t (ix3 0 i d)
    = m ((c : Thread nD τ).loc main_arg0) (ix2 (rowOf (seq t) i) ⟨2048 + d.val, by omega⟩) := by
  unfold rowOf seq
  blk_simp [iblk, idx t]
  entry_read
  pointwise
  blk_ext [idx t]

theorem dt_apply (t : Fin cfg0.N) (i : Fin 4) (d : Fin 128) : iblk m c 3 t (ix3 0 i d)
    = m ((c : Thread nD τ).loc main_arg0) (ix2 (rowOf (seq t) i) ⟨4352 + d.val, by omega⟩) := by
  unfold rowOf seq
  blk_simp [iblk, idx t]
  entry_read
  pointwise
  blk_ext [idx t]

theorem st_apply (t : Fin cfg0.N) (i : Fin 3) (d : Fin 1536) :
    iblk m c 4 t (ix4 0 0 i d) = m ((c : Thread nD τ).loc main_arg1) (ix4 (seq t) 0 i d) := by
  unfold seq
  blk_ext [iblk, V, idx t]

theorem h_apply (t : Fin cfg0.N) (j : Fin 8) (n q : Fin 128) : iblk m c 5 t (ix4 0 j n q)
    = m ((c : Thread nD τ).loc main_arg2) (ix5 (seq t) 0 (Ssd.head j q) ⟨q.val % 64, by omega⟩ n) := by
  unfold seq Ssd.head
  blk_simp [iblk, idx t]
  entry_read
  pointwise
  blk_ext [idx t]

theorem cw_apply (t : Fin cfg0.N) (k : Fin 4) (d : Fin 1536) :
    iblk m c 6 t (ix2 k d) = m ((c : Thread nD τ).loc main_arg3) (ix2 k d) := by
  blk_ext [iblk, V, idx t]

theorem cb_apply (t : Fin cfg0.N) (d : Fin 1536) : iblk m c 7 t (ix2 0 d) = m ((c : Thread nD τ).loc main_arg4) (ix1 d) := by
  blk_simp [iblk, idx t]
  entry_read
  pointwise
  blk_ext [idx t]

theorem dtb_apply (t : Fin cfg0.N) (e : Fin 16) :
    iblk m c 8 t (ix2 0 (e.castLE (by decide))) = m ((c : Thread nD τ).loc main_arg5) (ix1 e) := by
  blk_simp [iblk, idx t]
  entry_read
  refine (congrArg (Host.scatter scatter_S1x128_S2_S16_0_0_01_0 (fun _ b => b) _ _ _) ?_).trans
    (scatter_lanes _ _ (fun j => ?_) _ e)
  · blk_ext [idx t]
  · exact zeros_apply j

theorem alog_apply (t : Fin cfg0.N) (e : Fin 16) :
    iblk m c 9 t (ix2 0 (e.castLE (by decide))) = m ((c : Thread nD τ).loc main_arg6) (ix1 e) := by
  blk_simp [iblk, idx t]
  entry_read
  refine (congrArg (Host.scatter scatter_S1x128_S2_S16_0_0_01_0 (fun _ b => b) _ _ _) ?_).trans
    (scatter_lanes _ _ (fun j => ?_) _ e)
  · blk_ext [idx t]
  · exact zeros_apply j

theorem emb_apply (t : Fin cfg0.N) (j : Fin 8) (n q : Fin 128) : (win0_13.blk t).view.emb (ix4 0 j n q) = ix4 (seq t) j n q := by
  unfold seq
  blk_ext [idx t]

end

end Cert.KernelSsdSampleIdeal.Gen
-- ==== Proof.SsdSampleValue.lean ====
/-
  The state-space mixer of the sampled rows: a sequence's point puts the three kept rows and the four new rows into the buffer,
  convolves them, and carries each pair of heads' state over the rows.
-/
module

public import proofs.«01_k».proof.Proof.SsdSampleArrays

@[expose] public section

set_option maxRecDepth 16384

open Idealize.ShloMosaic Idealize.ShloMosaic.TcCoe Idealize.SL.Sem
open Idealize.ShloMosaic.Pipeline (Dat)

namespace Cert.KernelSsdSampleIdeal.Gen

open Cert.KernelSsdSampleIdeal

noncomputable section

/-! The buffer of the rows, with the kept rows, the heads' inputs and the other columns put in. -/

def kept (z : Vec Ideal S16x1536 .f32) (p : FVec Ideal S3x1536 .f32) : Vec Ideal S16x1536 .f32 :=
  VecWindow.put z ![5, 0] ![3, 1536] p

def inputs (z : Vec Ideal S16x1536 .f32) (p : FVec Ideal S4x1024 .f32) : Vec Ideal S16x1536 .f32 :=
  VecWindow.put z ![8, 0] ![4, 1024] p

def others (z : Vec Ideal S16x1536 .f32) (p : FVec Ideal S4x512 .f32) : Vec Ideal S16x1536 .f32 :=
  VecWindow.put z ![8, 1024] ![4, 512] p

theorem kept_apply (z : Vec Ideal S16x1536 .f32) (p : FVec Ideal S3x1536 .f32) (r : Fin 16) (i : Fin 3) (d : Fin 1536)
    (h : r.val = 5 + i.val) : kept z p (ix2 r d) = p (ix2 i d) :=
  (dif_pos (Fin.forall_fin_two.2 ⟨⟨by show 5 ≤ r.val; omega, by show r.val < 5 + 3; omega⟩,
    ⟨Nat.zero_le _, by show d.val < 0 + 1536; omega⟩⟩)).trans
    (congrArg p (funext (Fin.forall_fin_two.2 ⟨Fin.ext (by show r.val - 5 = i.val; omega), Fin.ext (Nat.sub_zero _)⟩)))

theorem inputs_apply (z : Vec Ideal S16x1536 .f32) (p : FVec Ideal S4x1024 .f32) (r : Fin 16) (i : Fin 4) (d : Fin 1536)
    (k : Fin 1024) (h : r.val = 8 + i.val) (e : d.val = k.val) : inputs z p (ix2 r d) = p (ix2 i k) :=
  (dif_pos (Fin.forall_fin_two.2 ⟨⟨by show 8 ≤ r.val; omega, by show r.val < 8 + 4; omega⟩,
    ⟨Nat.zero_le _, by show d.val < 0 + 1024; omega⟩⟩)).trans
    (congrArg p (funext (Fin.forall_fin_two.2 ⟨Fin.ext (by show r.val - 8 = i.val; omega), Fin.ext (by show d.val - 0 = k.val; omega)⟩)))

theorem inputs_old (z : Vec Ideal S16x1536 .f32) (p : FVec Ideal S4x1024 .f32) (r : Fin 16) (d : Fin 1536) (h : r.val < 8) :
    inputs z p (ix2 r d) = z (ix2 r d) :=
  dif_neg fun hh => by have h1 : 8 ≤ r.val := (hh 0).1; omega

theorem others_apply (z : Vec Ideal S16x1536 .f32) (p : FVec Ideal S4x512 .f32) (r : Fin 16) (i : Fin 4) (d : Fin 1536)
    (k : Fin 512) (h : r.val = 8 + i.val) (e : d.val = 1024 + k.val) : others z p (ix2 r d) = p (ix2 i k) :=
  (dif_pos (Fin.forall_fin_two.2 ⟨⟨by show 8 ≤ r.val; omega, by show r.val < 8 + 4; omega⟩,
    ⟨by show 1024 ≤ d.val; omega, by show d.val < 1024 + 512; omega⟩⟩)).trans
    (congrArg p (funext (Fin.forall_fin_two.2 ⟨Fin.ext (by show r.val - 8 = i.val; omega), Fin.ext (by show d.val - 1024 = k.val; omega)⟩)))

theorem others_old (z : Vec Ideal S16x1536 .f32) (p : FVec Ideal S4x512 .f32) (r : Fin 16) (d : Fin 1536)
    (h : r.val < 8 ∨ d.val < 1024) : others z p (ix2 r d) = z (ix2 r d) :=
  dif_neg fun hh => by
    have h1 : 8 ≤ r.val := (hh 0).1
    have h2 : 1024 ≤ d.val := (hh 1).1
    omega

theorem read_kept {κ : Kind} {sp : Space} (v : View sig κ sp S16x1536 .f32) (f : v.ty.Contents (Elt Ideal))
    (p : FVec Ideal S3x1536 .f32) (inb) (L : List (View.Piece (Elt Ideal) S16x1536 .f32)) :
    v.read (Elt Ideal) (v.writes (Elt Ideal) f (⟨Rect.unit ![5, 0] ![3, 1536] inb, p⟩ :: L))
      = kept (v.read (Elt Ideal) (v.writes (Elt Ideal) f L)) p :=
  View.read_writes_cons_put v f inb p L rfl

theorem read_inputs {κ : Kind} {sp : Space} (v : View sig κ sp S16x1536 .f32) (f : v.ty.Contents (Elt Ideal))
    (p : FVec Ideal S4x1024 .f32) (inb) (L : List (View.Piece (Elt Ideal) S16x1536 .f32)) :
    v.read (Elt Ideal) (v.writes (Elt Ideal) f (⟨Rect.unit ![8, 0] ![4, 1024] inb, p⟩ :: L))
      = inputs (v.read (Elt Ideal) (v.writes (Elt Ideal) f L)) p :=
  View.read_writes_cons_put v f inb p L rfl

theorem read_others {κ : Kind} {sp : Space} (v : View sig κ sp S16x1536 .f32) (f : v.ty.Contents (Elt Ideal))
    (p : FVec Ideal S4x512 .f32) (inb) (L : List (View.Piece (Elt Ideal) S16x1536 .f32)) :
    v.read (Elt Ideal) (v.writes (Elt Ideal) f (⟨Rect.unit ![8, 1024] ![4, 512] inb, p⟩ :: L))
      = others (v.read (Elt Ideal) (v.writes (Elt Ideal) f L)) p :=
  View.read_writes_cons_put v f inb p L rfl

theorem read_all {κ : Kind} {sp : Space} (v : View sig κ sp S16x1536 .f32) (f : v.ty.Contents (Elt Ideal))
    (z : Vec Ideal S16x1536 .f32) (inb) (L : List (View.Piece (Elt Ideal) S16x1536 .f32)) :
    v.read (Elt Ideal) (v.writes (Elt Ideal) f (⟨Rect.unit ![0, 0] ![16, 1536] inb, z⟩ :: L)) = z :=
  View.read_writes_full v f inb z L

/-! The states, with those of a pair put in. -/

def putPair (z : Vec Ideal S8x128x128 .f32) (j : Nat) (p : FVec Ideal S1x128x128 .f32) : Vec Ideal S8x128x128 .f32 :=
  VecWindow.put z ![j, 0, 0] ![1, 128, 128] p

theorem putPair_same (z : Vec Ideal S8x128x128 .f32) (j : Fin 8) (p : FVec Ideal S1x128x128 .f32) (n q : Fin 128) :
    putPair z j.val p (ix3 j n q) = p (ix3 0 n q) :=
  (dif_pos fun a => by
    refine Fin.cases ?_ (fun a => Fin.cases ?_ (fun a => Fin.cases ?_ (fun a => a.elim0) a) a) a
    · exact ⟨le_refl _, Nat.lt_succ_self _⟩
    · exact ⟨Nat.zero_le _, by show n.val < 0 + 128; omega⟩
    · exact ⟨Nat.zero_le _, by show q.val < 0 + 128; omega⟩).trans
    (congrArg p (funext fun a => by
      refine Fin.cases ?_ (fun a => Fin.cases ?_ (fun a => Fin.cases ?_ (fun a => a.elim0) a) a) a
      · exact Fin.ext (Nat.sub_self j.val)
      · exact Fin.ext (Nat.sub_zero n.val)
      · exact Fin.ext (Nat.sub_zero q.val)))

theorem putPair_ne (z : Vec Ideal S8x128x128 .f32) (j : Nat) (k : Fin 8) (p : FVec Ideal S1x128x128 .f32) (n q : Fin 128)
    (h : k.val ≠ j) : putPair z j p (ix3 k n q) = z (ix3 k n q) :=
  dif_neg fun hh => h (by
    have h1 : j ≤ k.val := (hh 0).1
    have h2 : k.val < j + 1 := (hh 0).2
    omega)

theorem read_pair {κ : Kind} {sp : Space} (v : View sig κ sp S8x128x128 .f32) (f : v.ty.Contents (Elt Ideal)) (j : Nat)
    (p : FVec Ideal S1x128x128 .f32) (inb) (L : List (View.Piece (Elt Ideal) S8x128x128 .f32)) :
    v.read (Elt Ideal) (v.writes (Elt Ideal) f (⟨Rect.unit ![j, 0, 0] ![1, 128, 128] inb, p⟩ :: L))
      = putPair (v.read (Elt Ideal) (v.writes (Elt Ideal) f L)) j p :=
  View.read_writes_cons_put v f inb p L rfl

theorem read_states {κ : Kind} {sp : Space} (v : View sig κ sp S8x128x128 .f32) (f : v.ty.Contents (Elt Ideal))
    (z : Vec Ideal S8x128x128 .f32) (inb) (L : List (View.Piece (Elt Ideal) S8x128x128 .f32)) :
    v.read (Elt Ideal) (v.writes (Elt Ideal) f (⟨Rect.unit ![0, 0, 0] ![8, 128, 128] inb, z⟩ :: L)) = z :=
  View.read_writes_full v f inb z L

/-- A load after the stores reads what the buffer holds then. -/
theorem readCov_ld {κ : Kind} {sp : Space} {s : Shape} (v : View sig κ sp s .f32) (L : List (View.Piece (Elt Ideal) s .f32))
    (r : Rect s) :
    v.readCov (Val := Elt Ideal) L r.toLoadRect = View.ld (v.read (Elt Ideal) (v.writes (Elt Ideal) v.junk L)) r := rfl

/-- A pair's load does not see another pair's store. -/
theorem ld_putPair (z : Vec Ideal S8x128x128 .f32) (j k : Nat) (p : FVec Ideal S1x128x128 .f32) (inb) (h : k ≠ j) :
    View.ld (putPair z j p) (Rect.unit ![k, 0, 0] ![1, 128, 128] inb) = View.ld z (Rect.unit ![k, 0, 0] ![1, 128, 128] inb) :=
  funext fun i => dif_neg fun hh => h (by
    have h1 : j ≤ k + 1 * (i 0).val := (hh 0).1
    have h2 : k + 1 * (i 0).val < j + 1 := (hh 0).2
    have h3 : (i 0).val < 1 := (i 0).isLt
    omega)

/-- The load of all the states. -/
theorem ld_states (z : Vec Ideal S8x128x128 .f32) (inb) : View.ld z (Rect.unit ![0, 0, 0] ![8, 128, 128] inb) = z :=
  funext fun i => View.ld_unit_apply_of _ _ _ _ _ _ fun a => by
    refine Fin.cases ?_ (fun a => Fin.cases ?_ (fun a => Fin.cases ?_ (fun a => a.elim0) a) a) a
    · exact (Nat.zero_add _).symm
    · exact (Nat.zero_add _).symm
    · exact (Nat.zero_add _).symm

/-- A pair's states as its load gives them. -/
def own (h : Vec Ideal S8x128x128 .f32) (k : Nat) (inb : ∀ a, (![k, 0, 0] : Fin 3 → Nat) a + (![1, 128, 128] : Fin 3 → Nat) a ≤ S8x128x128.size a) :
    Vec Ideal S1x128x128 .f32 := View.ld h (Rect.unit ![k, 0, 0] ![1, 128, 128] inb)

theorem own_apply (h : Vec Ideal S8x128x128 .f32) (k : Fin 8) (inb) (n q : Fin 128) :
    own h k.val inb (ix3 0 n q) = h (ix3 k n q) :=
  View.ld_unit_apply_of _ _ _ _ _ _ fun a => by
    refine Fin.cases ?_ (fun a => Fin.cases ?_ (fun a => Fin.cases ?_ (fun a => a.elim0) a) a) a
    · rfl
    · exact (Nat.zero_add n.val).symm
    · exact (Nat.zero_add q.val).symm

/-- All the states after the pairs' steps. -/
def stepped (xc : FVec Ideal S8x1536 .f32) (sp ac : FVec Ideal S8x128 .f32) (al : FVec Ideal S1x128 .f32)
    (h : Vec Ideal S8x128x128 .f32) : Vec Ideal S8x128x128 .f32 :=
  putPair (putPair (putPair (putPair (putPair (putPair (putPair (putPair h
    0 (pair0 xc sp ac al (own h 0 inb_S8x128x128_S1x128x128_0_0_0)))
    1 (pair1 xc sp ac al (own h 1 inb_S8x128x128_S1x128x128_1_0_0)))
    2 (pair2 xc sp ac al (own h 2 inb_S8x128x128_S1x128x128_2_0_0)))
    3 (pair3 xc sp ac al (own h 3 inb_S8x128x128_S1x128x128_3_0_0)))
    4 (pair4 xc sp ac al (own h 4 inb_S8x128x128_S1x128x128_4_0_0)))
    5 (pair5 xc sp ac al (own h 5 inb_S8x128x128_S1x128x128_5_0_0)))
    6 (pair6 xc sp ac al (own h 6 inb_S8x128x128_S1x128x128_6_0_0)))
    7 (pair7 xc sp ac al (own h 7 inb_S8x128x128_S1x128x128_7_0_0))

theorem stepped_apply (xc : FVec Ideal S8x1536 .f32) (sp ac : FVec Ideal S8x128 .f32) (al : FVec Ideal S1x128 .f32)
    (h : Vec Ideal S8x128x128 .f32) (j : Fin 8) (n q : Fin 128) :
    stepped xc sp ac al h (ix3 j n q) = step xc (sizes sp) ac al j n q (h (ix3 j n q)) := by
  have same : ∀ (z : Vec Ideal S8x128x128 .f32) (k : Fin 8) (p : FVec Ideal S1x128x128 .f32) (inb)
      (_ : p (ix3 0 n q) = step xc (sizes sp) ac al k n q (own h k.val inb (ix3 0 n q))),
      putPair z k.val p (ix3 k n q) = step xc (sizes sp) ac al k n q (h (ix3 k n q)) := fun z k p inb e =>
    (putPair_same z k p n q).trans (e.trans (congrArg _ (own_apply h k inb n q)))
  unfold stepped
  match j with
  | ⟨7, _⟩ => exact same _ ⟨7, _⟩ _ _ (pair7_apply xc sp ac al _ n q)
  | ⟨6, _⟩ =>
    rw [putPair_ne _ 7 _ _ _ _ (by simp)]
    exact same _ ⟨6, _⟩ _ _ (pair6_apply xc sp ac al _ n q)
  | ⟨5, _⟩ =>
    rw [putPair_ne _ 7 _ _ _ _ (by simp), putPair_ne _ 6 _ _ _ _ (by simp)]
    exact same _ ⟨5, _⟩ _ _ (pair5_apply xc sp ac al _ n q)
  | ⟨4, _⟩ =>
    rw [putPair_ne _ 7 _ _ _ _ (by simp), putPair_ne _ 6 _ _ _ _ (by simp), putPair_ne _ 5 _ _ _ _ (by simp)]
    exact same _ ⟨4, _⟩ _ _ (pair4_apply xc sp ac al _ n q)
  | ⟨3, _⟩ =>
    rw [putPair_ne _ 7 _ _ _ _ (by simp), putPair_ne _ 6 _ _ _ _ (by simp), putPair_ne _ 5 _ _ _ _ (by simp),
      putPair_ne _ 4 _ _ _ _ (by simp)]
    exact same _ ⟨3, _⟩ _ _ (pair3_apply xc sp ac al _ n q)
  | ⟨2, _⟩ =>
    rw [putPair_ne _ 7 _ _ _ _ (by simp), putPair_ne _ 6 _ _ _ _ (by simp), putPair_ne _ 5 _ _ _ _ (by simp),
      putPair_ne _ 4 _ _ _ _ (by simp), putPair_ne _ 3 _ _ _ _ (by simp)]
    exact same _ ⟨2, _⟩ _ _ (pair2_apply xc sp ac al _ n q)
  | ⟨1, _⟩ =>
    rw [putPair_ne _ 7 _ _ _ _ (by simp), putPair_ne _ 6 _ _ _ _ (by simp), putPair_ne _ 5 _ _ _ _ (by simp),
      putPair_ne _ 4 _ _ _ _ (by simp), putPair_ne _ 3 _ _ _ _ (by simp), putPair_ne _ 2 _ _ _ _ (by simp)]
    exact same _ ⟨1, _⟩ _ _ (pair1_apply xc sp ac al _ n q)
  | ⟨0, _⟩ =>
    rw [putPair_ne _ 7 _ _ _ _ (by simp), putPair_ne _ 6 _ _ _ _ (by simp), putPair_ne _ 5 _ _ _ _ (by simp),
      putPair_ne _ 4 _ _ _ _ (by simp), putPair_ne _ 3 _ _ _ _ (by simp), putPair_ne _ 2 _ _ _ _ (by simp),
      putPair_ne _ 1 _ _ _ _ (by simp)]
    exact same _ ⟨0, _⟩ _ _ (pair0_apply xc sp ac al _ n q)

variable (m : (ℓ : Loc nD τ sig) → (ℓ : Loc nD τ sig).ty.Contents (Elt Ideal)) (c : Dev nD)

/-- What the buffer holds when the point convolves. -/
def held (t : Fin cfg0.N) : Vec Ideal S16x1536 .f32 :=
  others (inputs (kept (k0_pay3 (F := Ideal)) (k0_pay4 (iblk m c 4 t))) (k0_pay6 (X0_1 m c t))) (k0_pay7 (iblk m c 2 t))

/-- The point's convolved rows, and what the step sizes are chosen from. -/
def rows (t : Fin cfg0.N) : FVec Ideal S8x1536 .f32 :=
  k0_pay10 (k0_pay8 (iblk m c 7 t) (View.ld (iblk m c 6 t) (Rect.unit ![0, 0] ![1, 1536] inb_S4x1536_S1x1536_0_0))
      (View.ld (held m c t) (Rect.unit ![5, 0] ![8, 1536] inb_S16x1536_S8x1536_5_0))
      (View.ld (iblk m c 6 t) (Rect.unit ![1, 0] ![1, 1536] inb_S4x1536_S1x1536_1_0))
      (View.ld (held m c t) (Rect.unit ![6, 0] ![8, 1536] inb_S16x1536_S8x1536_6_0)))
    (View.ld (held m c t) (Rect.unit ![7, 0] ![8, 1536] inb_S16x1536_S8x1536_7_0))
    (k0_pay9 (View.ld (iblk m c 6 t) (Rect.unit ![2, 0] ![1, 1536] inb_S4x1536_S1x1536_2_0)))
    (View.ld (iblk m c 6 t) (Rect.unit ![3, 0] ![1, 1536] inb_S4x1536_S1x1536_3_0))
    (View.ld (held m c t) (Rect.unit ![8, 0] ![8, 1536] inb_S16x1536_S8x1536_8_0))

def softs (t : Fin cfg0.N) : FVec Ideal S8x128 .f32 := k0_pay11 (iblk m c 3 t) (iblk m c 8 t)

theorem last_eq (t : Fin cfg0.N) : (outsAt0 m c t).2
    = k0_pay2 (F := Ideal) (stepped (rows m c t) (softs m c t) (k0_pay16 (softs m c t) k0_pay12 k0_pay13 (iblk m c 9 t))
        (k0_pay18 (softs m c t) k0_pay12 k0_pay13 (iblk m c 9 t)) (k0_pay5 (iblk m c 5 t))) := by
  frame_out
  simp (disch := decide) only [readCov_ld, read_pair, read_states, ld_putPair, read_others, read_inputs, read_kept, read_all, ld_states]
  unfold stepped pair0 pair1 pair2 pair3 pair4 pair5 pair6 pair7 own rows softs held
  rfl

/-- A sequence's new rows and the three kept before them, and the earlier states. -/
def new (s : Fin 128) (l : Fin 4) (d : Fin 4608) : EReal :=
  (show FVec Ideal S512x4608 .f32 from m ((c : Thread nD τ).loc main_arg0)) (ix2 (rowOf s l) d)

def old (s : Fin 128) (i : Fin 3) (d : Fin 1536) : EReal :=
  (show FVec Ideal S128x1x3x1536 .f32 from m ((c : Thread nD τ).loc main_arg1)) (ix4 s 0 i d)

/-- The state's entry of a sequence. -/
def state (s : Fin 128) (j : Fin 8) (n q : Fin 128) : EReal :=
  Ssd.entry (old m c s) (new m c s) (fun k d => (show FVec Ideal S4x1536 .f32 from m ((c : Thread nD τ).loc main_arg3)) (ix2 k d))
    (fun d => (show FVec Ideal S1536 .f32 from m ((c : Thread nD τ).loc main_arg4)) (ix1 d))
    (fun e => (show FVec Ideal S16 .f32 from m ((c : Thread nD τ).loc main_arg5)) (ix1 e))
    (fun e => (show FVec Ideal S16 .f32 from m ((c : Thread nD τ).loc main_arg6)) (ix1 e))
    (fun e p k => (show FVec Ideal S128x1x16x64x128 .f32 from m ((c : Thread nD τ).loc main_arg2)) (ix5 s 0 e p k)) j n q

/-- The buffer at a point holds the sequence's rows. -/
theorem held_apply (t : Fin cfg0.N) (r : Fin 16) (d : Fin 1536) (q : Nat) (hq : r.val = 5 + q) (h : q < 7) :
    held m c t (ix2 r d) = Ssd.joined (old m c (seq t)) (new m c (seq t)) q d := by
  unfold held Ssd.joined
  by_cases h0 : q < 3
  · have e : ∀ v : Vec Ideal S1x1x3x1536 .f32, k0_pay4 v (ix2 ⟨q, h0⟩ d) = v (ix4 0 0 ⟨q, h0⟩ d) := fun v => by pointwise [k0_pay4]
    rw [dif_pos h0, others_old _ _ r d (Or.inl (by omega)), inputs_old _ _ r d (by omega), kept_apply _ _ r ⟨q, h0⟩ d hq]
    exact (e _).trans (st_apply m c t ⟨q, h0⟩ d)
  · rw [dif_neg h0, dif_pos (show q - 3 < 4 by omega)]
    by_cases hd : d.val < 1024
    · have e : ∀ v : Vec Ideal S1x4x1024 .f32, k0_pay6 v (ix2 ⟨q - 3, by omega⟩ ⟨d.val, hd⟩) = v (ix3 0 ⟨q - 3, by omega⟩ ⟨d.val, hd⟩) :=
        fun v => by pointwise [k0_pay6]
      rw [others_old _ _ r d (Or.inr hd), inputs_apply _ _ r ⟨q - 3, by omega⟩ d ⟨d.val, hd⟩ (by show r.val = 8 + (q - 3); omega) rfl]
      exact (e _).trans (x_apply m c t _ _)
    · have e : ∀ v : Vec Ideal S1x4x512 .f32, k0_pay7 v (ix2 ⟨q - 3, by omega⟩ ⟨d.val - 1024, by omega⟩)
          = v (ix3 0 ⟨q - 3, by omega⟩ ⟨d.val - 1024, by omega⟩) := fun v => by pointwise [k0_pay7]
      rw [others_apply _ _ r ⟨q - 3, by omega⟩ d ⟨d.val - 1024, by omega⟩ (by show r.val = 8 + (q - 3); omega)
        (by show d.val = 1024 + (d.val - 1024); omega)]
      refine (e _).trans ((bc_apply m c t _ _).trans ?_)
      unfold new
      exact congrArg (fun k => (show FVec Ideal S512x4608 .f32 from m ((c : Thread nD τ).loc main_arg0)) (ix2 _ k))
        (Fin.ext (by show 2048 + (d.val - 1024) = 1024 + d.val; omega))

/-- A new row after the convolution. -/
theorem rows_apply (t : Fin cfg0.N) (l : Fin 4) (d : Fin 1536) : rows m c t (ix2 ⟨l.val, by omega⟩ d)
    = Ssd.activated (old m c (seq t)) (new m c (seq t))
        (fun k d => (show FVec Ideal S4x1536 .f32 from m ((c : Thread nD τ).loc main_arg3)) (ix2 k d))
        (fun d => (show FVec Ideal S1536 .f32 from m ((c : Thread nD τ).loc main_arg4)) (ix1 d)) l d := by
  have hw : ∀ (k : Fin 4) (inb), View.ld (iblk m c 6 t) (Rect.unit ![k.val, 0] ![1, 1536] inb) (ix2 0 d)
      = m ((c : Thread nD τ).loc main_arg3) (ix2 k d) := fun k inb =>
    (View.ld_unit_apply_of _ _ _ _ _ (ix2 k d) (by exact Fin.forall_fin_two.2 ⟨rfl, (Nat.zero_add d.val).symm⟩)).trans (cw_apply m c t k d)
  have hx : ∀ (k : Nat) (hk : k < 4) (inb), View.ld (held m c t) (Rect.unit ![5 + k, 0] ![8, 1536] inb) (ix2 ⟨l.val, by omega⟩ d)
      = Ssd.joined (old m c (seq t)) (new m c (seq t)) (k + l.val) d := fun k hk inb =>
    (View.ld_unit_apply_of _ _ _ _ _ (ix2 ⟨5 + (k + l.val), by omega⟩ d)
      (by exact Fin.forall_fin_two.2 ⟨Nat.add_assoc 5 k l.val |>.symm, (Nat.zero_add d.val).symm⟩)).trans
      (held_apply m c t _ d _ rfl (by omega))
  unfold rows
  refine (conv_apply _ _ _ _ _ _ _ _ _ _ _).trans ?_
  unfold Ssd.activated Ssd.conv
  refine congrArg Conf.silu (congrArg₂ (fun x y : EReal => x + y) (cb_apply m c t d) (congrArg₂ (fun x y : EReal => x + y)
    (congrArg₂ (fun x y : EReal => x + y) (congrArg₂ (fun x y : EReal => x + y) ?_ ?_) ?_) ?_))
  · exact congrArg₂ (fun x y : EReal => x * y) (hw 0 _) (hx 0 (by omega) _)
  · exact congrArg₂ (fun x y : EReal => x * y) (hw 1 _) (hx 1 (by omega) _)
  · exact congrArg₂ (fun x y : EReal => x * y) (hw 2 _) (hx 2 (by omega) _)
  · exact congrArg₂ (fun x y : EReal => x * y) (hw 3 _) (hx 3 (by omega) _)

/-- The array of the states. -/
theorem result13_eq (G : FVec Ideal S128x8x128x128 .f32)
    (hG : ∀ (s : Fin 128) (j : Fin 8) (n q : Fin 128), G (ix4 s j n q) = state m c s j n q) :
    (dats m 0 c).arrAt 13 cfg0.N = G := by
  refine (dats m 0 c).arrAt_eq_of_covers 13 _ (by decide +kernel) fun t hf y => ?_
  blk_simp
  rw [after0_13]
  obtain ⟨o, j, n, q, rfl⟩ : ∃ (o : Fin 1) (j : Fin 8) (n q : Fin 128), y = ix4 o j n q :=
    ⟨y 0, y 1, y 2, y 3, eq_ix4 (n0 := 1) (n1 := 8) (n2 := 128) (n3 := 128) y⟩
  obtain rfl : o = 0 := Subsingleton.elim _ _
  refine Eq.trans ?_ ((hG _ _ _ _).symm.trans (congrArg G (emb_apply t j n q).symm))
  rw [last_eq m c t]
  have cast : ∀ s : Vec Ideal S8x128x128 .f32, k0_pay2 s (ix4 0 j n q) = s (ix3 j n q) := fun s => by pointwise [k0_pay2]
  have cast5 : ∀ s : Vec Ideal S1x8x128x128 .f32, k0_pay5 s (ix3 j n q) = s (ix4 0 j n q) := fun s => by pointwise [k0_pay5]
  refine (cast _).trans ((stepped_apply _ _ _ _ _ j n q).trans ?_)
  have col : column j q = (Ssd.head j q).castLE (by decide) := rfl
  refine (step_eq _ _ _ _ j n q _ (-Ideal.exp (m ((c : Thread nD τ).loc main_arg6) (ix1 (Ssd.head j q))))
    (fun l => Ssd.softplus (new m c (seq t) l ⟨4352 + (Ssd.head j q).val, by omega⟩
      + (show FVec Ideal S16 .f32 from m ((c : Thread nD τ).loc main_arg5)) (ix1 (Ssd.head j q)))) (fun l => ?_) (fun l => ?_)
    (last_apply _ _ _)).trans ?_
  · refine (size_apply _ _ l (column j q) (by show 2 * j.val + q.val / 64 < 16; omega)).trans ?_
    by_cases hl : l.val < 4
    · rw [dif_pos hl, dif_pos hl, dt_apply m c t _ _, col, dtb_apply m c t _]
      rfl
    · rw [dif_neg hl, dif_neg hl]
  · rw [decay_apply, col, alog_apply m c t _]
  · unfold state Ssd.entry
    have e : ∀ (l : Fin 4) (d : Fin 1536), rows m c t (ix2 ⟨l.val, by omega⟩ d) = _ := fun l d => rows_apply m c t l d
    simp only [e]
    exact congrArg _ ((cast5 _).trans (h_apply m c t j n q))

end

end Cert.KernelSsdSampleIdeal.Gen
-- ==== Proof.SsdSampleRef.lean ====
/-
  The state-space mixer of the sampled rows, the reference: its convolved rows, step sizes and decays at an entry, and the state.
-/
module

public import proofs.«01_k».proof.Proof.SsdSpec
public import proofs.«01_k».proof.Proof.Gen.ReferenceSsdSampleIdeal.Run
public import Idealize.ShloMosaic.Lib.Pipeline.ValueKit

@[expose] public section

set_option maxRecDepth 16384

open Idealize.ShloMosaic Idealize.ShloMosaic.TcCoe Idealize.SL.Sem

noncomputable section

namespace Cert.ReferenceSsdSampleIdeal.Value

open Cert.ReferenceSsdSampleIdeal Cert.ReferenceSsdSampleIdeal.Gen

variable (p : FVec Ideal S512x4608 .f32) (st : FVec Ideal S128x1x3x1536 .f32) (hs : FVec Ideal S128x1x16x64x128 .f32)
  (cw : FVec Ideal S4x1536 .f32) (cb : FVec Ideal S1536 .f32) (dtb al : FVec Ideal S16 .f32)

/-- The kept rows before the new ones. -/
def window : FVec Ideal S128x7x1536 .f32 :=
  concatenate S128x7x1536 1 [⟨S128x3x1536, shapeCast _ st shapeCasts_S128x1x3x1536_S128x3x1536⟩,
    ⟨S128x4x1536, extractStridedSlice S128x4x1536 ![0, 0, 1024] (shapeCast _ p shapeCasts_S512x4608_S128x4x4608)
      slices_S128x4x4608_S128x4x1536_0_0_1024⟩] concatenates_S128x3x1536_S128x4x1536_S128x7x1536_d1

/-- The convolution's sum. -/
def summed : FVec Ideal S128x4x1536 .f32 :=
  addf (addf (addf (addf (addf (broadcastInDim S128x4x1536 ![] bcast_S_S128x4x1536 (constant S_ .f32 0x00000000#32))
    (mulf (extractStridedSlice S128x4x1536 ![0, 0, 0] (window p st) slices_S128x7x1536_S128x4x1536_0_0_0) (broadcastInDim S128x4x1536 ![0, 1, 2] bcast_S1x1x1536_S128x4x1536_0_1_2 (broadcastInDim S1x1x1536 ![2] bcast_S1536_S1x1x1536_2 (shapeCast _ (extractStridedSlice S1x1536 ![0, 0] cw slices_S4x1536_S1x1536_0_0) shapeCasts_S1x1536_S1536)))))
    (mulf (extractStridedSlice S128x4x1536 ![0, 1, 0] (window p st) slices_S128x7x1536_S128x4x1536_0_1_0) (broadcastInDim S128x4x1536 ![0, 1, 2] bcast_S1x1x1536_S128x4x1536_0_1_2 (broadcastInDim S1x1x1536 ![2] bcast_S1536_S1x1x1536_2 (shapeCast _ (extractStridedSlice S1x1536 ![1, 0] cw slices_S4x1536_S1x1536_1_0) shapeCasts_S1x1536_S1536)))))
    (mulf (extractStridedSlice S128x4x1536 ![0, 2, 0] (window p st) slices_S128x7x1536_S128x4x1536_0_2_0) (broadcastInDim S128x4x1536 ![0, 1, 2] bcast_S1x1x1536_S128x4x1536_0_1_2 (broadcastInDim S1x1x1536 ![2] bcast_S1536_S1x1x1536_2 (shapeCast _ (extractStridedSlice S1x1536 ![2, 0] cw slices_S4x1536_S1x1536_2_0) shapeCasts_S1x1536_S1536)))))
    (mulf (extractStridedSlice S128x4x1536 ![0, 3, 0] (window p st) slices_S128x7x1536_S128x4x1536_0_3_0) (broadcastInDim S128x4x1536 ![0, 1, 2] bcast_S1x1x1536_S128x4x1536_0_1_2 (broadcastInDim S1x1x1536 ![2] bcast_S1536_S1x1x1536_2 (shapeCast _ (extractStridedSlice S1x1536 ![3, 0] cw slices_S4x1536_S1x1536_3_0) shapeCasts_S1x1536_S1536)))))
    (broadcastInDim S128x4x1536 ![0, 1, 2] bcast_S1x1x1536_S128x4x1536_0_1_2 (broadcastInDim S1x1x1536 ![2] bcast_S1536_S1x1x1536_2 cb))

/-- The activated rows. -/
def rows : FVec Ideal S128x4x1536 .f32 :=
  mulf (summed p st cw cb) (Host.divf (broadcastInDim S128x4x1536 ![] bcast_S_S128x4x1536 (constant S_ .f32 0x3F800000#32))
    (addf (broadcastInDim S128x4x1536 ![] bcast_S_S128x4x1536 (constant S_ .f32 0x3F800000#32))
      (Host.exp (Host.negf (summed p st cw cb)))))

/-- What the softplus is taken of. -/
def biased : FVec Ideal S128x4x16 .f32 :=
  addf (extractStridedSlice S128x4x16 ![0, 0, 4352] (shapeCast _ p shapeCasts_S512x4608_S128x4x4608) slices_S128x4x4608_S128x4x16_0_0_4352)
    (broadcastInDim S128x4x16 ![0, 1, 2] bcast_S1x1x16_S128x4x16_0_1_2 (broadcastInDim S1x1x16 ![2] bcast_S16_S1x1x16_2 dtb))

def zeros : FVec Ideal S128x4x16 .f32 := broadcastInDim S128x4x16 ![] bcast_S_S128x4x16 (constant S_ .f32 0x00000000#32)

/-- The step sizes. -/
def sizes : FVec Ideal S128x4x16 .f32 :=
  select (cmpf .une (subf (biased p dtb) zeros) (subf (biased p dtb) zeros)) (addf (biased p dtb) zeros)
    (addf (maximumf (biased p dtb) zeros) (Host.log1p (Host.exp (Host.negf (Host.absf (subf (biased p dtb) zeros))))))

/-- The step sizes times the rates. -/
def rates : FVec Ideal S128x4x16 .f32 :=
  mulf (sizes p dtb) (broadcastInDim S128x4x16 ![0, 1, 2] bcast_S1x1x16_S128x4x16_0_1_2
    (broadcastInDim S1x1x16 ![2] bcast_S16_S1x1x16_2 (Host.negf (Host.exp al))))

/-- Their sums up to each row. -/
def decays : FVec Ideal S128x4x16 .f32 :=
  concatenate S128x4x16 1
    [⟨S128x1x16, broadcastInDim S128x1x16 ![0, 2] bcast_S128x16_S128x1x16_0_2 (Host.reduceAdd (extractStridedSlice S128x1x16 ![0, 0, 0] (rates p dtb al) slices_S128x4x16_S128x1x16_0_0_0) (constant S_ .f32 0x00000000#32) reducesTo_S128x1x16_S128x16_d1 h_S_)⟩,
     ⟨S128x1x16, broadcastInDim S128x1x16 ![0, 2] bcast_S128x16_S128x1x16_0_2 (Host.reduceAdd (extractStridedSlice S128x2x16 ![0, 0, 0] (rates p dtb al) slices_S128x4x16_S128x2x16_0_0_0) (constant S_ .f32 0x00000000#32) reducesTo_S128x2x16_S128x16_d1 h_S_)⟩,
     ⟨S128x1x16, broadcastInDim S128x1x16 ![0, 2] bcast_S128x16_S128x1x16_0_2 (Host.reduceAdd (extractStridedSlice S128x3x16 ![0, 0, 0] (rates p dtb al) slices_S128x4x16_S128x3x16_0_0_0) (constant S_ .f32 0x00000000#32) reducesTo_S128x3x16_S128x16_d1 h_S_)⟩,
     ⟨S128x1x16, broadcastInDim S128x1x16 ![0, 2] bcast_S128x16_S128x1x16_0_2 (Host.reduceAdd (rates p dtb al) (constant S_ .f32 0x00000000#32) reducesTo_S128x4x16_S128x16_d1 h_S_)⟩]
    concatenates_S128x1x16_S128x1x16_S128x1x16_S128x1x16_S128x4x16_d1

def last : FVec Ideal S128x1x16 .f32 :=
  extractStridedSlice S128x1x16 ![0, 3, 0] (decays p dtb al) slices_S128x4x16_S128x1x16_0_3_0

/-- The rows' contributions before the product. -/
def weighted : FVec Ideal S128x4x16x64 .f32 :=
  mulf (broadcastInDim S128x4x16x64 ![0, 1, 2, 3] bcast_S128x4x16x1_S128x4x16x64_0_1_2_3 (broadcastInDim S128x4x16x1 ![0, 1, 2] bcast_S128x4x16_S128x4x16x1_0_1_2
      (Host.exp (subf (broadcastInDim S128x4x16 ![0, 1, 2] bcast_S128x1x16_S128x4x16_0_1_2 (last p dtb al)) (decays p dtb al)))))
    (mulf (shapeCast _ (extractStridedSlice S128x4x1024 ![0, 0, 0] (rows p st cw cb) slices_S128x4x1536_S128x4x1024_0_0_0) shapeCasts_S128x4x1024_S128x4x16x64)
      (broadcastInDim S128x4x16x64 ![0, 1, 2, 3] bcast_S128x4x16x1_S128x4x16x64_0_1_2_3 (broadcastInDim S128x4x16x1 ![0, 1, 2] bcast_S128x4x16_S128x4x16x1_0_1_2 (sizes p dtb))))

/-- The columns the rows' contributions are multiplied with. -/
def factors : FVec Ideal S128x4x2x128 .f32 :=
  shapeCast _ (extractStridedSlice S128x4x256 ![0, 0, 1024] (rows p st cw cb) slices_S128x4x1536_S128x4x256_0_0_1024) shapeCasts_S128x4x256_S128x4x2x128

/-- The contributions by head. -/
def added : FVec Ideal S128x16x64x128 .f32 :=
  shapeCast _ (Host.dotGeneral dot_S128x4x2x8x64_S128x4x2x128_S128x2x8x64x128_1_1_34_3_02_02 none
    (shapeCast _ (weighted p st cw cb dtb al) shapeCasts_S128x4x16x64_S128x4x2x8x64) (factors p st cw cb)) shapeCasts_S128x2x8x64x128_S128x16x64x128

/-- The new states by head. -/
def states : FVec Ideal S128x16x64x128 .f32 :=
  addf (mulf (broadcastInDim S128x16x64x128 ![0, 1, 2, 3] bcast_S128x16x1x1_S128x16x64x128_0_1_2_3 (broadcastInDim S128x16x1x1 ![0, 1] bcast_S128x16_S128x16x1x1_0_1
      (Host.exp (shapeCast _ (last p dtb al) shapeCasts_S128x1x16_S128x16)))) (shapeCast _ hs shapeCasts_S128x1x16x64x128_S128x16x64x128))
    (added p st cw cb dtb al)

/-- The new states by pair of heads. -/
def layer : FVec Ideal S128x8x128x128 .f32 :=
  shapeCast _ (transpose S128x8x128x2x64 [0, 1, 4, 2, 3] (shapeCast _ (states p st hs cw cb dtb al) shapeCasts_S128x16x64x128_S128x8x2x64x128)
    transposes_S128x8x2x64x128_S128x8x128x2x64_0_1_4_2_3) shapeCasts_S128x8x128x2x64_S128x8x128x128

theorem layer_eq (m : (ℓ : Loc nD τ sig) → Buf (Elt Ideal) ℓ) (c : Dev nD) : res_main_v96 m c
    = layer (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)) := by
  unfold res_main_v96 layer states added factors weighted last decays rates sizes zeros biased rows summed window
  rfl

/-- A sequence's new rows, and the three kept before them. -/
def new (s : Fin 128) (l : Fin 4) (d : Fin 4608) : EReal := p (ix2 ⟨4 * s.val + l.val, by omega⟩ d)

def old (s : Fin 128) (i : Fin 3) (d : Fin 1536) : EReal := st (ix4 s 0 i d)

theorem window_apply (s : Fin 128) (i : Fin 7) (d : Fin 1536) :
    window p st (ix3 s i d) = Ssd.joined (old st s) (new p s) i.val d := by
  pointwise [window]
  unfold Ssd.joined
  by_cases h : i.val < 3
  · rw [dif_pos h, dif_pos h]
    rfl
  · rw [dif_neg h, dif_neg h, dif_pos (show i.val - 3 < 4 by omega)]
    exact congrArg (fun r => p (ix2 r _)) (Fin.ext (by show s.val * 4 + (i.val - 3) = 4 * s.val + (i.val - 3); omega))

theorem rows_apply (s : Fin 128) (l : Fin 4) (d : Fin 1536) : rows p st cw cb (ix3 s l d)
    = Ssd.activated (old st s) (new p s) (fun k d => cw (ix2 k d)) (fun d => cb (ix1 d)) l d := by
  have tap : ∀ (k : Fin 4) (r : Fin 7) (_ : r.val = k.val + l.val), window p st (ix3 s r d) * cw (ix2 k d)
      = cw (ix2 k d) * Ssd.joined (old st s) (new p s) (k.val + l.val) d := fun k r hr => by
    rw [window_apply, hr, mul_comm]
  have sum : summed p st cw cb (ix3 s l d) = Ssd.conv (cb (ix1 d)) (fun k => cw (ix2 k d))
      (fun k => Ssd.joined (old st s) (new p s) (k.val + l.val) d) := by
    pointwise [summed]
    unfold Ssd.conv
    rw [tap 0 _ (Nat.zero_add l.val).symm, tap 1 _ rfl, tap 2 _ rfl, tap 3 _ rfl]
    exact add_comm (G := EReal) _ _
  pointwise [rows]
  exact congrArg Conf.silu sum

theorem sizes_apply (s : Fin 128) (l : Fin 4) (e : Fin 16) : sizes p dtb (ix3 s l e)
    = Ssd.softplus (new p s l ⟨4352 + e.val, by omega⟩ + dtb (ix1 e)) := by
  pointwise [sizes, zeros, biased]
  refine (if_neg (not_not.2 rfl)).trans ?_
  exact congrArg (fun r => Ssd.softplus (p (ix2 r _) + dtb (ix1 e))) (Fin.ext (by show s.val * 4 + l.val = 4 * s.val + l.val; omega))

theorem rates_apply (s : Fin 128) (l : Fin 4) (e : Fin 16) : rates p dtb al (ix3 s l e)
    = sizes p dtb (ix3 s l e) * -Ideal.exp (al (ix1 e)) := by
  pointwise [rates]

theorem decays_apply (s : Fin 128) (l : Fin 4) (e : Fin 16) : decays p dtb al (ix3 s l e)
    = Ssd.total (fun k => sizes p dtb (ix3 s k e)) (-Ideal.exp (al (ix1 e))) l.val := by
  pointwise [decays]
  simp only [rates_apply]
  unfold Ssd.total
  fin_cases l
  · simp [Fin.sum_univ_four]
  · simp [Fin.sum_univ_two, Fin.sum_univ_four]
  · simp [Fin.sum_univ_three, Fin.sum_univ_four]
  · simp [Fin.sum_univ_four]

theorem added_apply (s : Fin 128) (e : Fin 16) (a : Fin 64) (n : Fin 128) : added p st cw cb dtb al (ix4 s e a n)
    = ∑ l : Fin 4, Ssd.activated (old st s) (new p s) (fun k d => cw (ix2 k d)) (fun d => cb (ix1 d)) l ⟨1024 + (e.val / 8 * 128 + n.val), by omega⟩
        * (Ssd.activated (old st s) (new p s) (fun k d => cw (ix2 k d)) (fun d => cb (ix1 d)) l ⟨e.val * 64 + a.val, by omega⟩
          * sizes p dtb (ix3 s l e) * Ideal.exp (Ssd.total (fun k => sizes p dtb (ix3 s k e)) (-Ideal.exp (al (ix1 e))) 3
            - Ssd.total (fun k => sizes p dtb (ix3 s k e)) (-Ideal.exp (al (ix1 e))) l.val)) := by
  pointwise [added]
  refine Finset.sum_congr (M := EReal) rfl fun l _ => (mul_comm (G := EReal) _ _).trans (congrArg₂ (fun x y : EReal => x * y) ?_ ?_)
  · pointwise [factors]
    exact rows_apply p st cw cb s l _
  · pointwise [weighted, last]
    rw [rows_apply, decays_apply, decays_apply]
    exact mul_comm (G := EReal) _ _

/-- The reference's state at an entry. -/
theorem layer_apply (s : Fin 128) (j : Fin 8) (n q : Fin 128) : layer p st hs cw cb dtb al (ix4 s j n q)
    = Ssd.entry (old st s) (new p s) (fun k d => cw (ix2 k d)) (fun d => cb (ix1 d)) (fun e => dtb (ix1 e)) (fun e => al (ix1 e))
        (fun e a k => hs (ix5 s 0 e a k)) j n q := by
  have head : (⟨j.val * 2 + q.val / 64, by omega⟩ : Fin 16) = Ssd.head j q := Fin.ext (by show j.val * 2 + q.val / 64 = 2 * j.val + q.val / 64; omega)
  pointwise [layer]
  rw [head]
  pointwise [states, last]
  rw [added_apply, decays_apply]
  simp only [sizes_apply]
  unfold Ssd.entry Ssd.after
  refine congrArg₂ (fun x y : EReal => x + y) rfl (Finset.sum_congr (M := EReal) rfl fun l _ => ?_)
  have e1 : (⟨1024 + ((Ssd.head j q).val / 8 * 128 + n.val), by omega⟩ : Fin 1536) = ⟨1024 + 128 * (j.val / 4) + n.val, by omega⟩ :=
    Fin.ext (by show 1024 + ((2 * j.val + q.val / 64) / 8 * 128 + n.val) = 1024 + 128 * (j.val / 4) + n.val; omega)
  have e2 : (⟨(Ssd.head j q).val * 64 + q.val % 64, by omega⟩ : Fin 1536) = ⟨128 * j.val + q.val, by omega⟩ :=
    Fin.ext (by show (2 * j.val + q.val / 64) * 64 + q.val % 64 = 128 * j.val + q.val; omega)
  rw [e1, e2]

end Cert.ReferenceSsdSampleIdeal.Value
-- ==== Proof.SsdSampleLayer.lean ====
/-
  The state-space mixer of the sampled rows, the claim: the reference's state at an entry is what the kernel leaves there.
-/
module

public import proofs.«01_k».proof.Defs
public import proofs.«01_k».proof.Proof.SsdSampleValue
public import proofs.«01_k».proof.Proof.SsdSampleRef
public import Idealize.ShloMosaic.Lib.Quiescent

@[expose] public section

set_option maxRecDepth 16384

open Idealize.ShloMosaic Idealize.ShloMosaic.TcCoe Idealize.SL.Sem

noncomputable section

namespace Cert.Proof

theorem quiescent_ReferenceSsdSampleIdeal : quiescent_ReferenceSsdSampleIdeal := fun m ρ _ =>
  (θ_run Cert.ReferenceSsdSampleIdeal.defs _ _).mono
    (fun r h => ⟨fun c => (h c).2, sem_eq_zero_of_no_sems (by decide) r.2⟩)
    (Cert.ReferenceSsdSampleIdeal.Value.run (F := Ideal) m ρ)

theorem algebraic_KernelSsdSampleIdeal_ReferenceSsdSampleIdeal : algebraic_KernelSsdSampleIdeal_ReferenceSsdSampleIdeal := by
  intro m ρ m' ρ' _ hagree
  refine ⟨_, (θ_run Cert.KernelSsdSampleIdeal.defs _ _).mono (fun _ h c => ⟨(h c).2.1, (h c).2.2⟩)
    (Cert.KernelSsdSampleIdeal.Value.run_blocks (F := Ideal) m ρ), ?_⟩
  refine (θ_run Cert.ReferenceSsdSampleIdeal.defs _ _).mono
    (fun _ h c => ⟨(h c).1.trans ?_, (h c).2⟩) (Cert.ReferenceSsdSampleIdeal.Value.run (F := Ideal) m' ρ')
  obtain ⟨e0, e1, e2, e3, e4, e5, e6, e7, e8⟩ := hagree c
  refine (Cert.ReferenceSsdSampleIdeal.Value.layer_eq m' c).trans ?_
  refine (Cert.KernelSsdSampleIdeal.Gen.result13_eq m c (Cert.ReferenceSsdSampleIdeal.Value.layer _ _ _ _ _ _ _) fun s j n q => ?_).symm
  refine (Cert.ReferenceSsdSampleIdeal.Value.layer_apply _ _ _ _ _ _ _ s j n q).trans ?_
  unfold Cert.KernelSsdSampleIdeal.Gen.state Cert.KernelSsdSampleIdeal.Gen.new Cert.KernelSsdSampleIdeal.Gen.old
    Cert.ReferenceSsdSampleIdeal.Value.new Cert.ReferenceSsdSampleIdeal.Value.old Cert.KernelSsdSampleIdeal.Gen.rowOf
  rw [← e0, ← e1, ← e2, ← e3, ← e4, ← e5, ← e6]

end Cert.Proof

end
-- ==== Proof.SsdScanSpec.lean ====
/-
  The state-space mixer's state after a whole sequence: a chunk's decay and the sum of its rows' contributions, the states carried
  from chunk to chunk, and their closed form, the sum over the chunks, each decayed by the chunks after it.
-/
module

public import proofs.«01_k».proof.Proof.SsdSpec

@[expose] public section

namespace Ssd

open Idealize.ShloMosaic

noncomputable section

/-- The logarithm of the decay from a chunk's start up to a row. -/
def upto (d : Fin 128 → EReal) (r : EReal) (i : Nat) : EReal := ∑ l : Fin 128, if l.val ≤ i then d l * r else 0

/-- The contributions of a chunk's rows, decayed to its last. -/
def chunk (d : Fin 128 → EReal) (r : EReal) (b x : Fin 128 → EReal) : EReal :=
  ∑ l : Fin 128, b l * (x l * d l * Ideal.exp (upto d r 127 - upto d r l.val))

/-- The state carried over the chunks up to one, zero before the first. -/
def carried (a s : Nat → EReal) : Nat → EReal
  | 0 => Ideal.exp (a 0) * 0 + s 0
  | n + 1 => Ideal.exp (a (n + 1)) * carried a s n + s (n + 1)

theorem exp_nonneg (x : EReal) : 0 ≤ Ideal.exp x := by
  induction x using EReal.rec with
  | bot => exact le_refl _
  | coe r => exact EReal.coe_nonneg.2 (Real.exp_pos r).le
  | top => exact le_top

theorem exp_ne_top (x : EReal) (h : x ≤ 0) : Ideal.exp x ≠ ⊤ := by
  induction x using EReal.rec with
  | bot => exact EReal.zero_ne_top
  | coe r => exact EReal.coe_ne_top _
  | top => exact absurd h (by simp)

theorem exp_sum (x y : EReal) (hx : x ≤ 0) (hy : y ≤ 0) : Ideal.exp (x + y) = Ideal.exp x * Ideal.exp y := by
  induction x using EReal.rec with
  | bot => rw [EReal.bot_add]; exact (zero_mul _).symm
  | top => exact absurd hx (by simp)
  | coe r =>
    induction y using EReal.rec with
    | bot => rw [EReal.add_bot]; exact (mul_zero _).symm
    | top => exact absurd hy (by simp)
    | coe q =>
      rw [← EReal.coe_add]
      show ((Real.exp (r + q) : ℝ) : EReal) = ((Real.exp r : ℝ) : EReal) * ((Real.exp q : ℝ) : EReal)
      rw [Real.exp_add, EReal.coe_mul]

theorem exp_zero : Ideal.exp 0 = 1 := by
  show ((Real.exp 0 : ℝ) : EReal) = 1
  rw [Real.exp_zero, EReal.coe_one]

/-- A decay distributes over the sum of the earlier chunks. -/
theorem decay_sum (x : EReal) (hx : x ≤ 0) (f : Nat → EReal) (n : Nat) :
    Ideal.exp x * ∑ c ∈ Finset.range n, f c = ∑ c ∈ Finset.range n, Ideal.exp x * f c := by
  induction n with
  | zero => simp
  | succ n ih => rw [Finset.sum_range_succ, Finset.sum_range_succ,
      EReal.left_distrib_of_nonneg_of_ne_top (exp_nonneg x) (exp_ne_top x hx), ih]

/-- The logarithm of the decay of the chunks after one. -/
def later (a : Nat → EReal) (n c : Nat) : EReal := ∑ e ∈ Finset.range n, if c < e then a e else 0

theorem later_nonpos (a : Nat → EReal) (ha : ∀ n, a n ≤ 0) (n c : Nat) : later a n c ≤ 0 :=
  Finset.sum_nonpos fun e _ => by
    by_cases h : c < e
    · rw [if_pos h]; exact ha e
    · rw [if_neg h]

/-- The carried state in closed form. -/
theorem carried_eq (a s : Nat → EReal) (ha : ∀ n, a n ≤ 0) (n : Nat) :
    carried a s n = ∑ c ∈ Finset.range (n + 1), Ideal.exp (later a (n + 1) c) * s c := by
  have none : ∀ n, later a (n + 1) n = 0 := fun n => Finset.sum_eq_zero fun e he => if_neg (by
    have := Finset.mem_range.1 he
    omega)
  induction n with
  | zero =>
    unfold carried
    rw [Finset.sum_range_one, none 0, exp_zero, mul_zero, zero_add, one_mul]
  | succ n ih =>
    rw [Finset.sum_range_succ, none (n + 1), exp_zero, one_mul]
    unfold carried
    rw [ih, decay_sum _ (ha (n + 1))]
    refine congrArg (fun x : EReal => x + s (n + 1)) (Finset.sum_congr (M := EReal) rfl fun c hc => ?_)
    have e : later a (n + 1 + 1) c = a (n + 1) + later a (n + 1) c := by
      unfold later
      rw [Finset.sum_range_succ _ (n + 1), if_pos (Finset.mem_range.1 hc), add_comm]
    rw [e, exp_sum _ _ (ha _) (later_nonpos a ha _ _), mul_assoc]

theorem log1p_nonneg (y : EReal) (h : 0 ≤ y) : 0 ≤ Ideal.log1p y := by
  induction y using EReal.rec with
  | bot => exact absurd h (by simp)
  | top => exact le_top
  | coe r =>
    have hr : 0 ≤ r := EReal.coe_nonneg.1 h
    show 0 ≤ Ideal.log (((1 : ℝ) : EReal) + ((r : ℝ) : EReal))
    rw [← EReal.coe_add]
    show (0 : EReal) ≤ if 1 + r ≤ 0 then ⊥ else ((Real.log (1 + r) : ℝ) : EReal)
    rw [if_neg (by linarith)]
    exact EReal.coe_nonneg.2 (Real.log_nonneg (by linarith))

theorem softplus_nonneg (v : EReal) : 0 ≤ softplus v :=
  add_nonneg (le_max_right v 0) (log1p_nonneg _ (exp_nonneg _))

theorem neg_exp (x : EReal) : -Ideal.exp x ≤ 0 := by
  rw [← EReal.neg_le_neg_iff, neg_neg, neg_zero]
  exact exp_nonneg x

theorem upto_nonpos (d : Fin 128 → EReal) (r : EReal) (hd : ∀ l, 0 ≤ d l) (hr : r ≤ 0) (i : Nat) : upto d r i ≤ 0 :=
  Finset.sum_nonpos fun l _ => by
    by_cases h : l.val ≤ i
    · rw [if_pos h]
      have h1 : 0 ≤ d l * -r := EReal.mul_nonneg (hd l) (by rw [← EReal.neg_le_neg_iff, neg_neg, neg_zero]; exact hr)
      rw [mul_neg, ← EReal.neg_le_neg_iff, neg_neg, neg_zero] at h1
      exact h1
    · rw [if_neg h]

/-- A row of a sequence as convolved: zero before the first. -/
def behind (p : Fin 8192 → Fin 4608 → EReal) (q : Nat) (d : Fin 1536) : EReal :=
  if q < 3 then 0 else if h : q - 3 < 8192 then p ⟨q - 3, h⟩ ⟨1024 + d.val, by omega⟩ else 0

/-- A convolved and activated row of a sequence. -/
def scanned (p : Fin 8192 → Fin 4608 → EReal) (cw : Fin 4 → Fin 1536 → EReal) (cb : Fin 1536 → EReal) (n : Nat) (d : Fin 1536) : EReal :=
  Conf.silu (conv (cb d) (fun k => cw k d) (fun k => behind p (k.val + n) d))

/-- The row of a chunk. -/
def row (c : Nat) (l : Fin 128) : Fin 8192 := ⟨(128 * c + l.val) % 8192, Nat.mod_lt _ (by decide)⟩

/-- The step sizes of a chunk's rows. -/
def sizesOf (p : Fin 8192 → Fin 4608 → EReal) (dtb : Fin 16 → EReal) (e : Fin 16) (c : Nat) (l : Fin 128) : EReal :=
  softplus (p (row c l) ⟨4352 + e.val, by omega⟩ + dtb e)

/-- The logarithm of a chunk's decay. -/
def decayOf (p : Fin 8192 → Fin 4608 → EReal) (dtb alog : Fin 16 → EReal) (e : Fin 16) (c : Nat) : EReal :=
  upto (sizesOf p dtb e c) (-Ideal.exp (alog e)) 127

/-- A chunk's contributions to a pair's state. -/
def chunkOf (p : Fin 8192 → Fin 4608 → EReal) (cw : Fin 4 → Fin 1536 → EReal) (cb : Fin 1536 → EReal) (dtb alog : Fin 16 → EReal)
    (j : Fin 8) (n q : Fin 128) (c : Nat) : EReal :=
  chunk (sizesOf p dtb (head j q) c) (-Ideal.exp (alog (head j q)))
    (fun l => scanned p cw cb (row c l).val ⟨1024 + 128 * (j.val / 4) + n.val, by omega⟩)
    (fun l => scanned p cw cb (row c l).val ⟨128 * j.val + q.val, by omega⟩)

/-- A pair's state after a chunk. -/
def scanState (p : Fin 8192 → Fin 4608 → EReal) (cw : Fin 4 → Fin 1536 → EReal) (cb : Fin 1536 → EReal) (dtb alog : Fin 16 → EReal)
    (j : Fin 8) (n q : Fin 128) (c : Nat) : EReal :=
  carried (decayOf p dtb alog (head j q)) (chunkOf p cw cb dtb alog j n q) c

/-- The state after the sequence as the sum over its chunks. -/
theorem scanState_eq (p : Fin 8192 → Fin 4608 → EReal) (cw : Fin 4 → Fin 1536 → EReal) (cb : Fin 1536 → EReal)
    (dtb alog : Fin 16 → EReal) (j : Fin 8) (n q : Fin 128) : scanState p cw cb dtb alog j n q 63
      = ∑ c : Fin 64, Ideal.exp (∑ e : Fin 64, if c.val < e.val then decayOf p dtb alog (head j q) e.val else 0)
          * chunkOf p cw cb dtb alog j n q c.val := by
  unfold scanState
  rw [carried_eq (decayOf p dtb alog (head j q)) _ (fun c => upto_nonpos _ _ (fun l => softplus_nonneg _) (neg_exp _) 127)]
  refine (Finset.sum_range _).trans (Finset.sum_congr (M := EReal) rfl fun c _ => ?_)
  unfold later
  rw [Finset.sum_range]

end

end Ssd
-- ==== Proof.SsdSteps.lean ====
/-
  The state-space mixer of the prompt: what the payloads between the loaded rows and the stored states compute, the state of
  each pair of heads as the same step.
-/
module

public import proofs.«01_k».proof.Proof.Gen.KernelSsdIdeal.Value
public import proofs.«01_k».proof.Proof.SsdScanSpec
public import Idealize.ShloMosaic.Lib.Pipeline.ValueKit
public import Idealize.ShloMosaic.Lib.Pipeline.ReadBack
public import Idealize.ShloMosaic.Lib.VecWindow

@[expose] public section

set_option maxRecDepth 16384

open Idealize.ShloMosaic Idealize.ShloMosaic.TcCoe Idealize.SL.Sem

namespace Cert.KernelSsdIdeal.Gen

open Cert.KernelSsdIdeal

noncomputable section

/-- The lanes' numbers, and the lanes of a pair's first head. -/
abbrev lanes : IVec S128x128 32 := iota Kind.tc S128x128 32 [1] iota_S128x128_d1_w32

abbrev first : IVec S128x128 1 := k0_pay17 lanes

theorem first_lane : ∀ q : Fin 128, IntOp.cmpi .slt (BitVec.ofNat 32 q.val) 64#32 = if q.val < 64 then 1#1 else 0#1 := by
  decide +kernel

theorem pick (q : Fin 128) (x y : EReal) :
    Scalar.select (IntOp.cmpi .slt (BitVec.ofNat 32 q.val) 64#32) x y = if q.val < 64 then x else y := by
  rw [first_lane]
  by_cases h : q.val < 64
  · rw [if_pos h, if_pos h]; rfl
  · rw [if_neg h, if_neg h]; rfl

/-- The column of a pair's lane among the heads' columns. -/
def column (j : Fin 8) (q : Fin 128) : Fin 128 := ⟨2 * j.val + q.val / 64, by omega⟩

/-- A pair's new state at an entry, from the earlier one `h`. -/
def step (xc : FVec Ideal S128x1536 .f32) (dt ac : FVec Ideal S128x128 .f32) (al : FVec Ideal S1x128 .f32) (j : Fin 8) (n q : Fin 128)
    (h : EReal) : EReal :=
  Ideal.exp (al (ix2 0 (column j q))) * h
    + ∑ l : Fin 128, xc (ix2 l ⟨1024 + 128 * (j.val / 4) + n.val, by omega⟩) * (xc (ix2 l ⟨128 * j.val + q.val, by omega⟩)
        * dt (ix2 l (column j q)) * Ideal.exp (al (ix2 0 (column j q)) - ac (ix2 l (column j q))))

/-- The step as a pair's payloads write it, with a choice between the two heads at each factor. -/
theorem step_of (xc : FVec Ideal S128x1536 .f32) (dt ac : FVec Ideal S128x128 .f32) (al : FVec Ideal S1x128 .f32) (j : Fin 8)
    (n q : Fin 128) (h : EReal) (kb kx : Fin 1536) (h0 h1 : Fin 128) (hb : kb.val = 1024 + 128 * (j.val / 4) + n.val)
    (hx : kx.val = 128 * j.val + q.val) (e0 : h0.val = 2 * j.val) (e1 : h1.val = 2 * j.val + 1) :
    Scalar.select (IntOp.cmpi .slt (BitVec.ofNat 32 q.val) 64#32) (Ideal.exp (al (ix2 0 h0))) (Ideal.exp (al (ix2 0 h1))) * h
      + ∑ l : Fin 128, xc (ix2 l kb) * (xc (ix2 l kx)
          * Scalar.select (IntOp.cmpi .slt (BitVec.ofNat 32 q.val) 64#32) (dt (ix2 l h0)) (dt (ix2 l h1))
          * Scalar.select (IntOp.cmpi .slt (BitVec.ofNat 32 q.val) 64#32) (Ideal.exp (al (ix2 0 h0) - ac (ix2 l h0)))
              (Ideal.exp (al (ix2 0 h1) - ac (ix2 l h1))))
      = step xc dt ac al j n q h := by
  rw [show kb = ⟨1024 + 128 * (j.val / 4) + n.val, by omega⟩ from Fin.ext hb,
    show kx = ⟨128 * j.val + q.val, by omega⟩ from Fin.ext hx]
  unfold step
  by_cases c : q.val < 64
  · obtain rfl : h0 = column j q := Fin.ext (e0.trans (by show 2 * j.val = 2 * j.val + q.val / 64; omega))
    simp only [pick, if_pos c]
  · obtain rfl : h1 = column j q := Fin.ext (e1.trans (by show 2 * j.val + 1 = 2 * j.val + q.val / 64; omega))
    simp only [pick, if_neg c]

variable (xc : FVec Ideal S128x1536 .f32) (sp ac : FVec Ideal S128x128 .f32) (al : FVec Ideal S1x128 .f32)
  (s : Vec Ideal S1x128x128 .f32)

/-- The rows' numbers. -/
abbrev lines : IVec S128x128 32 := iota Kind.tc S128x128 32 [0] iota_S128x128_d0_w32

/-- The step sizes. -/
abbrev sizes (sp : FVec Ideal S128x128 .f32) : FVec Ideal S128x128 .f32 := k0_pay12 lanes lines sp

/-! The new states of the eight pairs. -/

def pair0 : FVec Ideal S1x128x128 .f32 :=
  k0_pay32 (F := Ideal) (k0_pay18 xc) (k0_pay22 xc lanes lines sp) (k0_pay26 s) (k0_pay28 ac al first) (k0_pay29 first) (k0_pay30 al) (k0_pay31 al)

theorem pair0_apply (n q : Fin 128) :
    pair0 xc sp ac al s (ix3 0 n q) = step xc (sizes sp) ac al ⟨0, by omega⟩ n q (s (ix3 0 n q)) := by
  pointwise [pair0, k0_pay32, k0_pay18, k0_pay22, k0_pay21, k0_pay26, k0_pay28, k0_pay29, k0_pay30, k0_pay31, k0_pay17]
  exact step_of _ _ _ _ ⟨0, by omega⟩ _ _ _ _ _ _ _ rfl (by dsimp only; omega) rfl rfl

def pair1 : FVec Ideal S1x128x128 .f32 :=
  k0_pay43 (F := Ideal) al (k0_pay18 xc) (k0_pay35 xc (sizes sp) first) (k0_pay38 s) (k0_pay40 ac al first) (k0_pay41 first) (k0_pay42 al)

theorem pair1_apply (n q : Fin 128) :
    pair1 xc sp ac al s (ix3 0 n q) = step xc (sizes sp) ac al ⟨1, by omega⟩ n q (s (ix3 0 n q)) := by
  pointwise [pair1, k0_pay43, k0_pay18, k0_pay35, k0_pay34, k0_pay38, k0_pay40, k0_pay41, k0_pay42, k0_pay17]
  exact step_of _ _ _ _ ⟨1, by omega⟩ _ _ _ _ _ _ _ rfl rfl rfl rfl

def pair2 : FVec Ideal S1x128x128 .f32 :=
  k0_pay54 (F := Ideal) al (k0_pay18 xc) (k0_pay46 xc (sizes sp) first) (k0_pay49 s) (k0_pay51 ac al first) (k0_pay52 first) (k0_pay53 al)

theorem pair2_apply (n q : Fin 128) :
    pair2 xc sp ac al s (ix3 0 n q) = step xc (sizes sp) ac al ⟨2, by omega⟩ n q (s (ix3 0 n q)) := by
  pointwise [pair2, k0_pay54, k0_pay18, k0_pay46, k0_pay45, k0_pay49, k0_pay51, k0_pay52, k0_pay53, k0_pay17]
  exact step_of _ _ _ _ ⟨2, by omega⟩ _ _ _ _ _ _ _ rfl rfl rfl rfl

def pair3 : FVec Ideal S1x128x128 .f32 :=
  k0_pay65 (F := Ideal) al (k0_pay18 xc) (k0_pay57 xc (sizes sp) first) (k0_pay61 s) (k0_pay63 ac al first) (k0_pay64 first)

theorem pair3_apply (n q : Fin 128) :
    pair3 xc sp ac al s (ix3 0 n q) = step xc (sizes sp) ac al ⟨3, by omega⟩ n q (s (ix3 0 n q)) := by
  pointwise [pair3, k0_pay65, k0_pay18, k0_pay57, k0_pay56, k0_pay61, k0_pay63, k0_pay64, k0_pay17]
  exact step_of _ _ _ _ ⟨3, by omega⟩ _ _ _ _ _ _ _ rfl rfl rfl rfl

def pair4 : FVec Ideal S1x128x128 .f32 :=
  k0_pay79 (F := Ideal) al first (k0_pay67 xc) (k0_pay73 first (k0_pay70 xc) (k0_pay71 (sizes sp)) (k0_pay72 (sizes sp))) (k0_pay75 s) (k0_pay77 ac al) (k0_pay78 ac al)

theorem pair4_apply (n q : Fin 128) :
    pair4 xc sp ac al s (ix3 0 n q) = step xc (sizes sp) ac al ⟨4, by omega⟩ n q (s (ix3 0 n q)) := by
  pointwise [pair4, k0_pay79, k0_pay67, k0_pay73, k0_pay70, k0_pay71, k0_pay72, k0_pay75, k0_pay77, k0_pay78, k0_pay17]
  exact step_of _ _ _ _ ⟨4, by omega⟩ _ _ _ _ _ _ _ rfl rfl rfl rfl

def pair5 : FVec Ideal S1x128x128 .f32 :=
  k0_pay91 (F := Ideal) al first (k0_pay67 xc) (k0_pay84 first (k0_pay81 xc) (k0_pay82 (sizes sp)) (k0_pay83 (sizes sp))) (k0_pay86 s) (k0_pay88 ac al) (k0_pay89 ac) (k0_pay90 al)

theorem pair5_apply (n q : Fin 128) :
    pair5 xc sp ac al s (ix3 0 n q) = step xc (sizes sp) ac al ⟨5, by omega⟩ n q (s (ix3 0 n q)) := by
  pointwise [pair5, k0_pay91, k0_pay67, k0_pay84, k0_pay81, k0_pay82, k0_pay83, k0_pay86, k0_pay88, k0_pay89, k0_pay90, k0_pay17]
  exact step_of _ _ _ _ ⟨5, by omega⟩ _ _ _ _ _ _ _ rfl rfl rfl rfl

def pair6 : FVec Ideal S1x128x128 .f32 :=
  k0_pay103 (F := Ideal) al first (k0_pay67 xc) (k0_pay96 first (k0_pay93 xc) (k0_pay94 (sizes sp)) (k0_pay95 (sizes sp))) (k0_pay98 s) (k0_pay100 ac al) (k0_pay101 al) (k0_pay102 ac)

theorem pair6_apply (n q : Fin 128) :
    pair6 xc sp ac al s (ix3 0 n q) = step xc (sizes sp) ac al ⟨6, by omega⟩ n q (s (ix3 0 n q)) := by
  pointwise [pair6, k0_pay103, k0_pay67, k0_pay96, k0_pay93, k0_pay94, k0_pay95, k0_pay98, k0_pay100, k0_pay101, k0_pay102, k0_pay17]
  exact step_of _ _ _ _ ⟨6, by omega⟩ _ _ _ _ _ _ _ rfl rfl rfl rfl

def pair7 : FVec Ideal S1x128x128 .f32 :=
  k0_pay114 (F := Ideal) ac al first (k0_pay67 xc) (k0_pay108 first (k0_pay105 xc) (k0_pay106 (sizes sp)) (k0_pay107 (sizes sp))) (k0_pay110 s) (k0_pay112 ac al) (k0_pay113 al)

theorem pair7_apply (n q : Fin 128) :
    pair7 xc sp ac al s (ix3 0 n q) = step xc (sizes sp) ac al ⟨7, by omega⟩ n q (s (ix3 0 n q)) := by
  pointwise [pair7, k0_pay114, k0_pay67, k0_pay108, k0_pay105, k0_pay106, k0_pay107, k0_pay110, k0_pay112, k0_pay113, k0_pay17]
  exact step_of _ _ _ _ ⟨7, by omega⟩ _ _ _ _ _ _ _ rfl rfl rfl rfl

theorem size_mask : ∀ (l : Fin 128) (h : Fin 16), IntOp.andi (IntOp.cmpi .slt (BitVec.ofNat 32 h.val) 16#32)
    (IntOp.cmpi .slt (BitVec.ofNat 32 l.val) 128#32) = 1#1 := by decide +kernel

/-- A step size: the softplus. -/
theorem size_apply (v : Vec Ideal S1x128x128 .f32) (b : Vec Ideal S1x128 .f32) (l : Fin 128) (h : Fin 128) (hh : h.val < 16) :
    sizes (k0_pay11 v b) (ix2 l h) = Ssd.softplus (v (ix3 0 l h) + b (ix2 0 h)) := by
  pointwise [k0_pay12, k0_pay11]
  rw [size_mask l ⟨h.val, hh⟩]
  refine (show Scalar.select 1#1 _ _ = _ from rfl).trans ((if_neg (not_not.2 rfl)).trans ?_)
  unfold Ssd.softplus
  rw [zero_sub]

theorem tri_mask : ∀ l k : Fin 128, BitVec.setWidth 32 (IntOp.cmpi .sge (BitVec.ofNat 32 l.val) (BitVec.ofNat 32 k.val))
    = if k.val ≤ l.val then 1#32 else 0#32 := by decide +kernel

theorem tri_apply (l k : Fin 128) : FloatOps.sitofp (F := Ideal) FTy.f32
      (BitVec.setWidth 32 (IntOp.cmpi .sge (BitVec.ofNat 32 l.val) (BitVec.ofNat 32 k.val)))
    = if k.val ≤ l.val then 1 else 0 := by
  rw [tri_mask]
  show (((if k.val ≤ l.val then 1#32 else 0#32 : BitVec 32).toInt : ℝ) : EReal) = _
  by_cases h : k.val ≤ l.val
  · rw [if_pos h, if_pos h]; norm_num
  · rw [if_neg h, if_neg h]; norm_num

/-- The decay's logarithm up to a row. -/
theorem decay_apply (a : Vec Ideal S1x128 .f32) (l : Fin 128) (h : Fin 128) :
    k0_pay14 lanes lines sp a (ix2 l h) = Ssd.upto (fun k => sizes sp (ix2 k h)) (-Ideal.exp (a (ix2 0 h))) l.val := by
  pointwise [k0_pay14, k0_pay13]
  unfold Ssd.upto
  refine Finset.sum_congr (M := EReal) rfl fun k _ => ?_
  rw [tri_apply, zero_sub]
  by_cases c : k.val ≤ l.val
  · rw [if_pos c, if_pos c, one_mul]
  · rw [if_neg c, if_neg c, zero_mul]

theorem last_apply (a : Vec Ideal S1x128 .f32) (h : Fin 128) :
    k0_pay16 lanes lines sp a (ix2 0 h) = k0_pay14 lanes lines sp a (ix2 127 h) := by
  pointwise [k0_pay16]

/-- The convolved and activated rows. -/
theorem conv_apply (b w0 w1 w2 w3 : Vec Ideal S1x1536 .f32) (x0 x1 x2 x3 : Vec Ideal S128x1536 .f32) (l : Fin 128) (d : Fin 1536) :
    k0_pay9 (k0_pay7 b w0 x0 w1 x1) x2 (k0_pay8 w2) w3 x3 (ix2 l d)
      = Conf.silu (Ssd.conv (b (ix2 0 d)) ![w0 (ix2 0 d), w1 (ix2 0 d), w2 (ix2 0 d), w3 (ix2 0 d)]
          ![x0 (ix2 l d), x1 (ix2 l d), x2 (ix2 l d), x3 (ix2 l d)]) := by
  pointwise [k0_pay9, k0_pay7, k0_pay8]
  rw [zero_sub]
  unfold Conf.silu Ssd.conv
  simp only [add_assoc]
  rfl

/-- The step as a chunk's decay and contributions. -/
theorem step_eq (xc : FVec Ideal S128x1536 .f32) (dt ac : FVec Ideal S128x128 .f32) (al : FVec Ideal S1x128 .f32) (j : Fin 8)
    (n q : Fin 128) (h r : EReal) (d : Fin 128 → EReal) (hd : ∀ l : Fin 128, dt (ix2 l (column j q)) = d l)
    (ha : ∀ l : Fin 128, ac (ix2 l (column j q)) = Ssd.upto d r l.val) (hl : al (ix2 0 (column j q)) = ac (ix2 127 (column j q))) :
    step xc dt ac al j n q h
      = Ideal.exp (Ssd.upto d r 127) * h + Ssd.chunk d r (fun l => xc (ix2 l ⟨1024 + 128 * (j.val / 4) + n.val, by omega⟩))
          (fun l => xc (ix2 l ⟨128 * j.val + q.val, by omega⟩)) := by
  unfold step Ssd.chunk
  rw [hl, ha 127]
  refine congrArg₂ (fun x y : EReal => x + y) rfl (Finset.sum_congr (M := EReal) rfl fun l _ => ?_)
  rw [hd, ha l]
  rfl

end

end Cert.KernelSsdIdeal.Gen
-- ==== Proof.SsdArrays.lean ====
/-
  The state-space mixer of the prompt: the blocks of a chunk's point, read at an index of the launch's arguments. The host groups
  the rows by chunk and puts the heads' parameters before zero lanes.
-/
module

public import proofs.«01_k».proof.Proof.SsdSteps
public import Idealize.ShloMosaic.Lib.Routing.OpsSet

@[expose] public section

set_option maxRecDepth 16384

open Idealize.ShloMosaic Idealize.ShloMosaic.TcCoe Idealize.SL.Sem
open Idealize.ShloMosaic.Pipeline (Dat)

namespace Cert.KernelSsdIdeal.Gen

open Cert.KernelSsdIdeal

noncomputable section

/-- Scattering sixteen entries at the row's start: each lands at its own place. -/
theorem scatter_lanes {α : Type} (x0 : S1x128.Idx → α) (i : IVec S2 32) (hi : ∀ j, i j = 0#32) (u : S16.Idx → α) (e : Fin 16) :
    Host.scatter scatter_S1x128_S2_S16_0_0_01_0 (fun _ b => b) x0 i u (ix2 0 (e.castLE (by decide))) = u (ix1 e) := by
  have hstart : ∀ (k : S16.Idx) (a : Fin 2), scatter_S1x128_S2_S16_0_0_01_0.start k i a = 0 := by
    intro k a
    unfold ScatterDims.start
    split
    · rw [hi]; rfl
    · rfl
  have hw0 : ∀ k : S16.Idx, scatter_S1x128_S2_S16_0_0_01_0.window k (0 : Fin 2) = 0 := fun k => rfl
  have hw1 : ∀ k : S16.Idx, scatter_S1x128_S2_S16_0_0_01_0.window k (1 : Fin 2) = (k 0).val := fun k => rfl
  have land : ∀ k : S16.Idx, scatter_S1x128_S2_S16_0_0_01_0.resultIdx? k i = some (ix2 0 (e.castLE (by decide))) ↔ k = ix1 e := by
    intro k
    rw [Routing.resultIdx?_eq_some]
    constructor
    · intro h
      have h1 := h (1 : Fin 2)
      rw [hstart, hw1] at h1
      funext a
      refine Fin.cases ?_ (fun a => a.elim0) a
      apply Fin.ext
      have : ((k 0).val : Int) = (e.val : Int) := by simpa using h1
      exact_mod_cast this
    · rintro rfl a
      rw [hstart]
      refine Fin.cases ?_ (fun a => Fin.cases ?_ (fun a => a.elim0) a) a
      · rfl
      · exact (zero_add _)
  exact Routing.scatter_set_hit _ x0 i u _ _ (fun k hk => by rw [(land k).mp hk]) (ix1 e) ((land _).mpr rfl)

/-- The two index words are zero. -/
theorem zeros_apply (j : S2.Idx) : concatenate S2 0 [⟨S1, broadcastInDim S1 ![] bcast_S_S1 (constantI S_ 32 0#32)⟩,
    ⟨S1, broadcastInDim S1 ![] bcast_S_S1 (constantI S_ 32 0#32)⟩] concatenates_S1_S1_S2_d0 j = 0#32 := by
  obtain ⟨k, rfl⟩ : ∃ k : Fin 2, j = ix1 k := ⟨j 0, eq_ix1 j⟩
  fin_cases k <;> rfl

variable (m : (ℓ : Loc nD τ sig) → (ℓ : Loc nD τ sig).ty.Contents (Elt Ideal)) (c : Dev nD)

/-- The windows' block indices at a grid point. -/
theorem idx : ∀ t : Fin cfg0.N, win0_1.index t = ![t.val, 0, 1] ∧ win0_2.index t = ![t.val, 0, 4] ∧ win0_3.index t = ![t.val, 0, 34]
    ∧ win0_4.index t = ![0, 0] ∧ win0_5.index t = ![0, 0] ∧ win0_6.index t = ![0, 0] ∧ win0_7.index t = ![0, 0]
    ∧ win0_11.index t = ![t.val / 64, 0, 0, 0] :=
  (by decide +kernel : ∀ t : Fin grid0.N, _)

/-- The sequence of a point. -/
def seq (t : Fin cfg0.N) : Fin 2 := ⟨t.val / 64, by have := lt_of_lt_of_eq t.isLt N_0; omega⟩

/-- A row of a sequence among all rows. -/
def place (s : Fin 2) (n : Fin 8192) : Fin 16384 := ⟨8192 * s.val + n.val, by omega⟩

/-- A row of a point's chunk among all rows. -/
def rowOf (t : Fin cfg0.N) (i : Fin 128) : Fin 16384 := ⟨128 * t.val + i.val, by have := lt_of_lt_of_eq t.isLt N_0; omega⟩

theorem rowOf_eq (t : Fin cfg0.N) (i : Fin 128) : rowOf t i = place (seq t) (Ssd.row (t.val % 64) i) :=
  Fin.ext (by
    have := lt_of_lt_of_eq t.isLt N_0
    show 128 * t.val + i.val = 8192 * (t.val / 64) + (128 * (t.val % 64) + i.val) % 8192
    omega)

theorem x_apply (t : Fin cfg0.N) (i : Fin 128) (d : Fin 1024) : X0_1 m c t (ix3 0 i d)
    = m ((c : Thread nD τ).loc main_arg0) (ix2 (rowOf t i) ⟨1024 + d.val, by omega⟩) := by
  unfold rowOf X0_1 Pipeline.Window.fill
  rw [dif_pos (moved0_1 t _)]
  blk_simp [iblk, idx t]
  entry_read
  pointwise
  blk_ext [idx t]

theorem bc_apply (t : Fin cfg0.N) (i : Fin 128) (d : Fin 512) : iblk m c 2 t (ix3 0 i d)
    = m ((c : Thread nD τ).loc main_arg0) (ix2 (rowOf t i) ⟨2048 + d.val, by omega⟩) := by
  unfold rowOf
  blk_simp [iblk, idx t]
  entry_read
  pointwise
  blk_ext [idx t]

theorem dt_apply (t : Fin cfg0.N) (i : Fin 128) (d : Fin 128) : iblk m c 3 t (ix3 0 i d)
    = m ((c : Thread nD τ).loc main_arg0) (ix2 (rowOf t i) ⟨4352 + d.val, by omega⟩) := by
  unfold rowOf
  blk_simp [iblk, idx t]
  entry_read
  pointwise
  blk_ext [idx t]

theorem cw_apply (t : Fin cfg0.N) (k : Fin 4) (d : Fin 1536) :
    iblk m c 4 t (ix2 k d) = m ((c : Thread nD τ).loc main_arg1) (ix2 k d) := by
  blk_ext [iblk, V, idx t]

theorem cb_apply (t : Fin cfg0.N) (d : Fin 1536) : iblk m c 5 t (ix2 0 d) = m ((c : Thread nD τ).loc main_arg2) (ix1 d) := by
  blk_simp [iblk, idx t]
  entry_read
  pointwise
  blk_ext [idx t]

theorem dtb_apply (t : Fin cfg0.N) (e : Fin 16) :
    iblk m c 6 t (ix2 0 (e.castLE (by decide))) = m ((c : Thread nD τ).loc main_arg3) (ix1 e) := by
  blk_simp [iblk, idx t]
  entry_read
  refine (congrArg (Host.scatter scatter_S1x128_S2_S16_0_0_01_0 (fun _ b => b) _ _ _) ?_).trans
    (scatter_lanes _ _ (fun j => ?_) _ e)
  · blk_ext [idx t]
  · exact zeros_apply j

theorem alog_apply (t : Fin cfg0.N) (e : Fin 16) :
    iblk m c 7 t (ix2 0 (e.castLE (by decide))) = m ((c : Thread nD τ).loc main_arg4) (ix1 e) := by
  blk_simp [iblk, idx t]
  entry_read
  refine (congrArg (Host.scatter scatter_S1x128_S2_S16_0_0_01_0 (fun _ b => b) _ _ _) ?_).trans
    (scatter_lanes _ _ (fun j => ?_) _ e)
  · blk_ext [idx t]
  · exact zeros_apply j

theorem emb_apply (t : Fin cfg0.N) (j : Fin 8) (n q : Fin 128) : (win0_11.blk t).view.emb (ix4 0 j n q) = ix4 (seq t) j n q := by
  unfold seq
  blk_ext [idx t]

end

end Cert.KernelSsdIdeal.Gen
-- ==== Proof.SsdStores.lean ====
/-
  The state-space mixer of the prompt, a chunk's point: the rows of the chunk behind the last rows of the one before, zeros at a
  sequence's first, and the stores of the stepped states of the eight pairs of heads.
-/
module

public import proofs.«01_k».proof.Proof.SsdArrays

@[expose] public section

set_option maxRecDepth 16384

open Idealize.ShloMosaic Idealize.ShloMosaic.TcCoe Idealize.SL.Sem
open Idealize.ShloMosaic.Pipeline (Dat)

namespace Cert.KernelSsdIdeal.Gen

open Cert.KernelSsdIdeal

noncomputable section

/-! The buffer of the rows, with the heads' inputs and the other columns put in. -/

def inputs (z : Vec Ideal S136x1536 .f32) (p : FVec Ideal S128x1024 .f32) : Vec Ideal S136x1536 .f32 :=
  VecWindow.put z ![8, 0] ![128, 1024] p

def others (z : Vec Ideal S136x1536 .f32) (p : FVec Ideal S128x512 .f32) : Vec Ideal S136x1536 .f32 :=
  VecWindow.put z ![8, 1024] ![128, 512] p

theorem inputs_apply (z : Vec Ideal S136x1536 .f32) (p : FVec Ideal S128x1024 .f32) (r : Fin 136) (i : Fin 128) (d : Fin 1536)
    (k : Fin 1024) (h : r.val = 8 + i.val) (e : d.val = k.val) : inputs z p (ix2 r d) = p (ix2 i k) :=
  (dif_pos (Fin.forall_fin_two.2 ⟨⟨by show 8 ≤ r.val; omega, by show r.val < 8 + 128; omega⟩,
    ⟨Nat.zero_le _, by show d.val < 0 + 1024; omega⟩⟩)).trans
    (congrArg p (funext (Fin.forall_fin_two.2 ⟨Fin.ext (by show r.val - 8 = i.val; omega), Fin.ext (by show d.val - 0 = k.val; omega)⟩)))

theorem inputs_old (z : Vec Ideal S136x1536 .f32) (p : FVec Ideal S128x1024 .f32) (r : Fin 136) (d : Fin 1536) (h : r.val < 8) :
    inputs z p (ix2 r d) = z (ix2 r d) :=
  dif_neg fun hh => by have h1 : 8 ≤ r.val := (hh 0).1; omega

theorem others_apply (z : Vec Ideal S136x1536 .f32) (p : FVec Ideal S128x512 .f32) (r : Fin 136) (i : Fin 128) (d : Fin 1536)
    (k : Fin 512) (h : r.val = 8 + i.val) (e : d.val = 1024 + k.val) : others z p (ix2 r d) = p (ix2 i k) :=
  (dif_pos (Fin.forall_fin_two.2 ⟨⟨by show 8 ≤ r.val; omega, by show r.val < 8 + 128; omega⟩,
    ⟨by show 1024 ≤ d.val; omega, by show d.val < 1024 + 512; omega⟩⟩)).trans
    (congrArg p (funext (Fin.forall_fin_two.2 ⟨Fin.ext (by show r.val - 8 = i.val; omega), Fin.ext (by show d.val - 1024 = k.val; omega)⟩)))

theorem others_old (z : Vec Ideal S136x1536 .f32) (p : FVec Ideal S128x512 .f32) (r : Fin 136) (d : Fin 1536)
    (h : r.val < 8 ∨ d.val < 1024) : others z p (ix2 r d) = z (ix2 r d) :=
  dif_neg fun hh => by
    have h1 : 8 ≤ r.val := (hh 0).1
    have h2 : 1024 ≤ d.val := (hh 1).1
    omega

theorem read_inputs {κ : Kind} {sp : Space} (v : View sig κ sp S136x1536 .f32) (f : v.ty.Contents (Elt Ideal))
    (p : FVec Ideal S128x1024 .f32) (inb) (L : List (View.Piece (Elt Ideal) S136x1536 .f32)) :
    v.read (Elt Ideal) (v.writes (Elt Ideal) f (⟨Rect.unit ![8, 0] ![128, 1024] inb, p⟩ :: L))
      = inputs (v.read (Elt Ideal) (v.writes (Elt Ideal) f L)) p :=
  View.read_writes_cons_put v f inb p L rfl

theorem read_others {κ : Kind} {sp : Space} (v : View sig κ sp S136x1536 .f32) (f : v.ty.Contents (Elt Ideal))
    (p : FVec Ideal S128x512 .f32) (inb) (L : List (View.Piece (Elt Ideal) S136x1536 .f32)) :
    v.read (Elt Ideal) (v.writes (Elt Ideal) f (⟨Rect.unit ![8, 1024] ![128, 512] inb, p⟩ :: L))
      = others (v.read (Elt Ideal) (v.writes (Elt Ideal) f L)) p :=
  View.read_writes_cons_put v f inb p L rfl

theorem read_all {κ : Kind} {sp : Space} (v : View sig κ sp S136x1536 .f32) (f : v.ty.Contents (Elt Ideal))
    (z : Vec Ideal S136x1536 .f32) (inb) (L : List (View.Piece (Elt Ideal) S136x1536 .f32)) :
    v.read (Elt Ideal) (v.writes (Elt Ideal) f (⟨Rect.unit ![0, 0] ![136, 1536] inb, z⟩ :: L)) = z :=
  View.read_writes_full v f inb z L

/-! The states, with those of a pair put in. -/

def putPair (z : Vec Ideal S8x128x128 .f32) (j : Nat) (p : FVec Ideal S1x128x128 .f32) : Vec Ideal S8x128x128 .f32 :=
  VecWindow.put z ![j, 0, 0] ![1, 128, 128] p

theorem putPair_same (z : Vec Ideal S8x128x128 .f32) (j : Fin 8) (p : FVec Ideal S1x128x128 .f32) (n q : Fin 128) :
    putPair z j.val p (ix3 j n q) = p (ix3 0 n q) :=
  (dif_pos fun a => by
    refine Fin.cases ?_ (fun a => Fin.cases ?_ (fun a => Fin.cases ?_ (fun a => a.elim0) a) a) a
    · exact ⟨le_refl _, Nat.lt_succ_self _⟩
    · exact ⟨Nat.zero_le _, by show n.val < 0 + 128; omega⟩
    · exact ⟨Nat.zero_le _, by show q.val < 0 + 128; omega⟩).trans
    (congrArg p (funext fun a => by
      refine Fin.cases ?_ (fun a => Fin.cases ?_ (fun a => Fin.cases ?_ (fun a => a.elim0) a) a) a
      · exact Fin.ext (Nat.sub_self j.val)
      · exact Fin.ext (Nat.sub_zero n.val)
      · exact Fin.ext (Nat.sub_zero q.val)))

theorem putPair_ne (z : Vec Ideal S8x128x128 .f32) (j : Nat) (k : Fin 8) (p : FVec Ideal S1x128x128 .f32) (n q : Fin 128)
    (h : k.val ≠ j) : putPair z j p (ix3 k n q) = z (ix3 k n q) :=
  dif_neg fun hh => h (by
    have h1 : j ≤ k.val := (hh 0).1
    have h2 : k.val < j + 1 := (hh 0).2
    omega)

theorem read_pair {κ : Kind} {sp : Space} (v : View sig κ sp S8x128x128 .f32) (f : v.ty.Contents (Elt Ideal)) (j : Nat)
    (p : FVec Ideal S1x128x128 .f32) (inb) (L : List (View.Piece (Elt Ideal) S8x128x128 .f32)) :
    v.read (Elt Ideal) (v.writes (Elt Ideal) f (⟨Rect.unit ![j, 0, 0] ![1, 128, 128] inb, p⟩ :: L))
      = putPair (v.read (Elt Ideal) (v.writes (Elt Ideal) f L)) j p :=
  View.read_writes_cons_put v f inb p L rfl

theorem read_states {κ : Kind} {sp : Space} (v : View sig κ sp S8x128x128 .f32) (f : v.ty.Contents (Elt Ideal))
    (z : Vec Ideal S8x128x128 .f32) (inb) (L : List (View.Piece (Elt Ideal) S8x128x128 .f32)) :
    v.read (Elt Ideal) (v.writes (Elt Ideal) f (⟨Rect.unit ![0, 0, 0] ![8, 128, 128] inb, z⟩ :: L)) = z :=
  View.read_writes_full v f inb z L

/-- A load after the stores reads what the buffer holds then. -/
theorem readCov_ld {κ : Kind} {sp : Space} {s : Shape} (v : View sig κ sp s .f32) (L : List (View.Piece (Elt Ideal) s .f32))
    (r : Rect s) :
    v.readCov (Val := Elt Ideal) L r.toLoadRect = View.ld (v.read (Elt Ideal) (v.writes (Elt Ideal) v.junk L)) r := rfl

/-- A pair's load does not see another pair's store. -/
theorem ld_putPair (z : Vec Ideal S8x128x128 .f32) (j k : Nat) (p : FVec Ideal S1x128x128 .f32) (inb) (h : k ≠ j) :
    View.ld (putPair z j p) (Rect.unit ![k, 0, 0] ![1, 128, 128] inb) = View.ld z (Rect.unit ![k, 0, 0] ![1, 128, 128] inb) :=
  funext fun i => dif_neg fun hh => h (by
    have h1 : j ≤ k + 1 * (i 0).val := (hh 0).1
    have h2 : k + 1 * (i 0).val < j + 1 := (hh 0).2
    have h3 : (i 0).val < 1 := (i 0).isLt
    omega)

/-- The load of all the states. -/
theorem ld_states (z : Vec Ideal S8x128x128 .f32) (inb) : View.ld z (Rect.unit ![0, 0, 0] ![8, 128, 128] inb) = z :=
  funext fun i => View.ld_unit_apply_of _ _ _ _ _ _ fun a => by
    refine Fin.cases ?_ (fun a => Fin.cases ?_ (fun a => Fin.cases ?_ (fun a => a.elim0) a) a) a
    · exact (Nat.zero_add _).symm
    · exact (Nat.zero_add _).symm
    · exact (Nat.zero_add _).symm

/-- A pair's states as its load gives them. -/
def own (h : Vec Ideal S8x128x128 .f32) (k : Nat) (inb : ∀ a, (![k, 0, 0] : Fin 3 → Nat) a + (![1, 128, 128] : Fin 3 → Nat) a ≤ S8x128x128.size a) :
    Vec Ideal S1x128x128 .f32 := View.ld h (Rect.unit ![k, 0, 0] ![1, 128, 128] inb)

theorem own_apply (h : Vec Ideal S8x128x128 .f32) (k : Fin 8) (inb) (n q : Fin 128) :
    own h k.val inb (ix3 0 n q) = h (ix3 k n q) :=
  View.ld_unit_apply_of _ _ _ _ _ _ fun a => by
    refine Fin.cases ?_ (fun a => Fin.cases ?_ (fun a => Fin.cases ?_ (fun a => a.elim0) a) a) a
    · rfl
    · exact (Nat.zero_add n.val).symm
    · exact (Nat.zero_add q.val).symm

theorem canon_pair (j : Nat) (p : FVec Ideal S1x128x128 .f32) (inb) (L : List (View.Piece (Elt Ideal) S8x128x128 .f32)) :
    View.canon (⟨Rect.unit ![j, 0, 0] ![1, 128, 128] inb, p⟩ :: L) = putPair (View.canon L) j p := by
  funext y
  obtain ⟨k, n, q, rfl⟩ : ∃ (k : Fin 8) (n q : Fin 128), y = ix3 k n q := ⟨y 0, y 1, y 2, eq_ix3 (n0 := 8) (n1 := 128) (n2 := 128) y⟩
  by_cases h : k.val = j
  · subst h
    have e : (ix3 k n q : S8x128x128.Idx) = (Rect.unit (s := S8x128x128) ![k.val, 0, 0] ![1, 128, 128] inb).emb (ix3 0 n q) :=
      funext fun a => by
        refine Fin.cases ?_ (fun a => Fin.cases ?_ (fun a => Fin.cases ?_ (fun a => a.elim0) a) a) a
        · exact Fin.ext (by show k.val = k.val + 1 * 0; omega)
        · exact Fin.ext (by show n.val = 0 + 1 * n.val; omega)
        · exact Fin.ext (by show q.val = 0 + 1 * q.val; omega)
    rw [putPair_same, e]
    exact View.canon_cons_emb (Rect.unit (s := S8x128x128) ![k.val, 0, 0] ![1, 128, 128] inb) p L (ix3 0 n q)
  · rw [putPair_ne _ _ _ _ _ _ h, View.canon_cons]
    refine Rect.overlay_of_not_mem _ _ _ fun hi => ?_
    have h0 := (Rect.mem_set_unit (inb := inb)).1 hi 0
    have h1 : j ≤ k.val := h0.1
    have h2 : k.val < j + 1 := h0.2
    omega

/-- A piece of rows at the buffer's start, read back. -/
theorem canon_start (w : FVec Ideal S8x1536 .f32) (inb) (L : List (View.Piece (Elt Ideal) S136x1536 .f32)) (r : Fin 136)
    (i : Fin 8) (d : Fin 1536) (h : r.val = i.val) :
    View.canon (⟨Rect.unit (s := S136x1536) ![0, 0] ![8, 1536] inb, w⟩ :: L) (ix2 r d) = w (ix2 i d) := by
  have e : (ix2 r d : S136x1536.Idx) = (Rect.unit (s := S136x1536) ![0, 0] ![8, 1536] inb).emb (ix2 i d) :=
    funext (Fin.forall_fin_two.2 ⟨Fin.ext (by show r.val = 0 + 1 * i.val; omega), Fin.ext (by show d.val = 0 + 1 * d.val; omega)⟩)
  have k := View.canon_cons_emb (Val := Elt Ideal) (e := .f32) (Rect.unit (s := S136x1536) ![0, 0] ![8, 1536] inb) w L (ix2 i d)
  rw [← e] at k
  exact k

/-- Past the earlier rows only the chunk's are read. -/
theorem ld_new (z z' : Vec Ideal S136x1536 .f32) (p : FVec Ideal S128x1024 .f32) (p' : FVec Ideal S128x512 .f32) (k n : Nat) (inb)
    (hk : 8 ≤ k) : View.ld (others (inputs z p) p') (Rect.unit ![k, 0] ![n, 1536] inb)
      = View.ld (others (inputs z' p) p') (Rect.unit ![k, 0] ![n, 1536] inb) := by
  have same : ∀ (r : Fin 136) (d : Fin 1536), 8 ≤ r.val →
      others (inputs z p) p' (ix2 r d) = others (inputs z' p) p' (ix2 r d) := fun r d hr => by
    by_cases hd : d.val < 1024
    · rw [others_old _ _ r d (Or.inr hd), others_old _ _ r d (Or.inr hd),
        inputs_apply _ _ r ⟨r.val - 8, by omega⟩ d ⟨d.val, hd⟩ (by show r.val = 8 + (r.val - 8); omega) rfl,
        inputs_apply _ _ r ⟨r.val - 8, by omega⟩ d ⟨d.val, hd⟩ (by show r.val = 8 + (r.val - 8); omega) rfl]
    · rw [others_apply _ _ r ⟨r.val - 8, by omega⟩ d ⟨d.val - 1024, by omega⟩ (by show r.val = 8 + (r.val - 8); omega)
          (by show d.val = 1024 + (d.val - 1024); omega),
        others_apply _ _ r ⟨r.val - 8, by omega⟩ d ⟨d.val - 1024, by omega⟩ (by show r.val = 8 + (r.val - 8); omega)
          (by show d.val = 1024 + (d.val - 1024); omega)]
  funext i
  have hb : k + (i 0).val < 136 := by
    have h1 : k + n ≤ 136 := inb 0
    have h2 : (i 0).val < n := (i 0).isLt
    omega
  have e : ∀ f : Vec Ideal S136x1536 .f32, View.ld f (Rect.unit ![k, 0] ![n, 1536] inb) i
      = f (ix2 ⟨k + (i 0).val, hb⟩ ⟨(i 1).val, (i 1).isLt⟩) := fun f =>
    View.ld_unit_apply_of _ _ _ _ _ _ (by exact Fin.forall_fin_two.2 ⟨rfl, (Nat.zero_add _).symm⟩)
  exact (e _).trans ((same _ _ (by show 8 ≤ k + (i 0).val; omega)).trans (e _).symm)

/-- All the states after the pairs' steps, stored over `z`. -/
def stepped (z : Vec Ideal S8x128x128 .f32) (xc : FVec Ideal S128x1536 .f32) (sp ac : FVec Ideal S128x128 .f32) (al : FVec Ideal S1x128 .f32)
    (h : Vec Ideal S8x128x128 .f32) : Vec Ideal S8x128x128 .f32 :=
  putPair (putPair (putPair (putPair (putPair (putPair (putPair (putPair z
    0 (pair0 xc sp ac al (own h 0 inb_S8x128x128_S1x128x128_0_0_0)))
    1 (pair1 xc sp ac al (own h 1 inb_S8x128x128_S1x128x128_1_0_0)))
    2 (pair2 xc sp ac al (own h 2 inb_S8x128x128_S1x128x128_2_0_0)))
    3 (pair3 xc sp ac al (own h 3 inb_S8x128x128_S1x128x128_3_0_0)))
    4 (pair4 xc sp ac al (own h 4 inb_S8x128x128_S1x128x128_4_0_0)))
    5 (pair5 xc sp ac al (own h 5 inb_S8x128x128_S1x128x128_5_0_0)))
    6 (pair6 xc sp ac al (own h 6 inb_S8x128x128_S1x128x128_6_0_0)))
    7 (pair7 xc sp ac al (own h 7 inb_S8x128x128_S1x128x128_7_0_0))

theorem stepped_apply (z : Vec Ideal S8x128x128 .f32) (xc : FVec Ideal S128x1536 .f32) (sp ac : FVec Ideal S128x128 .f32) (al : FVec Ideal S1x128 .f32)
    (h : Vec Ideal S8x128x128 .f32) (j : Fin 8) (n q : Fin 128) :
    stepped z xc sp ac al h (ix3 j n q) = step xc (sizes sp) ac al j n q (h (ix3 j n q)) := by
  have same : ∀ (z : Vec Ideal S8x128x128 .f32) (k : Fin 8) (p : FVec Ideal S1x128x128 .f32) (inb)
      (_ : p (ix3 0 n q) = step xc (sizes sp) ac al k n q (own h k.val inb (ix3 0 n q))),
      putPair z k.val p (ix3 k n q) = step xc (sizes sp) ac al k n q (h (ix3 k n q)) := fun z k p inb e =>
    (putPair_same z k p n q).trans (e.trans (congrArg _ (own_apply h k inb n q)))
  unfold stepped
  match j with
  | ⟨7, _⟩ => exact same _ ⟨7, _⟩ _ _ (pair7_apply xc sp ac al _ n q)
  | ⟨6, _⟩ =>
    rw [putPair_ne _ 7 _ _ _ _ (by simp)]
    exact same _ ⟨6, _⟩ _ _ (pair6_apply xc sp ac al _ n q)
  | ⟨5, _⟩ =>
    rw [putPair_ne _ 7 _ _ _ _ (by simp), putPair_ne _ 6 _ _ _ _ (by simp)]
    exact same _ ⟨5, _⟩ _ _ (pair5_apply xc sp ac al _ n q)
  | ⟨4, _⟩ =>
    rw [putPair_ne _ 7 _ _ _ _ (by simp), putPair_ne _ 6 _ _ _ _ (by simp), putPair_ne _ 5 _ _ _ _ (by simp)]
    exact same _ ⟨4, _⟩ _ _ (pair4_apply xc sp ac al _ n q)
  | ⟨3, _⟩ =>
    rw [putPair_ne _ 7 _ _ _ _ (by simp), putPair_ne _ 6 _ _ _ _ (by simp), putPair_ne _ 5 _ _ _ _ (by simp),
      putPair_ne _ 4 _ _ _ _ (by simp)]
    exact same _ ⟨3, _⟩ _ _ (pair3_apply xc sp ac al _ n q)
  | ⟨2, _⟩ =>
    rw [putPair_ne _ 7 _ _ _ _ (by simp), putPair_ne _ 6 _ _ _ _ (by simp), putPair_ne _ 5 _ _ _ _ (by simp),
      putPair_ne _ 4 _ _ _ _ (by simp), putPair_ne _ 3 _ _ _ _ (by simp)]
    exact same _ ⟨2, _⟩ _ _ (pair2_apply xc sp ac al _ n q)
  | ⟨1, _⟩ =>
    rw [putPair_ne _ 7 _ _ _ _ (by simp), putPair_ne _ 6 _ _ _ _ (by simp), putPair_ne _ 5 _ _ _ _ (by simp),
      putPair_ne _ 4 _ _ _ _ (by simp), putPair_ne _ 3 _ _ _ _ (by simp), putPair_ne _ 2 _ _ _ _ (by simp)]
    exact same _ ⟨1, _⟩ _ _ (pair1_apply xc sp ac al _ n q)
  | ⟨0, _⟩ =>
    rw [putPair_ne _ 7 _ _ _ _ (by simp), putPair_ne _ 6 _ _ _ _ (by simp), putPair_ne _ 5 _ _ _ _ (by simp),
      putPair_ne _ 4 _ _ _ _ (by simp), putPair_ne _ 3 _ _ _ _ (by simp), putPair_ne _ 2 _ _ _ _ (by simp),
      putPair_ne _ 1 _ _ _ _ (by simp)]
    exact same _ ⟨0, _⟩ _ _ (pair0_apply xc sp ac al _ n q)

theorem stepped_over (z z' : Vec Ideal S8x128x128 .f32) (xc : FVec Ideal S128x1536 .f32) (sp ac : FVec Ideal S128x128 .f32)
    (al : FVec Ideal S1x128 .f32) (h : Vec Ideal S8x128x128 .f32) : stepped z xc sp ac al h = stepped z' xc sp ac al h := by
  funext y
  obtain ⟨k, n, q, rfl⟩ : ∃ (k : Fin 8) (n q : Fin 128), y = ix3 k n q := ⟨y 0, y 1, y 2, eq_ix3 (n0 := 8) (n1 := 128) (n2 := 128) y⟩
  rw [stepped_apply, stepped_apply]

end

end Cert.KernelSsdIdeal.Gen
-- ==== Proof.SsdScan.lean ====
/-
  The state-space mixer of the prompt, the chunks' points in order: the last rows and the states a point leaves to the next, and the
  states of a sequence's last point.
-/
module

public import proofs.«01_k».proof.Proof.SsdStores

@[expose] public section

set_option maxRecDepth 16384
set_option maxHeartbeats 800000

open Idealize.ShloMosaic Idealize.ShloMosaic.TcCoe Idealize.SL.Sem
open Idealize.ShloMosaic.Pipeline (Dat)

namespace Cert.KernelSsdIdeal.Gen

open Cert.KernelSsdIdeal

noncomputable section

variable (m : (ℓ : Loc nD τ sig) → (ℓ : Loc nD τ sig).ty.Contents (Elt Ideal)) (c : Dev nD)

/-- What the buffer of rows and the states held before a point: zeros at a sequence's first. -/
def earlier (t : Fin cfg0.N) : Vec Ideal S136x1536 .f32 :=
  if t.val % 64 = 0 then k0_pay3 (F := Ideal) else (outsAt0 m c (t.val - 1) (Nat.lt_of_le_of_lt (Nat.sub_le _ _) t.isLt)).2.2.1

def before (t : Fin cfg0.N) : Vec Ideal S8x128x128 .f32 :=
  if t.val % 64 = 0 then k0_pay4 (F := Ideal) else (outsAt0 m c (t.val - 1) (Nat.lt_of_le_of_lt (Nat.sub_le _ _) t.isLt)).2.2.2

/-- What the buffer holds when the point convolves. -/
def held (t : Fin cfg0.N) : Vec Ideal S136x1536 .f32 :=
  others (inputs (earlier m c t) (k0_pay5 (X0_1 m c t))) (k0_pay6 (iblk m c 2 t))

/-- The point's convolved rows, and what the step sizes are chosen from. -/
def rows (t : Fin cfg0.N) : FVec Ideal S128x1536 .f32 :=
  k0_pay9 (k0_pay7 (iblk m c 5 t) (View.ld (iblk m c 4 t) (Rect.unit ![0, 0] ![1, 1536] inb_S4x1536_S1x1536_0_0))
      (View.ld (held m c t) (Rect.unit ![5, 0] ![128, 1536] inb_S136x1536_S128x1536_5_0))
      (View.ld (iblk m c 4 t) (Rect.unit ![1, 0] ![1, 1536] inb_S4x1536_S1x1536_1_0))
      (View.ld (held m c t) (Rect.unit ![6, 0] ![128, 1536] inb_S136x1536_S128x1536_6_0)))
    (View.ld (held m c t) (Rect.unit ![7, 0] ![128, 1536] inb_S136x1536_S128x1536_7_0))
    (k0_pay8 (View.ld (iblk m c 4 t) (Rect.unit ![2, 0] ![1, 1536] inb_S4x1536_S1x1536_2_0)))
    (View.ld (iblk m c 4 t) (Rect.unit ![3, 0] ![1, 1536] inb_S4x1536_S1x1536_3_0))
    (View.ld (held m c t) (Rect.unit ![8, 0] ![128, 1536] inb_S136x1536_S128x1536_8_0))

def softs (t : Fin cfg0.N) : FVec Ideal S128x128 .f32 := k0_pay11 (iblk m c 3 t) (iblk m c 6 t)

/-- The states after a point. -/
def scanned (t : Fin cfg0.N) : Vec Ideal S8x128x128 .f32 :=
  stepped (k0_pay4 (F := Ideal)) (rows m c t) (softs m c t) (k0_pay14 lanes lines (softs m c t) (iblk m c 7 t))
    (k0_pay16 lanes lines (softs m c t) (iblk m c 7 t)) (before m c t)

theorem read_start {κ : Kind} {sp : Space} {s : Shape} (v : View sig κ sp s .f32) (f : v.ty.Contents (Elt Ideal)) :
    v.read (Elt Ideal) (v.writes (Elt Ideal) f []) = v.read (Elt Ideal) f := rfl

/-- A sequence's last point leaves its states. -/
theorem last_eq (t : Fin cfg0.N) (h1 : t.val % 64 = 63) : (outsAt0 m c t.val t.isLt).2.1 = k0_pay2 (F := Ideal) (scanned m c t) := by
  have h0 : ¬ t.val % 64 = 0 := by omega
  rw [outsAt0_C m c t h0 h1]
  frame_out
  simp (disch := decide) only [readCov_ld, read_pair, read_states, ld_putPair, read_others, read_inputs, read_all, ld_states, read_start, read_unread_whole, canon_pair]
  rw [ld_new _ (outsAt0 m c (t.val - 1) (Nat.lt_of_le_of_lt (Nat.sub_le _ _) t.isLt)).2.2.1 _ _ 8 128 _ le_rfl]
  unfold scanned rows held earlier before softs
  rw [if_neg h0, if_neg h0]
  refine congrArg (k0_pay2 (F := Ideal)) ?_
  refine Eq.trans ?_ (stepped_over ?_ _ _ _ _ _ _)
  unfold stepped pair0 pair1 pair2 pair3 pair4 pair5 pair6 pair7 own
  rfl

theorem states_first (t : Fin cfg0.N) (h0 : t.val % 64 = 0) (h1 : ¬ t.val % 64 = 63) : (outsAt0 m c t.val t.isLt).2.2.2 = scanned m c t := by
  rw [outsAt0_A m c t h0 h1]
  frame_out
  simp (disch := decide) only [readCov_ld, read_pair, read_states, ld_putPair, read_others, read_inputs, read_all, ld_states, read_start, read_unread_whole, canon_pair]
  unfold scanned rows held earlier before softs
  rw [if_pos h0, if_pos h0]
  refine Eq.trans ?_ (stepped_over ?_ _ _ _ _ _ _)
  unfold stepped pair0 pair1 pair2 pair3 pair4 pair5 pair6 pair7 own
  rfl

theorem states_later (t : Fin cfg0.N) (h0 : ¬ t.val % 64 = 0) (h1 : ¬ t.val % 64 = 63) : (outsAt0 m c t.val t.isLt).2.2.2 = scanned m c t := by
  rw [outsAt0_B m c t h0 h1]
  frame_out
  simp (disch := decide) only [readCov_ld, read_pair, read_states, ld_putPair, read_others, read_inputs, read_all, ld_states, read_start, read_unread_whole, canon_pair]
  rw [ld_new _ (outsAt0 m c (t.val - 1) (Nat.lt_of_le_of_lt (Nat.sub_le _ _) t.isLt)).2.2.1 _ _ 8 128 _ le_rfl]
  unfold scanned rows held earlier before softs
  rw [if_neg h0, if_neg h0]
  refine Eq.trans ?_ (stepped_over ?_ _ _ _ _ _ _)
  unfold stepped pair0 pair1 pair2 pair3 pair4 pair5 pair6 pair7 own
  rfl

/-- The states left to the next point. -/
theorem states_eq (t : Fin cfg0.N) (h1 : ¬ t.val % 64 = 63) : (outsAt0 m c t.val t.isLt).2.2.2 = scanned m c t := by
  by_cases h0 : t.val % 64 = 0
  · exact states_first m c t h0 h1
  · exact states_later m c t h0 h1

/-- The rows kept for the next point are the buffer's last ones. -/
theorem kept_eq (t : Fin cfg0.N) (h1 : ¬ t.val % 64 = 63) (r : Fin 136) (i : Fin 8) (d : Fin 1536) (h : r.val = i.val) :
    (outsAt0 m c t.val t.isLt).2.2.1 (ix2 r d) = held m c t (ix2 ⟨128 + i.val, by omega⟩ d) := by
  have tail : ∀ s : Vec Ideal S8x1536 .f32, k0_pay10 s (ix2 i d) = s (ix2 i d) := fun s => by pointwise [k0_pay10]
  have ld : View.ld (held m c t) (Rect.unit ![128, 0] ![8, 1536] inb_S136x1536_S8x1536_128_0) (ix2 i d)
      = held m c t (ix2 ⟨128 + i.val, by omega⟩ d) :=
    View.ld_unit_apply_of _ _ _ _ _ _ (by exact Fin.forall_fin_two.2 ⟨rfl, (Nat.zero_add d.val).symm⟩)
  refine Eq.trans ?_ ld
  by_cases h0 : t.val % 64 = 0
  · rw [outsAt0_A m c t h0 h1]
    frame_out
    rw [canon_start _ _ _ r i d h, tail]
    simp only [readCov_ld, read_others, read_inputs, read_all]
    unfold held earlier
    rw [if_pos h0]
  · rw [outsAt0_B m c t h0 h1]
    frame_out
    rw [canon_start _ _ _ r i d h, tail]
    simp only [readCov_ld, read_others, read_inputs, read_all]
    rw [ld_new _ (earlier m c t) _ _ 128 8 _ (by decide)]
    rfl

end

end Cert.KernelSsdIdeal.Gen
-- ==== Proof.SsdValue.lean ====
/-
  The state-space mixer of the prompt, the kernel's state: the buffer at a point holds the sequence's rows, and the states after a
  point are those carried over the sequence's chunks.
-/
module

public import proofs.«01_k».proof.Proof.SsdScan

@[expose] public section

set_option maxRecDepth 16384

open Idealize.ShloMosaic Idealize.ShloMosaic.TcCoe Idealize.SL.Sem
open Idealize.ShloMosaic.Pipeline (Dat)

namespace Cert.KernelSsdIdeal.Gen

open Cert.KernelSsdIdeal

noncomputable section

variable (m : (ℓ : Loc nD τ sig) → (ℓ : Loc nD τ sig).ty.Contents (Elt Ideal)) (c : Dev nD)

/-- A sequence's rows, and the layer's parameters. -/
def new (s : Fin 2) (n : Fin 8192) (d : Fin 4608) : EReal :=
  (show FVec Ideal S16384x4608 .f32 from m ((c : Thread nD τ).loc main_arg0)) (ix2 (place s n) d)

def taps (k : Fin 4) (d : Fin 1536) : EReal := (show FVec Ideal S4x1536 .f32 from m ((c : Thread nD τ).loc main_arg1)) (ix2 k d)

def bias (d : Fin 1536) : EReal := (show FVec Ideal S1536 .f32 from m ((c : Thread nD τ).loc main_arg2)) (ix1 d)

def shift (e : Fin 16) : EReal := (show FVec Ideal S16 .f32 from m ((c : Thread nD τ).loc main_arg3)) (ix1 e)

def rate (e : Fin 16) : EReal := (show FVec Ideal S16 .f32 from m ((c : Thread nD τ).loc main_arg4)) (ix1 e)

theorem new_row (t : Fin cfg0.N) (i : Fin 128) (d : Fin 4608) :
    m ((c : Thread nD τ).loc main_arg0) (ix2 (rowOf t i) d) = new m c (seq t) (Ssd.row (t.val % 64) i) d := by
  rw [rowOf_eq]
  rfl

/-- The rows of a point's chunk in the buffer. -/
theorem held_new (t : Fin cfg0.N) (r : Fin 136) (d : Fin 1536) (h : 8 ≤ r.val) :
    held m c t (ix2 r d) = Ssd.behind (new m c (seq t)) (128 * (t.val % 64) + r.val - 5) d := by
  have hr : (Ssd.row (t.val % 64) ⟨r.val - 8, by omega⟩).val = 128 * (t.val % 64) + r.val - 5 - 3 := by
    show (128 * (t.val % 64) + (r.val - 8)) % 8192 = _
    omega
  have hb : Ssd.behind (new m c (seq t)) (128 * (t.val % 64) + r.val - 5) d
      = new m c (seq t) (Ssd.row (t.val % 64) ⟨r.val - 8, by omega⟩) ⟨1024 + d.val, by omega⟩ := by
    unfold Ssd.behind
    rw [if_neg (by omega), dif_pos (by omega)]
    exact congrArg (fun n => new m c (seq t) n _) (Fin.ext hr.symm)
  rw [hb, ← new_row]
  unfold held
  by_cases hd : d.val < 1024
  · have e : ∀ v : Vec Ideal S1x128x1024 .f32, k0_pay5 v (ix2 ⟨r.val - 8, by omega⟩ ⟨d.val, hd⟩) = v (ix3 0 ⟨r.val - 8, by omega⟩ ⟨d.val, hd⟩) :=
      fun v => by pointwise [k0_pay5]
    rw [others_old _ _ r d (Or.inr hd), inputs_apply _ _ r ⟨r.val - 8, by omega⟩ d ⟨d.val, hd⟩ (by show r.val = 8 + (r.val - 8); omega) rfl]
    exact (e _).trans (x_apply m c t _ _)
  · have e : ∀ v : Vec Ideal S1x128x512 .f32, k0_pay6 v (ix2 ⟨r.val - 8, by omega⟩ ⟨d.val - 1024, by omega⟩)
        = v (ix3 0 ⟨r.val - 8, by omega⟩ ⟨d.val - 1024, by omega⟩) := fun v => by pointwise [k0_pay6]
    rw [others_apply _ _ r ⟨r.val - 8, by omega⟩ d ⟨d.val - 1024, by omega⟩ (by show r.val = 8 + (r.val - 8); omega)
      (by show d.val = 1024 + (d.val - 1024); omega)]
    refine (e _).trans ((bc_apply m c t _ _).trans ?_)
    exact congrArg (fun k => (show FVec Ideal S16384x4608 .f32 from m ((c : Thread nD τ).loc main_arg0)) (ix2 _ k))
      (Fin.ext (by show 2048 + (d.val - 1024) = 1024 + d.val; omega))

/-- The buffer at a point holds the sequence's rows up to the chunk's last. -/
theorem held_apply (n : Nat) : ∀ (hn : n < cfg0.N) (r : Fin 136) (d : Fin 1536) (_ : 5 ≤ r.val),
    held m c ⟨n, hn⟩ (ix2 r d) = Ssd.behind (new m c (seq ⟨n, hn⟩)) (128 * (n % 64) + r.val - 5) d := by
  have first : ∀ (t : Fin cfg0.N) (_ : t.val % 64 = 0) (r : Fin 136) (d : Fin 1536), 5 ≤ r.val →
      held m c t (ix2 r d) = Ssd.behind (new m c (seq t)) (128 * (t.val % 64) + r.val - 5) d := fun t h0 r d h5 => by
    by_cases h : 8 ≤ r.val
    · exact held_new m c t r d h
    · unfold held earlier Ssd.behind
      rw [if_pos h0, others_old _ _ r d (Or.inl (by omega)), inputs_old _ _ r d (by omega), if_pos (by omega)]
      pointwise [k0_pay3]
  induction n with
  | zero => exact fun hn r d h5 => first ⟨0, hn⟩ rfl r d h5
  | succ n ih =>
    intro hn r d h5
    by_cases h0 : (n + 1) % 64 = 0
    · exact first ⟨n + 1, hn⟩ h0 r d h5
    · by_cases h : 8 ≤ r.val
      · exact held_new m c ⟨n + 1, hn⟩ r d h
      · unfold held
        rw [others_old _ _ r d (Or.inl (by omega)), inputs_old _ _ r d (by omega)]
        unfold earlier
        rw [if_neg h0]
        refine (kept_eq m c ⟨n, Nat.lt_of_succ_lt hn⟩ (by show ¬ n % 64 = 63; omega) r ⟨r.val, by omega⟩ d rfl).trans
          ((ih (Nat.lt_of_succ_lt hn) _ d (by show 5 ≤ 128 + r.val; omega)).trans ?_)
        have es : seq ⟨n, Nat.lt_of_succ_lt hn⟩ = seq ⟨n + 1, hn⟩ := Fin.ext (by show n / 64 = (n + 1) / 64; omega)
        have eq : 128 * (n % 64) + (128 + r.val) - 5 = 128 * ((n + 1) % 64) + r.val - 5 := by omega
        rw [es]
        exact congrArg (fun q => Ssd.behind _ q d) eq

/-- A row of the chunk after the convolution. -/
theorem rows_apply (t : Fin cfg0.N) (l : Fin 128) (d : Fin 1536) : rows m c t (ix2 l d)
    = Ssd.scanned (new m c (seq t)) (taps m c) (bias m c) (Ssd.row (t.val % 64) l).val d := by
  have hw : ∀ (k : Fin 4) (inb), View.ld (iblk m c 4 t) (Rect.unit ![k.val, 0] ![1, 1536] inb) (ix2 0 d) = taps m c k d := fun k inb =>
    (View.ld_unit_apply_of _ _ _ _ _ (ix2 k d) (by exact Fin.forall_fin_two.2 ⟨rfl, (Nat.zero_add d.val).symm⟩)).trans (cw_apply m c t k d)
  have hl : (Ssd.row (t.val % 64) l).val = 128 * (t.val % 64) + l.val := by
    show (128 * (t.val % 64) + l.val) % 8192 = _
    omega
  have hx : ∀ (k : Nat) (hk : k < 4) (inb), View.ld (held m c t) (Rect.unit ![5 + k, 0] ![128, 1536] inb) (ix2 l d)
      = Ssd.behind (new m c (seq t)) (k + (Ssd.row (t.val % 64) l).val) d := fun k hk inb =>
    (View.ld_unit_apply_of _ _ _ _ _ (ix2 ⟨5 + (k + l.val), by omega⟩ d)
      (by exact Fin.forall_fin_two.2 ⟨Nat.add_assoc 5 k l.val |>.symm, (Nat.zero_add d.val).symm⟩)).trans
      ((held_apply m c t.val t.isLt _ d (by show 5 ≤ 5 + (k + l.val); omega)).trans (congrArg (fun q => Ssd.behind _ q d)
        (by rw [hl]; show 128 * (t.val % 64) + (5 + (k + l.val)) - 5 = k + (128 * (t.val % 64) + l.val); omega)))
  unfold rows
  refine (conv_apply _ _ _ _ _ _ _ _ _ _ _).trans ?_
  unfold Ssd.scanned Ssd.conv
  refine congrArg Conf.silu (congrArg₂ (fun x y : EReal => x + y) (cb_apply m c t d) (congrArg₂ (fun x y : EReal => x + y)
    (congrArg₂ (fun x y : EReal => x + y) (congrArg₂ (fun x y : EReal => x + y) ?_ ?_) ?_) ?_))
  · exact congrArg₂ (fun x y : EReal => x * y) (hw 0 _) (hx 0 (by omega) _)
  · exact congrArg₂ (fun x y : EReal => x * y) (hw 1 _) (hx 1 (by omega) _)
  · exact congrArg₂ (fun x y : EReal => x * y) (hw 2 _) (hx 2 (by omega) _)
  · exact congrArg₂ (fun x y : EReal => x * y) (hw 3 _) (hx 3 (by omega) _)

/-- A point's states: the earlier ones decayed, and the chunk's contributions. -/
theorem scanned_step (t : Fin cfg0.N) (j : Fin 8) (n q : Fin 128) : scanned m c t (ix3 j n q)
    = Ideal.exp (Ssd.decayOf (new m c (seq t)) (shift m c) (rate m c) (Ssd.head j q) (t.val % 64)) * before m c t (ix3 j n q)
      + Ssd.chunkOf (new m c (seq t)) (taps m c) (bias m c) (shift m c) (rate m c) j n q (t.val % 64) := by
  have col : column j q = (Ssd.head j q).castLE (by decide) := rfl
  have size : ∀ l : Fin 128, sizes (softs m c t) (ix2 l (column j q))
      = Ssd.sizesOf (new m c (seq t)) (shift m c) (Ssd.head j q) (t.val % 64) l := fun l => by
    refine (size_apply _ _ l (column j q) (by show 2 * j.val + q.val / 64 < 16; omega)).trans ?_
    rw [dt_apply m c t _ _, col, dtb_apply m c t _]
    exact congrArg (fun v : EReal => Ssd.softplus (v + shift m c (Ssd.head j q))) (new_row m c t l _)
  unfold scanned
  refine (stepped_apply _ _ _ _ _ _ j n q).trans ((step_eq _ _ _ _ j n q _ (-Ideal.exp (rate m c (Ssd.head j q)))
    (Ssd.sizesOf (new m c (seq t)) (shift m c) (Ssd.head j q) (t.val % 64)) size (fun l => ?_) (last_apply _ _ _)).trans ?_)
  · rw [decay_apply, funext size, col, alog_apply m c t _]
    rfl
  · unfold Ssd.decayOf Ssd.chunkOf
    simp only [rows_apply]

/-- The states after a point are those carried over the sequence's chunks. -/
theorem scanned_apply (k : Nat) : ∀ (hk : k < cfg0.N) (j : Fin 8) (n q : Fin 128), scanned m c ⟨k, hk⟩ (ix3 j n q)
    = Ssd.scanState (new m c (seq ⟨k, hk⟩)) (taps m c) (bias m c) (shift m c) (rate m c) j n q (k % 64) := by
  have first : ∀ (t : Fin cfg0.N) (_ : t.val % 64 = 0) (j : Fin 8) (n q : Fin 128), scanned m c t (ix3 j n q)
      = Ssd.scanState (new m c (seq t)) (taps m c) (bias m c) (shift m c) (rate m c) j n q (t.val % 64) := fun t h0 j n q => by
    rw [scanned_step]
    unfold before
    rw [if_pos h0, h0]
    have z : (k0_pay4 (F := Ideal)) (ix3 j n q) = 0 := by pointwise [k0_pay4]
    rw [z]
    rfl
  induction k with
  | zero => exact fun hk j n q => first ⟨0, hk⟩ rfl j n q
  | succ k ih =>
    intro hk j n q
    by_cases h0 : (k + 1) % 64 = 0
    · exact first ⟨k + 1, hk⟩ h0 j n q
    · have es : seq ⟨k, Nat.lt_of_succ_lt hk⟩ = seq ⟨k + 1, hk⟩ := Fin.ext (by show k / 64 = (k + 1) / 64; omega)
      have ek : (k + 1) % 64 = k % 64 + 1 := by omega
      have eb : before m c ⟨k + 1, hk⟩ (ix3 j n q)
          = Ssd.scanState (new m c (seq ⟨k + 1, hk⟩)) (taps m c) (bias m c) (shift m c) (rate m c) j n q (k % 64) := by
        unfold before
        rw [if_neg h0, ← es, ← ih (Nat.lt_of_succ_lt hk) j n q]
        exact congrFun (states_eq m c ⟨k, Nat.lt_of_succ_lt hk⟩ (by show ¬ k % 64 = 63; omega)) _
      rw [scanned_step, eb]
      show Ideal.exp (Ssd.decayOf _ _ _ _ ((k + 1) % 64)) * _ + Ssd.chunkOf _ _ _ _ _ _ _ _ ((k + 1) % 64) = _
      rw [ek]
      rfl

/-- The array of the states. -/
theorem result11_eq (G : FVec Ideal S2x8x128x128 .f32)
    (hG : ∀ (s : Fin 2) (j : Fin 8) (n q : Fin 128), G (ix4 s j n q)
      = Ssd.scanState (new m c s) (taps m c) (bias m c) (shift m c) (rate m c) j n q 63) :
    (dats m 0 c).arrAt 11 cfg0.N = G := by
  refine (dats m 0 c).arrAt_eq_of_covers 11 _ (by decide +kernel) fun t hf y => ?_
  blk_simp
  rw [after0_11]
  have h1 := (flush0_11 t).mp hf
  obtain ⟨o, j, n, q, rfl⟩ : ∃ (o : Fin 1) (j : Fin 8) (n q : Fin 128), y = ix4 o j n q :=
    ⟨y 0, y 1, y 2, y 3, eq_ix4 (n0 := 1) (n1 := 8) (n2 := 128) (n3 := 128) y⟩
  obtain rfl : o = 0 := Subsingleton.elim _ _
  refine Eq.trans ?_ ((hG _ _ _ _).symm.trans (congrArg G (emb_apply t j n q).symm))
  rw [last_eq m c t h1]
  have cast : ∀ s : Vec Ideal S8x128x128 .f32, k0_pay2 s (ix4 0 j n q) = s (ix3 j n q) := fun s => by pointwise [k0_pay2]
  refine (cast _).trans ((scanned_apply m c t.val t.isLt j n q).trans ?_)
  rw [h1]

end

end Cert.KernelSsdIdeal.Gen
-- ==== Proof.SsdRef.lean ====
/-
  The state-space mixer of the prompt, the reference: its convolved rows, step sizes and decays at an entry, the chunks'
  contributions, and the state as their sum.
-/
module

public import proofs.«01_k».proof.Proof.SsdScanSpec
public import proofs.«01_k».proof.Proof.Gen.ReferenceSsdIdeal.Run
public import Idealize.ShloMosaic.Lib.Pipeline.ValueKit

@[expose] public section

set_option maxRecDepth 16384

open Idealize.ShloMosaic Idealize.ShloMosaic.TcCoe Idealize.SL.Sem

noncomputable section

namespace Cert.ReferenceSsdIdeal.Value

open Cert.ReferenceSsdIdeal Cert.ReferenceSsdIdeal.Gen

variable (p : FVec Ideal S16384x4608 .f32) (cw : FVec Ideal S4x1536 .f32) (cb : FVec Ideal S1536 .f32) (dtb al : FVec Ideal S16 .f32)

/-- The sequences' columns behind three rows of zeros. -/
def window : FVec Ideal S2x8195x1536 .f32 :=
  concatenate S2x8195x1536 1 [⟨S2x3x1536, broadcastInDim S2x3x1536 ![] bcast_S_S2x3x1536 (constant S_ .f32 0x00000000#32)⟩,
    ⟨S2x8192x1536, extractStridedSlice S2x8192x1536 ![0, 0, 1024] (shapeCast _ p shapeCasts_S16384x4608_S2x8192x4608)
      slices_S2x8192x4608_S2x8192x1536_0_0_1024⟩] concatenates_S2x3x1536_S2x8192x1536_S2x8195x1536_d1

/-- The convolution's sum. -/
def summed : FVec Ideal S2x8192x1536 .f32 :=
  addf (addf (addf (addf (addf (broadcastInDim S2x8192x1536 ![] bcast_S_S2x8192x1536 (constant S_ .f32 0x00000000#32))
    (mulf (extractStridedSlice S2x8192x1536 ![0, 0, 0] (window p) slices_S2x8195x1536_S2x8192x1536_0_0_0) (broadcastInDim S2x8192x1536 ![0, 1, 2] bcast_S1x1x1536_S2x8192x1536_0_1_2 (broadcastInDim S1x1x1536 ![2] bcast_S1536_S1x1x1536_2 (shapeCast _ (extractStridedSlice S1x1536 ![0, 0] cw slices_S4x1536_S1x1536_0_0) shapeCasts_S1x1536_S1536)))))
    (mulf (extractStridedSlice S2x8192x1536 ![0, 1, 0] (window p) slices_S2x8195x1536_S2x8192x1536_0_1_0) (broadcastInDim S2x8192x1536 ![0, 1, 2] bcast_S1x1x1536_S2x8192x1536_0_1_2 (broadcastInDim S1x1x1536 ![2] bcast_S1536_S1x1x1536_2 (shapeCast _ (extractStridedSlice S1x1536 ![1, 0] cw slices_S4x1536_S1x1536_1_0) shapeCasts_S1x1536_S1536)))))
    (mulf (extractStridedSlice S2x8192x1536 ![0, 2, 0] (window p) slices_S2x8195x1536_S2x8192x1536_0_2_0) (broadcastInDim S2x8192x1536 ![0, 1, 2] bcast_S1x1x1536_S2x8192x1536_0_1_2 (broadcastInDim S1x1x1536 ![2] bcast_S1536_S1x1x1536_2 (shapeCast _ (extractStridedSlice S1x1536 ![2, 0] cw slices_S4x1536_S1x1536_2_0) shapeCasts_S1x1536_S1536)))))
    (mulf (extractStridedSlice S2x8192x1536 ![0, 3, 0] (window p) slices_S2x8195x1536_S2x8192x1536_0_3_0) (broadcastInDim S2x8192x1536 ![0, 1, 2] bcast_S1x1x1536_S2x8192x1536_0_1_2 (broadcastInDim S1x1x1536 ![2] bcast_S1536_S1x1x1536_2 (shapeCast _ (extractStridedSlice S1x1536 ![3, 0] cw slices_S4x1536_S1x1536_3_0) shapeCasts_S1x1536_S1536)))))
    (broadcastInDim S2x8192x1536 ![0, 1, 2] bcast_S1x1x1536_S2x8192x1536_0_1_2 (broadcastInDim S1x1x1536 ![2] bcast_S1536_S1x1x1536_2 cb))

/-- The activated rows. -/
def rows : FVec Ideal S2x8192x1536 .f32 :=
  mulf (summed p cw cb) (Host.divf (broadcastInDim S2x8192x1536 ![] bcast_S_S2x8192x1536 (constant S_ .f32 0x3F800000#32))
    (addf (broadcastInDim S2x8192x1536 ![] bcast_S_S2x8192x1536 (constant S_ .f32 0x3F800000#32))
      (Host.exp (Host.negf (summed p cw cb)))))

/-- What the softplus is taken of. -/
def biased : FVec Ideal S2x8192x16 .f32 :=
  addf (extractStridedSlice S2x8192x16 ![0, 0, 4352] (shapeCast _ p shapeCasts_S16384x4608_S2x8192x4608) slices_S2x8192x4608_S2x8192x16_0_0_4352)
    (broadcastInDim S2x8192x16 ![0, 1, 2] bcast_S1x1x16_S2x8192x16_0_1_2 (broadcastInDim S1x1x16 ![2] bcast_S16_S1x1x16_2 dtb))

def zeros : FVec Ideal S2x8192x16 .f32 := broadcastInDim S2x8192x16 ![] bcast_S_S2x8192x16 (constant S_ .f32 0x00000000#32)

/-- The step sizes by chunk. -/
def sizes : FVec Ideal S128x128x16 .f32 :=
  shapeCast _ (select (cmpf .une (subf (biased p dtb) zeros) (subf (biased p dtb) zeros)) (addf (biased p dtb) zeros)
    (addf (maximumf (biased p dtb) zeros) (Host.log1p (Host.exp (Host.negf (Host.absf (subf (biased p dtb) zeros)))))))
    shapeCasts_S2x8192x16_S128x128x16

/-- The step sizes times the rates. -/
def rates : FVec Ideal S128x128x16 .f32 :=
  mulf (sizes p dtb) (broadcastInDim S128x128x16 ![0, 1, 2] bcast_S1x1x16_S128x128x16_0_1_2
    (broadcastInDim S1x1x16 ![2] bcast_S16_S1x1x16_2 (Host.negf (Host.exp al))))

/-- Their sums up to each row of a chunk. -/
def decays : FVec Ideal S128x128x16 .f32 :=
  Host.reduceAdd (select (broadcastInDim S128x128x128x16 ![0, 1, 2, 3] bcast_S1x128x128x1_S128x128x128x16_0_1_2_3 (broadcastInDim S1x128x128x1 ![1, 2] bcast_S128x128_S1x128x128x1_1_2
      (cmpi .sge (broadcastInDim S128x128 ![0, 1] bcast_S128x1_S128x128_0_1 (broadcastInDim S128x1 ![0] bcast_S128_S128x1_0 (iotaInDim S128 32 0)))
        (broadcastInDim S128x128 ![0, 1] bcast_S1x128_S128x128_0_1 (broadcastInDim S1x128 ![1] bcast_S128_S1x128_1 (iotaInDim S128 32 0))))))
      (broadcastInDim S128x128x128x16 ![0, 1, 2, 3] bcast_S128x1x128x16_S128x128x128x16_0_1_2_3 (broadcastInDim S128x1x128x16 ![0, 2, 3] bcast_S128x128x16_S128x1x128x16_0_2_3 (rates p dtb al)))
      (broadcastInDim S128x128x128x16 ![] bcast_S_S128x128x128x16 (id (constant S_ .f32 0x00000000#32))))
    (constant S_ .f32 0x00000000#32) reducesTo_S128x128x128x16_S128x128x16_d2 h_S_

def last : FVec Ideal S128x1x16 .f32 :=
  extractStridedSlice S128x1x16 ![0, 127, 0] (decays p dtb al) slices_S128x128x16_S128x1x16_0_127_0

/-- The rows' contributions before the product. -/
def weighted : FVec Ideal S128x128x16x64 .f32 :=
  mulf (broadcastInDim S128x128x16x64 ![0, 1, 2, 3] bcast_S128x128x16x1_S128x128x16x64_0_1_2_3 (broadcastInDim S128x128x16x1 ![0, 1, 2] bcast_S128x128x16_S128x128x16x1_0_1_2
      (Host.exp (subf (broadcastInDim S128x128x16 ![0, 1, 2] bcast_S128x1x16_S128x128x16_0_1_2 (last p dtb al)) (decays p dtb al)))))
    (mulf (shapeCast _ (extractStridedSlice S2x8192x1024 ![0, 0, 0] (rows p cw cb) slices_S2x8192x1536_S2x8192x1024_0_0_0) shapeCasts_S2x8192x1024_S128x128x16x64)
      (broadcastInDim S128x128x16x64 ![0, 1, 2, 3] bcast_S128x128x16x1_S128x128x16x64_0_1_2_3 (broadcastInDim S128x128x16x1 ![0, 1, 2] bcast_S128x128x16_S128x128x16x1_0_1_2 (sizes p dtb))))

/-- The columns the rows' contributions are multiplied with. -/
def factors : FVec Ideal S128x128x2x128 .f32 :=
  shapeCast _ (extractStridedSlice S2x8192x256 ![0, 0, 1024] (rows p cw cb) slices_S2x8192x1536_S2x8192x256_0_0_1024) shapeCasts_S2x8192x256_S128x128x2x128

/-- The chunks' contributions by head. -/
def added : FVec Ideal S2x64x16x64x128 .f32 :=
  shapeCast _ (Host.dotGeneral dot_S128x128x2x8x64_S128x128x2x128_S128x2x8x64x128_1_1_34_3_02_02 none
    (shapeCast _ (weighted p cw cb dtb al) shapeCasts_S128x128x16x64_S128x128x2x8x64) (factors p cw cb)) shapeCasts_S128x2x8x64x128_S2x64x16x64x128

/-- The decay of the chunks after each. -/
def later : FVec Ideal S2x64x16 .f32 :=
  Host.exp (Host.reduceAdd (select (broadcastInDim S2x64x64x16 ![0, 1, 2, 3] bcast_S1x64x64x1_S2x64x64x16_0_1_2_3 (broadcastInDim S1x64x64x1 ![1, 2] bcast_S64x64_S1x64x64x1_1_2
      (cmpi .slt (broadcastInDim S64x64 ![0, 1] bcast_S64x1_S64x64_0_1 (broadcastInDim S64x1 ![0] bcast_S64_S64x1_0 (iotaInDim S64 32 0)))
        (broadcastInDim S64x64 ![0, 1] bcast_S1x64_S64x64_0_1 (broadcastInDim S1x64 ![1] bcast_S64_S1x64_1 (iotaInDim S64 32 0))))))
      (broadcastInDim S2x64x64x16 ![0, 1, 2, 3] bcast_S2x1x64x16_S2x64x64x16_0_1_2_3 (broadcastInDim S2x1x64x16 ![0, 2, 3] bcast_S2x64x16_S2x1x64x16_0_2_3
        (shapeCast _ (shapeCast _ (last p dtb al) shapeCasts_S128x1x16_S128x16) shapeCasts_S128x16_S2x64x16)))
      (broadcastInDim S2x64x64x16 ![] bcast_S_S2x64x64x16 (id (constant S_ .f32 0x00000000#32))))
    (constant S_ .f32 0x00000000#32) reducesTo_S2x64x64x16_S2x64x16_d2 h_S_)

/-- The states by head. -/
def states : FVec Ideal S2x16x64x128 .f32 :=
  Host.dotGeneral dot_S2x64x16_S2x64x16x64x128_S2x16x64x128_1_1_n_34_02_02 none (later p dtb al) (added p cw cb dtb al)

/-- The states by pair of heads. -/
def layer : FVec Ideal S2x8x128x128 .f32 :=
  shapeCast _ (transpose S2x8x128x2x64 [0, 1, 4, 2, 3] (shapeCast _ (states p cw cb dtb al) shapeCasts_S2x16x64x128_S2x8x2x64x128)
    transposes_S2x8x2x64x128_S2x8x128x2x64_0_1_4_2_3) shapeCasts_S2x8x128x2x64_S2x8x128x128

theorem layer_eq (m : (ℓ : Loc nD τ sig) → Buf (Elt Ideal) ℓ) (c : Dev nD) : res_main_v93 m c
    = layer (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) := by
  unfold res_main_v93 layer states later added factors weighted last decays rates sizes zeros biased rows summed window
  rfl

/-- A sequence's rows. -/
def new (s : Fin 2) (n : Fin 8192) (d : Fin 4608) : EReal := p (ix2 ⟨8192 * s.val + n.val, by omega⟩ d)

theorem window_apply (s : Fin 2) (i : Fin 8195) (d : Fin 1536) : window p (ix3 s i d) = Ssd.behind (new p s) i.val d := by
  pointwise [window]
  unfold Ssd.behind
  by_cases h : i.val < 3
  · rw [dif_pos h, if_pos h]
  · rw [dif_neg h, if_neg h, dif_pos (show i.val - 3 < 8192 by omega)]
    exact congrArg (fun r => p (ix2 r _)) (Fin.ext (by show s.val * 8192 + (i.val - 3) = 8192 * s.val + (i.val - 3); omega))

theorem rows_apply (s : Fin 2) (n : Fin 8192) (d : Fin 1536) : rows p cw cb (ix3 s n d)
    = Ssd.scanned (new p s) (fun k d => cw (ix2 k d)) (fun d => cb (ix1 d)) n.val d := by
  have tap : ∀ (k : Fin 4) (r : Fin 8195) (_ : r.val = k.val + n.val), window p (ix3 s r d) * cw (ix2 k d)
      = cw (ix2 k d) * Ssd.behind (new p s) (k.val + n.val) d := fun k r hr => by
    rw [window_apply, hr, mul_comm]
  have sum : summed p cw cb (ix3 s n d) = Ssd.conv (cb (ix1 d)) (fun k => cw (ix2 k d))
      (fun k => Ssd.behind (new p s) (k.val + n.val) d) := by
    pointwise [summed]
    unfold Ssd.conv
    rw [tap 0 _ (Nat.zero_add n.val).symm, tap 1 _ rfl, tap 2 _ rfl, tap 3 _ rfl]
    exact add_comm (G := EReal) _ _
  pointwise [rows]
  exact congrArg Conf.silu sum

/-- The sequence and the chunk of it. -/
def seqOf (g : Fin 128) : Fin 2 := ⟨g.val / 64, by omega⟩

theorem sizes_apply (g l : Fin 128) (e : Fin 16) : sizes p dtb (ix3 g l e)
    = Ssd.sizesOf (new p (seqOf g)) (fun e => dtb (ix1 e)) e (g.val % 64) l := by
  pointwise [sizes, zeros, biased]
  refine (if_neg (not_not.2 rfl)).trans ?_
  unfold Ssd.sizesOf
  refine (congrArg (fun r => Ssd.softplus (p (ix2 r _) + dtb (ix1 e))) (Fin.ext ?_)).trans rfl
  show g.val / 64 * 8192 + (g.val % 64 * 128 + l.val) = 8192 * (g.val / 64) + (128 * (g.val % 64) + l.val) % 8192
  omega

theorem rates_apply (g l : Fin 128) (e : Fin 16) : rates p dtb al (ix3 g l e)
    = sizes p dtb (ix3 g l e) * -Ideal.exp (al (ix1 e)) := by
  pointwise [rates]

theorem tri_mask : ∀ l k : Fin 128, IntOp.cmpi .sge (BitVec.ofNat 32 l.val) (BitVec.ofNat 32 k.val) = if k.val ≤ l.val then 1#1 else 0#1 := by
  decide +kernel

theorem later_mask : ∀ l k : Fin 64, IntOp.cmpi .slt (BitVec.ofNat 32 l.val) (BitVec.ofNat 32 k.val) = if l.val < k.val then 1#1 else 0#1 := by
  decide +kernel

theorem choose (c : Prop) [Decidable c] (x y : EReal) : Scalar.select (if c then 1#1 else 0#1) x y = if c then x else y := by
  by_cases h : c
  · rw [if_pos h, if_pos h]; rfl
  · rw [if_neg h, if_neg h]; rfl

theorem decays_apply (g l : Fin 128) (e : Fin 16) : decays p dtb al (ix3 g l e)
    = Ssd.upto (Ssd.sizesOf (new p (seqOf g)) (fun e => dtb (ix1 e)) e (g.val % 64)) (-Ideal.exp (al (ix1 e))) l.val := by
  pointwise [decays, id]
  simp only [rates_apply, sizes_apply, tri_mask, choose]
  rfl

theorem added_apply (s : Fin 2) (k : Fin 64) (e : Fin 16) (a : Fin 64) (n : Fin 128) : added p cw cb dtb al (ix5 s k e a n)
    = Ssd.chunk (Ssd.sizesOf (new p s) (fun e => dtb (ix1 e)) e k.val) (-Ideal.exp (al (ix1 e)))
        (fun l => Ssd.scanned (new p s) (fun k d => cw (ix2 k d)) (fun d => cb (ix1 d)) (Ssd.row k.val l).val ⟨1024 + (e.val / 8 * 128 + n.val), by omega⟩)
        (fun l => Ssd.scanned (new p s) (fun k d => cw (ix2 k d)) (fun d => cb (ix1 d)) (Ssd.row k.val l).val ⟨e.val * 64 + a.val, by omega⟩) := by
  pointwise [added]
  unfold Ssd.chunk
  have r0 : ∀ l : Fin 128, (s.val * 64 + k.val) % 64 * 128 + l.val = (Ssd.row k.val l).val := fun l => by
    show _ = (128 * k.val + l.val) % 8192
    omega
  have s0 : ∀ h, seqOf ⟨s.val * 64 + k.val, h⟩ = s := fun _ => Fin.ext (by show (s.val * 64 + k.val) / 64 = s.val; omega)
  have k0 : (s.val * 64 + k.val) % 64 = k.val := by omega
  refine Finset.sum_congr (M := EReal) rfl fun l _ => (mul_comm (G := EReal) _ _).trans (congrArg₂ (fun x y : EReal => x * y) ?_ ?_)
  · pointwise [factors]
    rw [rows_apply]
    exact congrArg (fun i => Ssd.scanned (new p s) _ _ i _) (r0 l)
  · pointwise [weighted, last]
    rw [rows_apply, decays_apply, decays_apply, sizes_apply]
    dsimp only
    rw [s0]
    have x0 := congrArg (fun i => Ssd.scanned (new p s) (fun k d => cw (ix2 k d)) (fun d => cb (ix1 d)) i ⟨e.val * 64 + a.val, by omega⟩) (r0 l)
    have d0 := congrArg (Ssd.sizesOf (new p s) (fun e => dtb (ix1 e)) e) k0
    refine (mul_comm (G := EReal) _ _).trans (congrArg₂ (fun x y : EReal => x * y)
      (congrArg₂ (fun x y : EReal => x * y) x0 (congrFun d0 l)) (congrArg Ideal.exp ?_))
    exact congrArg (fun d => Ssd.upto d (-Ideal.exp (al (ix1 e))) 127 - Ssd.upto d (-Ideal.exp (al (ix1 e))) l.val) d0

theorem later_apply (s : Fin 2) (k : Fin 64) (e : Fin 16) : later p dtb al (ix3 s k e)
    = Ideal.exp (∑ i : Fin 64, if k.val < i.val then Ssd.decayOf (new p s) (fun e => dtb (ix1 e)) (fun e => al (ix1 e)) e i.val else 0) := by
  pointwise [later, last, id]
  simp only [decays_apply, later_mask, choose]
  have s0 : ∀ (i : Fin 64) h, seqOf ⟨s.val * 64 + i.val, h⟩ = s := fun i _ => Fin.ext (by show (s.val * 64 + i.val) / 64 = s.val; omega)
  have k0 : ∀ i : Fin 64, (s.val * 64 + i.val) % 64 = i.val := fun i => by omega
  refine congrArg Ideal.exp (Finset.sum_congr (M := EReal) rfl fun i _ => ?_)
  rw [s0, k0]
  rfl

/-- The reference's state at an entry. -/
theorem layer_apply (s : Fin 2) (j : Fin 8) (n q : Fin 128) : layer p cw cb dtb al (ix4 s j n q)
    = Ssd.scanState (new p s) (fun k d => cw (ix2 k d)) (fun d => cb (ix1 d)) (fun e => dtb (ix1 e)) (fun e => al (ix1 e)) j n q 63 := by
  have head : (⟨j.val * 2 + q.val / 64, by omega⟩ : Fin 16) = Ssd.head j q := Fin.ext (by show j.val * 2 + q.val / 64 = 2 * j.val + q.val / 64; omega)
  rw [Ssd.scanState_eq]
  pointwise [layer]
  rw [head]
  pointwise [states]
  refine Finset.sum_congr (M := EReal) rfl fun k _ => ?_
  rw [later_apply, added_apply]
  unfold Ssd.chunkOf
  have e1 : (⟨1024 + ((Ssd.head j q).val / 8 * 128 + n.val), by omega⟩ : Fin 1536) = ⟨1024 + 128 * (j.val / 4) + n.val, by omega⟩ :=
    Fin.ext (by show 1024 + ((2 * j.val + q.val / 64) / 8 * 128 + n.val) = 1024 + 128 * (j.val / 4) + n.val; omega)
  have e2 : (⟨(Ssd.head j q).val * 64 + q.val % 64, by omega⟩ : Fin 1536) = ⟨128 * j.val + q.val, by omega⟩ :=
    Fin.ext (by show (2 * j.val + q.val / 64) * 64 + q.val % 64 = 128 * j.val + q.val; omega)
  rw [e1, e2]

end Cert.ReferenceSsdIdeal.Value
-- ==== Proof.SsdLayer.lean ====
/-
  The state-space mixer of the prompt, the claim: the reference's state at an entry is what the kernel leaves there.
-/
module

public import proofs.«01_k».proof.Defs
public import proofs.«01_k».proof.Proof.SsdValue
public import proofs.«01_k».proof.Proof.SsdRef
public import Idealize.ShloMosaic.Lib.Quiescent

@[expose] public section

set_option maxRecDepth 16384

open Idealize.ShloMosaic Idealize.ShloMosaic.TcCoe Idealize.SL.Sem

noncomputable section

namespace Cert.Proof

theorem quiescent_ReferenceSsdIdeal : quiescent_ReferenceSsdIdeal := fun m ρ _ =>
  (θ_run Cert.ReferenceSsdIdeal.defs _ _).mono
    (fun r h => ⟨fun c => (h c).2, sem_eq_zero_of_no_sems (by decide) r.2⟩)
    (Cert.ReferenceSsdIdeal.Value.run (F := Ideal) m ρ)

theorem algebraic_KernelSsdIdeal_ReferenceSsdIdeal : algebraic_KernelSsdIdeal_ReferenceSsdIdeal := by
  intro m ρ m' ρ' _ hagree
  refine ⟨_, (θ_run Cert.KernelSsdIdeal.defs _ _).mono (fun _ h c => ⟨(h c).2.1, (h c).2.2⟩)
    (Cert.KernelSsdIdeal.Value.run_blocks (F := Ideal) m ρ), ?_⟩
  refine (θ_run Cert.ReferenceSsdIdeal.defs _ _).mono
    (fun _ h c => ⟨(h c).1.trans ?_, (h c).2⟩) (Cert.ReferenceSsdIdeal.Value.run (F := Ideal) m' ρ')
  obtain ⟨e0, e1, e2, e3, e4, e5, e6⟩ := hagree c
  refine (Cert.ReferenceSsdIdeal.Value.layer_eq m' c).trans ?_
  refine (Cert.KernelSsdIdeal.Gen.result11_eq m c (Cert.ReferenceSsdIdeal.Value.layer _ _ _ _ _) fun s j n q => ?_).symm
  refine (Cert.ReferenceSsdIdeal.Value.layer_apply _ _ _ _ _ s j n q).trans ?_
  unfold Cert.KernelSsdIdeal.Gen.new Cert.KernelSsdIdeal.Gen.taps Cert.KernelSsdIdeal.Gen.bias Cert.KernelSsdIdeal.Gen.shift
    Cert.KernelSsdIdeal.Gen.rate Cert.ReferenceSsdIdeal.Value.new Cert.KernelSsdIdeal.Gen.place
  rw [← e0, ← e1, ← e2, ← e3, ← e4]

end Cert.Proof

end
-- ==== Proof.KernelRow.lean ====
/-
  The kernel's block values read at an index, as the layer's words of `Spec`: the normed block, its masked scores, the gate
  block, the gate column of one expert, one tile of the SwiGLU hidden block, the accumulation and the final norm.
-/
module

public import proofs.«01_k».proof.Proof.Gen.KernelIdeal.Skeleton
public import Idealize.ShloMosaic.Lib.Pointwise
public import proofs.«01_k».proof.Proof.GateFacts

@[expose] public section

set_option maxRecDepth 16384

open Idealize.ShloMosaic Moe

namespace Cert.KernelIdeal.Gen

/-- The f32 pattern of −∞. -/
theorem negInf : Ideal.ofBits .f32 0xFF800000#32 = ⊥ := by simp [Ideal.ofBits, Ideal.ieee]

/-- The normed block. -/
theorem pay3_apply (a : Vec Ideal S512x1024 .f32) (b : Vec Ideal S1x1024 .f32) (i : Fin 512) (k : Fin 1024) :
    k0_pay3 a b (ix2 i k) = normed (fun j => a (ix2 i j)) (fun j => b (ix2 0 j)) k := by
  pointwise [k0_pay3]
  rfl

/-- The stored normed block is the normed block. -/
theorem pay4_apply (a : Vec Ideal S512x1024 .f32) (b : Vec Ideal S1x1024 .f32) (i : Fin 512) (k : Fin 1024) :
    k0_pay4 a b (ix2 i k) = normed (fun j => a (ix2 i j)) (fun j => b (ix2 0 j)) k := by
  pointwise [k0_pay4]
  exact pay3_apply a b i k

/-- The output block: the norm of the row plus the accumulated experts. -/
theorem pay2_apply (a c : Vec Ideal S512x1024 .f32) (b : Vec Ideal S1x1024 .f32) (i : Fin 512) (k : Fin 1024) :
    k0_pay2 a c b (ix2 i k) = normed (fun j => a (ix2 i j) + c (ix2 i j)) (fun j => b (ix2 0 j)) k := by
  pointwise [k0_pay2]
  rfl

/-- The accumulator starts at zero. -/
theorem pay10_apply (i : Fin 512) (k : Fin 1024) : k0_pay10 (F := Ideal) (ix2 i k) = 0 := by
  pointwise [k0_pay10]

/-- Whether a lane is one of the first eight, as the comparison's bit. -/
theorem lane_lt_eight (k : Fin 128) : (IntOp.cmpi .slt (BitVec.ofNat 32 k.val) 8#32 = 1) ↔ k.val < 8 := by
  revert k
  decide +kernel

/-- Two lanes' words agree only at one lane. -/
theorem lane_eq (k s : Fin 128) : (IntOp.cmpi .eq (BitVec.ofNat 32 k.val) (BitVec.ofNat 32 s.val) = 1) ↔ k = s := by
  have h : ∀ k : Fin 128, (BitVec.ofNat 32 k.val).toNat = k.val := by decide +kernel
  unfold IntOp.cmpi
  constructor
  · intro q
    by_contra hne
    have hb : BitVec.ofNat 32 k.val ≠ BitVec.ofNat 32 s.val := fun e =>
      hne (Fin.ext (by rw [← h k, ← h s, e]))
    simp only [beq_eq_false_iff_ne.mpr hb] at q
    exact absurd (show BitVec.ofBool false = 1 from q) (by decide)
  · rintro rfl
    simp

/-- The masked scores. -/
theorem pay5_apply (a : Vec Ideal S512x1024 .f32) (b : Vec Ideal S1x1024 .f32) (w : Vec Ideal S1024x128 .bf16)
    (i : Fin 512) (k : Fin 128) :
    k0_pay5 a b w (ix2 i k)
      = if k.val < 8 then ∑ x, normed (fun j => a (ix2 i j)) (fun j => b (ix2 0 j)) x * w (ix2 x k) else ⊥ := by
  pointwise [k0_pay5]
  rw [Scalar.select_def]
  simp only [lane_lt_eight, negInf, pay3_apply]

section gate

variable (a : Vec Ideal S512x1024 .f32) (b : Vec Ideal S1x1024 .f32) (w : Vec Ideal S1024x128 .bf16) (i : Fin 512)

/-- The eight scores of row `i`. -/
noncomputable def rowScore (e : Fin 8) : EReal :=
  score (normed (fun j => a (ix2 i j)) (fun j => b (ix2 0 j))) (fun x e => w (ix2 x (e.castLE (by decide)))) e

theorem pay5_score (e : Fin 8) : k0_pay5 a b w (ix2 i (e.castLE (by decide))) = rowScore a b w i e := by
  rw [pay5_apply, if_pos (by exact e.isLt)]
  rfl

theorem pay5_pad (k : Fin 128) (h : ¬ k.val < 8) : k0_pay5 a b w (ix2 i k) = ⊥ := by
  rw [pay5_apply, if_neg h]

theorem lt_or_pad (k : Fin 128) : (∃ e : Fin 8, k = e.castLE (by decide)) ∨ ¬ k.val < 8 := by
  by_cases h : k.val < 8
  · exact Or.inl ⟨⟨k.val, h⟩, rfl⟩
  · exact Or.inr h

variable {s0 s1 : Fin 8} (hs : TopTwo (rowScore a b w i) s0 s1) (hr : ∀ e, IsReal (rowScore a b w i e))

include hr in
theorem bot_lt_score (e : Fin 8) : ⊥ < rowScore a b w i e := by
  obtain ⟨r, hr⟩ := hr e
  rw [hr]
  exact EReal.bot_lt_coe r

include hs hr

theorem first_pay5 : IsFirst (fun k => k0_pay5 a b w (ix2 i k)) (s0.castLE (by decide) : Fin 128) := by
  intro k hk
  show k0_pay5 a b w (ix2 i k) < k0_pay5 a b w (ix2 i (s0.castLE (by decide)))
    ∨ (k0_pay5 a b w (ix2 i k) = k0_pay5 a b w (ix2 i (s0.castLE (by decide))) ∧ _)
  rw [pay5_score]
  rcases lt_or_pad k with ⟨e, rfl⟩ | h
  · rw [pay5_score]
    exact hs.fst e fun q => hk (q ▸ rfl)
  · rw [pay5_pad a b w i k h]
    exact Or.inl (bot_lt_score a b w i hr s0)

/-- The greatest score of the row. -/
theorem pay6_apply : k0_pay6 a b w (ix2 i 0) = rowScore a b w i s0 := by
  pointwise [k0_pay6]
  rw [negInf, maxFold_eq_of_first _ _ (first_pay5 a b w i hs hr), pay5_score]

/-- Its first position. -/
theorem pay7_apply : k0_pay7 a b w (ix2 i 0) = BitVec.ofNat 32 s0.val := by
  pointwise [k0_pay7]
  rw [pay6_apply a b w i hs hr, ← pay5_score a b w i s0]
  exact minFold_eq_of_first _ _ (first_pay5 a b w i hs hr)

/-- The scores with the first position masked. -/
theorem pay8_apply (k : Fin 128) :
    k0_pay8 a b w (ix2 i k) = if k = s0.castLE (by decide) then ⊥ else k0_pay5 a b w (ix2 i k) := by
  pointwise [k0_pay8]
  rw [pay7_apply a b w i hs hr, Scalar.select_def, negInf]
  simp only [show BitVec.ofNat 32 s0.val = BitVec.ofNat 32 (s0.castLE (by decide) : Fin 128).val from rfl, lane_eq]

theorem pay8_second : k0_pay8 a b w (ix2 i (s1.castLE (by decide))) = rowScore a b w i s1 := by
  rw [pay8_apply a b w i hs hr, if_neg (fun q => hs.ne (Fin.castLE_injective _ q)), pay5_score]

theorem first_pay8 : IsFirst (fun k => k0_pay8 a b w (ix2 i k)) (s1.castLE (by decide) : Fin 128) := by
  intro k hk
  show k0_pay8 a b w (ix2 i k) < k0_pay8 a b w (ix2 i (s1.castLE (by decide)))
    ∨ (k0_pay8 a b w (ix2 i k) = k0_pay8 a b w (ix2 i (s1.castLE (by decide))) ∧ _)
  rw [pay8_second a b w i hs hr, pay8_apply a b w i hs hr]
  by_cases h0 : k = s0.castLE (by decide)
  · rw [if_pos h0]
    exact Or.inl (bot_lt_score a b w i hr s1)
  · rw [if_neg h0]
    rcases lt_or_pad k with ⟨e, rfl⟩ | h
    · rw [pay5_score]
      exact hs.snd e (fun q => h0 (q ▸ rfl)) fun q => hk (q ▸ rfl)
    · rw [pay5_pad a b w i k h]
      exact Or.inl (bot_lt_score a b w i hr s1)

/-- The gate block on the first eight lanes: the gate of the two greatest scores. -/
theorem pay9_apply (e : Fin 8) :
    k0_pay9 (iota .tc S512x128 32 [1] iota_S512x128_d1_w32) (k0_pay6 a b w) (k0_pay7 a b w) (k0_pay8 a b w)
      (ix2 i (e.castLE (by decide))) = pairGate (rowScore a b w i) s0 s1 e := by
  pointwise [k0_pay9]
  rw [negInf, maxFold_eq_of_first _ _ (first_pay8 a b w i hs hr), pay8_second a b w i hs hr,
    pay6_apply a b w i hs hr, pay7_apply a b w i hs hr]
  have hm := minFold_eq_of_first _ _ (first_pay8 a b w i hs hr)
  simp only [pay8_second a b w i hs hr] at hm
  rw [hm, Scalar.select_def, Scalar.select_def]
  have h0 := lane_eq (e.castLE (by decide)) (s0.castLE (by decide))
  have h1 := lane_eq (e.castLE (by decide)) (s1.castLE (by decide))
  simp only [Fin.val_castLE, Fin.castLE_inj] at h0 h1
  simp only [Fin.val_castLE, h0, h1]
  rfl

end gate

/-- The gate column of the expert a grid point works on. -/
theorem pay11_apply (p : grid0.Coords) (e : Fin 8) (he : (p 1).val = e.val) (v : Vec Ideal S512x128 .f32) (i : Fin 512) :
    k0_pay11 p v (ix2 i 0) = v (ix2 i (e.castLE (by decide))) := by
  pointwise [k0_pay11]
  rw [he]
  have h : ∀ x : Fin 128, (IntOp.cmpi .eq (BitVec.ofNat 32 x.val) (BitVec.ofNat 32 e.val) = 1) ↔ x = e.castLE (by decide) :=
    fun x => lane_eq x (e.castLE (by decide))
  simp only [Scalar.select_def, h]
  rw [Finset.sum_ite_eq' Finset.univ (e.castLE (by decide) : Fin 128)]
  simp

/-- One tile of the SwiGLU hidden block. -/
theorem pay12_apply (v : Vec Ideal S512x1024 .bf16) (wg wu : Vec Ideal S1x1024x512 .bf16) (i k : Fin 512) :
    k0_pay12 v wg wu (ix2 i k)
      = unit (fun x => v (ix2 i x)) (fun x => wg (ix3 0 x k)) (fun x => wu (ix3 0 x k)) := by
  pointwise [k0_pay12]
  rw [zero_sub]
  rfl

/-- The tile of the down projection. -/
theorem pay13_apply (wd : Vec Ideal S1x512x1024 .bf16) (k : Fin 512) (d : Fin 1024) :
    k0_pay13 wd (ix2 k d) = wd (ix3 0 k d) := by
  pointwise [k0_pay13]

/-- One accumulation step. -/
theorem pay1_apply (v13 : FVec Ideal S512x1 .f32) (v29 : FVec Ideal S512x512 .bf16) (v31 : FVec Ideal S512x1024 .bf16)
    (v33 : Vec Ideal S512x1024 .f32) (i : Fin 512) (k : Fin 1024) :
    k0_pay1 v13 v29 v31 (constant S512x1024 .f32 0x00000000#32) v33 (ix2 i k)
      = v33 (ix2 i k) + v13 (ix2 i 0) * ∑ x, v29 (ix2 i x) * v31 (ix2 x k) := by
  pointwise [k0_pay1]

end Cert.KernelIdeal.Gen
-- ==== Proof.KernelFold.lean ====
/-
  What the kernel's buffers hold after each grid point. The normed block and the gate block are set at the first of a row
  block's 56 points and carried; the accumulator is the sum of the points' terms so far; the last point writes the norm of the
  row block plus the accumulator.
-/
module

public import proofs.«01_k».proof.Proof.Gen.KernelIdeal.Value
public import Idealize.ShloMosaic.Lib.Pointwise
public import Idealize.ShloMosaic.Lib.Pipeline.ValueKit
public import Idealize.ShloMosaic.Lib.Pipeline.ReadBack
public import proofs.«01_k».proof.Proof.KernelRow

@[expose] public section

set_option maxRecDepth 16384

open Idealize.ShloMosaic Idealize.ShloMosaic.TcCoe Idealize.SL.Sem Moe
open Idealize.ShloMosaic.Pipeline (Dat)

namespace Cert.KernelIdeal.Gen

noncomputable section

variable (m : (ℓ : Loc nD τ sig) → (ℓ : Loc nD τ sig).ty.Contents (Elt Ideal)) (c : Dev nD)

/-- The normed block of the row block a point belongs to. -/
def xnBlk (t : Fin cfg0.N) : FVec Ideal S512x1024 .bf16 := k0_pay4 (iblk m c 0 t) (iblk m c 1 t)

/-- The gate block of the row block a point belongs to. -/
def gateBlk (t : Fin cfg0.N) : FVec Ideal S512x128 .f32 :=
  k0_pay9 (iota .tc S512x128 32 [1] iota_S512x128_d1_w32) (k0_pay6 (iblk m c 0 t) (iblk m c 1 t) (iblk m c 2 t))
    (k0_pay7 (iblk m c 0 t) (iblk m c 1 t) (iblk m c 2 t)) (k0_pay8 (iblk m c 0 t) (iblk m c 1 t) (iblk m c 2 t))

/-- The accumulator after a point, from the normed block, the gate block and the accumulator before. -/
def accStep (t : Fin cfg0.N) (xn : FVec Ideal S512x1024 .bf16) (gate : FVec Ideal S512x128 .f32)
    (acc : FVec Ideal S512x1024 .f32) : FVec Ideal S512x1024 .f32 :=
  k0_pay1 (k0_pay11 (grid0.coords t) gate) (k0_pay12 xn (iblk m c 3 t) (iblk m c 4 t)) (k0_pay13 (iblk m c 5 t))
    (constant S512x1024 .f32 0x00000000#32) acc

/-- The first point of a row block sets the normed block. -/
theorem xn_first (t : Fin cfg0.N) (h0 : t.val % 56 = 0) : (outsAt0 m c t.val t.isLt).2.1 = xnBlk m c t := by
  rw [outsAt0_A m c t h0 (by omega)]
  frame_out
  rfl

/-- The first point of a row block sets the gate block. -/
theorem gate_first (t : Fin cfg0.N) (h0 : t.val % 56 = 0) : (outsAt0 m c t.val t.isLt).2.2.1 = gateBlk m c t := by
  rw [outsAt0_A m c t h0 (by omega)]
  frame_out
  rfl

/-- The first point of a row block accumulates from zero. -/
theorem acc_first (t : Fin cfg0.N) (h0 : t.val % 56 = 0) :
    (outsAt0 m c t.val t.isLt).2.2.2 = accStep m c t (xnBlk m c t) (gateBlk m c t) (k0_pay10 (F := Ideal)) := by
  rw [outsAt0_A m c t h0 (by omega)]
  frame_out
  rfl

/-- The other points carry the normed block. -/
theorem xn_next (t : Fin cfg0.N) (h0 : ¬ t.val % 56 = 0) :
    (outsAt0 m c t.val t.isLt).2.1 = (outsAt0 m c (t.val - 1) (Nat.lt_of_le_of_lt (Nat.sub_le _ _) t.isLt)).2.1 := by
  by_cases h1 : t.val % 56 = 55
  · rw [outsAt0_C m c t h0 h1]
    unfold sout0_C_0
    rfl
  · rw [outsAt0_B m c t h0 h1]
    unfold sout0_B_0
    rfl

/-- The other points carry the gate block. -/
theorem gate_next (t : Fin cfg0.N) (h0 : ¬ t.val % 56 = 0) :
    (outsAt0 m c t.val t.isLt).2.2.1 = (outsAt0 m c (t.val - 1) (Nat.lt_of_le_of_lt (Nat.sub_le _ _) t.isLt)).2.2.1 := by
  by_cases h1 : t.val % 56 = 55
  · rw [outsAt0_C m c t h0 h1]
    unfold sout0_C_1
    rfl
  · rw [outsAt0_B m c t h0 h1]
    unfold sout0_B_1
    rfl

/-- The other points add their term to the accumulator. -/
theorem acc_next (t : Fin cfg0.N) (h0 : ¬ t.val % 56 = 0) :
    (outsAt0 m c t.val t.isLt).2.2.2
      = accStep m c t (outsAt0 m c (t.val - 1) (Nat.lt_of_le_of_lt (Nat.sub_le _ _) t.isLt)).2.1
          (outsAt0 m c (t.val - 1) (Nat.lt_of_le_of_lt (Nat.sub_le _ _) t.isLt)).2.2.1
          (outsAt0 m c (t.val - 1) (Nat.lt_of_le_of_lt (Nat.sub_le _ _) t.isLt)).2.2.2 := by
  unfold accStep
  by_cases h1 : t.val % 56 = 55
  · rw [outsAt0_C m c t h0 h1]
    frame_out
    rw [read_unread_whole, read_unread_whole, read_unread_whole]
  · rw [outsAt0_B m c t h0 h1]
    frame_out
    rw [read_unread_whole, read_unread_whole, read_unread_whole]

/-- The last point of a row block writes the norm of the row block plus the accumulator. -/
theorem out_last (t : Fin cfg0.N) (h1 : t.val % 56 = 55) :
    (outsAt0 m c t.val t.isLt).1
      = k0_pay2 (iblk m c 0 t) (outsAt0 m c t.val t.isLt).2.2.2 (iblk m c 6 t) := by
  have h0 : ¬ t.val % 56 = 0 := by omega
  have e := acc_next m c t h0
  rw [e]
  clear e
  rw [outsAt0_C m c t h0 h1]
  frame_out
  unfold accStep
  rw [read_unread_whole, read_unread_whole, read_unread_whole]

/-- The windows' block indices at a grid point. -/
theorem idx : ∀ t : Fin cfg0.N, win0_0.index t = ![t.val / 56, 0] ∧ win0_1.index t = ![0, 0] ∧ win0_2.index t = ![0, 0]
    ∧ win0_3.index t = ![t.val / 7 % 8, 0, t.val % 7] ∧ win0_4.index t = ![t.val / 7 % 8, 0, t.val % 7]
    ∧ win0_5.index t = ![t.val / 7 % 8, t.val % 7, 0] ∧ win0_6.index t = ![0, 0] ∧ win0_7.index t = ![t.val / 56, 0]
    ∧ (grid0.coords t 1).val = t.val / 7 % 8 :=
  (by decide +kernel : ∀ t : Fin grid0.N, _)

end

end Cert.KernelIdeal.Gen
-- ==== Proof.HostArrays.lean ====
/-
  The kernel's operand blocks at a grid point, read at an index of the launch's arguments. The host rounds the expert weights
  (no change over the extended reals), puts the router's eight columns before zero columns, and gives each norm's scale as one
  row.
-/
module

public import proofs.«01_k».proof.Proof.Gen.KernelIdeal.Value
public import Idealize.ShloMosaic.Lib.Pointwise
public import Idealize.ShloMosaic.Lib.Pipeline.ValueKit
public import Idealize.ShloMosaic.Lib.Claim
public import Idealize.ShloMosaic.Lib.Routing.OpsSet
public import proofs.«01_k».proof.Proof.KernelFold

@[expose] public section

set_option maxRecDepth 16384

open Idealize.ShloMosaic Idealize.ShloMosaic.TcCoe Idealize.SL.Sem

namespace Cert.KernelIdeal.Gen

noncomputable section

/-- Scattering eight columns at column zero: each lands at its own place. -/
theorem scatter_cols {α : Type} (x0 : S1024x128.Idx → α) (i : IVec S1 32) (hi : ∀ j, i j = 0#32) (u : S1024x8.Idx → α)
    (x : Fin 1024) (e : Fin 8) :
    Host.scatter scatter_S1024x128_S1_S1024x8_01_n_1_0 (fun _ b => b) x0 i u (ix2 x (e.castLE (by decide))) = u (ix2 x e) := by
  have hstart : ∀ (k : S1024x8.Idx) (a : Fin 2), scatter_S1024x128_S1_S1024x8_01_n_1_0.start k i a = 0 := by
    intro k a
    unfold ScatterDims.start
    split
    · rw [hi]; rfl
    · rfl
  have hw0 : ∀ k : S1024x8.Idx, scatter_S1024x128_S1_S1024x8_01_n_1_0.window k (0 : Fin 2) = (k 0).val := fun k => rfl
  have hw1 : ∀ k : S1024x8.Idx, scatter_S1024x128_S1_S1024x8_01_n_1_0.window k (1 : Fin 2) = (k 1).val := fun k => rfl
  have land : ∀ k : S1024x8.Idx, scatter_S1024x128_S1_S1024x8_01_n_1_0.resultIdx? k i
      = some (ix2 x (e.castLE (by decide))) ↔ k = ix2 x e := by
    intro k
    rw [Routing.resultIdx?_eq_some]
    constructor
    · intro h
      have h0 := h (0 : Fin 2)
      have h1 := h (1 : Fin 2)
      rw [hstart, hw0] at h0
      rw [hstart, hw1] at h1
      funext a
      refine Fin.cases ?_ (fun a => Fin.cases ?_ (fun a => a.elim0) a) a
      · apply Fin.ext
        have : ((k 0).val : Int) = (x.val : Int) := by simpa using h0
        exact_mod_cast this
      · apply Fin.ext
        have : ((k 1).val : Int) = (e.val : Int) := by simpa using h1
        exact_mod_cast this
    · rintro rfl a
      rw [hstart]
      refine Fin.cases ?_ (fun a => Fin.cases ?_ (fun a => a.elim0) a) a
      · exact (zero_add _)
      · exact (zero_add _)
  exact Routing.scatter_set_hit _ x0 i u _ _ (fun k hk => by rw [(land k).mp hk]) (ix2 x e) ((land _).mpr rfl)

variable (m : (ℓ : Loc nD τ sig) → (ℓ : Loc nD τ sig).ty.Contents (Elt Ideal)) (c : Dev nD)

/-- The row of the whole array that row `i` of a point's block is. -/
def rowOf (t : Fin cfg0.N) (i : Fin 512) : Fin 16384 :=
  ⟨512 * (t.val / 56) + i.val, by have := t.isLt; have := i.isLt; have : cfg0.N = 1792 := N_0; omega⟩

/-- The expert a point works on. -/
def expertOf (t : Fin cfg0.N) : Fin 8 := ⟨t.val / 7 % 8, Nat.mod_lt _ (by decide)⟩

/-- The hidden position that position `k` of a point's tile is. -/
def hiddenOf (t : Fin cfg0.N) (k : Fin 512) : Fin 3584 :=
  ⟨512 * (t.val % 7) + k.val, by have := Nat.mod_lt t.val (show 0 < 7 by decide); have := k.isLt; omega⟩

theorem x_apply (t : Fin cfg0.N) (i : Fin 512) (j : Fin 1024) :
    iblk m c 0 t (ix2 i j) = m ((c : Thread nD τ).loc main_arg0) (ix2 (rowOf t i) j) := by
  unfold rowOf
  blk_ext [iblk, V, idx t]

theorem g_apply (t : Fin cfg0.N) (j : Fin 1024) :
    iblk m c 1 t (ix2 0 j) = m ((c : Thread nD τ).loc main_arg1) (ix1 j) := by
  blk_simp [iblk, idx t]
  entry_read
  pointwise
  blk_ext [idx t]

theorem gf_apply (t : Fin cfg0.N) (j : Fin 1024) :
    iblk m c 6 t (ix2 0 j) = m ((c : Thread nD τ).loc main_arg6) (ix1 j) := by
  blk_simp [iblk, idx t]
  entry_read
  pointwise
  blk_ext [idx t]

theorem router_apply (t : Fin cfg0.N) (x : Fin 1024) (e : Fin 8) :
    iblk m c 2 t (ix2 x (e.castLE (by decide))) = m ((c : Thread nD τ).loc main_arg2) (ix2 x e) := by
  blk_simp [iblk, idx t]
  entry_read
  refine (congrArg (Host.scatter scatter_S1024x128_S1_S1024x8_01_n_1_0 (fun _ b => b) _ _ _) ?_).trans
    (scatter_cols _ _ (fun _ => rfl) _ x e)
  blk_ext [idx t]

theorem wg_apply (t : Fin cfg0.N) (x : Fin 1024) (k : Fin 512) :
    iblk m c 3 t (ix3 0 x k) = m ((c : Thread nD τ).loc main_arg3) (ix3 (expertOf t) x (hiddenOf t k)) := by
  unfold expertOf hiddenOf
  blk_simp [iblk, idx t]
  entry_read
  pointwise
  blk_ext [idx t]

theorem wu_apply (t : Fin cfg0.N) (x : Fin 1024) (k : Fin 512) :
    iblk m c 4 t (ix3 0 x k) = m ((c : Thread nD τ).loc main_arg4) (ix3 (expertOf t) x (hiddenOf t k)) := by
  unfold expertOf hiddenOf
  blk_simp [iblk, idx t]
  entry_read
  pointwise
  blk_ext [idx t]

theorem wd_apply (t : Fin cfg0.N) (k : Fin 512) (d : Fin 1024) :
    iblk m c 5 t (ix3 0 k d) = m ((c : Thread nD τ).loc main_arg5) (ix3 (expertOf t) (hiddenOf t k) d) := by
  unfold expertOf hiddenOf
  blk_simp [iblk, idx t]
  entry_read
  pointwise
  blk_ext [idx t]

end

end Cert.KernelIdeal.Gen
-- ==== Proof.KernelValue.lean ====
/-
  What the kernel leaves in its result: at row `r`, the norm of the row plus the sum over the eight experts of gate times
  expert. The 56 points of a row block are the 8 experts times the 7 tiles of the hidden axis; as the gates are nonnegative
  reals, a gate comes out of the sum over its expert's tiles, and the tiles' sums join to the sum over the hidden axis.
-/
module

public import proofs.«01_k».proof.Proof.KernelFold
public import proofs.«01_k».proof.Proof.HostArrays

@[expose] public section

set_option maxRecDepth 16384

open Idealize.ShloMosaic Idealize.ShloMosaic.TcCoe Idealize.SL.Sem Moe
open Idealize.ShloMosaic.Pipeline (Dat)

namespace Cert.KernelIdeal.Gen

noncomputable section

variable (m : (ℓ : Loc nD τ sig) → (ℓ : Loc nD τ sig).ty.Contents (Elt Ideal)) (c : Dev nD)

/-- The layer's seven arguments. -/
def argX : FVec Ideal S16384x1024 .f32 := m ((c : Thread nD τ).loc main_arg0)
def argG : FVec Ideal S1024 .f32 := m ((c : Thread nD τ).loc main_arg1)
def argRouter : FVec Ideal S1024x8 .f32 := m ((c : Thread nD τ).loc main_arg2)
def argGate : FVec Ideal S8x1024x3584 .f32 := m ((c : Thread nD τ).loc main_arg3)
def argUp : FVec Ideal S8x1024x3584 .f32 := m ((c : Thread nD τ).loc main_arg4)
def argDown : FVec Ideal S8x3584x1024 .f32 := m ((c : Thread nD τ).loc main_arg5)
def argFinal : FVec Ideal S1024 .f32 := m ((c : Thread nD τ).loc main_arg6)

/-- Row `r`, normed. -/
def normRow (r : Fin 16384) : Fin 1024 → EReal :=
  normed (fun j => argX m c (ix2 r j)) (fun j => argG m c (ix1 j))

/-- Row `r`'s scores. -/
def scores (r : Fin 16384) : Fin 8 → EReal := score (normRow m c r) fun k e => argRouter m c (ix2 k e)

/-- The normed row of a point's row block. -/
theorem normed_blk (t : Fin cfg0.N) (i : Fin 512) :
    normed (fun j => iblk m c 0 t (ix2 i j)) (fun j => iblk m c 1 t (ix2 0 j)) = normRow m c (rowOf t i) := by
  unfold normRow
  exact congrArg₂ normed (funext fun j => x_apply m c t i j) (funext fun j => g_apply m c t j)

/-- The scores of a point's row block. -/
theorem rowScore_blk (t : Fin cfg0.N) (i : Fin 512) :
    rowScore (iblk m c 0 t) (iblk m c 1 t) (iblk m c 2 t) i = scores m c (rowOf t i) := by
  unfold rowScore scores
  exact congrArg₂ score (normed_blk m c t i) (funext fun x => funext fun e => router_apply m c t x e)

/-- Two points of one row block have the same rows. -/
theorem rowOf_pred (t : Fin cfg0.N) (h0 : ¬ t.val % 56 = 0) (i : Fin 512) :
    rowOf ⟨t.val - 1, Nat.lt_of_le_of_lt (Nat.sub_le _ _) t.isLt⟩ i = rowOf t i := by
  refine Fin.ext ?_
  show 512 * ((t.val - 1) / 56) + i.val = 512 * (t.val / 56) + i.val
  omega

/-- The normed block at every point. -/
theorem xn_apply (n : Nat) : ∀ (hn : n < cfg0.N) (i : Fin 512) (k : Fin 1024),
    (outsAt0 m c n hn).2.1 (ix2 i k) = normRow m c (rowOf ⟨n, hn⟩ i) k := by
  induction n with
  | zero =>
    intro hn i k
    rw [xn_first m c ⟨0, hn⟩ rfl, ← normed_blk]
    exact pay4_apply _ _ i k
  | succ n ih =>
    intro hn i k
    by_cases h0 : (n + 1) % 56 = 0
    · rw [xn_first m c ⟨n + 1, hn⟩ h0, ← normed_blk]
      exact pay4_apply _ _ i k
    · rw [xn_next m c ⟨n + 1, hn⟩ h0, ← rowOf_pred ⟨n + 1, hn⟩ h0]
      exact ih _ i k

/-- Where a point's result block lies. -/
theorem emb_apply (t : Fin cfg0.N) (i : Fin 512) (d : Fin 1024) :
    (win0_7.blk t).view.emb (ix2 i d) = ix2 (rowOf t i) d := by
  unfold rowOf
  blk_ext [idx t]

section gates

variable (s0 s1 : Fin 16384 → Fin 8) (hs : ∀ r, TopTwo (scores m c r) (s0 r) (s1 r))
  (hr : ∀ r e, IsReal (scores m c r e))

/-- Row `r`'s gate of expert `e`. -/
def gateOf (r : Fin 16384) (e : Fin 8) : EReal := pairGate (scores m c r) (s0 r) (s1 r) e

include hs hr

/-- The gate block of a point's row block. -/
theorem gateBlk_apply (t : Fin cfg0.N) (i : Fin 512) (e : Fin 8) :
    gateBlk m c t (ix2 i (e.castLE (by decide))) = gateOf m c s0 s1 (rowOf t i) e := by
  unfold gateBlk gateOf
  rw [← rowScore_blk]
  exact pay9_apply _ _ _ i (rowScore_blk m c t i ▸ hs _) (rowScore_blk m c t i ▸ hr _) e

/-- The gate block at every point. -/
theorem gate_apply (n : Nat) : ∀ (hn : n < cfg0.N) (i : Fin 512) (e : Fin 8),
    (outsAt0 m c n hn).2.2.1 (ix2 i (e.castLE (by decide))) = gateOf m c s0 s1 (rowOf ⟨n, hn⟩ i) e := by
  induction n with
  | zero =>
    intro hn i e
    rw [gate_first m c ⟨0, hn⟩ rfl]
    exact gateBlk_apply m c s0 s1 hs hr _ i e
  | succ n ih =>
    intro hn i e
    by_cases h0 : (n + 1) % 56 = 0
    · rw [gate_first m c ⟨n + 1, hn⟩ h0]
      exact gateBlk_apply m c s0 s1 hs hr _ i e
    · rw [gate_next m c ⟨n + 1, hn⟩ h0, ← rowOf_pred ⟨n + 1, hn⟩ h0]
      exact ih _ i e

omit hs hr

/-- The part of expert `e` at hidden position `f`. -/
def part (r : Fin 16384) (e : Fin 8) (d : Fin 1024) (f : Fin 3584) : EReal :=
  unit (normRow m c r) (fun k => argGate m c (ix3 e k f)) (fun k => argUp m c (ix3 e k f)) * argDown m c (ix3 e f d)

/-- Hidden position `k` of tile `a`. -/
def hidden (a : Fin 7) (k : Fin 512) : Fin 3584 := ⟨512 * a.val + k.val, by omega⟩

/-- What a point adds: the gate of its expert times the expert's tile. -/
def term (t : Fin cfg0.N) (p : Fin 512 × Fin 1024) : EReal :=
  gateOf m c s0 s1 (rowOf t p.1) (expertOf t)
    * ∑ k : Fin 512, part m c (rowOf t p.1) (expertOf t) p.2 (hidden ⟨t.val % 7, Nat.mod_lt _ (by decide)⟩ k)

/-- One accumulation step adds the point's term. -/
theorem accStep_apply (t : Fin cfg0.N) (xn : FVec Ideal S512x1024 .bf16) (gate : FVec Ideal S512x128 .f32)
    (acc : FVec Ideal S512x1024 .f32) (i : Fin 512) (d : Fin 1024)
    (hx : ∀ k, xn (ix2 i k) = normRow m c (rowOf t i) k)
    (hg : ∀ e : Fin 8, gate (ix2 i (e.castLE (by decide))) = gateOf m c s0 s1 (rowOf t i) e) :
    accStep m c t xn gate acc (ix2 i d) = acc (ix2 i d) + term m c s0 s1 t (i, d) := by
  unfold accStep term
  refine (pay1_apply _ _ _ _ i d).trans (congrArg (acc (ix2 i d) + ·) ?_)
  refine congrArg₂ (· * ·) ?_ (Finset.sum_congr rfl fun k _ => ?_)
  · exact (pay11_apply _ (expertOf t) ((idx t).2.2.2.2.2.2.2.2) gate i).trans (hg _)
  · unfold part
    refine congrArg₂ (· * ·) ((pay12_apply _ _ _ i k).trans ?_) ((pay13_apply _ k d).trans (wd_apply m c t k d))
    have e1 : (fun x => xn (ix2 i x)) = normRow m c (rowOf t i) := funext hx
    have e2 : (fun x => iblk m c 3 t (ix3 0 x k)) = fun x => argGate m c (ix3 (expertOf t) x (hiddenOf t k)) :=
      funext fun x => wg_apply m c t x k
    have e3 : (fun x => iblk m c 4 t (ix3 0 x k)) = fun x => argUp m c (ix3 (expertOf t) x (hiddenOf t k)) :=
      funext fun x => wu_apply m c t x k
    rw [e1]
    exact congrArg₂ (unit (normRow m c (rowOf t i))) e2 e3

include hs hr

/-- The accumulator at the last point of a row block is the sum of its 56 terms. -/
theorem acc_last (t : Fin cfg0.N) (h1 : t.val % 56 = 55) (p : Fin 512 × Fin 1024) :
    (outsAt0 m c t.val t.isLt).2.2.2 (ix2 p.1 p.2)
      = 0 + ∑ s : Fin 56, term m c s0 s1 ⟨56 * (t.val / 56) + s.val, Pipeline.run_point_lt_of_flush t h1 s⟩ p := by
  refine Pipeline.eq_sum_fin_of_reset_step_apply_of_flush
    (fun n hn (p : Fin 512 × Fin 1024) => (outsAt0 m c n hn).2.2.2 (ix2 p.1 p.2)) 56 (fun _ => 0) (term m c s0 s1) ?_ ?_ t h1 p
  · intro u h0 q
    show (outsAt0 m c u.val u.isLt).2.2.2 (ix2 q.1 q.2) = _
    rw [acc_first m c u h0]
    refine (accStep_apply m c s0 s1 u _ _ _ q.1 q.2 (fun k => ?_) fun e => gateBlk_apply m c s0 s1 hs hr u q.1 e).trans ?_
    · rw [← normed_blk]
      exact pay4_apply _ _ q.1 k
    · rw [pay10_apply]
  · intro u h0 q
    show (outsAt0 m c u.val u.isLt).2.2.2 (ix2 q.1 q.2) = _
    rw [acc_next m c u h0]
    refine accStep_apply m c s0 s1 u _ _ _ q.1 q.2 (fun k => ?_) fun e => ?_
    · rw [← rowOf_pred u h0]
      exact xn_apply m c _ _ q.1 k
    · rw [← rowOf_pred u h0]
      exact gate_apply m c s0 s1 hs hr _ _ q.1 e

/-- The accumulator at the last point of a row block, as the gated experts. -/
theorem acc_experts (t : Fin cfg0.N) (h1 : t.val % 56 = 55) (i : Fin 512) (d : Fin 1024) :
    (outsAt0 m c t.val t.isLt).2.2.2 (ix2 i d)
      = ∑ e : Fin 8, gateOf m c s0 s1 (rowOf t i) e * ∑ f : Fin 3584, part m c (rowOf t i) e d f := by
  refine (acc_last m c s0 s1 hs hr t h1 (i, d)).trans ?_
  rw [zero_add]
  have h : ∀ e : Fin 8, gateOf m c s0 s1 (rowOf t i) e * ∑ f : Fin 3584, part m c (rowOf t i) e d f
      = ∑ a : Fin 7, gateOf m c s0 s1 (rowOf t i) e * ∑ k : Fin 512, part m c (rowOf t i) e d (hidden a k) := by
    intro e
    obtain ⟨g, hg, he⟩ := pairGate_real (hr (rowOf t i)) (s0 (rowOf t i)) (s1 (rowOf t i)) e
    rw [show gateOf m c s0 s1 (rowOf t i) e = (g : EReal) from he, ← mul_sum_of_nonneg_real g hg]
    refine congrArg _ (Eq.symm ?_)
    refine Fin.sum_mul_add_congr fun a k hl => ?_
    refine congrArg _ (Fin.ext ?_)
    show 512 * a.val + k.val = a.val * 512 + k.val
    omega
  rw [Finset.sum_congr rfl fun e _ => h e]
  refine Fin.sum_divmod_congr fun s ha hb => ?_
  have hlt := Pipeline.run_point_lt_of_flush t h1 s
  have hR : rowOf ⟨56 * (t.val / 56) + s.val, hlt⟩ i = rowOf t i := by
    refine Fin.ext ?_
    show 512 * ((56 * (t.val / 56) + s.val) / 56) + i.val = 512 * (t.val / 56) + i.val
    omega
  have hE : expertOf ⟨56 * (t.val / 56) + s.val, hlt⟩ = ⟨s.val / 7, ha⟩ := by
    refine Fin.ext ?_
    show (56 * (t.val / 56) + s.val) / 7 % 8 = s.val / 7
    omega
  have hT : (⟨(56 * (t.val / 56) + s.val) % 7, Nat.mod_lt _ (by decide)⟩ : Fin 7) = ⟨s.val % 7, hb⟩ := by
    refine Fin.ext ?_
    show (56 * (t.val / 56) + s.val) % 7 = s.val % 7
    omega
  unfold term
  simp only [hR, hE, hT]

omit hs hr in
/-- The row plus its gated experts. -/
def mixed (r : Fin 16384) (d : Fin 1024) : EReal :=
  argX m c (ix2 r d) + ∑ e : Fin 8, gateOf m c s0 s1 r e * ∑ f : Fin 3584, part m c r e d f

/-- What the last point of a row block writes. -/
theorem out_apply (t : Fin cfg0.N) (h1 : t.val % 56 = 55) (i : Fin 512) (d : Fin 1024) :
    (outsAt0 m c t.val t.isLt).1 (ix2 i d)
      = normed (mixed m c s0 s1 (rowOf t i)) (fun j => argFinal m c (ix1 j)) d := by
  rw [out_last m c t h1]
  refine (pay2_apply _ _ _ i d).trans ?_
  refine congrFun (congrArg₂ normed (funext fun j => ?_) (funext fun j => gf_apply m c t j)) d
  exact congrArg₂ (· + ·) (x_apply m c t i j) (acc_experts m c s0 s1 hs hr t h1 i j)

/-- The result array. -/
theorem result_eq (G : FVec Ideal S16384x1024 .f32)
    (hG : ∀ r d, G (ix2 r d) = normed (mixed m c s0 s1 r) (fun j => argFinal m c (ix1 j)) d) :
    (dats m 0 c).arrAt 7 cfg0.N = G := by
  refine (dats m 0 c).arrAt_eq_of_covers 7 _ (by decide +kernel) fun t hf y => ?_
  blk_simp
  rw [after0_7]
  obtain ⟨i, d, rfl⟩ : ∃ (i : Fin 512) (d : Fin 1024), y = ix2 i d := ⟨y 0, y 1, eq_ix2 (n0 := 512) (n1 := 1024) y⟩
  exact (out_apply m c s0 s1 hs hr t ((flush0_7 t).mp hf) i d).trans
    ((hG _ _).symm.trans (congrArg G (emb_apply t i d).symm))

end gates

end

end Cert.KernelIdeal.Gen
-- ==== Proof.RefTopK.lean ====
/-
  The reference's top-2 of each row of eight scores, read at an index: the two values and positions are the scores and the
  positions at the first two places of the row's stable descending sort.
-/
module

public import proofs.«01_k».proof.Proof.Gen.ReferenceIdeal.Run
public import Idealize.ShloMosaic.Lib.Pointwise
public import proofs.«01_k».proof.Proof.TopTwo

@[expose] public section

set_option maxRecDepth 16384

open Idealize.ShloMosaic Idealize.ShloMosaic.TcCoe Idealize.SL.Sem Moe

namespace Cert.ReferenceIdeal.Value

noncomputable section

/-- Position `e` of row `r`. -/
theorem along_row (r : Fin 16384) (k e : Fin 8) : (ix2 r k : S16384x8.Idx).along 1 e = ix2 r e := by
  funext a
  refine Fin.cases ?_ (fun a => Fin.cases ?_ (fun a => a.elim0) a) a <;> rfl

/-- The place-to-position map of a row's stable descending sort. -/
def place (l : FVec Ideal S16384x8 .f32) (r : Fin 16384) : Fin 8 → Fin 8 :=
  sortedFrom fun a b => FloatOps.cmpfTotal (F := Ideal) .gt (l (ix2 r a)) (l (ix2 r b)) == 1#1

/-- The first two places hold the two greatest scores. -/
theorem topTwo_place (l : FVec Ideal S16384x8 .f32) (r : Fin 16384) :
    TopTwo (fun e => l (ix2 r e)) (place l r 0) (place l r 1) := by
  refine topTwo_sortedFrom (fun e => l (ix2 r e)) _ fun a b => ?_
  show (BitVec.ofBool (decide (l (ix2 r b) < l (ix2 r a))) == 1#1) = _
  cases decide (l (ix2 r b) < l (ix2 r a)) <;> rfl

theorem topK_values (l : FVec Ideal S16384x8 .f32) (h) (r : Fin 16384) (k : Fin 2) :
    (Host.topK S16384x2 1 (FloatOps.cmpfTotal (F := Ideal) .gt) l h).1 (ix2 r k)
      = l (ix2 r (place l r (k.castLE (by decide)))) := by
  unfold Host.topK
  simp only [Host.sort2_eq_sortBy]
  unfold Host.sortBy place
  pointwise
  simp only [along_row]
  rfl

theorem topK_positions (l : FVec Ideal S16384x8 .f32) (h) (r : Fin 16384) (k : Fin 2) :
    (Host.topK S16384x2 1 (FloatOps.cmpfTotal (F := Ideal) .gt) l h).2 (ix2 r k)
      = BitVec.ofNat 32 (place l r (k.castLE (by decide))).val := by
  unfold Host.topK
  simp only [Host.sort2_eq_sortBy]
  unfold Host.sortBy place
  pointwise
  simp only [along_row]
  rfl

end

end Cert.ReferenceIdeal.Value
-- ==== Proof.RefRow.lean ====
/-
  The reference's named intermediate arrays read at an index, as the layer's words of `Spec`.
-/
module

public import proofs.«01_k».proof.Proof.RefTopK
public import proofs.«01_k».proof.Proof.GateFacts
public import Idealize.ShloMosaic.Lib.Tactic.CleanTypes

@[expose] public section

set_option maxRecDepth 16384

open Idealize.ShloMosaic Idealize.ShloMosaic.TcCoe Idealize.SL.Sem Moe
open Idealize.ShloMosaic.StableHlo

namespace Cert.ReferenceIdeal.Value

open Cert.ReferenceIdeal Cert.ReferenceIdeal.Gen

noncomputable section

variable (V0 : Valuation τ sig (Elt Ideal))

/-- The layer's seven arguments. -/
def argX : FVec Ideal S16384x1024 .f32 := V0 (Proc.devRef .tc main_arg0)
def argG : FVec Ideal S1024 .f32 := V0 (Proc.devRef .tc main_arg1)
def argRouter : FVec Ideal S1024x8 .f32 := V0 (Proc.devRef .tc main_arg2)
def argGate : FVec Ideal S8x1024x3584 .f32 := V0 (Proc.devRef .tc main_arg3)
def argUp : FVec Ideal S8x1024x3584 .f32 := V0 (Proc.devRef .tc main_arg4)
def argDown : FVec Ideal S8x3584x1024 .f32 := V0 (Proc.devRef .tc main_arg5)
def argFinal : FVec Ideal S1024 .f32 := V0 (Proc.devRef .tc main_arg6)

/-- Row `r`, normed. -/
def normRow (r : Fin 16384) : Fin 1024 → EReal :=
  normed (fun j => argX V0 (ix2 r j)) (fun j => argG V0 (ix1 j))

/-- Row `r`'s scores. -/
def scores (r : Fin 16384) : Fin 8 → EReal := score (normRow V0 r) fun k e => argRouter V0 (ix2 k e)

theorem v12_at (r : Fin 16384) (k : Fin 1024) : (show FVec Ideal _ .f32 from res_main_v12 (F := Ideal) V0) (ix2 r k) = normRow V0 r k := by
  unfold res_main_v12
  clean_types
  pointwise
  rfl

theorem v13_at (r : Fin 16384) (e : Fin 8) : (show FVec Ideal _ .f32 from res_main_v13 (F := Ideal) V0) (ix2 r e) = scores V0 r e := by
  unfold res_main_v13
  clean_types
  pointwise
  exact Finset.sum_congr rfl fun k _ => congrArg (· * _) (v12_at V0 r k)

/-- The positions of row `r`'s two greatest scores. -/
def pos (r : Fin 16384) : Fin 8 → Fin 8 := place (show FVec Ideal S16384x8 .f32 from res_main_v13 (F := Ideal) V0) r

theorem topTwo_pos (r : Fin 16384) : TopTwo (scores V0 r) (pos V0 r 0) (pos V0 r 1) := by
  have h := topTwo_place (show FVec Ideal S16384x8 .f32 from res_main_v13 (F := Ideal) V0) r
  rwa [show (fun e => (show FVec Ideal S16384x8 .f32 from res_main_v13 (F := Ideal) V0) (ix2 r e)) = scores V0 r from
    funext fun e => v13_at V0 r e] at h

theorem values_at (r : Fin 16384) (k : Fin 2) :
    (show FVec Ideal _ .f32 from res_main_values (F := Ideal) V0) (ix2 r k) = scores V0 r (pos V0 r (k.castLE (by decide))) := by
  unfold res_main_values
  exact (topK_values _ _ r k).trans (v13_at V0 r _)

/-- The softmax's numerators: the shift is by the greatest score. -/
theorem v20_at (r : Fin 16384) (k : Fin 2) :
    (show FVec Ideal _ .f32 from res_main_v20 (F := Ideal) V0) (ix2 r k)
      = Ideal.exp (scores V0 r (pos V0 r (k.castLE (by decide))) - scores V0 r (pos V0 r 0)) := by
  unfold res_main_v20
  clean_types
  pointwise
  have hv : ∀ k : Fin 2, res_main_values (F := Ideal) V0 (ix2 r k) = scores V0 r (pos V0 r (k.castLE (by decide))) := values_at V0 r
  simp only [hv]
  have hmax : Finset.fold max ⊥ (fun x : Fin 2 => scores V0 r (pos V0 r (x.castLE (by decide)))) Finset.univ
      = scores V0 r (pos V0 r 0) := by
    refine (sup_eq_of_first (n := 2) (fun x : Fin 2 => scores V0 r (pos V0 r (x.castLE (by decide)))) 0 fun e he => ?_)
    obtain rfl : e = 1 := by omega
    rcases (topTwo_pos V0 r).fst _ (topTwo_pos V0 r).ne with h | h
    · exact Or.inl h
    · exact Or.inr ⟨h.1, by decide⟩
  have hb : Ideal.ofBits .f32 0xFF800000#32 = ⊥ := by simp [Ideal.ofBits, Ideal.ieee]
  rw [hb, hmax, max_eq_right bot_le]

/-- The one-hot entry of a position's word. -/
theorem oneHot (s e : Fin 8) :
    FloatOps.uitofp (F := Ideal) .f32 (IntOp.cmpi .eq (BitVec.ofNat 32 s.val) (BitVec.ofNat 32 e.val)) = if e = s then 1 else 0 := by
  have h : IntOp.cmpi .eq (BitVec.ofNat 32 s.val) (BitVec.ofNat 32 e.val) = if e = s then 1#1 else 0#1 := by
    revert s e
    decide +kernel
  rw [h]
  split <;> simp [FloatOps.uitofp]

/-- The gate: the softmax of the two greatest scores at their positions. -/
theorem v26_at (r : Fin 16384) (hr : ∀ e, IsReal (scores V0 r e)) (e : Fin 8) :
    (show FVec Ideal _ .f32 from res_main_v26 (F := Ideal) V0) (ix2 r e) = pairGate (scores V0 r) (pos V0 r 0) (pos V0 r 1) e := by
  unfold res_main_v26
  clean_types
  pointwise
  have hv : ∀ k : Fin 2, res_main_v20 (F := Ideal) V0 (ix2 r k)
      = Ideal.exp (scores V0 r (pos V0 r (k.castLE (by decide))) - scores V0 r (pos V0 r 0)) := v20_at V0 r
  have hp : ∀ k : Fin 2, (Host.topK S16384x2 1 (FloatOps.cmpfTotal (F := Ideal) .gt) (res_main_v13 (F := Ideal) V0) sliceFits_S16384x8_S16384x2).2 (ix2 r k)
      = BitVec.ofNat 32 (pos V0 r (k.castLE (by decide))).val := topK_positions _ _ r
  simp only [hv, hp, oneHot, Fin.sum_univ_two]
  have h0 : Ideal.exp (scores V0 r (pos V0 r 0) - scores V0 r (pos V0 r 0)) = 1 := by
    obtain ⟨a, ha⟩ := hr (pos V0 r 0)
    rw [ha, ← EReal.coe_sub, sub_self, Ideal.exp_coe, Real.exp_zero, EReal.coe_one]
  unfold pairGate
  have c0 : (Fin.castLE (by decide) (0 : Fin 2) : Fin 8) = 0 := rfl
  have c1 : (Fin.castLE (by decide) (1 : Fin 2) : Fin 8) = 1 := rfl
  simp only [c0, c1, h0, mul_ite, mul_one, mul_zero]

theorem v30_at (r : Fin 16384) (f : Fin 3584) : (show FVec Ideal _ .f32 from res_main_v30 (F := Ideal) V0) (ix2 r f)
    = ∑ k, normRow V0 r k * argGate V0 (ix3 0 k f) := by
  unfold res_main_v30
  clean_types
  pointwise
  exact Finset.sum_congr rfl fun k _ => congrArg (· * _) (v12_at V0 r k)

theorem v45_at (r : Fin 16384) (f : Fin 3584) : (show FVec Ideal _ .f32 from res_main_v45 (F := Ideal) V0) (ix2 r f)
    = ∑ k, normRow V0 r k * argGate V0 (ix3 1 k f) := by
  unfold res_main_v45
  clean_types
  pointwise
  exact Finset.sum_congr rfl fun k _ => congrArg (· * _) (v12_at V0 r k)

theorem v60_at (r : Fin 16384) (f : Fin 3584) : (show FVec Ideal _ .f32 from res_main_v60 (F := Ideal) V0) (ix2 r f)
    = ∑ k, normRow V0 r k * argGate V0 (ix3 2 k f) := by
  unfold res_main_v60
  clean_types
  pointwise
  exact Finset.sum_congr rfl fun k _ => congrArg (· * _) (v12_at V0 r k)

theorem v75_at (r : Fin 16384) (f : Fin 3584) : (show FVec Ideal _ .f32 from res_main_v75 (F := Ideal) V0) (ix2 r f)
    = ∑ k, normRow V0 r k * argGate V0 (ix3 3 k f) := by
  unfold res_main_v75
  clean_types
  pointwise
  exact Finset.sum_congr rfl fun k _ => congrArg (· * _) (v12_at V0 r k)

theorem v90_at (r : Fin 16384) (f : Fin 3584) : (show FVec Ideal _ .f32 from res_main_v90 (F := Ideal) V0) (ix2 r f)
    = ∑ k, normRow V0 r k * argGate V0 (ix3 4 k f) := by
  unfold res_main_v90
  clean_types
  pointwise
  exact Finset.sum_congr rfl fun k _ => congrArg (· * _) (v12_at V0 r k)

theorem v105_at (r : Fin 16384) (f : Fin 3584) : (show FVec Ideal _ .f32 from res_main_v105 (F := Ideal) V0) (ix2 r f)
    = ∑ k, normRow V0 r k * argGate V0 (ix3 5 k f) := by
  unfold res_main_v105
  clean_types
  pointwise
  exact Finset.sum_congr rfl fun k _ => congrArg (· * _) (v12_at V0 r k)

theorem v120_at (r : Fin 16384) (f : Fin 3584) : (show FVec Ideal _ .f32 from res_main_v120 (F := Ideal) V0) (ix2 r f)
    = ∑ k, normRow V0 r k * argGate V0 (ix3 6 k f) := by
  unfold res_main_v120
  clean_types
  pointwise
  exact Finset.sum_congr rfl fun k _ => congrArg (· * _) (v12_at V0 r k)

theorem v135_at (r : Fin 16384) (f : Fin 3584) : (show FVec Ideal _ .f32 from res_main_v135 (F := Ideal) V0) (ix2 r f)
    = ∑ k, normRow V0 r k * argGate V0 (ix3 7 k f) := by
  unfold res_main_v135
  clean_types
  pointwise
  exact Finset.sum_congr rfl fun k _ => congrArg (· * _) (v12_at V0 r k)

/-- The row plus its gated experts. -/
def mixed (r : Fin 16384) (d : Fin 1024) : EReal :=
  argX V0 (ix2 r d) + ∑ e : Fin 8, pairGate (scores V0 r) (pos V0 r 0) (pos V0 r 1) e
    * expert (normRow V0 r) (fun k f => argGate V0 (ix3 e k f)) (fun k f => argUp V0 (ix3 e k f)) (fun f => argDown V0 (ix3 e f d))

theorem v148_at (r : Fin 16384) (hr : ∀ e, IsReal (scores V0 r e)) (d : Fin 1024) :
    (show FVec Ideal _ .f32 from res_main_v148 (F := Ideal) V0) (ix2 r d) = mixed V0 r d := by
  unfold res_main_v148 res_main_v102
  clean_types
  pointwise
  have hg : ∀ e : Fin 8, res_main_v26 (F := Ideal) V0 (ix2 r e) = pairGate (scores V0 r) (pos V0 r 0) (pos V0 r 1) e := v26_at V0 r hr
  have hn : ∀ k : Fin 1024, res_main_v12 (F := Ideal) V0 (ix2 r k) = normRow V0 r k := v12_at V0 r
  have h0 : ∀ f : Fin 3584, res_main_v30 (F := Ideal) V0 (ix2 r f) = ∑ k, normRow V0 r k * argGate V0 (ix3 0 k f) := v30_at V0 r
  have h1 : ∀ f : Fin 3584, res_main_v45 (F := Ideal) V0 (ix2 r f) = ∑ k, normRow V0 r k * argGate V0 (ix3 1 k f) := v45_at V0 r
  have h2 : ∀ f : Fin 3584, res_main_v60 (F := Ideal) V0 (ix2 r f) = ∑ k, normRow V0 r k * argGate V0 (ix3 2 k f) := v60_at V0 r
  have h3 : ∀ f : Fin 3584, res_main_v75 (F := Ideal) V0 (ix2 r f) = ∑ k, normRow V0 r k * argGate V0 (ix3 3 k f) := v75_at V0 r
  have h4 : ∀ f : Fin 3584, res_main_v90 (F := Ideal) V0 (ix2 r f) = ∑ k, normRow V0 r k * argGate V0 (ix3 4 k f) := v90_at V0 r
  have h5 : ∀ f : Fin 3584, res_main_v105 (F := Ideal) V0 (ix2 r f) = ∑ k, normRow V0 r k * argGate V0 (ix3 5 k f) := v105_at V0 r
  have h6 : ∀ f : Fin 3584, res_main_v120 (F := Ideal) V0 (ix2 r f) = ∑ k, normRow V0 r k * argGate V0 (ix3 6 k f) := v120_at V0 r
  have h7 : ∀ f : Fin 3584, res_main_v135 (F := Ideal) V0 (ix2 r f) = ∑ k, normRow V0 r k * argGate V0 (ix3 7 k f) := v135_at V0 r
  simp only [hg, hn, h0, h1, h2, h3, h4, h5, h6, h7]
  unfold mixed
  rw [Fin.sum_univ_eight]
  rfl

/-- The reference's result: the norm of the row plus its gated experts. -/
theorem result_at (r : Fin 16384) (hr : ∀ e, IsReal (scores V0 r e)) (d : Fin 1024) :
    (show FVec Ideal S16384x1024 .f32 from val3 (F := Ideal) V0 (Proc.devRef .tc main_v161)) (ix2 r d)
      = normed (mixed V0 r) (fun j => argFinal V0 (ix1 j)) d := by
  rw [val3_main_v161]
  clean_types
  pointwise
  have h : ∀ d : Fin 1024, res_main_v148 (F := Ideal) V0 (ix2 r d) = mixed V0 r d := v148_at V0 r hr
  simp only [h]
  rfl

end

end Cert.ReferenceIdeal.Value
-- ==== Proof.Finite.lean ====
/-
  The precondition read at an index: `|a| < ∞` at every entry makes every entry a real number.
-/
module

public import proofs.«01_k».proof.Pre_finite
public import proofs.«01_k».proof.Proof.GateFacts
public import Idealize.ShloMosaic.Lib.Pointwise

@[expose] public section

open Idealize.ShloMosaic Moe

namespace Cert.Pre_finite

theorem facts : Facts where
  bcast_S_S16384x1024 := by decide
  bcast_S_S1024 := by decide
  bcast_S_S1024x8 := by decide

theorem posInf : Ideal.ofBits .f32 0x7F800000#32 = ⊤ := by simp [Ideal.ofBits, Ideal.ieee]

/-- An extended real whose absolute value is below infinity is a real number. -/
theorem isReal_of_abs {a : EReal}
    (h : BitVec.ofBool (decide (max a (-a) < Ideal.ofBits FTy.f32 0x7F800000#32)) = 1#1) : IsReal a := by
  rw [posInf] at h
  have hlt : max a (-a) < ⊤ := by
    by_contra hn
    rw [decide_eq_false hn] at h
    exact absurd h (by decide)
  induction a with
  | bot => simp at hlt
  | top => simp at hlt
  | coe r => exact ⟨r, rfl⟩

variable [Facts] (a0 : FVec Ideal S16384x1024 .f32) (a1 : FVec Ideal S1024 .f32) (a2 : FVec Ideal S1024x8 .f32)
  (a3 a4 : FVec Ideal S8x1024x3584 .f32) (a5 : FVec Ideal S8x3584x1024 .f32) (a6 : FVec Ideal S1024 .f32)

theorem isReal_x (h : (fn a0 a1 a2 a3 a4 a5 a6).1 = fun _ => 1#1) (r : Fin 16384) (k : Fin 1024) : IsReal (a0 (ix2 r k)) := by
  have e : (fn a0 a1 a2 a3 a4 a5 a6).1  (ix2 r k) = 1#1 := congrFun h _
  unfold fn at e
  simp only at e
  revert e
  pointwise
  exact isReal_of_abs

theorem isReal_g (h : (fn a0 a1 a2 a3 a4 a5 a6).2.1 = fun _ => 1#1) (k : Fin 1024) : IsReal (a1 (ix1 k)) := by
  have e : (fn a0 a1 a2 a3 a4 a5 a6).2.1  (ix1 k) = 1#1 := congrFun h _
  unfold fn at e
  simp only at e
  revert e
  pointwise
  exact isReal_of_abs

theorem isReal_router (h : (fn a0 a1 a2 a3 a4 a5 a6).2.2 = fun _ => 1#1) (k : Fin 1024) (e : Fin 8) : IsReal (a2 (ix2 k e)) := by
  have e : (fn a0 a1 a2 a3 a4 a5 a6).2.2  (ix2 k e) = 1#1 := congrFun h _
  unfold fn at e
  simp only at e
  revert e
  pointwise
  exact isReal_of_abs

end Cert.Pre_finite
-- ==== Proof.lean ====
/-
  The proof of the claims: the routed feed-forward layer with its final norm, here, and the layer's other calls, each proved in
  its own modules. The routed layer's two results are read at an index as the same words (`Spec`): the kernel's in
  `KernelValue`, the reference's in `RefRow`. The kernel's two chosen experts are the reference's (`TopTwo`), and the
  precondition makes the scores real (`Finite`).
-/
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Gen.KernelMem.Frame
public import proofs.«01_k».proof.Proof.MemValue
public import proofs.«01_k».proof.Proof.Gen.KernelFfn.Frame
public import proofs.«01_k».proof.Proof.FfnLayer
public import proofs.«01_k».proof.Proof.Gen.KernelIn.Frame
public import proofs.«01_k».proof.Proof.InLayer
public import proofs.«01_k».proof.Proof.Gen.KernelInSample.Frame
public import proofs.«01_k».proof.Proof.InSampleLayer
public import proofs.«01_k».proof.Proof.Gen.KernelPrep.Frame
public import proofs.«01_k».proof.Proof.PrepValue
public import proofs.«01_k».proof.Proof.Gen.KernelOut.Frame
public import proofs.«01_k».proof.Proof.OutValue
public import proofs.«01_k».proof.Proof.Gen.KernelCross.Frame
public import proofs.«01_k».proof.Proof.CrossValue
public import proofs.«01_k».proof.Proof.Gen.KernelSample.Frame
public import proofs.«01_k».proof.Proof.SampleLayer
public import proofs.«01_k».proof.Proof.Gen.KernelConfIn.Frame
public import proofs.«01_k».proof.Proof.ConfInValue
public import proofs.«01_k».proof.Proof.Gen.KernelQuery.Frame
public import proofs.«01_k».proof.Proof.QueryValue
public import proofs.«01_k».proof.Proof.Gen.KernelCrossOut.Frame
public import proofs.«01_k».proof.Proof.CrossOutValue
public import proofs.«01_k».proof.Proof.Gen.KernelConf.Frame
public import proofs.«01_k».proof.Proof.ConfLayer
public import proofs.«01_k».proof.Proof.Gen.KernelConfSample.Frame
public import proofs.«01_k».proof.Proof.ConfSampleLayer
public import proofs.«01_k».proof.Proof.Gen.KernelSsdSample.Frame
public import proofs.«01_k».proof.Proof.SsdSampleLayer
public import proofs.«01_k».proof.Proof.Gen.KernelSsd.Frame
public import proofs.«01_k».proof.Proof.SsdLayer
public import Idealize.ShloMosaic.Adequacy
public import Idealize.ShloMosaic.Init
public import Idealize.ShloMosaic.Lib.Quiescent
public import proofs.«01_k».proof.Proof.KernelValue
public import proofs.«01_k».proof.Proof.RefRow
public import proofs.«01_k».proof.Proof.Finite

@[expose] public section

noncomputable section

namespace Cert.Proof

open Idealize.ShloMosaic Idealize.ShloMosaic.TcCoe Idealize.SL.Sem Moe

theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

instance : Cert.Pre_finite.Facts := Cert.Pre_finite.facts

section tie

variable (m : (ℓ : Loc Cert.KernelIdeal.nD Cert.KernelIdeal.τ Cert.KernelIdeal.sig) → Buf (Elt Ideal) ℓ)
  (c : Dev Cert.KernelIdeal.nD)

/-- Under the precondition a row's scores are real. -/
theorem isReal_scores (h : Pre_KernelIdeal_finite m) (r : Fin 16384) (e : Fin 8) :
    IsReal (Cert.KernelIdeal.Gen.scores m c r e) :=
  isReal_score
    (isReal_normed (fun k => Cert.Pre_finite.isReal_x _ _ _ _ _ _ _ (h c).1 r k)
      fun k => Cert.Pre_finite.isReal_g _ _ _ _ _ _ _ (h c).2.1 k)
    (fun k e => Cert.Pre_finite.isReal_router _ _ _ _ _ _ _ (h c).2.2 k e) e

end tie

theorem algebraic_KernelIdeal_ReferenceIdeal : algebraic_KernelIdeal_ReferenceIdeal_pre_finite := by
  intro m ρ m' ρ' hpre hagree
  refine ⟨_, Cert.KernelIdeal.Value.run_blocks (F := Ideal) m ρ, ?_⟩
  refine (θ_run Cert.ReferenceIdeal.defs _ _).mono (fun _ h c => ⟨?_, (h c).2⟩) (Cert.ReferenceIdeal.Value.run (F := Ideal) m' ρ')
  refine ((h c).1.trans (Cert.ReferenceIdeal.Value.val3_main_v161 _).symm).trans (Eq.symm ?_)
  obtain ⟨e0, e1, e2, e3, e4, e5, e6⟩ := hagree c
  have a0 : Cert.ReferenceIdeal.Value.argX (StableHlo.launchContents m' c) = Cert.KernelIdeal.Gen.argX m c := e0
  have a1 : Cert.ReferenceIdeal.Value.argG (StableHlo.launchContents m' c) = Cert.KernelIdeal.Gen.argG m c := e1
  have a2 : Cert.ReferenceIdeal.Value.argRouter (StableHlo.launchContents m' c) = Cert.KernelIdeal.Gen.argRouter m c := e2
  have a3 : Cert.ReferenceIdeal.Value.argGate (StableHlo.launchContents m' c) = Cert.KernelIdeal.Gen.argGate m c := e3
  have a4 : Cert.ReferenceIdeal.Value.argUp (StableHlo.launchContents m' c) = Cert.KernelIdeal.Gen.argUp m c := e4
  have a5 : Cert.ReferenceIdeal.Value.argDown (StableHlo.launchContents m' c) = Cert.KernelIdeal.Gen.argDown m c := e5
  have a6 : Cert.ReferenceIdeal.Value.argFinal (StableHlo.launchContents m' c) = Cert.KernelIdeal.Gen.argFinal m c := e6
  have hn : Cert.ReferenceIdeal.Value.normRow (StableHlo.launchContents m' c) = Cert.KernelIdeal.Gen.normRow m c := by
    unfold Cert.ReferenceIdeal.Value.normRow Cert.KernelIdeal.Gen.normRow
    rw [a0, a1]
  have hsc : Cert.ReferenceIdeal.Value.scores (StableHlo.launchContents m' c) = Cert.KernelIdeal.Gen.scores m c := by
    unfold Cert.ReferenceIdeal.Value.scores Cert.KernelIdeal.Gen.scores
    rw [hn, a2]
  have hr := isReal_scores m c hpre
  refine Cert.KernelIdeal.Gen.result_eq m c
    (fun r => Cert.ReferenceIdeal.Value.pos (StableHlo.launchContents m' c) r 0)
    (fun r => Cert.ReferenceIdeal.Value.pos (StableHlo.launchContents m' c) r 1)
    (fun r => hsc ▸ Cert.ReferenceIdeal.Value.topTwo_pos (StableHlo.launchContents m' c) r) hr _ fun r d => ?_
  refine (Cert.ReferenceIdeal.Value.result_at (StableHlo.launchContents m' c) r (fun e => hsc ▸ hr r e) d).trans ?_
  rw [a6]
  refine congrFun (congrArg (normed · _) (funext fun d => ?_)) d
  unfold Cert.ReferenceIdeal.Value.mixed Cert.KernelIdeal.Gen.mixed Cert.KernelIdeal.Gen.gateOf Cert.KernelIdeal.Gen.part expert
  rw [a0, a3, a4, a5, hn, hsc]

theorem claim : Cert.Claim := ⟨
  Cert.Kernel.Gen.facts, Cert.KernelIdeal.Gen.facts, Cert.ReferenceIdeal.Gen.facts, Cert.KernelMem.Gen.facts,
  Cert.KernelMemIdeal.Gen.facts, Cert.ReferenceMemIdeal.Gen.facts, Cert.KernelFfn.Gen.facts, Cert.KernelFfnIdeal.Gen.facts,
  Cert.ReferenceFfnIdeal.Gen.facts, Cert.KernelIn.Gen.facts, Cert.KernelInIdeal.Gen.facts, Cert.ReferenceInIdeal.Gen.facts,
  Cert.KernelInSample.Gen.facts, Cert.KernelInSampleIdeal.Gen.facts, Cert.ReferenceInSampleIdeal.Gen.facts,
  Cert.KernelPrep.Gen.facts, Cert.KernelPrepIdeal.Gen.facts, Cert.ReferencePrepIdeal.Gen.facts, Cert.KernelOut.Gen.facts,
  Cert.KernelOutIdeal.Gen.facts, Cert.ReferenceOutIdeal.Gen.facts, Cert.KernelCross.Gen.facts,
  Cert.KernelCrossIdeal.Gen.facts, Cert.ReferenceCrossIdeal.Gen.facts, Cert.KernelSample.Gen.facts,
  Cert.KernelSampleIdeal.Gen.facts, Cert.ReferenceSampleIdeal.Gen.facts, Cert.KernelConfIn.Gen.facts,
  Cert.KernelConfInIdeal.Gen.facts, Cert.ReferenceConfInIdeal.Gen.facts, Cert.KernelQuery.Gen.facts,
  Cert.KernelQueryIdeal.Gen.facts, Cert.ReferenceQueryIdeal.Gen.facts, Cert.KernelCrossOut.Gen.facts,
  Cert.KernelCrossOutIdeal.Gen.facts, Cert.ReferenceCrossOutIdeal.Gen.facts, Cert.KernelConf.Gen.facts,
  Cert.KernelConfIdeal.Gen.facts, Cert.ReferenceConfIdeal.Gen.facts, Cert.KernelConfSample.Gen.facts,
  Cert.KernelConfSampleIdeal.Gen.facts, Cert.ReferenceConfSampleIdeal.Gen.facts, Cert.KernelSsdSample.Gen.facts,
  Cert.KernelSsdSampleIdeal.Gen.facts, Cert.ReferenceSsdSampleIdeal.Gen.facts, Cert.KernelSsd.Gen.facts,
  Cert.KernelSsdIdeal.Gen.facts, Cert.ReferenceSsdIdeal.Gen.facts, Cert.Pre_finite.facts, Cert.Pre_finite_sample.facts,
  fun m ρ _ => Cert.Kernel.Gen.frame m ρ, fun m ρ _ => Cert.KernelIdeal.Gen.frame m ρ,
  fun m ρ _ => Cert.KernelIdeal.Gen.frame m ρ, quiescent_ReferenceIdeal, fun m ρ _ => quiescent_ReferenceIdeal m ρ trivial,
  fun m ρ _ => Cert.KernelMem.Gen.frame m ρ, fun m ρ _ => Cert.KernelMemIdeal.Gen.frame m ρ, quiescent_ReferenceMemIdeal,
  fun m ρ _ => Cert.KernelFfn.Gen.frame m ρ, fun m ρ _ => Cert.KernelFfnIdeal.Gen.frame m ρ, quiescent_ReferenceFfnIdeal,
  fun m ρ _ => Cert.KernelIn.Gen.frame m ρ, fun m ρ _ => Cert.KernelInIdeal.Gen.frame m ρ, quiescent_ReferenceInIdeal,
  fun m ρ _ => Cert.KernelInSample.Gen.frame m ρ, fun m ρ _ => Cert.KernelInSampleIdeal.Gen.frame m ρ,
  quiescent_ReferenceInSampleIdeal, fun m ρ _ => Cert.KernelPrep.Gen.frame m ρ,
  fun m ρ _ => Cert.KernelPrepIdeal.Gen.frame m ρ, quiescent_ReferencePrepIdeal, fun m ρ _ => Cert.KernelOut.Gen.frame m ρ,
  fun m ρ _ => Cert.KernelOutIdeal.Gen.frame m ρ, quiescent_ReferenceOutIdeal, fun m ρ _ => Cert.KernelCross.Gen.frame m ρ,
  fun m ρ _ => Cert.KernelCrossIdeal.Gen.frame m ρ, quiescent_ReferenceCrossIdeal,
  fun m ρ _ => Cert.KernelSample.Gen.frame m ρ, fun m ρ _ => Cert.KernelSampleIdeal.Gen.frame m ρ,
  fun m ρ _ => Cert.KernelSampleIdeal.Gen.frame m ρ, quiescent_ReferenceSampleIdeal,
  fun m ρ _ => quiescent_ReferenceSampleIdeal m ρ trivial, fun m ρ _ => Cert.KernelConfIn.Gen.frame m ρ,
  fun m ρ _ => Cert.KernelConfInIdeal.Gen.frame m ρ, quiescent_ReferenceConfInIdeal,
  fun m ρ _ => Cert.KernelQuery.Gen.frame m ρ, fun m ρ _ => Cert.KernelQueryIdeal.Gen.frame m ρ,
  quiescent_ReferenceQueryIdeal, fun m ρ _ => Cert.KernelCrossOut.Gen.frame m ρ,
  fun m ρ _ => Cert.KernelCrossOutIdeal.Gen.frame m ρ, quiescent_ReferenceCrossOutIdeal,
  fun m ρ _ => Cert.KernelConf.Gen.frame m ρ, fun m ρ _ => Cert.KernelConfIdeal.Gen.frame m ρ, quiescent_ReferenceConfIdeal,
  fun m ρ _ => Cert.KernelConfSample.Gen.frame m ρ, fun m ρ _ => Cert.KernelConfSampleIdeal.Gen.frame m ρ,
  quiescent_ReferenceConfSampleIdeal, fun m ρ _ => Cert.KernelSsdSample.Gen.frame m ρ,
  fun m ρ _ => Cert.KernelSsdSampleIdeal.Gen.frame m ρ, quiescent_ReferenceSsdSampleIdeal,
  fun m ρ _ => Cert.KernelSsd.Gen.frame m ρ, fun m ρ _ => Cert.KernelSsdIdeal.Gen.frame m ρ, quiescent_ReferenceSsdIdeal,
  (trivial : preserves_Kernel_KernelIdeal), algebraic_KernelIdeal_ReferenceIdeal,
  (trivial : preserves_KernelMem_KernelMemIdeal), algebraic_KernelMemIdeal_ReferenceMemIdeal,
  (trivial : preserves_KernelFfn_KernelFfnIdeal), algebraic_KernelFfnIdeal_ReferenceFfnIdeal,
  (trivial : preserves_KernelIn_KernelInIdeal), algebraic_KernelInIdeal_ReferenceInIdeal,
  (trivial : preserves_KernelInSample_KernelInSampleIdeal), algebraic_KernelInSampleIdeal_ReferenceInSampleIdeal,
  (trivial : preserves_KernelPrep_KernelPrepIdeal), algebraic_KernelPrepIdeal_ReferencePrepIdeal,
  (trivial : preserves_KernelOut_KernelOutIdeal), algebraic_KernelOutIdeal_ReferenceOutIdeal,
  (trivial : preserves_KernelCross_KernelCrossIdeal), algebraic_KernelCrossIdeal_ReferenceCrossIdeal,
  (trivial : preserves_KernelSample_KernelSampleIdeal), algebraic_KernelSampleIdeal_ReferenceSampleIdeal,
  (trivial : preserves_KernelConfIn_KernelConfInIdeal), algebraic_KernelConfInIdeal_ReferenceConfInIdeal,
  (trivial : preserves_KernelQuery_KernelQueryIdeal), algebraic_KernelQueryIdeal_ReferenceQueryIdeal,
  (trivial : preserves_KernelCrossOut_KernelCrossOutIdeal), algebraic_KernelCrossOutIdeal_ReferenceCrossOutIdeal,
  (trivial : preserves_KernelConf_KernelConfIdeal), algebraic_KernelConfIdeal_ReferenceConfIdeal,
  (trivial : preserves_KernelConfSample_KernelConfSampleIdeal), algebraic_KernelConfSampleIdeal_ReferenceConfSampleIdeal,
  (trivial : preserves_KernelSsdSample_KernelSsdSampleIdeal), algebraic_KernelSsdSampleIdeal_ReferenceSsdSampleIdeal,
  (trivial : preserves_KernelSsd_KernelSsdIdeal), algebraic_KernelSsdIdeal_ReferenceSsdIdeal⟩

end Cert.Proof

end
